-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_InprojBwd (m : (ℓ : Loc Cert.InprojBwd.nD Cert.InprojBwd.τ Cert.InprojBwd.sig) → Buf (Elt Bits) ℓ) : Prop :=
  True

def Pre_InprojBwdIdeal (m : (ℓ : Loc Cert.InprojBwdIdeal.nD Cert.InprojBwdIdeal.τ Cert.InprojBwdIdeal.sig) → Buf (Elt Ideal) ℓ) : Prop :=
  True

def Pre_InprojBwdReferenceIdeal (m : (ℓ : Loc Cert.InprojBwdReferenceIdeal.nD Cert.InprojBwdReferenceIdeal.τ Cert.InprojBwdReferenceIdeal.sig) → Buf (Elt Ideal) ℓ) : Prop :=
  True

def Pre_ProjABwd (m : (ℓ : Loc Cert.ProjABwd.nD Cert.ProjABwd.τ Cert.ProjABwd.sig) → Buf (Elt Bits) ℓ) : Prop :=
  True

def Pre_ProjABwdIdeal (m : (ℓ : Loc Cert.ProjABwdIdeal.nD Cert.ProjABwdIdeal.τ Cert.ProjABwdIdeal.sig) → Buf (Elt Ideal) ℓ) : Prop :=
  True

def Pre_ProjABwdReferenceIdeal (m : (ℓ : Loc Cert.ProjABwdReferenceIdeal.nD Cert.ProjABwdReferenceIdeal.τ Cert.ProjABwdReferenceIdeal.sig) → Buf (Elt Ideal) ℓ) : Prop :=
  True

def Pre_ProjBBwd (m : (ℓ : Loc Cert.ProjBBwd.nD Cert.ProjBBwd.τ Cert.ProjBBwd.sig) → Buf (Elt Bits) ℓ) : Prop :=
  True

def Pre_ProjBBwdIdeal (m : (ℓ : Loc Cert.ProjBBwdIdeal.nD Cert.ProjBBwdIdeal.τ Cert.ProjBBwdIdeal.sig) → Buf (Elt Ideal) ℓ) : Prop :=
  True

def Pre_ProjBBwdReferenceIdeal (m : (ℓ : Loc Cert.ProjBBwdReferenceIdeal.nD Cert.ProjBBwdReferenceIdeal.τ Cert.ProjBBwdReferenceIdeal.sig) → Buf (Elt Ideal) ℓ) : Prop :=
  True

def Pre_ProjCBwd (m : (ℓ : Loc Cert.ProjCBwd.nD Cert.ProjCBwd.τ Cert.ProjCBwd.sig) → Buf (Elt Bits) ℓ) : Prop :=
  True

def Pre_ProjCBwdIdeal (m : (ℓ : Loc Cert.ProjCBwdIdeal.nD Cert.ProjCBwdIdeal.τ Cert.ProjCBwdIdeal.sig) → Buf (Elt Ideal) ℓ) : Prop :=
  True

def Pre_ProjCBwdIdeal_finite_gate [hPre_finite_gate : Cert.Pre_finite_gate.Facts] (m : (ℓ : Loc Cert.ProjCBwdIdeal.nD Cert.ProjCBwdIdeal.τ Cert.ProjCBwdIdeal.sig) → Buf (Elt Ideal) ℓ) : Prop :=
  ∀ c : Dev Cert.ProjCBwdIdeal.nD,
    (Cert.Pre_finite_gate.fn (F := Ideal) (m ((c.tc : Thread Cert.ProjCBwdIdeal.nD Cert.ProjCBwdIdeal.τ).loc Cert.ProjCBwdIdeal.main_arg0)) (m ((c.tc : Thread Cert.ProjCBwdIdeal.nD Cert.ProjCBwdIdeal.τ).loc Cert.ProjCBwdIdeal.main_arg1)) (m ((c.tc : Thread Cert.ProjCBwdIdeal.nD Cert.ProjCBwdIdeal.τ).loc Cert.ProjCBwdIdeal.main_arg2)) (m ((c.tc : Thread Cert.ProjCBwdIdeal.nD Cert.ProjCBwdIdeal.τ).loc Cert.ProjCBwdIdeal.main_arg3)) (m ((c.tc : Thread Cert.ProjCBwdIdeal.nD Cert.ProjCBwdIdeal.τ).loc Cert.ProjCBwdIdeal.main_arg4)) (m ((c.tc : Thread Cert.ProjCBwdIdeal.nD Cert.ProjCBwdIdeal.τ).loc Cert.ProjCBwdIdeal.main_arg5))) = (fun _ => 1#1)

def Pre_ProjCBwdReferenceIdeal (m : (ℓ : Loc Cert.ProjCBwdReferenceIdeal.nD Cert.ProjCBwdReferenceIdeal.τ Cert.ProjCBwdReferenceIdeal.sig) → Buf (Elt Ideal) ℓ) : Prop :=
  True

def Pre_ProjCBwdReferenceIdeal_finite_gate [hPre_finite_gate : Cert.Pre_finite_gate.Facts] (m : (ℓ : Loc Cert.ProjCBwdReferenceIdeal.nD Cert.ProjCBwdReferenceIdeal.τ Cert.ProjCBwdReferenceIdeal.sig) → Buf (Elt Ideal) ℓ) : Prop :=
  ∀ c : Dev Cert.ProjCBwdReferenceIdeal.nD,
    (Cert.Pre_finite_gate.fn (F := Ideal) (m ((c.tc : Thread Cert.ProjCBwdReferenceIdeal.nD Cert.ProjCBwdReferenceIdeal.τ).loc Cert.ProjCBwdReferenceIdeal.main_arg0)) (m ((c.tc : Thread Cert.ProjCBwdReferenceIdeal.nD Cert.ProjCBwdReferenceIdeal.τ).loc Cert.ProjCBwdReferenceIdeal.main_arg1)) (m ((c.tc : Thread Cert.ProjCBwdReferenceIdeal.nD Cert.ProjCBwdReferenceIdeal.τ).loc Cert.ProjCBwdReferenceIdeal.main_arg2)) (m ((c.tc : Thread Cert.ProjCBwdReferenceIdeal.nD Cert.ProjCBwdReferenceIdeal.τ).loc Cert.ProjCBwdReferenceIdeal.main_arg3)) (m ((c.tc : Thread Cert.ProjCBwdReferenceIdeal.nD Cert.ProjCBwdReferenceIdeal.τ).loc Cert.ProjCBwdReferenceIdeal.main_arg4)) (m ((c.tc : Thread Cert.ProjCBwdReferenceIdeal.nD Cert.ProjCBwdReferenceIdeal.τ).loc Cert.ProjCBwdReferenceIdeal.main_arg5))) = (fun _ => 1#1)

def Pre_InprojFwd (m : (ℓ : Loc Cert.InprojFwd.nD Cert.InprojFwd.τ Cert.InprojFwd.sig) → Buf (Elt Bits) ℓ) : Prop :=
  True

def Pre_InprojFwdIdeal (m : (ℓ : Loc Cert.InprojFwdIdeal.nD Cert.InprojFwdIdeal.τ Cert.InprojFwdIdeal.sig) → Buf (Elt Ideal) ℓ) : Prop :=
  True

def Pre_InprojFwdReferenceIdeal (m : (ℓ : Loc Cert.InprojFwdReferenceIdeal.nD Cert.InprojFwdReferenceIdeal.τ Cert.InprojFwdReferenceIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_forward [hPre_finite_forward : Cert.Pre_finite_forward.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_forward.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))) = (fun _ => 1#1)

def Pre_AttnFwdReferenceIdeal (m : (ℓ : Loc Cert.AttnFwdReferenceIdeal.nD Cert.AttnFwdReferenceIdeal.τ Cert.AttnFwdReferenceIdeal.sig) → Buf (Elt Ideal) ℓ) : Prop :=
  True

def Pre_AttnFwdReferenceIdeal_finite_forward [hPre_finite_forward : Cert.Pre_finite_forward.Facts] (m : (ℓ : Loc Cert.AttnFwdReferenceIdeal.nD Cert.AttnFwdReferenceIdeal.τ Cert.AttnFwdReferenceIdeal.sig) → Buf (Elt Ideal) ℓ) : Prop :=
  ∀ c : Dev Cert.AttnFwdReferenceIdeal.nD,
    (Cert.Pre_finite_forward.fn (F := Ideal) (m ((c.tc : Thread Cert.AttnFwdReferenceIdeal.nD Cert.AttnFwdReferenceIdeal.τ).loc Cert.AttnFwdReferenceIdeal.main_arg0)) (m ((c.tc : Thread Cert.AttnFwdReferenceIdeal.nD Cert.AttnFwdReferenceIdeal.τ).loc Cert.AttnFwdReferenceIdeal.main_arg1)) (m ((c.tc : Thread Cert.AttnFwdReferenceIdeal.nD Cert.AttnFwdReferenceIdeal.τ).loc Cert.AttnFwdReferenceIdeal.main_arg2)) (m ((c.tc : Thread Cert.AttnFwdReferenceIdeal.nD Cert.AttnFwdReferenceIdeal.τ).loc Cert.AttnFwdReferenceIdeal.main_arg3))) = (fun _ => 1#1)

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdReferenceIdeal (m : (ℓ : Loc Cert.OutFwdReferenceIdeal.nD Cert.OutFwdReferenceIdeal.τ Cert.OutFwdReferenceIdeal.sig) → Buf (Elt Ideal) ℓ) : Prop :=
  True

def Pre_QkvFwd (m : (ℓ : Loc Cert.QkvFwd.nD Cert.QkvFwd.τ Cert.QkvFwd.sig) → Buf (Elt Bits) ℓ) : Prop :=
  True

def Pre_QkvFwdIdeal (m : (ℓ : Loc Cert.QkvFwdIdeal.nD Cert.QkvFwdIdeal.τ Cert.QkvFwdIdeal.sig) → Buf (Elt Ideal) ℓ) : Prop :=
  True

def Pre_QkvFwdReferenceIdeal (m : (ℓ : Loc Cert.QkvFwdReferenceIdeal.nD Cert.QkvFwdReferenceIdeal.τ Cert.QkvFwdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_InprojBwd [hInprojBwd : Cert.InprojBwd.Facts] : Prop :=
  ∀ (m : (ℓ : Loc Cert.InprojBwd.nD Cert.InprojBwd.τ Cert.InprojBwd.sig) → Buf (Elt Bits) ℓ) (g : Dev Cert.InprojBwd.nD → PrngReg), Pre_InprojBwd m →
    θ_run (Cert.InprojBwd.defs (F := Bits)) (onTc (τ := Cert.InprojBwd.τ) (Cert.InprojBwd.main (F := Bits))) ⟨m, fun _ => 0, g⟩ (fun r => (∀ c : Dev Cert.InprojBwd.nD,
      r.2.mem ((c.tc : Thread Cert.InprojBwd.nD Cert.InprojBwd.τ).loc Cert.InprojBwd.main_arg0) = m ((c.tc : Thread Cert.InprojBwd.nD Cert.InprojBwd.τ).loc Cert.InprojBwd.main_arg0)
      ∧ r.2.mem ((c.tc : Thread Cert.InprojBwd.nD Cert.InprojBwd.τ).loc Cert.InprojBwd.main_arg1) = m ((c.tc : Thread Cert.InprojBwd.nD Cert.InprojBwd.τ).loc Cert.InprojBwd.main_arg1)
      ∧ r.2.mem ((c.tc : Thread Cert.InprojBwd.nD Cert.InprojBwd.τ).loc Cert.InprojBwd.main_arg2) = m ((c.tc : Thread Cert.InprojBwd.nD Cert.InprojBwd.τ).loc Cert.InprojBwd.main_arg2))
      ∧ r.2.sem = fun _ => 0)

def quiescent_InprojBwdIdeal [hInprojBwdIdeal : Cert.InprojBwdIdeal.Facts] : Prop :=
  ∀ (m : (ℓ : Loc Cert.InprojBwdIdeal.nD Cert.InprojBwdIdeal.τ Cert.InprojBwdIdeal.sig) → Buf (Elt Ideal) ℓ) (g : Dev Cert.InprojBwdIdeal.nD → PrngReg), Pre_InprojBwdIdeal m →
    θ_run (Cert.InprojBwdIdeal.defs (F := Ideal)) (onTc (τ := Cert.InprojBwdIdeal.τ) (Cert.InprojBwdIdeal.main (F := Ideal))) ⟨m, fun _ => 0, g⟩ (fun r => (∀ c : Dev Cert.InprojBwdIdeal.nD,
      r.2.mem ((c.tc : Thread Cert.InprojBwdIdeal.nD Cert.InprojBwdIdeal.τ).loc Cert.InprojBwdIdeal.main_arg0) = m ((c.tc : Thread Cert.InprojBwdIdeal.nD Cert.InprojBwdIdeal.τ).loc Cert.InprojBwdIdeal.main_arg0)
      ∧ r.2.mem ((c.tc : Thread Cert.InprojBwdIdeal.nD Cert.InprojBwdIdeal.τ).loc Cert.InprojBwdIdeal.main_arg1) = m ((c.tc : Thread Cert.InprojBwdIdeal.nD Cert.InprojBwdIdeal.τ).loc Cert.InprojBwdIdeal.main_arg1)
      ∧ r.2.mem ((c.tc : Thread Cert.InprojBwdIdeal.nD Cert.InprojBwdIdeal.τ).loc Cert.InprojBwdIdeal.main_arg2) = m ((c.tc : Thread Cert.InprojBwdIdeal.nD Cert.InprojBwdIdeal.τ).loc Cert.InprojBwdIdeal.main_arg2))
      ∧ r.2.sem = fun _ => 0)

def quiescent_InprojBwdReferenceIdeal [hInprojBwdReferenceIdeal : Cert.InprojBwdReferenceIdeal.Facts] : Prop :=
  ∀ (m : (ℓ : Loc Cert.InprojBwdReferenceIdeal.nD Cert.InprojBwdReferenceIdeal.τ Cert.InprojBwdReferenceIdeal.sig) → Buf (Elt Ideal) ℓ) (g : Dev Cert.InprojBwdReferenceIdeal.nD → PrngReg), Pre_InprojBwdReferenceIdeal m →
    θ_run (Cert.InprojBwdReferenceIdeal.defs (F := Ideal)) (onTc (τ := Cert.InprojBwdReferenceIdeal.τ) (Cert.InprojBwdReferenceIdeal.main (F := Ideal))) ⟨m, fun _ => 0, g⟩ (fun r => (∀ c : Dev Cert.InprojBwdReferenceIdeal.nD,
      r.2.mem ((c.tc : Thread Cert.InprojBwdReferenceIdeal.nD Cert.InprojBwdReferenceIdeal.τ).loc Cert.InprojBwdReferenceIdeal.main_arg0) = m ((c.tc : Thread Cert.InprojBwdReferenceIdeal.nD Cert.InprojBwdReferenceIdeal.τ).loc Cert.InprojBwdReferenceIdeal.main_arg0)
      ∧ r.2.mem ((c.tc : Thread Cert.InprojBwdReferenceIdeal.nD Cert.InprojBwdReferenceIdeal.τ).loc Cert.InprojBwdReferenceIdeal.main_arg1) = m ((c.tc : Thread Cert.InprojBwdReferenceIdeal.nD Cert.InprojBwdReferenceIdeal.τ).loc Cert.InprojBwdReferenceIdeal.main_arg1)
      ∧ r.2.mem ((c.tc : Thread Cert.InprojBwdReferenceIdeal.nD Cert.InprojBwdReferenceIdeal.τ).loc Cert.InprojBwdReferenceIdeal.main_arg2) = m ((c.tc : Thread Cert.InprojBwdReferenceIdeal.nD Cert.InprojBwdReferenceIdeal.τ).loc Cert.InprojBwdReferenceIdeal.main_arg2))
      ∧ r.2.sem = fun _ => 0)

def quiescent_ProjABwd [hProjABwd : Cert.ProjABwd.Facts] : Prop :=
  ∀ (m : (ℓ : Loc Cert.ProjABwd.nD Cert.ProjABwd.τ Cert.ProjABwd.sig) → Buf (Elt Bits) ℓ) (g : Dev Cert.ProjABwd.nD → PrngReg), Pre_ProjABwd m →
    θ_run (Cert.ProjABwd.defs (F := Bits)) (onTc (τ := Cert.ProjABwd.τ) (Cert.ProjABwd.main (F := Bits))) ⟨m, fun _ => 0, g⟩ (fun r => (∀ c : Dev Cert.ProjABwd.nD,
      r.2.mem ((c.tc : Thread Cert.ProjABwd.nD Cert.ProjABwd.τ).loc Cert.ProjABwd.main_arg0) = m ((c.tc : Thread Cert.ProjABwd.nD Cert.ProjABwd.τ).loc Cert.ProjABwd.main_arg0)
      ∧ r.2.mem ((c.tc : Thread Cert.ProjABwd.nD Cert.ProjABwd.τ).loc Cert.ProjABwd.main_arg1) = m ((c.tc : Thread Cert.ProjABwd.nD Cert.ProjABwd.τ).loc Cert.ProjABwd.main_arg1)
      ∧ r.2.mem ((c.tc : Thread Cert.ProjABwd.nD Cert.ProjABwd.τ).loc Cert.ProjABwd.main_arg2) = m ((c.tc : Thread Cert.ProjABwd.nD Cert.ProjABwd.τ).loc Cert.ProjABwd.main_arg2)
      ∧ r.2.mem ((c.tc : Thread Cert.ProjABwd.nD Cert.ProjABwd.τ).loc Cert.ProjABwd.main_arg3) = m ((c.tc : Thread Cert.ProjABwd.nD Cert.ProjABwd.τ).loc Cert.ProjABwd.main_arg3))
      ∧ r.2.sem = fun _ => 0)

def quiescent_ProjABwdIdeal [hProjABwdIdeal : Cert.ProjABwdIdeal.Facts] : Prop :=
  ∀ (m : (ℓ : Loc Cert.ProjABwdIdeal.nD Cert.ProjABwdIdeal.τ Cert.ProjABwdIdeal.sig) → Buf (Elt Ideal) ℓ) (g : Dev Cert.ProjABwdIdeal.nD → PrngReg), Pre_ProjABwdIdeal m →
    θ_run (Cert.ProjABwdIdeal.defs (F := Ideal)) (onTc (τ := Cert.ProjABwdIdeal.τ) (Cert.ProjABwdIdeal.main (F := Ideal))) ⟨m, fun _ => 0, g⟩ (fun r => (∀ c : Dev Cert.ProjABwdIdeal.nD,
      r.2.mem ((c.tc : Thread Cert.ProjABwdIdeal.nD Cert.ProjABwdIdeal.τ).loc Cert.ProjABwdIdeal.main_arg0) = m ((c.tc : Thread Cert.ProjABwdIdeal.nD Cert.ProjABwdIdeal.τ).loc Cert.ProjABwdIdeal.main_arg0)
      ∧ r.2.mem ((c.tc : Thread Cert.ProjABwdIdeal.nD Cert.ProjABwdIdeal.τ).loc Cert.ProjABwdIdeal.main_arg1) = m ((c.tc : Thread Cert.ProjABwdIdeal.nD Cert.ProjABwdIdeal.τ).loc Cert.ProjABwdIdeal.main_arg1)
      ∧ r.2.mem ((c.tc : Thread Cert.ProjABwdIdeal.nD Cert.ProjABwdIdeal.τ).loc Cert.ProjABwdIdeal.main_arg2) = m ((c.tc : Thread Cert.ProjABwdIdeal.nD Cert.ProjABwdIdeal.τ).loc Cert.ProjABwdIdeal.main_arg2)
      ∧ r.2.mem ((c.tc : Thread Cert.ProjABwdIdeal.nD Cert.ProjABwdIdeal.τ).loc Cert.ProjABwdIdeal.main_arg3) = m ((c.tc : Thread Cert.ProjABwdIdeal.nD Cert.ProjABwdIdeal.τ).loc Cert.ProjABwdIdeal.main_arg3))
      ∧ r.2.sem = fun _ => 0)

def quiescent_ProjABwdReferenceIdeal [hProjABwdReferenceIdeal : Cert.ProjABwdReferenceIdeal.Facts] : Prop :=
  ∀ (m : (ℓ : Loc Cert.ProjABwdReferenceIdeal.nD Cert.ProjABwdReferenceIdeal.τ Cert.ProjABwdReferenceIdeal.sig) → Buf (Elt Ideal) ℓ) (g : Dev Cert.ProjABwdReferenceIdeal.nD → PrngReg), Pre_ProjABwdReferenceIdeal m →
    θ_run (Cert.ProjABwdReferenceIdeal.defs (F := Ideal)) (onTc (τ := Cert.ProjABwdReferenceIdeal.τ) (Cert.ProjABwdReferenceIdeal.main (F := Ideal))) ⟨m, fun _ => 0, g⟩ (fun r => (∀ c : Dev Cert.ProjABwdReferenceIdeal.nD,
      r.2.mem ((c.tc : Thread Cert.ProjABwdReferenceIdeal.nD Cert.ProjABwdReferenceIdeal.τ).loc Cert.ProjABwdReferenceIdeal.main_arg0) = m ((c.tc : Thread Cert.ProjABwdReferenceIdeal.nD Cert.ProjABwdReferenceIdeal.τ).loc Cert.ProjABwdReferenceIdeal.main_arg0)
      ∧ r.2.mem ((c.tc : Thread Cert.ProjABwdReferenceIdeal.nD Cert.ProjABwdReferenceIdeal.τ).loc Cert.ProjABwdReferenceIdeal.main_arg1) = m ((c.tc : Thread Cert.ProjABwdReferenceIdeal.nD Cert.ProjABwdReferenceIdeal.τ).loc Cert.ProjABwdReferenceIdeal.main_arg1)
      ∧ r.2.mem ((c.tc : Thread Cert.ProjABwdReferenceIdeal.nD Cert.ProjABwdReferenceIdeal.τ).loc Cert.ProjABwdReferenceIdeal.main_arg2) = m ((c.tc : Thread Cert.ProjABwdReferenceIdeal.nD Cert.ProjABwdReferenceIdeal.τ).loc Cert.ProjABwdReferenceIdeal.main_arg2)
      ∧ r.2.mem ((c.tc : Thread Cert.ProjABwdReferenceIdeal.nD Cert.ProjABwdReferenceIdeal.τ).loc Cert.ProjABwdReferenceIdeal.main_arg3) = m ((c.tc : Thread Cert.ProjABwdReferenceIdeal.nD Cert.ProjABwdReferenceIdeal.τ).loc Cert.ProjABwdReferenceIdeal.main_arg3))
      ∧ r.2.sem = fun _ => 0)

def quiescent_ProjBBwd [hProjBBwd : Cert.ProjBBwd.Facts] : Prop :=
  ∀ (m : (ℓ : Loc Cert.ProjBBwd.nD Cert.ProjBBwd.τ Cert.ProjBBwd.sig) → Buf (Elt Bits) ℓ) (g : Dev Cert.ProjBBwd.nD → PrngReg), Pre_ProjBBwd m →
    θ_run (Cert.ProjBBwd.defs (F := Bits)) (onTc (τ := Cert.ProjBBwd.τ) (Cert.ProjBBwd.main (F := Bits))) ⟨m, fun _ => 0, g⟩ (fun r => (∀ c : Dev Cert.ProjBBwd.nD,
      r.2.mem ((c.tc : Thread Cert.ProjBBwd.nD Cert.ProjBBwd.τ).loc Cert.ProjBBwd.main_arg0) = m ((c.tc : Thread Cert.ProjBBwd.nD Cert.ProjBBwd.τ).loc Cert.ProjBBwd.main_arg0)
      ∧ r.2.mem ((c.tc : Thread Cert.ProjBBwd.nD Cert.ProjBBwd.τ).loc Cert.ProjBBwd.main_arg1) = m ((c.tc : Thread Cert.ProjBBwd.nD Cert.ProjBBwd.τ).loc Cert.ProjBBwd.main_arg1)
      ∧ r.2.mem ((c.tc : Thread Cert.ProjBBwd.nD Cert.ProjBBwd.τ).loc Cert.ProjBBwd.main_arg2) = m ((c.tc : Thread Cert.ProjBBwd.nD Cert.ProjBBwd.τ).loc Cert.ProjBBwd.main_arg2))
      ∧ r.2.sem = fun _ => 0)

def quiescent_ProjBBwdIdeal [hProjBBwdIdeal : Cert.ProjBBwdIdeal.Facts] : Prop :=
  ∀ (m : (ℓ : Loc Cert.ProjBBwdIdeal.nD Cert.ProjBBwdIdeal.τ Cert.ProjBBwdIdeal.sig) → Buf (Elt Ideal) ℓ) (g : Dev Cert.ProjBBwdIdeal.nD → PrngReg), Pre_ProjBBwdIdeal m →
    θ_run (Cert.ProjBBwdIdeal.defs (F := Ideal)) (onTc (τ := Cert.ProjBBwdIdeal.τ) (Cert.ProjBBwdIdeal.main (F := Ideal))) ⟨m, fun _ => 0, g⟩ (fun r => (∀ c : Dev Cert.ProjBBwdIdeal.nD,
      r.2.mem ((c.tc : Thread Cert.ProjBBwdIdeal.nD Cert.ProjBBwdIdeal.τ).loc Cert.ProjBBwdIdeal.main_arg0) = m ((c.tc : Thread Cert.ProjBBwdIdeal.nD Cert.ProjBBwdIdeal.τ).loc Cert.ProjBBwdIdeal.main_arg0)
      ∧ r.2.mem ((c.tc : Thread Cert.ProjBBwdIdeal.nD Cert.ProjBBwdIdeal.τ).loc Cert.ProjBBwdIdeal.main_arg1) = m ((c.tc : Thread Cert.ProjBBwdIdeal.nD Cert.ProjBBwdIdeal.τ).loc Cert.ProjBBwdIdeal.main_arg1)
      ∧ r.2.mem ((c.tc : Thread Cert.ProjBBwdIdeal.nD Cert.ProjBBwdIdeal.τ).loc Cert.ProjBBwdIdeal.main_arg2) = m ((c.tc : Thread Cert.ProjBBwdIdeal.nD Cert.ProjBBwdIdeal.τ).loc Cert.ProjBBwdIdeal.main_arg2))
      ∧ r.2.sem = fun _ => 0)

def quiescent_ProjBBwdReferenceIdeal [hProjBBwdReferenceIdeal : Cert.ProjBBwdReferenceIdeal.Facts] : Prop :=
  ∀ (m : (ℓ : Loc Cert.ProjBBwdReferenceIdeal.nD Cert.ProjBBwdReferenceIdeal.τ Cert.ProjBBwdReferenceIdeal.sig) → Buf (Elt Ideal) ℓ) (g : Dev Cert.ProjBBwdReferenceIdeal.nD → PrngReg), Pre_ProjBBwdReferenceIdeal m →
    θ_run (Cert.ProjBBwdReferenceIdeal.defs (F := Ideal)) (onTc (τ := Cert.ProjBBwdReferenceIdeal.τ) (Cert.ProjBBwdReferenceIdeal.main (F := Ideal))) ⟨m, fun _ => 0, g⟩ (fun r => (∀ c : Dev Cert.ProjBBwdReferenceIdeal.nD,
      r.2.mem ((c.tc : Thread Cert.ProjBBwdReferenceIdeal.nD Cert.ProjBBwdReferenceIdeal.τ).loc Cert.ProjBBwdReferenceIdeal.main_arg0) = m ((c.tc : Thread Cert.ProjBBwdReferenceIdeal.nD Cert.ProjBBwdReferenceIdeal.τ).loc Cert.ProjBBwdReferenceIdeal.main_arg0)
      ∧ r.2.mem ((c.tc : Thread Cert.ProjBBwdReferenceIdeal.nD Cert.ProjBBwdReferenceIdeal.τ).loc Cert.ProjBBwdReferenceIdeal.main_arg1) = m ((c.tc : Thread Cert.ProjBBwdReferenceIdeal.nD Cert.ProjBBwdReferenceIdeal.τ).loc Cert.ProjBBwdReferenceIdeal.main_arg1)
      ∧ r.2.mem ((c.tc : Thread Cert.ProjBBwdReferenceIdeal.nD Cert.ProjBBwdReferenceIdeal.τ).loc Cert.ProjBBwdReferenceIdeal.main_arg2) = m ((c.tc : Thread Cert.ProjBBwdReferenceIdeal.nD Cert.ProjBBwdReferenceIdeal.τ).loc Cert.ProjBBwdReferenceIdeal.main_arg2))
      ∧ r.2.sem = fun _ => 0)

def quiescent_ProjCBwd [hProjCBwd : Cert.ProjCBwd.Facts] : Prop :=
  ∀ (m : (ℓ : Loc Cert.ProjCBwd.nD Cert.ProjCBwd.τ Cert.ProjCBwd.sig) → Buf (Elt Bits) ℓ) (g : Dev Cert.ProjCBwd.nD → PrngReg), Pre_ProjCBwd m →
    θ_run (Cert.ProjCBwd.defs (F := Bits)) (onTc (τ := Cert.ProjCBwd.τ) (Cert.ProjCBwd.main (F := Bits))) ⟨m, fun _ => 0, g⟩ (fun r => (∀ c : Dev Cert.ProjCBwd.nD,
      r.2.mem ((c.tc : Thread Cert.ProjCBwd.nD Cert.ProjCBwd.τ).loc Cert.ProjCBwd.main_arg0) = m ((c.tc : Thread Cert.ProjCBwd.nD Cert.ProjCBwd.τ).loc Cert.ProjCBwd.main_arg0)
      ∧ r.2.mem ((c.tc : Thread Cert.ProjCBwd.nD Cert.ProjCBwd.τ).loc Cert.ProjCBwd.main_arg1) = m ((c.tc : Thread Cert.ProjCBwd.nD Cert.ProjCBwd.τ).loc Cert.ProjCBwd.main_arg1)
      ∧ r.2.mem ((c.tc : Thread Cert.ProjCBwd.nD Cert.ProjCBwd.τ).loc Cert.ProjCBwd.main_arg2) = m ((c.tc : Thread Cert.ProjCBwd.nD Cert.ProjCBwd.τ).loc Cert.ProjCBwd.main_arg2)
      ∧ r.2.mem ((c.tc : Thread Cert.ProjCBwd.nD Cert.ProjCBwd.τ).loc Cert.ProjCBwd.main_arg3) = m ((c.tc : Thread Cert.ProjCBwd.nD Cert.ProjCBwd.τ).loc Cert.ProjCBwd.main_arg3)
      ∧ r.2.mem ((c.tc : Thread Cert.ProjCBwd.nD Cert.ProjCBwd.τ).loc Cert.ProjCBwd.main_arg4) = m ((c.tc : Thread Cert.ProjCBwd.nD Cert.ProjCBwd.τ).loc Cert.ProjCBwd.main_arg4)
      ∧ r.2.mem ((c.tc : Thread Cert.ProjCBwd.nD Cert.ProjCBwd.τ).loc Cert.ProjCBwd.main_arg5) = m ((c.tc : Thread Cert.ProjCBwd.nD Cert.ProjCBwd.τ).loc Cert.ProjCBwd.main_arg5))
      ∧ r.2.sem = fun _ => 0)

def quiescent_ProjCBwdIdeal [hProjCBwdIdeal : Cert.ProjCBwdIdeal.Facts] : Prop :=
  ∀ (m : (ℓ : Loc Cert.ProjCBwdIdeal.nD Cert.ProjCBwdIdeal.τ Cert.ProjCBwdIdeal.sig) → Buf (Elt Ideal) ℓ) (g : Dev Cert.ProjCBwdIdeal.nD → PrngReg), Pre_ProjCBwdIdeal m →
    θ_run (Cert.ProjCBwdIdeal.defs (F := Ideal)) (onTc (τ := Cert.ProjCBwdIdeal.τ) (Cert.ProjCBwdIdeal.main (F := Ideal))) ⟨m, fun _ => 0, g⟩ (fun r => (∀ c : Dev Cert.ProjCBwdIdeal.nD,
      r.2.mem ((c.tc : Thread Cert.ProjCBwdIdeal.nD Cert.ProjCBwdIdeal.τ).loc Cert.ProjCBwdIdeal.main_arg0) = m ((c.tc : Thread Cert.ProjCBwdIdeal.nD Cert.ProjCBwdIdeal.τ).loc Cert.ProjCBwdIdeal.main_arg0)
      ∧ r.2.mem ((c.tc : Thread Cert.ProjCBwdIdeal.nD Cert.ProjCBwdIdeal.τ).loc Cert.ProjCBwdIdeal.main_arg1) = m ((c.tc : Thread Cert.ProjCBwdIdeal.nD Cert.ProjCBwdIdeal.τ).loc Cert.ProjCBwdIdeal.main_arg1)
      ∧ r.2.mem ((c.tc : Thread Cert.ProjCBwdIdeal.nD Cert.ProjCBwdIdeal.τ).loc Cert.ProjCBwdIdeal.main_arg2) = m ((c.tc : Thread Cert.ProjCBwdIdeal.nD Cert.ProjCBwdIdeal.τ).loc Cert.ProjCBwdIdeal.main_arg2)
      ∧ r.2.mem ((c.tc : Thread Cert.ProjCBwdIdeal.nD Cert.ProjCBwdIdeal.τ).loc Cert.ProjCBwdIdeal.main_arg3) = m ((c.tc : Thread Cert.ProjCBwdIdeal.nD Cert.ProjCBwdIdeal.τ).loc Cert.ProjCBwdIdeal.main_arg3)
      ∧ r.2.mem ((c.tc : Thread Cert.ProjCBwdIdeal.nD Cert.ProjCBwdIdeal.τ).loc Cert.ProjCBwdIdeal.main_arg4) = m ((c.tc : Thread Cert.ProjCBwdIdeal.nD Cert.ProjCBwdIdeal.τ).loc Cert.ProjCBwdIdeal.main_arg4)
      ∧ r.2.mem ((c.tc : Thread Cert.ProjCBwdIdeal.nD Cert.ProjCBwdIdeal.τ).loc Cert.ProjCBwdIdeal.main_arg5) = m ((c.tc : Thread Cert.ProjCBwdIdeal.nD Cert.ProjCBwdIdeal.τ).loc Cert.ProjCBwdIdeal.main_arg5))
      ∧ r.2.sem = fun _ => 0)

def quiescent_ProjCBwdIdeal_pre_finite_gate [hProjCBwdIdeal : Cert.ProjCBwdIdeal.Facts] [hPre_finite_gate : Cert.Pre_finite_gate.Facts] : Prop :=
  ∀ (m : (ℓ : Loc Cert.ProjCBwdIdeal.nD Cert.ProjCBwdIdeal.τ Cert.ProjCBwdIdeal.sig) → Buf (Elt Ideal) ℓ) (g : Dev Cert.ProjCBwdIdeal.nD → PrngReg), Pre_ProjCBwdIdeal_finite_gate m →
    θ_run (Cert.ProjCBwdIdeal.defs (F := Ideal)) (onTc (τ := Cert.ProjCBwdIdeal.τ) (Cert.ProjCBwdIdeal.main (F := Ideal))) ⟨m, fun _ => 0, g⟩ (fun r => (∀ c : Dev Cert.ProjCBwdIdeal.nD,
      r.2.mem ((c.tc : Thread Cert.ProjCBwdIdeal.nD Cert.ProjCBwdIdeal.τ).loc Cert.ProjCBwdIdeal.main_arg0) = m ((c.tc : Thread Cert.ProjCBwdIdeal.nD Cert.ProjCBwdIdeal.τ).loc Cert.ProjCBwdIdeal.main_arg0)
      ∧ r.2.mem ((c.tc : Thread Cert.ProjCBwdIdeal.nD Cert.ProjCBwdIdeal.τ).loc Cert.ProjCBwdIdeal.main_arg1) = m ((c.tc : Thread Cert.ProjCBwdIdeal.nD Cert.ProjCBwdIdeal.τ).loc Cert.ProjCBwdIdeal.main_arg1)
      ∧ r.2.mem ((c.tc : Thread Cert.ProjCBwdIdeal.nD Cert.ProjCBwdIdeal.τ).loc Cert.ProjCBwdIdeal.main_arg2) = m ((c.tc : Thread Cert.ProjCBwdIdeal.nD Cert.ProjCBwdIdeal.τ).loc Cert.ProjCBwdIdeal.main_arg2)
      ∧ r.2.mem ((c.tc : Thread Cert.ProjCBwdIdeal.nD Cert.ProjCBwdIdeal.τ).loc Cert.ProjCBwdIdeal.main_arg3) = m ((c.tc : Thread Cert.ProjCBwdIdeal.nD Cert.ProjCBwdIdeal.τ).loc Cert.ProjCBwdIdeal.main_arg3)
      ∧ r.2.mem ((c.tc : Thread Cert.ProjCBwdIdeal.nD Cert.ProjCBwdIdeal.τ).loc Cert.ProjCBwdIdeal.main_arg4) = m ((c.tc : Thread Cert.ProjCBwdIdeal.nD Cert.ProjCBwdIdeal.τ).loc Cert.ProjCBwdIdeal.main_arg4)
      ∧ r.2.mem ((c.tc : Thread Cert.ProjCBwdIdeal.nD Cert.ProjCBwdIdeal.τ).loc Cert.ProjCBwdIdeal.main_arg5) = m ((c.tc : Thread Cert.ProjCBwdIdeal.nD Cert.ProjCBwdIdeal.τ).loc Cert.ProjCBwdIdeal.main_arg5))
      ∧ r.2.sem = fun _ => 0)

def quiescent_ProjCBwdReferenceIdeal [hProjCBwdReferenceIdeal : Cert.ProjCBwdReferenceIdeal.Facts] : Prop :=
  ∀ (m : (ℓ : Loc Cert.ProjCBwdReferenceIdeal.nD Cert.ProjCBwdReferenceIdeal.τ Cert.ProjCBwdReferenceIdeal.sig) → Buf (Elt Ideal) ℓ) (g : Dev Cert.ProjCBwdReferenceIdeal.nD → PrngReg), Pre_ProjCBwdReferenceIdeal m →
    θ_run (Cert.ProjCBwdReferenceIdeal.defs (F := Ideal)) (onTc (τ := Cert.ProjCBwdReferenceIdeal.τ) (Cert.ProjCBwdReferenceIdeal.main (F := Ideal))) ⟨m, fun _ => 0, g⟩ (fun r => (∀ c : Dev Cert.ProjCBwdReferenceIdeal.nD,
      r.2.mem ((c.tc : Thread Cert.ProjCBwdReferenceIdeal.nD Cert.ProjCBwdReferenceIdeal.τ).loc Cert.ProjCBwdReferenceIdeal.main_arg0) = m ((c.tc : Thread Cert.ProjCBwdReferenceIdeal.nD Cert.ProjCBwdReferenceIdeal.τ).loc Cert.ProjCBwdReferenceIdeal.main_arg0)
      ∧ r.2.mem ((c.tc : Thread Cert.ProjCBwdReferenceIdeal.nD Cert.ProjCBwdReferenceIdeal.τ).loc Cert.ProjCBwdReferenceIdeal.main_arg1) = m ((c.tc : Thread Cert.ProjCBwdReferenceIdeal.nD Cert.ProjCBwdReferenceIdeal.τ).loc Cert.ProjCBwdReferenceIdeal.main_arg1)
      ∧ r.2.mem ((c.tc : Thread Cert.ProjCBwdReferenceIdeal.nD Cert.ProjCBwdReferenceIdeal.τ).loc Cert.ProjCBwdReferenceIdeal.main_arg2) = m ((c.tc : Thread Cert.ProjCBwdReferenceIdeal.nD Cert.ProjCBwdReferenceIdeal.τ).loc Cert.ProjCBwdReferenceIdeal.main_arg2)
      ∧ r.2.mem ((c.tc : Thread Cert.ProjCBwdReferenceIdeal.nD Cert.ProjCBwdReferenceIdeal.τ).loc Cert.ProjCBwdReferenceIdeal.main_arg3) = m ((c.tc : Thread Cert.ProjCBwdReferenceIdeal.nD Cert.ProjCBwdReferenceIdeal.τ).loc Cert.ProjCBwdReferenceIdeal.main_arg3)
      ∧ r.2.mem ((c.tc : Thread Cert.ProjCBwdReferenceIdeal.nD Cert.ProjCBwdReferenceIdeal.τ).loc Cert.ProjCBwdReferenceIdeal.main_arg4) = m ((c.tc : Thread Cert.ProjCBwdReferenceIdeal.nD Cert.ProjCBwdReferenceIdeal.τ).loc Cert.ProjCBwdReferenceIdeal.main_arg4)
      ∧ r.2.mem ((c.tc : Thread Cert.ProjCBwdReferenceIdeal.nD Cert.ProjCBwdReferenceIdeal.τ).loc Cert.ProjCBwdReferenceIdeal.main_arg5) = m ((c.tc : Thread Cert.ProjCBwdReferenceIdeal.nD Cert.ProjCBwdReferenceIdeal.τ).loc Cert.ProjCBwdReferenceIdeal.main_arg5))
      ∧ r.2.sem = fun _ => 0)

def quiescent_ProjCBwdReferenceIdeal_pre_finite_gate [hProjCBwdReferenceIdeal : Cert.ProjCBwdReferenceIdeal.Facts] [hPre_finite_gate : Cert.Pre_finite_gate.Facts] : Prop :=
  ∀ (m : (ℓ : Loc Cert.ProjCBwdReferenceIdeal.nD Cert.ProjCBwdReferenceIdeal.τ Cert.ProjCBwdReferenceIdeal.sig) → Buf (Elt Ideal) ℓ) (g : Dev Cert.ProjCBwdReferenceIdeal.nD → PrngReg), Pre_ProjCBwdReferenceIdeal_finite_gate m →
    θ_run (Cert.ProjCBwdReferenceIdeal.defs (F := Ideal)) (onTc (τ := Cert.ProjCBwdReferenceIdeal.τ) (Cert.ProjCBwdReferenceIdeal.main (F := Ideal))) ⟨m, fun _ => 0, g⟩ (fun r => (∀ c : Dev Cert.ProjCBwdReferenceIdeal.nD,
      r.2.mem ((c.tc : Thread Cert.ProjCBwdReferenceIdeal.nD Cert.ProjCBwdReferenceIdeal.τ).loc Cert.ProjCBwdReferenceIdeal.main_arg0) = m ((c.tc : Thread Cert.ProjCBwdReferenceIdeal.nD Cert.ProjCBwdReferenceIdeal.τ).loc Cert.ProjCBwdReferenceIdeal.main_arg0)
      ∧ r.2.mem ((c.tc : Thread Cert.ProjCBwdReferenceIdeal.nD Cert.ProjCBwdReferenceIdeal.τ).loc Cert.ProjCBwdReferenceIdeal.main_arg1) = m ((c.tc : Thread Cert.ProjCBwdReferenceIdeal.nD Cert.ProjCBwdReferenceIdeal.τ).loc Cert.ProjCBwdReferenceIdeal.main_arg1)
      ∧ r.2.mem ((c.tc : Thread Cert.ProjCBwdReferenceIdeal.nD Cert.ProjCBwdReferenceIdeal.τ).loc Cert.ProjCBwdReferenceIdeal.main_arg2) = m ((c.tc : Thread Cert.ProjCBwdReferenceIdeal.nD Cert.ProjCBwdReferenceIdeal.τ).loc Cert.ProjCBwdReferenceIdeal.main_arg2)
      ∧ r.2.mem ((c.tc : Thread Cert.ProjCBwdReferenceIdeal.nD Cert.ProjCBwdReferenceIdeal.τ).loc Cert.ProjCBwdReferenceIdeal.main_arg3) = m ((c.tc : Thread Cert.ProjCBwdReferenceIdeal.nD Cert.ProjCBwdReferenceIdeal.τ).loc Cert.ProjCBwdReferenceIdeal.main_arg3)
      ∧ r.2.mem ((c.tc : Thread Cert.ProjCBwdReferenceIdeal.nD Cert.ProjCBwdReferenceIdeal.τ).loc Cert.ProjCBwdReferenceIdeal.main_arg4) = m ((c.tc : Thread Cert.ProjCBwdReferenceIdeal.nD Cert.ProjCBwdReferenceIdeal.τ).loc Cert.ProjCBwdReferenceIdeal.main_arg4)
      ∧ r.2.mem ((c.tc : Thread Cert.ProjCBwdReferenceIdeal.nD Cert.ProjCBwdReferenceIdeal.τ).loc Cert.ProjCBwdReferenceIdeal.main_arg5) = m ((c.tc : Thread Cert.ProjCBwdReferenceIdeal.nD Cert.ProjCBwdReferenceIdeal.τ).loc Cert.ProjCBwdReferenceIdeal.main_arg5))
      ∧ r.2.sem = fun _ => 0)

def quiescent_InprojFwd [hInprojFwd : Cert.InprojFwd.Facts] : Prop :=
  ∀ (m : (ℓ : Loc Cert.InprojFwd.nD Cert.InprojFwd.τ Cert.InprojFwd.sig) → Buf (Elt Bits) ℓ) (g : Dev Cert.InprojFwd.nD → PrngReg), Pre_InprojFwd m →
    θ_run (Cert.InprojFwd.defs (F := Bits)) (onTc (τ := Cert.InprojFwd.τ) (Cert.InprojFwd.main (F := Bits))) ⟨m, fun _ => 0, g⟩ (fun r => (∀ c : Dev Cert.InprojFwd.nD,
      r.2.mem ((c.tc : Thread Cert.InprojFwd.nD Cert.InprojFwd.τ).loc Cert.InprojFwd.main_arg0) = m ((c.tc : Thread Cert.InprojFwd.nD Cert.InprojFwd.τ).loc Cert.InprojFwd.main_arg0)
      ∧ r.2.mem ((c.tc : Thread Cert.InprojFwd.nD Cert.InprojFwd.τ).loc Cert.InprojFwd.main_arg1) = m ((c.tc : Thread Cert.InprojFwd.nD Cert.InprojFwd.τ).loc Cert.InprojFwd.main_arg1)
      ∧ r.2.mem ((c.tc : Thread Cert.InprojFwd.nD Cert.InprojFwd.τ).loc Cert.InprojFwd.main_arg2) = m ((c.tc : Thread Cert.InprojFwd.nD Cert.InprojFwd.τ).loc Cert.InprojFwd.main_arg2))
      ∧ r.2.sem = fun _ => 0)

def quiescent_InprojFwdIdeal [hInprojFwdIdeal : Cert.InprojFwdIdeal.Facts] : Prop :=
  ∀ (m : (ℓ : Loc Cert.InprojFwdIdeal.nD Cert.InprojFwdIdeal.τ Cert.InprojFwdIdeal.sig) → Buf (Elt Ideal) ℓ) (g : Dev Cert.InprojFwdIdeal.nD → PrngReg), Pre_InprojFwdIdeal m →
    θ_run (Cert.InprojFwdIdeal.defs (F := Ideal)) (onTc (τ := Cert.InprojFwdIdeal.τ) (Cert.InprojFwdIdeal.main (F := Ideal))) ⟨m, fun _ => 0, g⟩ (fun r => (∀ c : Dev Cert.InprojFwdIdeal.nD,
      r.2.mem ((c.tc : Thread Cert.InprojFwdIdeal.nD Cert.InprojFwdIdeal.τ).loc Cert.InprojFwdIdeal.main_arg0) = m ((c.tc : Thread Cert.InprojFwdIdeal.nD Cert.InprojFwdIdeal.τ).loc Cert.InprojFwdIdeal.main_arg0)
      ∧ r.2.mem ((c.tc : Thread Cert.InprojFwdIdeal.nD Cert.InprojFwdIdeal.τ).loc Cert.InprojFwdIdeal.main_arg1) = m ((c.tc : Thread Cert.InprojFwdIdeal.nD Cert.InprojFwdIdeal.τ).loc Cert.InprojFwdIdeal.main_arg1)
      ∧ r.2.mem ((c.tc : Thread Cert.InprojFwdIdeal.nD Cert.InprojFwdIdeal.τ).loc Cert.InprojFwdIdeal.main_arg2) = m ((c.tc : Thread Cert.InprojFwdIdeal.nD Cert.InprojFwdIdeal.τ).loc Cert.InprojFwdIdeal.main_arg2))
      ∧ r.2.sem = fun _ => 0)

def quiescent_InprojFwdReferenceIdeal [hInprojFwdReferenceIdeal : Cert.InprojFwdReferenceIdeal.Facts] : Prop :=
  ∀ (m : (ℓ : Loc Cert.InprojFwdReferenceIdeal.nD Cert.InprojFwdReferenceIdeal.τ Cert.InprojFwdReferenceIdeal.sig) → Buf (Elt Ideal) ℓ) (g : Dev Cert.InprojFwdReferenceIdeal.nD → PrngReg), Pre_InprojFwdReferenceIdeal m →
    θ_run (Cert.InprojFwdReferenceIdeal.defs (F := Ideal)) (onTc (τ := Cert.InprojFwdReferenceIdeal.τ) (Cert.InprojFwdReferenceIdeal.main (F := Ideal))) ⟨m, fun _ => 0, g⟩ (fun r => (∀ c : Dev Cert.InprojFwdReferenceIdeal.nD,
      r.2.mem ((c.tc : Thread Cert.InprojFwdReferenceIdeal.nD Cert.InprojFwdReferenceIdeal.τ).loc Cert.InprojFwdReferenceIdeal.main_arg0) = m ((c.tc : Thread Cert.InprojFwdReferenceIdeal.nD Cert.InprojFwdReferenceIdeal.τ).loc Cert.InprojFwdReferenceIdeal.main_arg0)
      ∧ r.2.mem ((c.tc : Thread Cert.InprojFwdReferenceIdeal.nD Cert.InprojFwdReferenceIdeal.τ).loc Cert.InprojFwdReferenceIdeal.main_arg1) = m ((c.tc : Thread Cert.InprojFwdReferenceIdeal.nD Cert.InprojFwdReferenceIdeal.τ).loc Cert.InprojFwdReferenceIdeal.main_arg1)
      ∧ r.2.mem ((c.tc : Thread Cert.InprojFwdReferenceIdeal.nD Cert.InprojFwdReferenceIdeal.τ).loc Cert.InprojFwdReferenceIdeal.main_arg2) = m ((c.tc : Thread Cert.InprojFwdReferenceIdeal.nD Cert.InprojFwdReferenceIdeal.τ).loc Cert.InprojFwdReferenceIdeal.main_arg2))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdIdeal_pre_finite_forward [hAttnFwdIdeal : Cert.AttnFwdIdeal.Facts] [hPre_finite_forward : Cert.Pre_finite_forward.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_forward m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdReferenceIdeal [hAttnFwdReferenceIdeal : Cert.AttnFwdReferenceIdeal.Facts] : Prop :=
  ∀ (m : (ℓ : Loc Cert.AttnFwdReferenceIdeal.nD Cert.AttnFwdReferenceIdeal.τ Cert.AttnFwdReferenceIdeal.sig) → Buf (Elt Ideal) ℓ) (g : Dev Cert.AttnFwdReferenceIdeal.nD → PrngReg), Pre_AttnFwdReferenceIdeal m →
    θ_run (Cert.AttnFwdReferenceIdeal.defs (F := Ideal)) (onTc (τ := Cert.AttnFwdReferenceIdeal.τ) (Cert.AttnFwdReferenceIdeal.main (F := Ideal))) ⟨m, fun _ => 0, g⟩ (fun r => (∀ c : Dev Cert.AttnFwdReferenceIdeal.nD,
      r.2.mem ((c.tc : Thread Cert.AttnFwdReferenceIdeal.nD Cert.AttnFwdReferenceIdeal.τ).loc Cert.AttnFwdReferenceIdeal.main_arg0) = m ((c.tc : Thread Cert.AttnFwdReferenceIdeal.nD Cert.AttnFwdReferenceIdeal.τ).loc Cert.AttnFwdReferenceIdeal.main_arg0)
      ∧ r.2.mem ((c.tc : Thread Cert.AttnFwdReferenceIdeal.nD Cert.AttnFwdReferenceIdeal.τ).loc Cert.AttnFwdReferenceIdeal.main_arg1) = m ((c.tc : Thread Cert.AttnFwdReferenceIdeal.nD Cert.AttnFwdReferenceIdeal.τ).loc Cert.AttnFwdReferenceIdeal.main_arg1)
      ∧ r.2.mem ((c.tc : Thread Cert.AttnFwdReferenceIdeal.nD Cert.AttnFwdReferenceIdeal.τ).loc Cert.AttnFwdReferenceIdeal.main_arg2) = m ((c.tc : Thread Cert.AttnFwdReferenceIdeal.nD Cert.AttnFwdReferenceIdeal.τ).loc Cert.AttnFwdReferenceIdeal.main_arg2)
      ∧ r.2.mem ((c.tc : Thread Cert.AttnFwdReferenceIdeal.nD Cert.AttnFwdReferenceIdeal.τ).loc Cert.AttnFwdReferenceIdeal.main_arg3) = m ((c.tc : Thread Cert.AttnFwdReferenceIdeal.nD Cert.AttnFwdReferenceIdeal.τ).loc Cert.AttnFwdReferenceIdeal.main_arg3))
      ∧ r.2.sem = fun _ => 0)

def quiescent_AttnFwdReferenceIdeal_pre_finite_forward [hAttnFwdReferenceIdeal : Cert.AttnFwdReferenceIdeal.Facts] [hPre_finite_forward : Cert.Pre_finite_forward.Facts] : Prop :=
  ∀ (m : (ℓ : Loc Cert.AttnFwdReferenceIdeal.nD Cert.AttnFwdReferenceIdeal.τ Cert.AttnFwdReferenceIdeal.sig) → Buf (Elt Ideal) ℓ) (g : Dev Cert.AttnFwdReferenceIdeal.nD → PrngReg), Pre_AttnFwdReferenceIdeal_finite_forward m →
    θ_run (Cert.AttnFwdReferenceIdeal.defs (F := Ideal)) (onTc (τ := Cert.AttnFwdReferenceIdeal.τ) (Cert.AttnFwdReferenceIdeal.main (F := Ideal))) ⟨m, fun _ => 0, g⟩ (fun r => (∀ c : Dev Cert.AttnFwdReferenceIdeal.nD,
      r.2.mem ((c.tc : Thread Cert.AttnFwdReferenceIdeal.nD Cert.AttnFwdReferenceIdeal.τ).loc Cert.AttnFwdReferenceIdeal.main_arg0) = m ((c.tc : Thread Cert.AttnFwdReferenceIdeal.nD Cert.AttnFwdReferenceIdeal.τ).loc Cert.AttnFwdReferenceIdeal.main_arg0)
      ∧ r.2.mem ((c.tc : Thread Cert.AttnFwdReferenceIdeal.nD Cert.AttnFwdReferenceIdeal.τ).loc Cert.AttnFwdReferenceIdeal.main_arg1) = m ((c.tc : Thread Cert.AttnFwdReferenceIdeal.nD Cert.AttnFwdReferenceIdeal.τ).loc Cert.AttnFwdReferenceIdeal.main_arg1)
      ∧ r.2.mem ((c.tc : Thread Cert.AttnFwdReferenceIdeal.nD Cert.AttnFwdReferenceIdeal.τ).loc Cert.AttnFwdReferenceIdeal.main_arg2) = m ((c.tc : Thread Cert.AttnFwdReferenceIdeal.nD Cert.AttnFwdReferenceIdeal.τ).loc Cert.AttnFwdReferenceIdeal.main_arg2)
      ∧ r.2.mem ((c.tc : Thread Cert.AttnFwdReferenceIdeal.nD Cert.AttnFwdReferenceIdeal.τ).loc Cert.AttnFwdReferenceIdeal.main_arg3) = m ((c.tc : Thread Cert.AttnFwdReferenceIdeal.nD Cert.AttnFwdReferenceIdeal.τ).loc Cert.AttnFwdReferenceIdeal.main_arg3))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3)
      ∧ r.2.mem ((c.tc : Thread Cert.OutFwd.nD Cert.OutFwd.τ).loc Cert.OutFwd.main_arg4) = m ((c.tc : Thread Cert.OutFwd.nD Cert.OutFwd.τ).loc Cert.OutFwd.main_arg4)
      ∧ r.2.mem ((c.tc : Thread Cert.OutFwd.nD Cert.OutFwd.τ).loc Cert.OutFwd.main_arg5) = m ((c.tc : Thread Cert.OutFwd.nD Cert.OutFwd.τ).loc Cert.OutFwd.main_arg5)
      ∧ r.2.mem ((c.tc : Thread Cert.OutFwd.nD Cert.OutFwd.τ).loc Cert.OutFwd.main_arg6) = m ((c.tc : Thread Cert.OutFwd.nD Cert.OutFwd.τ).loc Cert.OutFwd.main_arg6)
      ∧ r.2.mem ((c.tc : Thread Cert.OutFwd.nD Cert.OutFwd.τ).loc Cert.OutFwd.main_arg7) = m ((c.tc : Thread Cert.OutFwd.nD Cert.OutFwd.τ).loc Cert.OutFwd.main_arg7)
      ∧ r.2.mem ((c.tc : Thread Cert.OutFwd.nD Cert.OutFwd.τ).loc Cert.OutFwd.main_arg8) = m ((c.tc : Thread Cert.OutFwd.nD Cert.OutFwd.τ).loc Cert.OutFwd.main_arg8)
      ∧ r.2.mem ((c.tc : Thread Cert.OutFwd.nD Cert.OutFwd.τ).loc Cert.OutFwd.main_arg9) = m ((c.tc : Thread Cert.OutFwd.nD Cert.OutFwd.τ).loc Cert.OutFwd.main_arg9))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
      ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
      ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5)
      ∧ r.2.mem ((c.tc : Thread Cert.OutFwdIdeal.nD Cert.OutFwdIdeal.τ).loc Cert.OutFwdIdeal.main_arg6) = m ((c.tc : Thread Cert.OutFwdIdeal.nD Cert.OutFwdIdeal.τ).loc Cert.OutFwdIdeal.main_arg6)
      ∧ r.2.mem ((c.tc : Thread Cert.OutFwdIdeal.nD Cert.OutFwdIdeal.τ).loc Cert.OutFwdIdeal.main_arg7) = m ((c.tc : Thread Cert.OutFwdIdeal.nD Cert.OutFwdIdeal.τ).loc Cert.OutFwdIdeal.main_arg7)
      ∧ r.2.mem ((c.tc : Thread Cert.OutFwdIdeal.nD Cert.OutFwdIdeal.τ).loc Cert.OutFwdIdeal.main_arg8) = m ((c.tc : Thread Cert.OutFwdIdeal.nD Cert.OutFwdIdeal.τ).loc Cert.OutFwdIdeal.main_arg8)
      ∧ r.2.mem ((c.tc : Thread Cert.OutFwdIdeal.nD Cert.OutFwdIdeal.τ).loc Cert.OutFwdIdeal.main_arg9) = m ((c.tc : Thread Cert.OutFwdIdeal.nD Cert.OutFwdIdeal.τ).loc Cert.OutFwdIdeal.main_arg9))
      ∧ r.2.sem = fun _ => 0)

def quiescent_OutFwdReferenceIdeal [hOutFwdReferenceIdeal : Cert.OutFwdReferenceIdeal.Facts] : Prop :=
  ∀ (m : (ℓ : Loc Cert.OutFwdReferenceIdeal.nD Cert.OutFwdReferenceIdeal.τ Cert.OutFwdReferenceIdeal.sig) → Buf (Elt Ideal) ℓ) (g : Dev Cert.OutFwdReferenceIdeal.nD → PrngReg), Pre_OutFwdReferenceIdeal m →
    θ_run (Cert.OutFwdReferenceIdeal.defs (F := Ideal)) (onTc (τ := Cert.OutFwdReferenceIdeal.τ) (Cert.OutFwdReferenceIdeal.main (F := Ideal))) ⟨m, fun _ => 0, g⟩ (fun r => (∀ c : Dev Cert.OutFwdReferenceIdeal.nD,
      r.2.mem ((c.tc : Thread Cert.OutFwdReferenceIdeal.nD Cert.OutFwdReferenceIdeal.τ).loc Cert.OutFwdReferenceIdeal.main_arg0) = m ((c.tc : Thread Cert.OutFwdReferenceIdeal.nD Cert.OutFwdReferenceIdeal.τ).loc Cert.OutFwdReferenceIdeal.main_arg0)
      ∧ r.2.mem ((c.tc : Thread Cert.OutFwdReferenceIdeal.nD Cert.OutFwdReferenceIdeal.τ).loc Cert.OutFwdReferenceIdeal.main_arg1) = m ((c.tc : Thread Cert.OutFwdReferenceIdeal.nD Cert.OutFwdReferenceIdeal.τ).loc Cert.OutFwdReferenceIdeal.main_arg1)
      ∧ r.2.mem ((c.tc : Thread Cert.OutFwdReferenceIdeal.nD Cert.OutFwdReferenceIdeal.τ).loc Cert.OutFwdReferenceIdeal.main_arg2) = m ((c.tc : Thread Cert.OutFwdReferenceIdeal.nD Cert.OutFwdReferenceIdeal.τ).loc Cert.OutFwdReferenceIdeal.main_arg2)
      ∧ r.2.mem ((c.tc : Thread Cert.OutFwdReferenceIdeal.nD Cert.OutFwdReferenceIdeal.τ).loc Cert.OutFwdReferenceIdeal.main_arg3) = m ((c.tc : Thread Cert.OutFwdReferenceIdeal.nD Cert.OutFwdReferenceIdeal.τ).loc Cert.OutFwdReferenceIdeal.main_arg3)
      ∧ r.2.mem ((c.tc : Thread Cert.OutFwdReferenceIdeal.nD Cert.OutFwdReferenceIdeal.τ).loc Cert.OutFwdReferenceIdeal.main_arg4) = m ((c.tc : Thread Cert.OutFwdReferenceIdeal.nD Cert.OutFwdReferenceIdeal.τ).loc Cert.OutFwdReferenceIdeal.main_arg4)
      ∧ r.2.mem ((c.tc : Thread Cert.OutFwdReferenceIdeal.nD Cert.OutFwdReferenceIdeal.τ).loc Cert.OutFwdReferenceIdeal.main_arg5) = m ((c.tc : Thread Cert.OutFwdReferenceIdeal.nD Cert.OutFwdReferenceIdeal.τ).loc Cert.OutFwdReferenceIdeal.main_arg5)
      ∧ r.2.mem ((c.tc : Thread Cert.OutFwdReferenceIdeal.nD Cert.OutFwdReferenceIdeal.τ).loc Cert.OutFwdReferenceIdeal.main_arg6) = m ((c.tc : Thread Cert.OutFwdReferenceIdeal.nD Cert.OutFwdReferenceIdeal.τ).loc Cert.OutFwdReferenceIdeal.main_arg6)
      ∧ r.2.mem ((c.tc : Thread Cert.OutFwdReferenceIdeal.nD Cert.OutFwdReferenceIdeal.τ).loc Cert.OutFwdReferenceIdeal.main_arg7) = m ((c.tc : Thread Cert.OutFwdReferenceIdeal.nD Cert.OutFwdReferenceIdeal.τ).loc Cert.OutFwdReferenceIdeal.main_arg7)
      ∧ r.2.mem ((c.tc : Thread Cert.OutFwdReferenceIdeal.nD Cert.OutFwdReferenceIdeal.τ).loc Cert.OutFwdReferenceIdeal.main_arg8) = m ((c.tc : Thread Cert.OutFwdReferenceIdeal.nD Cert.OutFwdReferenceIdeal.τ).loc Cert.OutFwdReferenceIdeal.main_arg8)
      ∧ r.2.mem ((c.tc : Thread Cert.OutFwdReferenceIdeal.nD Cert.OutFwdReferenceIdeal.τ).loc Cert.OutFwdReferenceIdeal.main_arg9) = m ((c.tc : Thread Cert.OutFwdReferenceIdeal.nD Cert.OutFwdReferenceIdeal.τ).loc Cert.OutFwdReferenceIdeal.main_arg9))
      ∧ r.2.sem = fun _ => 0)

def quiescent_QkvFwd [hQkvFwd : Cert.QkvFwd.Facts] : Prop :=
  ∀ (m : (ℓ : Loc Cert.QkvFwd.nD Cert.QkvFwd.τ Cert.QkvFwd.sig) → Buf (Elt Bits) ℓ) (g : Dev Cert.QkvFwd.nD → PrngReg), Pre_QkvFwd m →
    θ_run (Cert.QkvFwd.defs (F := Bits)) (onTc (τ := Cert.QkvFwd.τ) (Cert.QkvFwd.main (F := Bits))) ⟨m, fun _ => 0, g⟩ (fun r => (∀ c : Dev Cert.QkvFwd.nD,
      r.2.mem ((c.tc : Thread Cert.QkvFwd.nD Cert.QkvFwd.τ).loc Cert.QkvFwd.main_arg0) = m ((c.tc : Thread Cert.QkvFwd.nD Cert.QkvFwd.τ).loc Cert.QkvFwd.main_arg0)
      ∧ r.2.mem ((c.tc : Thread Cert.QkvFwd.nD Cert.QkvFwd.τ).loc Cert.QkvFwd.main_arg1) = m ((c.tc : Thread Cert.QkvFwd.nD Cert.QkvFwd.τ).loc Cert.QkvFwd.main_arg1)
      ∧ r.2.mem ((c.tc : Thread Cert.QkvFwd.nD Cert.QkvFwd.τ).loc Cert.QkvFwd.main_arg2) = m ((c.tc : Thread Cert.QkvFwd.nD Cert.QkvFwd.τ).loc Cert.QkvFwd.main_arg2)
      ∧ r.2.mem ((c.tc : Thread Cert.QkvFwd.nD Cert.QkvFwd.τ).loc Cert.QkvFwd.main_arg3) = m ((c.tc : Thread Cert.QkvFwd.nD Cert.QkvFwd.τ).loc Cert.QkvFwd.main_arg3)
      ∧ r.2.mem ((c.tc : Thread Cert.QkvFwd.nD Cert.QkvFwd.τ).loc Cert.QkvFwd.main_arg4) = m ((c.tc : Thread Cert.QkvFwd.nD Cert.QkvFwd.τ).loc Cert.QkvFwd.main_arg4)
      ∧ r.2.mem ((c.tc : Thread Cert.QkvFwd.nD Cert.QkvFwd.τ).loc Cert.QkvFwd.main_arg5) = m ((c.tc : Thread Cert.QkvFwd.nD Cert.QkvFwd.τ).loc Cert.QkvFwd.main_arg5)
      ∧ r.2.mem ((c.tc : Thread Cert.QkvFwd.nD Cert.QkvFwd.τ).loc Cert.QkvFwd.main_arg6) = m ((c.tc : Thread Cert.QkvFwd.nD Cert.QkvFwd.τ).loc Cert.QkvFwd.main_arg6))
      ∧ r.2.sem = fun _ => 0)

def quiescent_QkvFwdIdeal [hQkvFwdIdeal : Cert.QkvFwdIdeal.Facts] : Prop :=
  ∀ (m : (ℓ : Loc Cert.QkvFwdIdeal.nD Cert.QkvFwdIdeal.τ Cert.QkvFwdIdeal.sig) → Buf (Elt Ideal) ℓ) (g : Dev Cert.QkvFwdIdeal.nD → PrngReg), Pre_QkvFwdIdeal m →
    θ_run (Cert.QkvFwdIdeal.defs (F := Ideal)) (onTc (τ := Cert.QkvFwdIdeal.τ) (Cert.QkvFwdIdeal.main (F := Ideal))) ⟨m, fun _ => 0, g⟩ (fun r => (∀ c : Dev Cert.QkvFwdIdeal.nD,
      r.2.mem ((c.tc : Thread Cert.QkvFwdIdeal.nD Cert.QkvFwdIdeal.τ).loc Cert.QkvFwdIdeal.main_arg0) = m ((c.tc : Thread Cert.QkvFwdIdeal.nD Cert.QkvFwdIdeal.τ).loc Cert.QkvFwdIdeal.main_arg0)
      ∧ r.2.mem ((c.tc : Thread Cert.QkvFwdIdeal.nD Cert.QkvFwdIdeal.τ).loc Cert.QkvFwdIdeal.main_arg1) = m ((c.tc : Thread Cert.QkvFwdIdeal.nD Cert.QkvFwdIdeal.τ).loc Cert.QkvFwdIdeal.main_arg1)
      ∧ r.2.mem ((c.tc : Thread Cert.QkvFwdIdeal.nD Cert.QkvFwdIdeal.τ).loc Cert.QkvFwdIdeal.main_arg2) = m ((c.tc : Thread Cert.QkvFwdIdeal.nD Cert.QkvFwdIdeal.τ).loc Cert.QkvFwdIdeal.main_arg2)
      ∧ r.2.mem ((c.tc : Thread Cert.QkvFwdIdeal.nD Cert.QkvFwdIdeal.τ).loc Cert.QkvFwdIdeal.main_arg3) = m ((c.tc : Thread Cert.QkvFwdIdeal.nD Cert.QkvFwdIdeal.τ).loc Cert.QkvFwdIdeal.main_arg3)
      ∧ r.2.mem ((c.tc : Thread Cert.QkvFwdIdeal.nD Cert.QkvFwdIdeal.τ).loc Cert.QkvFwdIdeal.main_arg4) = m ((c.tc : Thread Cert.QkvFwdIdeal.nD Cert.QkvFwdIdeal.τ).loc Cert.QkvFwdIdeal.main_arg4)
      ∧ r.2.mem ((c.tc : Thread Cert.QkvFwdIdeal.nD Cert.QkvFwdIdeal.τ).loc Cert.QkvFwdIdeal.main_arg5) = m ((c.tc : Thread Cert.QkvFwdIdeal.nD Cert.QkvFwdIdeal.τ).loc Cert.QkvFwdIdeal.main_arg5)
      ∧ r.2.mem ((c.tc : Thread Cert.QkvFwdIdeal.nD Cert.QkvFwdIdeal.τ).loc Cert.QkvFwdIdeal.main_arg6) = m ((c.tc : Thread Cert.QkvFwdIdeal.nD Cert.QkvFwdIdeal.τ).loc Cert.QkvFwdIdeal.main_arg6))
      ∧ r.2.sem = fun _ => 0)

def quiescent_QkvFwdReferenceIdeal [hQkvFwdReferenceIdeal : Cert.QkvFwdReferenceIdeal.Facts] : Prop :=
  ∀ (m : (ℓ : Loc Cert.QkvFwdReferenceIdeal.nD Cert.QkvFwdReferenceIdeal.τ Cert.QkvFwdReferenceIdeal.sig) → Buf (Elt Ideal) ℓ) (g : Dev Cert.QkvFwdReferenceIdeal.nD → PrngReg), Pre_QkvFwdReferenceIdeal m →
    θ_run (Cert.QkvFwdReferenceIdeal.defs (F := Ideal)) (onTc (τ := Cert.QkvFwdReferenceIdeal.τ) (Cert.QkvFwdReferenceIdeal.main (F := Ideal))) ⟨m, fun _ => 0, g⟩ (fun r => (∀ c : Dev Cert.QkvFwdReferenceIdeal.nD,
      r.2.mem ((c.tc : Thread Cert.QkvFwdReferenceIdeal.nD Cert.QkvFwdReferenceIdeal.τ).loc Cert.QkvFwdReferenceIdeal.main_arg0) = m ((c.tc : Thread Cert.QkvFwdReferenceIdeal.nD Cert.QkvFwdReferenceIdeal.τ).loc Cert.QkvFwdReferenceIdeal.main_arg0)
      ∧ r.2.mem ((c.tc : Thread Cert.QkvFwdReferenceIdeal.nD Cert.QkvFwdReferenceIdeal.τ).loc Cert.QkvFwdReferenceIdeal.main_arg1) = m ((c.tc : Thread Cert.QkvFwdReferenceIdeal.nD Cert.QkvFwdReferenceIdeal.τ).loc Cert.QkvFwdReferenceIdeal.main_arg1)
      ∧ r.2.mem ((c.tc : Thread Cert.QkvFwdReferenceIdeal.nD Cert.QkvFwdReferenceIdeal.τ).loc Cert.QkvFwdReferenceIdeal.main_arg2) = m ((c.tc : Thread Cert.QkvFwdReferenceIdeal.nD Cert.QkvFwdReferenceIdeal.τ).loc Cert.QkvFwdReferenceIdeal.main_arg2)
      ∧ r.2.mem ((c.tc : Thread Cert.QkvFwdReferenceIdeal.nD Cert.QkvFwdReferenceIdeal.τ).loc Cert.QkvFwdReferenceIdeal.main_arg3) = m ((c.tc : Thread Cert.QkvFwdReferenceIdeal.nD Cert.QkvFwdReferenceIdeal.τ).loc Cert.QkvFwdReferenceIdeal.main_arg3)
      ∧ r.2.mem ((c.tc : Thread Cert.QkvFwdReferenceIdeal.nD Cert.QkvFwdReferenceIdeal.τ).loc Cert.QkvFwdReferenceIdeal.main_arg4) = m ((c.tc : Thread Cert.QkvFwdReferenceIdeal.nD Cert.QkvFwdReferenceIdeal.τ).loc Cert.QkvFwdReferenceIdeal.main_arg4)
      ∧ r.2.mem ((c.tc : Thread Cert.QkvFwdReferenceIdeal.nD Cert.QkvFwdReferenceIdeal.τ).loc Cert.QkvFwdReferenceIdeal.main_arg5) = m ((c.tc : Thread Cert.QkvFwdReferenceIdeal.nD Cert.QkvFwdReferenceIdeal.τ).loc Cert.QkvFwdReferenceIdeal.main_arg5)
      ∧ r.2.mem ((c.tc : Thread Cert.QkvFwdReferenceIdeal.nD Cert.QkvFwdReferenceIdeal.τ).loc Cert.QkvFwdReferenceIdeal.main_arg6) = m ((c.tc : Thread Cert.QkvFwdReferenceIdeal.nD Cert.QkvFwdReferenceIdeal.τ).loc Cert.QkvFwdReferenceIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_v72) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_InprojBwd_InprojBwdIdeal : Prop :=
  True

def algebraic_InprojBwdIdeal_InprojBwdReferenceIdeal [hInprojBwdIdeal : Cert.InprojBwdIdeal.Facts] [hInprojBwdReferenceIdeal : Cert.InprojBwdReferenceIdeal.Facts] : Prop :=
  ∀ (m : (ℓ : Loc Cert.InprojBwdIdeal.nD Cert.InprojBwdIdeal.τ Cert.InprojBwdIdeal.sig) → Buf (Elt Ideal) ℓ) (g : Dev Cert.InprojBwdIdeal.nD → PrngReg)
    (m' : (ℓ : Loc Cert.InprojBwdReferenceIdeal.nD Cert.InprojBwdReferenceIdeal.τ Cert.InprojBwdReferenceIdeal.sig) → Buf (Elt Ideal) ℓ) (g' : Dev Cert.InprojBwdReferenceIdeal.nD → PrngReg), Pre_InprojBwdIdeal m →
    (∀ c : Dev Cert.InprojBwdIdeal.nD,
      m' ((c.tc : Thread Cert.InprojBwdReferenceIdeal.nD Cert.InprojBwdReferenceIdeal.τ).loc Cert.InprojBwdReferenceIdeal.main_arg0) = m ((c.tc : Thread Cert.InprojBwdIdeal.nD Cert.InprojBwdIdeal.τ).loc Cert.InprojBwdIdeal.main_arg0)
      ∧ m' ((c.tc : Thread Cert.InprojBwdReferenceIdeal.nD Cert.InprojBwdReferenceIdeal.τ).loc Cert.InprojBwdReferenceIdeal.main_arg1) = m ((c.tc : Thread Cert.InprojBwdIdeal.nD Cert.InprojBwdIdeal.τ).loc Cert.InprojBwdIdeal.main_arg1)
      ∧ m' ((c.tc : Thread Cert.InprojBwdReferenceIdeal.nD Cert.InprojBwdReferenceIdeal.τ).loc Cert.InprojBwdReferenceIdeal.main_arg2) = m ((c.tc : Thread Cert.InprojBwdIdeal.nD Cert.InprojBwdIdeal.τ).loc Cert.InprojBwdIdeal.main_arg2)) →
    ∃ (v0 : (c : Dev Cert.InprojBwdIdeal.nD) → Buf (Elt Ideal) ((c.tc : Thread Cert.InprojBwdIdeal.nD Cert.InprojBwdIdeal.τ).loc Cert.InprojBwdIdeal.main_v0_0)) (v1 : (c : Dev Cert.InprojBwdIdeal.nD) → Buf (Elt Ideal) ((c.tc : Thread Cert.InprojBwdIdeal.nD Cert.InprojBwdIdeal.τ).loc Cert.InprojBwdIdeal.main_v0_1)),
      θ_run (Cert.InprojBwdIdeal.defs (F := Ideal)) (onTc (τ := Cert.InprojBwdIdeal.τ) (Cert.InprojBwdIdeal.main (F := Ideal))) ⟨m, fun _ => 0, g⟩ (fun r => ∀ c : Dev Cert.InprojBwdIdeal.nD,
          r.2.mem ((c.tc : Thread Cert.InprojBwdIdeal.nD Cert.InprojBwdIdeal.τ).loc Cert.InprojBwdIdeal.main_v0_0) = v0 c
          ∧ r.2.mem ((c.tc : Thread Cert.InprojBwdIdeal.nD Cert.InprojBwdIdeal.τ).loc Cert.InprojBwdIdeal.main_v0_1) = v1 c
          ∧ r.2.mem ((c.tc : Thread Cert.InprojBwdIdeal.nD Cert.InprojBwdIdeal.τ).loc Cert.InprojBwdIdeal.main_arg0) = m ((c.tc : Thread Cert.InprojBwdIdeal.nD Cert.InprojBwdIdeal.τ).loc Cert.InprojBwdIdeal.main_arg0)
          ∧ r.2.mem ((c.tc : Thread Cert.InprojBwdIdeal.nD Cert.InprojBwdIdeal.τ).loc Cert.InprojBwdIdeal.main_arg1) = m ((c.tc : Thread Cert.InprojBwdIdeal.nD Cert.InprojBwdIdeal.τ).loc Cert.InprojBwdIdeal.main_arg1)
          ∧ r.2.mem ((c.tc : Thread Cert.InprojBwdIdeal.nD Cert.InprojBwdIdeal.τ).loc Cert.InprojBwdIdeal.main_arg2) = m ((c.tc : Thread Cert.InprojBwdIdeal.nD Cert.InprojBwdIdeal.τ).loc Cert.InprojBwdIdeal.main_arg2))
      ∧ θ_run (Cert.InprojBwdReferenceIdeal.defs (F := Ideal)) (onTc (τ := Cert.InprojBwdReferenceIdeal.τ) (Cert.InprojBwdReferenceIdeal.main (F := Ideal))) ⟨m', fun _ => 0, g'⟩ (fun r => ∀ c : Dev Cert.InprojBwdReferenceIdeal.nD,
          r.2.mem ((c.tc : Thread Cert.InprojBwdReferenceIdeal.nD Cert.InprojBwdReferenceIdeal.τ).loc Cert.InprojBwdReferenceIdeal.main_v10) = v0 c
          ∧ r.2.mem ((c.tc : Thread Cert.InprojBwdReferenceIdeal.nD Cert.InprojBwdReferenceIdeal.τ).loc Cert.InprojBwdReferenceIdeal.main_v8) = v1 c
          ∧ r.2.mem ((c.tc : Thread Cert.InprojBwdReferenceIdeal.nD Cert.InprojBwdReferenceIdeal.τ).loc Cert.InprojBwdReferenceIdeal.main_arg0) = m' ((c.tc : Thread Cert.InprojBwdReferenceIdeal.nD Cert.InprojBwdReferenceIdeal.τ).loc Cert.InprojBwdReferenceIdeal.main_arg0)
          ∧ r.2.mem ((c.tc : Thread Cert.InprojBwdReferenceIdeal.nD Cert.InprojBwdReferenceIdeal.τ).loc Cert.InprojBwdReferenceIdeal.main_arg1) = m' ((c.tc : Thread Cert.InprojBwdReferenceIdeal.nD Cert.InprojBwdReferenceIdeal.τ).loc Cert.InprojBwdReferenceIdeal.main_arg1)
          ∧ r.2.mem ((c.tc : Thread Cert.InprojBwdReferenceIdeal.nD Cert.InprojBwdReferenceIdeal.τ).loc Cert.InprojBwdReferenceIdeal.main_arg2) = m' ((c.tc : Thread Cert.InprojBwdReferenceIdeal.nD Cert.InprojBwdReferenceIdeal.τ).loc Cert.InprojBwdReferenceIdeal.main_arg2))

def preserves_ProjABwd_ProjABwdIdeal : Prop :=
  True

def algebraic_ProjABwdIdeal_ProjABwdReferenceIdeal [hProjABwdIdeal : Cert.ProjABwdIdeal.Facts] [hProjABwdReferenceIdeal : Cert.ProjABwdReferenceIdeal.Facts] : Prop :=
  ∀ (m : (ℓ : Loc Cert.ProjABwdIdeal.nD Cert.ProjABwdIdeal.τ Cert.ProjABwdIdeal.sig) → Buf (Elt Ideal) ℓ) (g : Dev Cert.ProjABwdIdeal.nD → PrngReg)
    (m' : (ℓ : Loc Cert.ProjABwdReferenceIdeal.nD Cert.ProjABwdReferenceIdeal.τ Cert.ProjABwdReferenceIdeal.sig) → Buf (Elt Ideal) ℓ) (g' : Dev Cert.ProjABwdReferenceIdeal.nD → PrngReg), Pre_ProjABwdIdeal m →
    (∀ c : Dev Cert.ProjABwdIdeal.nD,
      m' ((c.tc : Thread Cert.ProjABwdReferenceIdeal.nD Cert.ProjABwdReferenceIdeal.τ).loc Cert.ProjABwdReferenceIdeal.main_arg0) = m ((c.tc : Thread Cert.ProjABwdIdeal.nD Cert.ProjABwdIdeal.τ).loc Cert.ProjABwdIdeal.main_arg0)
      ∧ m' ((c.tc : Thread Cert.ProjABwdReferenceIdeal.nD Cert.ProjABwdReferenceIdeal.τ).loc Cert.ProjABwdReferenceIdeal.main_arg1) = m ((c.tc : Thread Cert.ProjABwdIdeal.nD Cert.ProjABwdIdeal.τ).loc Cert.ProjABwdIdeal.main_arg1)
      ∧ m' ((c.tc : Thread Cert.ProjABwdReferenceIdeal.nD Cert.ProjABwdReferenceIdeal.τ).loc Cert.ProjABwdReferenceIdeal.main_arg2) = m ((c.tc : Thread Cert.ProjABwdIdeal.nD Cert.ProjABwdIdeal.τ).loc Cert.ProjABwdIdeal.main_arg2)
      ∧ m' ((c.tc : Thread Cert.ProjABwdReferenceIdeal.nD Cert.ProjABwdReferenceIdeal.τ).loc Cert.ProjABwdReferenceIdeal.main_arg3) = m ((c.tc : Thread Cert.ProjABwdIdeal.nD Cert.ProjABwdIdeal.τ).loc Cert.ProjABwdIdeal.main_arg3)) →
    ∃ (v0 : (c : Dev Cert.ProjABwdIdeal.nD) → Buf (Elt Ideal) ((c.tc : Thread Cert.ProjABwdIdeal.nD Cert.ProjABwdIdeal.τ).loc Cert.ProjABwdIdeal.main_v0_0)) (v1 : (c : Dev Cert.ProjABwdIdeal.nD) → Buf (Elt Ideal) ((c.tc : Thread Cert.ProjABwdIdeal.nD Cert.ProjABwdIdeal.τ).loc Cert.ProjABwdIdeal.main_v0_1)) (v2 : (c : Dev Cert.ProjABwdIdeal.nD) → Buf (Elt Ideal) ((c.tc : Thread Cert.ProjABwdIdeal.nD Cert.ProjABwdIdeal.τ).loc Cert.ProjABwdIdeal.main_v0_2)),
      θ_run (Cert.ProjABwdIdeal.defs (F := Ideal)) (onTc (τ := Cert.ProjABwdIdeal.τ) (Cert.ProjABwdIdeal.main (F := Ideal))) ⟨m, fun _ => 0, g⟩ (fun r => ∀ c : Dev Cert.ProjABwdIdeal.nD,
          r.2.mem ((c.tc : Thread Cert.ProjABwdIdeal.nD Cert.ProjABwdIdeal.τ).loc Cert.ProjABwdIdeal.main_v0_0) = v0 c
          ∧ r.2.mem ((c.tc : Thread Cert.ProjABwdIdeal.nD Cert.ProjABwdIdeal.τ).loc Cert.ProjABwdIdeal.main_v0_1) = v1 c
          ∧ r.2.mem ((c.tc : Thread Cert.ProjABwdIdeal.nD Cert.ProjABwdIdeal.τ).loc Cert.ProjABwdIdeal.main_v0_2) = v2 c
          ∧ r.2.mem ((c.tc : Thread Cert.ProjABwdIdeal.nD Cert.ProjABwdIdeal.τ).loc Cert.ProjABwdIdeal.main_arg0) = m ((c.tc : Thread Cert.ProjABwdIdeal.nD Cert.ProjABwdIdeal.τ).loc Cert.ProjABwdIdeal.main_arg0)
          ∧ r.2.mem ((c.tc : Thread Cert.ProjABwdIdeal.nD Cert.ProjABwdIdeal.τ).loc Cert.ProjABwdIdeal.main_arg1) = m ((c.tc : Thread Cert.ProjABwdIdeal.nD Cert.ProjABwdIdeal.τ).loc Cert.ProjABwdIdeal.main_arg1)
          ∧ r.2.mem ((c.tc : Thread Cert.ProjABwdIdeal.nD Cert.ProjABwdIdeal.τ).loc Cert.ProjABwdIdeal.main_arg2) = m ((c.tc : Thread Cert.ProjABwdIdeal.nD Cert.ProjABwdIdeal.τ).loc Cert.ProjABwdIdeal.main_arg2)
          ∧ r.2.mem ((c.tc : Thread Cert.ProjABwdIdeal.nD Cert.ProjABwdIdeal.τ).loc Cert.ProjABwdIdeal.main_arg3) = m ((c.tc : Thread Cert.ProjABwdIdeal.nD Cert.ProjABwdIdeal.τ).loc Cert.ProjABwdIdeal.main_arg3))
      ∧ θ_run (Cert.ProjABwdReferenceIdeal.defs (F := Ideal)) (onTc (τ := Cert.ProjABwdReferenceIdeal.τ) (Cert.ProjABwdReferenceIdeal.main (F := Ideal))) ⟨m', fun _ => 0, g'⟩ (fun r => ∀ c : Dev Cert.ProjABwdReferenceIdeal.nD,
          r.2.mem ((c.tc : Thread Cert.ProjABwdReferenceIdeal.nD Cert.ProjABwdReferenceIdeal.τ).loc Cert.ProjABwdReferenceIdeal.main_v6) = v0 c
          ∧ r.2.mem ((c.tc : Thread Cert.ProjABwdReferenceIdeal.nD Cert.ProjABwdReferenceIdeal.τ).loc Cert.ProjABwdReferenceIdeal.main_v7) = v1 c
          ∧ r.2.mem ((c.tc : Thread Cert.ProjABwdReferenceIdeal.nD Cert.ProjABwdReferenceIdeal.τ).loc Cert.ProjABwdReferenceIdeal.main_v9) = v2 c
          ∧ r.2.mem ((c.tc : Thread Cert.ProjABwdReferenceIdeal.nD Cert.ProjABwdReferenceIdeal.τ).loc Cert.ProjABwdReferenceIdeal.main_arg0) = m' ((c.tc : Thread Cert.ProjABwdReferenceIdeal.nD Cert.ProjABwdReferenceIdeal.τ).loc Cert.ProjABwdReferenceIdeal.main_arg0)
          ∧ r.2.mem ((c.tc : Thread Cert.ProjABwdReferenceIdeal.nD Cert.ProjABwdReferenceIdeal.τ).loc Cert.ProjABwdReferenceIdeal.main_arg1) = m' ((c.tc : Thread Cert.ProjABwdReferenceIdeal.nD Cert.ProjABwdReferenceIdeal.τ).loc Cert.ProjABwdReferenceIdeal.main_arg1)
          ∧ r.2.mem ((c.tc : Thread Cert.ProjABwdReferenceIdeal.nD Cert.ProjABwdReferenceIdeal.τ).loc Cert.ProjABwdReferenceIdeal.main_arg2) = m' ((c.tc : Thread Cert.ProjABwdReferenceIdeal.nD Cert.ProjABwdReferenceIdeal.τ).loc Cert.ProjABwdReferenceIdeal.main_arg2)
          ∧ r.2.mem ((c.tc : Thread Cert.ProjABwdReferenceIdeal.nD Cert.ProjABwdReferenceIdeal.τ).loc Cert.ProjABwdReferenceIdeal.main_arg3) = m' ((c.tc : Thread Cert.ProjABwdReferenceIdeal.nD Cert.ProjABwdReferenceIdeal.τ).loc Cert.ProjABwdReferenceIdeal.main_arg3))

def preserves_ProjBBwd_ProjBBwdIdeal : Prop :=
  True

def algebraic_ProjBBwdIdeal_ProjBBwdReferenceIdeal [hProjBBwdIdeal : Cert.ProjBBwdIdeal.Facts] [hProjBBwdReferenceIdeal : Cert.ProjBBwdReferenceIdeal.Facts] : Prop :=
  ∀ (m : (ℓ : Loc Cert.ProjBBwdIdeal.nD Cert.ProjBBwdIdeal.τ Cert.ProjBBwdIdeal.sig) → Buf (Elt Ideal) ℓ) (g : Dev Cert.ProjBBwdIdeal.nD → PrngReg)
    (m' : (ℓ : Loc Cert.ProjBBwdReferenceIdeal.nD Cert.ProjBBwdReferenceIdeal.τ Cert.ProjBBwdReferenceIdeal.sig) → Buf (Elt Ideal) ℓ) (g' : Dev Cert.ProjBBwdReferenceIdeal.nD → PrngReg), Pre_ProjBBwdIdeal m →
    (∀ c : Dev Cert.ProjBBwdIdeal.nD,
      m' ((c.tc : Thread Cert.ProjBBwdReferenceIdeal.nD Cert.ProjBBwdReferenceIdeal.τ).loc Cert.ProjBBwdReferenceIdeal.main_arg0) = m ((c.tc : Thread Cert.ProjBBwdIdeal.nD Cert.ProjBBwdIdeal.τ).loc Cert.ProjBBwdIdeal.main_arg0)
      ∧ m' ((c.tc : Thread Cert.ProjBBwdReferenceIdeal.nD Cert.ProjBBwdReferenceIdeal.τ).loc Cert.ProjBBwdReferenceIdeal.main_arg1) = m ((c.tc : Thread Cert.ProjBBwdIdeal.nD Cert.ProjBBwdIdeal.τ).loc Cert.ProjBBwdIdeal.main_arg1)
      ∧ m' ((c.tc : Thread Cert.ProjBBwdReferenceIdeal.nD Cert.ProjBBwdReferenceIdeal.τ).loc Cert.ProjBBwdReferenceIdeal.main_arg2) = m ((c.tc : Thread Cert.ProjBBwdIdeal.nD Cert.ProjBBwdIdeal.τ).loc Cert.ProjBBwdIdeal.main_arg2)) →
    ∃ (v0 : (c : Dev Cert.ProjBBwdIdeal.nD) → Buf (Elt Ideal) ((c.tc : Thread Cert.ProjBBwdIdeal.nD Cert.ProjBBwdIdeal.τ).loc Cert.ProjBBwdIdeal.main_v0_0)) (v1 : (c : Dev Cert.ProjBBwdIdeal.nD) → Buf (Elt Ideal) ((c.tc : Thread Cert.ProjBBwdIdeal.nD Cert.ProjBBwdIdeal.τ).loc Cert.ProjBBwdIdeal.main_v0_1)),
      θ_run (Cert.ProjBBwdIdeal.defs (F := Ideal)) (onTc (τ := Cert.ProjBBwdIdeal.τ) (Cert.ProjBBwdIdeal.main (F := Ideal))) ⟨m, fun _ => 0, g⟩ (fun r => ∀ c : Dev Cert.ProjBBwdIdeal.nD,
          r.2.mem ((c.tc : Thread Cert.ProjBBwdIdeal.nD Cert.ProjBBwdIdeal.τ).loc Cert.ProjBBwdIdeal.main_v0_0) = v0 c
          ∧ r.2.mem ((c.tc : Thread Cert.ProjBBwdIdeal.nD Cert.ProjBBwdIdeal.τ).loc Cert.ProjBBwdIdeal.main_v0_1) = v1 c
          ∧ r.2.mem ((c.tc : Thread Cert.ProjBBwdIdeal.nD Cert.ProjBBwdIdeal.τ).loc Cert.ProjBBwdIdeal.main_arg0) = m ((c.tc : Thread Cert.ProjBBwdIdeal.nD Cert.ProjBBwdIdeal.τ).loc Cert.ProjBBwdIdeal.main_arg0)
          ∧ r.2.mem ((c.tc : Thread Cert.ProjBBwdIdeal.nD Cert.ProjBBwdIdeal.τ).loc Cert.ProjBBwdIdeal.main_arg1) = m ((c.tc : Thread Cert.ProjBBwdIdeal.nD Cert.ProjBBwdIdeal.τ).loc Cert.ProjBBwdIdeal.main_arg1)
          ∧ r.2.mem ((c.tc : Thread Cert.ProjBBwdIdeal.nD Cert.ProjBBwdIdeal.τ).loc Cert.ProjBBwdIdeal.main_arg2) = m ((c.tc : Thread Cert.ProjBBwdIdeal.nD Cert.ProjBBwdIdeal.τ).loc Cert.ProjBBwdIdeal.main_arg2))
      ∧ θ_run (Cert.ProjBBwdReferenceIdeal.defs (F := Ideal)) (onTc (τ := Cert.ProjBBwdReferenceIdeal.τ) (Cert.ProjBBwdReferenceIdeal.main (F := Ideal))) ⟨m', fun _ => 0, g'⟩ (fun r => ∀ c : Dev Cert.ProjBBwdReferenceIdeal.nD,
          r.2.mem ((c.tc : Thread Cert.ProjBBwdReferenceIdeal.nD Cert.ProjBBwdReferenceIdeal.τ).loc Cert.ProjBBwdReferenceIdeal.main_v6) = v0 c
          ∧ r.2.mem ((c.tc : Thread Cert.ProjBBwdReferenceIdeal.nD Cert.ProjBBwdReferenceIdeal.τ).loc Cert.ProjBBwdReferenceIdeal.main_v7) = v1 c
          ∧ r.2.mem ((c.tc : Thread Cert.ProjBBwdReferenceIdeal.nD Cert.ProjBBwdReferenceIdeal.τ).loc Cert.ProjBBwdReferenceIdeal.main_arg0) = m' ((c.tc : Thread Cert.ProjBBwdReferenceIdeal.nD Cert.ProjBBwdReferenceIdeal.τ).loc Cert.ProjBBwdReferenceIdeal.main_arg0)
          ∧ r.2.mem ((c.tc : Thread Cert.ProjBBwdReferenceIdeal.nD Cert.ProjBBwdReferenceIdeal.τ).loc Cert.ProjBBwdReferenceIdeal.main_arg1) = m' ((c.tc : Thread Cert.ProjBBwdReferenceIdeal.nD Cert.ProjBBwdReferenceIdeal.τ).loc Cert.ProjBBwdReferenceIdeal.main_arg1)
          ∧ r.2.mem ((c.tc : Thread Cert.ProjBBwdReferenceIdeal.nD Cert.ProjBBwdReferenceIdeal.τ).loc Cert.ProjBBwdReferenceIdeal.main_arg2) = m' ((c.tc : Thread Cert.ProjBBwdReferenceIdeal.nD Cert.ProjBBwdReferenceIdeal.τ).loc Cert.ProjBBwdReferenceIdeal.main_arg2))

def preserves_ProjCBwd_ProjCBwdIdeal : Prop :=
  True

def algebraic_ProjCBwdIdeal_ProjCBwdReferenceIdeal_pre_finite_gate [hProjCBwdIdeal : Cert.ProjCBwdIdeal.Facts] [hProjCBwdReferenceIdeal : Cert.ProjCBwdReferenceIdeal.Facts] [hPre_finite_gate : Cert.Pre_finite_gate.Facts] : Prop :=
  ∀ (m : (ℓ : Loc Cert.ProjCBwdIdeal.nD Cert.ProjCBwdIdeal.τ Cert.ProjCBwdIdeal.sig) → Buf (Elt Ideal) ℓ) (g : Dev Cert.ProjCBwdIdeal.nD → PrngReg)
    (m' : (ℓ : Loc Cert.ProjCBwdReferenceIdeal.nD Cert.ProjCBwdReferenceIdeal.τ Cert.ProjCBwdReferenceIdeal.sig) → Buf (Elt Ideal) ℓ) (g' : Dev Cert.ProjCBwdReferenceIdeal.nD → PrngReg), Pre_ProjCBwdIdeal_finite_gate m →
    (∀ c : Dev Cert.ProjCBwdIdeal.nD,
      m' ((c.tc : Thread Cert.ProjCBwdReferenceIdeal.nD Cert.ProjCBwdReferenceIdeal.τ).loc Cert.ProjCBwdReferenceIdeal.main_arg0) = m ((c.tc : Thread Cert.ProjCBwdIdeal.nD Cert.ProjCBwdIdeal.τ).loc Cert.ProjCBwdIdeal.main_arg0)
      ∧ m' ((c.tc : Thread Cert.ProjCBwdReferenceIdeal.nD Cert.ProjCBwdReferenceIdeal.τ).loc Cert.ProjCBwdReferenceIdeal.main_arg1) = m ((c.tc : Thread Cert.ProjCBwdIdeal.nD Cert.ProjCBwdIdeal.τ).loc Cert.ProjCBwdIdeal.main_arg1)
      ∧ m' ((c.tc : Thread Cert.ProjCBwdReferenceIdeal.nD Cert.ProjCBwdReferenceIdeal.τ).loc Cert.ProjCBwdReferenceIdeal.main_arg2) = m ((c.tc : Thread Cert.ProjCBwdIdeal.nD Cert.ProjCBwdIdeal.τ).loc Cert.ProjCBwdIdeal.main_arg2)
      ∧ m' ((c.tc : Thread Cert.ProjCBwdReferenceIdeal.nD Cert.ProjCBwdReferenceIdeal.τ).loc Cert.ProjCBwdReferenceIdeal.main_arg3) = m ((c.tc : Thread Cert.ProjCBwdIdeal.nD Cert.ProjCBwdIdeal.τ).loc Cert.ProjCBwdIdeal.main_arg3)
      ∧ m' ((c.tc : Thread Cert.ProjCBwdReferenceIdeal.nD Cert.ProjCBwdReferenceIdeal.τ).loc Cert.ProjCBwdReferenceIdeal.main_arg4) = m ((c.tc : Thread Cert.ProjCBwdIdeal.nD Cert.ProjCBwdIdeal.τ).loc Cert.ProjCBwdIdeal.main_arg4)
      ∧ m' ((c.tc : Thread Cert.ProjCBwdReferenceIdeal.nD Cert.ProjCBwdReferenceIdeal.τ).loc Cert.ProjCBwdReferenceIdeal.main_arg5) = m ((c.tc : Thread Cert.ProjCBwdIdeal.nD Cert.ProjCBwdIdeal.τ).loc Cert.ProjCBwdIdeal.main_arg5)) →
    ∃ (v0 : (c : Dev Cert.ProjCBwdIdeal.nD) → Buf (Elt Ideal) ((c.tc : Thread Cert.ProjCBwdIdeal.nD Cert.ProjCBwdIdeal.τ).loc Cert.ProjCBwdIdeal.main_v0_0)) (v1 : (c : Dev Cert.ProjCBwdIdeal.nD) → Buf (Elt Ideal) ((c.tc : Thread Cert.ProjCBwdIdeal.nD Cert.ProjCBwdIdeal.τ).loc Cert.ProjCBwdIdeal.main_v0_1)) (v2 : (c : Dev Cert.ProjCBwdIdeal.nD) → Buf (Elt Ideal) ((c.tc : Thread Cert.ProjCBwdIdeal.nD Cert.ProjCBwdIdeal.τ).loc Cert.ProjCBwdIdeal.main_v0_2)),
      θ_run (Cert.ProjCBwdIdeal.defs (F := Ideal)) (onTc (τ := Cert.ProjCBwdIdeal.τ) (Cert.ProjCBwdIdeal.main (F := Ideal))) ⟨m, fun _ => 0, g⟩ (fun r => ∀ c : Dev Cert.ProjCBwdIdeal.nD,
          r.2.mem ((c.tc : Thread Cert.ProjCBwdIdeal.nD Cert.ProjCBwdIdeal.τ).loc Cert.ProjCBwdIdeal.main_v0_0) = v0 c
          ∧ r.2.mem ((c.tc : Thread Cert.ProjCBwdIdeal.nD Cert.ProjCBwdIdeal.τ).loc Cert.ProjCBwdIdeal.main_v0_1) = v1 c
          ∧ r.2.mem ((c.tc : Thread Cert.ProjCBwdIdeal.nD Cert.ProjCBwdIdeal.τ).loc Cert.ProjCBwdIdeal.main_v0_2) = v2 c
          ∧ r.2.mem ((c.tc : Thread Cert.ProjCBwdIdeal.nD Cert.ProjCBwdIdeal.τ).loc Cert.ProjCBwdIdeal.main_arg0) = m ((c.tc : Thread Cert.ProjCBwdIdeal.nD Cert.ProjCBwdIdeal.τ).loc Cert.ProjCBwdIdeal.main_arg0)
          ∧ r.2.mem ((c.tc : Thread Cert.ProjCBwdIdeal.nD Cert.ProjCBwdIdeal.τ).loc Cert.ProjCBwdIdeal.main_arg1) = m ((c.tc : Thread Cert.ProjCBwdIdeal.nD Cert.ProjCBwdIdeal.τ).loc Cert.ProjCBwdIdeal.main_arg1)
          ∧ r.2.mem ((c.tc : Thread Cert.ProjCBwdIdeal.nD Cert.ProjCBwdIdeal.τ).loc Cert.ProjCBwdIdeal.main_arg2) = m ((c.tc : Thread Cert.ProjCBwdIdeal.nD Cert.ProjCBwdIdeal.τ).loc Cert.ProjCBwdIdeal.main_arg2)
          ∧ r.2.mem ((c.tc : Thread Cert.ProjCBwdIdeal.nD Cert.ProjCBwdIdeal.τ).loc Cert.ProjCBwdIdeal.main_arg3) = m ((c.tc : Thread Cert.ProjCBwdIdeal.nD Cert.ProjCBwdIdeal.τ).loc Cert.ProjCBwdIdeal.main_arg3)
          ∧ r.2.mem ((c.tc : Thread Cert.ProjCBwdIdeal.nD Cert.ProjCBwdIdeal.τ).loc Cert.ProjCBwdIdeal.main_arg4) = m ((c.tc : Thread Cert.ProjCBwdIdeal.nD Cert.ProjCBwdIdeal.τ).loc Cert.ProjCBwdIdeal.main_arg4)
          ∧ r.2.mem ((c.tc : Thread Cert.ProjCBwdIdeal.nD Cert.ProjCBwdIdeal.τ).loc Cert.ProjCBwdIdeal.main_arg5) = m ((c.tc : Thread Cert.ProjCBwdIdeal.nD Cert.ProjCBwdIdeal.τ).loc Cert.ProjCBwdIdeal.main_arg5))
      ∧ θ_run (Cert.ProjCBwdReferenceIdeal.defs (F := Ideal)) (onTc (τ := Cert.ProjCBwdReferenceIdeal.τ) (Cert.ProjCBwdReferenceIdeal.main (F := Ideal))) ⟨m', fun _ => 0, g'⟩ (fun r => ∀ c : Dev Cert.ProjCBwdReferenceIdeal.nD,
          r.2.mem ((c.tc : Thread Cert.ProjCBwdReferenceIdeal.nD Cert.ProjCBwdReferenceIdeal.τ).loc Cert.ProjCBwdReferenceIdeal.main_v7) = v0 c
          ∧ r.2.mem ((c.tc : Thread Cert.ProjCBwdReferenceIdeal.nD Cert.ProjCBwdReferenceIdeal.τ).loc Cert.ProjCBwdReferenceIdeal.main_v12) = v1 c
          ∧ r.2.mem ((c.tc : Thread Cert.ProjCBwdReferenceIdeal.nD Cert.ProjCBwdReferenceIdeal.τ).loc Cert.ProjCBwdReferenceIdeal.main_v14) = v2 c
          ∧ r.2.mem ((c.tc : Thread Cert.ProjCBwdReferenceIdeal.nD Cert.ProjCBwdReferenceIdeal.τ).loc Cert.ProjCBwdReferenceIdeal.main_arg0) = m' ((c.tc : Thread Cert.ProjCBwdReferenceIdeal.nD Cert.ProjCBwdReferenceIdeal.τ).loc Cert.ProjCBwdReferenceIdeal.main_arg0)
          ∧ r.2.mem ((c.tc : Thread Cert.ProjCBwdReferenceIdeal.nD Cert.ProjCBwdReferenceIdeal.τ).loc Cert.ProjCBwdReferenceIdeal.main_arg1) = m' ((c.tc : Thread Cert.ProjCBwdReferenceIdeal.nD Cert.ProjCBwdReferenceIdeal.τ).loc Cert.ProjCBwdReferenceIdeal.main_arg1)
          ∧ r.2.mem ((c.tc : Thread Cert.ProjCBwdReferenceIdeal.nD Cert.ProjCBwdReferenceIdeal.τ).loc Cert.ProjCBwdReferenceIdeal.main_arg2) = m' ((c.tc : Thread Cert.ProjCBwdReferenceIdeal.nD Cert.ProjCBwdReferenceIdeal.τ).loc Cert.ProjCBwdReferenceIdeal.main_arg2)
          ∧ r.2.mem ((c.tc : Thread Cert.ProjCBwdReferenceIdeal.nD Cert.ProjCBwdReferenceIdeal.τ).loc Cert.ProjCBwdReferenceIdeal.main_arg3) = m' ((c.tc : Thread Cert.ProjCBwdReferenceIdeal.nD Cert.ProjCBwdReferenceIdeal.τ).loc Cert.ProjCBwdReferenceIdeal.main_arg3)
          ∧ r.2.mem ((c.tc : Thread Cert.ProjCBwdReferenceIdeal.nD Cert.ProjCBwdReferenceIdeal.τ).loc Cert.ProjCBwdReferenceIdeal.main_arg4) = m' ((c.tc : Thread Cert.ProjCBwdReferenceIdeal.nD Cert.ProjCBwdReferenceIdeal.τ).loc Cert.ProjCBwdReferenceIdeal.main_arg4)
          ∧ r.2.mem ((c.tc : Thread Cert.ProjCBwdReferenceIdeal.nD Cert.ProjCBwdReferenceIdeal.τ).loc Cert.ProjCBwdReferenceIdeal.main_arg5) = m' ((c.tc : Thread Cert.ProjCBwdReferenceIdeal.nD Cert.ProjCBwdReferenceIdeal.τ).loc Cert.ProjCBwdReferenceIdeal.main_arg5))

def preserves_InprojFwd_InprojFwdIdeal : Prop :=
  True

def algebraic_InprojFwdIdeal_InprojFwdReferenceIdeal [hInprojFwdIdeal : Cert.InprojFwdIdeal.Facts] [hInprojFwdReferenceIdeal : Cert.InprojFwdReferenceIdeal.Facts] : Prop :=
  ∀ (m : (ℓ : Loc Cert.InprojFwdIdeal.nD Cert.InprojFwdIdeal.τ Cert.InprojFwdIdeal.sig) → Buf (Elt Ideal) ℓ) (g : Dev Cert.InprojFwdIdeal.nD → PrngReg)
    (m' : (ℓ : Loc Cert.InprojFwdReferenceIdeal.nD Cert.InprojFwdReferenceIdeal.τ Cert.InprojFwdReferenceIdeal.sig) → Buf (Elt Ideal) ℓ) (g' : Dev Cert.InprojFwdReferenceIdeal.nD → PrngReg), Pre_InprojFwdIdeal m →
    (∀ c : Dev Cert.InprojFwdIdeal.nD,
      m' ((c.tc : Thread Cert.InprojFwdReferenceIdeal.nD Cert.InprojFwdReferenceIdeal.τ).loc Cert.InprojFwdReferenceIdeal.main_arg0) = m ((c.tc : Thread Cert.InprojFwdIdeal.nD Cert.InprojFwdIdeal.τ).loc Cert.InprojFwdIdeal.main_arg0)
      ∧ m' ((c.tc : Thread Cert.InprojFwdReferenceIdeal.nD Cert.InprojFwdReferenceIdeal.τ).loc Cert.InprojFwdReferenceIdeal.main_arg1) = m ((c.tc : Thread Cert.InprojFwdIdeal.nD Cert.InprojFwdIdeal.τ).loc Cert.InprojFwdIdeal.main_arg1)
      ∧ m' ((c.tc : Thread Cert.InprojFwdReferenceIdeal.nD Cert.InprojFwdReferenceIdeal.τ).loc Cert.InprojFwdReferenceIdeal.main_arg2) = m ((c.tc : Thread Cert.InprojFwdIdeal.nD Cert.InprojFwdIdeal.τ).loc Cert.InprojFwdIdeal.main_arg2)) →
    ∃ (v0 : (c : Dev Cert.InprojFwdIdeal.nD) → Buf (Elt Ideal) ((c.tc : Thread Cert.InprojFwdIdeal.nD Cert.InprojFwdIdeal.τ).loc Cert.InprojFwdIdeal.main_v0_0)) (v1 : (c : Dev Cert.InprojFwdIdeal.nD) → Buf (Elt Ideal) ((c.tc : Thread Cert.InprojFwdIdeal.nD Cert.InprojFwdIdeal.τ).loc Cert.InprojFwdIdeal.main_v0_1)),
      θ_run (Cert.InprojFwdIdeal.defs (F := Ideal)) (onTc (τ := Cert.InprojFwdIdeal.τ) (Cert.InprojFwdIdeal.main (F := Ideal))) ⟨m, fun _ => 0, g⟩ (fun r => ∀ c : Dev Cert.InprojFwdIdeal.nD,
          r.2.mem ((c.tc : Thread Cert.InprojFwdIdeal.nD Cert.InprojFwdIdeal.τ).loc Cert.InprojFwdIdeal.main_v0_0) = v0 c
          ∧ r.2.mem ((c.tc : Thread Cert.InprojFwdIdeal.nD Cert.InprojFwdIdeal.τ).loc Cert.InprojFwdIdeal.main_v0_1) = v1 c
          ∧ r.2.mem ((c.tc : Thread Cert.InprojFwdIdeal.nD Cert.InprojFwdIdeal.τ).loc Cert.InprojFwdIdeal.main_arg0) = m ((c.tc : Thread Cert.InprojFwdIdeal.nD Cert.InprojFwdIdeal.τ).loc Cert.InprojFwdIdeal.main_arg0)
          ∧ r.2.mem ((c.tc : Thread Cert.InprojFwdIdeal.nD Cert.InprojFwdIdeal.τ).loc Cert.InprojFwdIdeal.main_arg1) = m ((c.tc : Thread Cert.InprojFwdIdeal.nD Cert.InprojFwdIdeal.τ).loc Cert.InprojFwdIdeal.main_arg1)
          ∧ r.2.mem ((c.tc : Thread Cert.InprojFwdIdeal.nD Cert.InprojFwdIdeal.τ).loc Cert.InprojFwdIdeal.main_arg2) = m ((c.tc : Thread Cert.InprojFwdIdeal.nD Cert.InprojFwdIdeal.τ).loc Cert.InprojFwdIdeal.main_arg2))
      ∧ θ_run (Cert.InprojFwdReferenceIdeal.defs (F := Ideal)) (onTc (τ := Cert.InprojFwdReferenceIdeal.τ) (Cert.InprojFwdReferenceIdeal.main (F := Ideal))) ⟨m', fun _ => 0, g'⟩ (fun r => ∀ c : Dev Cert.InprojFwdReferenceIdeal.nD,
          r.2.mem ((c.tc : Thread Cert.InprojFwdReferenceIdeal.nD Cert.InprojFwdReferenceIdeal.τ).loc Cert.InprojFwdReferenceIdeal.main_v17) = v0 c
          ∧ r.2.mem ((c.tc : Thread Cert.InprojFwdReferenceIdeal.nD Cert.InprojFwdReferenceIdeal.τ).loc Cert.InprojFwdReferenceIdeal.main_v18) = v1 c
          ∧ r.2.mem ((c.tc : Thread Cert.InprojFwdReferenceIdeal.nD Cert.InprojFwdReferenceIdeal.τ).loc Cert.InprojFwdReferenceIdeal.main_arg0) = m' ((c.tc : Thread Cert.InprojFwdReferenceIdeal.nD Cert.InprojFwdReferenceIdeal.τ).loc Cert.InprojFwdReferenceIdeal.main_arg0)
          ∧ r.2.mem ((c.tc : Thread Cert.InprojFwdReferenceIdeal.nD Cert.InprojFwdReferenceIdeal.τ).loc Cert.InprojFwdReferenceIdeal.main_arg1) = m' ((c.tc : Thread Cert.InprojFwdReferenceIdeal.nD Cert.InprojFwdReferenceIdeal.τ).loc Cert.InprojFwdReferenceIdeal.main_arg1)
          ∧ r.2.mem ((c.tc : Thread Cert.InprojFwdReferenceIdeal.nD Cert.InprojFwdReferenceIdeal.τ).loc Cert.InprojFwdReferenceIdeal.main_arg2) = m' ((c.tc : Thread Cert.InprojFwdReferenceIdeal.nD Cert.InprojFwdReferenceIdeal.τ).loc Cert.InprojFwdReferenceIdeal.main_arg2))

def preserves_AttnFwd_AttnFwdIdeal : Prop :=
  IdealRules.named_const.Statement Cert.AttnFwdIdeal.κ "mask" .f32 0xF149F2CA#32 ⊥

def algebraic_AttnFwdIdeal_AttnFwdReferenceIdeal_pre_finite_forward [hAttnFwdIdeal : Cert.AttnFwdIdeal.Facts] [hAttnFwdReferenceIdeal : Cert.AttnFwdReferenceIdeal.Facts] [hPre_finite_forward : Cert.Pre_finite_forward.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdReferenceIdeal.nD Cert.AttnFwdReferenceIdeal.τ Cert.AttnFwdReferenceIdeal.sig) → Buf (Elt Ideal) ℓ) (g' : Dev Cert.AttnFwdReferenceIdeal.nD → PrngReg), Pre_AttnFwdIdeal_finite_forward m →
    (∀ c : Dev Cert.AttnFwdIdeal.nD,
      m' ((c.tc : Thread Cert.AttnFwdReferenceIdeal.nD Cert.AttnFwdReferenceIdeal.τ).loc Cert.AttnFwdReferenceIdeal.main_arg0) = m ((c.tc : Thread Cert.AttnFwdIdeal.nD Cert.AttnFwdIdeal.τ).loc Cert.AttnFwdIdeal.main_arg0)
      ∧ m' ((c.tc : Thread Cert.AttnFwdReferenceIdeal.nD Cert.AttnFwdReferenceIdeal.τ).loc Cert.AttnFwdReferenceIdeal.main_arg1) = m ((c.tc : Thread Cert.AttnFwdIdeal.nD Cert.AttnFwdIdeal.τ).loc Cert.AttnFwdIdeal.main_arg1)
      ∧ m' ((c.tc : Thread Cert.AttnFwdReferenceIdeal.nD Cert.AttnFwdReferenceIdeal.τ).loc Cert.AttnFwdReferenceIdeal.main_arg2) = m ((c.tc : Thread Cert.AttnFwdIdeal.nD Cert.AttnFwdIdeal.τ).loc Cert.AttnFwdIdeal.main_arg2)
      ∧ m' ((c.tc : Thread Cert.AttnFwdReferenceIdeal.nD Cert.AttnFwdReferenceIdeal.τ).loc Cert.AttnFwdReferenceIdeal.main_arg3) = m ((c.tc : Thread Cert.AttnFwdIdeal.nD Cert.AttnFwdIdeal.τ).loc Cert.AttnFwdIdeal.main_arg3)) →
    ∃ (v0 : (c : Dev Cert.AttnFwdIdeal.nD) → Buf (Elt Ideal) ((c.tc : Thread Cert.AttnFwdIdeal.nD Cert.AttnFwdIdeal.τ).loc Cert.AttnFwdIdeal.main_v0)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ θ_run (Cert.AttnFwdReferenceIdeal.defs (F := Ideal)) (onTc (τ := Cert.AttnFwdReferenceIdeal.τ) (Cert.AttnFwdReferenceIdeal.main (F := Ideal))) ⟨m', fun _ => 0, g'⟩ (fun r => ∀ c : Dev Cert.AttnFwdReferenceIdeal.nD,
          r.2.mem ((c.tc : Thread Cert.AttnFwdReferenceIdeal.nD Cert.AttnFwdReferenceIdeal.τ).loc Cert.AttnFwdReferenceIdeal.main_v28) = v0 c
          ∧ r.2.mem ((c.tc : Thread Cert.AttnFwdReferenceIdeal.nD Cert.AttnFwdReferenceIdeal.τ).loc Cert.AttnFwdReferenceIdeal.main_arg0) = m' ((c.tc : Thread Cert.AttnFwdReferenceIdeal.nD Cert.AttnFwdReferenceIdeal.τ).loc Cert.AttnFwdReferenceIdeal.main_arg0)
          ∧ r.2.mem ((c.tc : Thread Cert.AttnFwdReferenceIdeal.nD Cert.AttnFwdReferenceIdeal.τ).loc Cert.AttnFwdReferenceIdeal.main_arg1) = m' ((c.tc : Thread Cert.AttnFwdReferenceIdeal.nD Cert.AttnFwdReferenceIdeal.τ).loc Cert.AttnFwdReferenceIdeal.main_arg1)
          ∧ r.2.mem ((c.tc : Thread Cert.AttnFwdReferenceIdeal.nD Cert.AttnFwdReferenceIdeal.τ).loc Cert.AttnFwdReferenceIdeal.main_arg2) = m' ((c.tc : Thread Cert.AttnFwdReferenceIdeal.nD Cert.AttnFwdReferenceIdeal.τ).loc Cert.AttnFwdReferenceIdeal.main_arg2)
          ∧ r.2.mem ((c.tc : Thread Cert.AttnFwdReferenceIdeal.nD Cert.AttnFwdReferenceIdeal.τ).loc Cert.AttnFwdReferenceIdeal.main_arg3) = m' ((c.tc : Thread Cert.AttnFwdReferenceIdeal.nD Cert.AttnFwdReferenceIdeal.τ).loc Cert.AttnFwdReferenceIdeal.main_arg3))

def preserves_OutFwd_OutFwdIdeal : Prop :=
  True

def algebraic_OutFwdIdeal_OutFwdReferenceIdeal [hOutFwdIdeal : Cert.OutFwdIdeal.Facts] [hOutFwdReferenceIdeal : Cert.OutFwdReferenceIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdReferenceIdeal.nD Cert.OutFwdReferenceIdeal.τ Cert.OutFwdReferenceIdeal.sig) → Buf (Elt Ideal) ℓ) (g' : Dev Cert.OutFwdReferenceIdeal.nD → PrngReg), Pre_OutFwdIdeal m →
    (∀ c : Dev Cert.OutFwdIdeal.nD,
      m' ((c.tc : Thread Cert.OutFwdReferenceIdeal.nD Cert.OutFwdReferenceIdeal.τ).loc Cert.OutFwdReferenceIdeal.main_arg0) = m ((c.tc : Thread Cert.OutFwdIdeal.nD Cert.OutFwdIdeal.τ).loc Cert.OutFwdIdeal.main_arg0)
      ∧ m' ((c.tc : Thread Cert.OutFwdReferenceIdeal.nD Cert.OutFwdReferenceIdeal.τ).loc Cert.OutFwdReferenceIdeal.main_arg1) = m ((c.tc : Thread Cert.OutFwdIdeal.nD Cert.OutFwdIdeal.τ).loc Cert.OutFwdIdeal.main_arg1)
      ∧ m' ((c.tc : Thread Cert.OutFwdReferenceIdeal.nD Cert.OutFwdReferenceIdeal.τ).loc Cert.OutFwdReferenceIdeal.main_arg2) = m ((c.tc : Thread Cert.OutFwdIdeal.nD Cert.OutFwdIdeal.τ).loc Cert.OutFwdIdeal.main_arg2)
      ∧ m' ((c.tc : Thread Cert.OutFwdReferenceIdeal.nD Cert.OutFwdReferenceIdeal.τ).loc Cert.OutFwdReferenceIdeal.main_arg3) = m ((c.tc : Thread Cert.OutFwdIdeal.nD Cert.OutFwdIdeal.τ).loc Cert.OutFwdIdeal.main_arg3)
      ∧ m' ((c.tc : Thread Cert.OutFwdReferenceIdeal.nD Cert.OutFwdReferenceIdeal.τ).loc Cert.OutFwdReferenceIdeal.main_arg4) = m ((c.tc : Thread Cert.OutFwdIdeal.nD Cert.OutFwdIdeal.τ).loc Cert.OutFwdIdeal.main_arg4)
      ∧ m' ((c.tc : Thread Cert.OutFwdReferenceIdeal.nD Cert.OutFwdReferenceIdeal.τ).loc Cert.OutFwdReferenceIdeal.main_arg5) = m ((c.tc : Thread Cert.OutFwdIdeal.nD Cert.OutFwdIdeal.τ).loc Cert.OutFwdIdeal.main_arg5)
      ∧ m' ((c.tc : Thread Cert.OutFwdReferenceIdeal.nD Cert.OutFwdReferenceIdeal.τ).loc Cert.OutFwdReferenceIdeal.main_arg6) = m ((c.tc : Thread Cert.OutFwdIdeal.nD Cert.OutFwdIdeal.τ).loc Cert.OutFwdIdeal.main_arg6)
      ∧ m' ((c.tc : Thread Cert.OutFwdReferenceIdeal.nD Cert.OutFwdReferenceIdeal.τ).loc Cert.OutFwdReferenceIdeal.main_arg7) = m ((c.tc : Thread Cert.OutFwdIdeal.nD Cert.OutFwdIdeal.τ).loc Cert.OutFwdIdeal.main_arg7)
      ∧ m' ((c.tc : Thread Cert.OutFwdReferenceIdeal.nD Cert.OutFwdReferenceIdeal.τ).loc Cert.OutFwdReferenceIdeal.main_arg8) = m ((c.tc : Thread Cert.OutFwdIdeal.nD Cert.OutFwdIdeal.τ).loc Cert.OutFwdIdeal.main_arg8)
      ∧ m' ((c.tc : Thread Cert.OutFwdReferenceIdeal.nD Cert.OutFwdReferenceIdeal.τ).loc Cert.OutFwdReferenceIdeal.main_arg9) = m ((c.tc : Thread Cert.OutFwdIdeal.nD Cert.OutFwdIdeal.τ).loc Cert.OutFwdIdeal.main_arg9)) →
    ∃ (v0 : (c : Dev Cert.OutFwdIdeal.nD) → Buf (Elt Ideal) ((c.tc : Thread Cert.OutFwdIdeal.nD Cert.OutFwdIdeal.τ).loc Cert.OutFwdIdeal.main_v0_0)) (v1 : (c : Dev Cert.OutFwdIdeal.nD) → Buf (Elt Ideal) ((c.tc : Thread Cert.OutFwdIdeal.nD Cert.OutFwdIdeal.τ).loc Cert.OutFwdIdeal.main_v0_1)) (v2 : (c : Dev Cert.OutFwdIdeal.nD) → Buf (Elt Ideal) ((c.tc : Thread Cert.OutFwdIdeal.nD Cert.OutFwdIdeal.τ).loc Cert.OutFwdIdeal.main_v0_2)) (v3 : (c : Dev Cert.OutFwdIdeal.nD) → Buf (Elt Ideal) ((c.tc : Thread Cert.OutFwdIdeal.nD Cert.OutFwdIdeal.τ).loc Cert.OutFwdIdeal.main_v0_3)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0_0) = v0 c
          ∧ r.2.mem ((c.tc : Thread Cert.OutFwdIdeal.nD Cert.OutFwdIdeal.τ).loc Cert.OutFwdIdeal.main_v0_1) = v1 c
          ∧ r.2.mem ((c.tc : Thread Cert.OutFwdIdeal.nD Cert.OutFwdIdeal.τ).loc Cert.OutFwdIdeal.main_v0_2) = v2 c
          ∧ r.2.mem ((c.tc : Thread Cert.OutFwdIdeal.nD Cert.OutFwdIdeal.τ).loc Cert.OutFwdIdeal.main_v0_3) = v3 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
          ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
          ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5)
          ∧ r.2.mem ((c.tc : Thread Cert.OutFwdIdeal.nD Cert.OutFwdIdeal.τ).loc Cert.OutFwdIdeal.main_arg6) = m ((c.tc : Thread Cert.OutFwdIdeal.nD Cert.OutFwdIdeal.τ).loc Cert.OutFwdIdeal.main_arg6)
          ∧ r.2.mem ((c.tc : Thread Cert.OutFwdIdeal.nD Cert.OutFwdIdeal.τ).loc Cert.OutFwdIdeal.main_arg7) = m ((c.tc : Thread Cert.OutFwdIdeal.nD Cert.OutFwdIdeal.τ).loc Cert.OutFwdIdeal.main_arg7)
          ∧ r.2.mem ((c.tc : Thread Cert.OutFwdIdeal.nD Cert.OutFwdIdeal.τ).loc Cert.OutFwdIdeal.main_arg8) = m ((c.tc : Thread Cert.OutFwdIdeal.nD Cert.OutFwdIdeal.τ).loc Cert.OutFwdIdeal.main_arg8)
          ∧ r.2.mem ((c.tc : Thread Cert.OutFwdIdeal.nD Cert.OutFwdIdeal.τ).loc Cert.OutFwdIdeal.main_arg9) = m ((c.tc : Thread Cert.OutFwdIdeal.nD Cert.OutFwdIdeal.τ).loc Cert.OutFwdIdeal.main_arg9))
      ∧ θ_run (Cert.OutFwdReferenceIdeal.defs (F := Ideal)) (onTc (τ := Cert.OutFwdReferenceIdeal.τ) (Cert.OutFwdReferenceIdeal.main (F := Ideal))) ⟨m', fun _ => 0, g'⟩ (fun r => ∀ c : Dev Cert.OutFwdReferenceIdeal.nD,
          r.2.mem ((c.tc : Thread Cert.OutFwdReferenceIdeal.nD Cert.OutFwdReferenceIdeal.τ).loc Cert.OutFwdReferenceIdeal.main_v52) = v0 c
          ∧ r.2.mem ((c.tc : Thread Cert.OutFwdReferenceIdeal.nD Cert.OutFwdReferenceIdeal.τ).loc Cert.OutFwdReferenceIdeal.main_v53) = v1 c
          ∧ r.2.mem ((c.tc : Thread Cert.OutFwdReferenceIdeal.nD Cert.OutFwdReferenceIdeal.τ).loc Cert.OutFwdReferenceIdeal.main_v54) = v2 c
          ∧ r.2.mem ((c.tc : Thread Cert.OutFwdReferenceIdeal.nD Cert.OutFwdReferenceIdeal.τ).loc Cert.OutFwdReferenceIdeal.main_v55) = v3 c
          ∧ r.2.mem ((c.tc : Thread Cert.OutFwdReferenceIdeal.nD Cert.OutFwdReferenceIdeal.τ).loc Cert.OutFwdReferenceIdeal.main_arg0) = m' ((c.tc : Thread Cert.OutFwdReferenceIdeal.nD Cert.OutFwdReferenceIdeal.τ).loc Cert.OutFwdReferenceIdeal.main_arg0)
          ∧ r.2.mem ((c.tc : Thread Cert.OutFwdReferenceIdeal.nD Cert.OutFwdReferenceIdeal.τ).loc Cert.OutFwdReferenceIdeal.main_arg1) = m' ((c.tc : Thread Cert.OutFwdReferenceIdeal.nD Cert.OutFwdReferenceIdeal.τ).loc Cert.OutFwdReferenceIdeal.main_arg1)
          ∧ r.2.mem ((c.tc : Thread Cert.OutFwdReferenceIdeal.nD Cert.OutFwdReferenceIdeal.τ).loc Cert.OutFwdReferenceIdeal.main_arg2) = m' ((c.tc : Thread Cert.OutFwdReferenceIdeal.nD Cert.OutFwdReferenceIdeal.τ).loc Cert.OutFwdReferenceIdeal.main_arg2)
          ∧ r.2.mem ((c.tc : Thread Cert.OutFwdReferenceIdeal.nD Cert.OutFwdReferenceIdeal.τ).loc Cert.OutFwdReferenceIdeal.main_arg3) = m' ((c.tc : Thread Cert.OutFwdReferenceIdeal.nD Cert.OutFwdReferenceIdeal.τ).loc Cert.OutFwdReferenceIdeal.main_arg3)
          ∧ r.2.mem ((c.tc : Thread Cert.OutFwdReferenceIdeal.nD Cert.OutFwdReferenceIdeal.τ).loc Cert.OutFwdReferenceIdeal.main_arg4) = m' ((c.tc : Thread Cert.OutFwdReferenceIdeal.nD Cert.OutFwdReferenceIdeal.τ).loc Cert.OutFwdReferenceIdeal.main_arg4)
          ∧ r.2.mem ((c.tc : Thread Cert.OutFwdReferenceIdeal.nD Cert.OutFwdReferenceIdeal.τ).loc Cert.OutFwdReferenceIdeal.main_arg5) = m' ((c.tc : Thread Cert.OutFwdReferenceIdeal.nD Cert.OutFwdReferenceIdeal.τ).loc Cert.OutFwdReferenceIdeal.main_arg5)
          ∧ r.2.mem ((c.tc : Thread Cert.OutFwdReferenceIdeal.nD Cert.OutFwdReferenceIdeal.τ).loc Cert.OutFwdReferenceIdeal.main_arg6) = m' ((c.tc : Thread Cert.OutFwdReferenceIdeal.nD Cert.OutFwdReferenceIdeal.τ).loc Cert.OutFwdReferenceIdeal.main_arg6)
          ∧ r.2.mem ((c.tc : Thread Cert.OutFwdReferenceIdeal.nD Cert.OutFwdReferenceIdeal.τ).loc Cert.OutFwdReferenceIdeal.main_arg7) = m' ((c.tc : Thread Cert.OutFwdReferenceIdeal.nD Cert.OutFwdReferenceIdeal.τ).loc Cert.OutFwdReferenceIdeal.main_arg7)
          ∧ r.2.mem ((c.tc : Thread Cert.OutFwdReferenceIdeal.nD Cert.OutFwdReferenceIdeal.τ).loc Cert.OutFwdReferenceIdeal.main_arg8) = m' ((c.tc : Thread Cert.OutFwdReferenceIdeal.nD Cert.OutFwdReferenceIdeal.τ).loc Cert.OutFwdReferenceIdeal.main_arg8)
          ∧ r.2.mem ((c.tc : Thread Cert.OutFwdReferenceIdeal.nD Cert.OutFwdReferenceIdeal.τ).loc Cert.OutFwdReferenceIdeal.main_arg9) = m' ((c.tc : Thread Cert.OutFwdReferenceIdeal.nD Cert.OutFwdReferenceIdeal.τ).loc Cert.OutFwdReferenceIdeal.main_arg9))

def preserves_QkvFwd_QkvFwdIdeal : Prop :=
  True

def algebraic_QkvFwdIdeal_QkvFwdReferenceIdeal [hQkvFwdIdeal : Cert.QkvFwdIdeal.Facts] [hQkvFwdReferenceIdeal : Cert.QkvFwdReferenceIdeal.Facts] : Prop :=
  ∀ (m : (ℓ : Loc Cert.QkvFwdIdeal.nD Cert.QkvFwdIdeal.τ Cert.QkvFwdIdeal.sig) → Buf (Elt Ideal) ℓ) (g : Dev Cert.QkvFwdIdeal.nD → PrngReg)
    (m' : (ℓ : Loc Cert.QkvFwdReferenceIdeal.nD Cert.QkvFwdReferenceIdeal.τ Cert.QkvFwdReferenceIdeal.sig) → Buf (Elt Ideal) ℓ) (g' : Dev Cert.QkvFwdReferenceIdeal.nD → PrngReg), Pre_QkvFwdIdeal m →
    (∀ c : Dev Cert.QkvFwdIdeal.nD,
      m' ((c.tc : Thread Cert.QkvFwdReferenceIdeal.nD Cert.QkvFwdReferenceIdeal.τ).loc Cert.QkvFwdReferenceIdeal.main_arg0) = m ((c.tc : Thread Cert.QkvFwdIdeal.nD Cert.QkvFwdIdeal.τ).loc Cert.QkvFwdIdeal.main_arg0)
      ∧ m' ((c.tc : Thread Cert.QkvFwdReferenceIdeal.nD Cert.QkvFwdReferenceIdeal.τ).loc Cert.QkvFwdReferenceIdeal.main_arg1) = m ((c.tc : Thread Cert.QkvFwdIdeal.nD Cert.QkvFwdIdeal.τ).loc Cert.QkvFwdIdeal.main_arg1)
      ∧ m' ((c.tc : Thread Cert.QkvFwdReferenceIdeal.nD Cert.QkvFwdReferenceIdeal.τ).loc Cert.QkvFwdReferenceIdeal.main_arg2) = m ((c.tc : Thread Cert.QkvFwdIdeal.nD Cert.QkvFwdIdeal.τ).loc Cert.QkvFwdIdeal.main_arg2)
      ∧ m' ((c.tc : Thread Cert.QkvFwdReferenceIdeal.nD Cert.QkvFwdReferenceIdeal.τ).loc Cert.QkvFwdReferenceIdeal.main_arg3) = m ((c.tc : Thread Cert.QkvFwdIdeal.nD Cert.QkvFwdIdeal.τ).loc Cert.QkvFwdIdeal.main_arg3)
      ∧ m' ((c.tc : Thread Cert.QkvFwdReferenceIdeal.nD Cert.QkvFwdReferenceIdeal.τ).loc Cert.QkvFwdReferenceIdeal.main_arg4) = m ((c.tc : Thread Cert.QkvFwdIdeal.nD Cert.QkvFwdIdeal.τ).loc Cert.QkvFwdIdeal.main_arg4)
      ∧ m' ((c.tc : Thread Cert.QkvFwdReferenceIdeal.nD Cert.QkvFwdReferenceIdeal.τ).loc Cert.QkvFwdReferenceIdeal.main_arg5) = m ((c.tc : Thread Cert.QkvFwdIdeal.nD Cert.QkvFwdIdeal.τ).loc Cert.QkvFwdIdeal.main_arg5)
      ∧ m' ((c.tc : Thread Cert.QkvFwdReferenceIdeal.nD Cert.QkvFwdReferenceIdeal.τ).loc Cert.QkvFwdReferenceIdeal.main_arg6) = m ((c.tc : Thread Cert.QkvFwdIdeal.nD Cert.QkvFwdIdeal.τ).loc Cert.QkvFwdIdeal.main_arg6)) →
    ∃ (v0 : (c : Dev Cert.QkvFwdIdeal.nD) → Buf (Elt Ideal) ((c.tc : Thread Cert.QkvFwdIdeal.nD Cert.QkvFwdIdeal.τ).loc Cert.QkvFwdIdeal.main_v7_0)) (v1 : (c : Dev Cert.QkvFwdIdeal.nD) → Buf (Elt Ideal) ((c.tc : Thread Cert.QkvFwdIdeal.nD Cert.QkvFwdIdeal.τ).loc Cert.QkvFwdIdeal.main_v7_1)) (v2 : (c : Dev Cert.QkvFwdIdeal.nD) → Buf (Elt Ideal) ((c.tc : Thread Cert.QkvFwdIdeal.nD Cert.QkvFwdIdeal.τ).loc Cert.QkvFwdIdeal.main_v7_2)),
      θ_run (Cert.QkvFwdIdeal.defs (F := Ideal)) (onTc (τ := Cert.QkvFwdIdeal.τ) (Cert.QkvFwdIdeal.main (F := Ideal))) ⟨m, fun _ => 0, g⟩ (fun r => ∀ c : Dev Cert.QkvFwdIdeal.nD,
          r.2.mem ((c.tc : Thread Cert.QkvFwdIdeal.nD Cert.QkvFwdIdeal.τ).loc Cert.QkvFwdIdeal.main_v7_0) = v0 c
          ∧ r.2.mem ((c.tc : Thread Cert.QkvFwdIdeal.nD Cert.QkvFwdIdeal.τ).loc Cert.QkvFwdIdeal.main_v7_1) = v1 c
          ∧ r.2.mem ((c.tc : Thread Cert.QkvFwdIdeal.nD Cert.QkvFwdIdeal.τ).loc Cert.QkvFwdIdeal.main_v7_2) = v2 c
          ∧ r.2.mem ((c.tc : Thread Cert.QkvFwdIdeal.nD Cert.QkvFwdIdeal.τ).loc Cert.QkvFwdIdeal.main_arg0) = m ((c.tc : Thread Cert.QkvFwdIdeal.nD Cert.QkvFwdIdeal.τ).loc Cert.QkvFwdIdeal.main_arg0)
          ∧ r.2.mem ((c.tc : Thread Cert.QkvFwdIdeal.nD Cert.QkvFwdIdeal.τ).loc Cert.QkvFwdIdeal.main_arg1) = m ((c.tc : Thread Cert.QkvFwdIdeal.nD Cert.QkvFwdIdeal.τ).loc Cert.QkvFwdIdeal.main_arg1)
          ∧ r.2.mem ((c.tc : Thread Cert.QkvFwdIdeal.nD Cert.QkvFwdIdeal.τ).loc Cert.QkvFwdIdeal.main_arg2) = m ((c.tc : Thread Cert.QkvFwdIdeal.nD Cert.QkvFwdIdeal.τ).loc Cert.QkvFwdIdeal.main_arg2)
          ∧ r.2.mem ((c.tc : Thread Cert.QkvFwdIdeal.nD Cert.QkvFwdIdeal.τ).loc Cert.QkvFwdIdeal.main_arg3) = m ((c.tc : Thread Cert.QkvFwdIdeal.nD Cert.QkvFwdIdeal.τ).loc Cert.QkvFwdIdeal.main_arg3)
          ∧ r.2.mem ((c.tc : Thread Cert.QkvFwdIdeal.nD Cert.QkvFwdIdeal.τ).loc Cert.QkvFwdIdeal.main_arg4) = m ((c.tc : Thread Cert.QkvFwdIdeal.nD Cert.QkvFwdIdeal.τ).loc Cert.QkvFwdIdeal.main_arg4)
          ∧ r.2.mem ((c.tc : Thread Cert.QkvFwdIdeal.nD Cert.QkvFwdIdeal.τ).loc Cert.QkvFwdIdeal.main_arg5) = m ((c.tc : Thread Cert.QkvFwdIdeal.nD Cert.QkvFwdIdeal.τ).loc Cert.QkvFwdIdeal.main_arg5)
          ∧ r.2.mem ((c.tc : Thread Cert.QkvFwdIdeal.nD Cert.QkvFwdIdeal.τ).loc Cert.QkvFwdIdeal.main_arg6) = m ((c.tc : Thread Cert.QkvFwdIdeal.nD Cert.QkvFwdIdeal.τ).loc Cert.QkvFwdIdeal.main_arg6))
      ∧ θ_run (Cert.QkvFwdReferenceIdeal.defs (F := Ideal)) (onTc (τ := Cert.QkvFwdReferenceIdeal.τ) (Cert.QkvFwdReferenceIdeal.main (F := Ideal))) ⟨m', fun _ => 0, g'⟩ (fun r => ∀ c : Dev Cert.QkvFwdReferenceIdeal.nD,
          r.2.mem ((c.tc : Thread Cert.QkvFwdReferenceIdeal.nD Cert.QkvFwdReferenceIdeal.τ).loc Cert.QkvFwdReferenceIdeal.main_v71) = v0 c
          ∧ r.2.mem ((c.tc : Thread Cert.QkvFwdReferenceIdeal.nD Cert.QkvFwdReferenceIdeal.τ).loc Cert.QkvFwdReferenceIdeal.main_v72) = v1 c
          ∧ r.2.mem ((c.tc : Thread Cert.QkvFwdReferenceIdeal.nD Cert.QkvFwdReferenceIdeal.τ).loc Cert.QkvFwdReferenceIdeal.main_v74) = v2 c
          ∧ r.2.mem ((c.tc : Thread Cert.QkvFwdReferenceIdeal.nD Cert.QkvFwdReferenceIdeal.τ).loc Cert.QkvFwdReferenceIdeal.main_arg0) = m' ((c.tc : Thread Cert.QkvFwdReferenceIdeal.nD Cert.QkvFwdReferenceIdeal.τ).loc Cert.QkvFwdReferenceIdeal.main_arg0)
          ∧ r.2.mem ((c.tc : Thread Cert.QkvFwdReferenceIdeal.nD Cert.QkvFwdReferenceIdeal.τ).loc Cert.QkvFwdReferenceIdeal.main_arg1) = m' ((c.tc : Thread Cert.QkvFwdReferenceIdeal.nD Cert.QkvFwdReferenceIdeal.τ).loc Cert.QkvFwdReferenceIdeal.main_arg1)
          ∧ r.2.mem ((c.tc : Thread Cert.QkvFwdReferenceIdeal.nD Cert.QkvFwdReferenceIdeal.τ).loc Cert.QkvFwdReferenceIdeal.main_arg2) = m' ((c.tc : Thread Cert.QkvFwdReferenceIdeal.nD Cert.QkvFwdReferenceIdeal.τ).loc Cert.QkvFwdReferenceIdeal.main_arg2)
          ∧ r.2.mem ((c.tc : Thread Cert.QkvFwdReferenceIdeal.nD Cert.QkvFwdReferenceIdeal.τ).loc Cert.QkvFwdReferenceIdeal.main_arg3) = m' ((c.tc : Thread Cert.QkvFwdReferenceIdeal.nD Cert.QkvFwdReferenceIdeal.τ).loc Cert.QkvFwdReferenceIdeal.main_arg3)
          ∧ r.2.mem ((c.tc : Thread Cert.QkvFwdReferenceIdeal.nD Cert.QkvFwdReferenceIdeal.τ).loc Cert.QkvFwdReferenceIdeal.main_arg4) = m' ((c.tc : Thread Cert.QkvFwdReferenceIdeal.nD Cert.QkvFwdReferenceIdeal.τ).loc Cert.QkvFwdReferenceIdeal.main_arg4)
          ∧ r.2.mem ((c.tc : Thread Cert.QkvFwdReferenceIdeal.nD Cert.QkvFwdReferenceIdeal.τ).loc Cert.QkvFwdReferenceIdeal.main_arg5) = m' ((c.tc : Thread Cert.QkvFwdReferenceIdeal.nD Cert.QkvFwdReferenceIdeal.τ).loc Cert.QkvFwdReferenceIdeal.main_arg5)
          ∧ r.2.mem ((c.tc : Thread Cert.QkvFwdReferenceIdeal.nD Cert.QkvFwdReferenceIdeal.τ).loc Cert.QkvFwdReferenceIdeal.main_arg6) = m' ((c.tc : Thread Cert.QkvFwdReferenceIdeal.nD Cert.QkvFwdReferenceIdeal.τ).loc Cert.QkvFwdReferenceIdeal.main_arg6))

def Claim : Prop :=
  ∃ (hKernel : Cert.Kernel.Facts) (hKernelIdeal : Cert.KernelIdeal.Facts) (hReferenceIdeal : Cert.ReferenceIdeal.Facts) (hInprojBwd : Cert.InprojBwd.Facts) (hInprojBwdIdeal : Cert.InprojBwdIdeal.Facts) (hInprojBwdReferenceIdeal : Cert.InprojBwdReferenceIdeal.Facts) (hProjABwd : Cert.ProjABwd.Facts) (hProjABwdIdeal : Cert.ProjABwdIdeal.Facts) (hProjABwdReferenceIdeal : Cert.ProjABwdReferenceIdeal.Facts) (hProjBBwd : Cert.ProjBBwd.Facts) (hProjBBwdIdeal : Cert.ProjBBwdIdeal.Facts) (hProjBBwdReferenceIdeal : Cert.ProjBBwdReferenceIdeal.Facts) (hProjCBwd : Cert.ProjCBwd.Facts) (hProjCBwdIdeal : Cert.ProjCBwdIdeal.Facts) (hProjCBwdReferenceIdeal : Cert.ProjCBwdReferenceIdeal.Facts) (hInprojFwd : Cert.InprojFwd.Facts) (hInprojFwdIdeal : Cert.InprojFwdIdeal.Facts) (hInprojFwdReferenceIdeal : Cert.InprojFwdReferenceIdeal.Facts) (hAttnFwd : Cert.AttnFwd.Facts) (hAttnFwdIdeal : Cert.AttnFwdIdeal.Facts) (hAttnFwdReferenceIdeal : Cert.AttnFwdReferenceIdeal.Facts) (hOutFwd : Cert.OutFwd.Facts) (hOutFwdIdeal : Cert.OutFwdIdeal.Facts) (hOutFwdReferenceIdeal : Cert.OutFwdReferenceIdeal.Facts) (hQkvFwd : Cert.QkvFwd.Facts) (hQkvFwdIdeal : Cert.QkvFwdIdeal.Facts) (hQkvFwdReferenceIdeal : Cert.QkvFwdReferenceIdeal.Facts) (hPre_finite_inputs : Cert.Pre_finite_inputs.Facts) (hPre_finite_gate : Cert.Pre_finite_gate.Facts) (hPre_finite_forward : Cert.Pre_finite_forward.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_InprojBwd (hInprojBwd := hInprojBwd)
    ∧ quiescent_InprojBwdIdeal (hInprojBwdIdeal := hInprojBwdIdeal)
    ∧ quiescent_InprojBwdReferenceIdeal (hInprojBwdReferenceIdeal := hInprojBwdReferenceIdeal)
    ∧ quiescent_ProjABwd (hProjABwd := hProjABwd)
    ∧ quiescent_ProjABwdIdeal (hProjABwdIdeal := hProjABwdIdeal)
    ∧ quiescent_ProjABwdReferenceIdeal (hProjABwdReferenceIdeal := hProjABwdReferenceIdeal)
    ∧ quiescent_ProjBBwd (hProjBBwd := hProjBBwd)
    ∧ quiescent_ProjBBwdIdeal (hProjBBwdIdeal := hProjBBwdIdeal)
    ∧ quiescent_ProjBBwdReferenceIdeal (hProjBBwdReferenceIdeal := hProjBBwdReferenceIdeal)
    ∧ quiescent_ProjCBwd (hProjCBwd := hProjCBwd)
    ∧ quiescent_ProjCBwdIdeal (hProjCBwdIdeal := hProjCBwdIdeal)
    ∧ quiescent_ProjCBwdIdeal_pre_finite_gate (hProjCBwdIdeal := hProjCBwdIdeal) (hPre_finite_gate := hPre_finite_gate)
    ∧ quiescent_ProjCBwdReferenceIdeal (hProjCBwdReferenceIdeal := hProjCBwdReferenceIdeal)
    ∧ quiescent_ProjCBwdReferenceIdeal_pre_finite_gate (hProjCBwdReferenceIdeal := hProjCBwdReferenceIdeal) (hPre_finite_gate := hPre_finite_gate)
    ∧ quiescent_InprojFwd (hInprojFwd := hInprojFwd)
    ∧ quiescent_InprojFwdIdeal (hInprojFwdIdeal := hInprojFwdIdeal)
    ∧ quiescent_InprojFwdReferenceIdeal (hInprojFwdReferenceIdeal := hInprojFwdReferenceIdeal)
    ∧ quiescent_AttnFwd (hAttnFwd := hAttnFwd)
    ∧ quiescent_AttnFwdIdeal (hAttnFwdIdeal := hAttnFwdIdeal)
    ∧ quiescent_AttnFwdIdeal_pre_finite_forward (hAttnFwdIdeal := hAttnFwdIdeal) (hPre_finite_forward := hPre_finite_forward)
    ∧ quiescent_AttnFwdReferenceIdeal (hAttnFwdReferenceIdeal := hAttnFwdReferenceIdeal)
    ∧ quiescent_AttnFwdReferenceIdeal_pre_finite_forward (hAttnFwdReferenceIdeal := hAttnFwdReferenceIdeal) (hPre_finite_forward := hPre_finite_forward)
    ∧ quiescent_OutFwd (hOutFwd := hOutFwd)
    ∧ quiescent_OutFwdIdeal (hOutFwdIdeal := hOutFwdIdeal)
    ∧ quiescent_OutFwdReferenceIdeal (hOutFwdReferenceIdeal := hOutFwdReferenceIdeal)
    ∧ quiescent_QkvFwd (hQkvFwd := hQkvFwd)
    ∧ quiescent_QkvFwdIdeal (hQkvFwdIdeal := hQkvFwdIdeal)
    ∧ quiescent_QkvFwdReferenceIdeal (hQkvFwdReferenceIdeal := hQkvFwdReferenceIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_InprojBwd_InprojBwdIdeal
    ∧ algebraic_InprojBwdIdeal_InprojBwdReferenceIdeal (hInprojBwdIdeal := hInprojBwdIdeal) (hInprojBwdReferenceIdeal := hInprojBwdReferenceIdeal)
    ∧ preserves_ProjABwd_ProjABwdIdeal
    ∧ algebraic_ProjABwdIdeal_ProjABwdReferenceIdeal (hProjABwdIdeal := hProjABwdIdeal) (hProjABwdReferenceIdeal := hProjABwdReferenceIdeal)
    ∧ preserves_ProjBBwd_ProjBBwdIdeal
    ∧ algebraic_ProjBBwdIdeal_ProjBBwdReferenceIdeal (hProjBBwdIdeal := hProjBBwdIdeal) (hProjBBwdReferenceIdeal := hProjBBwdReferenceIdeal)
    ∧ preserves_ProjCBwd_ProjCBwdIdeal
    ∧ algebraic_ProjCBwdIdeal_ProjCBwdReferenceIdeal_pre_finite_gate (hProjCBwdIdeal := hProjCBwdIdeal) (hProjCBwdReferenceIdeal := hProjCBwdReferenceIdeal) (hPre_finite_gate := hPre_finite_gate)
    ∧ preserves_InprojFwd_InprojFwdIdeal
    ∧ algebraic_InprojFwdIdeal_InprojFwdReferenceIdeal (hInprojFwdIdeal := hInprojFwdIdeal) (hInprojFwdReferenceIdeal := hInprojFwdReferenceIdeal)
    ∧ preserves_AttnFwd_AttnFwdIdeal
    ∧ algebraic_AttnFwdIdeal_AttnFwdReferenceIdeal_pre_finite_forward (hAttnFwdIdeal := hAttnFwdIdeal) (hAttnFwdReferenceIdeal := hAttnFwdReferenceIdeal) (hPre_finite_forward := hPre_finite_forward)
    ∧ preserves_OutFwd_OutFwdIdeal
    ∧ algebraic_OutFwdIdeal_OutFwdReferenceIdeal (hOutFwdIdeal := hOutFwdIdeal) (hOutFwdReferenceIdeal := hOutFwdReferenceIdeal)
    ∧ preserves_QkvFwd_QkvFwdIdeal
    ∧ algebraic_QkvFwdIdeal_QkvFwdReferenceIdeal (hQkvFwdIdeal := hQkvFwdIdeal) (hQkvFwdReferenceIdeal := hQkvFwdReferenceIdeal)
-- ==== Pre_finite_forward.lean ====
abbrev S8x2048x192 : Shape := ⟨3, ![8, 2048, 192]⟩
abbrev S8x2048x128 : Shape := ⟨3, ![8, 2048, 128]⟩
abbrev S2048x10752 : Shape := ⟨2, ![2048, 10752]⟩
abbrev S_ : Shape := ⟨0, ![]⟩

class Facts : Prop where
  bcast_S_S8x2048x192 : S_.BroadcastsInDim S8x2048x192 (![] : Fin 0 → Fin S8x2048x192.rank)
  reducesTo_S8x2048x192_S_d0_1_2 : S8x2048x192.ReducesTo [0, 1, 2] S_
  h_S_ : 0 < S_.numel

variable [Facts]

def fn {F : FTy → Type} [FloatOps F] (main_arg0 : FVec F S8x2048x192 .f32) (main_arg1 : FVec F S8x2048x192 .f32) (main_arg2 : FVec F S8x2048x128 .f32) (main_arg3 : FVec F S2048x10752 .f32) : IVec S_ 1 :=
  let main_v0 : FVec F S8x2048x192 .f32 := Host.absf main_arg0
  let main_cst : FVec F S_ .f32 := constant S_ .f32 0x7F800000#32
  let main_v1 : FVec F S8x2048x192 .f32 := broadcastInDim S8x2048x192 ![] bcast_S_S8x2048x192 main_cst
  let main_v2 : IVec S8x2048x192 1 := cmpf .olt main_v0 main_v1
  let main_c : IVec S_ 1 := constantI S_ 1 1#1
  let main_v3 : IVec S_ 1 := (fun x v => Host.reduce IntOp.andi x v reducesTo_S8x2048x192_S_d0_1_2 h_S_) main_v2 main_c
  let main_v4 : FVec F S8x2048x192 .f32 := Host.absf main_arg1
  let main_cst_0 : FVec F S_ .f32 := constant S_ .f32 0x7F800000#32
  let main_v5 : FVec F S8x2048x192 .f32 := broadcastInDim S8x2048x192 ![] bcast_S_S8x2048x192 main_cst_0
  let main_v6 : IVec S8x2048x192 1 := cmpf .olt main_v4 main_v5
  let main_c_1 : IVec S_ 1 := constantI S_ 1 1#1
  let main_v7 : IVec S_ 1 := (fun x v => Host.reduce IntOp.andi x v reducesTo_S8x2048x192_S_d0_1_2 h_S_) main_v6 main_c_1
  let main_v8 : IVec S_ 1 := andi main_v3 main_v7
  main_v8
-- ==== Pre_finite_gate.lean ====
abbrev S2048x1280 : Shape := ⟨2, ![2048, 1280]⟩
abbrev S2048x1024 : Shape := ⟨2, ![2048, 1024]⟩
abbrev S1x1280x1024 : Shape := ⟨3, ![1, 1280, 1024]⟩
abbrev S2048x10752 : Shape := ⟨2, ![2048, 10752]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1280x1024 : S_.BroadcastsInDim S1x1280x1024 (![] : Fin 0 → Fin S1x1280x1024.rank)
  reducesTo_S1x1280x1024_S_d0_1_2 : S1x1280x1024.ReducesTo [0, 1, 2] S_
  bcast_S_S2048x1280 : S_.BroadcastsInDim S2048x1280 (![] : Fin 0 → Fin S2048x1280.rank)
  reducesTo_S2048x1280_S_d0_1 : S2048x1280.ReducesTo [0, 1] S_

variable [Facts]

def fn {F : FTy → Type} [FloatOps F] (main_arg0 : FVec F S2048x1280 .f32) (main_arg1 : FVec F S2048x1024 .bf16) (main_arg2 : FVec F S1x1280x1024 .bf16) (main_arg3 : FVec F S2048x10752 .bf16) (main_arg4 : FVec F S2048x1280 .f32) (main_arg5 : FVec F S2048x10752 .f32) : IVec S_ 1 :=
  let main_v0 : FVec F S2048x1024 .f32 := (extf .f32 · bitsLt_bf16_f32) main_arg1
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S1x1280x1024 .f32 := (extf .f32 · bitsLt_bf16_f32) main_arg2
  let main_v6 : FVec F S1x1280x1024 .f32 := Host.absf main_v5
  let main_cst_0 : FVec F S_ .f32 := constant S_ .f32 0x7F800000#32
  let main_v7 : FVec F S1x1280x1024 .f32 := broadcastInDim S1x1280x1024 ![] bcast_S_S1x1280x1024 main_cst_0
  let main_v8 : IVec S1x1280x1024 1 := cmpf .olt main_v6 main_v7
  let main_c_1 : IVec S_ 1 := constantI S_ 1 1#1
  let main_v9 : IVec S_ 1 := (fun x v => Host.reduce IntOp.andi x v reducesTo_S1x1280x1024_S_d0_1_2 h_S_) main_v8 main_c_1
  let main_v10 : IVec S_ 1 := andi main_v4 main_v9
  let main_v11 : FVec F S2048x1280 .f32 := Host.absf main_arg4
  let main_cst_2 : FVec F S_ .f32 := constant S_ .f32 0x7F800000#32
  let main_v12 : FVec F S2048x1280 .f32 := broadcastInDim S2048x1280 ![] bcast_S_S2048x1280 main_cst_2
  let main_v13 : IVec S2048x1280 1 := cmpf .olt main_v11 main_v12
  let main_c_3 : IVec S_ 1 := constantI S_ 1 1#1
  let main_v14 : IVec S_ 1 := (fun x v => Host.reduce IntOp.andi x v reducesTo_S2048x1280_S_d0_1 h_S_) main_v13 main_c_3
  let main_v15 : IVec S_ 1 := andi main_v10 main_v14
  main_v15
-- ==== Pre_finite_inputs.lean ====
abbrev S8x2048x192 : Shape := ⟨3, ![8, 2048, 192]⟩
abbrev S8x2048x128 : Shape := ⟨3, ![8, 2048, 128]⟩
abbrev S2048x10752 : Shape := ⟨2, ![2048, 10752]⟩
abbrev S2048x1024 : Shape := ⟨2, ![2048, 1024]⟩
abbrev S_ : Shape := ⟨0, ![]⟩

class Facts : Prop where
  slices_S2048x10752_S2048x1024_0_3840 : S2048x10752.Slices ![0, 3840] S2048x1024
  bcast_S_S8x2048x192 : S_.BroadcastsInDim S8x2048x192 (![] : Fin 0 → Fin S8x2048x192.rank)
  reducesTo_S8x2048x192_S_d0_1_2 : S8x2048x192.ReducesTo [0, 1, 2] S_
  h_S_ : 0 < S_.numel
  bcast_S_S8x2048x128 : S_.BroadcastsInDim S8x2048x128 (![] : Fin 0 → Fin S8x2048x128.rank)
  reducesTo_S8x2048x128_S_d0_1_2 : S8x2048x128.ReducesTo [0, 1, 2] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_arg4 : FVec F S2048x1024 .f32) (main_v14 : IVec S_ 1) (main_v15 : FVec F S2048x1024 .f32) (main_v16 : FVec F S2048x1024 .f32) : IVec S_ 1 :=
  let main_v17 : IVec S2048x1024 1 := cmpf .olt main_v15 main_v16
  let main_c_5 : IVec S_ 1 := constantI S_ 1 1#1
  let main_v18 : IVec S_ 1 := (fun x v => Host.reduce IntOp.andi x v reducesTo_S2048x1024_S_d0_1 h_S_) main_v17 main_c_5
  let main_v19 : IVec S_ 1 := andi main_v14 main_v18
  let main_v20 : FVec F S2048x1024 .f32 := Host.absf main_arg4
  let main_cst_6 : FVec F S_ .f32 := constant S_ .f32 0x7F800000#32
  let main_v21 : FVec F S2048x1024 .f32 := broadcastInDim S2048x1024 ![] bcast_S_S2048x1024 main_cst_6
  let main_v22 : IVec S2048x1024 1 := cmpf .olt main_v20 main_v21
  let main_c_7 : IVec S_ 1 := constantI S_ 1 1#1
  let main_v23 : IVec S_ 1 := (fun x v => Host.reduce IntOp.andi x v reducesTo_S2048x1024_S_d0_1 h_S_) main_v22 main_c_7
  let main_v24 : IVec S_ 1 := andi main_v19 main_v23
  main_v24

def fn {F : FTy → Type} [FloatOps F] (main_arg0 : FVec F S8x2048x192 .f32) (main_arg1 : FVec F S8x2048x192 .f32) (main_arg2 : FVec F S8x2048x128 .f32) (main_arg3 : FVec F S2048x10752 .f32) (main_arg4 : FVec F S2048x1024 .f32) (main_arg5 : FVec F S2048x10752 .bf16) : IVec S_ 1 :=
  let main_v0 : FVec F S2048x1024 .f32 := (extractStridedSlice S2048x1024 ![0, 3840] · slices_S2048x10752_S2048x1024_0_3840) main_arg3
  let main_v1 : FVec F S8x2048x192 .f32 := Host.absf main_arg0
  let main_cst : FVec F S_ .f32 := constant S_ .f32 0x7F800000#32
  let main_v2 : FVec F S8x2048x192 .f32 := broadcastInDim S8x2048x192 ![] bcast_S_S8x2048x192 main_cst
  let main_v3 : IVec S8x2048x192 1 := cmpf .olt main_v1 main_v2
  let main_c : IVec S_ 1 := constantI S_ 1 1#1
  let main_v4 : IVec S_ 1 := (fun x v => Host.reduce IntOp.andi x v reducesTo_S8x2048x192_S_d0_1_2 h_S_) main_v3 main_c
  let main_v5 : FVec F S8x2048x192 .f32 := Host.absf main_arg1
  let main_cst_0 : FVec F S_ .f32 := constant S_ .f32 0x7F800000#32
  let main_v6 : FVec F S8x2048x192 .f32 := broadcastInDim S8x2048x192 ![] bcast_S_S8x2048x192 main_cst_0
  let main_v7 : IVec S8x2048x192 1 := cmpf .olt main_v5 main_v6
  let main_c_1 : IVec S_ 1 := constantI S_ 1 1#1
  let main_v8 : IVec S_ 1 := (fun x v => Host.reduce IntOp.andi x v reducesTo_S8x2048x192_S_d0_1_2 h_S_) main_v7 main_c_1
  let main_v9 : IVec S_ 1 := andi main_v4 main_v8
  let main_v10 : FVec F S8x2048x128 .f32 := Host.absf main_arg2
  let main_cst_2 : FVec F S_ .f32 := constant S_ .f32 0x7F800000#32
  let main_v11 : FVec F S8x2048x128 .f32 := broadcastInDim S8x2048x128 ![] bcast_S_S8x2048x128 main_cst_2
  let main_v12 : IVec S8x2048x128 1 := cmpf .olt main_v10 main_v11
  let main_c_3 : IVec S_ 1 := constantI S_ 1 1#1
  let main_v13 : IVec S_ 1 := (fun x v => Host.reduce IntOp.andi x v reducesTo_S8x2048x128_S_d0_1_2 h_S_) main_v12 main_c_3
  let main_v14 : IVec S_ 1 := andi main_v9 main_v13
  let main_v15 : FVec F S2048x1024 .f32 := Host.absf main_v0
  let main_cst_4 : FVec F S_ .f32 := constant S_ .f32 0x7F800000#32
  let main_v16 : FVec F S2048x1024 .f32 := broadcastInDim S2048x1024 ![] bcast_S_S2048x1024 main_cst_4
  fn_part1 (F := F) main_arg4 main_v14 main_v15 main_v16
-- ==== Kernel.lean ====
abbrev S8x2048x192 : Shape := ⟨3, ![8, 2048, 192]⟩
abbrev S8x2048x128 : Shape := ⟨3, ![8, 2048, 128]⟩
abbrev S2048x10752 : Shape := ⟨2, ![2048, 10752]⟩
abbrev S2048x1024 : Shape := ⟨2, ![2048, 1024]⟩
abbrev S1x512x192 : Shape := ⟨3, ![1, 512, 192]⟩
abbrev S1x2048x192 : Shape := ⟨3, ![1, 2048, 192]⟩
abbrev S1x2048x128 : Shape := ⟨3, ![1, 2048, 128]⟩
abbrev S512x128 : Shape := ⟨2, ![512, 128]⟩
abbrev S2048x192 : Shape := ⟨2, ![2048, 192]⟩
abbrev S2048x128 : Shape := ⟨2, ![2048, 128]⟩
abbrev S512x192 : Shape := ⟨2, ![512, 192]⟩
abbrev S1x512x128 : Shape := ⟨3, ![1, 512, 128]⟩
abbrev S512x512 : Shape := ⟨2, ![512, 512]⟩
abbrev S512 : Shape := ⟨1, ![512]⟩
abbrev S512x1 : Shape := ⟨2, ![512, 1]⟩
abbrev S1x1024x192 : Shape := ⟨3, ![1, 1024, 192]⟩
abbrev S1024x192 : Shape := ⟨2, ![1024, 192]⟩
abbrev S1x1024x128 : Shape := ⟨3, ![1, 1024, 128]⟩
abbrev S1024x128 : Shape := ⟨2, ![1024, 128]⟩
abbrev S512x1024 : Shape := ⟨2, ![512, 1024]⟩
abbrev S1x1536x192 : Shape := ⟨3, ![1, 1536, 192]⟩
abbrev S1536x192 : Shape := ⟨2, ![1536, 192]⟩
abbrev S1x1536x128 : Shape := ⟨3, ![1, 1536, 128]⟩
abbrev S1536x128 : Shape := ⟨2, ![1536, 128]⟩
abbrev S512x1536 : Shape := ⟨2, ![512, 1536]⟩

abbrev nBuf : Space → Nat
  | .hbm => 10
  | .vmem => 18
  | .smem => 0
  | _ => 0

abbrev bufTy : (tb : Table) → Fin (tcTables nBuf tb) → BufTy
  | .hbm, ⟨0, _⟩ => ⟨S8x2048x192, .f32⟩
  | .hbm, ⟨1, _⟩ => ⟨S8x2048x192, .f32⟩
  | .hbm, ⟨2, _⟩ => ⟨S8x2048x128, .f32⟩
  | .hbm, ⟨3, _⟩ => ⟨S2048x10752, .f32⟩
  | .hbm, ⟨4, _⟩ => ⟨S2048x1024, .f32⟩
  | .hbm, ⟨5, _⟩ => ⟨S2048x10752, .bf16⟩
  | .hbm, ⟨6, _⟩ => ⟨S8x2048x192, .f32⟩
  | .hbm, ⟨7, _⟩ => ⟨S8x2048x192, .f32⟩
  | .hbm, ⟨8, _⟩ => ⟨S8x2048x128, .f32⟩
  | .hbm, ⟨9, _⟩ => ⟨S2048x10752, .bf16⟩
  | .local _ .vmem, ⟨0, _⟩ => ⟨S1x512x192, .f32⟩
  | .local _ .vmem, ⟨1, _⟩ => ⟨S1x512x192, .f32⟩
  | .local _ .vmem, ⟨2, _⟩ => ⟨S1x2048x192, .f32⟩
  | .local _ .vmem, ⟨3, _⟩ => ⟨S1x2048x192, .f32⟩
  | .local _ .vmem, ⟨4, _⟩ => ⟨S1x2048x128, .f32⟩
  | .local _ .vmem, ⟨5, _⟩ => ⟨S1x2048x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x512x192, .f32⟩
  | .local _ .vmem, ⟨11, _⟩ => ⟨S1x512x192, .f32⟩
  | .local _ .vmem, ⟨12, _⟩ => ⟨S1x2048x192, .f32⟩
  | .local _ .vmem, ⟨13, _⟩ => ⟨S1x2048x192, .f32⟩
  | .local _ .vmem, ⟨14, _⟩ => ⟨S1x2048x128, .f32⟩
  | .local _ .vmem, ⟨15, _⟩ => ⟨S1x2048x128, .f32⟩
  | .local _ .vmem, ⟨16, _⟩ => ⟨S512x128, .bf16⟩
  | .local _ .vmem, ⟨17, _⟩ => ⟨S512x128, .bf16⟩
  | _, _ => ⟨S8x2048x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_4 : BitVec 32 := 0#32
  let v11 : BitVec 1 := Scalar.cmpi .ne v10 c0_i32_4
  v11

def k0_cond5 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_5 : BitVec 32 := 0#32
  let v14 : BitVec 1 := Scalar.cmpi .ne v13 c0_i32_5
  v14

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c30_i32 : BitVec 32 := 30#32
  let v0 : BitVec 32 := Scalar.addi c30_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c30_i32 : BitVec 32 := 30#32
  let v0 : BitVec 32 := Scalar.addi c30_i32 arg0
  let c0_i32 : BitVec 32 := 0#32
  ![arg1.toNat, v0.toNat]

abbrev stage0_0 : Fin 2 → Memref sig .tc .vmem S1x512x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x2048x192 : Shape := ⟨3, ![8, 2048, 192]⟩
abbrev S8x2048x128 : Shape := ⟨3, ![8, 2048, 128]⟩
abbrev S2048x10752 : Shape := ⟨2, ![2048, 10752]⟩
abbrev S2048x1024 : Shape := ⟨2, ![2048, 1024]⟩
abbrev S2048 : Shape := ⟨1, ![2048]⟩
abbrev S_ : Shape := ⟨0, ![]⟩
abbrev S8x2048x2048 : Shape := ⟨3, ![8, 2048, 2048]⟩
abbrev S1x2048 : Shape := ⟨2, ![1, 2048]⟩
abbrev S2048x1 : Shape := ⟨2, ![2048, 1]⟩
abbrev S2048x2048 : Shape := ⟨2, ![2048, 2048]⟩
abbrev S1x2048x2048 : Shape := ⟨3, ![1, 2048, 2048]⟩
abbrev S8x2048 : Shape := ⟨2, ![8, 2048]⟩
abbrev S8x2048x1 : Shape := ⟨3, ![8, 2048, 1]⟩
abbrev S8x128x2048 : Shape := ⟨3, ![8, 128, 2048]⟩
abbrev S2048x8x128 : Shape := ⟨3, ![2048, 8, 128]⟩

abbrev nBuf : Space → Nat
  | .hbm => 135
  | .vmem => 0
  | .smem => 0
  | _ => 0

abbrev hbmTy0_0 (i : Nat) : BufTy := match i % 128 with
  | 0 => ⟨S8x2048x192, .f32⟩
  | 1 => ⟨S8x2048x192, .f32⟩
  | 2 => ⟨S8x2048x128, .f32⟩
  | 3 => ⟨S2048x10752, .f32⟩
  | 4 => ⟨S2048x1024, .f32⟩
  | 5 => ⟨S2048x10752, .bf16⟩
  | 6 => ⟨S2048x1024, .f32⟩
  | 7 => ⟨S2048, .i32⟩
  | 8 => ⟨S_, .i32⟩
  | 9 => ⟨S_, .i32⟩
  | 10 => ⟨S2048, .i32⟩
  | 11 => ⟨S2048, .i32⟩
  | 12 => ⟨S2048, .i32⟩
  | 13 => ⟨S_, .i32⟩
  | 14 => ⟨S2048, .i32⟩
  | 15 => ⟨S2048, .i1⟩
  | 16 => ⟨S2048, .i32⟩
  | 17 => ⟨S2048, .i32⟩
  | 18 => ⟨S_, .i32⟩
  | 19 => ⟨S2048, .i32⟩
  | 20 => ⟨S2048, .i1⟩
  | 21 => ⟨S2048, .i1⟩
  | 22 => ⟨S_, .i32⟩
  | 23 => ⟨S2048, .i32⟩
  | 24 => ⟨S2048, .i32⟩
  | 25 => ⟨S2048, .i32⟩
  | 26 => ⟨S8x2048x2048, .f32⟩
  | 27 => ⟨S_, .f32⟩
  | 28 => ⟨S8x2048x2048, .f32⟩
  | 29 => ⟨S8x2048x2048, .f32⟩
  | 30 => ⟨S1x2048, .i32⟩
  | 31 => ⟨S2048x1, .i32⟩
  | 32 => ⟨S2048x2048, .i32⟩
  | 33 => ⟨S2048x2048, .i32⟩
  | 34 => ⟨S2048x2048, .i1⟩
  | 35 => ⟨S1x2048x2048, .i1⟩
  | 36 => ⟨S_, .f32⟩
  | 37 => ⟨S_, .f32⟩
  | 38 => ⟨S8x2048x2048, .i1⟩
  | 39 => ⟨S8x2048x2048, .f32⟩
  | 40 => ⟨S8x2048x2048, .f32⟩
  | 41 => ⟨S_, .f32⟩
  | 42 => ⟨S8x2048x2048, .f32⟩
  | 43 => ⟨S_, .f32⟩
  | 44 => ⟨S8x2048, .f32⟩
  | 45 => ⟨S8x2048x1, .f32⟩
  | 46 => ⟨S8x2048x2048, .f32⟩
  | 47 => ⟨S8x2048x2048, .i1⟩
  | 48 => ⟨S8x2048x2048, .f32⟩
  | 49 => ⟨S_, .f32⟩
  | 50 => ⟨S8x2048, .f32⟩
  | 51 => ⟨S_, .f32⟩
  | 52 => ⟨S8x2048, .f32⟩
  | 53 => ⟨S8x2048, .f32⟩
  | 54 => ⟨S_, .f32⟩
  | 55 => ⟨S8x2048, .f32⟩
  | 56 => ⟨S8x2048, .i1⟩
  | 57 => ⟨S_, .f32⟩
  | 58 => ⟨S8x2048, .f32⟩
  | 59 => ⟨S8x2048, .i1⟩
  | 60 => ⟨S_, .f32⟩
  | 61 => ⟨S8x2048, .f32⟩
  | 62 => ⟨S_, .f32⟩
  | 63 => ⟨S8x2048, .f32⟩
  | 64 => ⟨S_, .f32⟩
  | 65 => ⟨S8x2048, .f32⟩
  | 66 => ⟨S8x2048, .f32⟩
  | 67 => ⟨S8x2048, .f32⟩
  | 68 => ⟨S8x2048x1, .f32⟩
  | 69 => ⟨S8x2048x2048, .f32⟩
  | 70 => ⟨S8x2048x2048, .f32⟩
  | 71 => ⟨S8x2048x2048, .f32⟩
  | 72 => ⟨S_, .f32⟩
  | 73 => ⟨S8x2048, .f32⟩
  | 74 => ⟨S8x2048x1, .f32⟩
  | 75 => ⟨S8x2048x2048, .f32⟩
  | 76 => ⟨S8x2048x2048, .f32⟩
  | 77 => ⟨S8x2048x1, .f32⟩
  | 78 => ⟨S_, .f32⟩
  | 79 => ⟨S8x2048x1, .f32⟩
  | 80 => ⟨S8x2048x1, .f32⟩
  | 81 => ⟨S8x128x2048, .f32⟩
  | 82 => ⟨S2048x8x128, .f32⟩
  | 83 => ⟨S2048x1024, .f32⟩
  | 84 => ⟨S2048x1024, .f32⟩
  | 85 => ⟨S2048x1024, .f32⟩
  | 86 => ⟨S_, .f32⟩
  | 87 => ⟨S2048x1024, .f32⟩
  | 88 => ⟨S2048x1024, .f32⟩
  | 89 => ⟨S_, .f32⟩
  | 90 => ⟨S2048x1024, .f32⟩
  | 91 => ⟨S2048x1024, .f32⟩
  | 92 => ⟨S_, .f32⟩
  | 93 => ⟨S2048x1024, .f32⟩
  | 94 => ⟨S2048x1024, .f32⟩
  | 95 => ⟨S2048x1024, .f32⟩
  | 96 => ⟨S2048x1024, .f32⟩
  | 97 => ⟨S2048x1024, .f32⟩
  | 98 => ⟨S2048x1024, .f32⟩
  | 99 => ⟨S2048x1024, .f32⟩
  | 100 => ⟨S2048x1024, .f32⟩
  | 101 => ⟨S2048x1024, .f32⟩
  | 102 => ⟨S2048x1024, .f32⟩
  | 103 => ⟨S2048x1024, .f32⟩
  | 104 => ⟨S2048x8x128, .f32⟩
  | 105 => ⟨S8x128x2048, .f32⟩
  | 106 => ⟨S8x2048x2048, .f32⟩
  | 107 => ⟨S8x128x2048, .f32⟩
  | 108 => ⟨S8x2048x128, .f32⟩
  | 109 => ⟨S8x2048x2048, .f32⟩
  | 110 => ⟨S8x2048x2048, .f32⟩
  | 111 => ⟨S8x2048x2048, .f32⟩
  | 112 => ⟨S_, .f32⟩
  | 113 => ⟨S8x2048, .f32⟩
  | 114 => ⟨S8x2048x1, .f32⟩
  | 115 => ⟨S8x2048x1, .f32⟩
  | 116 => ⟨S8x2048x2048, .f32⟩
  | 117 => ⟨S8x2048x2048, .f32⟩
  | 118 => ⟨S_, .f32⟩
  | 119 => ⟨S8x2048, .f32⟩
  | 120 => ⟨S8x2048x2048, .f32⟩
  | 121 => ⟨S8x2048x2048, .f32⟩
  | 122 => ⟨S8x2048x2048, .f32⟩
  | 123 => ⟨S_, .f32⟩
  | 124 => ⟨S8x2048x2048, .f32⟩
  | 125 => ⟨S8x2048x2048, .f32⟩
  | 126 => ⟨S_, .f32⟩
  | 127 => ⟨S8x2048x2048, .f32⟩
  | _ => ⟨S8x2048x192, .f32⟩

abbrev hbmTy0_1 (i : Nat) : BufTy := match i % 128 with
  | 0 => ⟨S8x2048x2048, .f32⟩
  | 1 => ⟨S8x2048x192, .f32⟩
  | 2 => ⟨S8x2048x192, .f32⟩
  | 3 => ⟨S2048x1024, .bf16⟩
  | 4 => ⟨S_, .i32⟩
  | 5 => ⟨S_, .i32⟩
  | 6 => ⟨S2048x10752, .bf16⟩
  | _ => ⟨S8x2048x192, .f32⟩

abbrev hbmTy (i : Nat) : BufTy := match i / 128 with
  | 0 => hbmTy0_0 i
  | 1 => hbmTy0_1 i
  | _ => ⟨S8x2048x192, .f32⟩

abbrev bufTy : (tb : Table) → Fin (tcTables nBuf tb) → BufTy
  | .hbm, ⟨i, _⟩ => hbmTy i
  | _, _ => ⟨S8x2048x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst_0 : Ref sig .tc := ⟨.hbm, 36, rfl⟩
abbrev main_call1_v0 : Ref sig .tc := ⟨.hbm, 37, rfl⟩
abbrev main_v12_1 : Ref sig .tc := ⟨.hbm, 38, rfl⟩
abbrev main_call1_v2 : Ref sig .tc := ⟨.hbm, 39, rfl⟩
abbrev main_v12_0 : Ref sig .tc := ⟨.hbm, 40, rfl⟩
abbrev main_call1_cst : Ref sig .tc := ⟨.hbm, 41, rfl⟩
abbrev main_v12_2 : Ref sig .tc := ⟨.hbm, 42, rfl⟩
abbrev main_cst_1 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_cst_2 : Ref sig .tc := ⟨.hbm, 49, rfl⟩
abbrev main_v18 : Ref sig .tc := ⟨.hbm, 50, rfl⟩
abbrev main_cst_3 : Ref sig .tc := ⟨.hbm, 51, rfl⟩
abbrev main_v19 : Ref sig .tc := ⟨.hbm, 52, rfl⟩
abbrev main_v20 : Ref sig .tc := ⟨.hbm, 53, rfl⟩
abbrev main_cst_4 : Ref sig .tc := ⟨.hbm, 54, rfl⟩
abbrev main_v21 : Ref sig .tc := ⟨.hbm, 55, rfl⟩
abbrev main_v22 : Ref sig .tc := ⟨.hbm, 56, rfl⟩
abbrev main_cst_5 : Ref sig .tc := ⟨.hbm, 57, rfl⟩
abbrev main_v23 : Ref sig .tc := ⟨.hbm, 58, rfl⟩
abbrev main_v24 : Ref sig .tc := ⟨.hbm, 59, rfl⟩
abbrev main_cst_6 : Ref sig .tc := ⟨.hbm, 60, rfl⟩
abbrev main_v25 : Ref sig .tc := ⟨.hbm, 61, rfl⟩
abbrev main_cst_7 : Ref sig .tc := ⟨.hbm, 62, rfl⟩
abbrev main_v26 : Ref sig .tc := ⟨.hbm, 63, rfl⟩
abbrev main_cst_8 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_cst_9 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_10 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_call2_v0 : Ref sig .tc := ⟨.hbm, 84, rfl⟩
abbrev main_call2_v1 : Ref sig .tc := ⟨.hbm, 85, rfl⟩
abbrev main_call2_cst : Ref sig .tc := ⟨.hbm, 86, rfl⟩
abbrev main_call2_v2 : Ref sig .tc := ⟨.hbm, 87, rfl⟩
abbrev main_call2_v3 : Ref sig .tc := ⟨.hbm, 88, rfl⟩
abbrev main_call2_cst_0 : Ref sig .tc := ⟨.hbm, 89, rfl⟩
abbrev main_call2_v4 : Ref sig .tc := ⟨.hbm, 90, rfl⟩
abbrev main_v44_2 : Ref sig .tc := ⟨.hbm, 91, rfl⟩
abbrev main_call2_cst_1 : Ref sig .tc := ⟨.hbm, 92, rfl⟩
abbrev main_call2_v6 : Ref sig .tc := ⟨.hbm, 93, rfl⟩
abbrev main_call2_v7 : Ref sig .tc := ⟨.hbm, 94, rfl⟩
abbrev main_v44_1 : Ref sig .tc := ⟨.hbm, 95, rfl⟩
abbrev main_v44_0 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_call3_v0 : Ref sig .tc := ⟨.hbm, 100, rfl⟩
abbrev main_call3_v1 : Ref sig .tc := ⟨.hbm, 101, rfl⟩
abbrev main_call3_v2 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_cst_11 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_cst_12 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_call4_cst : Ref sig .tc := ⟨.hbm, 123, rfl⟩
abbrev main_call4_v0 : Ref sig .tc := ⟨.hbm, 124, rfl⟩
abbrev main_v66 : Ref sig .tc := ⟨.hbm, 125, rfl⟩
abbrev main_cst_13 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_c_14 : Ref sig .tc := ⟨.hbm, 132, rfl⟩
abbrev main_c_15 : Ref sig .tc := ⟨.hbm, 133, rfl⟩
abbrev main_v72 : Ref sig .tc := ⟨.hbm, 134, rfl⟩

abbrev nD : Nat := 1
abbrev τ : Topo := Topo.v7x

variable {F : FTy → Type} [FloatOps F]
-- ==== InprojBwd.lean ====
abbrev S2048x10752 : Shape := ⟨2, ![2048, 10752]⟩
abbrev S2048x1024 : Shape := ⟨2, ![2048, 1024]⟩
abbrev S1x10752x1024 : Shape := ⟨3, ![1, 10752, 1024]⟩
abbrev S2048x768 : Shape := ⟨2, ![2048, 768]⟩
abbrev S1x768x1024 : Shape := ⟨3, ![1, 768, 1024]⟩
abbrev S768x1024 : Shape := ⟨2, ![768, 1024]⟩

abbrev nBuf : Space → Nat
  | .hbm => 5
  | .vmem => 8
  | .smem => 0
  | _ => 0

abbrev bufTy : (tb : Table) → Fin (tcTables nBuf tb) → BufTy
  | .hbm, ⟨0, _⟩ => ⟨S2048x10752, .bf16⟩
  | .hbm, ⟨1, _⟩ => ⟨S2048x1024, .bf16⟩
  | .hbm, ⟨2, _⟩ => ⟨S1x10752x1024, .bf16⟩
  | .hbm, ⟨3, _⟩ => ⟨S1x10752x1024, .f32⟩
  | .hbm, ⟨4, _⟩ => ⟨S2048x1024, .f32⟩
  | .local _ .vmem, ⟨0, _⟩ => ⟨S2048x768, .bf16⟩
  | .local _ .vmem, ⟨1, _⟩ => ⟨S2048x768, .bf16⟩
  | .local _ .vmem, ⟨2, _⟩ => ⟨S2048x1024, .bf16⟩
  | .local _ .vmem, ⟨3, _⟩ => ⟨S1x768x1024, .bf16⟩
  | .local _ .vmem, ⟨4, _⟩ => ⟨S1x768x1024, .bf16⟩
  | .local _ .vmem, ⟨5, _⟩ => ⟨S1x768x1024, .f32⟩
  | .local _ .vmem, ⟨6, _⟩ => ⟨S1x768x1024, .f32⟩
  | .local _ .vmem, ⟨7, _⟩ => ⟨S2048x1024, .f32⟩
  | _, _ => ⟨S2048x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![14], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_10 : BitVec 32 := 0#32
  let v13 : BitVec 1 := Scalar.cmpi .ne v12 c0_i32_10
  v13

def k0_cond2 (i : grid0.Coords) : BitVec 1 :=
  let arg0 : BitVec 32 := BitVec.ofNat 32 (i 0).val
  let c0_i32 : BitVec 32 := 0#32
  let v11 : BitVec 1 := Scalar.cmpi .eq arg0 c0_i32
  let v_true : BitVec 1 := 1#1
  let v14 : BitVec 1 := Scalar.xori v11 v_true
  let v15 : BitVec 32 := Scalar.extui v14
  let c0_i32_11 : BitVec 32 := 0#32
  let v16 : BitVec 1 := Scalar.cmpi .ne v15 c0_i32_11
  v16

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== InprojBwdReferenceIdeal.lean ====
abbrev S2048x10752 : Shape := ⟨2, ![2048, 10752]⟩
abbrev S2048x1024 : Shape := ⟨2, ![2048, 1024]⟩
abbrev S1x10752x1024 : Shape := ⟨3, ![1, 10752, 1024]⟩
abbrev S10752x1024 : Shape := ⟨2, ![10752, 1024]⟩
abbrev S1024x10752 : Shape := ⟨2, ![1024, 10752]⟩

abbrev nBuf : Space → Nat
  | .hbm => 14
  | .vmem => 0
  | .smem => 0
  | _ => 0

abbrev bufTy : (tb : Table) → Fin (tcTables nBuf tb) → BufTy
  | .hbm, ⟨0, _⟩ => ⟨S2048x10752, .bf16⟩
  | .hbm, ⟨1, _⟩ => ⟨S2048x1024, .bf16⟩
  | .hbm, ⟨2, _⟩ => ⟨S1x10752x1024, .bf16⟩
  | .hbm, ⟨3, _⟩ => ⟨S10752x1024, .bf16⟩
  | .hbm, ⟨4, _⟩ => ⟨S10752x1024, .f32⟩
  | .hbm, ⟨5, _⟩ => ⟨S1024x10752, .f32⟩
  | .hbm, ⟨6, _⟩ => ⟨S2048x1024, .f32⟩
  | .hbm, ⟨7, _⟩ => ⟨S2048x10752, .f32⟩
  | .hbm, ⟨8, _⟩ => ⟨S2048x10752, .f32⟩
  | .hbm, ⟨9, _⟩ => ⟨S10752x1024, .f32⟩
  | .hbm, ⟨10, _⟩ => ⟨S1024x10752, .f32⟩
  | .hbm, ⟨11, _⟩ => ⟨S2048x1024, .f32⟩
  | .hbm, ⟨12, _⟩ => ⟨S10752x1024, .f32⟩
  | .hbm, ⟨13, _⟩ => ⟨S1x10752x1024, .f32⟩
  | _, _ => ⟨S2048x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== ProjABwd.lean ====
abbrev S2048x1024 : Shape := ⟨2, ![2048, 1024]⟩
abbrev S1x1024x1024 : Shape := ⟨3, ![1, 1024, 1024]⟩
abbrev S2048x10752 : Shape := ⟨2, ![2048, 10752]⟩
abbrev S512x1024 : Shape := ⟨2, ![512, 1024]⟩
abbrev S512x256 : Shape := ⟨2, ![512, 256]⟩
abbrev S1024x1024 : Shape := ⟨2, ![1024, 1024]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1x1024x1024, .bf16⟩
  | .hbm, ⟨3, _⟩ => ⟨S2048x10752, .bf16⟩
  | .hbm, ⟨4, _⟩ => ⟨S2048x1024, .f32⟩
  | .hbm, ⟨5, _⟩ => ⟨S1x1024x1024, .f32⟩
  | .hbm, ⟨6, _⟩ => ⟨S2048x10752, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024x1024, .f32⟩
  | .local _ .vmem, ⟨8, _⟩ => ⟨S512x256, .bf16⟩
  | .local _ .vmem, ⟨9, _⟩ => ⟨S512x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_9 : BitVec 32 := 0#32
  let v12 : BitVec 1 := Scalar.cmpi .ne v11 c0_i32_9
  v12

def k0_cond2 (i : grid0.Coords) : BitVec 1 :=
  let arg0 : BitVec 32 := BitVec.ofNat 32 (i 0).val
  let c0_i32 : BitVec 32 := 0#32
  let v10 : BitVec 1 := Scalar.cmpi .eq arg0 c0_i32
  let v_true : BitVec 1 := 1#1
  let v13 : BitVec 1 := Scalar.xori v10 v_true
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c19_i32 : BitVec 32 := 19#32
  let c0_i32 : BitVec 32 := 0#32
  ![arg0.toNat, c19_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjABwdReferenceIdeal.lean ====
abbrev S2048x1024 : Shape := ⟨2, ![2048, 1024]⟩
abbrev S1x1024x1024 : Shape := ⟨3, ![1, 1024, 1024]⟩
abbrev S2048x10752 : Shape := ⟨2, ![2048, 10752]⟩
abbrev S1024x1024 : Shape := ⟨2, ![1024, 1024]⟩
abbrev S_ : Shape := ⟨0, ![]⟩
abbrev S2048x256 : Shape := ⟨2, ![2048, 256]⟩

abbrev nBuf : Space → Nat
  | .hbm => 17
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1x1024x1024, .bf16⟩
  | .hbm, ⟨3, _⟩ => ⟨S2048x10752, .bf16⟩
  | .hbm, ⟨4, _⟩ => ⟨S1024x1024, .bf16⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S1024x1024, .f32⟩
  | .hbm, ⟨9, _⟩ => ⟨S1024x1024, .f32⟩
  | .hbm, ⟨10, _⟩ => ⟨S2048x1024, .f32⟩
  | .hbm, ⟨11, _⟩ => ⟨S1x1024x1024, .f32⟩
  | .hbm, ⟨12, _⟩ => ⟨S_, .bf16⟩
  | .hbm, ⟨13, _⟩ => ⟨S2048x256, .bf16⟩
  | .hbm, ⟨14, _⟩ => ⟨S_, .i32⟩
  | .hbm, ⟨15, _⟩ => ⟨S_, .i32⟩
  | .hbm, ⟨16, _⟩ => ⟨S2048x10752, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_c : Ref sig .tc := ⟨.hbm, 14, rfl⟩
abbrev main_c_0 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== ProjBBwd.lean ====
abbrev S2048x1024 : Shape := ⟨2, ![2048, 1024]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1x1024x1024, .bf16⟩
  | .hbm, ⟨3, _⟩ => ⟨S2048x1024, .f32⟩
  | .hbm, ⟨4, _⟩ => ⟨S1x1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_9 : BitVec 32 := 0#32
  let v12 : BitVec 1 := Scalar.cmpi .ne v11 c0_i32_9
  v12

def k0_cond2 (i : grid0.Coords) : BitVec 1 :=
  let arg0 : BitVec 32 := BitVec.ofNat 32 (i 0).val
  let c0_i32 : BitVec 32 := 0#32
  let v10 : BitVec 1 := Scalar.cmpi .eq arg0 c0_i32
  let v_true : BitVec 1 := 1#1
  let v13 : BitVec 1 := Scalar.xori v10 v_true
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ProjBBwdReferenceIdeal.lean ====
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1x1024x1024, .bf16⟩
  | .hbm, ⟨3, _⟩ => ⟨S1024x1024, .bf16⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S2048x1024, .f32⟩
  | .hbm, ⟨10, _⟩ => ⟨S1x1024x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== ProjCBwd.lean ====
abbrev S2048x1280 : Shape := ⟨2, ![2048, 1280]⟩
abbrev S2048x1024 : Shape := ⟨2, ![2048, 1024]⟩
abbrev S1x1280x1024 : Shape := ⟨3, ![1, 1280, 1024]⟩
abbrev S2048x10752 : Shape := ⟨2, ![2048, 10752]⟩
abbrev S512x1280 : Shape := ⟨2, ![512, 1280]⟩
abbrev S512x1024 : Shape := ⟨2, ![512, 1024]⟩
abbrev S1280x1024 : Shape := ⟨2, ![1280, 1024]⟩

abbrev nBuf : Space → Nat
  | .hbm => 9
  | .vmem => 14
  | .smem => 0
  | _ => 0

abbrev bufTy : (tb : Table) → Fin (tcTables nBuf tb) → BufTy
  | .hbm, ⟨0, _⟩ => ⟨S2048x1280, .f32⟩
  | .hbm, ⟨1, _⟩ => ⟨S2048x1024, .bf16⟩
  | .hbm, ⟨2, _⟩ => ⟨S1x1280x1024, .bf16⟩
  | .hbm, ⟨3, _⟩ => ⟨S2048x10752, .bf16⟩
  | .hbm, ⟨4, _⟩ => ⟨S2048x1280, .f32⟩
  | .hbm, ⟨5, _⟩ => ⟨S2048x10752, .f32⟩
  | .hbm, ⟨6, _⟩ => ⟨S2048x1280, .f32⟩
  | .hbm, ⟨7, _⟩ => ⟨S1x1280x1024, .f32⟩
  | .hbm, ⟨8, _⟩ => ⟨S2048x10752, .bf16⟩
  | .local _ .vmem, ⟨0, _⟩ => ⟨S512x1280, .f32⟩
  | .local _ .vmem, ⟨1, _⟩ => ⟨S512x1280, .f32⟩
  | .local _ .vmem, ⟨2, _⟩ => ⟨S512x1024, .bf16⟩
  | .local _ .vmem, ⟨3, _⟩ => ⟨S512x1024, .bf16⟩
  | .local _ .vmem, ⟨4, _⟩ => ⟨S1x1280x1024, .bf16⟩
  | .local _ .vmem, ⟨5, _⟩ => ⟨S512x1280, .f32⟩
  | .local _ .vmem, ⟨6, _⟩ => ⟨S512x1280, .f32⟩
  | .local _ .vmem, ⟨7, _⟩ => ⟨S512x1280, .f32⟩
  | .local _ .vmem, ⟨8, _⟩ => ⟨S512x1280, .f32⟩
  | .local _ .vmem, ⟨9, _⟩ => ⟨S512x1280, .f32⟩
  | .local _ .vmem, ⟨10, _⟩ => ⟨S512x1280, .f32⟩
  | .local _ .vmem, ⟨11, _⟩ => ⟨S1x1280x1024, .f32⟩
  | .local _ .vmem, ⟨12, _⟩ => ⟨S512x1280, .bf16⟩
  | .local _ .vmem, ⟨13, _⟩ => ⟨S512x1280, .bf16⟩
  | _, _ => ⟨S2048x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_9 : BitVec 32 := 0#32
  let v12 : BitVec 1 := Scalar.cmpi .ne v11 c0_i32_9
  v12

def k0_cond2 (i : grid0.Coords) : BitVec 1 :=
  let arg0 : BitVec 32 := BitVec.ofNat 32 (i 0).val
  let c0_i32 : BitVec 32 := 0#32
  let v10 : BitVec 1 := Scalar.cmpi .eq arg0 c0_i32
  let v_true : BitVec 1 := 1#1
  let v13 : BitVec 1 := Scalar.xori v10 v_true
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

abbrev stage0_0 : Fin 2 → Memref sig .tc .vmem S512x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1280x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1280x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1280 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjCBwdReferenceIdeal.lean ====
abbrev S2048x1280 : Shape := ⟨2, ![2048, 1280]⟩
abbrev S2048x1024 : Shape := ⟨2, ![2048, 1024]⟩
abbrev S1x1280x1024 : Shape := ⟨3, ![1, 1280, 1024]⟩
abbrev S2048x10752 : Shape := ⟨2, ![2048, 10752]⟩
abbrev S1280x1024 : Shape := ⟨2, ![1280, 1024]⟩
abbrev S1024x1280 : Shape := ⟨2, ![1024, 1280]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2048x1280, .f32⟩
  | .hbm, ⟨1, _⟩ => ⟨S2048x1024, .bf16⟩
  | .hbm, ⟨2, _⟩ => ⟨S1x1280x1024, .bf16⟩
  | .hbm, ⟨3, _⟩ => ⟨S2048x10752, .bf16⟩
  | .hbm, ⟨4, _⟩ => ⟨S2048x1280, .f32⟩
  | .hbm, ⟨5, _⟩ => ⟨S2048x10752, .f32⟩
  | .hbm, ⟨6, _⟩ => ⟨S2048x1280, .f32⟩
  | .hbm, ⟨7, _⟩ => ⟨S1280x1024, .bf16⟩
  | .hbm, ⟨8, _⟩ => ⟨S1280x1024, .f32⟩
  | .hbm, ⟨9, _⟩ => ⟨S2048x1024, .f32⟩
  | .hbm, ⟨10, _⟩ => ⟨S2048x1024, .f32⟩
  | .hbm, ⟨11, _⟩ => ⟨S1024x1280, .f32⟩
  | .hbm, ⟨12, _⟩ => ⟨S1280x1024, .f32⟩
  | .hbm, ⟨13, _⟩ => ⟨S2048x1280, .f32⟩
  | .hbm, ⟨14, _⟩ => ⟨S2048x1280, .f32⟩
  | .hbm, ⟨15, _⟩ => ⟨S2048x1280, .f32⟩
  | .hbm, ⟨16, _⟩ => ⟨S_, .f32⟩
  | .hbm, ⟨17, _⟩ => ⟨S2048x1280, .f32⟩
  | .hbm, ⟨18, _⟩ => ⟨S2048x1280, .f32⟩
  | .hbm, ⟨19, _⟩ => ⟨S_, .f32⟩
  | .hbm, ⟨20, _⟩ => ⟨S2048x1280, .f32⟩
  | .hbm, ⟨21, _⟩ => ⟨S2048x1280, .f32⟩
  | .hbm, ⟨22, _⟩ => ⟨S_, .f32⟩
  | .hbm, ⟨23, _⟩ => ⟨S2048x1280, .f32⟩
  | .hbm, ⟨24, _⟩ => ⟨S2048x1280, .f32⟩
  | .hbm, ⟨25, _⟩ => ⟨S2048x1280, .f32⟩
  | .hbm, ⟨26, _⟩ => ⟨S2048x1280, .f32⟩
  | .hbm, ⟨27, _⟩ => ⟨S2048x1280, .f32⟩
  | .hbm, ⟨28, _⟩ => ⟨S2048x1280, .f32⟩
  | .hbm, ⟨29, _⟩ => ⟨S2048x1280, .f32⟩
  | .hbm, ⟨30, _⟩ => ⟨S2048x1280, .f32⟩
  | .hbm, ⟨31, _⟩ => ⟨S2048x1280, .f32⟩
  | .hbm, ⟨32, _⟩ => ⟨S2048x1280, .f32⟩
  | .hbm, ⟨33, _⟩ => ⟨S1x1280x1024, .f32⟩
  | .hbm, ⟨34, _⟩ => ⟨S2048x1280, .bf16⟩
  | .hbm, ⟨35, _⟩ => ⟨S_, .i32⟩
  | .hbm, ⟨36, _⟩ => ⟨S_, .i32⟩
  | .hbm, ⟨37, _⟩ => ⟨S2048x10752, .bf16⟩
  | _, _ => ⟨S2048x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v8_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v8_1 : Ref sig .tc := ⟨.hbm, 25, rfl⟩
abbrev main_v8_0 : Ref sig .tc := ⟨.hbm, 26, rfl⟩
abbrev main_v9 : Ref sig .tc := ⟨.hbm, 27, rfl⟩
abbrev main_v10 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c : Ref sig .tc := ⟨.hbm, 35, rfl⟩
abbrev main_c_0 : Ref sig .tc := ⟨.hbm, 36, rfl⟩
abbrev main_v14 : Ref sig .tc := ⟨.hbm, 37, rfl⟩

abbrev nD : Nat := 1
abbrev τ : Topo := Topo.v7x

variable {F : FTy → Type} [FloatOps F]
-- ==== InprojFwd.lean ====
abbrev S2048x1024 : Shape := ⟨2, ![2048, 1024]⟩
abbrev S1x1024 : Shape := ⟨2, ![1, 1024]⟩
abbrev S1x10752x1024 : Shape := ⟨3, ![1, 10752, 1024]⟩
abbrev S2048x10752 : Shape := ⟨2, ![2048, 10752]⟩
abbrev S1x768x1024 : Shape := ⟨3, ![1, 768, 1024]⟩
abbrev S2048x768 : Shape := ⟨2, ![2048, 768]⟩
abbrev S2048 : Shape := ⟨1, ![2048]⟩
abbrev S2048x1 : Shape := ⟨2, ![2048, 1]⟩
abbrev S768x1024 : Shape := ⟨2, ![768, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x10752x1024, .bf16⟩
  | .hbm, ⟨3, _⟩ => ⟨S2048x10752, .f32⟩
  | .hbm, ⟨4, _⟩ => ⟨S2048x1024, .bf16⟩
  | .local _ .vmem, ⟨0, _⟩ => ⟨S2048x1024, .f32⟩
  | .local _ .vmem, ⟨1, _⟩ => ⟨S1x1024, .f32⟩
  | .local _ .vmem, ⟨2, _⟩ => ⟨S1x768x1024, .bf16⟩
  | .local _ .vmem, ⟨3, _⟩ => ⟨S1x768x1024, .bf16⟩
  | .local _ .vmem, ⟨4, _⟩ => ⟨S2048x768, .f32⟩
  | .local _ .vmem, ⟨5, _⟩ => ⟨S2048x768, .f32⟩
  | .local _ .vmem, ⟨6, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![14], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== InprojFwdReferenceIdeal.lean ====
abbrev S2048x1024 : Shape := ⟨2, ![2048, 1024]⟩
abbrev S1x1024 : Shape := ⟨2, ![1, 1024]⟩
abbrev S1x10752x1024 : Shape := ⟨3, ![1, 10752, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S10752x1024 : Shape := ⟨2, ![10752, 1024]⟩
abbrev S1024x10752 : Shape := ⟨2, ![1024, 10752]⟩
abbrev S2048x10752 : Shape := ⟨2, ![2048, 10752]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x10752x1024, .bf16⟩
  | .hbm, ⟨3, _⟩ => ⟨S1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S10752x1024, .bf16⟩
  | .hbm, ⟨21, _⟩ => ⟨S1024x10752, .bf16⟩
  | .hbm, ⟨22, _⟩ => ⟨S1024x10752, .f32⟩
  | .hbm, ⟨23, _⟩ => ⟨S2048x10752, .f32⟩
  | .hbm, ⟨24, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== AttnFwd.lean ====
abbrev S8x2048x192 : Shape := ⟨3, ![8, 2048, 192]⟩
abbrev S8x2048x128 : Shape := ⟨3, ![8, 2048, 128]⟩
abbrev S2048x10752 : Shape := ⟨2, ![2048, 10752]⟩
abbrev S2048x1024 : Shape := ⟨2, ![2048, 1024]⟩
abbrev S1x256x192 : Shape := ⟨3, ![1, 256, 192]⟩
abbrev S1x2048x192 : Shape := ⟨3, ![1, 2048, 192]⟩
abbrev S1x2048x128 : Shape := ⟨3, ![1, 2048, 128]⟩
abbrev S256x128 : Shape := ⟨2, ![256, 128]⟩
abbrev S256x192 : Shape := ⟨2, ![256, 192]⟩
abbrev S1x256x128 : Shape := ⟨3, ![1, 256, 128]⟩
abbrev S256x256 : Shape := ⟨2, ![256, 256]⟩
abbrev S256 : Shape := ⟨1, ![256]⟩
abbrev S256x1 : Shape := ⟨2, ![256, 1]⟩
abbrev S1x512x192 : Shape := ⟨3, ![1, 512, 192]⟩
abbrev S512x192 : Shape := ⟨2, ![512, 192]⟩
abbrev S1x512x128 : Shape := ⟨3, ![1, 512, 128]⟩
abbrev S512x128 : Shape := ⟨2, ![512, 128]⟩
abbrev S256x512 : Shape := ⟨2, ![256, 512]⟩
abbrev S1x768x192 : Shape := ⟨3, ![1, 768, 192]⟩
abbrev S768x192 : Shape := ⟨2, ![768, 192]⟩
abbrev S1x768x128 : Shape := ⟨3, ![1, 768, 128]⟩
abbrev S768x128 : Shape := ⟨2, ![768, 128]⟩
abbrev S256x768 : Shape := ⟨2, ![256, 768]⟩
abbrev S1x1024x192 : Shape := ⟨3, ![1, 1024, 192]⟩
abbrev S1024x192 : Shape := ⟨2, ![1024, 192]⟩
abbrev S1x1024x128 : Shape := ⟨3, ![1, 1024, 128]⟩
abbrev S1024x128 : Shape := ⟨2, ![1024, 128]⟩
abbrev S256x1024 : Shape := ⟨2, ![256, 1024]⟩
abbrev S1x1280x192 : Shape := ⟨3, ![1, 1280, 192]⟩
abbrev S1280x192 : Shape := ⟨2, ![1280, 192]⟩
abbrev S1x1280x128 : Shape := ⟨3, ![1, 1280, 128]⟩
abbrev S1280x128 : Shape := ⟨2, ![1280, 128]⟩
abbrev S256x1280 : Shape := ⟨2, ![256, 1280]⟩
abbrev S1x1536x192 : Shape := ⟨3, ![1, 1536, 192]⟩
abbrev S1536x192 : Shape := ⟨2, ![1536, 192]⟩
abbrev S1x1536x128 : Shape := ⟨3, ![1, 1536, 128]⟩
abbrev S1536x128 : Shape := ⟨2, ![1536, 128]⟩
abbrev S256x1536 : Shape := ⟨2, ![256, 1536]⟩
abbrev S1x1792x192 : Shape := ⟨3, ![1, 1792, 192]⟩
abbrev S1792x192 : Shape := ⟨2, ![1792, 192]⟩
abbrev S1x1792x128 : Shape := ⟨3, ![1, 1792, 128]⟩
abbrev S1792x128 : Shape := ⟨2, ![1792, 128]⟩
abbrev S256x1792 : Shape := ⟨2, ![256, 1792]⟩

abbrev nBuf : Space → Nat
  | .hbm => 5
  | .vmem => 10
  | .smem => 0
  | _ => 0

abbrev bufTy : (tb : Table) → Fin (tcTables nBuf tb) → BufTy
  | .hbm, ⟨0, _⟩ => ⟨S8x2048x192, .f32⟩
  | .hbm, ⟨1, _⟩ => ⟨S8x2048x192, .f32⟩
  | .hbm, ⟨2, _⟩ => ⟨S8x2048x128, .f32⟩
  | .hbm, ⟨3, _⟩ => ⟨S2048x10752, .f32⟩
  | .hbm, ⟨4, _⟩ => ⟨S2048x1024, .f32⟩
  | .local _ .vmem, ⟨0, _⟩ => ⟨S1x256x192, .f32⟩
  | .local _ .vmem, ⟨1, _⟩ => ⟨S1x256x192, .f32⟩
  | .local _ .vmem, ⟨2, _⟩ => ⟨S1x2048x192, .f32⟩
  | .local _ .vmem, ⟨3, _⟩ => ⟨S1x2048x192, .f32⟩
  | .local _ .vmem, ⟨4, _⟩ => ⟨S1x2048x128, .f32⟩
  | .local _ .vmem, ⟨5, _⟩ => ⟨S1x2048x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | _, _ => ⟨S8x2048x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

def k0_cond5 (i : grid0.Coords) : BitVec 1 :=
  let arg1 : BitVec 32 := BitVec.ofNat 32 (i 1).val
  let c4_i32 : BitVec 32 := 4#32
  let v12 : BitVec 1 := Scalar.cmpi .eq arg1 c4_i32
  let v13 : BitVec 32 := Scalar.extui v12
  let c0_i32_4 : BitVec 32 := 0#32
  let v14 : BitVec 1 := Scalar.cmpi .ne v13 c0_i32_4
  v14

def k0_cond6 (i : grid0.Coords) : BitVec 1 :=
  let arg1 : BitVec 32 := BitVec.ofNat 32 (i 1).val
  let c5_i32 : BitVec 32 := 5#32
  let v15 : BitVec 1 := Scalar.cmpi .eq arg1 c5_i32
  let v16 : BitVec 32 := Scalar.extui v15
  let c0_i32_5 : BitVec 32 := 0#32
  let v17 : BitVec 1 := Scalar.cmpi .ne v16 c0_i32_5
  v17

def k0_cond7 (i : grid0.Coords) : BitVec 1 :=
  let arg1 : BitVec 32 := BitVec.ofNat 32 (i 1).val
  let c6_i32 : BitVec 32 := 6#32
  let v18 : BitVec 1 := Scalar.cmpi .eq arg1 c6_i32
  let v19 : BitVec 32 := Scalar.extui v18
  let c0_i32_6 : BitVec 32 := 0#32
  let v20 : BitVec 1 := Scalar.cmpi .ne v19 c0_i32_6
  v20

def k0_cond8 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_7 : BitVec 32 := 0#32
  let v23 : BitVec 1 := Scalar.cmpi .ne v22 c0_i32_7
  v23

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c30_i32 : BitVec 32 := 30#32
  let v0 : BitVec 32 := Scalar.addi c30_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x256x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnFwdIdeal.lean ====
variable {F : FTy → Type} [FloatOps F] [Named F]
def κ : String → Option EReal := fun
  | "mask" => some ⊥
  | _ => none
-- ==== AttnFwdReferenceIdeal.lean ====
abbrev S8x2048x192 : Shape := ⟨3, ![8, 2048, 192]⟩
abbrev S8x2048x128 : Shape := ⟨3, ![8, 2048, 128]⟩
abbrev S2048x10752 : Shape := ⟨2, ![2048, 10752]⟩
abbrev S2048x1024 : Shape := ⟨2, ![2048, 1024]⟩
abbrev S2048 : Shape := ⟨1, ![2048]⟩
abbrev S_ : Shape := ⟨0, ![]⟩
abbrev S8x2048x2048 : Shape := ⟨3, ![8, 2048, 2048]⟩
abbrev S1x2048 : Shape := ⟨2, ![1, 2048]⟩
abbrev S2048x1 : Shape := ⟨2, ![2048, 1]⟩
abbrev S2048x2048 : Shape := ⟨2, ![2048, 2048]⟩
abbrev S1x2048x2048 : Shape := ⟨3, ![1, 2048, 2048]⟩
abbrev S8x2048 : Shape := ⟨2, ![8, 2048]⟩
abbrev S8x2048x1 : Shape := ⟨3, ![8, 2048, 1]⟩
abbrev S8x128x2048 : Shape := ⟨3, ![8, 128, 2048]⟩
abbrev S2048x8x128 : Shape := ⟨3, ![2048, 8, 128]⟩

abbrev nBuf : Space → Nat
  | .hbm => 66
  | .vmem => 0
  | .smem => 0
  | _ => 0

abbrev bufTy : (tb : Table) → Fin (tcTables nBuf tb) → BufTy
  | .hbm, ⟨0, _⟩ => ⟨S8x2048x192, .f32⟩
  | .hbm, ⟨1, _⟩ => ⟨S8x2048x192, .f32⟩
  | .hbm, ⟨2, _⟩ => ⟨S8x2048x128, .f32⟩
  | .hbm, ⟨3, _⟩ => ⟨S2048x10752, .f32⟩
  | .hbm, ⟨4, _⟩ => ⟨S2048x1024, .f32⟩
  | .hbm, ⟨5, _⟩ => ⟨S2048, .i32⟩
  | .hbm, ⟨6, _⟩ => ⟨S_, .i32⟩
  | .hbm, ⟨7, _⟩ => ⟨S_, .i32⟩
  | .hbm, ⟨8, _⟩ => ⟨S2048, .i32⟩
  | .hbm, ⟨9, _⟩ => ⟨S2048, .i32⟩
  | .hbm, ⟨10, _⟩ => ⟨S2048, .i32⟩
  | .hbm, ⟨11, _⟩ => ⟨S_, .i32⟩
  | .hbm, ⟨12, _⟩ => ⟨S2048, .i32⟩
  | .hbm, ⟨13, _⟩ => ⟨S2048, .i1⟩
  | .hbm, ⟨14, _⟩ => ⟨S2048, .i32⟩
  | .hbm, ⟨15, _⟩ => ⟨S2048, .i32⟩
  | .hbm, ⟨16, _⟩ => ⟨S_, .i32⟩
  | .hbm, ⟨17, _⟩ => ⟨S2048, .i32⟩
  | .hbm, ⟨18, _⟩ => ⟨S2048, .i1⟩
  | .hbm, ⟨19, _⟩ => ⟨S2048, .i1⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S2048, .i32⟩
  | .hbm, ⟨24, _⟩ => ⟨S8x2048x2048, .f32⟩
  | .hbm, ⟨25, _⟩ => ⟨S_, .f32⟩
  | .hbm, ⟨26, _⟩ => ⟨S8x2048x2048, .f32⟩
  | .hbm, ⟨27, _⟩ => ⟨S8x2048x2048, .f32⟩
  | .hbm, ⟨28, _⟩ => ⟨S1x2048, .i32⟩
  | .hbm, ⟨29, _⟩ => ⟨S2048x1, .i32⟩
  | .hbm, ⟨30, _⟩ => ⟨S2048x2048, .i32⟩
  | .hbm, ⟨31, _⟩ => ⟨S2048x2048, .i32⟩
  | .hbm, ⟨32, _⟩ => ⟨S2048x2048, .i1⟩
  | .hbm, ⟨33, _⟩ => ⟨S1x2048x2048, .i1⟩
  | .hbm, ⟨34, _⟩ => ⟨S_, .f32⟩
  | .hbm, ⟨35, _⟩ => ⟨S_, .f32⟩
  | .hbm, ⟨36, _⟩ => ⟨S8x2048x2048, .i1⟩
  | .hbm, ⟨37, _⟩ => ⟨S8x2048x2048, .f32⟩
  | .hbm, ⟨38, _⟩ => ⟨S8x2048x2048, .f32⟩
  | .hbm, ⟨39, _⟩ => ⟨S_, .f32⟩
  | .hbm, ⟨40, _⟩ => ⟨S8x2048, .f32⟩
  | .hbm, ⟨41, _⟩ => ⟨S_, .f32⟩
  | .hbm, ⟨42, _⟩ => ⟨S8x2048, .f32⟩
  | .hbm, ⟨43, _⟩ => ⟨S8x2048, .f32⟩
  | .hbm, ⟨44, _⟩ => ⟨S8x2048x1, .f32⟩
  | .hbm, ⟨45, _⟩ => ⟨S8x2048x2048, .f32⟩
  | .hbm, ⟨46, _⟩ => ⟨S8x2048x2048, .f32⟩
  | .hbm, ⟨47, _⟩ => ⟨S8x2048x2048, .f32⟩
  | .hbm, ⟨48, _⟩ => ⟨S_, .f32⟩
  | .hbm, ⟨49, _⟩ => ⟨S8x2048, .f32⟩
  | .hbm, ⟨50, _⟩ => ⟨S8x2048x1, .f32⟩
  | .hbm, ⟨51, _⟩ => ⟨S8x2048x2048, .f32⟩
  | .hbm, ⟨52, _⟩ => ⟨S8x2048x2048, .f32⟩
  | .hbm, ⟨53, _⟩ => ⟨S8x128x2048, .f32⟩
  | .hbm, ⟨54, _⟩ => ⟨S2048x8x128, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S_, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | _, _ => ⟨S8x2048x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v12 : Ref sig .tc := ⟨.hbm, 38, rfl⟩
abbrev main_cst_1 : Ref sig .tc := ⟨.hbm, 39, rfl⟩
abbrev main_v13 : Ref sig .tc := ⟨.hbm, 40, rfl⟩
abbrev main_cst_2 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_3 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_call2_v0 : Ref sig .tc := ⟨.hbm, 56, rfl⟩
abbrev main_call2_v1 : Ref sig .tc := ⟨.hbm, 57, rfl⟩
abbrev main_call2_cst : Ref sig .tc := ⟨.hbm, 58, rfl⟩
abbrev main_call2_v2 : Ref sig .tc := ⟨.hbm, 59, rfl⟩
abbrev main_call2_v3 : Ref sig .tc := ⟨.hbm, 60, rfl⟩
abbrev main_call2_cst_0 : Ref sig .tc := ⟨.hbm, 61, rfl⟩
abbrev main_call2_v4 : Ref sig .tc := ⟨.hbm, 62, rfl⟩
abbrev main_call2_v5 : Ref sig .tc := ⟨.hbm, 63, rfl⟩
abbrev main_v27 : Ref sig .tc := ⟨.hbm, 64, rfl⟩
abbrev main_v28 : Ref sig .tc := ⟨.hbm, 65, rfl⟩

abbrev nD : Nat := 1
abbrev τ : Topo := Topo.v7x

variable {F : FTy → Type} [FloatOps F]
-- ==== OutFwd.lean ====
abbrev S2048x1024 : Shape := ⟨2, ![2048, 1024]⟩
abbrev S2048x1280 : Shape := ⟨2, ![2048, 1280]⟩
abbrev S2048x10752 : Shape := ⟨2, ![2048, 10752]⟩
abbrev S1x1024x1024 : Shape := ⟨3, ![1, 1024, 1024]⟩
abbrev S1x1280x1024 : Shape := ⟨3, ![1, 1280, 1024]⟩
abbrev S1x1024 : Shape := ⟨2, ![1, 1024]⟩
abbrev S512x1024 : Shape := ⟨2, ![512, 1024]⟩
abbrev S512x1280 : Shape := ⟨2, ![512, 1280]⟩
abbrev S512x512 : Shape := ⟨2, ![512, 512]⟩
abbrev S1024x1024 : Shape := ⟨2, ![1024, 1024]⟩
abbrev S1280x1024 : Shape := ⟨2, ![1280, 1024]⟩
abbrev S512 : Shape := ⟨1, ![512]⟩
abbrev S512x1 : Shape := ⟨2, ![512, 1]⟩

abbrev nBuf : Space → Nat
  | .hbm => 14
  | .vmem => 37
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1280, .f32⟩
  | .hbm, ⟨4, _⟩ => ⟨S2048x10752, .f32⟩
  | .hbm, ⟨5, _⟩ => ⟨S1x1024x1024, .bf16⟩
  | .hbm, ⟨6, _⟩ => ⟨S1x1024x1024, .bf16⟩
  | .hbm, ⟨7, _⟩ => ⟨S1x1280x1024, .bf16⟩
  | .hbm, ⟨8, _⟩ => ⟨S1x1024x1024, .bf16⟩
  | .hbm, ⟨9, _⟩ => ⟨S1x1024, .f32⟩
  | .hbm, ⟨10, _⟩ => ⟨S2048x1024, .f32⟩
  | .hbm, ⟨11, _⟩ => ⟨S2048x1024, .bf16⟩
  | .hbm, ⟨12, _⟩ => ⟨S2048x1024, .bf16⟩
  | .hbm, ⟨13, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1280, .f32⟩
  | .local _ .vmem, ⟨5, _⟩ => ⟨S512x1280, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S1x1024x1024, .bf16⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S1x1024x1024, .bf16⟩
  | .local _ .vmem, ⟨23, _⟩ => ⟨S1x1024x1024, .bf16⟩
  | .local _ .vmem, ⟨24, _⟩ => ⟨S1x1280x1024, .bf16⟩
  | .local _ .vmem, ⟨25, _⟩ => ⟨S512x1024, .f32⟩
  | .local _ .vmem, ⟨26, _⟩ => ⟨S512x1024, .f32⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S1024x1024, .bf16⟩
  | .local _ .vmem, ⟨34, _⟩ => ⟨S1024x1024, .bf16⟩
  | .local _ .vmem, ⟨35, _⟩ => ⟨S1280x1024, .bf16⟩
  | .local _ .vmem, ⟨36, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_scratch3 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_4 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_5 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_6 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_7 (i : grid0.Coords) : Fin 2 → Nat :=
  let arg0 : BitVec 32 := BitVec.ofNat 32 (i 0).val
  let c19_i32 : BitVec 32 := 19#32
  let c0_i32 : BitVec 32 := 0#32
  ![arg0.toNat, c19_i32.toNat]

def cc0_transform_8 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1280x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== OutFwdReferenceIdeal.lean ====
abbrev S2048x1024 : Shape := ⟨2, ![2048, 1024]⟩
abbrev S2048x1280 : Shape := ⟨2, ![2048, 1280]⟩
abbrev S2048x10752 : Shape := ⟨2, ![2048, 10752]⟩
abbrev S1x1024x1024 : Shape := ⟨3, ![1, 1024, 1024]⟩
abbrev S1x1280x1024 : Shape := ⟨3, ![1, 1280, 1024]⟩
abbrev S1x1024 : Shape := ⟨2, ![1, 1024]⟩
abbrev S1024x1024 : Shape := ⟨2, ![1024, 1024]⟩
abbrev S1280x1024 : Shape := ⟨2, ![1280, 1024]⟩
abbrev S_ : Shape := ⟨0, ![]⟩
abbrev S1024 : Shape := ⟨1, ![1024]⟩
abbrev S2048 : Shape := ⟨1, ![2048]⟩
abbrev S2048x1 : Shape := ⟨2, ![2048, 1]⟩

abbrev nBuf : Space → Nat
  | .hbm => 75
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1280, .f32⟩
  | .hbm, ⟨4, _⟩ => ⟨S2048x10752, .f32⟩
  | .hbm, ⟨5, _⟩ => ⟨S1x1024x1024, .bf16⟩
  | .hbm, ⟨6, _⟩ => ⟨S1x1024x1024, .bf16⟩
  | .hbm, ⟨7, _⟩ => ⟨S1x1280x1024, .bf16⟩
  | .hbm, ⟨8, _⟩ => ⟨S1x1024x1024, .bf16⟩
  | .hbm, ⟨9, _⟩ => ⟨S1x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S1024x1024, .bf16⟩
  | .hbm, ⟨14, _⟩ => ⟨S1024x1024, .f32⟩
  | .hbm, ⟨15, _⟩ => ⟨S2048x1024, .f32⟩
  | .hbm, ⟨16, _⟩ => ⟨S1024x1024, .bf16⟩
  | .hbm, ⟨17, _⟩ => ⟨S1024x1024, .f32⟩
  | .hbm, ⟨18, _⟩ => ⟨S2048x1024, .f32⟩
  | .hbm, ⟨19, _⟩ => ⟨S1280x1024, .bf16⟩
  | .hbm, ⟨20, _⟩ => ⟨S1280x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S1024x1024, .bf16⟩
  | .hbm, ⟨52, _⟩ => ⟨S1024x1024, .f32⟩
  | .hbm, ⟨53, _⟩ => ⟨S2048x1024, .f32⟩
  | .hbm, ⟨54, _⟩ => ⟨S1024, .f32⟩
  | .hbm, ⟨55, _⟩ => ⟨S2048x1024, .f32⟩
  | .hbm, ⟨56, _⟩ => ⟨S_, .f32⟩
  | .hbm, ⟨57, _⟩ => ⟨S2048, .f32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S2048x1, .f32⟩
  | .hbm, ⟨66, _⟩ => ⟨S2048x1024, .f32⟩
  | .hbm, ⟨67, _⟩ => ⟨S2048x1024, .f32⟩
  | .hbm, ⟨68, _⟩ => ⟨S1x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .bf16⟩
  | .hbm, ⟨73, _⟩ => ⟨S2048x1024, .bf16⟩
  | .hbm, ⟨74, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== QkvFwd.lean ====
abbrev S2048x10752 : Shape := ⟨2, ![2048, 10752]⟩
abbrev S1x384 : Shape := ⟨2, ![1, 384]⟩
abbrev S1x256 : Shape := ⟨2, ![1, 256]⟩
abbrev S8x192x384 : Shape := ⟨3, ![8, 192, 384]⟩
abbrev S8x256x256 : Shape := ⟨3, ![8, 256, 256]⟩
abbrev S2048x32 : Shape := ⟨2, ![2048, 32]⟩
abbrev S_ : Shape := ⟨0, ![]⟩
abbrev S2048x128 : Shape := ⟨2, ![2048, 128]⟩
abbrev S2048x192 : Shape := ⟨2, ![2048, 192]⟩
abbrev S1x128 : Shape := ⟨2, ![1, 128]⟩
abbrev S8x2048x192 : Shape := ⟨3, ![8, 2048, 192]⟩
abbrev S8x2048x128 : Shape := ⟨3, ![8, 2048, 128]⟩
abbrev S512x384 : Shape := ⟨2, ![512, 384]⟩
abbrev S512x192 : Shape := ⟨2, ![512, 192]⟩
abbrev S8x512x192 : Shape := ⟨3, ![8, 512, 192]⟩
abbrev S8x512x128 : Shape := ⟨3, ![8, 512, 128]⟩
abbrev S1x128x384 : Shape := ⟨3, ![1, 128, 384]⟩
abbrev S128x384 : Shape := ⟨2, ![128, 384]⟩
abbrev S1x32x384 : Shape := ⟨3, ![1, 32, 384]⟩
abbrev S32x384 : Shape := ⟨2, ![32, 384]⟩
abbrev S1x128x256 : Shape := ⟨3, ![1, 128, 256]⟩
abbrev S128x256 : Shape := ⟨2, ![128, 256]⟩
abbrev S512 : Shape := ⟨1, ![512]⟩
abbrev S512x1 : Shape := ⟨2, ![512, 1]⟩
abbrev S64x128 : Shape := ⟨2, ![64, 128]⟩
abbrev S64x256 : Shape := ⟨2, ![64, 256]⟩
abbrev S128x128 : Shape := ⟨2, ![128, 128]⟩
abbrev S64x384 : Shape := ⟨2, ![64, 384]⟩
abbrev S192x384 : Shape := ⟨2, ![192, 384]⟩
abbrev S512x128 : Shape := ⟨2, ![512, 128]⟩
abbrev S1x512x192 : Shape := ⟨3, ![1, 512, 192]⟩
abbrev S1x512x128 : Shape := ⟨3, ![1, 512, 128]⟩

abbrev nBuf : Space → Nat
  | .hbm => 20
  | .vmem => 18
  | .smem => 0
  | _ => 0

abbrev bufTy : (tb : Table) → Fin (tcTables nBuf tb) → BufTy
  | .hbm, ⟨0, _⟩ => ⟨S2048x10752, .f32⟩
  | .hbm, ⟨1, _⟩ => ⟨S1x384, .f32⟩
  | .hbm, ⟨2, _⟩ => ⟨S1x256, .f32⟩
  | .hbm, ⟨3, _⟩ => ⟨S8x192x384, .f32⟩
  | .hbm, ⟨4, _⟩ => ⟨S8x256x256, .bf16⟩
  | .hbm, ⟨5, _⟩ => ⟨S2048x32, .f32⟩
  | .hbm, ⟨6, _⟩ => ⟨S2048x32, .f32⟩
  | .hbm, ⟨7, _⟩ => ⟨S_, .f32⟩
  | .hbm, ⟨8, _⟩ => ⟨S2048x128, .f32⟩
  | .hbm, ⟨9, _⟩ => ⟨S_, .f32⟩
  | .hbm, ⟨10, _⟩ => ⟨S2048x128, .f32⟩
  | .hbm, ⟨11, _⟩ => ⟨S2048x192, .f32⟩
  | .hbm, ⟨12, _⟩ => ⟨S2048x32, .f32⟩
  | .hbm, ⟨13, _⟩ => ⟨S2048x192, .f32⟩
  | .hbm, ⟨14, _⟩ => ⟨S_, .f32⟩
  | .hbm, ⟨15, _⟩ => ⟨S1x128, .f32⟩
  | .hbm, ⟨16, _⟩ => ⟨S1x384, .f32⟩
  | .hbm, ⟨17, _⟩ => ⟨S8x2048x192, .f32⟩
  | .hbm, ⟨18, _⟩ => ⟨S8x2048x192, .f32⟩
  | .hbm, ⟨19, _⟩ => ⟨S8x2048x128, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S1x384, .f32⟩
  | .local _ .vmem, ⟨5, _⟩ => ⟨S1x384, .f32⟩
  | .local _ .vmem, ⟨6, _⟩ => ⟨S8x192x384, .f32⟩
  | .local _ .vmem, ⟨7, _⟩ => ⟨S8x256x256, .bf16⟩
  | .local _ .vmem, ⟨8, _⟩ => ⟨S512x192, .f32⟩
  | .local _ .vmem, ⟨9, _⟩ => ⟨S512x192, .f32⟩
  | .local _ .vmem, ⟨10, _⟩ => ⟨S512x192, .f32⟩
  | .local _ .vmem, ⟨11, _⟩ => ⟨S512x192, .f32⟩
  | .local _ .vmem, ⟨12, _⟩ => ⟨S8x512x192, .f32⟩
  | .local _ .vmem, ⟨13, _⟩ => ⟨S8x512x192, .f32⟩
  | .local _ .vmem, ⟨14, _⟩ => ⟨S8x512x192, .f32⟩
  | .local _ .vmem, ⟨15, _⟩ => ⟨S8x512x192, .f32⟩
  | .local _ .vmem, ⟨16, _⟩ => ⟨S8x512x128, .f32⟩
  | .local _ .vmem, ⟨17, _⟩ => ⟨S8x512x128, .f32⟩
  | _, _ => ⟨S2048x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x192x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512x192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== QkvFwdReferenceIdeal.lean ====
abbrev S2048x10752 : Shape := ⟨2, ![2048, 10752]⟩
abbrev S1x384 : Shape := ⟨2, ![1, 384]⟩
abbrev S1x256 : Shape := ⟨2, ![1, 256]⟩
abbrev S8x192x384 : Shape := ⟨3, ![8, 192, 384]⟩
abbrev S8x256x256 : Shape := ⟨3, ![8, 256, 256]⟩
abbrev S2048x32 : Shape := ⟨2, ![2048, 32]⟩
abbrev S1536x384 : Shape := ⟨2, ![1536, 384]⟩
abbrev S384x1536 : Shape := ⟨2, ![384, 1536]⟩
abbrev S2048x256 : Shape := ⟨2, ![2048, 256]⟩
abbrev S256x2048 : Shape := ⟨2, ![256, 2048]⟩
abbrev S2048x384 : Shape := ⟨2, ![2048, 384]⟩
abbrev S2048x64 : Shape := ⟨2, ![2048, 64]⟩
abbrev S384 : Shape := ⟨1, ![384]⟩
abbrev S_ : Shape := ⟨0, ![]⟩
abbrev S2048 : Shape := ⟨1, ![2048]⟩
abbrev S2048x1 : Shape := ⟨2, ![2048, 1]⟩
abbrev S2048x1536 : Shape := ⟨2, ![2048, 1536]⟩
abbrev S2048x8x192 : Shape := ⟨3, ![2048, 8, 192]⟩
abbrev S256 : Shape := ⟨1, ![256]⟩
abbrev S2048x2048 : Shape := ⟨2, ![2048, 2048]⟩
abbrev S2048x8x256 : Shape := ⟨3, ![2048, 8, 256]⟩
abbrev S2048x8x64 : Shape := ⟨3, ![2048, 8, 64]⟩
abbrev S2048x1x32 : Shape := ⟨3, ![2048, 1, 32]⟩
abbrev S2048x8x32 : Shape := ⟨3, ![2048, 8, 32]⟩
abbrev S2048x8x128 : Shape := ⟨3, ![2048, 8, 128]⟩
abbrev S2048x1x64 : Shape := ⟨3, ![2048, 1, 64]⟩
abbrev S8x2048x192 : Shape := ⟨3, ![8, 2048, 192]⟩
abbrev S8x2048x128 : Shape := ⟨3, ![8, 2048, 128]⟩

abbrev nBuf : Space → Nat
  | .hbm => 88
  | .vmem => 0
  | .smem => 0
  | _ => 0

abbrev bufTy : (tb : Table) → Fin (tcTables nBuf tb) → BufTy
  | .hbm, ⟨0, _⟩ => ⟨S2048x10752, .f32⟩
  | .hbm, ⟨1, _⟩ => ⟨S1x384, .f32⟩
  | .hbm, ⟨2, _⟩ => ⟨S1x256, .f32⟩
  | .hbm, ⟨3, _⟩ => ⟨S8x192x384, .f32⟩
  | .hbm, ⟨4, _⟩ => ⟨S8x256x256, .bf16⟩
  | .hbm, ⟨5, _⟩ => ⟨S2048x32, .f32⟩
  | .hbm, ⟨6, _⟩ => ⟨S2048x32, .f32⟩
  | .hbm, ⟨7, _⟩ => ⟨S1536x384, .f32⟩
  | .hbm, ⟨8, _⟩ => ⟨S384x1536, .f32⟩
  | .hbm, ⟨9, _⟩ => ⟨S2048x256, .bf16⟩
  | .hbm, ⟨10, _⟩ => ⟨S256x2048, .bf16⟩
  | .hbm, ⟨11, _⟩ => ⟨S2048x384, .f32⟩
  | .hbm, ⟨12, _⟩ => ⟨S2048x256, .f32⟩
  | .hbm, ⟨13, _⟩ => ⟨S2048x64, .f32⟩
  | .hbm, ⟨14, _⟩ => ⟨S384, .f32⟩
  | .hbm, ⟨15, _⟩ => ⟨S2048x384, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S2048x384, .f32⟩
  | .hbm, ⟨27, _⟩ => ⟨S2048x384, .f32⟩
  | .hbm, ⟨28, _⟩ => ⟨S1x384, .f32⟩
  | .hbm, ⟨29, _⟩ => ⟨S2048x384, .f32⟩
  | .hbm, ⟨30, _⟩ => ⟨S2048x384, .f32⟩
  | .hbm, ⟨31, _⟩ => ⟨S2048x1536, .f32⟩
  | .hbm, ⟨32, _⟩ => ⟨S2048x8x192, .f32⟩
  | .hbm, ⟨33, _⟩ => ⟨S256, .f32⟩
  | .hbm, ⟨34, _⟩ => ⟨S2048x256, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S2048x1, .f32⟩
  | .hbm, ⟨45, _⟩ => ⟨S2048x256, .f32⟩
  | .hbm, ⟨46, _⟩ => ⟨S2048x256, .f32⟩
  | .hbm, ⟨47, _⟩ => ⟨S1x256, .f32⟩
  | .hbm, ⟨48, _⟩ => ⟨S2048x256, .f32⟩
  | .hbm, ⟨49, _⟩ => ⟨S2048x256, .f32⟩
  | .hbm, ⟨50, _⟩ => ⟨S256x2048, .f32⟩
  | .hbm, ⟨51, _⟩ => ⟨S2048x2048, .f32⟩
  | .hbm, ⟨52, _⟩ => ⟨S2048x8x256, .f32⟩
  | .hbm, ⟨53, _⟩ => ⟨S2048x8x64, .f32⟩
  | .hbm, ⟨54, _⟩ => ⟨S2048x1x32, .f32⟩
  | .hbm, ⟨55, _⟩ => ⟨S2048x1x32, .f32⟩
  | .hbm, ⟨56, _⟩ => ⟨S2048x8x32, .f32⟩
  | .hbm, ⟨57, _⟩ => ⟨S2048x8x32, .f32⟩
  | .hbm, ⟨58, _⟩ => ⟨S2048x8x32, .f32⟩
  | .hbm, ⟨59, _⟩ => ⟨S2048x8x32, .f32⟩
  | .hbm, ⟨60, _⟩ => ⟨S2048x8x32, .f32⟩
  | .hbm, ⟨61, _⟩ => ⟨S2048x8x32, .f32⟩
  | .hbm, ⟨62, _⟩ => ⟨S2048x8x32, .f32⟩
  | .hbm, ⟨63, _⟩ => ⟨S2048x8x32, .f32⟩
  | .hbm, ⟨64, _⟩ => ⟨S2048x8x32, .f32⟩
  | .hbm, ⟨65, _⟩ => ⟨S2048x8x32, .f32⟩
  | .hbm, ⟨66, _⟩ => ⟨S2048x8x32, .f32⟩
  | .hbm, ⟨67, _⟩ => ⟨S2048x8x32, .f32⟩
  | .hbm, ⟨68, _⟩ => ⟨S2048x8x64, .f32⟩
  | .hbm, ⟨69, _⟩ => ⟨S2048x8x128, .f32⟩
  | .hbm, ⟨70, _⟩ => ⟨S2048x8x192, .f32⟩
  | .hbm, ⟨71, _⟩ => ⟨S2048x32, .f32⟩
  | .hbm, ⟨72, _⟩ => ⟨S2048x32, .f32⟩
  | .hbm, ⟨73, _⟩ => ⟨S2048x32, .f32⟩
  | .hbm, ⟨74, _⟩ => ⟨S2048x32, .f32⟩
  | .hbm, ⟨75, _⟩ => ⟨S2048x32, .f32⟩
  | .hbm, ⟨76, _⟩ => ⟨S2048x32, .f32⟩
  | .hbm, ⟨77, _⟩ => ⟨S2048x32, .f32⟩
  | .hbm, ⟨78, _⟩ => ⟨S2048x32, .f32⟩
  | .hbm, ⟨79, _⟩ => ⟨S2048x64, .f32⟩
  | .hbm, ⟨80, _⟩ => ⟨S2048x1x64, .f32⟩
  | .hbm, ⟨81, _⟩ => ⟨S2048x8x64, .f32⟩
  | .hbm, ⟨82, _⟩ => ⟨S2048x8x128, .f32⟩
  | .hbm, ⟨83, _⟩ => ⟨S2048x8x192, .f32⟩
  | .hbm, ⟨84, _⟩ => ⟨S8x2048x192, .f32⟩
  | .hbm, ⟨85, _⟩ => ⟨S8x2048x192, .f32⟩
  | .hbm, ⟨86, _⟩ => ⟨S2048x8x128, .f32⟩
  | .hbm, ⟨87, _⟩ => ⟨S8x2048x128, .f32⟩
  | _, _ => ⟨S2048x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩

abbrev nD : Nat := 1
abbrev τ : Topo := Topo.v7x

variable {F : FTy → Type} [FloatOps F]
-- ==== Proof.Cases.lean ====
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## Which of the four cases of the body a grid point takes -/

/-- Condition 0 of the body: it holds at the grid points whose query block is block 0. -/
abbrev cond0 (i : grid0.Coords) : Prop := k0_cond1 i = 1#1
theorem hcond0 : ∀ t : Fin cfg0.N, cond0 (grid0.coords t) ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0, k0_cond1, e0, e1]
    word_cmp
   : ∀ t : Fin grid0.N, cond0 (grid0.coords t) ↔ t.val % 4 = 0)

/-- Condition 1 of the body: it holds at the grid points whose query block is block 0. -/
abbrev cond1 (i : grid0.Coords) : Prop := k0_cond2 i = 1#1
theorem hcond1 : ∀ t : Fin cfg0.N, cond1 (grid0.coords t) ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond1, k0_cond2, e0, e1]
    word_cmp
   : ∀ t : Fin grid0.N, cond1 (grid0.coords t) ↔ t.val % 4 = 0)

/-- Condition 2 of the body: it holds at the grid points whose query block is block 1. -/
abbrev cond2 (i : grid0.Coords) : Prop := k0_cond3 i = 1#1
theorem hcond2 : ∀ t : Fin cfg0.N, cond2 (grid0.coords t) ↔ t.val % 4 = 1 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond2, k0_cond3, e0, e1]
    word_cmp
   : ∀ t : Fin grid0.N, cond2 (grid0.coords t) ↔ t.val % 4 = 1)

/-- Condition 3 of the body: it holds at the grid points whose query block is block 2. -/
abbrev cond3 (i : grid0.Coords) : Prop := k0_cond4 i = 1#1
theorem hcond3 : ∀ t : Fin cfg0.N, cond3 (grid0.coords t) ↔ t.val % 4 = 2 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond3, k0_cond4, e0, e1]
    word_cmp
   : ∀ t : Fin grid0.N, cond3 (grid0.coords t) ↔ t.val % 4 = 2)

/-- Condition 4 of the body: it holds at the grid points whose query block is block 3. -/
abbrev cond4 (i : grid0.Coords) : Prop := k0_cond5 i = 1#1
theorem hcond4 : ∀ t : Fin cfg0.N, cond4 (grid0.coords t) ↔ t.val % 4 = 3 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond4, k0_cond5, e0, e1]
    word_cmp
   : ∀ t : Fin grid0.N, cond4 (grid0.coords t) ↔ t.val % 4 = 3)

end Cert.KernelIdeal.Body

end
-- ==== Proof.Tiles.lean ====
module

public import proofs.«01_k».proof.Proof.Cases

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

/-! ## What the body computes at one grid point

For each of the four cases of the body: every value the point computes, as the program computes it, from the keys `kp` and
values `vp` of the earlier blocks, the keys `kd` and values `vd` of the diagonal block, the queries `q`, the gate `z` and the
incoming gradient `dy`; the four results are `dq`, `dz` and the sums `dk`, `dv` put on top of what the two buffers held. -/

namespace CaseA

/-- The exponentials of the diagonal block. -/
def e (kd : Vec F S1x512x192 .f32) (vd : Vec F S1x512x128 .f32) (q : Vec F S1x512x192 .f32) (z dy : Vec F S512x128 .f32) : FVec F S512x512 .f32 :=
  k0_pay15 kd q

/-- The weighted sum of the values, not yet divided. -/
def o (kd : Vec F S1x512x192 .f32) (vd : Vec F S1x512x128 .f32) (q : Vec F S1x512x192 .f32) (z dy : Vec F S512x128 .f32) : FVec F S512x128 .f32 :=
  k0_pay17 kd vd q

/-- One over the row sums. -/
def rinv (kd : Vec F S1x512x192 .f32) (vd : Vec F S1x512x128 .f32) (q : Vec F S1x512x192 .f32) (z dy : Vec F S512x128 .f32) : FVec F S512x1 .f32 :=
  k0_pay18 kd q

/-- One over the squared row sums. -/
def rinv2 (kd : Vec F S1x512x192 .f32) (vd : Vec F S1x512x128 .f32) (q : Vec F S1x512x192 .f32) (z dy : Vec F S512x128 .f32) : FVec F S512x1 .f32 :=
  k0_pay19 kd q

/-- The attention's output. -/
def on (kd : Vec F S1x512x192 .f32) (vd : Vec F S1x512x128 .f32) (q : Vec F S1x512x192 .f32) (z dy : Vec F S512x128 .f32) : FVec F S512x128 .f32 :=
  k0_pay20 kd vd q

/-- The gradient of the scores before the mask. -/
def ds (kd : Vec F S1x512x192 .f32) (vd : Vec F S1x512x128 .f32) (q : Vec F S1x512x192 .f32) (z dy : Vec F S512x128 .f32) : FVec F S512x512 .f32 :=
  k0_pay28 (k0_pay12 vd) z (e kd vd q z dy) (o kd vd q z dy) (rinv kd vd q z dy) (rinv2 kd vd q z dy) (FloatOps.ofBits .f32 0x00000000#32) dy

/-- The gradient of the gate. -/
def dz (kd : Vec F S1x512x192 .f32) (vd : Vec F S1x512x128 .f32) (q : Vec F S1x512x192 .f32) (z dy : Vec F S512x128 .f32) : FVec F S512x128 .bf16 :=
  k0_pay5 (k0_pay25 z (on kd vd q z dy) (FloatOps.ofBits .f32 0x00000000#32) dy)

/-- The gradient of the queries. -/
def dq (kd : Vec F S1x512x192 .f32) (vd : Vec F S1x512x128 .f32) (q : Vec F S1x512x192 .f32) (z dy : Vec F S512x128 .f32) : FVec F S1x512x192 .f32 :=
  k0_pay4 (k0_pay11 kd) k0_pay14 (ds kd vd q z dy)

/-- The diagonal block's gradient of the keys, on top of `old`. -/
def dkd (kd : Vec F S1x512x192 .f32) (vd : Vec F S1x512x128 .f32) (q : Vec F S1x512x192 .f32) (z dy : Vec F S512x128 .f32) (old : Vec F S1x512x192 .f32) : FVec F S1x512x192 .f32 :=
  k0_pay6 (k0_pay13 q) k0_pay14 (ds kd vd q z dy) old

/-- The diagonal block's gradient of the values, on top of `old`. -/
def dvd (kd : Vec F S1x512x192 .f32) (vd : Vec F S1x512x128 .f32) (q : Vec F S1x512x192 .f32) (z dy : Vec F S512x128 .f32) (old : Vec F S1x512x128 .f32) : FVec F S1x512x128 .f32 :=
  k0_pay7 (k0_pay27 z (e kd vd q z dy) (rinv kd vd q z dy) (FloatOps.ofBits .f32 0x00000000#32) dy) old

end CaseA

namespace CaseB

/-- The scores against the earlier keys. -/
def sp (kp : Vec F S1x512x192 .f32) (vp : Vec F S1x512x128 .f32) (kd : Vec F S1x512x192 .f32) (vd : Vec F S1x512x128 .f32) (q : Vec F S1x512x192 .f32) (z dy : Vec F S512x128 .f32) : FVec F S512x512 .f32 :=
  k0_pay36 kp q

/-- The row maxima. -/
def mx (kp : Vec F S1x512x192 .f32) (vp : Vec F S1x512x128 .f32) (kd : Vec F S1x512x192 .f32) (vd : Vec F S1x512x128 .f32) (q : Vec F S1x512x192 .f32) (z dy : Vec F S512x128 .f32) : FVec F S512x1 .f32 :=
  k0_pay37 kp kd q

/-- The diagonal scores, masked, less the row maxima. -/
def td (kp : Vec F S1x512x192 .f32) (vp : Vec F S1x512x128 .f32) (kd : Vec F S1x512x192 .f32) (vd : Vec F S1x512x128 .f32) (q : Vec F S1x512x192 .f32) (z dy : Vec F S512x128 .f32) : FVec F S512x512 .f32 :=
  k0_pay38 kp kd q

/-- The exponentials of the diagonal block. -/
def ed (kp : Vec F S1x512x192 .f32) (vp : Vec F S1x512x128 .f32) (kd : Vec F S1x512x192 .f32) (vd : Vec F S1x512x128 .f32) (q : Vec F S1x512x192 .f32) (z dy : Vec F S512x128 .f32) : FVec F S512x512 .f32 :=
  k0_pay39 (td kp vp kd vd q z dy)

/-- The exponentials of the earlier blocks. -/
def ep (kp : Vec F S1x512x192 .f32) (vp : Vec F S1x512x128 .f32) (kd : Vec F S1x512x192 .f32) (vd : Vec F S1x512x128 .f32) (q : Vec F S1x512x192 .f32) (z dy : Vec F S512x128 .f32) : FVec F S512x512 .f32 :=
  k0_pay40 (sp kp vp kd vd q z dy) (mx kp vp kd vd q z dy)

/-- The weighted sum of the values, not yet divided. -/
def o (kp : Vec F S1x512x192 .f32) (vp : Vec F S1x512x128 .f32) (kd : Vec F S1x512x192 .f32) (vd : Vec F S1x512x128 .f32) (q : Vec F S1x512x192 .f32) (z dy : Vec F S512x128 .f32) : FVec F S512x128 .f32 :=
  k0_pay42 (k0_pay30 vp) (k0_pay32 vd) (sp kp vp kd vd q z dy) (mx kp vp kd vd q z dy) (td kp vp kd vd q z dy)

/-- One over the row sums. -/
def rinv (kp : Vec F S1x512x192 .f32) (vp : Vec F S1x512x128 .f32) (kd : Vec F S1x512x192 .f32) (vd : Vec F S1x512x128 .f32) (q : Vec F S1x512x192 .f32) (z dy : Vec F S512x128 .f32) : FVec F S512x1 .f32 :=
  k0_pay43 (sp kp vp kd vd q z dy) (mx kp vp kd vd q z dy) (td kp vp kd vd q z dy)

/-- One over the squared row sums. -/
def rinv2 (kp : Vec F S1x512x192 .f32) (vp : Vec F S1x512x128 .f32) (kd : Vec F S1x512x192 .f32) (vd : Vec F S1x512x128 .f32) (q : Vec F S1x512x192 .f32) (z dy : Vec F S512x128 .f32) : FVec F S512x1 .f32 :=
  k0_pay44 (sp kp vp kd vd q z dy) (mx kp vp kd vd q z dy) (td kp vp kd vd q z dy)

/-- The gradient of the attention's output. -/
def g (kp : Vec F S1x512x192 .f32) (vp : Vec F S1x512x128 .f32) (kd : Vec F S1x512x192 .f32) (vd : Vec F S1x512x128 .f32) (q : Vec F S1x512x192 .f32) (z dy : Vec F S512x128 .f32) : FVec F S512x128 .f32 :=
  k0_pay49 z dy

/-- The gradient of the gate. -/
def dz (kp : Vec F S1x512x192 .f32) (vp : Vec F S1x512x128 .f32) (kd : Vec F S1x512x192 .f32) (vd : Vec F S1x512x128 .f32) (q : Vec F S1x512x192 .f32) (z dy : Vec F S512x128 .f32) : FVec F S512x128 .bf16 :=
  k0_pay64 (k0_pay52 (k0_pay50 (k0_pay30 vp) (k0_pay32 vd) z (sp kp vp kd vd q z dy) (mx kp vp kd vd q z dy) (td kp vp kd vd q z dy) dy) (k0_pay51 (k0_pay30 vp) (k0_pay32 vd) z (sp kp vp kd vd q z dy) (mx kp vp kd vd q z dy) (td kp vp kd vd q z dy) dy) (FloatOps.ofBits .f32 0x00000000#32))

/-- The gradient of the queries. -/
def dq (kp : Vec F S1x512x192 .f32) (vp : Vec F S1x512x128 .f32) (kd : Vec F S1x512x192 .f32) (vd : Vec F S1x512x128 .f32) (q : Vec F S1x512x192 .f32) (z dy : Vec F S512x128 .f32) : FVec F S1x512x192 .f32 :=
  k0_pay63 (k0_pay58 (k0_pay29 kp) (k0_pay30 vp) (ep kp vp kd vd q z dy) (o kp vp kd vd q z dy) (rinv kp vp kd vd q z dy) (rinv2 kp vp kd vd q z dy) (g kp vp kd vd q z dy)) (k0_pay61 (k0_pay31 kd) (k0_pay32 vd) k0_pay34 (ed kp vp kd vd q z dy) (o kp vp kd vd q z dy) (rinv kp vp kd vd q z dy) (rinv2 kp vp kd vd q z dy) (g kp vp kd vd q z dy))

/-- The diagonal block's gradient of the keys, on top of `old`. -/
def dkd (kp : Vec F S1x512x192 .f32) (vp : Vec F S1x512x128 .f32) (kd : Vec F S1x512x192 .f32) (vd : Vec F S1x512x128 .f32) (q : Vec F S1x512x192 .f32) (z dy : Vec F S512x128 .f32) (old : Vec F S1x512x192 .f32) : FVec F S1x512x192 .f32 :=
  k0_pay65 (k0_pay33 q) (k0_pay62 (k0_pay32 vd) k0_pay34 (ed kp vp kd vd q z dy) (o kp vp kd vd q z dy) (rinv kp vp kd vd q z dy) (rinv2 kp vp kd vd q z dy) (g kp vp kd vd q z dy)) old

/-- The diagonal block's gradient of the values, on top of `old`. -/
def dvd (kp : Vec F S1x512x192 .f32) (vp : Vec F S1x512x128 .f32) (kd : Vec F S1x512x192 .f32) (vd : Vec F S1x512x128 .f32) (q : Vec F S1x512x192 .f32) (z dy : Vec F S512x128 .f32) (old : Vec F S1x512x128 .f32) : FVec F S1x512x128 .f32 :=
  k0_pay66 (k0_pay57 (ed kp vp kd vd q z dy) (rinv kp vp kd vd q z dy) (g kp vp kd vd q z dy)) old

/-- The earlier blocks' gradient of the keys, on top of `old`. -/
def dkp (kp : Vec F S1x512x192 .f32) (vp : Vec F S1x512x128 .f32) (kd : Vec F S1x512x192 .f32) (vd : Vec F S1x512x128 .f32) (q : Vec F S1x512x192 .f32) (z dy : Vec F S512x128 .f32) (old : Vec F S1x512x192 .f32) : FVec F S1x512x192 .f32 :=
  k0_pay67 (k0_pay59 (k0_pay30 vp) (k0_pay33 q) (ep kp vp kd vd q z dy) (o kp vp kd vd q z dy) (rinv kp vp kd vd q z dy) (rinv2 kp vp kd vd q z dy) (g kp vp kd vd q z dy)) old

/-- The earlier blocks' gradient of the values, on top of `old`. -/
def dvp (kp : Vec F S1x512x192 .f32) (vp : Vec F S1x512x128 .f32) (kd : Vec F S1x512x192 .f32) (vd : Vec F S1x512x128 .f32) (q : Vec F S1x512x192 .f32) (z dy : Vec F S512x128 .f32) (old : Vec F S1x512x128 .f32) : FVec F S1x512x128 .f32 :=
  k0_pay8 (k0_pay55 (ep kp vp kd vd q z dy) (rinv kp vp kd vd q z dy) (g kp vp kd vd q z dy)) old

end CaseB

namespace CaseC

/-- The scores against the earlier keys. -/
def sp (kp : Vec F S1x1024x192 .f32) (vp : Vec F S1x1024x128 .f32) (kd : Vec F S1x512x192 .f32) (vd : Vec F S1x512x128 .f32) (q : Vec F S1x512x192 .f32) (z dy : Vec F S512x128 .f32) : FVec F S512x1024 .f32 :=
  k0_pay75 kp q

/-- The row maxima. -/
def mx (kp : Vec F S1x1024x192 .f32) (vp : Vec F S1x1024x128 .f32) (kd : Vec F S1x512x192 .f32) (vd : Vec F S1x512x128 .f32) (q : Vec F S1x512x192 .f32) (z dy : Vec F S512x128 .f32) : FVec F S512x1 .f32 :=
  k0_pay76 kp kd q

/-- The diagonal scores, masked, less the row maxima. -/
def td (kp : Vec F S1x1024x192 .f32) (vp : Vec F S1x1024x128 .f32) (kd : Vec F S1x512x192 .f32) (vd : Vec F S1x512x128 .f32) (q : Vec F S1x512x192 .f32) (z dy : Vec F S512x128 .f32) : FVec F S512x512 .f32 :=
  k0_pay77 kp kd q

/-- The exponentials of the diagonal block. -/
def ed (kp : Vec F S1x1024x192 .f32) (vp : Vec F S1x1024x128 .f32) (kd : Vec F S1x512x192 .f32) (vd : Vec F S1x512x128 .f32) (q : Vec F S1x512x192 .f32) (z dy : Vec F S512x128 .f32) : FVec F S512x512 .f32 :=
  k0_pay78 (td kp vp kd vd q z dy)

/-- The exponentials of the earlier blocks. -/
def ep (kp : Vec F S1x1024x192 .f32) (vp : Vec F S1x1024x128 .f32) (kd : Vec F S1x512x192 .f32) (vd : Vec F S1x512x128 .f32) (q : Vec F S1x512x192 .f32) (z dy : Vec F S512x128 .f32) : FVec F S512x1024 .f32 :=
  k0_pay79 (sp kp vp kd vd q z dy) (mx kp vp kd vd q z dy)

/-- The weighted sum of the values, not yet divided. -/
def o (kp : Vec F S1x1024x192 .f32) (vp : Vec F S1x1024x128 .f32) (kd : Vec F S1x512x192 .f32) (vd : Vec F S1x512x128 .f32) (q : Vec F S1x512x192 .f32) (z dy : Vec F S512x128 .f32) : FVec F S512x128 .f32 :=
  k0_pay81 (k0_pay69 vp) (k0_pay71 vd) (sp kp vp kd vd q z dy) (mx kp vp kd vd q z dy) (td kp vp kd vd q z dy)

/-- One over the row sums. -/
def rinv (kp : Vec F S1x1024x192 .f32) (vp : Vec F S1x1024x128 .f32) (kd : Vec F S1x512x192 .f32) (vd : Vec F S1x512x128 .f32) (q : Vec F S1x512x192 .f32) (z dy : Vec F S512x128 .f32) : FVec F S512x1 .f32 :=
  k0_pay82 (sp kp vp kd vd q z dy) (mx kp vp kd vd q z dy) (td kp vp kd vd q z dy)

/-- One over the squared row sums. -/
def rinv2 (kp : Vec F S1x1024x192 .f32) (vp : Vec F S1x1024x128 .f32) (kd : Vec F S1x512x192 .f32) (vd : Vec F S1x512x128 .f32) (q : Vec F S1x512x192 .f32) (z dy : Vec F S512x128 .f32) : FVec F S512x1 .f32 :=
  k0_pay83 (sp kp vp kd vd q z dy) (mx kp vp kd vd q z dy) (td kp vp kd vd q z dy)

/-- The gradient of the attention's output. -/
def g (kp : Vec F S1x1024x192 .f32) (vp : Vec F S1x1024x128 .f32) (kd : Vec F S1x512x192 .f32) (vd : Vec F S1x512x128 .f32) (q : Vec F S1x512x192 .f32) (z dy : Vec F S512x128 .f32) : FVec F S512x128 .f32 :=
  k0_pay88 z dy

/-- The gradient of the gate. -/
def dz (kp : Vec F S1x1024x192 .f32) (vp : Vec F S1x1024x128 .f32) (kd : Vec F S1x512x192 .f32) (vd : Vec F S1x512x128 .f32) (q : Vec F S1x512x192 .f32) (z dy : Vec F S512x128 .f32) : FVec F S512x128 .bf16 :=
  k0_pay103 (k0_pay91 (k0_pay89 (k0_pay69 vp) (k0_pay71 vd) z (sp kp vp kd vd q z dy) (mx kp vp kd vd q z dy) (td kp vp kd vd q z dy) dy) (k0_pay90 (k0_pay69 vp) (k0_pay71 vd) z (sp kp vp kd vd q z dy) (mx kp vp kd vd q z dy) (td kp vp kd vd q z dy) dy) (FloatOps.ofBits .f32 0x00000000#32))

/-- The gradient of the queries. -/
def dq (kp : Vec F S1x1024x192 .f32) (vp : Vec F S1x1024x128 .f32) (kd : Vec F S1x512x192 .f32) (vd : Vec F S1x512x128 .f32) (q : Vec F S1x512x192 .f32) (z dy : Vec F S512x128 .f32) : FVec F S1x512x192 .f32 :=
  k0_pay102 (k0_pay97 (k0_pay68 kp) (k0_pay69 vp) (ep kp vp kd vd q z dy) (o kp vp kd vd q z dy) (rinv kp vp kd vd q z dy) (rinv2 kp vp kd vd q z dy) (g kp vp kd vd q z dy)) (k0_pay100 (k0_pay70 kd) (k0_pay71 vd) k0_pay73 (ed kp vp kd vd q z dy) (o kp vp kd vd q z dy) (rinv kp vp kd vd q z dy) (rinv2 kp vp kd vd q z dy) (g kp vp kd vd q z dy))

/-- The diagonal block's gradient of the keys, on top of `old`. -/
def dkd (kp : Vec F S1x1024x192 .f32) (vp : Vec F S1x1024x128 .f32) (kd : Vec F S1x512x192 .f32) (vd : Vec F S1x512x128 .f32) (q : Vec F S1x512x192 .f32) (z dy : Vec F S512x128 .f32) (old : Vec F S1x512x192 .f32) : FVec F S1x512x192 .f32 :=
  k0_pay104 (k0_pay72 q) (k0_pay101 (k0_pay71 vd) k0_pay73 (ed kp vp kd vd q z dy) (o kp vp kd vd q z dy) (rinv kp vp kd vd q z dy) (rinv2 kp vp kd vd q z dy) (g kp vp kd vd q z dy)) old

/-- The diagonal block's gradient of the values, on top of `old`. -/
def dvd (kp : Vec F S1x1024x192 .f32) (vp : Vec F S1x1024x128 .f32) (kd : Vec F S1x512x192 .f32) (vd : Vec F S1x512x128 .f32) (q : Vec F S1x512x192 .f32) (z dy : Vec F S512x128 .f32) (old : Vec F S1x512x128 .f32) : FVec F S1x512x128 .f32 :=
  k0_pay105 (k0_pay96 (ed kp vp kd vd q z dy) (rinv kp vp kd vd q z dy) (g kp vp kd vd q z dy)) old

/-- The earlier blocks' gradient of the keys, on top of `old`. -/
def dkp (kp : Vec F S1x1024x192 .f32) (vp : Vec F S1x1024x128 .f32) (kd : Vec F S1x512x192 .f32) (vd : Vec F S1x512x128 .f32) (q : Vec F S1x512x192 .f32) (z dy : Vec F S512x128 .f32) (old : Vec F S1x1024x192 .f32) : FVec F S1x1024x192 .f32 :=
  k0_pay106 (k0_pay98 (k0_pay69 vp) (k0_pay72 q) (ep kp vp kd vd q z dy) (o kp vp kd vd q z dy) (rinv kp vp kd vd q z dy) (rinv2 kp vp kd vd q z dy) (g kp vp kd vd q z dy)) old

/-- The earlier blocks' gradient of the values, on top of `old`. -/
def dvp (kp : Vec F S1x1024x192 .f32) (vp : Vec F S1x1024x128 .f32) (kd : Vec F S1x512x192 .f32) (vd : Vec F S1x512x128 .f32) (q : Vec F S1x512x192 .f32) (z dy : Vec F S512x128 .f32) (old : Vec F S1x1024x128 .f32) : FVec F S1x1024x128 .f32 :=
  k0_pay9 (k0_pay94 (ep kp vp kd vd q z dy) (rinv kp vp kd vd q z dy) (g kp vp kd vd q z dy)) old

end CaseC

namespace CaseD

/-- The scores against the earlier keys. -/
def sp (kp : Vec F S1x1536x192 .f32) (vp : Vec F S1x1536x128 .f32) (kd : Vec F S1x512x192 .f32) (vd : Vec F S1x512x128 .f32) (q : Vec F S1x512x192 .f32) (z dy : Vec F S512x128 .f32) : FVec F S512x1536 .f32 :=
  k0_pay114 kp q

/-- The row maxima. -/
def mx (kp : Vec F S1x1536x192 .f32) (vp : Vec F S1x1536x128 .f32) (kd : Vec F S1x512x192 .f32) (vd : Vec F S1x512x128 .f32) (q : Vec F S1x512x192 .f32) (z dy : Vec F S512x128 .f32) : FVec F S512x1 .f32 :=
  k0_pay115 kp kd q

/-- The diagonal scores, masked, less the row maxima. -/
def td (kp : Vec F S1x1536x192 .f32) (vp : Vec F S1x1536x128 .f32) (kd : Vec F S1x512x192 .f32) (vd : Vec F S1x512x128 .f32) (q : Vec F S1x512x192 .f32) (z dy : Vec F S512x128 .f32) : FVec F S512x512 .f32 :=
  k0_pay116 kp kd q

/-- The exponentials of the diagonal block. -/
def ed (kp : Vec F S1x1536x192 .f32) (vp : Vec F S1x1536x128 .f32) (kd : Vec F S1x512x192 .f32) (vd : Vec F S1x512x128 .f32) (q : Vec F S1x512x192 .f32) (z dy : Vec F S512x128 .f32) : FVec F S512x512 .f32 :=
  k0_pay117 (td kp vp kd vd q z dy)

/-- The exponentials of the earlier blocks. -/
def ep (kp : Vec F S1x1536x192 .f32) (vp : Vec F S1x1536x128 .f32) (kd : Vec F S1x512x192 .f32) (vd : Vec F S1x512x128 .f32) (q : Vec F S1x512x192 .f32) (z dy : Vec F S512x128 .f32) : FVec F S512x1536 .f32 :=
  k0_pay118 (sp kp vp kd vd q z dy) (mx kp vp kd vd q z dy)

/-- The weighted sum of the values, not yet divided. -/
def o (kp : Vec F S1x1536x192 .f32) (vp : Vec F S1x1536x128 .f32) (kd : Vec F S1x512x192 .f32) (vd : Vec F S1x512x128 .f32) (q : Vec F S1x512x192 .f32) (z dy : Vec F S512x128 .f32) : FVec F S512x128 .f32 :=
  k0_pay120 (k0_pay108 vp) (k0_pay110 vd) (sp kp vp kd vd q z dy) (mx kp vp kd vd q z dy) (td kp vp kd vd q z dy)

/-- One over the row sums. -/
def rinv (kp : Vec F S1x1536x192 .f32) (vp : Vec F S1x1536x128 .f32) (kd : Vec F S1x512x192 .f32) (vd : Vec F S1x512x128 .f32) (q : Vec F S1x512x192 .f32) (z dy : Vec F S512x128 .f32) : FVec F S512x1 .f32 :=
  k0_pay121 (sp kp vp kd vd q z dy) (mx kp vp kd vd q z dy) (td kp vp kd vd q z dy)

/-- One over the squared row sums. -/
def rinv2 (kp : Vec F S1x1536x192 .f32) (vp : Vec F S1x1536x128 .f32) (kd : Vec F S1x512x192 .f32) (vd : Vec F S1x512x128 .f32) (q : Vec F S1x512x192 .f32) (z dy : Vec F S512x128 .f32) : FVec F S512x1 .f32 :=
  k0_pay122 (sp kp vp kd vd q z dy) (mx kp vp kd vd q z dy) (td kp vp kd vd q z dy)

/-- The gradient of the attention's output. -/
def g (kp : Vec F S1x1536x192 .f32) (vp : Vec F S1x1536x128 .f32) (kd : Vec F S1x512x192 .f32) (vd : Vec F S1x512x128 .f32) (q : Vec F S1x512x192 .f32) (z dy : Vec F S512x128 .f32) : FVec F S512x128 .f32 :=
  k0_pay127 z dy

/-- The gradient of the gate. -/
def dz (kp : Vec F S1x1536x192 .f32) (vp : Vec F S1x1536x128 .f32) (kd : Vec F S1x512x192 .f32) (vd : Vec F S1x512x128 .f32) (q : Vec F S1x512x192 .f32) (z dy : Vec F S512x128 .f32) : FVec F S512x128 .bf16 :=
  k0_pay142 (k0_pay130 (k0_pay128 (k0_pay108 vp) (k0_pay110 vd) z (sp kp vp kd vd q z dy) (mx kp vp kd vd q z dy) (td kp vp kd vd q z dy) dy) (k0_pay129 (k0_pay108 vp) (k0_pay110 vd) z (sp kp vp kd vd q z dy) (mx kp vp kd vd q z dy) (td kp vp kd vd q z dy) dy) (FloatOps.ofBits .f32 0x00000000#32))

/-- The gradient of the queries. -/
def dq (kp : Vec F S1x1536x192 .f32) (vp : Vec F S1x1536x128 .f32) (kd : Vec F S1x512x192 .f32) (vd : Vec F S1x512x128 .f32) (q : Vec F S1x512x192 .f32) (z dy : Vec F S512x128 .f32) : FVec F S1x512x192 .f32 :=
  k0_pay141 (k0_pay136 (k0_pay107 kp) (k0_pay108 vp) (ep kp vp kd vd q z dy) (o kp vp kd vd q z dy) (rinv kp vp kd vd q z dy) (rinv2 kp vp kd vd q z dy) (g kp vp kd vd q z dy)) (k0_pay139 (k0_pay109 kd) (k0_pay110 vd) k0_pay112 (ed kp vp kd vd q z dy) (o kp vp kd vd q z dy) (rinv kp vp kd vd q z dy) (rinv2 kp vp kd vd q z dy) (g kp vp kd vd q z dy))

/-- The diagonal block's gradient of the keys, on top of `old`. -/
def dkd (kp : Vec F S1x1536x192 .f32) (vp : Vec F S1x1536x128 .f32) (kd : Vec F S1x512x192 .f32) (vd : Vec F S1x512x128 .f32) (q : Vec F S1x512x192 .f32) (z dy : Vec F S512x128 .f32) (old : Vec F S1x512x192 .f32) : FVec F S1x512x192 .f32 :=
  k0_pay143 (k0_pay111 q) (k0_pay140 (k0_pay110 vd) k0_pay112 (ed kp vp kd vd q z dy) (o kp vp kd vd q z dy) (rinv kp vp kd vd q z dy) (rinv2 kp vp kd vd q z dy) (g kp vp kd vd q z dy)) old

/-- The diagonal block's gradient of the values, on top of `old`. -/
def dvd (kp : Vec F S1x1536x192 .f32) (vp : Vec F S1x1536x128 .f32) (kd : Vec F S1x512x192 .f32) (vd : Vec F S1x512x128 .f32) (q : Vec F S1x512x192 .f32) (z dy : Vec F S512x128 .f32) (old : Vec F S1x512x128 .f32) : FVec F S1x512x128 .f32 :=
  k0_pay144 (k0_pay135 (ed kp vp kd vd q z dy) (rinv kp vp kd vd q z dy) (g kp vp kd vd q z dy)) old

/-- The earlier blocks' gradient of the keys, on top of `old`. -/
def dkp (kp : Vec F S1x1536x192 .f32) (vp : Vec F S1x1536x128 .f32) (kd : Vec F S1x512x192 .f32) (vd : Vec F S1x512x128 .f32) (q : Vec F S1x512x192 .f32) (z dy : Vec F S512x128 .f32) (old : Vec F S1x1536x192 .f32) : FVec F S1x1536x192 .f32 :=
  k0_pay145 (k0_pay137 (k0_pay108 vp) (k0_pay111 q) (ep kp vp kd vd q z dy) (o kp vp kd vd q z dy) (rinv kp vp kd vd q z dy) (rinv2 kp vp kd vd q z dy) (g kp vp kd vd q z dy)) old

/-- The earlier blocks' gradient of the values, on top of `old`. -/
def dvp (kp : Vec F S1x1536x192 .f32) (vp : Vec F S1x1536x128 .f32) (kd : Vec F S1x512x192 .f32) (vd : Vec F S1x512x128 .f32) (q : Vec F S1x512x192 .f32) (z dy : Vec F S512x128 .f32) (old : Vec F S1x1536x128 .f32) : FVec F S1x1536x128 .f32 :=
  k0_pay10 (k0_pay133 (ep kp vp kd vd q z dy) (rinv kp vp kd vd q z dy) (g kp vp kd vd q z dy)) old

end CaseD

/-! ## The results of a grid point from the blocks it is handed

`x0` the queries' block, `x1` the head's keys, `x2` the head's values, `x3` the gate's block, `x4` the gradient's block; `d6` and
`d7` what the two summed buffers held before. -/

/-- Query block 0: the gradient of the queries. -/
def outDqA (x0 : Vec F S1x512x192 .f32) (x1 : Vec F S1x2048x192 .f32) (x2 : Vec F S1x2048x128 .f32) (x3 : Vec F S512x128 .f32) (x4 : Vec F S512x128 .f32) : Vec F S1x512x192 .f32 :=
  CaseA.dq (View.ld (Val := Elt F) (e' := .f32) x1 (Rect.unit (s := S1x2048x192) ![0, 0, 0] ![1, 512, 192] (by decide))) (View.ld (Val := Elt F) (e' := .f32) x2 (Rect.unit (s := S1x2048x128) ![0, 0, 0] ![1, 512, 128] (by decide))) x0 x3 x4

/-- Query block 0: the gradient of the gate. -/
def outDzA (x0 : Vec F S1x512x192 .f32) (x1 : Vec F S1x2048x192 .f32) (x2 : Vec F S1x2048x128 .f32) (x3 : Vec F S512x128 .f32) (x4 : Vec F S512x128 .f32) : Vec F S512x128 .bf16 :=
  CaseA.dz (View.ld (Val := Elt F) (e' := .f32) x1 (Rect.unit (s := S1x2048x192) ![0, 0, 0] ![1, 512, 192] (by decide))) (View.ld (Val := Elt F) (e' := .f32) x2 (Rect.unit (s := S1x2048x128) ![0, 0, 0] ![1, 512, 128] (by decide))) x0 x3 x4

/-- Query block 0: the buffer of the keys' gradient is cleared, then the diagonal block's part added. -/
def outDkA (x0 : Vec F S1x512x192 .f32) (x1 : Vec F S1x2048x192 .f32) (x2 : Vec F S1x2048x128 .f32) (x3 : Vec F S512x128 .f32) (x4 : Vec F S512x128 .f32) : Vec F S1x2048x192 .f32 :=
  (Rect.unit (s := S1x2048x192) ![0, 0, 0] ![1, 512, 192] (by decide)).overlay k0_pay1 (CaseA.dkd (View.ld (Val := Elt F) (e' := .f32) x1 (Rect.unit (s := S1x2048x192) ![0, 0, 0] ![1, 512, 192] (by decide))) (View.ld (Val := Elt F) (e' := .f32) x2 (Rect.unit (s := S1x2048x128) ![0, 0, 0] ![1, 512, 128] (by decide))) x0 x3 x4 (View.ld (Val := Elt F) (e' := .f32) k0_pay1 (Rect.unit (s := S1x2048x192) ![0, 0, 0] ![1, 512, 192] (by decide))))

/-- Query block 0: the buffer of the values' gradient is cleared, then the diagonal block's part added. -/
def outDvA (x0 : Vec F S1x512x192 .f32) (x1 : Vec F S1x2048x192 .f32) (x2 : Vec F S1x2048x128 .f32) (x3 : Vec F S512x128 .f32) (x4 : Vec F S512x128 .f32) : Vec F S1x2048x128 .f32 :=
  (Rect.unit (s := S1x2048x128) ![0, 0, 0] ![1, 512, 128] (by decide)).overlay k0_pay2 (CaseA.dvd (View.ld (Val := Elt F) (e' := .f32) x1 (Rect.unit (s := S1x2048x192) ![0, 0, 0] ![1, 512, 192] (by decide))) (View.ld (Val := Elt F) (e' := .f32) x2 (Rect.unit (s := S1x2048x128) ![0, 0, 0] ![1, 512, 128] (by decide))) x0 x3 x4 (View.ld (Val := Elt F) (e' := .f32) k0_pay2 (Rect.unit (s := S1x2048x128) ![0, 0, 0] ![1, 512, 128] (by decide))))

/-- Query block 1: the gradient of the queries. -/
def outDqB (x0 : Vec F S1x512x192 .f32) (x1 : Vec F S1x2048x192 .f32) (x2 : Vec F S1x2048x128 .f32) (x3 : Vec F S512x128 .f32) (x4 : Vec F S512x128 .f32) : Vec F S1x512x192 .f32 :=
  CaseB.dq (View.ld (Val := Elt F) (e' := .f32) x1 (Rect.unit (s := S1x2048x192) ![0, 0, 0] ![1, 512, 192] (by decide))) (View.ld (Val := Elt F) (e' := .f32) x2 (Rect.unit (s := S1x2048x128) ![0, 0, 0] ![1, 512, 128] (by decide))) (View.ld (Val := Elt F) (e' := .f32) x1 (Rect.unit (s := S1x2048x192) ![0, 512, 0] ![1, 512, 192] (by decide))) (View.ld (Val := Elt F) (e' := .f32) x2 (Rect.unit (s := S1x2048x128) ![0, 512, 0] ![1, 512, 128] (by decide))) x0 x3 x4

/-- Query block 1: the gradient of the gate. -/
def outDzB (x0 : Vec F S1x512x192 .f32) (x1 : Vec F S1x2048x192 .f32) (x2 : Vec F S1x2048x128 .f32) (x3 : Vec F S512x128 .f32) (x4 : Vec F S512x128 .f32) : Vec F S512x128 .bf16 :=
  CaseB.dz (View.ld (Val := Elt F) (e' := .f32) x1 (Rect.unit (s := S1x2048x192) ![0, 0, 0] ![1, 512, 192] (by decide))) (View.ld (Val := Elt F) (e' := .f32) x2 (Rect.unit (s := S1x2048x128) ![0, 0, 0] ![1, 512, 128] (by decide))) (View.ld (Val := Elt F) (e' := .f32) x1 (Rect.unit (s := S1x2048x192) ![0, 512, 0] ![1, 512, 192] (by decide))) (View.ld (Val := Elt F) (e' := .f32) x2 (Rect.unit (s := S1x2048x128) ![0, 512, 0] ![1, 512, 128] (by decide))) x0 x3 x4

/-- Query block 1: the diagonal and the earlier blocks' parts added to the keys' gradient. -/
def outDkB (x0 : Vec F S1x512x192 .f32) (x1 : Vec F S1x2048x192 .f32) (x2 : Vec F S1x2048x128 .f32) (x3 : Vec F S512x128 .f32) (x4 : Vec F S512x128 .f32) (d6 : Vec F S1x2048x192 .f32) : Vec F S1x2048x192 .f32 :=
  (Rect.unit (s := S1x2048x192) ![0, 0, 0] ![1, 512, 192] (by decide)).overlay ((Rect.unit (s := S1x2048x192) ![0, 512, 0] ![1, 512, 192] (by decide)).overlay d6 (CaseB.dkd (View.ld (Val := Elt F) (e' := .f32) x1 (Rect.unit (s := S1x2048x192) ![0, 0, 0] ![1, 512, 192] (by decide))) (View.ld (Val := Elt F) (e' := .f32) x2 (Rect.unit (s := S1x2048x128) ![0, 0, 0] ![1, 512, 128] (by decide))) (View.ld (Val := Elt F) (e' := .f32) x1 (Rect.unit (s := S1x2048x192) ![0, 512, 0] ![1, 512, 192] (by decide))) (View.ld (Val := Elt F) (e' := .f32) x2 (Rect.unit (s := S1x2048x128) ![0, 512, 0] ![1, 512, 128] (by decide))) x0 x3 x4 (View.ld (Val := Elt F) (e' := .f32) d6 (Rect.unit (s := S1x2048x192) ![0, 512, 0] ![1, 512, 192] (by decide))))) (CaseB.dkp (View.ld (Val := Elt F) (e' := .f32) x1 (Rect.unit (s := S1x2048x192) ![0, 0, 0] ![1, 512, 192] (by decide))) (View.ld (Val := Elt F) (e' := .f32) x2 (Rect.unit (s := S1x2048x128) ![0, 0, 0] ![1, 512, 128] (by decide))) (View.ld (Val := Elt F) (e' := .f32) x1 (Rect.unit (s := S1x2048x192) ![0, 512, 0] ![1, 512, 192] (by decide))) (View.ld (Val := Elt F) (e' := .f32) x2 (Rect.unit (s := S1x2048x128) ![0, 512, 0] ![1, 512, 128] (by decide))) x0 x3 x4 (View.ld (Val := Elt F) (e' := .f32) d6 (Rect.unit (s := S1x2048x192) ![0, 0, 0] ![1, 512, 192] (by decide))))

/-- Query block 1: the diagonal and the earlier blocks' parts added to the values' gradient. -/
def outDvB (x0 : Vec F S1x512x192 .f32) (x1 : Vec F S1x2048x192 .f32) (x2 : Vec F S1x2048x128 .f32) (x3 : Vec F S512x128 .f32) (x4 : Vec F S512x128 .f32) (d7 : Vec F S1x2048x128 .f32) : Vec F S1x2048x128 .f32 :=
  (Rect.unit (s := S1x2048x128) ![0, 0, 0] ![1, 512, 128] (by decide)).overlay ((Rect.unit (s := S1x2048x128) ![0, 512, 0] ![1, 512, 128] (by decide)).overlay d7 (CaseB.dvd (View.ld (Val := Elt F) (e' := .f32) x1 (Rect.unit (s := S1x2048x192) ![0, 0, 0] ![1, 512, 192] (by decide))) (View.ld (Val := Elt F) (e' := .f32) x2 (Rect.unit (s := S1x2048x128) ![0, 0, 0] ![1, 512, 128] (by decide))) (View.ld (Val := Elt F) (e' := .f32) x1 (Rect.unit (s := S1x2048x192) ![0, 512, 0] ![1, 512, 192] (by decide))) (View.ld (Val := Elt F) (e' := .f32) x2 (Rect.unit (s := S1x2048x128) ![0, 512, 0] ![1, 512, 128] (by decide))) x0 x3 x4 (View.ld (Val := Elt F) (e' := .f32) d7 (Rect.unit (s := S1x2048x128) ![0, 512, 0] ![1, 512, 128] (by decide))))) (CaseB.dvp (View.ld (Val := Elt F) (e' := .f32) x1 (Rect.unit (s := S1x2048x192) ![0, 0, 0] ![1, 512, 192] (by decide))) (View.ld (Val := Elt F) (e' := .f32) x2 (Rect.unit (s := S1x2048x128) ![0, 0, 0] ![1, 512, 128] (by decide))) (View.ld (Val := Elt F) (e' := .f32) x1 (Rect.unit (s := S1x2048x192) ![0, 512, 0] ![1, 512, 192] (by decide))) (View.ld (Val := Elt F) (e' := .f32) x2 (Rect.unit (s := S1x2048x128) ![0, 512, 0] ![1, 512, 128] (by decide))) x0 x3 x4 (View.ld (Val := Elt F) (e' := .f32) d7 (Rect.unit (s := S1x2048x128) ![0, 0, 0] ![1, 512, 128] (by decide))))

/-- Query block 2: the gradient of the queries. -/
def outDqC (x0 : Vec F S1x512x192 .f32) (x1 : Vec F S1x2048x192 .f32) (x2 : Vec F S1x2048x128 .f32) (x3 : Vec F S512x128 .f32) (x4 : Vec F S512x128 .f32) : Vec F S1x512x192 .f32 :=
  CaseC.dq (View.ld (Val := Elt F) (e' := .f32) x1 (Rect.unit (s := S1x2048x192) ![0, 0, 0] ![1, 1024, 192] (by decide))) (View.ld (Val := Elt F) (e' := .f32) x2 (Rect.unit (s := S1x2048x128) ![0, 0, 0] ![1, 1024, 128] (by decide))) (View.ld (Val := Elt F) (e' := .f32) x1 (Rect.unit (s := S1x2048x192) ![0, 1024, 0] ![1, 512, 192] (by decide))) (View.ld (Val := Elt F) (e' := .f32) x2 (Rect.unit (s := S1x2048x128) ![0, 1024, 0] ![1, 512, 128] (by decide))) x0 x3 x4

/-- Query block 2: the gradient of the gate. -/
def outDzC (x0 : Vec F S1x512x192 .f32) (x1 : Vec F S1x2048x192 .f32) (x2 : Vec F S1x2048x128 .f32) (x3 : Vec F S512x128 .f32) (x4 : Vec F S512x128 .f32) : Vec F S512x128 .bf16 :=
  CaseC.dz (View.ld (Val := Elt F) (e' := .f32) x1 (Rect.unit (s := S1x2048x192) ![0, 0, 0] ![1, 1024, 192] (by decide))) (View.ld (Val := Elt F) (e' := .f32) x2 (Rect.unit (s := S1x2048x128) ![0, 0, 0] ![1, 1024, 128] (by decide))) (View.ld (Val := Elt F) (e' := .f32) x1 (Rect.unit (s := S1x2048x192) ![0, 1024, 0] ![1, 512, 192] (by decide))) (View.ld (Val := Elt F) (e' := .f32) x2 (Rect.unit (s := S1x2048x128) ![0, 1024, 0] ![1, 512, 128] (by decide))) x0 x3 x4

/-- Query block 2: the diagonal and the earlier blocks' parts added to the keys' gradient. -/
def outDkC (x0 : Vec F S1x512x192 .f32) (x1 : Vec F S1x2048x192 .f32) (x2 : Vec F S1x2048x128 .f32) (x3 : Vec F S512x128 .f32) (x4 : Vec F S512x128 .f32) (d6 : Vec F S1x2048x192 .f32) : Vec F S1x2048x192 .f32 :=
  (Rect.unit (s := S1x2048x192) ![0, 0, 0] ![1, 1024, 192] (by decide)).overlay ((Rect.unit (s := S1x2048x192) ![0, 1024, 0] ![1, 512, 192] (by decide)).overlay d6 (CaseC.dkd (View.ld (Val := Elt F) (e' := .f32) x1 (Rect.unit (s := S1x2048x192) ![0, 0, 0] ![1, 1024, 192] (by decide))) (View.ld (Val := Elt F) (e' := .f32) x2 (Rect.unit (s := S1x2048x128) ![0, 0, 0] ![1, 1024, 128] (by decide))) (View.ld (Val := Elt F) (e' := .f32) x1 (Rect.unit (s := S1x2048x192) ![0, 1024, 0] ![1, 512, 192] (by decide))) (View.ld (Val := Elt F) (e' := .f32) x2 (Rect.unit (s := S1x2048x128) ![0, 1024, 0] ![1, 512, 128] (by decide))) x0 x3 x4 (View.ld (Val := Elt F) (e' := .f32) d6 (Rect.unit (s := S1x2048x192) ![0, 1024, 0] ![1, 512, 192] (by decide))))) (CaseC.dkp (View.ld (Val := Elt F) (e' := .f32) x1 (Rect.unit (s := S1x2048x192) ![0, 0, 0] ![1, 1024, 192] (by decide))) (View.ld (Val := Elt F) (e' := .f32) x2 (Rect.unit (s := S1x2048x128) ![0, 0, 0] ![1, 1024, 128] (by decide))) (View.ld (Val := Elt F) (e' := .f32) x1 (Rect.unit (s := S1x2048x192) ![0, 1024, 0] ![1, 512, 192] (by decide))) (View.ld (Val := Elt F) (e' := .f32) x2 (Rect.unit (s := S1x2048x128) ![0, 1024, 0] ![1, 512, 128] (by decide))) x0 x3 x4 (View.ld (Val := Elt F) (e' := .f32) d6 (Rect.unit (s := S1x2048x192) ![0, 0, 0] ![1, 1024, 192] (by decide))))

/-- Query block 2: the diagonal and the earlier blocks' parts added to the values' gradient. -/
def outDvC (x0 : Vec F S1x512x192 .f32) (x1 : Vec F S1x2048x192 .f32) (x2 : Vec F S1x2048x128 .f32) (x3 : Vec F S512x128 .f32) (x4 : Vec F S512x128 .f32) (d7 : Vec F S1x2048x128 .f32) : Vec F S1x2048x128 .f32 :=
  (Rect.unit (s := S1x2048x128) ![0, 0, 0] ![1, 1024, 128] (by decide)).overlay ((Rect.unit (s := S1x2048x128) ![0, 1024, 0] ![1, 512, 128] (by decide)).overlay d7 (CaseC.dvd (View.ld (Val := Elt F) (e' := .f32) x1 (Rect.unit (s := S1x2048x192) ![0, 0, 0] ![1, 1024, 192] (by decide))) (View.ld (Val := Elt F) (e' := .f32) x2 (Rect.unit (s := S1x2048x128) ![0, 0, 0] ![1, 1024, 128] (by decide))) (View.ld (Val := Elt F) (e' := .f32) x1 (Rect.unit (s := S1x2048x192) ![0, 1024, 0] ![1, 512, 192] (by decide))) (View.ld (Val := Elt F) (e' := .f32) x2 (Rect.unit (s := S1x2048x128) ![0, 1024, 0] ![1, 512, 128] (by decide))) x0 x3 x4 (View.ld (Val := Elt F) (e' := .f32) d7 (Rect.unit (s := S1x2048x128) ![0, 1024, 0] ![1, 512, 128] (by decide))))) (CaseC.dvp (View.ld (Val := Elt F) (e' := .f32) x1 (Rect.unit (s := S1x2048x192) ![0, 0, 0] ![1, 1024, 192] (by decide))) (View.ld (Val := Elt F) (e' := .f32) x2 (Rect.unit (s := S1x2048x128) ![0, 0, 0] ![1, 1024, 128] (by decide))) (View.ld (Val := Elt F) (e' := .f32) x1 (Rect.unit (s := S1x2048x192) ![0, 1024, 0] ![1, 512, 192] (by decide))) (View.ld (Val := Elt F) (e' := .f32) x2 (Rect.unit (s := S1x2048x128) ![0, 1024, 0] ![1, 512, 128] (by decide))) x0 x3 x4 (View.ld (Val := Elt F) (e' := .f32) d7 (Rect.unit (s := S1x2048x128) ![0, 0, 0] ![1, 1024, 128] (by decide))))

/-- Query block 3: the gradient of the queries. -/
def outDqD (x0 : Vec F S1x512x192 .f32) (x1 : Vec F S1x2048x192 .f32) (x2 : Vec F S1x2048x128 .f32) (x3 : Vec F S512x128 .f32) (x4 : Vec F S512x128 .f32) : Vec F S1x512x192 .f32 :=
  CaseD.dq (View.ld (Val := Elt F) (e' := .f32) x1 (Rect.unit (s := S1x2048x192) ![0, 0, 0] ![1, 1536, 192] (by decide))) (View.ld (Val := Elt F) (e' := .f32) x2 (Rect.unit (s := S1x2048x128) ![0, 0, 0] ![1, 1536, 128] (by decide))) (View.ld (Val := Elt F) (e' := .f32) x1 (Rect.unit (s := S1x2048x192) ![0, 1536, 0] ![1, 512, 192] (by decide))) (View.ld (Val := Elt F) (e' := .f32) x2 (Rect.unit (s := S1x2048x128) ![0, 1536, 0] ![1, 512, 128] (by decide))) x0 x3 x4

/-- Query block 3: the gradient of the gate. -/
def outDzD (x0 : Vec F S1x512x192 .f32) (x1 : Vec F S1x2048x192 .f32) (x2 : Vec F S1x2048x128 .f32) (x3 : Vec F S512x128 .f32) (x4 : Vec F S512x128 .f32) : Vec F S512x128 .bf16 :=
  CaseD.dz (View.ld (Val := Elt F) (e' := .f32) x1 (Rect.unit (s := S1x2048x192) ![0, 0, 0] ![1, 1536, 192] (by decide))) (View.ld (Val := Elt F) (e' := .f32) x2 (Rect.unit (s := S1x2048x128) ![0, 0, 0] ![1, 1536, 128] (by decide))) (View.ld (Val := Elt F) (e' := .f32) x1 (Rect.unit (s := S1x2048x192) ![0, 1536, 0] ![1, 512, 192] (by decide))) (View.ld (Val := Elt F) (e' := .f32) x2 (Rect.unit (s := S1x2048x128) ![0, 1536, 0] ![1, 512, 128] (by decide))) x0 x3 x4

/-- Query block 3: the diagonal and the earlier blocks' parts added to the keys' gradient. -/
def outDkD (x0 : Vec F S1x512x192 .f32) (x1 : Vec F S1x2048x192 .f32) (x2 : Vec F S1x2048x128 .f32) (x3 : Vec F S512x128 .f32) (x4 : Vec F S512x128 .f32) (d6 : Vec F S1x2048x192 .f32) : Vec F S1x2048x192 .f32 :=
  (Rect.unit (s := S1x2048x192) ![0, 0, 0] ![1, 1536, 192] (by decide)).overlay ((Rect.unit (s := S1x2048x192) ![0, 1536, 0] ![1, 512, 192] (by decide)).overlay d6 (CaseD.dkd (View.ld (Val := Elt F) (e' := .f32) x1 (Rect.unit (s := S1x2048x192) ![0, 0, 0] ![1, 1536, 192] (by decide))) (View.ld (Val := Elt F) (e' := .f32) x2 (Rect.unit (s := S1x2048x128) ![0, 0, 0] ![1, 1536, 128] (by decide))) (View.ld (Val := Elt F) (e' := .f32) x1 (Rect.unit (s := S1x2048x192) ![0, 1536, 0] ![1, 512, 192] (by decide))) (View.ld (Val := Elt F) (e' := .f32) x2 (Rect.unit (s := S1x2048x128) ![0, 1536, 0] ![1, 512, 128] (by decide))) x0 x3 x4 (View.ld (Val := Elt F) (e' := .f32) d6 (Rect.unit (s := S1x2048x192) ![0, 1536, 0] ![1, 512, 192] (by decide))))) (CaseD.dkp (View.ld (Val := Elt F) (e' := .f32) x1 (Rect.unit (s := S1x2048x192) ![0, 0, 0] ![1, 1536, 192] (by decide))) (View.ld (Val := Elt F) (e' := .f32) x2 (Rect.unit (s := S1x2048x128) ![0, 0, 0] ![1, 1536, 128] (by decide))) (View.ld (Val := Elt F) (e' := .f32) x1 (Rect.unit (s := S1x2048x192) ![0, 1536, 0] ![1, 512, 192] (by decide))) (View.ld (Val := Elt F) (e' := .f32) x2 (Rect.unit (s := S1x2048x128) ![0, 1536, 0] ![1, 512, 128] (by decide))) x0 x3 x4 (View.ld (Val := Elt F) (e' := .f32) d6 (Rect.unit (s := S1x2048x192) ![0, 0, 0] ![1, 1536, 192] (by decide))))

/-- Query block 3: the diagonal and the earlier blocks' parts added to the values' gradient. -/
def outDvD (x0 : Vec F S1x512x192 .f32) (x1 : Vec F S1x2048x192 .f32) (x2 : Vec F S1x2048x128 .f32) (x3 : Vec F S512x128 .f32) (x4 : Vec F S512x128 .f32) (d7 : Vec F S1x2048x128 .f32) : Vec F S1x2048x128 .f32 :=
  (Rect.unit (s := S1x2048x128) ![0, 0, 0] ![1, 1536, 128] (by decide)).overlay ((Rect.unit (s := S1x2048x128) ![0, 1536, 0] ![1, 512, 128] (by decide)).overlay d7 (CaseD.dvd (View.ld (Val := Elt F) (e' := .f32) x1 (Rect.unit (s := S1x2048x192) ![0, 0, 0] ![1, 1536, 192] (by decide))) (View.ld (Val := Elt F) (e' := .f32) x2 (Rect.unit (s := S1x2048x128) ![0, 0, 0] ![1, 1536, 128] (by decide))) (View.ld (Val := Elt F) (e' := .f32) x1 (Rect.unit (s := S1x2048x192) ![0, 1536, 0] ![1, 512, 192] (by decide))) (View.ld (Val := Elt F) (e' := .f32) x2 (Rect.unit (s := S1x2048x128) ![0, 1536, 0] ![1, 512, 128] (by decide))) x0 x3 x4 (View.ld (Val := Elt F) (e' := .f32) d7 (Rect.unit (s := S1x2048x128) ![0, 1536, 0] ![1, 512, 128] (by decide))))) (CaseD.dvp (View.ld (Val := Elt F) (e' := .f32) x1 (Rect.unit (s := S1x2048x192) ![0, 0, 0] ![1, 1536, 192] (by decide))) (View.ld (Val := Elt F) (e' := .f32) x2 (Rect.unit (s := S1x2048x128) ![0, 0, 0] ![1, 1536, 128] (by decide))) (View.ld (Val := Elt F) (e' := .f32) x1 (Rect.unit (s := S1x2048x192) ![0, 1536, 0] ![1, 512, 192] (by decide))) (View.ld (Val := Elt F) (e' := .f32) x2 (Rect.unit (s := S1x2048x128) ![0, 1536, 0] ![1, 512, 128] (by decide))) x0 x3 x4 (View.ld (Val := Elt F) (e' := .f32) d7 (Rect.unit (s := S1x2048x128) ![0, 0, 0] ![1, 1536, 128] (by decide))))

end Cert.KernelIdeal.Body

end
-- ==== Proof.Overlay.lean ====
module

public import Idealize.ShloMosaic.Lib.Pipeline.Value
public import proofs.«01_k».proof.Proof.Cases

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! ## What a buffer holds after a list of stores, as overlays -/

section
variable {sig : RefSig} {κ : Kind} {sp : Space} {s : Shape} {e : EltTy} {Val : EltTy → Type}

/-- A buffer read after a list of stores is the read after all but the last of them, overlaid by the last. -/
theorem read_writes_cons_overlay (v : View sig κ sp s e) (f : v.ty.Contents Val) (r : Rect s) (w : r.shape.Idx → Val e)
    (L : List (View.Piece Val s e)) :
    v.read Val (v.writes Val f (⟨r, w⟩ :: L)) = r.overlay (v.read Val (v.writes Val f L)) w := by
  funext j
  by_cases hj : j ∈ r.set
  · obtain ⟨j', rfl⟩ := r.exists_idx_of_mem hj
    exact (View.read_writes_cons_emb v f r w L j').trans (Rect.overlay_emb r _ w j').symm
  · rw [Rect.overlay_of_not_mem r _ _ hj]
    rw [View.writes_cons]
    exact View.read_slice_write_of_not_mem r _ _ _ (by rw [Rect.map_emb_univ]; exact hj)

/-- With no store the buffer reads as before. -/
theorem read_writes_nil (v : View sig κ sp s e) (f : v.ty.Contents Val) : v.read Val (v.writes Val f []) = v.read Val f := rfl

/-- An overlay over the whole shape is what was put there. -/
theorem overlay_whole {α : Type} {off : Fin s.rank → ℕ} (h0 : off = fun _ => 0) (inb : ∀ a, off a + s.size a ≤ s.size a) (X w : s.Idx → α) :
    (Rect.unit off s.size inb).overlay X w = w := by
  subst h0
  funext j
  have h := Rect.overlay_emb (Rect.unit (fun _ => 0) s.size inb) X w j
  have hj : (Rect.unit (fun _ => 0) s.size inb).emb j = j := by
    funext a; apply Fin.ext; simp [Rect.unit, Rect.emb]
  rw [hj] at h
  exact h

/-- What lies outside the overlaid rectangle loads as before. -/
theorem ld_overlay_of_disjoint (X : s.Idx → Val e) (r r' : Rect s) (w : r.shape.Idx → Val e)
    (h : ∀ j : r'.shape.Idx, r'.idx j ∉ r.set) :
    View.ld (Val := Val) (e' := e) (r.overlay X w) r' = View.ld (Val := Val) (e' := e) X r' :=
  funext fun j => Rect.overlay_of_not_mem r X w (h j)

end

/-- The zero offsets of a block of rank three. -/
theorem zero3 : (![0, 0, 0] : Fin 3 → ℕ) = fun _ => 0 := by decide
/-- The zero offsets of a block of rank two. -/
theorem zero2 : (![0, 0] : Fin 2 → ℕ) = fun _ => 0 := by decide

section
variable {F : FTy → Type} [FloatOps F] [Named F]
/-- A load of a whole block of 512 rows of 192 reads the block. -/
theorem ld_whole_q (X : Vec F S1x512x192 .f32) :
    View.ld (Val := Elt F) (e' := .f32) X (Rect.unit ![0, 0, 0] ![1, 512, 192] inb_S1x512x192_S1x512x192_0_0_0) = X :=
  View.ld_unit_zero (S := S1x512x192) zero3 _ X
/-- A load of a whole block of 512 rows of 128 reads the block. -/
theorem ld_whole_z (X : Vec F S512x128 .f32) :
    View.ld (Val := Elt F) (e' := .f32) X (Rect.unit ![0, 0] ![512, 128] inb_S512x128_S512x128_0_0) = X :=
  View.ld_unit_zero (S := S512x128) zero2 _ X
/-- A store over a whole block of 512 rows of 192 leaves what is stored. -/
theorem overlay_whole_q (X w : Vec F S1x512x192 .f32) :
    (Rect.unit (s := S1x512x192) ![0, 0, 0] ![1, 512, 192] inb_S1x512x192_S1x512x192_0_0_0).overlay X w = w :=
  overlay_whole (s := S1x512x192) zero3 _ X w
/-- A store over a whole block of 512 rows of 128 leaves what is stored. -/
theorem overlay_whole_z (X w : Vec F S512x128 .bf16) :
    (Rect.unit (s := S512x128) ![0, 0] ![512, 128] inb_S512x128_S512x128_0_0).overlay X w = w :=
  overlay_whole (s := S512x128) zero2 _ X w
/-- A store over a whole block of 2048 rows of 192 leaves what is stored. -/
theorem overlay_whole_k (X w : Vec F S1x2048x192 .f32) :
    (Rect.unit (s := S1x2048x192) ![0, 0, 0] ![1, 2048, 192] inb_S1x2048x192_S1x2048x192_0_0_0).overlay X w = w :=
  overlay_whole (s := S1x2048x192) zero3 _ X w
/-- A store over a whole block of 2048 rows of 128 leaves what is stored. -/
theorem overlay_whole_v (X w : Vec F S1x2048x128 .f32) :
    (Rect.unit (s := S1x2048x128) ![0, 0, 0] ![1, 2048, 128] inb_S1x2048x128_S1x2048x128_0_0_0).overlay X w = w :=
  overlay_whole (s := S1x2048x128) zero3 _ X w
/-- The keys' gradient buffer cleared by a whole store of `w`, then 512 rows of it replaced by a function of what they hold. -/
theorem cleared_k (X X' w : Vec F S1x2048x192 .f32) (g : Vec F S1x512x192 .f32 → Vec F S1x512x192 .f32) :
    (Rect.unit (s := S1x2048x192) ![0, 0, 0] ![1, 512, 192] inb_S1x2048x192_S1x512x192_0_0_0).overlay
      ((Rect.unit (s := S1x2048x192) ![0, 0, 0] ![1, 2048, 192] inb_S1x2048x192_S1x2048x192_0_0_0).overlay X w)
      (g (View.ld (Val := Elt F) (e' := .f32)
        ((Rect.unit (s := S1x2048x192) ![0, 0, 0] ![1, 2048, 192] inb_S1x2048x192_S1x2048x192_0_0_0).overlay X' w)
        (Rect.unit (s := S1x2048x192) ![0, 0, 0] ![1, 512, 192] inb_S1x2048x192_S1x512x192_0_0_0)))
    = (Rect.unit (s := S1x2048x192) ![0, 0, 0] ![1, 512, 192] inb_S1x2048x192_S1x512x192_0_0_0).overlay w
      (g (View.ld (Val := Elt F) (e' := .f32) w (Rect.unit (s := S1x2048x192) ![0, 0, 0] ![1, 512, 192] inb_S1x2048x192_S1x512x192_0_0_0))) := by
  rw [overlay_whole_k X w, overlay_whole_k X' w]
/-- The values' gradient buffer cleared by a whole store of `w`, then 512 rows of it replaced by a function of what they hold. -/
theorem cleared_v (X X' w : Vec F S1x2048x128 .f32) (g : Vec F S1x512x128 .f32 → Vec F S1x512x128 .f32) :
    (Rect.unit (s := S1x2048x128) ![0, 0, 0] ![1, 512, 128] inb_S1x2048x128_S1x512x128_0_0_0).overlay
      ((Rect.unit (s := S1x2048x128) ![0, 0, 0] ![1, 2048, 128] inb_S1x2048x128_S1x2048x128_0_0_0).overlay X w)
      (g (View.ld (Val := Elt F) (e' := .f32)
        ((Rect.unit (s := S1x2048x128) ![0, 0, 0] ![1, 2048, 128] inb_S1x2048x128_S1x2048x128_0_0_0).overlay X' w)
        (Rect.unit (s := S1x2048x128) ![0, 0, 0] ![1, 512, 128] inb_S1x2048x128_S1x512x128_0_0_0)))
    = (Rect.unit (s := S1x2048x128) ![0, 0, 0] ![1, 512, 128] inb_S1x2048x128_S1x512x128_0_0_0).overlay w
      (g (View.ld (Val := Elt F) (e' := .f32) w (Rect.unit (s := S1x2048x128) ![0, 0, 0] ![1, 512, 128] inb_S1x2048x128_S1x512x128_0_0_0))) := by
  rw [overlay_whole_v X w, overlay_whole_v X' w]
end

end Cert.KernelIdeal.Body

end
-- ==== Proof.RunA.lean ====
module

public import proofs.«01_k».proof.Proof.Tiles
public import proofs.«01_k».proof.Proof.Overlay

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 2000000 in
/-- The body at a grid point of query block 0: it leaves the inputs as they are and the four outputs at the values the case computes. -/
theorem run_A (c : Dev nD) (i : grid0.Coords) (arg2 : Memref sig .tc .vmem S1x512x192 .f32) (harg2 : arg2.IsWhole) (arg3 : Memref sig .tc .vmem S1x2048x192 .f32) (harg3 : arg3.IsWhole) (arg4 : Memref sig .tc .vmem S1x2048x128 .f32) (harg4 : arg4.IsWhole) (arg5 : Memref sig .tc .vmem S512x128 .f32) (harg5 : arg5.IsWhole) (arg6 : Memref sig .tc .vmem S512x128 .f32) (harg6 : arg6.IsWhole) (arg8 : Memref sig .tc .vmem S1x512x192 .f32) (harg8 : arg8.IsWhole) (arg9 : Memref sig .tc .vmem S1x2048x192 .f32) (harg9 : arg9.IsWhole) (arg10 : Memref sig .tc .vmem S1x2048x128 .f32) (harg10 : arg10.IsWhole) (arg11 : Memref sig .tc .vmem S512x128 .bf16) (harg11 : arg11.IsWhole)
    (hc0 : cond0 i) (hc1 : cond1 i) (hc2 : ¬cond2 i) (hc3 : ¬cond3 i) (hc4 : ¬cond4 i)
    (x0 : Vec F S1x512x192 .f32) (x1 : Vec F S1x2048x192 .f32) (x2 : Vec F S1x2048x128 .f32) (x3 : Vec F S512x128 .f32) (x4 : Vec F S512x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare (outDqA x0 x1 x2 x3 x4) ∗ owns (c : Thread nD τ) arg9 fullShare (outDkA x0 x1 x2 x3 x4) ∗ owns (c : Thread nD τ) arg10 fullShare (outDvA x0 x1 x2 x3 x4) ∗ owns (c : Thread nD τ) arg11 fullShare (outDzA x0 x1 x2 x3 x4)) -∗ K ⟨⟩))
          ⊢ wp frame (wpE (defs₀ (F := F)) Variants.none c none) E (cc0_attn_bwd_l0 i arg2 harg2 arg3 harg3 arg4 harg4 arg5 harg5 arg6 harg6 (Memref.whole main_arg5) (Memref.isWhole_whole _) arg8 harg8 arg9 harg9 arg10 harg10 arg11 harg11) K := by
    intro E K
    simp only [cc0_attn_bwd_l0_eq_skeleton]; unfold cc0_attn_bwd_l0_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      · ipureintro
        sl_unfold_run_names
        simp only [read_writes_cons_overlay, View.readAt_eq_ld, harg2.read_unread, harg3.read_unread, harg4.read_unread, harg5.read_unread, harg6.read_unread, ld_whole_q, ld_whole_z]
        exact (overlay_whole_q _ _).trans rfl
    isplitl [H6]
    · iexists _; isplitr; swap; · iexact H6
      · ipureintro
        sl_unfold_run_names
        simp only [View.readCov, read_writes_cons_overlay, read_writes_nil, View.readAt_eq_ld, harg2.read_unread, harg3.read_unread, harg4.read_unread, harg5.read_unread, harg6.read_unread, ld_whole_q, ld_whole_z]
        exact (cleared_k _ _ _ (CaseA.dkd (View.ld (Val := Elt F) (e' := .f32) x1 (Rect.unit (s := S1x2048x192) ![0, 0, 0] ![1, 512, 192] (by decide)))
          (View.ld (Val := Elt F) (e' := .f32) x2 (Rect.unit (s := S1x2048x128) ![0, 0, 0] ![1, 512, 128] (by decide))) x0 x3 x4)).trans rfl
    isplitl [H7]
    · iexists _; isplitr; swap; · iexact H7
      · ipureintro
        sl_unfold_run_names
        simp only [View.readCov, read_writes_cons_overlay, read_writes_nil, View.readAt_eq_ld, harg2.read_unread, harg3.read_unread, harg4.read_unread, harg5.read_unread, harg6.read_unread, ld_whole_q, ld_whole_z]
        exact (cleared_v _ _ _ (CaseA.dvd (View.ld (Val := Elt F) (e' := .f32) x1 (Rect.unit (s := S1x2048x192) ![0, 0, 0] ![1, 512, 192] (by decide)))
          (View.ld (Val := Elt F) (e' := .f32) x2 (Rect.unit (s := S1x2048x128) ![0, 0, 0] ![1, 512, 128] (by decide))) x0 x3 x4)).trans rfl
    iexists _; isplitr; swap; · iexact H8
    · ipureintro
      sl_unfold_run_names
      simp only [read_writes_cons_overlay, View.readAt_eq_ld, harg2.read_unread, harg3.read_unread, harg4.read_unread, harg5.read_unread, harg6.read_unread, ld_whole_q, ld_whole_z]
      exact (overlay_whole_z _ _).trans rfl

end Cert.KernelIdeal.Body

end
-- ==== Proof.RunB.lean ====
module

public import proofs.«01_k».proof.Proof.Tiles
public import proofs.«01_k».proof.Proof.Overlay

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 2000000 in
/-- The body at a grid point of query block 1: it leaves the inputs as they are and the four outputs at the values the case computes. -/
theorem run_B (c : Dev nD) (i : grid0.Coords) (arg2 : Memref sig .tc .vmem S1x512x192 .f32) (harg2 : arg2.IsWhole) (arg3 : Memref sig .tc .vmem S1x2048x192 .f32) (harg3 : arg3.IsWhole) (arg4 : Memref sig .tc .vmem S1x2048x128 .f32) (harg4 : arg4.IsWhole) (arg5 : Memref sig .tc .vmem S512x128 .f32) (harg5 : arg5.IsWhole) (arg6 : Memref sig .tc .vmem S512x128 .f32) (harg6 : arg6.IsWhole) (arg8 : Memref sig .tc .vmem S1x512x192 .f32) (harg8 : arg8.IsWhole) (arg9 : Memref sig .tc .vmem S1x2048x192 .f32) (harg9 : arg9.IsWhole) (arg10 : Memref sig .tc .vmem S1x2048x128 .f32) (harg10 : arg10.IsWhole) (arg11 : Memref sig .tc .vmem S512x128 .bf16) (harg11 : arg11.IsWhole)
    (hc0 : ¬cond0 i) (hc1 : ¬cond1 i) (hc2 : cond2 i) (hc3 : ¬cond3 i) (hc4 : ¬cond4 i)
    (x0 : Vec F S1x512x192 .f32) (x1 : Vec F S1x2048x192 .f32) (x2 : Vec F S1x2048x128 .f32) (x3 : Vec F S512x128 .f32) (x4 : Vec F S512x128 .f32) (d6 : Vec F S1x2048x192 .f32) (d7 : Vec F S1x2048x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ owns (c : Thread nD τ) arg9 fullShare d6 ∗ owns (c : Thread nD τ) arg10 fullShare d7 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare (outDqB x0 x1 x2 x3 x4) ∗ owns (c : Thread nD τ) arg9 fullShare (outDkB x0 x1 x2 x3 x4 d6) ∗ owns (c : Thread nD τ) arg10 fullShare (outDvB x0 x1 x2 x3 x4 d7) ∗ owns (c : Thread nD τ) arg11 fullShare (outDzB x0 x1 x2 x3 x4)) -∗ K ⟨⟩))
          ⊢ wp frame (wpE (defs₀ (F := F)) Variants.none c none) E (cc0_attn_bwd_l0 i arg2 harg2 arg3 harg3 arg4 harg4 arg5 harg5 arg6 harg6 (Memref.whole main_arg5) (Memref.isWhole_whole _) arg8 harg8 arg9 harg9 arg10 harg10 arg11 harg11) K := by
    intro E K
    simp only [cc0_attn_bwd_l0_eq_skeleton]; unfold cc0_attn_bwd_l0_skel
    simp only [k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4
    obtain rfl := harg9.eq_unread hf6; obtain rfl := harg10.eq_unread hf7
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      · ipureintro
        sl_unfold_run_names
        simp only [read_writes_cons_overlay, View.readAt_eq_ld, harg2.read_unread, harg3.read_unread, harg4.read_unread, harg5.read_unread, harg6.read_unread, harg9.read_unread, harg10.read_unread, ld_whole_q, ld_whole_z]
        exact (overlay_whole_q _ _).trans rfl
    isplitl [H6]
    · iexists _; isplitr; swap; · iexact H6
      · ipureintro
        sl_unfold_run_names
        simp only [read_writes_cons_overlay, read_writes_nil, View.readAt_eq_ld, harg2.read_unread, harg3.read_unread, harg4.read_unread, harg5.read_unread, harg6.read_unread, harg9.read_unread, harg10.read_unread, ld_whole_q, ld_whole_z]
        rfl
    isplitl [H7]
    · iexists _; isplitr; swap; · iexact H7
      · ipureintro
        sl_unfold_run_names
        simp only [read_writes_cons_overlay, read_writes_nil, View.readAt_eq_ld, harg2.read_unread, harg3.read_unread, harg4.read_unread, harg5.read_unread, harg6.read_unread, harg9.read_unread, harg10.read_unread, ld_whole_q, ld_whole_z]
        rfl
    iexists _; isplitr; swap; · iexact H8
    · ipureintro
      sl_unfold_run_names
      simp only [read_writes_cons_overlay, View.readAt_eq_ld, harg2.read_unread, harg3.read_unread, harg4.read_unread, harg5.read_unread, harg6.read_unread, harg9.read_unread, harg10.read_unread, ld_whole_q, ld_whole_z]
      exact (overlay_whole_z _ _).trans rfl

end Cert.KernelIdeal.Body

end
-- ==== Proof.RunC.lean ====
module

public import proofs.«01_k».proof.Proof.Tiles
public import proofs.«01_k».proof.Proof.Overlay

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 2000000 in
/-- The body at a grid point of query block 2: it leaves the inputs as they are and the four outputs at the values the case computes. -/
theorem run_C (c : Dev nD) (i : grid0.Coords) (arg2 : Memref sig .tc .vmem S1x512x192 .f32) (harg2 : arg2.IsWhole) (arg3 : Memref sig .tc .vmem S1x2048x192 .f32) (harg3 : arg3.IsWhole) (arg4 : Memref sig .tc .vmem S1x2048x128 .f32) (harg4 : arg4.IsWhole) (arg5 : Memref sig .tc .vmem S512x128 .f32) (harg5 : arg5.IsWhole) (arg6 : Memref sig .tc .vmem S512x128 .f32) (harg6 : arg6.IsWhole) (arg8 : Memref sig .tc .vmem S1x512x192 .f32) (harg8 : arg8.IsWhole) (arg9 : Memref sig .tc .vmem S1x2048x192 .f32) (harg9 : arg9.IsWhole) (arg10 : Memref sig .tc .vmem S1x2048x128 .f32) (harg10 : arg10.IsWhole) (arg11 : Memref sig .tc .vmem S512x128 .bf16) (harg11 : arg11.IsWhole)
    (hc0 : ¬cond0 i) (hc1 : ¬cond1 i) (hc2 : ¬cond2 i) (hc3 : cond3 i) (hc4 : ¬cond4 i)
    (x0 : Vec F S1x512x192 .f32) (x1 : Vec F S1x2048x192 .f32) (x2 : Vec F S1x2048x128 .f32) (x3 : Vec F S512x128 .f32) (x4 : Vec F S512x128 .f32) (d6 : Vec F S1x2048x192 .f32) (d7 : Vec F S1x2048x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ owns (c : Thread nD τ) arg9 fullShare d6 ∗ owns (c : Thread nD τ) arg10 fullShare d7 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare (outDqC x0 x1 x2 x3 x4) ∗ owns (c : Thread nD τ) arg9 fullShare (outDkC x0 x1 x2 x3 x4 d6) ∗ owns (c : Thread nD τ) arg10 fullShare (outDvC x0 x1 x2 x3 x4 d7) ∗ owns (c : Thread nD τ) arg11 fullShare (outDzC x0 x1 x2 x3 x4)) -∗ K ⟨⟩))
          ⊢ wp frame (wpE (defs₀ (F := F)) Variants.none c none) E (cc0_attn_bwd_l0 i arg2 harg2 arg3 harg3 arg4 harg4 arg5 harg5 arg6 harg6 (Memref.whole main_arg5) (Memref.isWhole_whole _) arg8 harg8 arg9 harg9 arg10 harg10 arg11 harg11) K := by
    intro E K
    simp only [cc0_attn_bwd_l0_eq_skeleton]; unfold cc0_attn_bwd_l0_skel
    simp only [k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4
    obtain rfl := harg9.eq_unread hf6; obtain rfl := harg10.eq_unread hf7
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      · ipureintro
        sl_unfold_run_names
        simp only [read_writes_cons_overlay, View.readAt_eq_ld, harg2.read_unread, harg3.read_unread, harg4.read_unread, harg5.read_unread, harg6.read_unread, harg9.read_unread, harg10.read_unread, ld_whole_q, ld_whole_z]
        exact (overlay_whole_q _ _).trans rfl
    isplitl [H6]
    · iexists _; isplitr; swap; · iexact H6
      · ipureintro
        sl_unfold_run_names
        simp only [read_writes_cons_overlay, read_writes_nil, View.readAt_eq_ld, harg2.read_unread, harg3.read_unread, harg4.read_unread, harg5.read_unread, harg6.read_unread, harg9.read_unread, harg10.read_unread, ld_whole_q, ld_whole_z]
        rfl
    isplitl [H7]
    · iexists _; isplitr; swap; · iexact H7
      · ipureintro
        sl_unfold_run_names
        simp only [read_writes_cons_overlay, read_writes_nil, View.readAt_eq_ld, harg2.read_unread, harg3.read_unread, harg4.read_unread, harg5.read_unread, harg6.read_unread, harg9.read_unread, harg10.read_unread, ld_whole_q, ld_whole_z]
        rfl
    iexists _; isplitr; swap; · iexact H8
    · ipureintro
      sl_unfold_run_names
      simp only [read_writes_cons_overlay, View.readAt_eq_ld, harg2.read_unread, harg3.read_unread, harg4.read_unread, harg5.read_unread, harg6.read_unread, harg9.read_unread, harg10.read_unread, ld_whole_q, ld_whole_z]
      exact (overlay_whole_z _ _).trans rfl

end Cert.KernelIdeal.Body

end
-- ==== Proof.RunD.lean ====
module

public import proofs.«01_k».proof.Proof.Tiles
public import proofs.«01_k».proof.Proof.Overlay

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 2000000 in
/-- The body at a grid point of query block 3: it leaves the inputs as they are and the four outputs at the values the case computes. -/
theorem run_D (c : Dev nD) (i : grid0.Coords) (arg2 : Memref sig .tc .vmem S1x512x192 .f32) (harg2 : arg2.IsWhole) (arg3 : Memref sig .tc .vmem S1x2048x192 .f32) (harg3 : arg3.IsWhole) (arg4 : Memref sig .tc .vmem S1x2048x128 .f32) (harg4 : arg4.IsWhole) (arg5 : Memref sig .tc .vmem S512x128 .f32) (harg5 : arg5.IsWhole) (arg6 : Memref sig .tc .vmem S512x128 .f32) (harg6 : arg6.IsWhole) (arg8 : Memref sig .tc .vmem S1x512x192 .f32) (harg8 : arg8.IsWhole) (arg9 : Memref sig .tc .vmem S1x2048x192 .f32) (harg9 : arg9.IsWhole) (arg10 : Memref sig .tc .vmem S1x2048x128 .f32) (harg10 : arg10.IsWhole) (arg11 : Memref sig .tc .vmem S512x128 .bf16) (harg11 : arg11.IsWhole)
    (hc0 : ¬cond0 i) (hc1 : ¬cond1 i) (hc2 : ¬cond2 i) (hc3 : ¬cond3 i) (hc4 : cond4 i)
    (x0 : Vec F S1x512x192 .f32) (x1 : Vec F S1x2048x192 .f32) (x2 : Vec F S1x2048x128 .f32) (x3 : Vec F S512x128 .f32) (x4 : Vec F S512x128 .f32) (d6 : Vec F S1x2048x192 .f32) (d7 : Vec F S1x2048x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ owns (c : Thread nD τ) arg9 fullShare d6 ∗ owns (c : Thread nD τ) arg10 fullShare d7 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare (outDqD x0 x1 x2 x3 x4) ∗ owns (c : Thread nD τ) arg9 fullShare (outDkD x0 x1 x2 x3 x4 d6) ∗ owns (c : Thread nD τ) arg10 fullShare (outDvD x0 x1 x2 x3 x4 d7) ∗ owns (c : Thread nD τ) arg11 fullShare (outDzD x0 x1 x2 x3 x4)) -∗ K ⟨⟩))
          ⊢ wp frame (wpE (defs₀ (F := F)) Variants.none c none) E (cc0_attn_bwd_l0 i arg2 harg2 arg3 harg3 arg4 harg4 arg5 harg5 arg6 harg6 (Memref.whole main_arg5) (Memref.isWhole_whole _) arg8 harg8 arg9 harg9 arg10 harg10 arg11 harg11) K := by
    intro E K
    simp only [cc0_attn_bwd_l0_eq_skeleton]; unfold cc0_attn_bwd_l0_skel
    simp only [k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4
    obtain rfl := harg9.eq_unread hf6; obtain rfl := harg10.eq_unread hf7
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      · ipureintro
        sl_unfold_run_names
        simp only [read_writes_cons_overlay, View.readAt_eq_ld, harg2.read_unread, harg3.read_unread, harg4.read_unread, harg5.read_unread, harg6.read_unread, harg9.read_unread, harg10.read_unread, ld_whole_q, ld_whole_z]
        exact (overlay_whole_q _ _).trans rfl
    isplitl [H6]
    · iexists _; isplitr; swap; · iexact H6
      · ipureintro
        sl_unfold_run_names
        simp only [read_writes_cons_overlay, read_writes_nil, View.readAt_eq_ld, harg2.read_unread, harg3.read_unread, harg4.read_unread, harg5.read_unread, harg6.read_unread, harg9.read_unread, harg10.read_unread, ld_whole_q, ld_whole_z]
        rfl
    isplitl [H7]
    · iexists _; isplitr; swap; · iexact H7
      · ipureintro
        sl_unfold_run_names
        simp only [read_writes_cons_overlay, read_writes_nil, View.readAt_eq_ld, harg2.read_unread, harg3.read_unread, harg4.read_unread, harg5.read_unread, harg6.read_unread, harg9.read_unread, harg10.read_unread, ld_whole_q, ld_whole_z]
        rfl
    iexists _; isplitr; swap; · iexact H8
    · ipureintro
      sl_unfold_run_names
      simp only [read_writes_cons_overlay, View.readAt_eq_ld, harg2.read_unread, harg3.read_unread, harg4.read_unread, harg5.read_unread, harg6.read_unread, harg9.read_unread, harg10.read_unread, ld_whole_q, ld_whole_z]
      exact (overlay_whole_z _ _).trans rfl

end Cert.KernelIdeal.Body

end
-- ==== Proof.Body.lean ====
module

public import proofs.«01_k».proof.Proof.RunA
public import proofs.«01_k».proof.Proof.RunB
public import proofs.«01_k».proof.Proof.RunC
public import proofs.«01_k».proof.Proof.RunD
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers at a grid point -/

/-- Window 0's buffer at point `t`. -/
abbrev ms0 (t : Fin cfg0.N) : Memref sig .tc .vmem S1x512x192 .f32 := win0_0.stage (cfg0.slots t 0)
/-- Window 0 takes part at every point. -/
theorem live0 : ∀ i : grid0.Coords, cfg0.idle 0 i = false := fun _ => rfl
/-- Window 1's buffer at point `t`. -/
abbrev ms1 (t : Fin cfg0.N) : Memref sig .tc .vmem S1x2048x192 .f32 := win0_1.stage (cfg0.slots t 1)
/-- Window 1 takes part at every point. -/
theorem live1 : ∀ i : grid0.Coords, cfg0.idle 1 i = false := fun _ => rfl
/-- Window 2's buffer at point `t`. -/
abbrev ms2 (t : Fin cfg0.N) : Memref sig .tc .vmem S1x2048x128 .f32 := win0_2.stage (cfg0.slots t 2)
/-- Window 2 takes part at every point. -/
theorem live2 : ∀ i : grid0.Coords, cfg0.idle 2 i = false := fun _ => rfl
/-- Window 3's buffer at point `t`. -/
abbrev ms3 (t : Fin cfg0.N) : Memref sig .tc .vmem S512x128 .f32 := win0_3.stage (cfg0.slots t 3)
/-- Window 3 takes part at every point. -/
theorem live3 : ∀ i : grid0.Coords, cfg0.idle 3 i = false := fun _ => rfl
/-- Window 4's buffer at point `t`. -/
abbrev ms4 (t : Fin cfg0.N) : Memref sig .tc .vmem S512x128 .f32 := win0_4.stage (cfg0.slots t 4)
/-- Window 4 takes part at every point. -/
theorem live4 : ∀ i : grid0.Coords, cfg0.idle 4 i = false := fun _ => rfl
/-- Window 5's buffer at point `t`. -/
abbrev ms5 (t : Fin cfg0.N) : Memref sig .tc .vmem S1x512x192 .f32 := win0_5.stage (cfg0.slots t 5)
/-- Window 5 takes part at every point. -/
theorem live5 : ∀ i : grid0.Coords, cfg0.idle 5 i = false := (by decide +kernel : ∀ i : grid0.Coords, idle0 5 i = false)
/-- Window 6's buffer at point `t`. -/
abbrev ms6 (t : Fin cfg0.N) : Memref sig .tc .vmem S1x2048x192 .f32 := win0_6.stage (cfg0.slots t 6)
/-- Window 6 takes part at every point. -/
theorem live6 : ∀ i : grid0.Coords, cfg0.idle 6 i = false := (by decide +kernel : ∀ i : grid0.Coords, idle0 6 i = false)
/-- Window 7's buffer at point `t`. -/
abbrev ms7 (t : Fin cfg0.N) : Memref sig .tc .vmem S1x2048x128 .f32 := win0_7.stage (cfg0.slots t 7)
/-- Window 7 takes part at every point. -/
theorem live7 : ∀ i : grid0.Coords, cfg0.idle 7 i = false := (by decide +kernel : ∀ i : grid0.Coords, idle0 7 i = false)
/-- Window 8's buffer at point `t`. -/
abbrev ms8 (t : Fin cfg0.N) : Memref sig .tc .vmem S512x128 .bf16 := win0_8.stage (cfg0.slots t 8)
/-- Window 8 takes part at every point. -/
theorem live8 : ∀ i : grid0.Coords, cfg0.idle 8 i = false := (by decide +kernel : ∀ i : grid0.Coords, idle0 8 i = false)

/-! ## What each output buffer holds after each point -/

/-- The grid point with number `n` (the numbers past the grid wrap round). -/
def pt (n : ℕ) : Fin cfg0.N := ⟨n % 32, Nat.lt_of_lt_of_eq (Nat.mod_lt _ (by decide)) N_0.symm⟩

/-- The gradient of the queries at point `t`, by the query block `t` takes. -/
def dqAt (c : Dev nD) (t : Fin cfg0.N) : Vec F S1x512x192 .f32 :=
  if t.val % 4 = 0 then outDqA (iblk m c 0 t) (iblk m c 1 t) (iblk m c 2 t) (iblk m c 3 t) (iblk m c 4 t)
  else if t.val % 4 = 1 then outDqB (iblk m c 0 t) (iblk m c 1 t) (iblk m c 2 t) (iblk m c 3 t) (iblk m c 4 t)
  else if t.val % 4 = 2 then outDqC (iblk m c 0 t) (iblk m c 1 t) (iblk m c 2 t) (iblk m c 3 t) (iblk m c 4 t)
  else outDqD (iblk m c 0 t) (iblk m c 1 t) (iblk m c 2 t) (iblk m c 3 t) (iblk m c 4 t)

/-- The gradient of the gate at point `t`, by the query block `t` takes. -/
def dzAt (c : Dev nD) (t : Fin cfg0.N) : Vec F S512x128 .bf16 :=
  if t.val % 4 = 0 then outDzA (iblk m c 0 t) (iblk m c 1 t) (iblk m c 2 t) (iblk m c 3 t) (iblk m c 4 t)
  else if t.val % 4 = 1 then outDzB (iblk m c 0 t) (iblk m c 1 t) (iblk m c 2 t) (iblk m c 3 t) (iblk m c 4 t)
  else if t.val % 4 = 2 then outDzC (iblk m c 0 t) (iblk m c 1 t) (iblk m c 2 t) (iblk m c 3 t) (iblk m c 4 t)
  else outDzD (iblk m c 0 t) (iblk m c 1 t) (iblk m c 2 t) (iblk m c 3 t) (iblk m c 4 t)

/-- One point's step on the keys' gradient: query block 0 starts afresh, the others add to `old`. -/
def dkStep (c : Dev nD) (t : Fin cfg0.N) (old : Vec F S1x2048x192 .f32) : Vec F S1x2048x192 .f32 :=
  if t.val % 4 = 0 then outDkA (iblk m c 0 t) (iblk m c 1 t) (iblk m c 2 t) (iblk m c 3 t) (iblk m c 4 t)
  else if t.val % 4 = 1 then outDkB (iblk m c 0 t) (iblk m c 1 t) (iblk m c 2 t) (iblk m c 3 t) (iblk m c 4 t) old
  else if t.val % 4 = 2 then outDkC (iblk m c 0 t) (iblk m c 1 t) (iblk m c 2 t) (iblk m c 3 t) (iblk m c 4 t) old
  else outDkD (iblk m c 0 t) (iblk m c 1 t) (iblk m c 2 t) (iblk m c 3 t) (iblk m c 4 t) old

/-- The keys' gradient after the point with number `n`. -/
def dkAcc (c : Dev nD) : ℕ → Vec F S1x2048x192 .f32
  | 0 => dkStep m c (pt 0) k0_pay1
  | n + 1 => dkStep m c (pt (n + 1)) (dkAcc c n)

/-- After a point of query block 0. -/
theorem dkAcc_A (c : Dev nD) (t : Fin cfg0.N) (h : t.val % 4 = 0) : dkAcc m c t.val = outDkA (iblk m c 0 t) (iblk m c 1 t) (iblk m c 2 t) (iblk m c 3 t) (iblk m c 4 t) := by
  have hp : pt t.val = t := Fin.ext (Nat.mod_eq_of_lt (Nat.lt_of_lt_of_eq t.isLt N_0))
  have key : ∀ n, n = t.val → dkAcc m c n = outDkA (iblk m c 0 t) (iblk m c 1 t) (iblk m c 2 t) (iblk m c 3 t) (iblk m c 4 t) := by
    intro n hn
    cases n with
    | zero => unfold dkAcc; rw [hn, hp]; unfold dkStep; rw [if_pos h]
    | succ n => unfold dkAcc; rw [hn, hp]; unfold dkStep; rw [if_pos h]
  exact key _ rfl
/-- After a point of query block 1. -/
theorem dkAcc_B (c : Dev nD) (t : Fin cfg0.N) (h : t.val % 4 = 1) :
    dkAcc m c t.val = outDkB (iblk m c 0 t) (iblk m c 1 t) (iblk m c 2 t) (iblk m c 3 t) (iblk m c 4 t) (dkAcc m c (t.val - 1)) := by
  have hp : pt t.val = t := Fin.ext (Nat.mod_eq_of_lt (Nat.lt_of_lt_of_eq t.isLt N_0))
  have key : ∀ n, n = t.val → dkAcc m c n = outDkB (iblk m c 0 t) (iblk m c 1 t) (iblk m c 2 t) (iblk m c 3 t) (iblk m c 4 t) (dkAcc m c (n - 1)) := by
    intro n hn
    cases n with
    | zero => omega
    | succ n =>
      rw [Nat.add_sub_cancel]
      conv_lhs => unfold dkAcc
      rw [hn, hp]; unfold dkStep; rw [if_neg (by omega), if_pos h]
  exact key _ rfl
/-- After a point of query block 2. -/
theorem dkAcc_C (c : Dev nD) (t : Fin cfg0.N) (h : t.val % 4 = 2) :
    dkAcc m c t.val = outDkC (iblk m c 0 t) (iblk m c 1 t) (iblk m c 2 t) (iblk m c 3 t) (iblk m c 4 t) (dkAcc m c (t.val - 1)) := by
  have hp : pt t.val = t := Fin.ext (Nat.mod_eq_of_lt (Nat.lt_of_lt_of_eq t.isLt N_0))
  have key : ∀ n, n = t.val → dkAcc m c n = outDkC (iblk m c 0 t) (iblk m c 1 t) (iblk m c 2 t) (iblk m c 3 t) (iblk m c 4 t) (dkAcc m c (n - 1)) := by
    intro n hn
    cases n with
    | zero => omega
    | succ n =>
      rw [Nat.add_sub_cancel]
      conv_lhs => unfold dkAcc
      rw [hn, hp]; unfold dkStep; rw [if_neg (by omega), if_neg (by omega), if_pos h]
  exact key _ rfl
/-- After a point of query block 3. -/
theorem dkAcc_D (c : Dev nD) (t : Fin cfg0.N) (h : t.val % 4 = 3) :
    dkAcc m c t.val = outDkD (iblk m c 0 t) (iblk m c 1 t) (iblk m c 2 t) (iblk m c 3 t) (iblk m c 4 t) (dkAcc m c (t.val - 1)) := by
  have hp : pt t.val = t := Fin.ext (Nat.mod_eq_of_lt (Nat.lt_of_lt_of_eq t.isLt N_0))
  have key : ∀ n, n = t.val → dkAcc m c n = outDkD (iblk m c 0 t) (iblk m c 1 t) (iblk m c 2 t) (iblk m c 3 t) (iblk m c 4 t) (dkAcc m c (n - 1)) := by
    intro n hn
    cases n with
    | zero => omega
    | succ n =>
      rw [Nat.add_sub_cancel]
      conv_lhs => unfold dkAcc
      rw [hn, hp]; unfold dkStep; rw [if_neg (by omega), if_neg (by omega), if_neg (by omega)]
  exact key _ rfl
/-- One point's step on the values' gradient: query block 0 starts afresh, the others add to `old`. -/
def dvStep (c : Dev nD) (t : Fin cfg0.N) (old : Vec F S1x2048x128 .f32) : Vec F S1x2048x128 .f32 :=
  if t.val % 4 = 0 then outDvA (iblk m c 0 t) (iblk m c 1 t) (iblk m c 2 t) (iblk m c 3 t) (iblk m c 4 t)
  else if t.val % 4 = 1 then outDvB (iblk m c 0 t) (iblk m c 1 t) (iblk m c 2 t) (iblk m c 3 t) (iblk m c 4 t) old
  else if t.val % 4 = 2 then outDvC (iblk m c 0 t) (iblk m c 1 t) (iblk m c 2 t) (iblk m c 3 t) (iblk m c 4 t) old
  else outDvD (iblk m c 0 t) (iblk m c 1 t) (iblk m c 2 t) (iblk m c 3 t) (iblk m c 4 t) old

/-- The values' gradient after the point with number `n`. -/
def dvAcc (c : Dev nD) : ℕ → Vec F S1x2048x128 .f32
  | 0 => dvStep m c (pt 0) k0_pay2
  | n + 1 => dvStep m c (pt (n + 1)) (dvAcc c n)

/-- After a point of query block 0. -/
theorem dvAcc_A (c : Dev nD) (t : Fin cfg0.N) (h : t.val % 4 = 0) : dvAcc m c t.val = outDvA (iblk m c 0 t) (iblk m c 1 t) (iblk m c 2 t) (iblk m c 3 t) (iblk m c 4 t) := by
  have hp : pt t.val = t := Fin.ext (Nat.mod_eq_of_lt (Nat.lt_of_lt_of_eq t.isLt N_0))
  have key : ∀ n, n = t.val → dvAcc m c n = outDvA (iblk m c 0 t) (iblk m c 1 t) (iblk m c 2 t) (iblk m c 3 t) (iblk m c 4 t) := by
    intro n hn
    cases n with
    | zero => unfold dvAcc; rw [hn, hp]; unfold dvStep; rw [if_pos h]
    | succ n => unfold dvAcc; rw [hn, hp]; unfold dvStep; rw [if_pos h]
  exact key _ rfl
/-- After a point of query block 1. -/
theorem dvAcc_B (c : Dev nD) (t : Fin cfg0.N) (h : t.val % 4 = 1) :
    dvAcc m c t.val = outDvB (iblk m c 0 t) (iblk m c 1 t) (iblk m c 2 t) (iblk m c 3 t) (iblk m c 4 t) (dvAcc m c (t.val - 1)) := by
  have hp : pt t.val = t := Fin.ext (Nat.mod_eq_of_lt (Nat.lt_of_lt_of_eq t.isLt N_0))
  have key : ∀ n, n = t.val → dvAcc m c n = outDvB (iblk m c 0 t) (iblk m c 1 t) (iblk m c 2 t) (iblk m c 3 t) (iblk m c 4 t) (dvAcc m c (n - 1)) := by
    intro n hn
    cases n with
    | zero => omega
    | succ n =>
      rw [Nat.add_sub_cancel]
      conv_lhs => unfold dvAcc
      rw [hn, hp]; unfold dvStep; rw [if_neg (by omega), if_pos h]
  exact key _ rfl
/-- After a point of query block 2. -/
theorem dvAcc_C (c : Dev nD) (t : Fin cfg0.N) (h : t.val % 4 = 2) :
    dvAcc m c t.val = outDvC (iblk m c 0 t) (iblk m c 1 t) (iblk m c 2 t) (iblk m c 3 t) (iblk m c 4 t) (dvAcc m c (t.val - 1)) := by
  have hp : pt t.val = t := Fin.ext (Nat.mod_eq_of_lt (Nat.lt_of_lt_of_eq t.isLt N_0))
  have key : ∀ n, n = t.val → dvAcc m c n = outDvC (iblk m c 0 t) (iblk m c 1 t) (iblk m c 2 t) (iblk m c 3 t) (iblk m c 4 t) (dvAcc m c (n - 1)) := by
    intro n hn
    cases n with
    | zero => omega
    | succ n =>
      rw [Nat.add_sub_cancel]
      conv_lhs => unfold dvAcc
      rw [hn, hp]; unfold dvStep; rw [if_neg (by omega), if_neg (by omega), if_pos h]
  exact key _ rfl
/-- After a point of query block 3. -/
theorem dvAcc_D (c : Dev nD) (t : Fin cfg0.N) (h : t.val % 4 = 3) :
    dvAcc m c t.val = outDvD (iblk m c 0 t) (iblk m c 1 t) (iblk m c 2 t) (iblk m c 3 t) (iblk m c 4 t) (dvAcc m c (t.val - 1)) := by
  have hp : pt t.val = t := Fin.ext (Nat.mod_eq_of_lt (Nat.lt_of_lt_of_eq t.isLt N_0))
  have key : ∀ n, n = t.val → dvAcc m c n = outDvD (iblk m c 0 t) (iblk m c 1 t) (iblk m c 2 t) (iblk m c 3 t) (iblk m c 4 t) (dvAcc m c (n - 1)) := by
    intro n hn
    cases n with
    | zero => omega
    | succ n =>
      rw [Nat.add_sub_cancel]
      conv_lhs => unfold dvAcc
      rw [hn, hp]; unfold dvStep; rw [if_neg (by omega), if_neg (by omega), if_neg (by omega)]
  exact key _ rfl
/-- At a point of query block 0. -/
theorem dqAt_A (c : Dev nD) (t : Fin cfg0.N) (h : t.val % 4 = 0) : dqAt m c t = outDqA (iblk m c 0 t) (iblk m c 1 t) (iblk m c 2 t) (iblk m c 3 t) (iblk m c 4 t) := by
  unfold dqAt; rw [if_pos h]
/-- At a point of query block 1. -/
theorem dqAt_B (c : Dev nD) (t : Fin cfg0.N) (h : t.val % 4 = 1) : dqAt m c t = outDqB (iblk m c 0 t) (iblk m c 1 t) (iblk m c 2 t) (iblk m c 3 t) (iblk m c 4 t) := by
  unfold dqAt; rw [if_neg (by omega), if_pos h]
/-- At a point of query block 2. -/
theorem dqAt_C (c : Dev nD) (t : Fin cfg0.N) (h : t.val % 4 = 2) : dqAt m c t = outDqC (iblk m c 0 t) (iblk m c 1 t) (iblk m c 2 t) (iblk m c 3 t) (iblk m c 4 t) := by
  unfold dqAt; rw [if_neg (by omega), if_neg (by omega), if_pos h]
/-- At a point of query block 3. -/
theorem dqAt_D (c : Dev nD) (t : Fin cfg0.N) (h : t.val % 4 = 3) : dqAt m c t = outDqD (iblk m c 0 t) (iblk m c 1 t) (iblk m c 2 t) (iblk m c 3 t) (iblk m c 4 t) := by
  unfold dqAt; rw [if_neg (by omega), if_neg (by omega), if_neg (by omega)]
/-- At a point of query block 0. -/
theorem dzAt_A (c : Dev nD) (t : Fin cfg0.N) (h : t.val % 4 = 0) : dzAt m c t = outDzA (iblk m c 0 t) (iblk m c 1 t) (iblk m c 2 t) (iblk m c 3 t) (iblk m c 4 t) := by
  unfold dzAt; rw [if_pos h]
/-- At a point of query block 1. -/
theorem dzAt_B (c : Dev nD) (t : Fin cfg0.N) (h : t.val % 4 = 1) : dzAt m c t = outDzB (iblk m c 0 t) (iblk m c 1 t) (iblk m c 2 t) (iblk m c 3 t) (iblk m c 4 t) := by
  unfold dzAt; rw [if_neg (by omega), if_pos h]
/-- At a point of query block 2. -/
theorem dzAt_C (c : Dev nD) (t : Fin cfg0.N) (h : t.val % 4 = 2) : dzAt m c t = outDzC (iblk m c 0 t) (iblk m c 1 t) (iblk m c 2 t) (iblk m c 3 t) (iblk m c 4 t) := by
  unfold dzAt; rw [if_neg (by omega), if_neg (by omega), if_pos h]
/-- At a point of query block 3. -/
theorem dzAt_D (c : Dev nD) (t : Fin cfg0.N) (h : t.val % 4 = 3) : dzAt m c t = outDzD (iblk m c 0 t) (iblk m c 1 t) (iblk m c 2 t) (iblk m c 3 t) (iblk m c 4 t) := by
  unfold dzAt; rw [if_neg (by omega), if_neg (by omega), if_neg (by omega)]

/-! ## The pipeline's data -/

/-- The arrays as the launch finds them; after the body each input's buffer at its block and each output's at what the point
    leaves there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dqAt m c t
    | ⟨6, _⟩ => dkAcc m c t.val
    | ⟨7, _⟩ => dvAcc m c t.val
    | ⟨8, _⟩ => dzAt m c t
  Φ _ := Pipeline.ΦA spec0 c
  q _ := fullShare
  owed _ := 0

/-- The data's arrays are those the launch finds. -/
theorem A_eq (c : Dev nD) (w : Fin cfg0.W) : (dats m 0 c).A w = V m c (Pipeline.arrRef spec0 w) := by
  dsimp only [dats]
/-- What the body leaves in window 0's buffer. -/
theorem after0 (c : Dev nD) (t : Fin cfg0.N) : (dats m 0 c).after 0 t = iblk m c 0 t := by dsimp only [dats]
/-- What the body leaves in window 1's buffer. -/
theorem after1 (c : Dev nD) (t : Fin cfg0.N) : (dats m 0 c).after 1 t = iblk m c 1 t := by dsimp only [dats]
/-- What the body leaves in window 2's buffer. -/
theorem after2 (c : Dev nD) (t : Fin cfg0.N) : (dats m 0 c).after 2 t = iblk m c 2 t := by dsimp only [dats]
/-- What the body leaves in window 3's buffer. -/
theorem after3 (c : Dev nD) (t : Fin cfg0.N) : (dats m 0 c).after 3 t = iblk m c 3 t := by dsimp only [dats]
/-- What the body leaves in window 4's buffer. -/
theorem after4 (c : Dev nD) (t : Fin cfg0.N) : (dats m 0 c).after 4 t = iblk m c 4 t := by dsimp only [dats]
/-- What the body leaves in window 5's buffer. -/
theorem after5 (c : Dev nD) (t : Fin cfg0.N) : (dats m 0 c).after 5 t = dqAt m c t := by dsimp only [dats]
/-- What the body leaves in window 6's buffer. -/
theorem after6 (c : Dev nD) (t : Fin cfg0.N) : (dats m 0 c).after 6 t = dkAcc m c t.val := by dsimp only [dats]
/-- What the body leaves in window 7's buffer. -/
theorem after7 (c : Dev nD) (t : Fin cfg0.N) : (dats m 0 c).after 7 t = dvAcc m c t.val := by dsimp only [dats]
/-- What the body leaves in window 8's buffer. -/
theorem after8 (c : Dev nD) (t : Fin cfg0.N) : (dats m 0 c).after 8 t = dzAt m c t := by dsimp only [dats]
/-- Window 0's buffer holds its block when the body runs. -/
theorem before0 (c : Dev nD) (t : Fin cfg0.N) (d) : (dats m 0 c).before 0 t d = iblk m c 0 t :=
  before0_0_of m (dats m 0 c) (A_eq m c 0) (after0 m c) t d
/-- Window 1's buffer holds its block when the body runs. -/
theorem before1 (c : Dev nD) (t : Fin cfg0.N) (d) : (dats m 0 c).before 1 t d = iblk m c 1 t :=
  before0_1_of m (dats m 0 c) (A_eq m c 1) (after1 m c) t d
/-- Window 2's buffer holds its block when the body runs. -/
theorem before2 (c : Dev nD) (t : Fin cfg0.N) (d) : (dats m 0 c).before 2 t d = iblk m c 2 t :=
  before0_2_of m (dats m 0 c) (A_eq m c 2) (after2 m c) t d
/-- Window 3's buffer holds its block when the body runs. -/
theorem before3 (c : Dev nD) (t : Fin cfg0.N) (d) : (dats m 0 c).before 3 t d = iblk m c 3 t :=
  before0_3_of m (dats m 0 c) (A_eq m c 3) (after3 m c) t d
/-- Window 4's buffer holds its block when the body runs. -/
theorem before4 (c : Dev nD) (t : Fin cfg0.N) (d) : (dats m 0 c).before 4 t d = iblk m c 4 t :=
  before0_4_of m (dats m 0 c) (A_eq m c 4) (after4 m c) t d
/-- Past query block 0, window 6's buffer holds what the point before left. -/
theorem before6 (c : Dev nD) (t : Fin cfg0.N) (h : t.val % 4 ≠ 0) (d) : (dats m 0 c).before 6 t d = dkAcc m c (t.val - 1) := by
  rw [(dats m 0 c).before_out_kept 6 rfl t (by omega) (by
    rw [Bool.eq_false_iff]; intro hf
    have := (flush0_6 _).mp hf
    dsimp only at this
    omega) live6 (fun _ _ => rfl) d, after6]
/-- Past query block 0, window 7's buffer holds what the point before left. -/
theorem before7 (c : Dev nD) (t : Fin cfg0.N) (h : t.val % 4 ≠ 0) (d) : (dats m 0 c).before 7 t d = dvAcc m c (t.val - 1) := by
  rw [(dats m 0 c).before_out_kept 7 rfl t (by omega) (by
    rw [Bool.eq_false_iff]; intro hf
    have := (flush0_7 _).mp hf
    dsimp only at this
    omega) live7 (fun _ _ => rfl) d, after7]

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- Window 0 is left at what the data say. -/
theorem leaves0 (c : Dev nD) (t : Fin cfg0.N) :
    (dats m 0 c).leavesExact 0 t = owns (c : Thread nD τ) (ms0 t) fullShare (iblk m c 0 t) := by
  unfold Dat.leavesExact; rw [live0 (grid0.coords t), after0]
/-- Window 1 is left at what the data say. -/
theorem leaves1 (c : Dev nD) (t : Fin cfg0.N) :
    (dats m 0 c).leavesExact 1 t = owns (c : Thread nD τ) (ms1 t) fullShare (iblk m c 1 t) := by
  unfold Dat.leavesExact; rw [live1 (grid0.coords t), after1]
/-- Window 2 is left at what the data say. -/
theorem leaves2 (c : Dev nD) (t : Fin cfg0.N) :
    (dats m 0 c).leavesExact 2 t = owns (c : Thread nD τ) (ms2 t) fullShare (iblk m c 2 t) := by
  unfold Dat.leavesExact; rw [live2 (grid0.coords t), after2]
/-- Window 3 is left at what the data say. -/
theorem leaves3 (c : Dev nD) (t : Fin cfg0.N) :
    (dats m 0 c).leavesExact 3 t = owns (c : Thread nD τ) (ms3 t) fullShare (iblk m c 3 t) := by
  unfold Dat.leavesExact; rw [live3 (grid0.coords t), after3]
/-- Window 4 is left at what the data say. -/
theorem leaves4 (c : Dev nD) (t : Fin cfg0.N) :
    (dats m 0 c).leavesExact 4 t = owns (c : Thread nD τ) (ms4 t) fullShare (iblk m c 4 t) := by
  unfold Dat.leavesExact; rw [live4 (grid0.coords t), after4]
/-- Window 5 is left at what the data say. -/
theorem leaves5 (c : Dev nD) (t : Fin cfg0.N) :
    (dats m 0 c).leavesExact 5 t = owns (c : Thread nD τ) (ms5 t) fullShare (dqAt m c t) := by
  unfold Dat.leavesExact; rw [live5 (grid0.coords t), after5]
/-- Window 6 is left at what the data say. -/
theorem leaves6 (c : Dev nD) (t : Fin cfg0.N) :
    (dats m 0 c).leavesExact 6 t = owns (c : Thread nD τ) (ms6 t) fullShare (dkAcc m c t.val) := by
  unfold Dat.leavesExact; rw [live6 (grid0.coords t), after6]
/-- Window 7 is left at what the data say. -/
theorem leaves7 (c : Dev nD) (t : Fin cfg0.N) :
    (dats m 0 c).leavesExact 7 t = owns (c : Thread nD τ) (ms7 t) fullShare (dvAcc m c t.val) := by
  unfold Dat.leavesExact; rw [live7 (grid0.coords t), after7]
/-- Window 8 is left at what the data say. -/
theorem leaves8 (c : Dev nD) (t : Fin cfg0.N) :
    (dats m 0 c).leavesExact 8 t = owns (c : Thread nD τ) (ms8 t) fullShare (dzAt m c t) := by
  unfold Dat.leavesExact; rw [live8 (grid0.coords t), after8]

set_option maxHeartbeats 1600000 in
/-- The body at a point of query block 0. -/
theorem sound_A (c : Dev nD) (t : Fin cfg0.N) (h : t.val % 4 = 0) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl]
  rw [leaves0, leaves1, leaves2, leaves3, leaves4, leaves5, leaves6, leaves7, leaves8, dqAt_A m c t h, dkAcc_A m c t h, dvAcc_A m c t h, dzAt_A m c t h]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((run_A c (grid0.coords t) _ _ _ _ _ _ _ _ _ _ _ _ _ _ _ _ _ _ ((hcond0 t).mpr h) ((hcond1 t).mpr h) (fun h' => by have := (hcond2 t).mp h'; omega) (fun h' => by have := (hcond3 t).mp h'; omega) (fun h' => by have := (hcond4 t).mp h'; omega) (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 1600000 in
/-- The body at a point of query block 1. -/
theorem sound_B (c : Dev nD) (t : Fin cfg0.N) (h : t.val % 4 = 1) :
    bodyPre m c t ⊢ wp frame (wpE (defs₀ (F := F)) Variants.none c none) Set.univ (bodyAt0 t) (fun _ => bodyPost m c t) := by
  unfold bodyPre bodyPost bodyAt0
  simp only [before0, before1, before2, before3, before4, before6 m c t (by omega), before7 m c t (by omega)]
  rw [show (dats m 0 c).Φ t.succ = (dats m 0 c).Φ t.castSucc from rfl,
    show (dats m 0 c).owesAt () t.succ = (dats m 0 c).owesAt () t.castSucc from rfl]
  rw [leaves0, leaves1, leaves2, leaves3, leaves4, leaves5, leaves6, leaves7, leaves8, dqAt_B m c t h, dkAcc_B m c t h, dvAcc_B m c t h, dzAt_B m c t h]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((run_B c (grid0.coords t) _ _ _ _ _ _ _ _ _ _ _ _ _ _ _ _ _ _ (fun h' => by have := (hcond0 t).mp h'; omega) (fun h' => by have := (hcond1 t).mp h'; omega) ((hcond2 t).mpr h) (fun h' => by have := (hcond3 t).mp h'; omega) (fun h' => by have := (hcond4 t).mp h'; omega) (iblk m c 0 t) (iblk m c 1 t) (iblk m c 2 t) (iblk m c 3 t) (iblk m c 4 t) (dkAcc m c (t.val - 1)) (dvAcc m c (t.val - 1))) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 1600000 in
/-- The body at a point of query block 2. -/
theorem sound_C (c : Dev nD) (t : Fin cfg0.N) (h : t.val % 4 = 2) :
    bodyPre m c t ⊢ wp frame (wpE (defs₀ (F := F)) Variants.none c none) Set.univ (bodyAt0 t) (fun _ => bodyPost m c t) := by
  unfold bodyPre bodyPost bodyAt0
  simp only [before0, before1, before2, before3, before4, before6 m c t (by omega), before7 m c t (by omega)]
  rw [show (dats m 0 c).Φ t.succ = (dats m 0 c).Φ t.castSucc from rfl,
    show (dats m 0 c).owesAt () t.succ = (dats m 0 c).owesAt () t.castSucc from rfl]
  rw [leaves0, leaves1, leaves2, leaves3, leaves4, leaves5, leaves6, leaves7, leaves8, dqAt_C m c t h, dkAcc_C m c t h, dvAcc_C m c t h, dzAt_C m c t h]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((run_C c (grid0.coords t) _ _ _ _ _ _ _ _ _ _ _ _ _ _ _ _ _ _ (fun h' => by have := (hcond0 t).mp h'; omega) (fun h' => by have := (hcond1 t).mp h'; omega) (fun h' => by have := (hcond2 t).mp h'; omega) ((hcond3 t).mpr h) (fun h' => by have := (hcond4 t).mp h'; omega) (iblk m c 0 t) (iblk m c 1 t) (iblk m c 2 t) (iblk m c 3 t) (iblk m c 4 t) (dkAcc m c (t.val - 1)) (dvAcc m c (t.val - 1))) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 1600000 in
/-- The body at a point of query block 3. -/
theorem sound_D (c : Dev nD) (t : Fin cfg0.N) (h : t.val % 4 = 3) :
    bodyPre m c t ⊢ wp frame (wpE (defs₀ (F := F)) Variants.none c none) Set.univ (bodyAt0 t) (fun _ => bodyPost m c t) := by
  unfold bodyPre bodyPost bodyAt0
  simp only [before0, before1, before2, before3, before4, before6 m c t (by omega), before7 m c t (by omega)]
  rw [show (dats m 0 c).Φ t.succ = (dats m 0 c).Φ t.castSucc from rfl,
    show (dats m 0 c).owesAt () t.succ = (dats m 0 c).owesAt () t.castSucc from rfl]
  rw [leaves0, leaves1, leaves2, leaves3, leaves4, leaves5, leaves6, leaves7, leaves8, dqAt_D m c t h, dkAcc_D m c t h, dvAcc_D m c t h, dzAt_D m c t h]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((run_D c (grid0.coords t) _ _ _ _ _ _ _ _ _ _ _ _ _ _ _ _ _ _ (fun h' => by have := (hcond0 t).mp h'; omega) (fun h' => by have := (hcond1 t).mp h'; omega) (fun h' => by have := (hcond2 t).mp h'; omega) (fun h' => by have := (hcond3 t).mp h'; omega) ((hcond4 t).mpr h) (iblk m c 0 t) (iblk m c 1 t) (iblk m c 2 t) (iblk m c 3 t) (iblk m c 4 t) (dkAcc m c (t.val - 1)) (dvAcc m c (t.val - 1))) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact sound_A m c t h0
  by_cases h1 : t.val % 4 = 1
  · exact sound_B m c t h1
  by_cases h2 : t.val % 4 = 2
  · exact sound_C m c t h2
  exact sound_D m c t (by omega)

/-- The body table's entry at point `t` is the body on the point's buffers. -/
theorem defs₀_row (t : Fin cfg0.N) :
    defs₀ (F := F) .tc cfg0.body (cfg0.bodyArgs t (cfg0.slots t)) = bodyAt0 t := by
  unfold defs₀; rw [Defs.onTc_tc]

/-- The body obligation of the pipeline, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- From any memory with zero counters every weakly fair execution terminates, with every array of the pipeline at what the data
    say and every semaphore counter at zero. -/
theorem run_main_quiescent : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.Spec.lean ====
module

public import proofs.«01_k».proof.Proof.Tiles

@[expose] public section

set_option maxRecDepth 16384

noncomputable section

namespace Cert.KernelIdeal.Body

open Idealize.ShloMosaic Idealize.ShloMosaic.Tactic
open Cert.KernelIdeal Cert.KernelIdeal.Gen

/-! ## The gradient of one head's gated attention, over the reals

`q`, `k` are the queries and keys of one head (192 columns), `v`, `z`, `dy` its values, its gate and the gradient coming in
(128 columns), as matrices over the natural numbers of which only the first 2048 rows count. -/

/-- The scale of the scores. -/
def scale : ℝ := (FloatOps.ofBits (F := Ideal) .f32 0x3D93CD3A#32 : EReal).toReal

/-- Query `r` sees key `c`: the key's chunk of 64 positions is not later than the query's. -/
def live (r c : ℕ) : Prop := c / 64 ≤ r / 64

instance (r c : ℕ) : Decidable (live r c) := inferInstanceAs (Decidable (c / 64 ≤ r / 64))

/-- The scaled score of query `r` and key `c`. -/
def score (q k : ℕ → ℕ → ℝ) (r c : ℕ) : ℝ := ∑ d ∈ Finset.range 192, q r d * scale * k c d

/-- The score with the mask as the extended reals have it. -/
def masked (q k : ℕ → ℕ → ℝ) (r c : ℕ) : EReal := if live r c then (score q k r c : EReal) else ⊥

/-- The largest score of row `r` among the keys it sees. -/
def rowMax (q k : ℕ → ℕ → ℝ) (r : ℕ) : ℝ := ((Finset.range 2048).sup (masked q k r)).toReal

/-- The exponential of the shifted score, zero where the mask hides the key. -/
def ex (q k : ℕ → ℕ → ℝ) (r c : ℕ) : ℝ := if live r c then Real.exp (score q k r c - rowMax q k r) else 0

/-- The row's sum of exponentials. -/
def den (q k : ℕ → ℕ → ℝ) (r : ℕ) : ℝ := ∑ c ∈ Finset.range 2048, ex q k r c

/-- The values weighted by the exponentials, not yet divided. -/
def wsum (q k v : ℕ → ℕ → ℝ) (r d : ℕ) : ℝ := ∑ c ∈ Finset.range 2048, ex q k r c * v c d

/-- The gate's sigmoid. -/
def sg (z : ℕ → ℕ → ℝ) (r d : ℕ) : ℝ := 1 / (1 + Real.exp (-z r d))

/-- The gradient of the attention's output. -/
def gout (z dy : ℕ → ℕ → ℝ) (r d : ℕ) : ℝ := dy r d * (z r d * sg z r d)

/-- The gradient of the weights, before the quotient rule. -/
def dweight (v z dy : ℕ → ℕ → ℝ) (r c : ℕ) : ℝ := ∑ d ∈ Finset.range 128, gout z dy r d * v c d

/-- The row's correction of the quotient rule: output times its gradient, not yet divided. -/
def rowDot (q k v z dy : ℕ → ℕ → ℝ) (r : ℕ) : ℝ := ∑ d ∈ Finset.range 128, wsum q k v r d * gout z dy r d

/-- The gradient of the scores. -/
def dscore (q k v z dy : ℕ → ℕ → ℝ) (r c : ℕ) : ℝ :=
  ex q k r c * (dweight v z dy r c / den q k r - rowDot q k v z dy r / (den q k r * den q k r))

/-- The gradient of the queries. -/
def gradQ (q k v z dy : ℕ → ℕ → ℝ) (r d : ℕ) : ℝ :=
  (∑ c ∈ Finset.range 2048, dscore q k v z dy r c * k c d) * scale

/-- What one query gives to the gradient of the keys, before the scale. -/
def termK (q k v z dy : ℕ → ℕ → ℝ) (c d r : ℕ) : ℝ := dscore q k v z dy r c * q r d

/-- The gradient of the keys. -/
def gradK (q k v z dy : ℕ → ℕ → ℝ) (c d : ℕ) : ℝ := (∑ r ∈ Finset.range 2048, termK q k v z dy c d r) * scale

/-- What one query gives to the gradient of the values. -/
def termV (q k v z dy : ℕ → ℕ → ℝ) (c d r : ℕ) : ℝ := ex q k r c * (gout z dy r d / den q k r)

/-- The gradient of the values. -/
def gradV (q k v z dy : ℕ → ℕ → ℝ) (c d : ℕ) : ℝ := ∑ r ∈ Finset.range 2048, termV q k v z dy c d r

/-- The gradient of the gated output times the attention's output. -/
def dgate (q k v dy : ℕ → ℕ → ℝ) (r d : ℕ) : ℝ := wsum q k v r d / den q k r * dy r d

/-- The gradient of the gate. -/
def gradZ (q k v z dy : ℕ → ℕ → ℝ) (r d : ℕ) : ℝ :=
  dgate q k v dy r d * sg z r d + z r d * dgate q k v dy r d * (sg z r d * (1 - sg z r d))

section Facts

variable (q k v z dy : ℕ → ℕ → ℝ)

/-- A query sees itself. -/
theorem live_self (r : ℕ) : live r r := le_refl _

/-- A query sees every earlier key. -/
theorem live_of_le {r c : ℕ} (h : c ≤ r) : live r c := Nat.div_le_div_right h

/-- Whether a query of a block sees a key of the same block does not depend on where the block begins. -/
theorem live_add (n r c : ℕ) (h : n % 64 = 0) : live (n + r) (n + c) ↔ c / 64 ≤ r / 64 := by
  unfold live; omega

/-- A query of a block sees no key after the block. -/
theorem not_live {n r c : ℕ} (hn : n % 512 = 0) (hr : r < n + 512) (hc : n + 512 ≤ c) : ¬ live r c := by
  unfold live; omega

/-- The masked scores' maximum is a real number. -/
theorem coe_rowMax {r : ℕ} (hr : r < 2048) :
    ((rowMax q k r : ℝ) : EReal) = (Finset.range 2048).sup (masked q k r) := by
  refine EReal.coe_toReal ?_ ?_
  · refine ne_of_lt ((Finset.sup_lt_iff (by exact bot_lt_top)).2 fun c _ => ?_)
    unfold masked; split
    · exact EReal.coe_lt_top _
    · exact bot_lt_top
  · refine ne_of_gt (lt_of_lt_of_le ?_ (Finset.le_sup (f := masked q k r) (Finset.mem_range.2 hr)))
    unfold masked; rw [if_pos (live_self r)]; exact EReal.bot_lt_coe _

/-- The maximum of the row is that of the earlier blocks and the diagonal block. -/
theorem rowMax_split {n r : ℕ} (hn : n % 512 = 0) (hn' : n + 512 ≤ 2048) (hr : r < n + 512) :
    ((rowMax q k r : ℝ) : EReal)
      = max ((Finset.range 512).sup fun c => masked q k r (n + c)) ((Finset.range n).sup (masked q k r)) := by
  rw [coe_rowMax q k (by omega)]
  refine le_antisymm (Finset.sup_le fun c hc => ?_) (max_le (Finset.sup_le fun c hc => ?_) (Finset.sup_le fun c hc => ?_))
  · rw [Finset.mem_range] at hc
    rcases lt_or_ge c n with h | h
    · exact le_max_of_le_right (Finset.le_sup (f := masked q k r) (Finset.mem_range.2 h))
    rcases lt_or_ge c (n + 512) with h' | h'
    · refine le_max_of_le_left ?_
      have := Finset.le_sup (f := fun c => masked q k r (n + c)) (Finset.mem_range.2 (show c - n < 512 by omega))
      simpa only [Nat.add_sub_cancel' h] using this
    · unfold masked; rw [if_neg (not_live hn hr h')]; exact bot_le
  · exact Finset.le_sup (f := masked q k r) (Finset.mem_range.2 (by have := Finset.mem_range.1 hc; omega))
  · exact Finset.le_sup (f := masked q k r) (Finset.mem_range.2 (by have := Finset.mem_range.1 hc; omega))

/-- A sum over all keys whose terms vanish after the diagonal block is the diagonal block's and the earlier blocks'. -/
theorem sum_split {n : ℕ} (hn' : n + 512 ≤ 2048) (f : ℕ → ℝ) (hf : ∀ c, n + 512 ≤ c → f c = 0) :
    ∑ c ∈ Finset.range 2048, f c
      = (∑ c ∈ Finset.range 512, f (n + c)) + ∑ c ∈ Finset.range n, f c := by
  rw [add_comm, ← Finset.sum_range_add, ← Finset.sum_range_add_sum_Ico f hn',
    Finset.sum_eq_zero (s := Finset.Ico (n + 512) 2048) (fun c hc => hf c (Finset.mem_Ico.1 hc).1), add_zero]

/-- The exponentials vanish after the diagonal block. -/
theorem ex_dead {n r c : ℕ} (hn : n % 512 = 0) (hr : r < n + 512) (hc : n + 512 ≤ c) : ex q k r c = 0 :=
  if_neg (not_live hn hr hc)

/-- The exponentials are not negative. -/
theorem ex_nonneg (r c : ℕ) : 0 ≤ ex q k r c := by
  unfold ex; split
  · exact (Real.exp_pos _).le
  · exact le_refl _

/-- The row sums are positive. -/
theorem den_pos {r : ℕ} (hr : r < 2048) : 0 < den q k r := by
  refine Finset.sum_pos' (fun c _ => ex_nonneg q k r c) ⟨r, Finset.mem_range.2 hr, ?_⟩
  unfold ex; rw [if_pos (live_self r)]; exact Real.exp_pos _

/-- The row's correction is also the sum of the exponentials times the gradient of the weights. -/
theorem rowDot_eq (r : ℕ) :
    rowDot q k v z dy r = ∑ c ∈ Finset.range 2048, dweight v z dy r c * ex q k r c := by
  unfold rowDot wsum dweight
  simp only [Finset.sum_mul]
  rw [Finset.sum_comm]
  exact Finset.sum_congr rfl fun c _ => Finset.sum_congr rfl fun d _ => by ring

end Facts

end Cert.KernelIdeal.Body

end
-- ==== Proof.Lift.lean ====
module

public import Idealize.ShloMosaic.Lib.WordCmp
public import Idealize.ShloMosaic.Lib.Pointwise
public import Idealize.ShloMosaic.Lib.ValueIdx
public import Idealize.ShloMosaic.PureOps.Ideal.Laws
public import proofs.«01_k».proof.Proof.Spec

@[expose] public section

set_option maxRecDepth 16384

noncomputable section

namespace Cert.KernelIdeal.Body

open Idealize.ShloMosaic Idealize.ShloMosaic.Tactic
open Cert.KernelIdeal Cert.KernelIdeal.Gen

/-! ## Arrays of real entries -/

/-- The tile of the real matrix `f` that begins at row `a` and column `b`, as an array of rank two. -/
def T2 {n m : ℕ} (a b : ℕ) (f : ℕ → ℕ → ℝ) : (⟨2, ![n, m]⟩ : Shape).Idx → EReal :=
  fun i => ((f (a + (i 0).val) (b + (i 1).val) : ℝ) : EReal)

/-- The same with a leading axis of size one. -/
def T3 {n m : ℕ} (a b : ℕ) (f : ℕ → ℕ → ℝ) : (⟨3, ![1, n, m]⟩ : Shape).Idx → EReal :=
  fun i => ((f (a + (i 1).val) (b + (i 2).val) : ℝ) : EReal)

/-- The tile of a matrix of extended reals. -/
def TE {n m : ℕ} (a b : ℕ) (f : ℕ → ℕ → EReal) : (⟨2, ![n, m]⟩ : Shape).Idx → EReal :=
  fun i => f (a + (i 0).val) (b + (i 1).val)

theorem T2_apply {n m : ℕ} (a b : ℕ) (f : ℕ → ℕ → ℝ) (i : Fin n) (j : Fin m) :
    (T2 a b f : (⟨2, ![n, m]⟩ : Shape).Idx → EReal) (ix2 i j) = ((f (a + i.val) (b + j.val) : ℝ) : EReal) := rfl

theorem T3_apply {n m : ℕ} (a b : ℕ) (f : ℕ → ℕ → ℝ) (i0 : Fin 1) (i : Fin n) (j : Fin m) :
    (T3 a b f : (⟨3, ![1, n, m]⟩ : Shape).Idx → EReal) (ix3 i0 i j) = ((f (a + i.val) (b + j.val) : ℝ) : EReal) := rfl

theorem TE_apply {n m : ℕ} (a b : ℕ) (f : ℕ → ℕ → EReal) (i : Fin n) (j : Fin m) :
    (TE a b f : (⟨2, ![n, m]⟩ : Shape).Idx → EReal) (ix2 i j) = f (a + i.val) (b + j.val) := rfl

/-- A finite sum of reals is taken in the reals. -/
theorem coe_sum {ι : Type*} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

/-- A quotient of reals with a nonzero divisor is taken in the reals. -/
theorem coe_div' (x : ℝ) {y : ℝ} (h : y ≠ 0) : Ideal.div (x : EReal) (y : EReal) = ((x / y : ℝ) : EReal) := by
  rw [Ideal.div_coe h, ← EReal.coe_mul, mul_one_div]

/-- One over a nonzero real. -/
theorem one_div' {y : ℝ} (h : y ≠ 0) : Ideal.div 1 (y : EReal) = ((1 / y : ℝ) : EReal) := by
  rw [← EReal.coe_one, coe_div' 1 h]

/-- The scale's constant is a real number. -/
theorem ofBits_scale : Ideal.ofBits .f32 0x3D93CD3A#32 = ((scale : ℝ) : EReal) := by
  have h : Ideal.ofBits .f32 0x3D93CD3A#32 = (((9686330 : ℝ) * ((2 : ℝ) ^ 27)⁻¹ : ℝ) : EReal) := by
    rw [EReal.coe_mul]; simp [Ideal.ofBits, Ideal.ieee]
  unfold scale
  rw [Ideal.ofBits_def, h, EReal.toReal_coe]

/-- The neutral element of the maximum. -/
theorem ofBits_bot : Ideal.ofBits .f32 0xFF800000#32 = ⊥ := by simp [Ideal.ofBits, Ideal.ieee]

/-- A maximum over a row, taken over the natural numbers below its length. -/
theorem fold_max {n : ℕ} (f : Fin n → EReal) (g : ℕ → EReal) (h : ∀ x, f x = g x.val) :
    Finset.fold max ⊥ f Finset.univ = (Finset.range n).sup g := by
  have e : f = fun x => g x.val := funext h
  subst e
  change Finset.univ.sup (fun x : Fin n => g x.val) = _
  refine le_antisymm (Finset.sup_le fun x _ => Finset.le_sup (f := g) (Finset.mem_range.2 x.2)) (Finset.sup_le fun c hc => ?_)
  exact Finset.le_sup (f := fun x : Fin n => g x.val) (Finset.mem_univ (⟨c, Finset.mem_range.1 hc⟩ : Fin n))

/-- The mask's comparison of two positions of a block. -/
theorem select_chunk {α : Type} (r c : Fin 512) (x y : α) :
    Scalar.select (IntOp.cmpi .sle (IntOp.shrsi .vector (BitVec.ofNat 32 c.val) 6#32)
      (IntOp.shrsi .vector (BitVec.ofNat 32 r.val) 6#32)) x y = if c.val / 64 ≤ r.val / 64 then x else y := by
  have hs : ∀ a : Fin 512, (IntOp.shrsi .vector (BitVec.ofNat 32 a.val) 6#32) = BitVec.ofNat 32 (a.val / 64) := by
    decide +kernel
  have ht : ∀ a : Fin 512, (BitVec.ofNat 32 (a.val / 64)).toInt = ((a.val / 64 : ℕ) : ℤ) := by decide +kernel
  have hr := ht r
  have hc := ht c
  rw [hs, hs, WordCmp.cmpi_sle_eq, hr, hc, Scalar.select_ofBool]
  simp only [decide_eq_true_eq, Nat.cast_le]

/-- The mask's constant is minus infinity. -/
theorem mask_bot : (Named.named (F := Ideal) κ "mask" 0xF149F2CA#32 : Ideal .f32) = (⊥ : EReal) :=
  IdealRules.named_const.ideal_named_scalar _ _ _ _ rfl

/-- A masked score less the row's maximum: its exponential. -/
theorem exp_masked (q k : ℕ → ℕ → ℝ) (r c : ℕ) :
    Ideal.exp (masked q k r c - ((rowMax q k r : ℝ) : EReal)) = ((ex q k r c : ℝ) : EReal) := by
  unfold masked ex
  split
  · rw [← EReal.coe_sub, Ideal.exp_coe]
  · rw [EReal.bot_sub, Ideal.exp_bot, EReal.coe_zero]

/-- A score the mask lets through. -/
theorem masked_live {q k : ℕ → ℕ → ℝ} {r c : ℕ} (h : live r c) : masked q k r c = ((score q k r c : ℝ) : EReal) := if_pos h

/-- What the 512 queries from row `n` on give to the gradient of the keys. -/
def stepK (q k v z dy : ℕ → ℕ → ℝ) (n c d : ℕ) : ℝ := (∑ r ∈ Finset.range 512, termK q k v z dy c d (n + r)) * scale

/-- What the 512 queries from row `n` on give to the gradient of the values. -/
def stepV (q k v z dy : ℕ → ℕ → ℝ) (n c d : ℕ) : ℝ := ∑ r ∈ Finset.range 512, termV q k v z dy c d (n + r)

section
variable (q k v z dy : ℕ → ℕ → ℝ)

theorem dscore_dead {n r c : ℕ} (hn : n % 512 = 0) (hr : r < n + 512) (hc : n + 512 ≤ c) : dscore q k v z dy r c = 0 := by
  unfold dscore; rw [ex_dead q k hn hr hc, zero_mul]

theorem stepK_dead {n c : ℕ} (d : ℕ) (hn : n % 512 = 0) (hc : n + 512 ≤ c) : stepK q k v z dy n c d = 0 := by
  unfold stepK termK
  rw [Finset.sum_eq_zero fun r hr => ?_, zero_mul]
  rw [dscore_dead q k v z dy hn (by have := Finset.mem_range.1 hr; omega) hc, zero_mul]

theorem stepV_dead {n c : ℕ} (d : ℕ) (hn : n % 512 = 0) (hc : n + 512 ≤ c) : stepV q k v z dy n c d = 0 := by
  unfold stepV termV
  refine Finset.sum_eq_zero fun r hr => ?_
  rw [ex_dead q k hn (by have := Finset.mem_range.1 hr; omega) hc, zero_mul]

/-- A sum over 2048 rows in four blocks. -/
theorem sum_blocks (f : ℕ → ℝ) :
    ∑ r ∈ Finset.range 2048, f r = (∑ r ∈ Finset.range 512, f (0 + r)) + (∑ r ∈ Finset.range 512, f (512 + r))
      + (∑ r ∈ Finset.range 512, f (1024 + r)) + ∑ r ∈ Finset.range 512, f (1536 + r) := by
  rw [show (2048 : ℕ) = 512 + 512 + 512 + 512 from rfl, Finset.sum_range_add, Finset.sum_range_add, Finset.sum_range_add]
  simp only [zero_add]

theorem gradK_eq (c d : ℕ) : gradK q k v z dy c d
    = stepK q k v z dy 0 c d + stepK q k v z dy 512 c d + stepK q k v z dy 1024 c d + stepK q k v z dy 1536 c d := by
  unfold gradK stepK; rw [sum_blocks]; ring

theorem gradV_eq (c d : ℕ) : gradV q k v z dy c d
    = stepV q k v z dy 0 c d + stepV q k v z dy 512 c d + stepV q k v z dy 1024 c d + stepV q k v z dy 1536 c d := by
  unfold gradV stepV; rw [sum_blocks]

/-- The gradient of the scores as the kernel computes it. -/
theorem dscore_kernel (r c : ℕ) : dscore q k v z dy r c
    = ((∑ d ∈ Finset.range 128, gout z dy r d * (1 / den q k r) * v c d)
        + -(rowDot q k v z dy r * (1 / (den q k r * den q k r)))) * ex q k r c := by
  have e : (∑ d ∈ Finset.range 128, gout z dy r d * (1 / den q k r) * v c d) = dweight v z dy r c / den q k r := by
    unfold dweight; rw [Finset.sum_div]; exact Finset.sum_congr rfl fun d _ => by ring
  rw [e, dscore]; ring

/-- The gradient of the gate as the kernel computes it. -/
theorem gradZ_kernel (r d : ℕ) : dgate q k v dy r d * sg z r d
    + -(-(z r d * dgate q k v dy r d * (1 / ((1 + Real.exp (-z r d)) * (1 + Real.exp (-z r d))))) * Real.exp (-z r d))
    = gradZ q k v z dy r d := by
  have h : (1 + Real.exp (-z r d)) ≠ 0 := by positivity
  unfold gradZ sg
  field_simp
  ring

end

end Cert.KernelIdeal.Body

end
-- ==== Proof.TileRect.lean ====
module

public import Idealize.ShloMosaic.Lib.WordCmp
public import Idealize.ShloMosaic.Lib.Pointwise
public import Idealize.ShloMosaic.Lib.ValueIdx
public import Idealize.ShloMosaic.PureOps.Ideal.Laws
public import Idealize.ShloMosaic.Lib.Pipeline.ValueKit.Tiles
public import proofs.«01_k».proof.Proof.Lift
public import proofs.«01_k».proof.Proof.Overlay

@[expose] public section

set_option maxRecDepth 16384

noncomputable section

namespace Cert.KernelIdeal.Body

open Idealize.ShloMosaic Idealize.ShloMosaic.Tactic
open Cert.KernelIdeal Cert.KernelIdeal.Gen

/-! ## Tiles loaded and stored -/

/-- Rows `o` to `o + n` of the matrix, loaded from an array that holds all of it. -/
theorem ld_T3 {N W n : ℕ} (o : ℕ) (inb : ∀ a, (![0, o, 0] : Fin 3 → ℕ) a + (![1, n, W] : Fin 3 → ℕ) a ≤ (⟨3, ![1, N, W]⟩ : Shape).size a)
    (f : ℕ → ℕ → ℝ) :
    View.ld (Val := Elt Ideal) (e' := .f32) (T3 0 0 f : (⟨3, ![1, N, W]⟩ : Shape).Idx → EReal) (Rect.unit (s := ⟨3, ![1, N, W]⟩) ![0, o, 0] ![1, n, W] inb)
      = (T3 o 0 f : (⟨3, ![1, n, W]⟩ : Shape).Idx → EReal) := by
  funext x
  have h1 := Rect.idx_unit_val (s := ⟨3, ![1, N, W]⟩) ![0, o, 0] ![1, n, W] inb x 1
  have h2 := Rect.idx_unit_val (s := ⟨3, ![1, N, W]⟩) ![0, o, 0] ![1, n, W] inb x 2
  change ((f (0 + ((Rect.unit (s := ⟨3, ![1, N, W]⟩) ![0, o, 0] ![1, n, W] inb).idx x 1).val)
    (0 + ((Rect.unit (s := ⟨3, ![1, N, W]⟩) ![0, o, 0] ![1, n, W] inb).idx x 2).val) : ℝ) : EReal) = ((f (o + (x 1).val) (0 + (x 2).val) : ℝ) : EReal)
  rw [h1, h2]
  simp

/-- Rows `o` to `o + n` of an array that holds the matrix `f`, replaced by those of the matrix `g`. -/
theorem overlay_T3 {N W n : ℕ} (o : ℕ) (inb : ∀ a, (![0, o, 0] : Fin 3 → ℕ) a + (![1, n, W] : Fin 3 → ℕ) a ≤ (⟨3, ![1, N, W]⟩ : Shape).size a)
    (f g : ℕ → ℕ → ℝ) :
    (Rect.unit (s := ⟨3, ![1, N, W]⟩) ![0, o, 0] ![1, n, W] inb).overlay (T3 0 0 f : (⟨3, ![1, N, W]⟩ : Shape).Idx → EReal)
        (T3 o 0 g : (⟨3, ![1, n, W]⟩ : Shape).Idx → EReal)
      = (T3 0 0 fun c d => if o ≤ c ∧ c < o + n then g c d else f c d : (⟨3, ![1, N, W]⟩ : Shape).Idx → EReal) := by
  funext j
  by_cases hj : j ∈ (Rect.unit (s := ⟨3, ![1, N, W]⟩) ![0, o, 0] ![1, n, W] inb).set
  · obtain ⟨x, rfl⟩ := (Rect.unit (s := ⟨3, ![1, N, W]⟩) ![0, o, 0] ![1, n, W] inb).exists_idx_of_mem hj
    refine (Rect.overlay_emb _ _ _ x).trans ?_
    have h1 := Rect.idx_unit_val (s := ⟨3, ![1, N, W]⟩) ![0, o, 0] ![1, n, W] inb x 1
    have h2 := Rect.idx_unit_val (s := ⟨3, ![1, N, W]⟩) ![0, o, 0] ![1, n, W] inb x 2
    have h3 : (x 1).val < n := (x 1).isLt
    unfold T3
    rw [h1, h2]
    simp [h3]
  · refine (Rect.overlay_of_not_mem _ _ _ hj).trans ?_
    unfold T3
    beta_reduce
    rw [if_neg]
    rintro ⟨ha, hb⟩
    simp only [zero_add] at ha hb
    refine hj ?_
    have hk : ∀ a : Fin 3, (![0, o, 0] : Fin 3 → ℕ) a ≤ (j a).val ∧ (j a).val < (![0, o, 0] : Fin 3 → ℕ) a + (![1, n, W] : Fin 3 → ℕ) a := by
      intro a
      have hl : (j a).val < (![1, N, W] : Fin 3 → ℕ) a := (j a).isLt
      fin_cases a
      · exact ⟨Nat.zero_le _, by simpa using hl⟩
      · exact ⟨ha, hb⟩
      · exact ⟨Nat.zero_le _, by simpa using hl⟩
    exact Rect.mem_set_unit.2 hk

/-- The cleared buffers. -/
theorem pay1_eq : k0_pay1 (F := Ideal) = T3 0 0 fun _ _ => 0 := by
  funext j
  idx_vars j
  pointwise [k0_pay1, T3_apply, EReal.coe_zero]
theorem pay2_eq : k0_pay2 (F := Ideal) = T3 0 0 fun _ _ => 0 := by
  funext j
  idx_vars j
  pointwise [k0_pay2, T3_apply, EReal.coe_zero]

end Cert.KernelIdeal.Body

end
-- ==== Proof.Blocks.lean ====
module

public import Idealize.ShloMosaic.Lib.WordCmp
public import Idealize.ShloMosaic.Lib.Pointwise
public import Idealize.ShloMosaic.Lib.ValueIdx
public import Idealize.ShloMosaic.PureOps.Ideal.Laws
public import Idealize.ShloMosaic.Lib.Pipeline.ValueKit
public import Idealize.ShloMosaic.Lib.Claim
public import proofs.«01_k».proof.Proof.Body
public import proofs.«01_k».proof.Proof.TileRect

@[expose] public section

set_option maxRecDepth 16384

noncomputable section

namespace Cert.KernelIdeal.Body

open Idealize.ShloMosaic Idealize.ShloMosaic.Tactic
open Cert.KernelIdeal Cert.KernelIdeal.Gen

open Idealize.ShloMosaic.TcCoe Idealize.ShloMosaic.Pipeline Idealize.SL Idealize.SL.RA

/-! ## The blocks of the operands as tiles of real matrices -/

/-- Matrix `h` of a stack of matrices of extended reals, as a matrix of reals. -/
def M3 {H N W : ℕ} [NeZero H] [NeZero N] [NeZero W] (X : (⟨3, ![H, N, W]⟩ : Shape).Idx → EReal) (h r d : ℕ) : ℝ :=
  (X (ix3 (Fin.ofNat H h) (Fin.ofNat N r) (Fin.ofNat W d))).toReal

/-- The matrix of extended reals that begins at column `o`, as a matrix of reals. -/
def M2 {N W : ℕ} [NeZero N] [NeZero W] (X : (⟨2, ![N, W]⟩ : Shape).Idx → EReal) (o r d : ℕ) : ℝ :=
  (X (ix2 (Fin.ofNat N r) (Fin.ofNat W (o + d)))).toReal

/-- An entry of the matrix of reals is the array's. -/
theorem M3_coe {H N W : ℕ} [NeZero H] [NeZero N] [NeZero W] {X : (⟨3, ![H, N, W]⟩ : Shape).Idx → EReal}
    (hX : ∀ i, ((X i).toReal : EReal) = X i) {h r d : ℕ} (hh : h < H) (hr : r < N) (hd : d < W) :
    ((M3 X h r d : ℝ) : EReal) = X (ix3 ⟨h, hh⟩ ⟨r, hr⟩ ⟨d, hd⟩) := by
  unfold M3
  rw [hX]
  congr 2 <;> exact Fin.ext (Nat.mod_eq_of_lt ‹_›)

/-- An entry of the matrix of reals is the array's. -/
theorem M2_coe {N W : ℕ} [NeZero N] [NeZero W] {X : (⟨2, ![N, W]⟩ : Shape).Idx → EReal}
    (hX : ∀ i, ((X i).toReal : EReal) = X i) {o r d : ℕ} (hr : r < N) (hd : o + d < W) :
    ((M2 X o r d : ℝ) : EReal) = X (ix2 ⟨r, hr⟩ ⟨o + d, hd⟩) := by
  unfold M2
  rw [hX]
  congr 2 <;> exact Fin.ext (Nat.mod_eq_of_lt ‹_›)

/-! The block indices at each point: head and query block. -/

theorem idx0 : ∀ t : Fin cfg0.N, win0_0.index t = ![t.val / 4, t.val % 4, 0] := by decide +kernel
theorem idx1 : ∀ t : Fin cfg0.N, win0_1.index t = ![t.val / 4, 0, 0] := by decide +kernel
theorem idx2 : ∀ t : Fin cfg0.N, win0_2.index t = ![t.val / 4, 0, 0] := by decide +kernel
theorem idx3 : ∀ t : Fin cfg0.N, win0_3.index t = ![t.val % 4, 30 + t.val / 4] := by decide +kernel
theorem idx4 : ∀ t : Fin cfg0.N, win0_4.index t = ![t.val % 4, t.val / 4] := by decide +kernel
theorem idx5 : ∀ t : Fin cfg0.N, win0_5.index t = ![t.val / 4, t.val % 4, 0] := by decide +kernel
theorem idx6 : ∀ t : Fin cfg0.N, win0_6.index t = ![t.val / 4, 0, 0] := by decide +kernel
theorem idx7 : ∀ t : Fin cfg0.N, win0_7.index t = ![t.val / 4, 0, 0] := by decide +kernel
theorem idx8 : ∀ t : Fin cfg0.N, win0_8.index t = ![t.val % 4, 30 + t.val / 4] := by decide +kernel

/-- A point's number is below 32. -/
theorem lt32 (t : Fin cfg0.N) : t.val < 32 := t.isLt

section
variable (m : (ℓ : Loc nD τ sig) → Buf (Elt Ideal) ℓ) (c : Dev nD)

/-- The queries. -/
def qs : S8x2048x192.Idx → EReal := m ((c : Thread nD τ).loc main_arg0)
/-- The keys. -/
def ks : S8x2048x192.Idx → EReal := m ((c : Thread nD τ).loc main_arg1)
/-- The values. -/
def vs : S8x2048x128.Idx → EReal := m ((c : Thread nD τ).loc main_arg2)
/-- The input projections, the gate among them. -/
def ps : S2048x10752.Idx → EReal := m ((c : Thread nD τ).loc main_arg3)
/-- The incoming gradient. -/
def dys : S2048x1024.Idx → EReal := m ((c : Thread nD τ).loc main_arg4)

/-- Head `h`'s queries, keys, values, gate and incoming gradient, as matrices of reals. -/
def qm (h : ℕ) : ℕ → ℕ → ℝ := M3 (qs m c) h
def km (h : ℕ) : ℕ → ℕ → ℝ := M3 (ks m c) h
def vm (h : ℕ) : ℕ → ℕ → ℝ := M3 (vs m c) h
def zm (h : ℕ) : ℕ → ℕ → ℝ := M2 (ps m c) (3840 + 128 * h)
def dym (h : ℕ) : ℕ → ℕ → ℝ := M2 (dys m c) (128 * h)

/-- The entries that the gradient depends on are real numbers. -/
structure Finite : Prop where
  q : ∀ i, ((qs m c i).toReal : EReal) = qs m c i
  k : ∀ i, ((ks m c i).toReal : EReal) = ks m c i
  v : ∀ i, ((vs m c i).toReal : EReal) = vs m c i
  z : ∀ (r : Fin 2048) (d : Fin 10752), 3840 ≤ d.val → d.val < 4864 → ((ps m c (ix2 r d)).toReal : EReal) = ps m c (ix2 r d)
  dy : ∀ i, ((dys m c i).toReal : EReal) = dys m c i

variable {m c} (H : Finite m c)
include H

/-- An entry of the gate is the array's. -/
theorem zm_coe {h r d : ℕ} (hh : h < 8) (hr : r < 2048) (hd : d < 128) :
    ((M2 (ps m c) (3840 + 128 * h) r d : ℝ) : EReal) = ps m c (ix2 ⟨r, hr⟩ ⟨3840 + 128 * h + d, by omega⟩) := by
  have e : (ix2 (Fin.ofNat 2048 r) (Fin.ofNat 10752 (3840 + 128 * h + d)) : S2048x10752.Idx)
      = ix2 ⟨r, hr⟩ ⟨3840 + 128 * h + d, by omega⟩ := by
    congr 1 <;> exact Fin.ext (Nat.mod_eq_of_lt (by omega))
  unfold M2
  rw [e]
  exact H.z _ _ (by show 3840 ≤ 3840 + 128 * h + d; omega) (by show 3840 + 128 * h + d < 4864; omega)

theorem iblk0 (t : Fin cfg0.N) : iblk (F := Ideal) m c 0 t = T3 (512 * (t.val % 4)) 0 (qm m c (t.val / 4)) := by
  funext y
  idx_vars y
  have ht := lt32 t
  rw [T3_apply, qm, M3_coe H.q (by omega) (by omega) (by omega), qs]
  blk_ext [iblk, V_main_arg0, idx0]
  all_goals omega

theorem iblk1 (t : Fin cfg0.N) : iblk (F := Ideal) m c 1 t = T3 0 0 (km m c (t.val / 4)) := by
  funext y
  idx_vars y
  have ht := lt32 t
  rw [T3_apply, km, M3_coe H.k (by omega) (by omega) (by omega), ks]
  blk_ext [iblk, V_main_arg1, idx1]
  all_goals omega

theorem iblk2 (t : Fin cfg0.N) : iblk (F := Ideal) m c 2 t = T3 0 0 (vm m c (t.val / 4)) := by
  funext y
  idx_vars y
  have ht := lt32 t
  rw [T3_apply, vm, M3_coe H.v (by omega) (by omega) (by omega), vs]
  blk_ext [iblk, V_main_arg2, idx2]
  all_goals omega

theorem iblk3 (t : Fin cfg0.N) : iblk (F := Ideal) m c 3 t = T2 (512 * (t.val % 4)) 0 (zm m c (t.val / 4)) := by
  funext y
  idx_vars y
  have ht := lt32 t
  rw [T2_apply, zm, zm_coe H (by omega) (by omega) (by omega), ps]
  blk_ext [iblk, V_main_arg3, idx3]
  all_goals omega

theorem iblk4 (t : Fin cfg0.N) : iblk (F := Ideal) m c 4 t = T2 (512 * (t.val % 4)) 0 (dym m c (t.val / 4)) := by
  funext y
  idx_vars y
  have ht := lt32 t
  rw [T2_apply, dym, M2_coe H.dy (by omega) (by omega), dys]
  blk_ext [iblk, V_main_arg4, idx4]
  all_goals omega

end

end Cert.KernelIdeal.Body

end
-- ==== Proof.PreFinite.lean ====
module

public import proofs.«01_k».proof.Defs
public import proofs.«01_k».proof.Proof.Gen.Pre_finite_inputs
public import proofs.«01_k».proof.Proof.Blocks
public import Idealize.ShloMosaic.Lib.ReduceAll
public import Idealize.ShloMosaic.Lib.Affine

@[expose] public section

set_option maxRecDepth 16384

noncomputable section

namespace Cert.KernelIdeal.Body

open Idealize.ShloMosaic Idealize.ShloMosaic.TcCoe Idealize.ShloMosaic.Pipeline Idealize.SL Idealize.SL.RA Idealize.ShloMosaic.Tactic
open Cert.KernelIdeal

/-! # What the precondition says of the arrays -/

/-- An extended real whose absolute value is below plus infinity is a real number. -/
theorem real_of_lt {s : Shape} (x : FVec Ideal s .f32) (hb : Cert.Pre_finite_inputs.S_.BroadcastsInDim s (![] : Fin 0 → Fin s.rank)) (i : s.Idx)
    (e : cmpf .olt (Host.absf x) (broadcastInDim s ![] hb (constant (F := Ideal) Cert.Pre_finite_inputs.S_ .f32 0x7F800000#32)) i = 1#1) :
    ((EReal.toReal (x i) : ℝ) : EReal) = x i := by
  have e' : FloatOps.cmpf (F := Ideal) .olt (FloatOps.hostAbsf (x i)) (FloatOps.ofBits .f32 0x7F800000#32) = 1#1 := e
  have ht : (FloatOps.ofBits .f32 0x7F800000#32 : Ideal .f32) = (⊤ : EReal) := by
    simp [Ideal.ofBits_def, Ideal.ofBits, Ideal.ieee]
  rw [ht] at e'
  generalize (x i : EReal) = y at e' ⊢
  have h : max y (-y) < ⊤ := by
    by_contra hn
    simp [Ideal.cmpf_def, Ideal.cmp, Ideal.hostAbsf_def, Ideal.absf_def, hn] at e'
  refine EReal.coe_toReal (ne_of_lt ((le_max_left _ _).trans_lt h)) fun hb => ?_
  rw [hb] at h
  simp at h

/-- A conjunction of five bits is one where each of them is. -/
theorem and_parts {s : Shape} {a b c d e : IVec s 1} {j : s.Idx} (h : andi (andi (andi (andi a b) c) d) e j = 1#1) :
    (((a j = 1#1 ∧ b j = 1#1) ∧ c j = 1#1) ∧ d j = 1#1) ∧ e j = 1#1 := by
  have h' : IntOp.andi (IntOp.andi (IntOp.andi (IntOp.andi (a j) (b j)) (c j)) (d j)) (e j) = 1#1 := h
  simpa only [IntOp.andi_eq_one] using h'

/-- The precondition makes every entry that the kernel reads a real number, except those of `dproj`. -/
theorem finite_of_pre (m : (ℓ : Loc nD τ sig) → Buf (Elt Ideal) ℓ) (h : Cert.Pre_KernelIdeal_finite_inputs m) (c : Dev nD) :
    Finite m c := by
  have e := congrFun (h c) (Shape.Idx.first Cert.Pre_finite_inputs.Facts.h_S_)
  dsimp only [Cert.Pre_finite_inputs.fn, Cert.Pre_finite_inputs.fn_part1] at e
  obtain ⟨⟨⟨⟨e0, e1⟩, e2⟩, e3⟩, e4⟩ := and_parts e
  haveI : Subsingleton Cert.Pre_finite_inputs.S_.Idx := ⟨fun a b => funext fun k => k.elim0⟩
  refine ⟨fun i => real_of_lt _ _ i (Host.reduce_andi_all _ _ _ _ _ e0 i),
    fun i => real_of_lt _ _ i (Host.reduce_andi_all _ _ _ _ _ e1 i),
    fun i => real_of_lt _ _ i (Host.reduce_andi_all _ _ _ _ _ e2 i), fun r d h0 h1 => ?_,
    fun i => real_of_lt _ _ i (Host.reduce_andi_all _ _ _ _ _ e4 i)⟩
  have hi : extractStridedSlice Cert.Pre_finite_inputs.S2048x1024 ![0, 3840] (ps m c)
      Cert.Pre_finite_inputs.Facts.slices_S2048x10752_S2048x1024_0_3840 (ix2 r ⟨d.val - 3840, by omega⟩) = ps m c (ix2 r d) := by
    clear e0 e1 e2 e3 e4
    pointwise []
    have hd : 3840 + (d.val - 3840) = d.val := by omega
    simp only [hd]
  have e3' := real_of_lt _ _ _ (Host.reduce_andi_all _ _ _ _ _ e3 (ix2 r ⟨d.val - 3840, by omega⟩))
  clear e0 e1 e2 e3 e4
  rw [← hi]
  exact e3'

end Cert.KernelIdeal.Body

end
-- ==== Proof.RefScore.lean ====
module

public import proofs.«01_k».proof.Proof.Gen.ReferenceIdeal.Read
public import proofs.«01_k».proof.Proof.Lift

@[expose] public section

set_option maxRecDepth 16384

noncomputable section

namespace Cert.ReferenceIdeal.Value

open Idealize.ShloMosaic Idealize.ShloMosaic.Tactic
open Cert.ReferenceIdeal Cert.ReferenceIdeal.Gen Cert.ReferenceIdeal.Read
open Cert.KernelIdeal.Body (score masked rowMax ex den wsum sg gout dweight rowDot dscore gradQ termK gradK termV gradV dgate gradZ scale live coe_rowMax den_pos rowDot_eq coe_sum coe_div' one_div' ofBits_scale ofBits_bot fold_max exp_masked)

/-! # The reference's scores, its mask, its row maxima and its exponentials -/

/-- The array of rank three with the real entries `f h r c`. -/
def A3 {a b c : ℕ} (f : ℕ → ℕ → ℕ → ℝ) : (⟨3, ![a, b, c]⟩ : Shape).Idx → EReal :=
  fun i => ((f (i 0).val (i 1).val (i 2).val : ℝ) : EReal)

theorem A3_apply {a b c : ℕ} (f : ℕ → ℕ → ℕ → ℝ) (i : Fin a) (j : Fin b) (k : Fin c) :
    (A3 f : (⟨3, ![a, b, c]⟩ : Shape).Idx → EReal) (ix3 i j k) = ((f i.val j.val k.val : ℝ) : EReal) := rfl

/-- The matrix that has the heads side by side, each 128 columns wide: entry `(r, d)` of head `h` is `f h r d`. -/
def AZ {a b : ℕ} (f : ℕ → ℕ → ℕ → ℝ) : (⟨2, ![a, b]⟩ : Shape).Idx → EReal :=
  fun i => ((f ((i 1).val / 128) (i 0).val ((i 1).val % 128) : ℝ) : EReal)

theorem AZ_apply {a b : ℕ} (f : ℕ → ℕ → ℕ → ℝ) (i : Fin a) (j : Fin b) :
    (AZ f : (⟨2, ![a, b]⟩ : Shape).Idx → EReal) (ix2 i j) = ((f (j.val / 128) i.val (j.val % 128) : ℝ) : EReal) := rfl

/-- The matrix with one real entry for each head and row. -/
def A2 {a b : ℕ} (f : ℕ → ℕ → ℝ) : (⟨2, ![a, b]⟩ : Shape).Idx → EReal :=
  fun i => ((f (i 0).val (i 1).val : ℝ) : EReal)

theorem A2_apply {a b : ℕ} (f : ℕ → ℕ → ℝ) (i : Fin a) (j : Fin b) :
    (A2 f : (⟨2, ![a, b]⟩ : Shape).Idx → EReal) (ix2 i j) = ((f i.val j.val : ℝ) : EReal) := rfl

variable (Q K : ℕ → ℕ → ℕ → ℝ)

/-- The scaled scores. -/
theorem v5_eq : val_main_v5 (F := Ideal) (A3 Q) (A3 K) = A3 fun h => score (Q h) (K h) := by
  funext i
  idx_vars i
  pointwise [val_main_v5, val_main_v3, val_main_v4, val_main_cst, A3_apply]
  simp only [Ideal.ofBits_def, ofBits_scale, ← EReal.coe_mul, coe_sum]
  simp only [score, Finset.sum_range, Finset.sum_mul]
  refine congrArg _ (Finset.sum_congr rfl fun x _ => by ring)

/-- The chunk of a position: 64 positions make one. -/
theorem chunk_id (r : Fin 2048) : val_main_v2 (F := Ideal) (ix1 r) = BitVec.ofNat 32 (r.val / 64) := by
  revert r
  decide +kernel

/-- The mask: a query's row sees the columns of its own chunk and of the earlier ones. -/
theorem mask_eq (h : Fin 8) (r c : Fin 2048) :
    val_main_v12_1 (F := Ideal) (ix3 h r c) = BitVec.ofBool (decide (live r.val c.val)) := by
  pointwise [val_main_v12_1, val_main_v11, val_main_v10, val_main_v8, val_main_v9, val_main_v6, val_main_v7]
  rw [chunk_id, chunk_id]
  rw [WordCmp.cmpi_sle_eq]
  refine congrArg _ (decide_eq_decide.mpr ?_)
  unfold live
  have hr : r.val / 64 < 32 := by omega
  have hc : c.val / 64 < 32 := by omega
  generalize r.val / 64 = a at hr
  generalize c.val / 64 = b at hc
  revert a b
  decide +kernel

/-- The scores with the hidden columns at minus infinity. -/
theorem v12_eq (h : Fin 8) (r c : Fin 2048) :
    val_main_v12_0 (F := Ideal) (A3 Q) (A3 K) (ix3 h r c) = masked (Q h) (K h) r c := by
  pointwise [val_main_v12_0, val_main_call1_v2, val_main_call1_v0, val_main_cst_0]
  rw [mask_eq, v5_eq, A3_apply, Scalar.select_ofBool]
  simp only [id, constant, Ideal.ofBits_def, ofBits_bot, decide_eq_true_eq, masked]

/-- The largest score of each row. -/
theorem v13_eq : val_main_v13 (F := Ideal) (A3 Q) (A3 K) = A2 fun h => rowMax (Q h) (K h) := by
  funext i
  idx_vars i
  pointwise [val_main_v13, val_main_cst_1, A2_apply]
  simp only [Ideal.ofBits_def, ofBits_bot]
  rw [fold_max _ _ fun x => v12_eq Q K _ _ x]
  exact (coe_rowMax _ _ (Fin.isLt _)).symm

/-- The exponentials. -/
theorem v33_eq : val_main_v33 (F := Ideal) (A3 Q) (A3 K) = A3 fun h => ex (Q h) (K h) := by
  funext i
  idx_vars i
  pointwise [val_main_v33, val_main_v32, val_main_v31, val_main_v30, val_main_v20, val_main_v19, val_main_cst_3, v12_eq, v13_eq, A2_apply, A3_apply]
  simp only [Ideal.ofBits_def, ofBits_bot, bot_le, max_eq_right]
  exact exp_masked _ _ _ _

/-- Each row's sum of exponentials. -/
theorem v34_eq : val_main_v34 (F := Ideal) (A3 Q) (A3 K) = A2 fun h => den (Q h) (K h) := by
  funext i
  idx_vars i
  pointwise [val_main_v34, val_main_cst_9, v33_eq, A2_apply, A3_apply, zero_add]
  simp only [coe_sum, den, Finset.sum_range]

/-- The weights: the exponentials over their sum. -/
theorem v37_eq : val_main_v37 (F := Ideal) (A3 Q) (A3 K) = A3 fun h r c => ex (Q h) (K h) r c / den (Q h) (K h) r := by
  funext i
  idx_vars i
  pointwise [val_main_v37, val_main_v36, val_main_v35, v33_eq, v34_eq, A2_apply, A3_apply]
  exact coe_div' _ (den_pos _ _ (Fin.isLt _)).ne'

/-- One over the square of the sum. -/
theorem v54_eq : val_main_v54 (F := Ideal) (A3 Q) (A3 K) = A3 fun h r c => 1 / (den (Q h) (K h) r * den (Q h) (K h) r) := by
  funext i
  idx_vars i
  pointwise [val_main_v54, val_main_v40, val_main_v39, val_main_v38, val_main_cst_10, val_main_v35, v34_eq, A2_apply, A3_apply]
  rw [← EReal.coe_mul]
  exact one_div' (mul_ne_zero (den_pos _ _ (Fin.isLt _)).ne' (den_pos _ _ (Fin.isLt _)).ne')

end Cert.ReferenceIdeal.Value

end
-- ==== Proof.RefGrad.lean ====
module

public import proofs.«01_k».proof.Proof.Gen.ReferenceIdeal.Read
public import proofs.«01_k».proof.Proof.Lift
public import proofs.«01_k».proof.Proof.RefScore
@[expose] public section

set_option maxRecDepth 16384

noncomputable section

namespace Cert.ReferenceIdeal.Value

open Idealize.ShloMosaic Idealize.ShloMosaic.Tactic
open Cert.ReferenceIdeal Cert.ReferenceIdeal.Gen Cert.ReferenceIdeal.Read
open Cert.KernelIdeal.Body (score masked rowMax ex den wsum sg gout dweight rowDot dscore gradQ termK gradK termV gradV dgate gradZ scale live coe_rowMax den_pos rowDot_eq coe_sum coe_div' one_div' ofBits_scale ofBits_bot fold_max exp_masked)

/-! # The reference's gate, its weights' gradient, and the four gradients -/

variable (Q K V Z DY : ℕ → ℕ → ℕ → ℝ) (P : (⟨S2048x10752, .f32⟩ : BufTy).Contents (Elt Ideal))

/-- The logistic function of the gate's input. -/
theorem v44_eq (hz : val_main_v0 (F := Ideal) P = AZ Z) : val_main_v44_2 (F := Ideal) P = AZ fun h => sg (Z h) := by
  funext i
  idx_vars i
  pointwise [val_main_v44_2, val_main_call2_v4, val_main_call2_v3, val_main_call2_v2, val_main_call2_v1, val_main_call2_v0,
    val_main_call2_cst, val_main_call2_cst_0, hz, AZ_apply]
  rw [← EReal.coe_neg, Ideal.exp_coe, ← EReal.coe_one, ← EReal.coe_add]
  exact one_div' (by positivity)

/-- The derivative of the logistic function. -/
theorem v44_1_eq (hz : val_main_v0 (F := Ideal) P = AZ Z) :
    val_main_v44_1 (F := Ideal) P = AZ fun h r d => sg (Z h) r d * (1 - sg (Z h) r d) := by
  funext i
  idx_vars i
  pointwise [val_main_v44_1, val_main_call2_v7, val_main_call2_v6, val_main_call2_cst_1, v44_eq Z P hz, AZ_apply]
  rw [← EReal.coe_one, ← EReal.coe_sub, ← EReal.coe_mul]

/-- The gradient of the attention's output, by head. -/
theorem v50_eq (hz : val_main_v0 (F := Ideal) P = AZ Z) :
    val_main_v50 (F := Ideal) P (AZ DY) = A3 fun h d r => gout (Z h) (DY h) r d := by
  funext i
  idx_vars i
  pointwise [val_main_v50, val_main_v49, val_main_v47, val_main_v44_0, v44_eq Z P hz, hz, AZ_apply, A3_apply]
  have e1 : (i0.val * 128 + i1.val) / 128 = i0.val := by omega
  have e2 : (i0.val * 128 + i1.val) % 128 = i1.val := by omega
  rw [e1, e2]
  simp only [← EReal.coe_mul, gout]

/-- The gradient of the weights. -/
theorem v51_eq (hz : val_main_v0 (F := Ideal) P = AZ Z) :
    val_main_v51 (F := Ideal) (A3 V) P (AZ DY) = A3 fun h => dweight (V h) (Z h) (DY h) := by
  funext i
  idx_vars i
  pointwise [val_main_v51, v50_eq Z DY P hz, A3_apply]
  simp only [← EReal.coe_mul, coe_sum, dweight, Finset.sum_range]

/-- The gradient of `v`. -/
theorem v53_eq (hz : val_main_v0 (F := Ideal) P = AZ Z) :
    val_main_v53 (F := Ideal) (A3 Q) (A3 K) P (AZ DY) = A3 fun h => gradV (Q h) (K h) (V h) (Z h) (DY h) := by
  funext i
  idx_vars i
  pointwise [val_main_v53, val_main_v52, v50_eq Z DY P hz, v37_eq, A3_apply]
  simp only [← EReal.coe_mul, coe_sum, gradV, termV, Finset.sum_range]
  exact congrArg _ (Finset.sum_congr rfl fun x _ => by ring)

/-- The attention's output, the heads side by side. -/
theorem v43_eq : val_main_v43 (F := Ideal) (A3 Q) (A3 K) (A3 V)
    = AZ fun h r d => wsum (Q h) (K h) (V h) r d / den (Q h) (K h) r := by
  funext i
  idx_vars i
  pointwise [val_main_v43, val_main_v42, val_main_v41, v37_eq, A3_apply, AZ_apply]
  simp only [← EReal.coe_mul, coe_sum, wsum, Finset.sum_range, Finset.sum_div]
  exact congrArg _ (Finset.sum_congr rfl fun x _ => by ring)

/-- The gradient of the gate's output. -/
theorem v46_eq : val_main_v46 (F := Ideal) (A3 Q) (A3 K) (A3 V) (AZ DY)
    = AZ fun h => dgate (Q h) (K h) (V h) (DY h) := by
  funext i
  idx_vars i
  pointwise [val_main_v46, v43_eq, AZ_apply]
  simp only [← EReal.coe_mul, dgate]

/-- The gradient of the gate's input. -/
theorem v48_eq (hz : val_main_v0 (F := Ideal) P = AZ Z) :
    val_main_v48 (F := Ideal) (A3 Q) (A3 K) (A3 V) P (AZ DY) = AZ fun h => gradZ (Q h) (K h) (V h) (Z h) (DY h) := by
  funext i
  idx_vars i
  pointwise [val_main_v48, val_main_call3_v1, val_main_call3_v2, val_main_call3_v0, v46_eq, v44_eq Z P hz, v44_1_eq Z P hz, hz, AZ_apply]
  simp only [← EReal.coe_mul, ← EReal.coe_add, gradZ]

/-- Each row's correction: the mean of the weights' gradient, over the sum. -/
theorem v57_eq (hz : val_main_v0 (F := Ideal) P = AZ Z) :
    val_main_v57 (F := Ideal) (A3 Q) (A3 K) (A3 V) P (AZ DY)
      = A2 fun h r => rowDot (Q h) (K h) (V h) (Z h) (DY h) r / (den (Q h) (K h) r * den (Q h) (K h) r) := by
  funext i
  idx_vars i
  pointwise [val_main_v57, val_main_v56, val_main_v55, val_main_cst_11, v51_eq V Z DY P hz, v54_eq, v33_eq, A3_apply, A2_apply, zero_add]
  simp only [← EReal.coe_mul, coe_sum, rowDot_eq, Finset.sum_range, Finset.sum_div]
  exact congrArg _ (Finset.sum_congr rfl fun x _ => by ring)

/-- The gradient of the scores. -/
theorem v66_eq (hz : val_main_v0 (F := Ideal) P = AZ Z) :
    val_main_v66 (F := Ideal) (A3 Q) (A3 K) (A3 V) P (AZ DY)
      = A3 fun h => dscore (Q h) (K h) (V h) (Z h) (DY h) := by
  funext i
  idx_vars i
  pointwise [val_main_v66, val_main_v65, val_main_v64, val_main_v63, val_main_v62, val_main_v61, val_main_v60, val_main_v59,
    val_main_v58, val_main_v35, val_main_cst_12, val_main_call4_v0, val_main_call4_cst, mask_eq, v57_eq Q K V Z DY P hz, v51_eq V Z DY P hz,
    v33_eq, v34_eq, A3_apply, A2_apply, zero_add, Scalar.select_ofBool]
  rw [coe_div' _ (den_pos _ _ (Fin.isLt _)).ne']
  simp only [decide_eq_true_eq, Fin.sum_univ_one, ← EReal.coe_neg, ← EReal.coe_add, ← EReal.coe_mul]
  split
  · refine congrArg _ ?_
    unfold dscore
    ring
  · rename_i hl
    simp only [dscore, ex, if_neg hl, zero_mul, EReal.coe_zero]

/-- The gradient of `k`. -/
theorem v69_eq (hz : val_main_v0 (F := Ideal) P = AZ Z) :
    val_main_v69 (F := Ideal) (A3 Q) (A3 K) (A3 V) P (AZ DY)
      = A3 fun h => gradK (Q h) (K h) (V h) (Z h) (DY h) := by
  funext i
  idx_vars i
  pointwise [val_main_v69, val_main_v68, val_main_v67, val_main_cst_13, v66_eq Q K V Z DY P hz, A3_apply]
  simp only [Ideal.ofBits_def, ofBits_scale, ← EReal.coe_mul, coe_sum, gradK, termK, Finset.sum_range, Finset.sum_mul]
  exact congrArg _ (Finset.sum_congr rfl fun x _ => by ring)

/-- The gradient of `q`. -/
theorem v70_eq (hz : val_main_v0 (F := Ideal) P = AZ Z) :
    val_main_v70 (F := Ideal) (A3 Q) (A3 K) (A3 V) P (AZ DY)
      = A3 fun h => gradQ (Q h) (K h) (V h) (Z h) (DY h) := by
  funext i
  idx_vars i
  pointwise [val_main_v70, val_main_v68, val_main_v67, val_main_cst_13, v66_eq Q K V Z DY P hz, A3_apply]
  simp only [Ideal.ofBits_def, ofBits_scale, ← EReal.coe_mul, coe_sum, gradQ, Finset.sum_range, Finset.sum_mul]
  exact congrArg _ (Finset.sum_congr rfl fun x _ => by ring)

end Cert.ReferenceIdeal.Value

end
-- ==== Proof.RefWindow.lean ====
module

public import proofs.«01_k».proof.Proof.Gen.ReferenceIdeal.Read
public import proofs.«01_k».proof.Proof.Lift
public import proofs.«01_k».proof.Proof.RefGrad
@[expose] public section

set_option maxRecDepth 16384

noncomputable section

namespace Cert.ReferenceIdeal.Value

open Idealize.ShloMosaic Idealize.ShloMosaic.Tactic
open Cert.ReferenceIdeal Cert.ReferenceIdeal.Gen Cert.ReferenceIdeal.Read
open Cert.KernelIdeal.Body (score masked rowMax ex den wsum sg gout dweight rowDot dscore gradQ termK gradK termV gradV dgate gradZ scale live coe_rowMax den_pos rowDot_eq coe_sum coe_div' one_div' ofBits_scale ofBits_bot fold_max exp_masked)

/-! # The reference's fourth result: the gate's gradient in its columns of `dproj` -/

variable (Q K V Z DY : ℕ → ℕ → ℕ → ℝ) (P : (⟨S2048x10752, .f32⟩ : BufTy).Contents (Elt Ideal))
  (D : (⟨S2048x10752, .bf16⟩ : BufTy).Contents (Elt Ideal))

/-- In the columns 3840 to 4863 it holds the gradient of the gate's input; elsewhere it is `dproj`. -/
theorem v72_eq (hz : val_main_v0 (F := Ideal) P = AZ Z) :
    val_main_v72 (F := Ideal) (A3 Q) (A3 K) (A3 V) P (AZ DY) D = fun i : S2048x10752.Idx =>
      if 3840 ≤ (i 1).val ∧ (i 1).val < 4864 then
        ((gradZ (Q (((i 1).val - 3840) / 128)) (K (((i 1).val - 3840) / 128)) (V (((i 1).val - 3840) / 128))
          (Z (((i 1).val - 3840) / 128)) (DY (((i 1).val - 3840) / 128)) (i 0).val (((i 1).val - 3840) % 128) : ℝ) : EReal)
      else (D i : EReal) := by
  have e : val_main_v72 (F := Ideal) (A3 Q) (A3 K) (A3 V) P (AZ DY) D
      = updateSlice D (val_main_v71 (F := Ideal) (A3 Q) (A3 K) (A3 V) P (AZ DY)) ![0, 3840] slices_S2048x10752_S2048x1024_0_3840 :=
    WordCmp.dynamicUpdateSlice_eq_update _ _ _ _ _ _ fun a => by fin_cases a <;> rfl
  rw [e]
  funext i
  idx_vars i
  pointwise [val_main_v71, v48_eq Q K V Z DY P hz, AZ_apply]
  simp only [dite_eq_ite]

end Cert.ReferenceIdeal.Value

end
-- ==== Proof.ValA.lean ====
module

public import Idealize.ShloMosaic.Lib.WordCmp
public import Idealize.ShloMosaic.Lib.Pointwise
public import Idealize.ShloMosaic.Lib.ValueIdx
public import Idealize.ShloMosaic.PureOps.Ideal.Laws
public import proofs.«01_k».proof.Proof.TileRect

@[expose] public section

set_option maxRecDepth 16384

noncomputable section

namespace Cert.KernelIdeal.Body

open Idealize.ShloMosaic Idealize.ShloMosaic.Tactic
open Cert.KernelIdeal Cert.KernelIdeal.Gen

namespace CaseA

/-! ## The values of one point with no earlier keys -/

variable (q k v z dy : ℕ → ℕ → ℝ)

/-- The leading axis dropped. -/
theorem t11 (a b : ℕ) (f : ℕ → ℕ → ℝ) : k0_pay11 (F := Ideal) (T3 a b f) = T2 a b f := by
  funext j
  idx_vars j
  pointwise [k0_pay11, T2_apply, T3_apply, TE_apply, zero_add]

/-- The leading axis dropped. -/
theorem t12 (a b : ℕ) (f : ℕ → ℕ → ℝ) : k0_pay12 (F := Ideal) (T3 a b f) = T2 a b f := by
  funext j
  idx_vars j
  pointwise [k0_pay12, T2_apply, T3_apply, TE_apply, zero_add]

/-- The scaled queries. -/
theorem t13 (a b : ℕ) : k0_pay13 (F := Ideal) (T3 a b q) = T2 a b fun r d => q r d * scale := by
  funext j
  idx_vars j
  pointwise [k0_pay13, ofBits_scale, T2_apply, T3_apply, TE_apply, zero_add]
  rw [← EReal.coe_mul]

/-- The mask of the diagonal block. -/
theorem t14 (j0 j1 : Fin 512) : k0_pay14 (ix2 j0 j1) = IntOp.cmpi .sle (IntOp.shrsi .vector (BitVec.ofNat 32 j1.val) 6#32) (IntOp.shrsi .vector (BitVec.ofNat 32 j0.val) 6#32) := by
  pointwise [k0_pay14]

/-- The masked score of the diagonal block. -/
theorem masked_sum (r c : Fin 512) : (if c.val / 64 ≤ r.val / 64 then ((∑ d : Fin 192, q r.val d.val * scale * k c.val d.val : ℝ) : EReal) else ⊥) = masked q k r.val c.val := by
  simp only [masked, live, score, Finset.sum_range]

/-- The exponentials. -/
theorem t15 : k0_pay15 (F := Ideal) (T3 0 0 k) (T3 0 0 q) = (T2 0 0 (ex q k)) := by
  funext j
  idx_vars j
  pointwise [k0_pay15, t14, t13, t11, mask_bot, ofBits_bot, T2_apply, T3_apply, TE_apply, zero_add]
  simp only [← EReal.coe_mul, coe_sum, select_chunk, masked_sum]
  rw [fold_max _ (masked q k j0.val) (fun _ => rfl)]
  have hm := rowMax_split q k (n := 0) (r := j0.val) rfl (by decide) (by omega)
  simp only [zero_add, Finset.range_zero, Finset.sup_empty, bot_le, max_eq_left] at hm
  rw [← hm, exp_masked]

/-- The row sums. -/
theorem t16 : k0_pay16 (F := Ideal) (T3 0 0 k) (T3 0 0 q) = T2 0 0 fun r _ => den q k r := by
  funext j
  idx_vars j
  pointwise [k0_pay16, t15, T2_apply, T3_apply, TE_apply, zero_add]
  simp only [← EReal.coe_mul, ← EReal.coe_add, ← EReal.coe_sub, ← EReal.coe_neg, ← EReal.coe_zero, ← EReal.coe_one, coe_sum, Ideal.exp_coe]
  rw [den, sum_split (n := 0) (by decide) _ (fun c hc => ex_dead q k (n := 0) rfl (by omega) hc)]
  simp only [Finset.sum_range, zero_add, Finset.univ_eq_empty, Finset.sum_empty, add_zero]

/-- The weighted sums of the values. -/
theorem t17 : k0_pay17 (F := Ideal) (T3 0 0 k) (T3 0 0 v) (T3 0 0 q) = (T2 0 0 (wsum q k v)) := by
  funext j
  idx_vars j
  pointwise [k0_pay17, t15, t12, T2_apply, T3_apply, TE_apply, zero_add]
  simp only [← EReal.coe_mul, ← EReal.coe_add, ← EReal.coe_sub, ← EReal.coe_neg, ← EReal.coe_zero, ← EReal.coe_one, coe_sum, Ideal.exp_coe]
  rw [wsum, sum_split (n := 0) (by decide) _ (fun c hc => by rw [ex_dead q k (n := 0) rfl (by omega) hc, zero_mul])]
  simp only [Finset.sum_range, zero_add, Finset.univ_eq_empty, Finset.sum_empty, add_zero]

/-- One over the row sums. -/
theorem t18 : k0_pay18 (F := Ideal) (T3 0 0 k) (T3 0 0 q) = (T2 0 0 fun r _ => 1 / den q k r) := by
  funext j
  idx_vars j
  have hd : den q k j0.val ≠ 0 := (den_pos q k (by omega)).ne'
  pointwise [k0_pay18, t16, T2_apply, T3_apply, TE_apply, zero_add]
  exact one_div' hd

/-- One over the squared row sums. -/
theorem t19 : k0_pay19 (F := Ideal) (T3 0 0 k) (T3 0 0 q) = (T2 0 0 fun r _ => 1 / (den q k r * den q k r)) := by
  funext j
  idx_vars j
  have hd : den q k j0.val ≠ 0 := (den_pos q k (by omega)).ne'
  pointwise [k0_pay19, t16, T2_apply, T3_apply, TE_apply, zero_add]
  rw [← EReal.coe_mul, one_div' (mul_ne_zero hd hd)]

/-- The attention's output. -/
theorem t20 : k0_pay20 (F := Ideal) (T3 0 0 k) (T3 0 0 v) (T3 0 0 q) = (T2 0 0 fun r d => wsum q k v r d * (1 / den q k r)) := by
  funext j
  idx_vars j
  pointwise [k0_pay20, t17, t18, T2_apply, T3_apply, TE_apply, zero_add]
  rw [← EReal.coe_mul]

/-- The gate's exponential. -/
theorem t21 (a b : ℕ) : k0_pay21 (F := Ideal) (T2 a b z) (0 : EReal) = T2 a b fun r d => Real.exp (-z r d) := by
  funext j
  idx_vars j
  pointwise [k0_pay21, T2_apply, T3_apply, TE_apply, zero_add]
  rw [zero_sub, ← EReal.coe_neg, Ideal.exp_coe]

/-- The sigmoid's divisor. -/
theorem t22 (a b : ℕ) : k0_pay22 (F := Ideal) (T2 a b z) (0 : EReal) = T2 a b fun r d => 1 + Real.exp (-z r d) := by
  funext j
  idx_vars j
  pointwise [k0_pay22, t21, T2_apply, T3_apply, TE_apply, zero_add]
  rw [← EReal.coe_one, ← EReal.coe_add]

/-- The gate's sigmoid. -/
theorem t23 (a b : ℕ) : k0_pay23 (F := Ideal) (T2 a b z) (0 : EReal) = T2 a b (sg z) := by
  funext j
  idx_vars j
  pointwise [k0_pay23, t22, T2_apply, T3_apply, TE_apply, zero_add]
  exact one_div' (by positivity)

/-- The gradient of the attention's output. -/
theorem t24 (a b : ℕ) : k0_pay24 (F := Ideal) (T2 a b z) (0 : EReal) (T2 a b dy) = T2 a b (gout z dy) := by
  funext j
  idx_vars j
  pointwise [k0_pay24, t23, T2_apply, T3_apply, TE_apply, zero_add]
  simp only [← EReal.coe_mul]
  rw [gout]

/-- The gradient of the gate. -/
theorem t25 : k0_pay25 (F := Ideal) (T2 0 0 z) (T2 0 0 fun r d => wsum q k v r d * (1 / den q k r)) (0 : EReal) (T2 0 0 dy) = T2 0 0 (gradZ q k v z dy) := by
  funext j
  idx_vars j
  pointwise [k0_pay25, t21, t22, t23, T2_apply, T3_apply, TE_apply, zero_add]
  simp only [← EReal.coe_mul, zero_sub]
  rw [one_div' (by positivity)]
  simp only [← EReal.coe_mul, ← EReal.coe_neg, ← EReal.coe_add]
  rw [← gradZ_kernel, dgate, mul_one_div]

/-- The gradient of the attention's output over the row sums. -/
theorem t26 : k0_pay26 (F := Ideal) (T2 0 0 z) (T2 0 0 fun r _ => 1 / den q k r) (0 : EReal) (T2 0 0 dy) = T2 0 0 fun r d => gout z dy r d * (1 / den q k r) := by
  funext j
  idx_vars j
  pointwise [k0_pay26, t24, T2_apply, T3_apply, TE_apply, zero_add]
  rw [← EReal.coe_mul]

/-- The gradient of the values. -/
theorem t27 : k0_pay27 (F := Ideal) (T2 0 0 z) (T2 0 0 (ex q k)) (T2 0 0 fun r _ => 1 / den q k r) (0 : EReal) (T2 0 0 dy) = T2 0 0 (stepV q k v z dy 0) := by
  funext j
  idx_vars j
  pointwise [k0_pay27, t26, T2_apply, T3_apply, TE_apply, zero_add]
  simp only [← EReal.coe_mul, ← EReal.coe_add, ← EReal.coe_sub, ← EReal.coe_neg, ← EReal.coe_zero, ← EReal.coe_one, coe_sum, Ideal.exp_coe]
  simp only [stepV, termV, Finset.sum_range, zero_add, mul_one_div]

/-- The gradient of the scores. -/
theorem t28 : k0_pay28 (F := Ideal) (T2 0 0 v) (T2 0 0 z) (T2 0 0 (ex q k)) (T2 0 0 (wsum q k v)) (T2 0 0 fun r _ => 1 / den q k r) (T2 0 0 fun r _ => 1 / (den q k r * den q k r)) (0 : EReal) (T2 0 0 dy) = T2 0 0 (dscore q k v z dy) := by
  funext j
  idx_vars j
  pointwise [k0_pay28, t24, t26, T2_apply, T3_apply, TE_apply, zero_add]
  simp only [← EReal.coe_mul, coe_sum, zero_sub, ← EReal.coe_neg, ← EReal.coe_add]
  rw [dscore_kernel]
  simp only [rowDot, Finset.sum_range, zero_add, Fin.sum_univ_one, mul_one]

/-- The mask leaves the gradient of the scores as it is. -/
theorem t3 : k0_pay3 (F := Ideal) k0_pay14 (T2 0 0 (dscore q k v z dy)) = T2 0 0 (dscore q k v z dy) := by
  funext j
  idx_vars j
  pointwise [k0_pay3, t14, T2_apply, T3_apply, TE_apply, zero_add]
  rw [select_chunk]
  split
  · rfl
  · rename_i h
    rw [dscore, ex, if_neg (show ¬ live j0.val j1.val from h), zero_mul, EReal.coe_zero]

/-- The gradient of the queries. -/
theorem t4 : k0_pay4 (F := Ideal) (T2 0 0 k) k0_pay14 (T2 0 0 (dscore q k v z dy)) = T3 0 0 (gradQ q k v z dy) := by
  funext j
  idx_vars j
  pointwise [k0_pay4, t3, ofBits_scale, T2_apply, T3_apply, TE_apply, zero_add]
  simp only [← EReal.coe_mul, ← EReal.coe_add, ← EReal.coe_sub, ← EReal.coe_neg, ← EReal.coe_zero, ← EReal.coe_one, coe_sum, Ideal.exp_coe]
  rw [gradQ, sum_split (n := 0) (by decide) _ (fun c hc => by rw [dscore_dead q k v z dy (n := 0) rfl (by omega) hc, zero_mul])]
  simp only [Finset.sum_range, zero_add, Finset.univ_eq_empty, Finset.sum_empty, add_zero]

/-- The cast of the gate's gradient. -/
theorem t5 (a b : ℕ) (f : ℕ → ℕ → ℝ) : k0_pay5 (F := Ideal) (T2 a b f) = T2 a b f := by
  funext j
  idx_vars j
  pointwise [k0_pay5, T2_apply, T3_apply, TE_apply, zero_add]

/-- The gradient of the keys put on top of what was there. -/
theorem t6 (f : ℕ → ℕ → ℝ) : k0_pay6 (F := Ideal) (T2 0 0 fun r d => q r d * scale) k0_pay14 (T2 0 0 (dscore q k v z dy)) (T3 0 0 f) = T3 0 0 fun c d => f c d + stepK q k v z dy 0 c d := by
  funext j
  idx_vars j
  pointwise [k0_pay6, t3, T2_apply, T3_apply, TE_apply, zero_add]
  simp only [← EReal.coe_mul, ← EReal.coe_add, ← EReal.coe_sub, ← EReal.coe_neg, ← EReal.coe_zero, ← EReal.coe_one, coe_sum, Ideal.exp_coe]
  simp only [stepK, termK, Finset.sum_range, Finset.sum_mul, zero_add, mul_assoc]

/-- The gradient of the values put on top of what was there. -/
theorem t7 (f : ℕ → ℕ → ℝ) : k0_pay7 (F := Ideal) (T2 0 0 (stepV q k v z dy 0)) (T3 0 0 f) = T3 0 0 fun c d => f c d + stepV q k v z dy 0 c d := by
  funext j
  idx_vars j
  pointwise [k0_pay7, T2_apply, T3_apply, TE_apply, zero_add]
  rw [← EReal.coe_add]

/-- The point's gradient of the gate. -/
theorem dz_eq : dz (F := Ideal) (T3 0 0 k) (T3 0 0 v) (T3 0 0 q) (T2 0 0 z) (T2 0 0 dy) = T2 0 0 (gradZ q k v z dy) := by
  simp only [dz, Ideal.ofBits_def, Ideal.ofBits_zero_f32, e, o, rinv, rinv2, on, ds, t11, t12, t13, t15, t17, t18, t19, t20, t28, t25, t5]

/-- The point's gradient of the queries. -/
theorem dq_eq : dq (F := Ideal) (T3 0 0 k) (T3 0 0 v) (T3 0 0 q) (T2 0 0 z) (T2 0 0 dy) = T3 0 0 (gradQ q k v z dy) := by
  simp only [dq, Ideal.ofBits_def, Ideal.ofBits_zero_f32, e, o, rinv, rinv2, on, ds, t11, t12, t13, t15, t17, t18, t19, t20, t28, t4]

/-- The point's gradient of the keys. -/
theorem dkd_eq (f : ℕ → ℕ → ℝ) : dkd (F := Ideal) (T3 0 0 k) (T3 0 0 v) (T3 0 0 q) (T2 0 0 z) (T2 0 0 dy) (T3 0 0 f) = T3 0 0 fun c d => f c d + stepK q k v z dy 0 c d := by
  simp only [dkd, Ideal.ofBits_def, Ideal.ofBits_zero_f32, e, o, rinv, rinv2, on, ds, t11, t12, t13, t15, t17, t18, t19, t20, t28, t6]

/-- The point's gradient of the values. -/
theorem dvd_eq (f : ℕ → ℕ → ℝ) : dvd (F := Ideal) (T3 0 0 k) (T3 0 0 v) (T3 0 0 q) (T2 0 0 z) (T2 0 0 dy) (T3 0 0 f) = T3 0 0 fun c d => f c d + stepV q k v z dy 0 c d := by
  simp only [dvd, Ideal.ofBits_def, Ideal.ofBits_zero_f32, e, o, rinv, rinv2, on, ds, t11, t12, t13, t15, t17, t18, t19, t20, t28, t27 q k v z dy, t7]

end CaseA

variable (q k v z dy : ℕ → ℕ → ℝ)

/-- What the point writes to the gradient of the queries. -/
theorem outDqA_eq : outDqA (F := Ideal) (T3 0 0 q) (T3 0 0 k) (T3 0 0 v) (T2 0 0 z) (T2 0 0 dy) = T3 0 0 (gradQ q k v z dy) := by
  unfold outDqA
  erw [ld_T3, ld_T3]
  exact CaseA.dq_eq q k v z dy

/-- What the point writes to the gradient of the gate. -/
theorem outDzA_eq : outDzA (F := Ideal) (T3 0 0 q) (T3 0 0 k) (T3 0 0 v) (T2 0 0 z) (T2 0 0 dy) = T2 0 0 (gradZ q k v z dy) := by
  unfold outDzA
  erw [ld_T3, ld_T3]
  exact CaseA.dz_eq q k v z dy

/-- What the point leaves in the gradient of the keys. -/
theorem outDkA_eq : outDkA (F := Ideal) (T3 0 0 q) (T3 0 0 k) (T3 0 0 v) (T2 0 0 z) (T2 0 0 dy) = T3 0 0 (stepK q k v z dy 0) := by
  unfold outDkA
  rw [pay1_eq]
  erw [ld_T3, ld_T3, ld_T3, CaseA.dkd_eq q k v z dy (fun _ _ => 0)]
  erw [overlay_T3]
  congr 1
  funext c d
  split
  · exact zero_add _
  · rw [stepK_dead q k v z dy d (n := 0) rfl (by omega)]

/-- What the point leaves in the gradient of the values. -/
theorem outDvA_eq : outDvA (F := Ideal) (T3 0 0 q) (T3 0 0 k) (T3 0 0 v) (T2 0 0 z) (T2 0 0 dy) = T3 0 0 (stepV q k v z dy 0) := by
  unfold outDvA
  rw [pay2_eq]
  erw [ld_T3, ld_T3, ld_T3, CaseA.dvd_eq q k v z dy (fun _ _ => 0)]
  erw [overlay_T3]
  congr 1
  funext c d
  split
  · exact zero_add _
  · rw [stepV_dead q k v z dy d (n := 0) rfl (by omega)]

end Cert.KernelIdeal.Body

end
-- ==== Proof.ValB.lean ====
module

public import Idealize.ShloMosaic.Lib.WordCmp
public import Idealize.ShloMosaic.Lib.Pointwise
public import Idealize.ShloMosaic.Lib.ValueIdx
public import Idealize.ShloMosaic.PureOps.Ideal.Laws
public import proofs.«01_k».proof.Proof.TileRect

@[expose] public section

set_option maxRecDepth 16384

noncomputable section

namespace Cert.KernelIdeal.Body

open Idealize.ShloMosaic Idealize.ShloMosaic.Tactic
open Cert.KernelIdeal Cert.KernelIdeal.Gen

namespace CaseB

/-! ## The values of one point with 512 earlier keys -/

variable (q k v z dy : ℕ → ℕ → ℝ)

/-- The leading axis dropped. -/
theorem t29 (a b : ℕ) (f : ℕ → ℕ → ℝ) : k0_pay29 (F := Ideal) (T3 a b f) = T2 a b f := by
  funext j
  idx_vars j
  pointwise [k0_pay29, T2_apply, T3_apply, TE_apply, zero_add]

/-- The leading axis dropped. -/
theorem t30 (a b : ℕ) (f : ℕ → ℕ → ℝ) : k0_pay30 (F := Ideal) (T3 a b f) = T2 a b f := by
  funext j
  idx_vars j
  pointwise [k0_pay30, T2_apply, T3_apply, TE_apply, zero_add]

/-- The leading axis dropped. -/
theorem t31 (a b : ℕ) (f : ℕ → ℕ → ℝ) : k0_pay31 (F := Ideal) (T3 a b f) = T2 a b f := by
  funext j
  idx_vars j
  pointwise [k0_pay31, T2_apply, T3_apply, TE_apply, zero_add]

/-- The leading axis dropped. -/
theorem t32 (a b : ℕ) (f : ℕ → ℕ → ℝ) : k0_pay32 (F := Ideal) (T3 a b f) = T2 a b f := by
  funext j
  idx_vars j
  pointwise [k0_pay32, T2_apply, T3_apply, TE_apply, zero_add]

/-- The scaled queries. -/
theorem t33 (a b : ℕ) : k0_pay33 (F := Ideal) (T3 a b q) = T2 a b fun r d => q r d * scale := by
  funext j
  idx_vars j
  pointwise [k0_pay33, ofBits_scale, T2_apply, T3_apply, TE_apply, zero_add]
  rw [← EReal.coe_mul]

/-- The scores against the earlier keys. -/
theorem t36 : k0_pay36 (F := Ideal) (T3 0 0 k) (T3 512 0 q) = T2 512 0 (score q k) := by
  funext j
  idx_vars j
  pointwise [k0_pay36, t33, t29, T2_apply, T3_apply, TE_apply, zero_add]
  simp only [← EReal.coe_mul, ← EReal.coe_add, ← EReal.coe_sub, ← EReal.coe_neg, ← EReal.coe_zero, ← EReal.coe_one, coe_sum, Ideal.exp_coe]
  simp only [score, Finset.sum_range, zero_add]

/-- The mask of the diagonal block. -/
theorem t34 (j0 j1 : Fin 512) : k0_pay34 (ix2 j0 j1) = IntOp.cmpi .sle (IntOp.shrsi .vector (BitVec.ofNat 32 j1.val) 6#32) (IntOp.shrsi .vector (BitVec.ofNat 32 j0.val) 6#32) := by
  pointwise [k0_pay34]

/-- The masked scores of the diagonal block. -/
theorem t35 : k0_pay35 (F := Ideal) (T3 512 0 k) (T3 512 0 q) = TE 512 512 (masked q k) := by
  funext j
  idx_vars j
  pointwise [k0_pay35, t34, t33, t31, mask_bot, T2_apply, T3_apply, TE_apply, zero_add]
  simp only [← EReal.coe_mul, coe_sum]
  rw [select_chunk, masked]
  simp only [live_add 512 _ _ rfl, score, Finset.sum_range, zero_add]

/-- The row maxima. -/
theorem t37 : k0_pay37 (F := Ideal) (T3 0 0 k) (T3 512 0 k) (T3 512 0 q) = (T2 512 0 fun r _ => rowMax q k r) := by
  funext j
  idx_vars j
  pointwise [k0_pay37, t35, t36, ofBits_bot, T2_apply, T3_apply, TE_apply, zero_add]
  rw [rowMax_split q k (n := 512) rfl (by decide) (by omega), fold_max _ (fun c => masked q k (512 + j0.val) (512 + c)) (fun _ => rfl), fold_max _ (masked q k (512 + j0.val)) (fun x => (masked_live (live_of_le (by omega))).symm)]

/-- The masked scores less the row maxima. -/
theorem t38 : k0_pay38 (F := Ideal) (T3 0 0 k) (T3 512 0 k) (T3 512 0 q) = (TE 512 512 fun r c => masked q k r c - ((rowMax q k r : ℝ) : EReal)) := by
  funext j
  idx_vars j
  pointwise [k0_pay38, t35, t37, T2_apply, T3_apply, TE_apply, zero_add]

/-- The exponentials of the diagonal block. -/
theorem t39 : k0_pay39 (F := Ideal) (TE 512 512 fun r c => masked q k r c - ((rowMax q k r : ℝ) : EReal)) = T2 512 512 (ex q k) := by
  funext j
  idx_vars j
  pointwise [k0_pay39, T2_apply, T3_apply, TE_apply, zero_add]
  exact exp_masked q k _ _

/-- The exponentials of the earlier blocks. -/
theorem t40 : k0_pay40 (F := Ideal) (T2 512 0 (score q k)) (T2 512 0 fun r _ => rowMax q k r) = T2 512 0 (ex q k) := by
  funext j
  idx_vars j
  pointwise [k0_pay40, T2_apply, T3_apply, TE_apply, zero_add]
  simp only [← EReal.coe_mul, ← EReal.coe_add, ← EReal.coe_sub, ← EReal.coe_neg, ← EReal.coe_zero, ← EReal.coe_one, coe_sum, Ideal.exp_coe]
  rw [ex, if_pos (live_of_le (by omega))]

/-- The row sums. -/
theorem t41 : k0_pay41 (F := Ideal) (T2 512 0 (score q k)) (T2 512 0 fun r _ => rowMax q k r) (TE 512 512 fun r c => masked q k r c - ((rowMax q k r : ℝ) : EReal)) = T2 512 0 fun r _ => den q k r := by
  funext j
  idx_vars j
  pointwise [k0_pay41, t39, t40, T2_apply, T3_apply, TE_apply, zero_add]
  simp only [← EReal.coe_mul, ← EReal.coe_add, ← EReal.coe_sub, ← EReal.coe_neg, ← EReal.coe_zero, ← EReal.coe_one, coe_sum, Ideal.exp_coe]
  rw [den, sum_split (n := 512) (by decide) _ (fun c hc => ex_dead q k (n := 512) rfl (by omega) hc)]
  simp only [Finset.sum_range, zero_add]

/-- The weighted sums of the values. -/
theorem t42 : k0_pay42 (F := Ideal) (T2 0 0 v) (T2 512 0 v) (T2 512 0 (score q k)) (T2 512 0 fun r _ => rowMax q k r) (TE 512 512 fun r c => masked q k r c - ((rowMax q k r : ℝ) : EReal)) = T2 512 0 (wsum q k v) := by
  funext j
  idx_vars j
  pointwise [k0_pay42, t39, t40, T2_apply, T3_apply, TE_apply, zero_add]
  simp only [← EReal.coe_mul, ← EReal.coe_add, ← EReal.coe_sub, ← EReal.coe_neg, ← EReal.coe_zero, ← EReal.coe_one, coe_sum, Ideal.exp_coe]
  rw [wsum, sum_split (n := 512) (by decide) _ (fun c hc => by rw [ex_dead q k (n := 512) rfl (by omega) hc, zero_mul])]
  simp only [Finset.sum_range, zero_add]

/-- One over the row sums. -/
theorem t43 : k0_pay43 (F := Ideal) (T2 512 0 (score q k)) (T2 512 0 fun r _ => rowMax q k r) (TE 512 512 fun r c => masked q k r c - ((rowMax q k r : ℝ) : EReal)) = (T2 512 0 fun r _ => 1 / den q k r) := by
  funext j
  idx_vars j
  have hd : den q k (512 + j0.val) ≠ 0 := (den_pos q k (by omega)).ne'
  pointwise [k0_pay43, t41, T2_apply, T3_apply, TE_apply, zero_add]
  exact one_div' hd

/-- One over the squared row sums. -/
theorem t44 : k0_pay44 (F := Ideal) (T2 512 0 (score q k)) (T2 512 0 fun r _ => rowMax q k r) (TE 512 512 fun r c => masked q k r c - ((rowMax q k r : ℝ) : EReal)) = (T2 512 0 fun r _ => 1 / (den q k r * den q k r)) := by
  funext j
  idx_vars j
  have hd : den q k (512 + j0.val) ≠ 0 := (den_pos q k (by omega)).ne'
  pointwise [k0_pay44, t41, T2_apply, T3_apply, TE_apply, zero_add]
  rw [← EReal.coe_mul, one_div' (mul_ne_zero hd hd)]

/-- The gate's exponential. -/
theorem t45 (a b : ℕ) : k0_pay45 (F := Ideal) (T2 a b z) = T2 a b fun r d => Real.exp (-z r d) := by
  funext j
  idx_vars j
  pointwise [k0_pay45, T2_apply, T3_apply, TE_apply, zero_add]
  rw [zero_sub, ← EReal.coe_neg, Ideal.exp_coe]

/-- The sigmoid's divisor. -/
theorem t46 (a b : ℕ) : k0_pay46 (F := Ideal) (T2 a b z) = T2 a b fun r d => 1 + Real.exp (-z r d) := by
  funext j
  idx_vars j
  pointwise [k0_pay46, t45, T2_apply, T3_apply, TE_apply, zero_add]
  rw [← EReal.coe_one, ← EReal.coe_add]

/-- The gate's sigmoid. -/
theorem t47 (a b : ℕ) : k0_pay47 (F := Ideal) (T2 a b z) = T2 a b (sg z) := by
  funext j
  idx_vars j
  pointwise [k0_pay47, t46, T2_apply, T3_apply, TE_apply, zero_add]
  exact one_div' (by positivity)

/-- The attention's output times the incoming gradient. -/
theorem t48 : k0_pay48 (F := Ideal) (T2 0 0 v) (T2 512 0 v) (T2 512 0 (score q k)) (T2 512 0 fun r _ => rowMax q k r) (TE 512 512 fun r c => masked q k r c - ((rowMax q k r : ℝ) : EReal)) (T2 512 0 dy) = T2 512 0 (dgate q k v dy) := by
  funext j
  idx_vars j
  pointwise [k0_pay48, t42, t43, T2_apply, T3_apply, TE_apply, zero_add]
  simp only [← EReal.coe_mul]
  rw [dgate, mul_one_div]

/-- The gradient of the attention's output. -/
theorem t49 (a b : ℕ) : k0_pay49 (F := Ideal) (T2 a b z) (T2 a b dy) = T2 a b (gout z dy) := by
  funext j
  idx_vars j
  pointwise [k0_pay49, t47, T2_apply, T3_apply, TE_apply, zero_add]
  simp only [← EReal.coe_mul]
  rw [gout]

/-- The first part of the gate's gradient. -/
theorem t50 : k0_pay50 (F := Ideal) (T2 0 0 v) (T2 512 0 v) (T2 512 0 z) (T2 512 0 (score q k)) (T2 512 0 fun r _ => rowMax q k r) (TE 512 512 fun r c => masked q k r c - ((rowMax q k r : ℝ) : EReal)) (T2 512 0 dy) = T2 512 0 fun r d => dgate q k v dy r d * sg z r d := by
  funext j
  idx_vars j
  pointwise [k0_pay50, t47, t48, T2_apply, T3_apply, TE_apply, zero_add]
  rw [← EReal.coe_mul]

/-- The second part of the gate's gradient, negated. -/
theorem t51 : k0_pay51 (F := Ideal) (T2 0 0 v) (T2 512 0 v) (T2 512 0 z) (T2 512 0 (score q k)) (T2 512 0 fun r _ => rowMax q k r) (TE 512 512 fun r c => masked q k r c - ((rowMax q k r : ℝ) : EReal)) (T2 512 0 dy) = T2 512 0 fun r d => -(z r d * dgate q k v dy r d * (1 / ((1 + Real.exp (-z r d)) * (1 + Real.exp (-z r d))))) * Real.exp (-z r d) := by
  funext j
  idx_vars j
  pointwise [k0_pay51, t45, t46, t48, T2_apply, T3_apply, TE_apply, zero_add]
  simp only [← EReal.coe_mul]
  rw [one_div' (by positivity)]
  simp only [← EReal.coe_mul, zero_sub, ← EReal.coe_neg]

/-- The gradient of the gate. -/
theorem t52 : k0_pay52 (F := Ideal) (T2 512 0 fun r d => dgate q k v dy r d * sg z r d) (T2 512 0 fun r d => -(z r d * dgate q k v dy r d * (1 / ((1 + Real.exp (-z r d)) * (1 + Real.exp (-z r d))))) * Real.exp (-z r d)) (FloatOps.ofBits .f32 0x00000000#32) = T2 512 0 (gradZ q k v z dy) := by
  funext j
  idx_vars j
  pointwise [k0_pay52, T2_apply, T3_apply, TE_apply, zero_add]
  rw [zero_sub, ← EReal.coe_neg, ← EReal.coe_add, gradZ_kernel]

/-- The gradient of the attention's output over the row sums. -/
theorem t53 : k0_pay53 (F := Ideal) (T2 512 0 fun r _ => 1 / den q k r) (T2 512 0 (gout z dy)) = T2 512 0 fun r d => gout z dy r d * (1 / den q k r) := by
  funext j
  idx_vars j
  pointwise [k0_pay53, T2_apply, T3_apply, TE_apply, zero_add]
  rw [← EReal.coe_mul]

/-- The rows' corrections. -/
theorem t54 : k0_pay54 (F := Ideal) (T2 512 0 (wsum q k v)) (T2 512 0 fun r _ => 1 / (den q k r * den q k r)) (T2 512 0 (gout z dy)) = T2 512 0 fun r _ => -(rowDot q k v z dy r * (1 / (den q k r * den q k r))) := by
  funext j
  idx_vars j
  pointwise [k0_pay54, T2_apply, T3_apply, TE_apply, zero_add]
  simp only [← EReal.coe_mul, coe_sum, mul_one, zero_sub, ← EReal.coe_neg]
  simp only [rowDot, Finset.sum_range, zero_add]

/-- The earlier keys' share of the values' gradient. -/
theorem t55 : k0_pay55 (F := Ideal) (T2 512 0 (ex q k)) (T2 512 0 fun r _ => 1 / den q k r) (T2 512 0 (gout z dy)) = T2 0 0 (stepV q k v z dy 512) := by
  funext j
  idx_vars j
  pointwise [k0_pay55, t53, T2_apply, T3_apply, TE_apply, zero_add]
  simp only [← EReal.coe_mul, ← EReal.coe_add, ← EReal.coe_sub, ← EReal.coe_neg, ← EReal.coe_zero, ← EReal.coe_one, coe_sum, Ideal.exp_coe]
  simp only [stepV, termV, Finset.sum_range, zero_add, mul_one_div]

/-- The diagonal keys' share of the values' gradient. -/
theorem t57 : k0_pay57 (F := Ideal) (T2 512 512 (ex q k)) (T2 512 0 fun r _ => 1 / den q k r) (T2 512 0 (gout z dy)) = T2 512 0 (stepV q k v z dy 512) := by
  funext j
  idx_vars j
  pointwise [k0_pay57, t53, T2_apply, T3_apply, TE_apply, zero_add]
  simp only [← EReal.coe_mul, ← EReal.coe_add, ← EReal.coe_sub, ← EReal.coe_neg, ← EReal.coe_zero, ← EReal.coe_one, coe_sum, Ideal.exp_coe]
  simp only [stepV, termV, Finset.sum_range, zero_add, mul_one_div]

/-- The gradient of the scores against the earlier keys. -/
theorem t56 : k0_pay56 (F := Ideal) (T2 0 0 v) (T2 512 0 (ex q k)) (T2 512 0 (wsum q k v)) (T2 512 0 fun r _ => 1 / den q k r) (T2 512 0 fun r _ => 1 / (den q k r * den q k r)) (T2 512 0 (gout z dy)) = T2 512 0 (dscore q k v z dy) := by
  funext j
  idx_vars j
  pointwise [k0_pay56, t53, t54, T2_apply, T3_apply, TE_apply, zero_add]
  simp only [← EReal.coe_mul, ← EReal.coe_add, ← EReal.coe_sub, ← EReal.coe_neg, ← EReal.coe_zero, ← EReal.coe_one, coe_sum, Ideal.exp_coe]
  rw [dscore_kernel]
  simp only [Finset.sum_range, zero_add, Fin.sum_univ_one]

/-- The gradient of the diagonal scores. -/
theorem t60 : k0_pay60 (F := Ideal) (T2 512 0 v) k0_pay34 (T2 512 512 (ex q k)) (T2 512 0 (wsum q k v)) (T2 512 0 fun r _ => 1 / den q k r) (T2 512 0 fun r _ => 1 / (den q k r * den q k r)) (T2 512 0 (gout z dy)) = T2 512 512 (dscore q k v z dy) := by
  funext j
  idx_vars j
  pointwise [k0_pay60, t34, t53, t54, T2_apply, T3_apply, TE_apply, zero_add]
  simp only [← EReal.coe_mul, ← EReal.coe_add, ← EReal.coe_sub, ← EReal.coe_neg, ← EReal.coe_zero, ← EReal.coe_one, coe_sum, Ideal.exp_coe]
  rw [select_chunk]
  split
  · rw [dscore_kernel]
    simp only [Finset.sum_range, zero_add, Fin.sum_univ_one]
  · rename_i h
    rw [dscore, ex, if_neg (fun h' => h ((live_add 512 _ _ rfl).1 h')), zero_mul]

/-- The earlier keys' share of the queries' gradient. -/
theorem t58 : k0_pay58 (F := Ideal) (T2 0 0 k) (T2 0 0 v) (T2 512 0 (ex q k)) (T2 512 0 (wsum q k v)) (T2 512 0 fun r _ => 1 / den q k r) (T2 512 0 fun r _ => 1 / (den q k r * den q k r)) (T2 512 0 (gout z dy)) = T2 512 0 fun r d => ∑ c ∈ Finset.range 512, dscore q k v z dy r c * k c d := by
  funext j
  idx_vars j
  pointwise [k0_pay58, t56, T2_apply, T3_apply, TE_apply, zero_add]
  simp only [← EReal.coe_mul, ← EReal.coe_add, ← EReal.coe_sub, ← EReal.coe_neg, ← EReal.coe_zero, ← EReal.coe_one, coe_sum, Ideal.exp_coe]
  simp only [Finset.sum_range, zero_add]

/-- The diagonal keys' share of the queries' gradient. -/
theorem t61 : k0_pay61 (F := Ideal) (T2 512 0 k) (T2 512 0 v) k0_pay34 (T2 512 512 (ex q k)) (T2 512 0 (wsum q k v)) (T2 512 0 fun r _ => 1 / den q k r) (T2 512 0 fun r _ => 1 / (den q k r * den q k r)) (T2 512 0 (gout z dy)) = T2 512 0 fun r d => ∑ c ∈ Finset.range 512, dscore q k v z dy r (512 + c) * k (512 + c) d := by
  funext j
  idx_vars j
  pointwise [k0_pay61, t60, T2_apply, T3_apply, TE_apply, zero_add]
  simp only [← EReal.coe_mul, ← EReal.coe_add, ← EReal.coe_sub, ← EReal.coe_neg, ← EReal.coe_zero, ← EReal.coe_one, coe_sum, Ideal.exp_coe]
  simp only [Finset.sum_range, zero_add]

/-- The earlier keys' gradient. -/
theorem t59 : k0_pay59 (F := Ideal) (T2 0 0 v) (T2 512 0 fun r d => q r d * scale) (T2 512 0 (ex q k)) (T2 512 0 (wsum q k v)) (T2 512 0 fun r _ => 1 / den q k r) (T2 512 0 fun r _ => 1 / (den q k r * den q k r)) (T2 512 0 (gout z dy)) = T2 0 0 (stepK q k v z dy 512) := by
  funext j
  idx_vars j
  pointwise [k0_pay59, t56, T2_apply, T3_apply, TE_apply, zero_add]
  simp only [← EReal.coe_mul, ← EReal.coe_add, ← EReal.coe_sub, ← EReal.coe_neg, ← EReal.coe_zero, ← EReal.coe_one, coe_sum, Ideal.exp_coe]
  simp only [stepK, termK, Finset.sum_range, Finset.sum_mul, zero_add, mul_assoc]

/-- The gradient of the diagonal scores, cast. -/
theorem t62 : k0_pay62 (F := Ideal) (T2 512 0 v) k0_pay34 (T2 512 512 (ex q k)) (T2 512 0 (wsum q k v)) (T2 512 0 fun r _ => 1 / den q k r) (T2 512 0 fun r _ => 1 / (den q k r * den q k r)) (T2 512 0 (gout z dy)) = T2 512 512 (dscore q k v z dy) := by
  funext j
  idx_vars j
  pointwise [k0_pay62, t60, T2_apply, T3_apply, TE_apply, zero_add]

/-- The gradient of the queries. -/
theorem t63 : k0_pay63 (F := Ideal) (T2 512 0 fun r d => ∑ c ∈ Finset.range 512, dscore q k v z dy r c * k c d) (T2 512 0 fun r d => ∑ c ∈ Finset.range 512, dscore q k v z dy r (512 + c) * k (512 + c) d) = T3 512 0 (gradQ q k v z dy) := by
  funext j
  idx_vars j
  pointwise [k0_pay63, ofBits_scale, T2_apply, T3_apply, TE_apply, zero_add]
  simp only [← EReal.coe_mul, ← EReal.coe_add, ← EReal.coe_sub, ← EReal.coe_neg, ← EReal.coe_zero, ← EReal.coe_one, coe_sum, Ideal.exp_coe]
  rw [gradQ, sum_split (n := 512) (by decide) _ (fun c hc => by rw [dscore_dead q k v z dy (n := 512) rfl (by omega) hc, zero_mul]), add_comm]

/-- The cast of the gate's gradient. -/
theorem t64 (a b : ℕ) (f : ℕ → ℕ → ℝ) : k0_pay64 (F := Ideal) (T2 a b f) = T2 a b f := by
  funext j
  idx_vars j
  pointwise [k0_pay64, T2_apply, T3_apply, TE_apply, zero_add]

/-- The diagonal keys' gradient put on top of what was there. -/
theorem t65 (f : ℕ → ℕ → ℝ) : k0_pay65 (F := Ideal) (T2 512 0 fun r d => q r d * scale) (T2 512 512 (dscore q k v z dy)) (T3 512 0 f) = T3 512 0 fun c d => f c d + stepK q k v z dy 512 c d := by
  funext j
  idx_vars j
  pointwise [k0_pay65, T2_apply, T3_apply, TE_apply, zero_add]
  simp only [← EReal.coe_mul, ← EReal.coe_add, ← EReal.coe_sub, ← EReal.coe_neg, ← EReal.coe_zero, ← EReal.coe_one, coe_sum, Ideal.exp_coe]
  simp only [stepK, termK, Finset.sum_range, Finset.sum_mul, zero_add, mul_assoc]

/-- The diagonal values' gradient put on top of what was there. -/
theorem t66 (f : ℕ → ℕ → ℝ) : k0_pay66 (F := Ideal) (T2 512 0 (stepV q k v z dy 512)) (T3 512 0 f) = T3 512 0 fun c d => f c d + stepV q k v z dy 512 c d := by
  funext j
  idx_vars j
  pointwise [k0_pay66, T2_apply, T3_apply, TE_apply, zero_add]
  rw [← EReal.coe_add]

/-- The earlier keys' gradient put on top of what was there. -/
theorem t67 (f : ℕ → ℕ → ℝ) : k0_pay67 (F := Ideal) (T2 0 0 (stepK q k v z dy 512)) (T3 0 0 f) = T3 0 0 fun c d => f c d + stepK q k v z dy 512 c d := by
  funext j
  idx_vars j
  pointwise [k0_pay67, T2_apply, T3_apply, TE_apply, zero_add]
  rw [← EReal.coe_add]

/-- The earlier values' gradient put on top of what was there. -/
theorem t8 (f : ℕ → ℕ → ℝ) : k0_pay8 (F := Ideal) (T2 0 0 (stepV q k v z dy 512)) (T3 0 0 f) = T3 0 0 fun c d => f c d + stepV q k v z dy 512 c d := by
  funext j
  idx_vars j
  pointwise [k0_pay8, T2_apply, T3_apply, TE_apply, zero_add]
  rw [← EReal.coe_add]

/-- The point's gradient of the gate. -/
theorem dz_eq : dz (F := Ideal) (T3 0 0 k) (T3 0 0 v) (T3 512 0 k) (T3 512 0 v) (T3 512 0 q) (T2 512 0 z) (T2 512 0 dy) = T2 512 0 (gradZ q k v z dy) := by
  simp only [dz, sp, mx, td, ed, ep, o, rinv, rinv2, g, t29, t30, t31, t32, t33, t36, t37, t38, t39, t40, t42, t43, t44, t49, t50, t51, t52, t64]

/-- The point's gradient of the queries. -/
theorem dq_eq : dq (F := Ideal) (T3 0 0 k) (T3 0 0 v) (T3 512 0 k) (T3 512 0 v) (T3 512 0 q) (T2 512 0 z) (T2 512 0 dy) = T3 512 0 (gradQ q k v z dy) := by
  simp only [dq, sp, mx, td, ed, ep, o, rinv, rinv2, g, t29, t30, t31, t32, t33, t36, t37, t38, t39, t40, t42, t43, t44, t49, t58, t61, t63]

/-- The point's gradient of the diagonal keys. -/
theorem dkd_eq (f : ℕ → ℕ → ℝ) : dkd (F := Ideal) (T3 0 0 k) (T3 0 0 v) (T3 512 0 k) (T3 512 0 v) (T3 512 0 q) (T2 512 0 z) (T2 512 0 dy) (T3 512 0 f) = T3 512 0 fun c d => f c d + stepK q k v z dy 512 c d := by
  simp only [dkd, sp, mx, td, ed, ep, o, rinv, rinv2, g, t29, t30, t31, t32, t33, t36, t37, t38, t39, t40, t42, t43, t44, t49, t62, t65]

/-- The point's gradient of the diagonal values. -/
theorem dvd_eq (f : ℕ → ℕ → ℝ) : dvd (F := Ideal) (T3 0 0 k) (T3 0 0 v) (T3 512 0 k) (T3 512 0 v) (T3 512 0 q) (T2 512 0 z) (T2 512 0 dy) (T3 512 0 f) = T3 512 0 fun c d => f c d + stepV q k v z dy 512 c d := by
  simp only [dvd, sp, mx, td, ed, ep, o, rinv, rinv2, g, t29, t30, t31, t32, t33, t36, t37, t38, t39, t40, t42, t43, t44, t49, t57 q k v z dy, t66]

/-- The point's gradient of the earlier keys. -/
theorem dkp_eq (f : ℕ → ℕ → ℝ) : dkp (F := Ideal) (T3 0 0 k) (T3 0 0 v) (T3 512 0 k) (T3 512 0 v) (T3 512 0 q) (T2 512 0 z) (T2 512 0 dy) (T3 0 0 f) = T3 0 0 fun c d => f c d + stepK q k v z dy 512 c d := by
  simp only [dkp, sp, mx, td, ed, ep, o, rinv, rinv2, g, t29, t30, t31, t32, t33, t36, t37, t38, t39, t40, t42, t43, t44, t49, t59, t67]

/-- The point's gradient of the earlier values. -/
theorem dvp_eq (f : ℕ → ℕ → ℝ) : dvp (F := Ideal) (T3 0 0 k) (T3 0 0 v) (T3 512 0 k) (T3 512 0 v) (T3 512 0 q) (T2 512 0 z) (T2 512 0 dy) (T3 0 0 f) = T3 0 0 fun c d => f c d + stepV q k v z dy 512 c d := by
  simp only [dvp, sp, mx, td, ed, ep, o, rinv, rinv2, g, t29, t30, t31, t32, t33, t36, t37, t38, t39, t40, t42, t43, t44, t49, t55 q k v z dy, t8]

end CaseB

variable (q k v z dy : ℕ → ℕ → ℝ)

/-- What the point writes to the gradient of the queries. -/
theorem outDqB_eq : outDqB (F := Ideal) (T3 512 0 q) (T3 0 0 k) (T3 0 0 v) (T2 512 0 z) (T2 512 0 dy) = T3 512 0 (gradQ q k v z dy) := by
  unfold outDqB
  erw [ld_T3, ld_T3, ld_T3, ld_T3]
  exact CaseB.dq_eq q k v z dy

/-- What the point writes to the gradient of the gate. -/
theorem outDzB_eq : outDzB (F := Ideal) (T3 512 0 q) (T3 0 0 k) (T3 0 0 v) (T2 512 0 z) (T2 512 0 dy) = T2 512 0 (gradZ q k v z dy) := by
  unfold outDzB
  erw [ld_T3, ld_T3, ld_T3, ld_T3]
  exact CaseB.dz_eq q k v z dy

/-- What the point leaves in the gradient of the keys. -/
theorem outDkB_eq (f : ℕ → ℕ → ℝ) : outDkB (F := Ideal) (T3 512 0 q) (T3 0 0 k) (T3 0 0 v) (T2 512 0 z) (T2 512 0 dy) (T3 0 0 f) = T3 0 0 fun c d => f c d + stepK q k v z dy 512 c d := by
  unfold outDkB
  erw [ld_T3, ld_T3, ld_T3, ld_T3, ld_T3, ld_T3, CaseB.dkd_eq q k v z dy f, CaseB.dkp_eq q k v z dy f]
  erw [overlay_T3, overlay_T3]
  congr 1
  funext c d
  split
  · rfl
  split
  · rfl
  · rw [stepK_dead q k v z dy d (n := 512) rfl (by omega), add_zero]

/-- What the point leaves in the gradient of the values. -/
theorem outDvB_eq (f : ℕ → ℕ → ℝ) : outDvB (F := Ideal) (T3 512 0 q) (T3 0 0 k) (T3 0 0 v) (T2 512 0 z) (T2 512 0 dy) (T3 0 0 f) = T3 0 0 fun c d => f c d + stepV q k v z dy 512 c d := by
  unfold outDvB
  erw [ld_T3, ld_T3, ld_T3, ld_T3, ld_T3, ld_T3, CaseB.dvd_eq q k v z dy f, CaseB.dvp_eq q k v z dy f]
  erw [overlay_T3, overlay_T3]
  congr 1
  funext c d
  split
  · rfl
  split
  · rfl
  · rw [stepV_dead q k v z dy d (n := 512) rfl (by omega), add_zero]

end Cert.KernelIdeal.Body

end
-- ==== Proof.ValC.lean ====
module

public import Idealize.ShloMosaic.Lib.WordCmp
public import Idealize.ShloMosaic.Lib.Pointwise
public import Idealize.ShloMosaic.Lib.ValueIdx
public import Idealize.ShloMosaic.PureOps.Ideal.Laws
public import proofs.«01_k».proof.Proof.TileRect

@[expose] public section

set_option maxRecDepth 16384

noncomputable section

namespace Cert.KernelIdeal.Body

open Idealize.ShloMosaic Idealize.ShloMosaic.Tactic
open Cert.KernelIdeal Cert.KernelIdeal.Gen

namespace CaseC

/-! ## The values of one point with 1024 earlier keys -/

variable (q k v z dy : ℕ → ℕ → ℝ)

/-- The leading axis dropped. -/
theorem t29 (a b : ℕ) (f : ℕ → ℕ → ℝ) : k0_pay68 (F := Ideal) (T3 a b f) = T2 a b f := by
  funext j
  idx_vars j
  pointwise [k0_pay68, T2_apply, T3_apply, TE_apply, zero_add]

/-- The leading axis dropped. -/
theorem t30 (a b : ℕ) (f : ℕ → ℕ → ℝ) : k0_pay69 (F := Ideal) (T3 a b f) = T2 a b f := by
  funext j
  idx_vars j
  pointwise [k0_pay69, T2_apply, T3_apply, TE_apply, zero_add]

/-- The leading axis dropped. -/
theorem t31 (a b : ℕ) (f : ℕ → ℕ → ℝ) : k0_pay70 (F := Ideal) (T3 a b f) = T2 a b f := by
  funext j
  idx_vars j
  pointwise [k0_pay70, T2_apply, T3_apply, TE_apply, zero_add]

/-- The leading axis dropped. -/
theorem t32 (a b : ℕ) (f : ℕ → ℕ → ℝ) : k0_pay71 (F := Ideal) (T3 a b f) = T2 a b f := by
  funext j
  idx_vars j
  pointwise [k0_pay71, T2_apply, T3_apply, TE_apply, zero_add]

/-- The scaled queries. -/
theorem t33 (a b : ℕ) : k0_pay72 (F := Ideal) (T3 a b q) = T2 a b fun r d => q r d * scale := by
  funext j
  idx_vars j
  pointwise [k0_pay72, ofBits_scale, T2_apply, T3_apply, TE_apply, zero_add]
  rw [← EReal.coe_mul]

/-- The scores against the earlier keys. -/
theorem t36 : k0_pay75 (F := Ideal) (T3 0 0 k) (T3 1024 0 q) = T2 1024 0 (score q k) := by
  funext j
  idx_vars j
  pointwise [k0_pay75, t33, t29, T2_apply, T3_apply, TE_apply, zero_add]
  simp only [← EReal.coe_mul, ← EReal.coe_add, ← EReal.coe_sub, ← EReal.coe_neg, ← EReal.coe_zero, ← EReal.coe_one, coe_sum, Ideal.exp_coe]
  simp only [score, Finset.sum_range, zero_add]

/-- The mask of the diagonal block. -/
theorem t34 (j0 j1 : Fin 512) : k0_pay73 (ix2 j0 j1) = IntOp.cmpi .sle (IntOp.shrsi .vector (BitVec.ofNat 32 j1.val) 6#32) (IntOp.shrsi .vector (BitVec.ofNat 32 j0.val) 6#32) := by
  pointwise [k0_pay73]

/-- The masked scores of the diagonal block. -/
theorem t35 : k0_pay74 (F := Ideal) (T3 1024 0 k) (T3 1024 0 q) = TE 1024 1024 (masked q k) := by
  funext j
  idx_vars j
  pointwise [k0_pay74, t34, t33, t31, mask_bot, T2_apply, T3_apply, TE_apply, zero_add]
  simp only [← EReal.coe_mul, coe_sum]
  rw [select_chunk, masked]
  simp only [live_add 1024 _ _ rfl, score, Finset.sum_range, zero_add]

/-- The row maxima. -/
theorem t37 : k0_pay76 (F := Ideal) (T3 0 0 k) (T3 1024 0 k) (T3 1024 0 q) = (T2 1024 0 fun r _ => rowMax q k r) := by
  funext j
  idx_vars j
  pointwise [k0_pay76, t35, t36, ofBits_bot, T2_apply, T3_apply, TE_apply, zero_add]
  rw [rowMax_split q k (n := 1024) rfl (by decide) (by omega), fold_max _ (fun c => masked q k (1024 + j0.val) (1024 + c)) (fun _ => rfl), fold_max _ (masked q k (1024 + j0.val)) (fun x => (masked_live (live_of_le (by omega))).symm)]

/-- The masked scores less the row maxima. -/
theorem t38 : k0_pay77 (F := Ideal) (T3 0 0 k) (T3 1024 0 k) (T3 1024 0 q) = (TE 1024 1024 fun r c => masked q k r c - ((rowMax q k r : ℝ) : EReal)) := by
  funext j
  idx_vars j
  pointwise [k0_pay77, t35, t37, T2_apply, T3_apply, TE_apply, zero_add]

/-- The exponentials of the diagonal block. -/
theorem t39 : k0_pay78 (F := Ideal) (TE 1024 1024 fun r c => masked q k r c - ((rowMax q k r : ℝ) : EReal)) = T2 1024 1024 (ex q k) := by
  funext j
  idx_vars j
  pointwise [k0_pay78, T2_apply, T3_apply, TE_apply, zero_add]
  exact exp_masked q k _ _

/-- The exponentials of the earlier blocks. -/
theorem t40 : k0_pay79 (F := Ideal) (T2 1024 0 (score q k)) (T2 1024 0 fun r _ => rowMax q k r) = T2 1024 0 (ex q k) := by
  funext j
  idx_vars j
  pointwise [k0_pay79, T2_apply, T3_apply, TE_apply, zero_add]
  simp only [← EReal.coe_mul, ← EReal.coe_add, ← EReal.coe_sub, ← EReal.coe_neg, ← EReal.coe_zero, ← EReal.coe_one, coe_sum, Ideal.exp_coe]
  rw [ex, if_pos (live_of_le (by omega))]

/-- The row sums. -/
theorem t41 : k0_pay80 (F := Ideal) (T2 1024 0 (score q k)) (T2 1024 0 fun r _ => rowMax q k r) (TE 1024 1024 fun r c => masked q k r c - ((rowMax q k r : ℝ) : EReal)) = T2 1024 0 fun r _ => den q k r := by
  funext j
  idx_vars j
  pointwise [k0_pay80, t39, t40, T2_apply, T3_apply, TE_apply, zero_add]
  simp only [← EReal.coe_mul, ← EReal.coe_add, ← EReal.coe_sub, ← EReal.coe_neg, ← EReal.coe_zero, ← EReal.coe_one, coe_sum, Ideal.exp_coe]
  rw [den, sum_split (n := 1024) (by decide) _ (fun c hc => ex_dead q k (n := 1024) rfl (by omega) hc)]
  simp only [Finset.sum_range, zero_add]

/-- The weighted sums of the values. -/
theorem t42 : k0_pay81 (F := Ideal) (T2 0 0 v) (T2 1024 0 v) (T2 1024 0 (score q k)) (T2 1024 0 fun r _ => rowMax q k r) (TE 1024 1024 fun r c => masked q k r c - ((rowMax q k r : ℝ) : EReal)) = T2 1024 0 (wsum q k v) := by
  funext j
  idx_vars j
  pointwise [k0_pay81, t39, t40, T2_apply, T3_apply, TE_apply, zero_add]
  simp only [← EReal.coe_mul, ← EReal.coe_add, ← EReal.coe_sub, ← EReal.coe_neg, ← EReal.coe_zero, ← EReal.coe_one, coe_sum, Ideal.exp_coe]
  rw [wsum, sum_split (n := 1024) (by decide) _ (fun c hc => by rw [ex_dead q k (n := 1024) rfl (by omega) hc, zero_mul])]
  simp only [Finset.sum_range, zero_add]

/-- One over the row sums. -/
theorem t43 : k0_pay82 (F := Ideal) (T2 1024 0 (score q k)) (T2 1024 0 fun r _ => rowMax q k r) (TE 1024 1024 fun r c => masked q k r c - ((rowMax q k r : ℝ) : EReal)) = (T2 1024 0 fun r _ => 1 / den q k r) := by
  funext j
  idx_vars j
  have hd : den q k (1024 + j0.val) ≠ 0 := (den_pos q k (by omega)).ne'
  pointwise [k0_pay82, t41, T2_apply, T3_apply, TE_apply, zero_add]
  exact one_div' hd

/-- One over the squared row sums. -/
theorem t44 : k0_pay83 (F := Ideal) (T2 1024 0 (score q k)) (T2 1024 0 fun r _ => rowMax q k r) (TE 1024 1024 fun r c => masked q k r c - ((rowMax q k r : ℝ) : EReal)) = (T2 1024 0 fun r _ => 1 / (den q k r * den q k r)) := by
  funext j
  idx_vars j
  have hd : den q k (1024 + j0.val) ≠ 0 := (den_pos q k (by omega)).ne'
  pointwise [k0_pay83, t41, T2_apply, T3_apply, TE_apply, zero_add]
  rw [← EReal.coe_mul, one_div' (mul_ne_zero hd hd)]

/-- The gate's exponential. -/
theorem t45 (a b : ℕ) : k0_pay84 (F := Ideal) (T2 a b z) = T2 a b fun r d => Real.exp (-z r d) := by
  funext j
  idx_vars j
  pointwise [k0_pay84, T2_apply, T3_apply, TE_apply, zero_add]
  rw [zero_sub, ← EReal.coe_neg, Ideal.exp_coe]

/-- The sigmoid's divisor. -/
theorem t46 (a b : ℕ) : k0_pay85 (F := Ideal) (T2 a b z) = T2 a b fun r d => 1 + Real.exp (-z r d) := by
  funext j
  idx_vars j
  pointwise [k0_pay85, t45, T2_apply, T3_apply, TE_apply, zero_add]
  rw [← EReal.coe_one, ← EReal.coe_add]

/-- The gate's sigmoid. -/
theorem t47 (a b : ℕ) : k0_pay86 (F := Ideal) (T2 a b z) = T2 a b (sg z) := by
  funext j
  idx_vars j
  pointwise [k0_pay86, t46, T2_apply, T3_apply, TE_apply, zero_add]
  exact one_div' (by positivity)

/-- The attention's output times the incoming gradient. -/
theorem t48 : k0_pay87 (F := Ideal) (T2 0 0 v) (T2 1024 0 v) (T2 1024 0 (score q k)) (T2 1024 0 fun r _ => rowMax q k r) (TE 1024 1024 fun r c => masked q k r c - ((rowMax q k r : ℝ) : EReal)) (T2 1024 0 dy) = T2 1024 0 (dgate q k v dy) := by
  funext j
  idx_vars j
  pointwise [k0_pay87, t42, t43, T2_apply, T3_apply, TE_apply, zero_add]
  simp only [← EReal.coe_mul]
  rw [dgate, mul_one_div]

/-- The gradient of the attention's output. -/
theorem t49 (a b : ℕ) : k0_pay88 (F := Ideal) (T2 a b z) (T2 a b dy) = T2 a b (gout z dy) := by
  funext j
  idx_vars j
  pointwise [k0_pay88, t47, T2_apply, T3_apply, TE_apply, zero_add]
  simp only [← EReal.coe_mul]
  rw [gout]

/-- The first part of the gate's gradient. -/
theorem t50 : k0_pay89 (F := Ideal) (T2 0 0 v) (T2 1024 0 v) (T2 1024 0 z) (T2 1024 0 (score q k)) (T2 1024 0 fun r _ => rowMax q k r) (TE 1024 1024 fun r c => masked q k r c - ((rowMax q k r : ℝ) : EReal)) (T2 1024 0 dy) = T2 1024 0 fun r d => dgate q k v dy r d * sg z r d := by
  funext j
  idx_vars j
  pointwise [k0_pay89, t47, t48, T2_apply, T3_apply, TE_apply, zero_add]
  rw [← EReal.coe_mul]

/-- The second part of the gate's gradient, negated. -/
theorem t51 : k0_pay90 (F := Ideal) (T2 0 0 v) (T2 1024 0 v) (T2 1024 0 z) (T2 1024 0 (score q k)) (T2 1024 0 fun r _ => rowMax q k r) (TE 1024 1024 fun r c => masked q k r c - ((rowMax q k r : ℝ) : EReal)) (T2 1024 0 dy) = T2 1024 0 fun r d => -(z r d * dgate q k v dy r d * (1 / ((1 + Real.exp (-z r d)) * (1 + Real.exp (-z r d))))) * Real.exp (-z r d) := by
  funext j
  idx_vars j
  pointwise [k0_pay90, t45, t46, t48, T2_apply, T3_apply, TE_apply, zero_add]
  simp only [← EReal.coe_mul]
  rw [one_div' (by positivity)]
  simp only [← EReal.coe_mul, zero_sub, ← EReal.coe_neg]

/-- The gradient of the gate. -/
theorem t52 : k0_pay91 (F := Ideal) (T2 1024 0 fun r d => dgate q k v dy r d * sg z r d) (T2 1024 0 fun r d => -(z r d * dgate q k v dy r d * (1 / ((1 + Real.exp (-z r d)) * (1 + Real.exp (-z r d))))) * Real.exp (-z r d)) (FloatOps.ofBits .f32 0x00000000#32) = T2 1024 0 (gradZ q k v z dy) := by
  funext j
  idx_vars j
  pointwise [k0_pay91, T2_apply, T3_apply, TE_apply, zero_add]
  rw [zero_sub, ← EReal.coe_neg, ← EReal.coe_add, gradZ_kernel]

/-- The gradient of the attention's output over the row sums. -/
theorem t53 : k0_pay92 (F := Ideal) (T2 1024 0 fun r _ => 1 / den q k r) (T2 1024 0 (gout z dy)) = T2 1024 0 fun r d => gout z dy r d * (1 / den q k r) := by
  funext j
  idx_vars j
  pointwise [k0_pay92, T2_apply, T3_apply, TE_apply, zero_add]
  rw [← EReal.coe_mul]

/-- The rows' corrections. -/
theorem t54 : k0_pay93 (F := Ideal) (T2 1024 0 (wsum q k v)) (T2 1024 0 fun r _ => 1 / (den q k r * den q k r)) (T2 1024 0 (gout z dy)) = T2 1024 0 fun r _ => -(rowDot q k v z dy r * (1 / (den q k r * den q k r))) := by
  funext j
  idx_vars j
  pointwise [k0_pay93, T2_apply, T3_apply, TE_apply, zero_add]
  simp only [← EReal.coe_mul, coe_sum, mul_one, zero_sub, ← EReal.coe_neg]
  simp only [rowDot, Finset.sum_range, zero_add]

/-- The earlier keys' share of the values' gradient. -/
theorem t55 : k0_pay94 (F := Ideal) (T2 1024 0 (ex q k)) (T2 1024 0 fun r _ => 1 / den q k r) (T2 1024 0 (gout z dy)) = T2 0 0 (stepV q k v z dy 1024) := by
  funext j
  idx_vars j
  pointwise [k0_pay94, t53, T2_apply, T3_apply, TE_apply, zero_add]
  simp only [← EReal.coe_mul, ← EReal.coe_add, ← EReal.coe_sub, ← EReal.coe_neg, ← EReal.coe_zero, ← EReal.coe_one, coe_sum, Ideal.exp_coe]
  simp only [stepV, termV, Finset.sum_range, zero_add, mul_one_div]

/-- The diagonal keys' share of the values' gradient. -/
theorem t57 : k0_pay96 (F := Ideal) (T2 1024 1024 (ex q k)) (T2 1024 0 fun r _ => 1 / den q k r) (T2 1024 0 (gout z dy)) = T2 1024 0 (stepV q k v z dy 1024) := by
  funext j
  idx_vars j
  pointwise [k0_pay96, t53, T2_apply, T3_apply, TE_apply, zero_add]
  simp only [← EReal.coe_mul, ← EReal.coe_add, ← EReal.coe_sub, ← EReal.coe_neg, ← EReal.coe_zero, ← EReal.coe_one, coe_sum, Ideal.exp_coe]
  simp only [stepV, termV, Finset.sum_range, zero_add, mul_one_div]

/-- The gradient of the scores against the earlier keys. -/
theorem t56 : k0_pay95 (F := Ideal) (T2 0 0 v) (T2 1024 0 (ex q k)) (T2 1024 0 (wsum q k v)) (T2 1024 0 fun r _ => 1 / den q k r) (T2 1024 0 fun r _ => 1 / (den q k r * den q k r)) (T2 1024 0 (gout z dy)) = T2 1024 0 (dscore q k v z dy) := by
  funext j
  idx_vars j
  pointwise [k0_pay95, t53, t54, T2_apply, T3_apply, TE_apply, zero_add]
  simp only [← EReal.coe_mul, ← EReal.coe_add, ← EReal.coe_sub, ← EReal.coe_neg, ← EReal.coe_zero, ← EReal.coe_one, coe_sum, Ideal.exp_coe]
  rw [dscore_kernel]
  simp only [Finset.sum_range, zero_add, Fin.sum_univ_one]

/-- The gradient of the diagonal scores. -/
theorem t60 : k0_pay99 (F := Ideal) (T2 1024 0 v) k0_pay73 (T2 1024 1024 (ex q k)) (T2 1024 0 (wsum q k v)) (T2 1024 0 fun r _ => 1 / den q k r) (T2 1024 0 fun r _ => 1 / (den q k r * den q k r)) (T2 1024 0 (gout z dy)) = T2 1024 1024 (dscore q k v z dy) := by
  funext j
  idx_vars j
  pointwise [k0_pay99, t34, t53, t54, T2_apply, T3_apply, TE_apply, zero_add]
  simp only [← EReal.coe_mul, ← EReal.coe_add, ← EReal.coe_sub, ← EReal.coe_neg, ← EReal.coe_zero, ← EReal.coe_one, coe_sum, Ideal.exp_coe]
  rw [select_chunk]
  split
  · rw [dscore_kernel]
    simp only [Finset.sum_range, zero_add, Fin.sum_univ_one]
  · rename_i h
    rw [dscore, ex, if_neg (fun h' => h ((live_add 1024 _ _ rfl).1 h')), zero_mul]

/-- The earlier keys' share of the queries' gradient. -/
theorem t58 : k0_pay97 (F := Ideal) (T2 0 0 k) (T2 0 0 v) (T2 1024 0 (ex q k)) (T2 1024 0 (wsum q k v)) (T2 1024 0 fun r _ => 1 / den q k r) (T2 1024 0 fun r _ => 1 / (den q k r * den q k r)) (T2 1024 0 (gout z dy)) = T2 1024 0 fun r d => ∑ c ∈ Finset.range 1024, dscore q k v z dy r c * k c d := by
  funext j
  idx_vars j
  pointwise [k0_pay97, t56, T2_apply, T3_apply, TE_apply, zero_add]
  simp only [← EReal.coe_mul, ← EReal.coe_add, ← EReal.coe_sub, ← EReal.coe_neg, ← EReal.coe_zero, ← EReal.coe_one, coe_sum, Ideal.exp_coe]
  simp only [Finset.sum_range, zero_add]

/-- The diagonal keys' share of the queries' gradient. -/
theorem t61 : k0_pay100 (F := Ideal) (T2 1024 0 k) (T2 1024 0 v) k0_pay73 (T2 1024 1024 (ex q k)) (T2 1024 0 (wsum q k v)) (T2 1024 0 fun r _ => 1 / den q k r) (T2 1024 0 fun r _ => 1 / (den q k r * den q k r)) (T2 1024 0 (gout z dy)) = T2 1024 0 fun r d => ∑ c ∈ Finset.range 512, dscore q k v z dy r (1024 + c) * k (1024 + c) d := by
  funext j
  idx_vars j
  pointwise [k0_pay100, t60, T2_apply, T3_apply, TE_apply, zero_add]
  simp only [← EReal.coe_mul, ← EReal.coe_add, ← EReal.coe_sub, ← EReal.coe_neg, ← EReal.coe_zero, ← EReal.coe_one, coe_sum, Ideal.exp_coe]
  simp only [Finset.sum_range, zero_add]

/-- The earlier keys' gradient. -/
theorem t59 : k0_pay98 (F := Ideal) (T2 0 0 v) (T2 1024 0 fun r d => q r d * scale) (T2 1024 0 (ex q k)) (T2 1024 0 (wsum q k v)) (T2 1024 0 fun r _ => 1 / den q k r) (T2 1024 0 fun r _ => 1 / (den q k r * den q k r)) (T2 1024 0 (gout z dy)) = T2 0 0 (stepK q k v z dy 1024) := by
  funext j
  idx_vars j
  pointwise [k0_pay98, t56, T2_apply, T3_apply, TE_apply, zero_add]
  simp only [← EReal.coe_mul, ← EReal.coe_add, ← EReal.coe_sub, ← EReal.coe_neg, ← EReal.coe_zero, ← EReal.coe_one, coe_sum, Ideal.exp_coe]
  simp only [stepK, termK, Finset.sum_range, Finset.sum_mul, zero_add, mul_assoc]

/-- The gradient of the diagonal scores, cast. -/
theorem t62 : k0_pay101 (F := Ideal) (T2 1024 0 v) k0_pay73 (T2 1024 1024 (ex q k)) (T2 1024 0 (wsum q k v)) (T2 1024 0 fun r _ => 1 / den q k r) (T2 1024 0 fun r _ => 1 / (den q k r * den q k r)) (T2 1024 0 (gout z dy)) = T2 1024 1024 (dscore q k v z dy) := by
  funext j
  idx_vars j
  pointwise [k0_pay101, t60, T2_apply, T3_apply, TE_apply, zero_add]

/-- The gradient of the queries. -/
theorem t63 : k0_pay102 (F := Ideal) (T2 1024 0 fun r d => ∑ c ∈ Finset.range 1024, dscore q k v z dy r c * k c d) (T2 1024 0 fun r d => ∑ c ∈ Finset.range 512, dscore q k v z dy r (1024 + c) * k (1024 + c) d) = T3 1024 0 (gradQ q k v z dy) := by
  funext j
  idx_vars j
  pointwise [k0_pay102, ofBits_scale, T2_apply, T3_apply, TE_apply, zero_add]
  simp only [← EReal.coe_mul, ← EReal.coe_add, ← EReal.coe_sub, ← EReal.coe_neg, ← EReal.coe_zero, ← EReal.coe_one, coe_sum, Ideal.exp_coe]
  rw [gradQ, sum_split (n := 1024) (by decide) _ (fun c hc => by rw [dscore_dead q k v z dy (n := 1024) rfl (by omega) hc, zero_mul]), add_comm]

/-- The cast of the gate's gradient. -/
theorem t64 (a b : ℕ) (f : ℕ → ℕ → ℝ) : k0_pay103 (F := Ideal) (T2 a b f) = T2 a b f := by
  funext j
  idx_vars j
  pointwise [k0_pay103, T2_apply, T3_apply, TE_apply, zero_add]

/-- The diagonal keys' gradient put on top of what was there. -/
theorem t65 (f : ℕ → ℕ → ℝ) : k0_pay104 (F := Ideal) (T2 1024 0 fun r d => q r d * scale) (T2 1024 1024 (dscore q k v z dy)) (T3 1024 0 f) = T3 1024 0 fun c d => f c d + stepK q k v z dy 1024 c d := by
  funext j
  idx_vars j
  pointwise [k0_pay104, T2_apply, T3_apply, TE_apply, zero_add]
  simp only [← EReal.coe_mul, ← EReal.coe_add, ← EReal.coe_sub, ← EReal.coe_neg, ← EReal.coe_zero, ← EReal.coe_one, coe_sum, Ideal.exp_coe]
  simp only [stepK, termK, Finset.sum_range, Finset.sum_mul, zero_add, mul_assoc]

/-- The diagonal values' gradient put on top of what was there. -/
theorem t66 (f : ℕ → ℕ → ℝ) : k0_pay105 (F := Ideal) (T2 1024 0 (stepV q k v z dy 1024)) (T3 1024 0 f) = T3 1024 0 fun c d => f c d + stepV q k v z dy 1024 c d := by
  funext j
  idx_vars j
  pointwise [k0_pay105, T2_apply, T3_apply, TE_apply, zero_add]
  rw [← EReal.coe_add]

/-- The earlier keys' gradient put on top of what was there. -/
theorem t67 (f : ℕ → ℕ → ℝ) : k0_pay106 (F := Ideal) (T2 0 0 (stepK q k v z dy 1024)) (T3 0 0 f) = T3 0 0 fun c d => f c d + stepK q k v z dy 1024 c d := by
  funext j
  idx_vars j
  pointwise [k0_pay106, T2_apply, T3_apply, TE_apply, zero_add]
  rw [← EReal.coe_add]

/-- The earlier values' gradient put on top of what was there. -/
theorem t8 (f : ℕ → ℕ → ℝ) : k0_pay9 (F := Ideal) (T2 0 0 (stepV q k v z dy 1024)) (T3 0 0 f) = T3 0 0 fun c d => f c d + stepV q k v z dy 1024 c d := by
  funext j
  idx_vars j
  pointwise [k0_pay9, T2_apply, T3_apply, TE_apply, zero_add]
  rw [← EReal.coe_add]

/-- The point's gradient of the gate. -/
theorem dz_eq : dz (F := Ideal) (T3 0 0 k) (T3 0 0 v) (T3 1024 0 k) (T3 1024 0 v) (T3 1024 0 q) (T2 1024 0 z) (T2 1024 0 dy) = T2 1024 0 (gradZ q k v z dy) := by
  simp only [dz, sp, mx, td, ed, ep, o, rinv, rinv2, g, t29, t30, t31, t32, t33, t36, t37, t38, t39, t40, t42, t43, t44, t49, t50, t51, t52, t64]

/-- The point's gradient of the queries. -/
theorem dq_eq : dq (F := Ideal) (T3 0 0 k) (T3 0 0 v) (T3 1024 0 k) (T3 1024 0 v) (T3 1024 0 q) (T2 1024 0 z) (T2 1024 0 dy) = T3 1024 0 (gradQ q k v z dy) := by
  simp only [dq, sp, mx, td, ed, ep, o, rinv, rinv2, g, t29, t30, t31, t32, t33, t36, t37, t38, t39, t40, t42, t43, t44, t49, t58, t61, t63]

/-- The point's gradient of the diagonal keys. -/
theorem dkd_eq (f : ℕ → ℕ → ℝ) : dkd (F := Ideal) (T3 0 0 k) (T3 0 0 v) (T3 1024 0 k) (T3 1024 0 v) (T3 1024 0 q) (T2 1024 0 z) (T2 1024 0 dy) (T3 1024 0 f) = T3 1024 0 fun c d => f c d + stepK q k v z dy 1024 c d := by
  simp only [dkd, sp, mx, td, ed, ep, o, rinv, rinv2, g, t29, t30, t31, t32, t33, t36, t37, t38, t39, t40, t42, t43, t44, t49, t62, t65]

/-- The point's gradient of the diagonal values. -/
theorem dvd_eq (f : ℕ → ℕ → ℝ) : dvd (F := Ideal) (T3 0 0 k) (T3 0 0 v) (T3 1024 0 k) (T3 1024 0 v) (T3 1024 0 q) (T2 1024 0 z) (T2 1024 0 dy) (T3 1024 0 f) = T3 1024 0 fun c d => f c d + stepV q k v z dy 1024 c d := by
  simp only [dvd, sp, mx, td, ed, ep, o, rinv, rinv2, g, t29, t30, t31, t32, t33, t36, t37, t38, t39, t40, t42, t43, t44, t49, t57 q k v z dy, t66]

/-- The point's gradient of the earlier keys. -/
theorem dkp_eq (f : ℕ → ℕ → ℝ) : dkp (F := Ideal) (T3 0 0 k) (T3 0 0 v) (T3 1024 0 k) (T3 1024 0 v) (T3 1024 0 q) (T2 1024 0 z) (T2 1024 0 dy) (T3 0 0 f) = T3 0 0 fun c d => f c d + stepK q k v z dy 1024 c d := by
  simp only [dkp, sp, mx, td, ed, ep, o, rinv, rinv2, g, t29, t30, t31, t32, t33, t36, t37, t38, t39, t40, t42, t43, t44, t49, t59, t67]

/-- The point's gradient of the earlier values. -/
theorem dvp_eq (f : ℕ → ℕ → ℝ) : dvp (F := Ideal) (T3 0 0 k) (T3 0 0 v) (T3 1024 0 k) (T3 1024 0 v) (T3 1024 0 q) (T2 1024 0 z) (T2 1024 0 dy) (T3 0 0 f) = T3 0 0 fun c d => f c d + stepV q k v z dy 1024 c d := by
  simp only [dvp, sp, mx, td, ed, ep, o, rinv, rinv2, g, t29, t30, t31, t32, t33, t36, t37, t38, t39, t40, t42, t43, t44, t49, t55 q k v z dy, t8]

end CaseC

variable (q k v z dy : ℕ → ℕ → ℝ)

/-- What the point writes to the gradient of the queries. -/
theorem outDqC_eq : outDqC (F := Ideal) (T3 1024 0 q) (T3 0 0 k) (T3 0 0 v) (T2 1024 0 z) (T2 1024 0 dy) = T3 1024 0 (gradQ q k v z dy) := by
  unfold outDqC
  erw [ld_T3, ld_T3, ld_T3, ld_T3]
  exact CaseC.dq_eq q k v z dy

/-- What the point writes to the gradient of the gate. -/
theorem outDzC_eq : outDzC (F := Ideal) (T3 1024 0 q) (T3 0 0 k) (T3 0 0 v) (T2 1024 0 z) (T2 1024 0 dy) = T2 1024 0 (gradZ q k v z dy) := by
  unfold outDzC
  erw [ld_T3, ld_T3, ld_T3, ld_T3]
  exact CaseC.dz_eq q k v z dy

/-- What the point leaves in the gradient of the keys. -/
theorem outDkC_eq (f : ℕ → ℕ → ℝ) : outDkC (F := Ideal) (T3 1024 0 q) (T3 0 0 k) (T3 0 0 v) (T2 1024 0 z) (T2 1024 0 dy) (T3 0 0 f) = T3 0 0 fun c d => f c d + stepK q k v z dy 1024 c d := by
  unfold outDkC
  erw [ld_T3, ld_T3, ld_T3, ld_T3, ld_T3, ld_T3, CaseC.dkd_eq q k v z dy f, CaseC.dkp_eq q k v z dy f]
  erw [overlay_T3, overlay_T3]
  congr 1
  funext c d
  split
  · rfl
  split
  · rfl
  · rw [stepK_dead q k v z dy d (n := 1024) rfl (by omega), add_zero]

/-- What the point leaves in the gradient of the values. -/
theorem outDvC_eq (f : ℕ → ℕ → ℝ) : outDvC (F := Ideal) (T3 1024 0 q) (T3 0 0 k) (T3 0 0 v) (T2 1024 0 z) (T2 1024 0 dy) (T3 0 0 f) = T3 0 0 fun c d => f c d + stepV q k v z dy 1024 c d := by
  unfold outDvC
  erw [ld_T3, ld_T3, ld_T3, ld_T3, ld_T3, ld_T3, CaseC.dvd_eq q k v z dy f, CaseC.dvp_eq q k v z dy f]
  erw [overlay_T3, overlay_T3]
  congr 1
  funext c d
  split
  · rfl
  split
  · rfl
  · rw [stepV_dead q k v z dy d (n := 1024) rfl (by omega), add_zero]

end Cert.KernelIdeal.Body

end
-- ==== Proof.ValD.lean ====
module

public import Idealize.ShloMosaic.Lib.WordCmp
public import Idealize.ShloMosaic.Lib.Pointwise
public import Idealize.ShloMosaic.Lib.ValueIdx
public import Idealize.ShloMosaic.PureOps.Ideal.Laws
public import proofs.«01_k».proof.Proof.TileRect

@[expose] public section

set_option maxRecDepth 16384

noncomputable section

namespace Cert.KernelIdeal.Body

open Idealize.ShloMosaic Idealize.ShloMosaic.Tactic
open Cert.KernelIdeal Cert.KernelIdeal.Gen

namespace CaseD

/-! ## The values of one point with 1536 earlier keys -/

variable (q k v z dy : ℕ → ℕ → ℝ)

/-- The leading axis dropped. -/
theorem t29 (a b : ℕ) (f : ℕ → ℕ → ℝ) : k0_pay107 (F := Ideal) (T3 a b f) = T2 a b f := by
  funext j
  idx_vars j
  pointwise [k0_pay107, T2_apply, T3_apply, TE_apply, zero_add]

/-- The leading axis dropped. -/
theorem t30 (a b : ℕ) (f : ℕ → ℕ → ℝ) : k0_pay108 (F := Ideal) (T3 a b f) = T2 a b f := by
  funext j
  idx_vars j
  pointwise [k0_pay108, T2_apply, T3_apply, TE_apply, zero_add]

/-- The leading axis dropped. -/
theorem t31 (a b : ℕ) (f : ℕ → ℕ → ℝ) : k0_pay109 (F := Ideal) (T3 a b f) = T2 a b f := by
  funext j
  idx_vars j
  pointwise [k0_pay109, T2_apply, T3_apply, TE_apply, zero_add]

/-- The leading axis dropped. -/
theorem t32 (a b : ℕ) (f : ℕ → ℕ → ℝ) : k0_pay110 (F := Ideal) (T3 a b f) = T2 a b f := by
  funext j
  idx_vars j
  pointwise [k0_pay110, T2_apply, T3_apply, TE_apply, zero_add]

/-- The scaled queries. -/
theorem t33 (a b : ℕ) : k0_pay111 (F := Ideal) (T3 a b q) = T2 a b fun r d => q r d * scale := by
  funext j
  idx_vars j
  pointwise [k0_pay111, ofBits_scale, T2_apply, T3_apply, TE_apply, zero_add]
  rw [← EReal.coe_mul]

/-- The scores against the earlier keys. -/
theorem t36 : k0_pay114 (F := Ideal) (T3 0 0 k) (T3 1536 0 q) = T2 1536 0 (score q k) := by
  funext j
  idx_vars j
  pointwise [k0_pay114, t33, t29, T2_apply, T3_apply, TE_apply, zero_add]
  simp only [← EReal.coe_mul, ← EReal.coe_add, ← EReal.coe_sub, ← EReal.coe_neg, ← EReal.coe_zero, ← EReal.coe_one, coe_sum, Ideal.exp_coe]
  simp only [score, Finset.sum_range, zero_add]

/-- The mask of the diagonal block. -/
theorem t34 (j0 j1 : Fin 512) : k0_pay112 (ix2 j0 j1) = IntOp.cmpi .sle (IntOp.shrsi .vector (BitVec.ofNat 32 j1.val) 6#32) (IntOp.shrsi .vector (BitVec.ofNat 32 j0.val) 6#32) := by
  pointwise [k0_pay112]

/-- The masked scores of the diagonal block. -/
theorem t35 : k0_pay113 (F := Ideal) (T3 1536 0 k) (T3 1536 0 q) = TE 1536 1536 (masked q k) := by
  funext j
  idx_vars j
  pointwise [k0_pay113, t34, t33, t31, mask_bot, T2_apply, T3_apply, TE_apply, zero_add]
  simp only [← EReal.coe_mul, coe_sum]
  rw [select_chunk, masked]
  simp only [live_add 1536 _ _ rfl, score, Finset.sum_range, zero_add]

/-- The row maxima. -/
theorem t37 : k0_pay115 (F := Ideal) (T3 0 0 k) (T3 1536 0 k) (T3 1536 0 q) = (T2 1536 0 fun r _ => rowMax q k r) := by
  funext j
  idx_vars j
  pointwise [k0_pay115, t35, t36, ofBits_bot, T2_apply, T3_apply, TE_apply, zero_add]
  rw [rowMax_split q k (n := 1536) rfl (by decide) (by omega), fold_max _ (fun c => masked q k (1536 + j0.val) (1536 + c)) (fun _ => rfl), fold_max _ (masked q k (1536 + j0.val)) (fun x => (masked_live (live_of_le (by omega))).symm)]

/-- The masked scores less the row maxima. -/
theorem t38 : k0_pay116 (F := Ideal) (T3 0 0 k) (T3 1536 0 k) (T3 1536 0 q) = (TE 1536 1536 fun r c => masked q k r c - ((rowMax q k r : ℝ) : EReal)) := by
  funext j
  idx_vars j
  pointwise [k0_pay116, t35, t37, T2_apply, T3_apply, TE_apply, zero_add]

/-- The exponentials of the diagonal block. -/
theorem t39 : k0_pay117 (F := Ideal) (TE 1536 1536 fun r c => masked q k r c - ((rowMax q k r : ℝ) : EReal)) = T2 1536 1536 (ex q k) := by
  funext j
  idx_vars j
  pointwise [k0_pay117, T2_apply, T3_apply, TE_apply, zero_add]
  exact exp_masked q k _ _

/-- The exponentials of the earlier blocks. -/
theorem t40 : k0_pay118 (F := Ideal) (T2 1536 0 (score q k)) (T2 1536 0 fun r _ => rowMax q k r) = T2 1536 0 (ex q k) := by
  funext j
  idx_vars j
  pointwise [k0_pay118, T2_apply, T3_apply, TE_apply, zero_add]
  simp only [← EReal.coe_mul, ← EReal.coe_add, ← EReal.coe_sub, ← EReal.coe_neg, ← EReal.coe_zero, ← EReal.coe_one, coe_sum, Ideal.exp_coe]
  rw [ex, if_pos (live_of_le (by omega))]

/-- The row sums. -/
theorem t41 : k0_pay119 (F := Ideal) (T2 1536 0 (score q k)) (T2 1536 0 fun r _ => rowMax q k r) (TE 1536 1536 fun r c => masked q k r c - ((rowMax q k r : ℝ) : EReal)) = T2 1536 0 fun r _ => den q k r := by
  funext j
  idx_vars j
  pointwise [k0_pay119, t39, t40, T2_apply, T3_apply, TE_apply, zero_add]
  simp only [← EReal.coe_mul, ← EReal.coe_add, ← EReal.coe_sub, ← EReal.coe_neg, ← EReal.coe_zero, ← EReal.coe_one, coe_sum, Ideal.exp_coe]
  rw [den, sum_split (n := 1536) (by decide) _ (fun c hc => ex_dead q k (n := 1536) rfl (by omega) hc)]
  simp only [Finset.sum_range, zero_add]

/-- The weighted sums of the values. -/
theorem t42 : k0_pay120 (F := Ideal) (T2 0 0 v) (T2 1536 0 v) (T2 1536 0 (score q k)) (T2 1536 0 fun r _ => rowMax q k r) (TE 1536 1536 fun r c => masked q k r c - ((rowMax q k r : ℝ) : EReal)) = T2 1536 0 (wsum q k v) := by
  funext j
  idx_vars j
  pointwise [k0_pay120, t39, t40, T2_apply, T3_apply, TE_apply, zero_add]
  simp only [← EReal.coe_mul, ← EReal.coe_add, ← EReal.coe_sub, ← EReal.coe_neg, ← EReal.coe_zero, ← EReal.coe_one, coe_sum, Ideal.exp_coe]
  rw [wsum, sum_split (n := 1536) (by decide) _ (fun c hc => by rw [ex_dead q k (n := 1536) rfl (by omega) hc, zero_mul])]
  simp only [Finset.sum_range, zero_add]

/-- One over the row sums. -/
theorem t43 : k0_pay121 (F := Ideal) (T2 1536 0 (score q k)) (T2 1536 0 fun r _ => rowMax q k r) (TE 1536 1536 fun r c => masked q k r c - ((rowMax q k r : ℝ) : EReal)) = (T2 1536 0 fun r _ => 1 / den q k r) := by
  funext j
  idx_vars j
  have hd : den q k (1536 + j0.val) ≠ 0 := (den_pos q k (by omega)).ne'
  pointwise [k0_pay121, t41, T2_apply, T3_apply, TE_apply, zero_add]
  exact one_div' hd

/-- One over the squared row sums. -/
theorem t44 : k0_pay122 (F := Ideal) (T2 1536 0 (score q k)) (T2 1536 0 fun r _ => rowMax q k r) (TE 1536 1536 fun r c => masked q k r c - ((rowMax q k r : ℝ) : EReal)) = (T2 1536 0 fun r _ => 1 / (den q k r * den q k r)) := by
  funext j
  idx_vars j
  have hd : den q k (1536 + j0.val) ≠ 0 := (den_pos q k (by omega)).ne'
  pointwise [k0_pay122, t41, T2_apply, T3_apply, TE_apply, zero_add]
  rw [← EReal.coe_mul, one_div' (mul_ne_zero hd hd)]

/-- The gate's exponential. -/
theorem t45 (a b : ℕ) : k0_pay123 (F := Ideal) (T2 a b z) = T2 a b fun r d => Real.exp (-z r d) := by
  funext j
  idx_vars j
  pointwise [k0_pay123, T2_apply, T3_apply, TE_apply, zero_add]
  rw [zero_sub, ← EReal.coe_neg, Ideal.exp_coe]

/-- The sigmoid's divisor. -/
theorem t46 (a b : ℕ) : k0_pay124 (F := Ideal) (T2 a b z) = T2 a b fun r d => 1 + Real.exp (-z r d) := by
  funext j
  idx_vars j
  pointwise [k0_pay124, t45, T2_apply, T3_apply, TE_apply, zero_add]
  rw [← EReal.coe_one, ← EReal.coe_add]

/-- The gate's sigmoid. -/
theorem t47 (a b : ℕ) : k0_pay125 (F := Ideal) (T2 a b z) = T2 a b (sg z) := by
  funext j
  idx_vars j
  pointwise [k0_pay125, t46, T2_apply, T3_apply, TE_apply, zero_add]
  exact one_div' (by positivity)

/-- The attention's output times the incoming gradient. -/
theorem t48 : k0_pay126 (F := Ideal) (T2 0 0 v) (T2 1536 0 v) (T2 1536 0 (score q k)) (T2 1536 0 fun r _ => rowMax q k r) (TE 1536 1536 fun r c => masked q k r c - ((rowMax q k r : ℝ) : EReal)) (T2 1536 0 dy) = T2 1536 0 (dgate q k v dy) := by
  funext j
  idx_vars j
  pointwise [k0_pay126, t42, t43, T2_apply, T3_apply, TE_apply, zero_add]
  simp only [← EReal.coe_mul]
  rw [dgate, mul_one_div]

/-- The gradient of the attention's output. -/
theorem t49 (a b : ℕ) : k0_pay127 (F := Ideal) (T2 a b z) (T2 a b dy) = T2 a b (gout z dy) := by
  funext j
  idx_vars j
  pointwise [k0_pay127, t47, T2_apply, T3_apply, TE_apply, zero_add]
  simp only [← EReal.coe_mul]
  rw [gout]

/-- The first part of the gate's gradient. -/
theorem t50 : k0_pay128 (F := Ideal) (T2 0 0 v) (T2 1536 0 v) (T2 1536 0 z) (T2 1536 0 (score q k)) (T2 1536 0 fun r _ => rowMax q k r) (TE 1536 1536 fun r c => masked q k r c - ((rowMax q k r : ℝ) : EReal)) (T2 1536 0 dy) = T2 1536 0 fun r d => dgate q k v dy r d * sg z r d := by
  funext j
  idx_vars j
  pointwise [k0_pay128, t47, t48, T2_apply, T3_apply, TE_apply, zero_add]
  rw [← EReal.coe_mul]

/-- The second part of the gate's gradient, negated. -/
theorem t51 : k0_pay129 (F := Ideal) (T2 0 0 v) (T2 1536 0 v) (T2 1536 0 z) (T2 1536 0 (score q k)) (T2 1536 0 fun r _ => rowMax q k r) (TE 1536 1536 fun r c => masked q k r c - ((rowMax q k r : ℝ) : EReal)) (T2 1536 0 dy) = T2 1536 0 fun r d => -(z r d * dgate q k v dy r d * (1 / ((1 + Real.exp (-z r d)) * (1 + Real.exp (-z r d))))) * Real.exp (-z r d) := by
  funext j
  idx_vars j
  pointwise [k0_pay129, t45, t46, t48, T2_apply, T3_apply, TE_apply, zero_add]
  simp only [← EReal.coe_mul]
  rw [one_div' (by positivity)]
  simp only [← EReal.coe_mul, zero_sub, ← EReal.coe_neg]

/-- The gradient of the gate. -/
theorem t52 : k0_pay130 (F := Ideal) (T2 1536 0 fun r d => dgate q k v dy r d * sg z r d) (T2 1536 0 fun r d => -(z r d * dgate q k v dy r d * (1 / ((1 + Real.exp (-z r d)) * (1 + Real.exp (-z r d))))) * Real.exp (-z r d)) (FloatOps.ofBits .f32 0x00000000#32) = T2 1536 0 (gradZ q k v z dy) := by
  funext j
  idx_vars j
  pointwise [k0_pay130, T2_apply, T3_apply, TE_apply, zero_add]
  rw [zero_sub, ← EReal.coe_neg, ← EReal.coe_add, gradZ_kernel]

/-- The gradient of the attention's output over the row sums. -/
theorem t53 : k0_pay131 (F := Ideal) (T2 1536 0 fun r _ => 1 / den q k r) (T2 1536 0 (gout z dy)) = T2 1536 0 fun r d => gout z dy r d * (1 / den q k r) := by
  funext j
  idx_vars j
  pointwise [k0_pay131, T2_apply, T3_apply, TE_apply, zero_add]
  rw [← EReal.coe_mul]

/-- The rows' corrections. -/
theorem t54 : k0_pay132 (F := Ideal) (T2 1536 0 (wsum q k v)) (T2 1536 0 fun r _ => 1 / (den q k r * den q k r)) (T2 1536 0 (gout z dy)) = T2 1536 0 fun r _ => -(rowDot q k v z dy r * (1 / (den q k r * den q k r))) := by
  funext j
  idx_vars j
  pointwise [k0_pay132, T2_apply, T3_apply, TE_apply, zero_add]
  simp only [← EReal.coe_mul, coe_sum, mul_one, zero_sub, ← EReal.coe_neg]
  simp only [rowDot, Finset.sum_range, zero_add]

/-- The earlier keys' share of the values' gradient. -/
theorem t55 : k0_pay133 (F := Ideal) (T2 1536 0 (ex q k)) (T2 1536 0 fun r _ => 1 / den q k r) (T2 1536 0 (gout z dy)) = T2 0 0 (stepV q k v z dy 1536) := by
  funext j
  idx_vars j
  pointwise [k0_pay133, t53, T2_apply, T3_apply, TE_apply, zero_add]
  simp only [← EReal.coe_mul, ← EReal.coe_add, ← EReal.coe_sub, ← EReal.coe_neg, ← EReal.coe_zero, ← EReal.coe_one, coe_sum, Ideal.exp_coe]
  simp only [stepV, termV, Finset.sum_range, zero_add, mul_one_div]

/-- The diagonal keys' share of the values' gradient. -/
theorem t57 : k0_pay135 (F := Ideal) (T2 1536 1536 (ex q k)) (T2 1536 0 fun r _ => 1 / den q k r) (T2 1536 0 (gout z dy)) = T2 1536 0 (stepV q k v z dy 1536) := by
  funext j
  idx_vars j
  pointwise [k0_pay135, t53, T2_apply, T3_apply, TE_apply, zero_add]
  simp only [← EReal.coe_mul, ← EReal.coe_add, ← EReal.coe_sub, ← EReal.coe_neg, ← EReal.coe_zero, ← EReal.coe_one, coe_sum, Ideal.exp_coe]
  simp only [stepV, termV, Finset.sum_range, zero_add, mul_one_div]

/-- The gradient of the scores against the earlier keys. -/
theorem t56 : k0_pay134 (F := Ideal) (T2 0 0 v) (T2 1536 0 (ex q k)) (T2 1536 0 (wsum q k v)) (T2 1536 0 fun r _ => 1 / den q k r) (T2 1536 0 fun r _ => 1 / (den q k r * den q k r)) (T2 1536 0 (gout z dy)) = T2 1536 0 (dscore q k v z dy) := by
  funext j
  idx_vars j
  pointwise [k0_pay134, t53, t54, T2_apply, T3_apply, TE_apply, zero_add]
  simp only [← EReal.coe_mul, ← EReal.coe_add, ← EReal.coe_sub, ← EReal.coe_neg, ← EReal.coe_zero, ← EReal.coe_one, coe_sum, Ideal.exp_coe]
  rw [dscore_kernel]
  simp only [Finset.sum_range, zero_add, Fin.sum_univ_one]

/-- The gradient of the diagonal scores. -/
theorem t60 : k0_pay138 (F := Ideal) (T2 1536 0 v) k0_pay112 (T2 1536 1536 (ex q k)) (T2 1536 0 (wsum q k v)) (T2 1536 0 fun r _ => 1 / den q k r) (T2 1536 0 fun r _ => 1 / (den q k r * den q k r)) (T2 1536 0 (gout z dy)) = T2 1536 1536 (dscore q k v z dy) := by
  funext j
  idx_vars j
  pointwise [k0_pay138, t34, t53, t54, T2_apply, T3_apply, TE_apply, zero_add]
  simp only [← EReal.coe_mul, ← EReal.coe_add, ← EReal.coe_sub, ← EReal.coe_neg, ← EReal.coe_zero, ← EReal.coe_one, coe_sum, Ideal.exp_coe]
  rw [select_chunk]
  split
  · rw [dscore_kernel]
    simp only [Finset.sum_range, zero_add, Fin.sum_univ_one]
  · rename_i h
    rw [dscore, ex, if_neg (fun h' => h ((live_add 1536 _ _ rfl).1 h')), zero_mul]

/-- The earlier keys' share of the queries' gradient. -/
theorem t58 : k0_pay136 (F := Ideal) (T2 0 0 k) (T2 0 0 v) (T2 1536 0 (ex q k)) (T2 1536 0 (wsum q k v)) (T2 1536 0 fun r _ => 1 / den q k r) (T2 1536 0 fun r _ => 1 / (den q k r * den q k r)) (T2 1536 0 (gout z dy)) = T2 1536 0 fun r d => ∑ c ∈ Finset.range 1536, dscore q k v z dy r c * k c d := by
  funext j
  idx_vars j
  pointwise [k0_pay136, t56, T2_apply, T3_apply, TE_apply, zero_add]
  simp only [← EReal.coe_mul, ← EReal.coe_add, ← EReal.coe_sub, ← EReal.coe_neg, ← EReal.coe_zero, ← EReal.coe_one, coe_sum, Ideal.exp_coe]
  simp only [Finset.sum_range, zero_add]

/-- The diagonal keys' share of the queries' gradient. -/
theorem t61 : k0_pay139 (F := Ideal) (T2 1536 0 k) (T2 1536 0 v) k0_pay112 (T2 1536 1536 (ex q k)) (T2 1536 0 (wsum q k v)) (T2 1536 0 fun r _ => 1 / den q k r) (T2 1536 0 fun r _ => 1 / (den q k r * den q k r)) (T2 1536 0 (gout z dy)) = T2 1536 0 fun r d => ∑ c ∈ Finset.range 512, dscore q k v z dy r (1536 + c) * k (1536 + c) d := by
  funext j
  idx_vars j
  pointwise [k0_pay139, t60, T2_apply, T3_apply, TE_apply, zero_add]
  simp only [← EReal.coe_mul, ← EReal.coe_add, ← EReal.coe_sub, ← EReal.coe_neg, ← EReal.coe_zero, ← EReal.coe_one, coe_sum, Ideal.exp_coe]
  simp only [Finset.sum_range, zero_add]

/-- The earlier keys' gradient. -/
theorem t59 : k0_pay137 (F := Ideal) (T2 0 0 v) (T2 1536 0 fun r d => q r d * scale) (T2 1536 0 (ex q k)) (T2 1536 0 (wsum q k v)) (T2 1536 0 fun r _ => 1 / den q k r) (T2 1536 0 fun r _ => 1 / (den q k r * den q k r)) (T2 1536 0 (gout z dy)) = T2 0 0 (stepK q k v z dy 1536) := by
  funext j
  idx_vars j
  pointwise [k0_pay137, t56, T2_apply, T3_apply, TE_apply, zero_add]
  simp only [← EReal.coe_mul, ← EReal.coe_add, ← EReal.coe_sub, ← EReal.coe_neg, ← EReal.coe_zero, ← EReal.coe_one, coe_sum, Ideal.exp_coe]
  simp only [stepK, termK, Finset.sum_range, Finset.sum_mul, zero_add, mul_assoc]

/-- The gradient of the diagonal scores, cast. -/
theorem t62 : k0_pay140 (F := Ideal) (T2 1536 0 v) k0_pay112 (T2 1536 1536 (ex q k)) (T2 1536 0 (wsum q k v)) (T2 1536 0 fun r _ => 1 / den q k r) (T2 1536 0 fun r _ => 1 / (den q k r * den q k r)) (T2 1536 0 (gout z dy)) = T2 1536 1536 (dscore q k v z dy) := by
  funext j
  idx_vars j
  pointwise [k0_pay140, t60, T2_apply, T3_apply, TE_apply, zero_add]

/-- The gradient of the queries. -/
theorem t63 : k0_pay141 (F := Ideal) (T2 1536 0 fun r d => ∑ c ∈ Finset.range 1536, dscore q k v z dy r c * k c d) (T2 1536 0 fun r d => ∑ c ∈ Finset.range 512, dscore q k v z dy r (1536 + c) * k (1536 + c) d) = T3 1536 0 (gradQ q k v z dy) := by
  funext j
  idx_vars j
  pointwise [k0_pay141, ofBits_scale, T2_apply, T3_apply, TE_apply, zero_add]
  simp only [← EReal.coe_mul, ← EReal.coe_add, ← EReal.coe_sub, ← EReal.coe_neg, ← EReal.coe_zero, ← EReal.coe_one, coe_sum, Ideal.exp_coe]
  rw [gradQ, sum_split (n := 1536) (by decide) _ (fun c hc => by rw [dscore_dead q k v z dy (n := 1536) rfl (by omega) hc, zero_mul]), add_comm]

/-- The cast of the gate's gradient. -/
theorem t64 (a b : ℕ) (f : ℕ → ℕ → ℝ) : k0_pay142 (F := Ideal) (T2 a b f) = T2 a b f := by
  funext j
  idx_vars j
  pointwise [k0_pay142, T2_apply, T3_apply, TE_apply, zero_add]

/-- The diagonal keys' gradient put on top of what was there. -/
theorem t65 (f : ℕ → ℕ → ℝ) : k0_pay143 (F := Ideal) (T2 1536 0 fun r d => q r d * scale) (T2 1536 1536 (dscore q k v z dy)) (T3 1536 0 f) = T3 1536 0 fun c d => f c d + stepK q k v z dy 1536 c d := by
  funext j
  idx_vars j
  pointwise [k0_pay143, T2_apply, T3_apply, TE_apply, zero_add]
  simp only [← EReal.coe_mul, ← EReal.coe_add, ← EReal.coe_sub, ← EReal.coe_neg, ← EReal.coe_zero, ← EReal.coe_one, coe_sum, Ideal.exp_coe]
  simp only [stepK, termK, Finset.sum_range, Finset.sum_mul, zero_add, mul_assoc]

/-- The diagonal values' gradient put on top of what was there. -/
theorem t66 (f : ℕ → ℕ → ℝ) : k0_pay144 (F := Ideal) (T2 1536 0 (stepV q k v z dy 1536)) (T3 1536 0 f) = T3 1536 0 fun c d => f c d + stepV q k v z dy 1536 c d := by
  funext j
  idx_vars j
  pointwise [k0_pay144, T2_apply, T3_apply, TE_apply, zero_add]
  rw [← EReal.coe_add]

/-- The earlier keys' gradient put on top of what was there. -/
theorem t67 (f : ℕ → ℕ → ℝ) : k0_pay145 (F := Ideal) (T2 0 0 (stepK q k v z dy 1536)) (T3 0 0 f) = T3 0 0 fun c d => f c d + stepK q k v z dy 1536 c d := by
  funext j
  idx_vars j
  pointwise [k0_pay145, T2_apply, T3_apply, TE_apply, zero_add]
  rw [← EReal.coe_add]

/-- The earlier values' gradient put on top of what was there. -/
theorem t8 (f : ℕ → ℕ → ℝ) : k0_pay10 (F := Ideal) (T2 0 0 (stepV q k v z dy 1536)) (T3 0 0 f) = T3 0 0 fun c d => f c d + stepV q k v z dy 1536 c d := by
  funext j
  idx_vars j
  pointwise [k0_pay10, T2_apply, T3_apply, TE_apply, zero_add]
  rw [← EReal.coe_add]

/-- The point's gradient of the gate. -/
theorem dz_eq : dz (F := Ideal) (T3 0 0 k) (T3 0 0 v) (T3 1536 0 k) (T3 1536 0 v) (T3 1536 0 q) (T2 1536 0 z) (T2 1536 0 dy) = T2 1536 0 (gradZ q k v z dy) := by
  simp only [dz, sp, mx, td, ed, ep, o, rinv, rinv2, g, t29, t30, t31, t32, t33, t36, t37, t38, t39, t40, t42, t43, t44, t49, t50, t51, t52, t64]

/-- The point's gradient of the queries. -/
theorem dq_eq : dq (F := Ideal) (T3 0 0 k) (T3 0 0 v) (T3 1536 0 k) (T3 1536 0 v) (T3 1536 0 q) (T2 1536 0 z) (T2 1536 0 dy) = T3 1536 0 (gradQ q k v z dy) := by
  simp only [dq, sp, mx, td, ed, ep, o, rinv, rinv2, g, t29, t30, t31, t32, t33, t36, t37, t38, t39, t40, t42, t43, t44, t49, t58, t61, t63]

/-- The point's gradient of the diagonal keys. -/
theorem dkd_eq (f : ℕ → ℕ → ℝ) : dkd (F := Ideal) (T3 0 0 k) (T3 0 0 v) (T3 1536 0 k) (T3 1536 0 v) (T3 1536 0 q) (T2 1536 0 z) (T2 1536 0 dy) (T3 1536 0 f) = T3 1536 0 fun c d => f c d + stepK q k v z dy 1536 c d := by
  simp only [dkd, sp, mx, td, ed, ep, o, rinv, rinv2, g, t29, t30, t31, t32, t33, t36, t37, t38, t39, t40, t42, t43, t44, t49, t62, t65]

/-- The point's gradient of the diagonal values. -/
theorem dvd_eq (f : ℕ → ℕ → ℝ) : dvd (F := Ideal) (T3 0 0 k) (T3 0 0 v) (T3 1536 0 k) (T3 1536 0 v) (T3 1536 0 q) (T2 1536 0 z) (T2 1536 0 dy) (T3 1536 0 f) = T3 1536 0 fun c d => f c d + stepV q k v z dy 1536 c d := by
  simp only [dvd, sp, mx, td, ed, ep, o, rinv, rinv2, g, t29, t30, t31, t32, t33, t36, t37, t38, t39, t40, t42, t43, t44, t49, t57 q k v z dy, t66]

/-- The point's gradient of the earlier keys. -/
theorem dkp_eq (f : ℕ → ℕ → ℝ) : dkp (F := Ideal) (T3 0 0 k) (T3 0 0 v) (T3 1536 0 k) (T3 1536 0 v) (T3 1536 0 q) (T2 1536 0 z) (T2 1536 0 dy) (T3 0 0 f) = T3 0 0 fun c d => f c d + stepK q k v z dy 1536 c d := by
  simp only [dkp, sp, mx, td, ed, ep, o, rinv, rinv2, g, t29, t30, t31, t32, t33, t36, t37, t38, t39, t40, t42, t43, t44, t49, t59, t67]

/-- The point's gradient of the earlier values. -/
theorem dvp_eq (f : ℕ → ℕ → ℝ) : dvp (F := Ideal) (T3 0 0 k) (T3 0 0 v) (T3 1536 0 k) (T3 1536 0 v) (T3 1536 0 q) (T2 1536 0 z) (T2 1536 0 dy) (T3 0 0 f) = T3 0 0 fun c d => f c d + stepV q k v z dy 1536 c d := by
  simp only [dvp, sp, mx, td, ed, ep, o, rinv, rinv2, g, t29, t30, t31, t32, t33, t36, t37, t38, t39, t40, t42, t43, t44, t49, t55 q k v z dy, t8]

end CaseD

variable (q k v z dy : ℕ → ℕ → ℝ)

/-- What the point writes to the gradient of the queries. -/
theorem outDqD_eq : outDqD (F := Ideal) (T3 1536 0 q) (T3 0 0 k) (T3 0 0 v) (T2 1536 0 z) (T2 1536 0 dy) = T3 1536 0 (gradQ q k v z dy) := by
  unfold outDqD
  erw [ld_T3, ld_T3, ld_T3, ld_T3]
  exact CaseD.dq_eq q k v z dy

/-- What the point writes to the gradient of the gate. -/
theorem outDzD_eq : outDzD (F := Ideal) (T3 1536 0 q) (T3 0 0 k) (T3 0 0 v) (T2 1536 0 z) (T2 1536 0 dy) = T2 1536 0 (gradZ q k v z dy) := by
  unfold outDzD
  erw [ld_T3, ld_T3, ld_T3, ld_T3]
  exact CaseD.dz_eq q k v z dy

/-- What the point leaves in the gradient of the keys. -/
theorem outDkD_eq (f : ℕ → ℕ → ℝ) : outDkD (F := Ideal) (T3 1536 0 q) (T3 0 0 k) (T3 0 0 v) (T2 1536 0 z) (T2 1536 0 dy) (T3 0 0 f) = T3 0 0 fun c d => f c d + stepK q k v z dy 1536 c d := by
  unfold outDkD
  erw [ld_T3, ld_T3, ld_T3, ld_T3, ld_T3, ld_T3, CaseD.dkd_eq q k v z dy f, CaseD.dkp_eq q k v z dy f]
  erw [overlay_T3, overlay_T3]
  congr 1
  funext c d
  split
  · rfl
  split
  · rfl
  · rw [stepK_dead q k v z dy d (n := 1536) rfl (by omega), add_zero]

/-- What the point leaves in the gradient of the values. -/
theorem outDvD_eq (f : ℕ → ℕ → ℝ) : outDvD (F := Ideal) (T3 1536 0 q) (T3 0 0 k) (T3 0 0 v) (T2 1536 0 z) (T2 1536 0 dy) (T3 0 0 f) = T3 0 0 fun c d => f c d + stepV q k v z dy 1536 c d := by
  unfold outDvD
  erw [ld_T3, ld_T3, ld_T3, ld_T3, ld_T3, ld_T3, CaseD.dvd_eq q k v z dy f, CaseD.dvp_eq q k v z dy f]
  erw [overlay_T3, overlay_T3]
  congr 1
  funext c d
  split
  · rfl
  split
  · rfl
  · rw [stepV_dead q k v z dy d (n := 1536) rfl (by omega), add_zero]

end Cert.KernelIdeal.Body

end
-- ==== Proof.Final.lean ====
module

public import Idealize.ShloMosaic.Lib.WordCmp
public import Idealize.ShloMosaic.Lib.Pointwise
public import Idealize.ShloMosaic.Lib.ValueIdx
public import Idealize.ShloMosaic.PureOps.Ideal.Laws
public import Idealize.ShloMosaic.Lib.Pipeline.ValueKit
public import Idealize.ShloMosaic.Lib.Claim
public import proofs.«01_k».proof.Proof.Blocks
public import proofs.«01_k».proof.Proof.ValA
public import proofs.«01_k».proof.Proof.ValB
public import proofs.«01_k».proof.Proof.ValC
public import proofs.«01_k».proof.Proof.ValD

@[expose] public section

set_option maxRecDepth 16384

noncomputable section

namespace Cert.KernelIdeal.Body

open Idealize.ShloMosaic Idealize.ShloMosaic.Tactic
open Cert.KernelIdeal Cert.KernelIdeal.Gen

open Idealize.ShloMosaic.TcCoe Idealize.ShloMosaic.Pipeline Idealize.SL Idealize.SL.RA

/-! ## What the arrays hold at the end -/

variable {m : (ℓ : Loc nD τ sig) → Buf (Elt Ideal) ℓ} {c : Dev nD} (H : Finite m c)

/-- Head `h`'s gradient of the queries, keys, values and gate, as the specification has them. -/
def gq (m : (ℓ : Loc nD τ sig) → Buf (Elt Ideal) ℓ) (c : Dev nD) (h : ℕ) : ℕ → ℕ → ℝ := gradQ (qm m c h) (km m c h) (vm m c h) (zm m c h) (dym m c h)
def gk (m : (ℓ : Loc nD τ sig) → Buf (Elt Ideal) ℓ) (c : Dev nD) (h : ℕ) : ℕ → ℕ → ℝ := gradK (qm m c h) (km m c h) (vm m c h) (zm m c h) (dym m c h)
def gv (m : (ℓ : Loc nD τ sig) → Buf (Elt Ideal) ℓ) (c : Dev nD) (h : ℕ) : ℕ → ℕ → ℝ := gradV (qm m c h) (km m c h) (vm m c h) (zm m c h) (dym m c h)
def gz (m : (ℓ : Loc nD τ sig) → Buf (Elt Ideal) ℓ) (c : Dev nD) (h : ℕ) : ℕ → ℕ → ℝ := gradZ (qm m c h) (km m c h) (vm m c h) (zm m c h) (dym m c h)

include H

/-- Every point writes its rows of the gradient of the queries. -/
theorem dqAt_eq (t : Fin cfg0.N) : dqAt (F := Ideal) m c t = T3 (512 * (t.val % 4)) 0 (gq m c (t.val / 4)) := by
  unfold dqAt
  rw [iblk0 H, iblk1 H, iblk2 H, iblk3 H, iblk4 H]
  have h4 : t.val % 4 = 0 ∨ t.val % 4 = 1 ∨ t.val % 4 = 2 ∨ t.val % 4 = 3 := by omega
  rcases h4 with h | h | h | h
  · rw [if_pos h, h]; exact outDqA_eq _ _ _ _ _
  · rw [if_neg (by omega), if_pos h, h]; exact outDqB_eq _ _ _ _ _
  · rw [if_neg (by omega), if_neg (by omega), if_pos h, h]; exact outDqC_eq _ _ _ _ _
  · rw [if_neg (by omega), if_neg (by omega), if_neg (by omega), h]; exact outDqD_eq _ _ _ _ _

/-- Every point writes its rows of the gradient of the gate. -/
theorem dzAt_eq (t : Fin cfg0.N) : dzAt (F := Ideal) m c t = T2 (512 * (t.val % 4)) 0 (gz m c (t.val / 4)) := by
  unfold dzAt
  rw [iblk0 H, iblk1 H, iblk2 H, iblk3 H, iblk4 H]
  have h4 : t.val % 4 = 0 ∨ t.val % 4 = 1 ∨ t.val % 4 = 2 ∨ t.val % 4 = 3 := by omega
  rcases h4 with h | h | h | h
  · rw [if_pos h, h]; exact outDzA_eq _ _ _ _ _
  · rw [if_neg (by omega), if_pos h, h]; exact outDzB_eq _ _ _ _ _
  · rw [if_neg (by omega), if_neg (by omega), if_pos h, h]; exact outDzC_eq _ _ _ _ _
  · rw [if_neg (by omega), if_neg (by omega), if_neg (by omega), h]; exact outDzD_eq _ _ _ _ _

/-- The gradient of the keys after query block 0 of a head. -/
theorem dkAcc_A_eq (t : Fin cfg0.N) (h : t.val % 4 = 0) :
    dkAcc (F := Ideal) m c t.val = T3 0 0 (stepK (qm m c (t.val / 4)) (km m c (t.val / 4)) (vm m c (t.val / 4)) (zm m c (t.val / 4)) (dym m c (t.val / 4)) 0) := by
  rw [dkAcc_A m c t h, iblk0 H, iblk1 H, iblk2 H, iblk3 H, iblk4 H, h]
  exact outDkA_eq _ _ _ _ _

/-- The gradient of the keys after query block 1 of a head. -/
theorem dkAcc_B_eq (t : Fin cfg0.N) (h : t.val % 4 = 1) {f : ℕ → ℕ → ℝ} (hf : dkAcc (F := Ideal) m c (t.val - 1) = T3 0 0 f) :
    dkAcc (F := Ideal) m c t.val = T3 0 0 fun a d => f a d + stepK (qm m c (t.val / 4)) (km m c (t.val / 4)) (vm m c (t.val / 4)) (zm m c (t.val / 4)) (dym m c (t.val / 4)) 512 a d := by
  rw [dkAcc_B m c t h, iblk0 H, iblk1 H, iblk2 H, iblk3 H, iblk4 H, h, hf]
  exact outDkB_eq _ _ _ _ _ f

/-- The gradient of the keys after query block 2 of a head. -/
theorem dkAcc_C_eq (t : Fin cfg0.N) (h : t.val % 4 = 2) {f : ℕ → ℕ → ℝ} (hf : dkAcc (F := Ideal) m c (t.val - 1) = T3 0 0 f) :
    dkAcc (F := Ideal) m c t.val = T3 0 0 fun a d => f a d + stepK (qm m c (t.val / 4)) (km m c (t.val / 4)) (vm m c (t.val / 4)) (zm m c (t.val / 4)) (dym m c (t.val / 4)) 1024 a d := by
  rw [dkAcc_C m c t h, iblk0 H, iblk1 H, iblk2 H, iblk3 H, iblk4 H, h, hf]
  exact outDkC_eq _ _ _ _ _ f

/-- The gradient of the keys after query block 3 of a head. -/
theorem dkAcc_D_eq (t : Fin cfg0.N) (h : t.val % 4 = 3) {f : ℕ → ℕ → ℝ} (hf : dkAcc (F := Ideal) m c (t.val - 1) = T3 0 0 f) :
    dkAcc (F := Ideal) m c t.val = T3 0 0 fun a d => f a d + stepK (qm m c (t.val / 4)) (km m c (t.val / 4)) (vm m c (t.val / 4)) (zm m c (t.val / 4)) (dym m c (t.val / 4)) 1536 a d := by
  rw [dkAcc_D m c t h, iblk0 H, iblk1 H, iblk2 H, iblk3 H, iblk4 H, h, hf]
  exact outDkD_eq _ _ _ _ _ f

/-- After the last query block of a head the buffer holds the head's gradient of the keys. -/
theorem dkAcc_last (t : Fin cfg0.N) (h : t.val % 4 = 3) : dkAcc (F := Ideal) m c t.val = T3 0 0 (gk m c (t.val / 4)) := by
  have ht := lt32 t
  let t0 : Fin cfg0.N := ⟨t.val - 3, by have := t.isLt; omega⟩
  let t1 : Fin cfg0.N := ⟨t.val - 2, by have := t.isLt; omega⟩
  let t2 : Fin cfg0.N := ⟨t.val - 1, by have := t.isLt; omega⟩
  have e0 : t0.val / 4 = t.val / 4 := by show (t.val - 3) / 4 = _; omega
  have e1 : t1.val / 4 = t.val / 4 := by show (t.val - 2) / 4 = _; omega
  have e2 : t2.val / 4 = t.val / 4 := by show (t.val - 1) / 4 = _; omega
  have h0 := dkAcc_A_eq H t0 (by show (t.val - 3) % 4 = 0; omega)
  have h1 := dkAcc_B_eq H t1 (by show (t.val - 2) % 4 = 1; omega) (f := _) (by rw [show t1.val - 1 = t0.val from by show t.val - 2 - 1 = t.val - 3; omega]; exact h0)
  have h2 := dkAcc_C_eq H t2 (by show (t.val - 1) % 4 = 2; omega) (f := _) (by rw [show t2.val - 1 = t1.val from by show t.val - 1 - 1 = t.val - 2; omega]; exact h1)
  have h3 := dkAcc_D_eq H t h (f := _) h2
  rw [h3, e0, e1, e2]
  congr 1
  funext a d
  exact (gradK_eq _ _ _ _ _ a d).symm

/-- The gradient of the values after query block 0 of a head. -/
theorem dvAcc_A_eq (t : Fin cfg0.N) (h : t.val % 4 = 0) :
    dvAcc (F := Ideal) m c t.val = T3 0 0 (stepV (qm m c (t.val / 4)) (km m c (t.val / 4)) (vm m c (t.val / 4)) (zm m c (t.val / 4)) (dym m c (t.val / 4)) 0) := by
  rw [dvAcc_A m c t h, iblk0 H, iblk1 H, iblk2 H, iblk3 H, iblk4 H, h]
  exact outDvA_eq _ _ _ _ _

/-- The gradient of the values after query block 1 of a head. -/
theorem dvAcc_B_eq (t : Fin cfg0.N) (h : t.val % 4 = 1) {f : ℕ → ℕ → ℝ} (hf : dvAcc (F := Ideal) m c (t.val - 1) = T3 0 0 f) :
    dvAcc (F := Ideal) m c t.val = T3 0 0 fun a d => f a d + stepV (qm m c (t.val / 4)) (km m c (t.val / 4)) (vm m c (t.val / 4)) (zm m c (t.val / 4)) (dym m c (t.val / 4)) 512 a d := by
  rw [dvAcc_B m c t h, iblk0 H, iblk1 H, iblk2 H, iblk3 H, iblk4 H, h, hf]
  exact outDvB_eq _ _ _ _ _ f

/-- The gradient of the values after query block 2 of a head. -/
theorem dvAcc_C_eq (t : Fin cfg0.N) (h : t.val % 4 = 2) {f : ℕ → ℕ → ℝ} (hf : dvAcc (F := Ideal) m c (t.val - 1) = T3 0 0 f) :
    dvAcc (F := Ideal) m c t.val = T3 0 0 fun a d => f a d + stepV (qm m c (t.val / 4)) (km m c (t.val / 4)) (vm m c (t.val / 4)) (zm m c (t.val / 4)) (dym m c (t.val / 4)) 1024 a d := by
  rw [dvAcc_C m c t h, iblk0 H, iblk1 H, iblk2 H, iblk3 H, iblk4 H, h, hf]
  exact outDvC_eq _ _ _ _ _ f

/-- The gradient of the values after query block 3 of a head. -/
theorem dvAcc_D_eq (t : Fin cfg0.N) (h : t.val % 4 = 3) {f : ℕ → ℕ → ℝ} (hf : dvAcc (F := Ideal) m c (t.val - 1) = T3 0 0 f) :
    dvAcc (F := Ideal) m c t.val = T3 0 0 fun a d => f a d + stepV (qm m c (t.val / 4)) (km m c (t.val / 4)) (vm m c (t.val / 4)) (zm m c (t.val / 4)) (dym m c (t.val / 4)) 1536 a d := by
  rw [dvAcc_D m c t h, iblk0 H, iblk1 H, iblk2 H, iblk3 H, iblk4 H, h, hf]
  exact outDvD_eq _ _ _ _ _ f

/-- After the last query block of a head the buffer holds the head's gradient of the values. -/
theorem dvAcc_last (t : Fin cfg0.N) (h : t.val % 4 = 3) : dvAcc (F := Ideal) m c t.val = T3 0 0 (gv m c (t.val / 4)) := by
  have ht := lt32 t
  let t0 : Fin cfg0.N := ⟨t.val - 3, by have := t.isLt; omega⟩
  let t1 : Fin cfg0.N := ⟨t.val - 2, by have := t.isLt; omega⟩
  let t2 : Fin cfg0.N := ⟨t.val - 1, by have := t.isLt; omega⟩
  have e0 : t0.val / 4 = t.val / 4 := by show (t.val - 3) / 4 = _; omega
  have e1 : t1.val / 4 = t.val / 4 := by show (t.val - 2) / 4 = _; omega
  have e2 : t2.val / 4 = t.val / 4 := by show (t.val - 1) / 4 = _; omega
  have h0 := dvAcc_A_eq H t0 (by show (t.val - 3) % 4 = 0; omega)
  have h1 := dvAcc_B_eq H t1 (by show (t.val - 2) % 4 = 1; omega) (f := _) (by rw [show t1.val - 1 = t0.val from by show t.val - 2 - 1 = t.val - 3; omega]; exact h0)
  have h2 := dvAcc_C_eq H t2 (by show (t.val - 1) % 4 = 2; omega) (f := _) (by rw [show t2.val - 1 = t1.val from by show t.val - 1 - 1 = t.val - 2; omega]; exact h1)
  have h3 := dvAcc_D_eq H t h (f := _) h2
  rw [h3, e0, e1, e2]
  congr 1
  funext a d
  exact (gradV_eq _ _ _ _ _ a d).symm

/-- The gradient of the queries at the end. -/
theorem arr5 : (dats (F := Ideal) m 0 c).arrAt 5 cfg0.N = fun i : S8x2048x192.Idx => ((gq m c (i 0).val (i 1).val (i 2).val : ℝ) : EReal) := by
  refine (dats m 0 c).arrAt_eq_of_covers 5 _ (by decide +kernel) fun t hf y => ?_
  blk_simp
  rw [after5, dqAt_eq H]
  simp only [idx5 t, T3, Matrix.cons_val_zero, Matrix.cons_val_one, Matrix.cons_val, Nat.zero_mul, Nat.mul_comm 512]

/-- The gradient of the keys at the end. -/
theorem arr6 : (dats (F := Ideal) m 0 c).arrAt 6 cfg0.N = fun i : S8x2048x192.Idx => ((gk m c (i 0).val (i 1).val (i 2).val : ℝ) : EReal) := by
  refine (dats m 0 c).arrAt_eq_of_covers 6 _ (by decide +kernel) fun t hf y => ?_
  blk_simp
  rw [after6, dkAcc_last H t ((flush0_6 t).1 hf)]
  simp only [idx6 t, T3, Matrix.cons_val_zero, Matrix.cons_val_one, Matrix.cons_val, Nat.zero_mul]

/-- The gradient of the values at the end. -/
theorem arr7 : (dats (F := Ideal) m 0 c).arrAt 7 cfg0.N = fun i : S8x2048x128.Idx => ((gv m c (i 0).val (i 1).val (i 2).val : ℝ) : EReal) := by
  refine (dats m 0 c).arrAt_eq_of_covers 7 _ (by decide +kernel) fun t hf y => ?_
  blk_simp
  rw [after7, dvAcc_last H t ((flush0_7 t).1 hf)]
  simp only [idx7 t, T3, Matrix.cons_val_zero, Matrix.cons_val_one, Matrix.cons_val, Nat.zero_mul]

/-- The gradient of the projections at the end: the gate's columns are written, the others are what they were. -/
theorem arr8 : (dats (F := Ideal) m 0 c).arrAt 8 cfg0.N
    = fun i : S2048x10752.Idx => if 3840 ≤ (i 1).val ∧ (i 1).val < 4864
        then ((gz m c (((i 1).val - 3840) / 128) (i 0).val (((i 1).val - 3840) % 128) : ℝ) : EReal)
        else (m ((c : Thread nD τ).loc main_arg5) i : EReal) := by
  have hA : (dats (F := Ideal) m 0 c).A 8 = m ((c : Thread nD τ).loc main_arg5) := by
    rw [A_eq]
    entry_read
    rfl
  rw [← hA]
  refine (dats m 0 c).arrAt_eq_of_coversWhere 8 (fun i : S2048x10752.Idx => ((gz m c (((i 1).val - 3840) / 128) (i 0).val (((i 1).val - 3840) % 128) : ℝ) : EReal))
    (fun β => 30 ≤ β (1 : Fin 2) ∧ β (1 : Fin 2) < 38) (by decide +kernel) (fun t hf y => ?_) (fun j => ?_)
  · blk_simp
    rw [after8, dzAt_eq H]
    have hy : (y 1).val < 128 := (y 1).isLt
    have ht := lt32 t
    simp only [idx8 t, T2, Matrix.cons_val_zero, Matrix.cons_val_one, Matrix.cons_val]
    have e1 : ((30 + t.val / 4) * 128 + (y 1).val - 3840) / 128 = t.val / 4 := by omega
    have e2 : ((30 + t.val / 4) * 128 + (y 1).val - 3840) % 128 = (y 1).val := by omega
    rw [e1, e2, Nat.mul_comm 512, Nat.zero_add]
  · blk_simp [Pipeline.Window.cell_apply]
    omega

end Cert.KernelIdeal.Body

end
-- ==== Proof.Equal.lean ====
module

public import proofs.«01_k».proof.Proof.Gen.ReferenceIdeal.Read
public import proofs.«01_k».proof.Proof.Lift
public import proofs.«01_k».proof.Proof.RefWindow
public import proofs.«01_k».proof.Proof.Final
@[expose] public section

set_option maxRecDepth 16384

noncomputable section

namespace Cert.Equal

open Idealize.ShloMosaic Idealize.ShloMosaic.Tactic
open Cert.ReferenceIdeal.Read Cert.ReferenceIdeal.Value
open Cert.KernelIdeal.Body
open Idealize.ShloMosaic.TcCoe Idealize.ShloMosaic.Pipeline Idealize.SL Idealize.SL.RA

/-! # The reference's results on the kernel's arrays -/

variable {m : (ℓ : Loc Cert.KernelIdeal.nD Cert.KernelIdeal.τ Cert.KernelIdeal.sig) → Buf (Elt Ideal) ℓ} {c : Dev Cert.KernelIdeal.nD}
  (H : Finite m c)

include H

/-- The queries, as an array of reals. -/
theorem qs_eq : qs m c = A3 fun h => qm m c h := by
  funext i
  idx_vars i
  exact (M3_coe H.q (Fin.isLt _) (Fin.isLt _) (Fin.isLt _)).symm

/-- The keys, as an array of reals. -/
theorem ks_eq : ks m c = A3 fun h => km m c h := by
  funext i
  idx_vars i
  exact (M3_coe H.k (Fin.isLt _) (Fin.isLt _) (Fin.isLt _)).symm

/-- The values, as an array of reals. -/
theorem vs_eq : vs m c = A3 fun h => vm m c h := by
  funext i
  idx_vars i
  exact (M3_coe H.v (Fin.isLt _) (Fin.isLt _) (Fin.isLt _)).symm

/-- The gate's input, as a matrix of reals. -/
theorem zs_eq : val_main_v0 (F := Ideal) (ps m c) = AZ fun h => zm m c h := by
  funext i
  idx_vars i
  pointwise [val_main_v0, AZ_apply]
  refine Eq.trans ?_ (zm_coe H (h := i1.val / 128) (r := i0.val) (d := i1.val % 128) (by omega) (by omega) (by omega)).symm
  have e : 3840 + i1.val = 3840 + 128 * (i1.val / 128) + i1.val % 128 := by omega
  simp only [e]

/-- The incoming gradient, as a matrix of reals. -/
theorem dys_eq : dys m c = AZ fun h => dym m c h := by
  funext i
  idx_vars i
  rw [AZ_apply]
  refine Eq.trans ?_ (M2_coe H.dy (o := 128 * (i1.val / 128)) (r := i0.val) (d := i1.val % 128) (by omega) (by omega)).symm
  have e : i1.val = 128 * (i1.val / 128) + i1.val % 128 := by omega
  exact congrArg (dys m c) (congrArg (ix2 i0) (Fin.ext e))

/-- The reference's gradient of the queries. -/
theorem refQ : val_main_v70 (F := Ideal) (qs m c) (ks m c) (vs m c) (ps m c) (dys m c)
    = fun i => ((gq m c (i 0).val (i 1).val (i 2).val : ℝ) : EReal) := by
  rw [qs_eq H, ks_eq H, vs_eq H, dys_eq H, v70_eq _ _ _ _ _ _ (zs_eq H)]
  rfl

/-- The reference's gradient of the keys. -/
theorem refK : val_main_v69 (F := Ideal) (qs m c) (ks m c) (vs m c) (ps m c) (dys m c)
    = fun i => ((gk m c (i 0).val (i 1).val (i 2).val : ℝ) : EReal) := by
  rw [qs_eq H, ks_eq H, vs_eq H, dys_eq H, v69_eq _ _ _ _ _ _ (zs_eq H)]
  rfl

/-- The reference's gradient of the values. -/
theorem refV : val_main_v53 (F := Ideal) (qs m c) (ks m c) (ps m c) (dys m c)
    = fun i => ((gv m c (i 0).val (i 1).val (i 2).val : ℝ) : EReal) := by
  rw [qs_eq H, ks_eq H, dys_eq H, v53_eq _ _ (fun h => vm m c h) _ _ _ (zs_eq H)]
  rfl

/-- The reference's fourth result. -/
theorem refZ (D : (⟨Cert.ReferenceIdeal.S2048x10752, .bf16⟩ : BufTy).Contents (Elt Ideal)) :
    val_main_v72 (F := Ideal) (qs m c) (ks m c) (vs m c) (ps m c) (dys m c) D
    = fun i => if 3840 ≤ (i 1).val ∧ (i 1).val < 4864
        then ((gz m c (((i 1).val - 3840) / 128) (i 0).val (((i 1).val - 3840) % 128) : ℝ) : EReal)
        else (D i : EReal) := by
  rw [qs_eq H, ks_eq H, vs_eq H, dys_eq H, v72_eq _ _ _ _ _ _ _ (zs_eq H)]
  rfl

end Cert.Equal

end
-- ==== Proof.InprojGrad.lean ====
module

public import Idealize.ShloMosaic.Lib.WordCmp
public import Idealize.ShloMosaic.Lib.Pointwise
public import Idealize.ShloMosaic.Lib.ValueIdx
public import Idealize.ShloMosaic.PureOps.Ideal.Laws
public import Idealize.ShloMosaic.Lib.Pipeline.ValueKit
public import Idealize.ShloMosaic.Lib.Claim
public import proofs.«01_k».proof.Proof.Gen.InprojBwdIdeal.Value
public import proofs.«01_k».proof.Proof.Gen.InprojBwdReferenceIdeal.Read

@[expose] public section

set_option maxRecDepth 16384

noncomputable section

namespace Cert.InprojBwdIdeal.Body

open Idealize.ShloMosaic Idealize.ShloMosaic.Tactic
open Cert.InprojBwdIdeal Cert.InprojBwdIdeal.Gen
open Idealize.ShloMosaic.TcCoe Idealize.ShloMosaic.Pipeline Idealize.SL Idealize.SL.RA

/-! # The backward pass of the input projection: what the two results hold -/

/-- The gradient of the weights: the incoming gradient's columns against the input's columns, summed over the tokens. -/
def gradW (dp : S2048x10752.Idx → EReal) (h : S2048x1024.Idx → EReal) : S1x10752x1024.Idx → EReal :=
  fun i => ∑ k : Fin 2048, dp (ix2 k (i 1)) * h (ix2 k (i 2))

/-- One product of the input's gradient, the column counted by a natural number. -/
def term (dp : S2048x10752.Idx → EReal) (w : S1x10752x1024.Idx → EReal) (i : S2048x1024.Idx) (k : ℕ) : EReal :=
  if hk : k < 10752 then dp (ix2 (i 0) ⟨k, hk⟩) * w (ix3 0 ⟨k, hk⟩ (i 1)) else 0

/-- The gradient of the input, summed over the first `n` columns of the projections. -/
def part (dp : S2048x10752.Idx → EReal) (w : S1x10752x1024.Idx → EReal) (n : ℕ) : S2048x1024.Idx → EReal :=
  fun i => ∑ k ∈ Finset.range n, term dp w i k

/-- The gradient of the input: the incoming gradient's rows against the weights' columns, summed over all the projections. -/
def gradH (dp : S2048x10752.Idx → EReal) (w : S1x10752x1024.Idx → EReal) : S2048x1024.Idx → EReal :=
  fun i => ∑ k : Fin 10752, dp (ix2 (i 0) k) * w (ix3 0 k (i 1))

/-- All the columns together are the gradient of the input. -/
theorem part_all (dp : S2048x10752.Idx → EReal) (w : S1x10752x1024.Idx → EReal) : part dp w 10752 = gradH dp w := by
  funext i
  unfold part gradH
  rw [Finset.sum_range]
  refine Finset.sum_congr rfl fun k _ => ?_
  unfold term
  rw [dif_pos k.isLt]

/-- 768 further columns. -/
theorem part_add (dp : S2048x10752.Idx → EReal) (w : S1x10752x1024.Idx → EReal) (n : ℕ) (i : S2048x1024.Idx) :
    part dp w (n + 768) i = part dp w n i + ∑ k : Fin 768, term dp w i (n + k.val) := by
  unfold part
  rw [Finset.sum_range_add, Finset.sum_range (n := 768)]

section
variable (m : (ℓ : Loc nD τ sig) → Buf (Elt Ideal) ℓ) (c : Dev nD)

/-- The incoming gradient. -/
def dps : S2048x10752.Idx → EReal := m ((c : Thread nD τ).loc main_arg0)
/-- The input. -/
def hs : S2048x1024.Idx → EReal := m ((c : Thread nD τ).loc main_arg1)
/-- The weights. -/
def ws : S1x10752x1024.Idx → EReal := m ((c : Thread nD τ).loc main_arg2)

theorem idx0 : ∀ t : Fin cfg0.N, win0_0.index t = ![0, t.val] := by decide +kernel
theorem idx1 : ∀ t : Fin cfg0.N, win0_1.index t = ![0, 0] := by decide +kernel
theorem idx2 : ∀ t : Fin cfg0.N, win0_2.index t = ![0, t.val, 0] := by decide +kernel
theorem idx3 : ∀ t : Fin cfg0.N, win0_3.index t = ![0, t.val, 0] := by decide +kernel
theorem idx4 : ∀ t : Fin cfg0.N, win0_4.index t = ![0, 0] := by decide +kernel

/-- A point's number is below 14. -/
theorem lt14 (t : Fin cfg0.N) : t.val < 14 := t.isLt

/-- The block of the incoming gradient at a point: 768 of its columns. -/
theorem iblk0 (t : Fin cfg0.N) (i : Fin 2048) (j : Fin 768) (h : 768 * t.val + j.val < 10752) :
    (iblk (F := Ideal) m c 0 t : S2048x768.Idx → EReal) (ix2 i j) = dps m c (ix2 i ⟨768 * t.val + j.val, h⟩) := by
  rw [dps]
  blk_ext [iblk, V_main_arg0, idx0]
  all_goals omega

/-- The block of the input at a point: all of it. -/
theorem iblk1 (t : Fin cfg0.N) (i : Fin 2048) (j : Fin 1024) :
    (iblk (F := Ideal) m c 1 t : S2048x1024.Idx → EReal) (ix2 i j) = hs m c (ix2 i j) := by
  rw [hs]
  blk_ext [iblk, V_main_arg1, idx1]
  all_goals omega

/-- The block of the weights at a point: 768 of its rows. -/
theorem iblk2 (t : Fin cfg0.N) (i : Fin 1) (j : Fin 768) (k : Fin 1024) (h : 768 * t.val + j.val < 10752) :
    (iblk (F := Ideal) m c 2 t : S1x768x1024.Idx → EReal) (ix3 i j k) = ws m c (ix3 0 ⟨768 * t.val + j.val, h⟩ k) := by
  rw [ws]
  blk_ext [iblk, V_main_arg2, idx2]
  all_goals omega

/-- What a point leaves of the gradient of the weights. -/
theorem left3 (t : Fin cfg0.N) : (outsAt0 (F := Ideal) m c t.val t.isLt).1 = k0_pay1 (iblk m c 0 t) (iblk m c 1 t) := by
  have ht := lt14 t
  by_cases h : t.val % 14 = 0
  · rw [outsAt0_A m c t h (by omega)]
    dsimp only
    frame_out
  · rw [outsAt0_B m c t h (by omega)]
    dsimp only
    frame_out

/-- What the first point leaves of the gradient of the input. -/
theorem left4_A (t : Fin cfg0.N) (h : t.val = 0) : (outsAt0 (F := Ideal) m c t.val t.isLt).2 = k0_pay2 (iblk m c 0 t) (iblk m c 2 t) := by
  rw [outsAt0_A m c t (by omega) (by omega)]
  dsimp only
  frame_out

/-- What a further point leaves of the gradient of the input. -/
theorem left4_B (t : Fin cfg0.N) (h : t.val ≠ 0) : (outsAt0 (F := Ideal) m c t.val t.isLt).2
    = k0_pay3 (iblk m c 0 t) (iblk m c 2 t) (outsAt0 m c (t.val - 1) (Nat.lt_of_le_of_lt (Nat.sub_le _ _) t.isLt)).2 := by
  have ht := lt14 t
  rw [outsAt0_B m c t (by omega) (by omega)]
  dsimp only
  frame_out

/-- A point's share of the gradient of the input. -/
theorem pay2_eq (t : Fin cfg0.N) (i : Fin 2048) (j : Fin 1024) :
    k0_pay2 (F := Ideal) (iblk m c 0 t) (iblk m c 2 t) (ix2 i j) = ∑ k : Fin 768, term (dps m c) (ws m c) (ix2 i j) (768 * t.val + k.val) := by
  have ht := lt14 t
  pointwise [k0_pay2, zero_add]
  refine Finset.sum_congr rfl fun k _ => ?_
  have hk : 768 * t.val + k.val < 10752 := by omega
  unfold term
  rw [dif_pos hk]
  refine congr (congrArg _ ?_) ?_
  · exact iblk0 m c t i k hk
  · exact iblk2 m c t 0 k j hk

/-- After a point the buffer of the input's gradient holds the sum over the columns so far. -/
theorem acc4 : ∀ (n : ℕ) (h : n < cfg0.N), (outsAt0 (F := Ideal) m c n h).2 = part (dps m c) (ws m c) (768 * n + 768)
  | 0, h => by
    refine (left4_A m c ⟨0, h⟩ rfl).trans ?_
    funext i
    idx_vars i
    rw [pay2_eq, part_add]
    simp only [part, Nat.mul_zero, Finset.range_zero, Finset.sum_empty, zero_add]
  | n + 1, h => by
    refine (left4_B m c ⟨n + 1, h⟩ (Nat.succ_ne_zero n)).trans ?_
    simp only [Nat.add_sub_cancel]
    rw [acc4 n (Nat.lt_of_succ_lt h)]
    funext i
    idx_vars i
    rw [part_add, show 768 * (n + 1) = 768 * n + 768 by omega]
    unfold k0_pay3
    rw [shapeCast_self]
    refine congrArg₂ (· + ·) rfl ?_
    have := pay2_eq m c ⟨n + 1, h⟩ i0 i1
    rw [show 768 * (⟨n + 1, h⟩ : Fin cfg0.N).val = 768 * n + 768 by show 768 * (n + 1) = _; omega] at this
    exact this

/-- A point's block of the gradient of the weights. -/
theorem pay1_eq (t : Fin cfg0.N) (i : Fin 1) (j : Fin 768) (k : Fin 1024) (h : 768 * t.val + j.val < 10752) :
    k0_pay1 (F := Ideal) (iblk m c 0 t) (iblk m c 1 t) (ix3 i j k) = gradW (dps m c) (hs m c) (ix3 0 ⟨768 * t.val + j.val, h⟩ k) := by
  pointwise [k0_pay1, zero_add]
  unfold gradW
  refine Finset.sum_congr rfl fun r _ => ?_
  refine congr (congrArg _ ?_) ?_
  · exact iblk0 m c t r j h
  · exact iblk1 m c t r k

/-- The gradient of the weights at the end. -/
theorem arr3 : (dats (F := Ideal) m 0 c).arrAt 3 cfg0.N = gradW (dps m c) (hs m c) := by
  refine (dats m 0 c).arrAt_eq_of_covers 3 _ (by decide +kernel) fun t hf y => ?_
  have ht := lt14 t
  blk_simp
  rw [after0_3, left3]
  idx_vars y
  refine (pay1_eq m c t y0 y1 y2 (by omega)).trans ?_
  blk_ext [idx3]
  all_goals omega

/-- The gradient of the input at the end. -/
theorem arr4 : (dats (F := Ideal) m 0 c).arrAt 4 cfg0.N = gradH (dps m c) (ws m c) := by
  refine (dats m 0 c).arrAt_eq_of_covers 4 _ (by decide +kernel) fun t hf y => ?_
  blk_simp
  have ht := lt14 t
  have h13 : t.val = 13 := by have := (flush0_4 t).1 hf; omega
  rw [after0_4, acc4, show 768 * t.val + 768 = 10752 by omega, part_all]
  blk_ext [idx4]
  all_goals omega

end

end Cert.InprojBwdIdeal.Body

namespace Cert.InprojBwdReferenceIdeal.Body

open Idealize.ShloMosaic Idealize.ShloMosaic.Tactic
open Cert.InprojBwdReferenceIdeal Cert.InprojBwdReferenceIdeal.Read

/-- The reference's gradient of the weights. -/
theorem refW (x0 : S2048x10752.Idx → EReal) (x1 : S2048x1024.Idx → EReal) :
    val_main_v10 (F := Ideal) x0 x1 = Cert.InprojBwdIdeal.Body.gradW x0 x1 := by
  funext i
  idx_vars i
  pointwise [val_main_v10, val_main_v9, val_main_v7, val_main_v6, val_main_v5, val_main_v3]
  unfold Cert.InprojBwdIdeal.Body.gradW
  exact Finset.sum_congr rfl fun k _ => by first | rfl | exact mul_comm _ _

/-- The reference's gradient of the input. -/
theorem refH (x0 : S2048x10752.Idx → EReal) (x2 : S1x10752x1024.Idx → EReal) :
    val_main_v8 (F := Ideal) x0 x2 = Cert.InprojBwdIdeal.Body.gradH x0 x2 := by
  funext i
  idx_vars i
  pointwise [val_main_v8, val_main_v5, val_main_v2, val_main_v1, val_main_v0]
  unfold Cert.InprojBwdIdeal.Body.gradH
  exact Finset.sum_congr rfl fun k _ => rfl

end Cert.InprojBwdReferenceIdeal.Body

end
-- ==== Proof.ClaimInprojBwd.lean ====
module

public import Idealize.ShloMosaic.Lib.WordCmp
public import Idealize.ShloMosaic.Lib.Pointwise
public import Idealize.ShloMosaic.Lib.ValueIdx
public import Idealize.ShloMosaic.PureOps.Ideal.Laws
public import Idealize.ShloMosaic.Lib.Pipeline.ValueKit
public import Idealize.ShloMosaic.Lib.Claim
public import Idealize.ShloMosaic.Adequacy
public import Idealize.ShloMosaic.Init
public import proofs.«01_k».proof.Defs
public import proofs.«01_k».proof.Proof.Gen.InprojBwd
public import proofs.«01_k».proof.Proof.Gen.InprojBwd.Frame
public import proofs.«01_k».proof.Proof.Gen.InprojBwdIdeal
public import proofs.«01_k».proof.Proof.Gen.InprojBwdIdeal.Value
public import proofs.«01_k».proof.Proof.Gen.InprojBwdReferenceIdeal
public import proofs.«01_k».proof.Proof.Gen.InprojBwdReferenceIdeal.Run
public import proofs.«01_k».proof.Proof.Gen.InprojBwdReferenceIdeal.Read
public import proofs.«01_k».proof.Proof.InprojGrad

@[expose] public section

set_option maxRecDepth 16384

noncomputable section

namespace Cert.InprojBwdClaim

open Idealize.ShloMosaic Idealize.ShloMosaic.TcCoe Idealize.SL.Sem
open Cert.InprojBwdIdeal.Body

/-! # The input projection: what is claimed -/

/-- The call at floating point runs, leaves its arguments and ends with every semaphore at zero. -/
theorem frame_kernel : Cert.quiescent_InprojBwd := fun m ρ _ => Cert.InprojBwd.Gen.frame m ρ

/-- The call over the extended reals runs, leaves its arguments and ends with every semaphore at zero. -/
theorem frame_ideal : Cert.quiescent_InprojBwdIdeal := fun m ρ _ => Cert.InprojBwdIdeal.Gen.frame m ρ

/-- The reference over the extended reals runs and leaves its arguments; it has no semaphore. -/
theorem frame_reference : Cert.quiescent_InprojBwdReferenceIdeal := fun m ρ _ =>
  (θ_run Cert.InprojBwdReferenceIdeal.defs _ _).mono (fun r h => ⟨fun c => (h c).2.2, sem_eq_zero_of_no_sems (by decide) r.2⟩)
    (Cert.InprojBwdReferenceIdeal.Value.run (F := Ideal) m ρ)

/-- The call and the reference leave the same results. -/
theorem equal : Cert.algebraic_InprojBwdIdeal_InprojBwdReferenceIdeal := by
  intro m ρ m' ρ' hpre hargs
  refine ⟨fun c => Cert.InprojBwdIdeal.Body.gradW (dps m c) (hs m c),
    fun c => Cert.InprojBwdIdeal.Body.gradH (dps m c) (ws m c), ?_, ?_⟩
  · refine (θ_run Cert.InprojBwdIdeal.defs _ _).mono (fun r h c => ?_) (Cert.InprojBwdIdeal.Value.run_blocks (F := Ideal) m ρ)
    obtain ⟨h0, h1, hr⟩ := h c
    exact ⟨h0.trans (arr3 m c), h1.trans (arr4 m c), hr⟩
  · refine (θ_run Cert.InprojBwdReferenceIdeal.defs _ _).mono (fun r h c => ?_) (Cert.InprojBwdReferenceIdeal.Value.run (F := Ideal) m' ρ')
    obtain ⟨a0, a1, a2⟩ := hargs c
    obtain ⟨h0, h1, hr⟩ := h c
    replace h0 := h0.trans (Cert.InprojBwdReferenceIdeal.Read.val_main_v10_eq (F := Ideal) ..)
    rw [a0, a1] at h0
    replace h1 := h1.trans (Cert.InprojBwdReferenceIdeal.Read.val_main_v8_eq (F := Ideal) ..)
    rw [a0, a2] at h1
    exact ⟨h0.trans (Cert.InprojBwdReferenceIdeal.Body.refW _ _), h1.trans (Cert.InprojBwdReferenceIdeal.Body.refH _ _), hr⟩

end Cert.InprojBwdClaim

end
-- ==== Proof.ProjSpec.lean ====
module

public import Idealize.ShloMosaic.Lib.WordCmp
public import Idealize.ShloMosaic.Lib.Pointwise
public import Idealize.ShloMosaic.Lib.ValueIdx
public import Idealize.ShloMosaic.PureOps.Ideal.Laws
public import Idealize.ShloMosaic.Lib.Pipeline.ValueKit
public import Idealize.ShloMosaic.Lib.Claim

@[expose] public section

set_option maxRecDepth 16384

noncomputable section

namespace Cert.Proj

open Idealize.ShloMosaic Idealize.ShloMosaic.Tactic

/-! # The gradients of a product of a mixer's output with its weights -/

variable {N K M : ℕ}

/-- The gradient of the mixer's output: the incoming gradient's rows against the weights' rows. -/
def gradY (dp : (⟨2, ![N, M]⟩ : Shape).Idx → EReal) (w : (⟨3, ![1, K, M]⟩ : Shape).Idx → EReal) : (⟨2, ![N, K]⟩ : Shape).Idx → EReal :=
  fun i => ∑ k : Fin M, dp (ix2 (i 0) k) * w (ix3 0 (i 1) k)

/-- The gradient of the weights: the output's columns against the incoming gradient's columns, summed over the tokens. -/
def gradW (y : (⟨2, ![N, K]⟩ : Shape).Idx → EReal) (dp : (⟨2, ![N, M]⟩ : Shape).Idx → EReal) : (⟨3, ![1, K, M]⟩ : Shape).Idx → EReal :=
  fun i => ∑ r : Fin N, y (ix2 r (i 1)) * dp (ix2 r (i 2))

/-- One token's product of the weights' gradient, the token counted by a natural number. -/
def term (y : (⟨2, ![N, K]⟩ : Shape).Idx → EReal) (dp : (⟨2, ![N, M]⟩ : Shape).Idx → EReal) (i : (⟨3, ![1, K, M]⟩ : Shape).Idx) (r : ℕ) : EReal :=
  if hr : r < N then y (ix2 ⟨r, hr⟩ (i 1)) * dp (ix2 ⟨r, hr⟩ (i 2)) else 0

/-- The gradient of the weights, summed over the first `n` tokens. -/
def part (y : (⟨2, ![N, K]⟩ : Shape).Idx → EReal) (dp : (⟨2, ![N, M]⟩ : Shape).Idx → EReal) (n : ℕ) : (⟨3, ![1, K, M]⟩ : Shape).Idx → EReal :=
  fun i => ∑ r ∈ Finset.range n, term y dp i r

/-- All the tokens together are the gradient of the weights. -/
theorem part_all (y : (⟨2, ![N, K]⟩ : Shape).Idx → EReal) (dp : (⟨2, ![N, M]⟩ : Shape).Idx → EReal) : part y dp N = gradW y dp := by
  funext i
  unfold part gradW
  rw [Finset.sum_range]
  refine Finset.sum_congr rfl fun r _ => ?_
  unfold term
  rw [dif_pos r.isLt]

/-- `b` further tokens. -/
theorem part_add (y : (⟨2, ![N, K]⟩ : Shape).Idx → EReal) (dp : (⟨2, ![N, M]⟩ : Shape).Idx → EReal) (n b : ℕ) (i : (⟨3, ![1, K, M]⟩ : Shape).Idx) :
    part y dp (n + b) i = part y dp n i + ∑ r : Fin b, term y dp i (n + r.val) := by
  unfold part
  rw [Finset.sum_range_add, Finset.sum_range (n := b)]

/-- No token yet. -/
theorem part_zero (y : (⟨2, ![N, K]⟩ : Shape).Idx → EReal) (dp : (⟨2, ![N, M]⟩ : Shape).Idx → EReal) (i : (⟨3, ![1, K, M]⟩ : Shape).Idx) :
    part y dp 0 i = 0 := by
  unfold part
  rw [Finset.range_zero, Finset.sum_empty]

end Cert.Proj

end
-- ==== Proof.ProjAGrad.lean ====
module

public import Idealize.ShloMosaic.Lib.WordCmp
public import Idealize.ShloMosaic.Lib.Pointwise
public import Idealize.ShloMosaic.Lib.ValueIdx
public import Idealize.ShloMosaic.PureOps.Ideal.Laws
public import Idealize.ShloMosaic.Lib.Pipeline.ValueKit
public import Idealize.ShloMosaic.Lib.Claim
public import proofs.«01_k».proof.Proof.ProjSpec
public import proofs.«01_k».proof.Proof.Gen.ProjABwdIdeal.Value
public import proofs.«01_k».proof.Proof.Gen.ProjABwdReferenceIdeal.Read

@[expose] public section

set_option maxRecDepth 16384

noncomputable section

namespace Cert.ProjABwdIdeal.Body

open Idealize.ShloMosaic Idealize.ShloMosaic.Tactic
open Cert.ProjABwdIdeal Cert.ProjABwdIdeal.Gen Cert.Proj
open Idealize.ShloMosaic.TcCoe Idealize.ShloMosaic.Pipeline Idealize.SL Idealize.SL.RA

/-! # The backward pass of mixer A's projection: what the results hold -/

variable (m : (ℓ : Loc nD τ sig) → Buf (Elt Ideal) ℓ) (c : Dev nD)

/-- The mixer's output. -/
def ys : S2048x1024.Idx → EReal := m ((c : Thread nD τ).loc main_arg0)
/-- The incoming gradient. -/
def dps : S2048x1024.Idx → EReal := m ((c : Thread nD τ).loc main_arg1)
/-- The weights. -/
def ws : S1x1024x1024.Idx → EReal := m ((c : Thread nD τ).loc main_arg2)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![0, 0, 0] := by decide +kernel
theorem idxY : ∀ t : Fin cfg0.N, win0_3.index t = ![t.val, 0] := by decide +kernel
theorem idxW : ∀ t : Fin cfg0.N, win0_4.index t = ![0, 0, 0] := by decide +kernel

/-- A point's number is below 4. -/
theorem lt4 (t : Fin cfg0.N) : t.val < 4 := t.isLt

/-- The block of the mixer's output at a point: 512 of its rows. -/
theorem iblk0 (t : Fin cfg0.N) (i : Fin 512) (j : Fin 1024) (h : 512 * t.val + i.val < 2048) :
    (iblk (F := Ideal) m c 0 t : S512x1024.Idx → EReal) (ix2 i j) = ys m c (ix2 ⟨512 * t.val + i.val, h⟩ j) := by
  rw [ys]
  blk_ext [iblk, V_main_arg0, idx0]
  all_goals omega

/-- The block of the incoming gradient at a point: 512 of its rows. -/
theorem iblk1 (t : Fin cfg0.N) (i : Fin 512) (j : Fin 1024) (h : 512 * t.val + i.val < 2048) :
    (iblk (F := Ideal) m c 1 t : S512x1024.Idx → EReal) (ix2 i j) = dps m c (ix2 ⟨512 * t.val + i.val, h⟩ j) := by
  rw [dps]
  blk_ext [iblk, V_main_arg1, idx1]
  all_goals omega

/-- The block of the weights at a point: all of them. -/
theorem iblk2 (t : Fin cfg0.N) (i : Fin 1) (j : Fin 1024) (k : Fin 1024) :
    (iblk (F := Ideal) m c 2 t : S1x1024x1024.Idx → EReal) (ix3 i j k) = ws m c (ix3 0 j k) := by
  rw [ws]
  blk_ext [iblk, V_main_arg2, idx2]
  all_goals omega

/-- What a point leaves of the gradient of the mixer's output. -/
theorem leftY (t : Fin cfg0.N) : (outsAt0 (F := Ideal) m c t.val t.isLt).1 = k0_pay1 (iblk m c 1 t) (iblk m c 2 t) := by
  have ht := lt4 t
  by_cases h : t.val % 4 = 0
  · rw [outsAt0_A m c t h (by omega)]
    dsimp only
    frame_out
  · rw [outsAt0_B m c t h (by omega)]
    dsimp only
    frame_out

/-- What the first point leaves of the gradient of the weights. -/
theorem leftW_A (t : Fin cfg0.N) (h : t.val = 0) : (outsAt0 (F := Ideal) m c t.val t.isLt).2.1 = k0_pay3 (iblk m c 1 t) (iblk m c 0 t) := by
  rw [outsAt0_A m c t (by omega) (by omega)]
  dsimp only
  frame_out

/-- What a further point leaves of the gradient of the weights. -/
theorem leftW_B (t : Fin cfg0.N) (h : t.val ≠ 0) : (outsAt0 (F := Ideal) m c t.val t.isLt).2.1
    = k0_pay4 (iblk m c 1 t) (iblk m c 0 t) (outsAt0 m c (t.val - 1) (Nat.lt_of_le_of_lt (Nat.sub_le _ _) t.isLt)).2.1 := by
  have ht := lt4 t
  rw [outsAt0_B m c t (by omega) (by omega)]
  dsimp only
  frame_out

/-- A point's block of the gradient of the mixer's output. -/
theorem payY_eq (t : Fin cfg0.N) (i : Fin 512) (j : Fin 1024) (h : 512 * t.val + i.val < 2048) :
    k0_pay1 (F := Ideal) (iblk m c 1 t) (iblk m c 2 t) (ix2 i j) = gradY (dps m c) (ws m c) (ix2 ⟨512 * t.val + i.val, h⟩ j) := by
  pointwise [k0_pay1, zero_add]
  unfold gradY
  refine Finset.sum_congr rfl fun k _ => ?_
  refine congr (congrArg _ ?_) ?_
  · exact iblk1 m c t i k h
  · exact iblk2 m c t 0 j k

/-- A point's share of the gradient of the weights. -/
theorem payW_eq (t : Fin cfg0.N) (i : Fin 1024) (j : Fin 1024) :
    k0_pay2 (F := Ideal) (iblk m c 1 t) (iblk m c 0 t) (ix2 i j) = ∑ r : Fin 512, term (ys m c) (dps m c) (ix3 0 i j) (512 * t.val + r.val) := by
  have ht := lt4 t
  pointwise [k0_pay2, zero_add]
  refine Finset.sum_congr rfl fun r _ => ?_
  have hr : 512 * t.val + r.val < 2048 := by omega
  unfold term
  rw [dif_pos hr]
  refine congr (congrArg _ ?_) ?_
  · exact iblk0 m c t r i hr
  · exact iblk1 m c t r j hr

/-- After a point the buffer of the weights' gradient holds the sum over the tokens so far. -/
theorem accW : ∀ (n : ℕ) (h : n < cfg0.N), (outsAt0 (F := Ideal) m c n h).2.1 = part (ys m c) (dps m c) (512 * n + 512)
  | 0, h => by
    refine (leftW_A m c ⟨0, h⟩ rfl).trans ?_
    funext i
    idx_vars i
    obtain rfl : i0 = 0 := Subsingleton.elim _ _
    rw [part_add, Nat.mul_zero, part_zero, zero_add]
    refine Eq.trans ?_ (payW_eq m c ⟨0, h⟩ i1 i2)
    pointwise [k0_pay3]
  | n + 1, h => by
    refine (leftW_B m c ⟨n + 1, h⟩ (Nat.succ_ne_zero n)).trans ?_
    simp only [Nat.add_sub_cancel]
    rw [accW n (Nat.lt_of_succ_lt h)]
    funext i
    idx_vars i
    obtain rfl : i0 = 0 := Subsingleton.elim _ _
    rw [part_add, show 512 * (n + 1) = 512 * n + 512 by omega]
    pointwise [k0_pay4]
    refine congrArg₂ (· + ·) rfl ?_
    exact payW_eq m c ⟨n + 1, h⟩ i1 i2

/-- The gradient of the mixer's output at the end. -/
theorem arrY : (dats (F := Ideal) m 0 c).arrAt 3 cfg0.N = gradY (dps m c) (ws m c) := by
  refine (dats m 0 c).arrAt_eq_of_covers 3 _ (by decide +kernel) fun t hf y => ?_
  have ht := lt4 t
  blk_simp
  rw [after0_3, leftY]
  idx_vars y
  refine (payY_eq m c t y0 y1 (by omega)).trans ?_
  blk_ext [idxY]
  all_goals omega

/-- The gradient of the weights at the end. -/
theorem arrW : (dats (F := Ideal) m 0 c).arrAt 4 cfg0.N = gradW (ys m c) (dps m c) := by
  refine (dats m 0 c).arrAt_eq_of_covers 4 _ (by decide +kernel) fun t hf y => ?_
  blk_simp
  have ht := lt4 t
  have h3 : t.val = 3 := by have := (flush0_4 t).1 hf; omega
  rw [after0_4, accW, show 512 * t.val + 512 = 2048 by omega, part_all]
  blk_ext [idxW]
  all_goals omega

/-- The matrix of gradients that is passed through. -/
def dpj : S2048x10752.Idx → EReal := m ((c : Thread nD τ).loc main_arg3)

/-- The matrix with columns 4864 to 5120 cleared. -/
def cleared (d : S2048x10752.Idx → EReal) : S2048x10752.Idx → EReal :=
  fun i => if 4864 ≤ (i 1).val ∧ (i 1).val < 5120 then 0 else d i

theorem idxZ : ∀ t : Fin cfg0.N, win0_5.index t = ![t.val, 19] := by decide +kernel

/-- Every point leaves zeros. -/
theorem leftZ (t : Fin cfg0.N) : (outsAt0 (F := Ideal) m c t.val t.isLt).2.2 = k0_pay5 (F := Ideal) := by
  have ht := lt4 t
  by_cases h : t.val % 4 = 0
  · rw [outsAt0_A m c t h (by omega)]
    dsimp only
    frame_out
  · rw [outsAt0_B m c t h (by omega)]
    dsimp only
    frame_out

/-- The matrix at the end: the 256 columns are cleared, the others are what they were. -/
theorem arrZ : (dats (F := Ideal) m 0 c).arrAt 5 cfg0.N = cleared (dpj m c) := by
  have hA : (dats (F := Ideal) m 0 c).A 5 = m ((c : Thread nD τ).loc main_arg3) := by
    rw [A_eq]
    entry_read
    rfl
  unfold cleared dpj
  rw [← hA]
  refine (dats m 0 c).arrAt_eq_of_coversWhere 5 (fun i : S2048x10752.Idx => (0 : EReal))
    (fun β => β (1 : Fin 2) = 19) (by decide +kernel) (fun t hf y => ?_) (fun j => ?_)
  · blk_simp
    rw [after0_5, leftZ]
    idx_vars y
    pointwise [k0_pay5]
  · blk_simp [Pipeline.Window.cell_apply]
    omega

end Cert.ProjABwdIdeal.Body

namespace Cert.ProjABwdReferenceIdeal.Body

open Idealize.ShloMosaic Idealize.ShloMosaic.Tactic
open Cert.ProjABwdReferenceIdeal Cert.ProjABwdReferenceIdeal.Gen Cert.ProjABwdReferenceIdeal.Read Cert.Proj

/-- The reference's gradient of the mixer's output. -/
theorem refY (x1 : S2048x1024.Idx → EReal) (x2 : S1x1024x1024.Idx → EReal) :
    val_main_v6 (F := Ideal) x1 x2 = gradY x1 x2 := by
  funext i
  idx_vars i
  pointwise [val_main_v6, val_main_v3, val_main_v1, val_main_v0]
  unfold gradY
  exact Finset.sum_congr rfl fun k _ => rfl

/-- The reference's gradient of the weights. -/
theorem refW (x0 : S2048x1024.Idx → EReal) (x1 : S2048x1024.Idx → EReal) :
    val_main_v7 (F := Ideal) x0 x1 = gradW x0 x1 := by
  funext i
  idx_vars i
  pointwise [val_main_v7, val_main_v5, val_main_v4, val_main_v3]
  unfold gradW
  exact Finset.sum_congr rfl fun r _ => mul_comm _ _

/-- The reference's matrix: the 256 columns are cleared. -/
theorem refZ (x3 : S2048x10752.Idx → EReal) :
    val_main_v9 (F := Ideal) x3 = Cert.ProjABwdIdeal.Body.cleared x3 := by
  have e : val_main_v9 (F := Ideal) x3
      = updateSlice x3 (val_main_v8 (F := Ideal)) ![0, 4864] (by decide) :=
    WordCmp.dynamicUpdateSlice_eq_update _ _ _ _ _ _ fun a => by fin_cases a <;> rfl
  rw [e]
  funext i
  idx_vars i
  pointwise [val_main_v8, val_main_cst, Cert.ProjABwdIdeal.Body.cleared]
  simp only [dite_eq_ite]
  rfl

end Cert.ProjABwdReferenceIdeal.Body

end
-- ==== Proof.ClaimProjABwd.lean ====
module

public import Idealize.ShloMosaic.Lib.WordCmp
public import Idealize.ShloMosaic.Lib.Pointwise
public import Idealize.ShloMosaic.Lib.ValueIdx
public import Idealize.ShloMosaic.PureOps.Ideal.Laws
public import Idealize.ShloMosaic.Lib.Pipeline.ValueKit
public import Idealize.ShloMosaic.Lib.Claim
public import Idealize.ShloMosaic.Adequacy
public import Idealize.ShloMosaic.Init
public import proofs.«01_k».proof.Defs
public import proofs.«01_k».proof.Proof.Gen.ProjABwd
public import proofs.«01_k».proof.Proof.Gen.ProjABwd.Frame
public import proofs.«01_k».proof.Proof.Gen.ProjABwdIdeal
public import proofs.«01_k».proof.Proof.Gen.ProjABwdIdeal.Value
public import proofs.«01_k».proof.Proof.Gen.ProjABwdReferenceIdeal
public import proofs.«01_k».proof.Proof.Gen.ProjABwdReferenceIdeal.Run
public import proofs.«01_k».proof.Proof.Gen.ProjABwdReferenceIdeal.Read
public import proofs.«01_k».proof.Proof.ProjAGrad

@[expose] public section

set_option maxRecDepth 16384

noncomputable section

namespace Cert.ProjABwdClaim

open Idealize.ShloMosaic Idealize.ShloMosaic.TcCoe Idealize.SL.Sem
open Cert.ProjABwdIdeal.Body

/-! # The projection of mixer A: what is claimed -/

/-- The call at floating point runs, leaves its arguments and ends with every semaphore at zero. -/
theorem frame_kernel : Cert.quiescent_ProjABwd := fun m ρ _ => Cert.ProjABwd.Gen.frame m ρ

/-- The call over the extended reals runs, leaves its arguments and ends with every semaphore at zero. -/
theorem frame_ideal : Cert.quiescent_ProjABwdIdeal := fun m ρ _ => Cert.ProjABwdIdeal.Gen.frame m ρ

/-- The reference over the extended reals runs and leaves its arguments; it has no semaphore. -/
theorem frame_reference : Cert.quiescent_ProjABwdReferenceIdeal := fun m ρ _ =>
  (θ_run Cert.ProjABwdReferenceIdeal.defs _ _).mono (fun r h => ⟨fun c => (h c).2.2.2, sem_eq_zero_of_no_sems (by decide) r.2⟩)
    (Cert.ProjABwdReferenceIdeal.Value.run (F := Ideal) m ρ)

/-- The call and the reference leave the same results. -/
theorem equal : Cert.algebraic_ProjABwdIdeal_ProjABwdReferenceIdeal := by
  intro m ρ m' ρ' hpre hargs
  refine ⟨fun c => Cert.Proj.gradY (dps m c) (ws m c),
    fun c => Cert.Proj.gradW (ys m c) (dps m c),
    fun c => cleared (dpj m c), ?_, ?_⟩
  · refine (θ_run Cert.ProjABwdIdeal.defs _ _).mono (fun r h c => ?_) (Cert.ProjABwdIdeal.Value.run_blocks (F := Ideal) m ρ)
    obtain ⟨h0, h1, h2, hr⟩ := h c
    exact ⟨h0.trans (arrY m c), h1.trans (arrW m c), h2.trans (arrZ m c), hr⟩
  · refine (θ_run Cert.ProjABwdReferenceIdeal.defs _ _).mono (fun r h c => ?_) (Cert.ProjABwdReferenceIdeal.Value.run (F := Ideal) m' ρ')
    obtain ⟨a0, a1, a2, a3⟩ := hargs c
    obtain ⟨h0, h1, h2, hr⟩ := h c
    replace h0 := h0.trans (Cert.ProjABwdReferenceIdeal.Read.val_main_v6_eq (F := Ideal) ..)
    rw [a1, a2] at h0
    replace h1 := h1.trans (Cert.ProjABwdReferenceIdeal.Read.val_main_v7_eq (F := Ideal) ..)
    rw [a0, a1] at h1
    replace h2 := h2.trans (Cert.ProjABwdReferenceIdeal.Read.val_main_v9_eq (F := Ideal) ..)
    rw [a3] at h2
    exact ⟨h0.trans (Cert.ProjABwdReferenceIdeal.Body.refY _ _), h1.trans (Cert.ProjABwdReferenceIdeal.Body.refW _ _), h2.trans (Cert.ProjABwdReferenceIdeal.Body.refZ _), hr⟩

end Cert.ProjABwdClaim

end
-- ==== Proof.ProjBGrad.lean ====
module

public import Idealize.ShloMosaic.Lib.WordCmp
public import Idealize.ShloMosaic.Lib.Pointwise
public import Idealize.ShloMosaic.Lib.ValueIdx
public import Idealize.ShloMosaic.PureOps.Ideal.Laws
public import Idealize.ShloMosaic.Lib.Pipeline.ValueKit
public import Idealize.ShloMosaic.Lib.Claim
public import proofs.«01_k».proof.Proof.ProjSpec
public import proofs.«01_k».proof.Proof.Gen.ProjBBwdIdeal.Value
public import proofs.«01_k».proof.Proof.Gen.ProjBBwdReferenceIdeal.Read

@[expose] public section

set_option maxRecDepth 16384

noncomputable section

namespace Cert.ProjBBwdIdeal.Body

open Idealize.ShloMosaic Idealize.ShloMosaic.Tactic
open Cert.ProjBBwdIdeal Cert.ProjBBwdIdeal.Gen Cert.Proj
open Idealize.ShloMosaic.TcCoe Idealize.ShloMosaic.Pipeline Idealize.SL Idealize.SL.RA

/-! # The backward pass of mixer B's projection: what the results hold -/

variable (m : (ℓ : Loc nD τ sig) → Buf (Elt Ideal) ℓ) (c : Dev nD)

/-- The mixer's output. -/
def ys : S2048x1024.Idx → EReal := m ((c : Thread nD τ).loc main_arg0)
/-- The incoming gradient. -/
def dps : S2048x1024.Idx → EReal := m ((c : Thread nD τ).loc main_arg1)
/-- The weights. -/
def ws : S1x1024x1024.Idx → EReal := m ((c : Thread nD τ).loc main_arg2)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![0, 0, 0] := by decide +kernel
theorem idxY : ∀ t : Fin cfg0.N, win0_3.index t = ![t.val, 0] := by decide +kernel
theorem idxW : ∀ t : Fin cfg0.N, win0_4.index t = ![0, 0, 0] := by decide +kernel

/-- A point's number is below 4. -/
theorem lt4 (t : Fin cfg0.N) : t.val < 4 := t.isLt

/-- The block of the mixer's output at a point: 512 of its rows. -/
theorem iblk0 (t : Fin cfg0.N) (i : Fin 512) (j : Fin 1024) (h : 512 * t.val + i.val < 2048) :
    (iblk (F := Ideal) m c 0 t : S512x1024.Idx → EReal) (ix2 i j) = ys m c (ix2 ⟨512 * t.val + i.val, h⟩ j) := by
  rw [ys]
  blk_ext [iblk, V_main_arg0, idx0]
  all_goals omega

/-- The block of the incoming gradient at a point: 512 of its rows. -/
theorem iblk1 (t : Fin cfg0.N) (i : Fin 512) (j : Fin 1024) (h : 512 * t.val + i.val < 2048) :
    (iblk (F := Ideal) m c 1 t : S512x1024.Idx → EReal) (ix2 i j) = dps m c (ix2 ⟨512 * t.val + i.val, h⟩ j) := by
  rw [dps]
  blk_ext [iblk, V_main_arg1, idx1]
  all_goals omega

/-- The block of the weights at a point: all of them. -/
theorem iblk2 (t : Fin cfg0.N) (i : Fin 1) (j : Fin 1024) (k : Fin 1024) :
    (iblk (F := Ideal) m c 2 t : S1x1024x1024.Idx → EReal) (ix3 i j k) = ws m c (ix3 0 j k) := by
  rw [ws]
  blk_ext [iblk, V_main_arg2, idx2]
  all_goals omega

/-- What a point leaves of the gradient of the mixer's output. -/
theorem leftY (t : Fin cfg0.N) : (outsAt0 (F := Ideal) m c t.val t.isLt).1 = k0_pay1 (iblk m c 1 t) (iblk m c 2 t) := by
  have ht := lt4 t
  by_cases h : t.val % 4 = 0
  · rw [outsAt0_A m c t h (by omega)]
    dsimp only
    frame_out
  · rw [outsAt0_B m c t h (by omega)]
    dsimp only
    frame_out

/-- What the first point leaves of the gradient of the weights. -/
theorem leftW_A (t : Fin cfg0.N) (h : t.val = 0) : (outsAt0 (F := Ideal) m c t.val t.isLt).2 = k0_pay3 (iblk m c 1 t) (iblk m c 0 t) := by
  rw [outsAt0_A m c t (by omega) (by omega)]
  dsimp only
  frame_out

/-- What a further point leaves of the gradient of the weights. -/
theorem leftW_B (t : Fin cfg0.N) (h : t.val ≠ 0) : (outsAt0 (F := Ideal) m c t.val t.isLt).2
    = k0_pay4 (iblk m c 1 t) (iblk m c 0 t) (outsAt0 m c (t.val - 1) (Nat.lt_of_le_of_lt (Nat.sub_le _ _) t.isLt)).2 := by
  have ht := lt4 t
  rw [outsAt0_B m c t (by omega) (by omega)]
  dsimp only
  frame_out

/-- A point's block of the gradient of the mixer's output. -/
theorem payY_eq (t : Fin cfg0.N) (i : Fin 512) (j : Fin 1024) (h : 512 * t.val + i.val < 2048) :
    k0_pay1 (F := Ideal) (iblk m c 1 t) (iblk m c 2 t) (ix2 i j) = gradY (dps m c) (ws m c) (ix2 ⟨512 * t.val + i.val, h⟩ j) := by
  pointwise [k0_pay1, zero_add]
  unfold gradY
  refine Finset.sum_congr rfl fun k _ => ?_
  refine congr (congrArg _ ?_) ?_
  · exact iblk1 m c t i k h
  · exact iblk2 m c t 0 j k

/-- A point's share of the gradient of the weights. -/
theorem payW_eq (t : Fin cfg0.N) (i : Fin 1024) (j : Fin 1024) :
    k0_pay2 (F := Ideal) (iblk m c 1 t) (iblk m c 0 t) (ix2 i j) = ∑ r : Fin 512, term (ys m c) (dps m c) (ix3 0 i j) (512 * t.val + r.val) := by
  have ht := lt4 t
  pointwise [k0_pay2, zero_add]
  refine Finset.sum_congr rfl fun r _ => ?_
  have hr : 512 * t.val + r.val < 2048 := by omega
  unfold term
  rw [dif_pos hr]
  refine congr (congrArg _ ?_) ?_
  · exact iblk0 m c t r i hr
  · exact iblk1 m c t r j hr

/-- After a point the buffer of the weights' gradient holds the sum over the tokens so far. -/
theorem accW : ∀ (n : ℕ) (h : n < cfg0.N), (outsAt0 (F := Ideal) m c n h).2 = part (ys m c) (dps m c) (512 * n + 512)
  | 0, h => by
    refine (leftW_A m c ⟨0, h⟩ rfl).trans ?_
    funext i
    idx_vars i
    obtain rfl : i0 = 0 := Subsingleton.elim _ _
    rw [part_add, Nat.mul_zero, part_zero, zero_add]
    refine Eq.trans ?_ (payW_eq m c ⟨0, h⟩ i1 i2)
    pointwise [k0_pay3]
  | n + 1, h => by
    refine (leftW_B m c ⟨n + 1, h⟩ (Nat.succ_ne_zero n)).trans ?_
    simp only [Nat.add_sub_cancel]
    rw [accW n (Nat.lt_of_succ_lt h)]
    funext i
    idx_vars i
    obtain rfl : i0 = 0 := Subsingleton.elim _ _
    rw [part_add, show 512 * (n + 1) = 512 * n + 512 by omega]
    pointwise [k0_pay4]
    refine congrArg₂ (· + ·) rfl ?_
    exact payW_eq m c ⟨n + 1, h⟩ i1 i2

/-- The gradient of the mixer's output at the end. -/
theorem arrY : (dats (F := Ideal) m 0 c).arrAt 3 cfg0.N = gradY (dps m c) (ws m c) := by
  refine (dats m 0 c).arrAt_eq_of_covers 3 _ (by decide +kernel) fun t hf y => ?_
  have ht := lt4 t
  blk_simp
  rw [after0_3, leftY]
  idx_vars y
  refine (payY_eq m c t y0 y1 (by omega)).trans ?_
  blk_ext [idxY]
  all_goals omega

/-- The gradient of the weights at the end. -/
theorem arrW : (dats (F := Ideal) m 0 c).arrAt 4 cfg0.N = gradW (ys m c) (dps m c) := by
  refine (dats m 0 c).arrAt_eq_of_covers 4 _ (by decide +kernel) fun t hf y => ?_
  blk_simp
  have ht := lt4 t
  have h3 : t.val = 3 := by have := (flush0_4 t).1 hf; omega
  rw [after0_4, accW, show 512 * t.val + 512 = 2048 by omega, part_all]
  blk_ext [idxW]
  all_goals omega

end Cert.ProjBBwdIdeal.Body

namespace Cert.ProjBBwdReferenceIdeal.Body

open Idealize.ShloMosaic Idealize.ShloMosaic.Tactic
open Cert.ProjBBwdReferenceIdeal Cert.ProjBBwdReferenceIdeal.Gen Cert.ProjBBwdReferenceIdeal.Read Cert.Proj

/-- The reference's gradient of the mixer's output. -/
theorem refY (x1 : S2048x1024.Idx → EReal) (x2 : S1x1024x1024.Idx → EReal) :
    val_main_v6 (F := Ideal) x1 x2 = gradY x1 x2 := by
  funext i
  idx_vars i
  pointwise [val_main_v6, val_main_v3, val_main_v1, val_main_v0]
  unfold gradY
  exact Finset.sum_congr rfl fun k _ => rfl

/-- The reference's gradient of the weights. -/
theorem refW (x0 : S2048x1024.Idx → EReal) (x1 : S2048x1024.Idx → EReal) :
    val_main_v7 (F := Ideal) x0 x1 = gradW x0 x1 := by
  funext i
  idx_vars i
  pointwise [val_main_v7, val_main_v5, val_main_v4, val_main_v3]
  unfold gradW
  exact Finset.sum_congr rfl fun r _ => mul_comm _ _

end Cert.ProjBBwdReferenceIdeal.Body

end
-- ==== Proof.ClaimProjBBwd.lean ====
module

public import Idealize.ShloMosaic.Lib.WordCmp
public import Idealize.ShloMosaic.Lib.Pointwise
public import Idealize.ShloMosaic.Lib.ValueIdx
public import Idealize.ShloMosaic.PureOps.Ideal.Laws
public import Idealize.ShloMosaic.Lib.Pipeline.ValueKit
public import Idealize.ShloMosaic.Lib.Claim
public import Idealize.ShloMosaic.Adequacy
public import Idealize.ShloMosaic.Init
public import proofs.«01_k».proof.Defs
public import proofs.«01_k».proof.Proof.Gen.ProjBBwd
public import proofs.«01_k».proof.Proof.Gen.ProjBBwd.Frame
public import proofs.«01_k».proof.Proof.Gen.ProjBBwdIdeal
public import proofs.«01_k».proof.Proof.Gen.ProjBBwdIdeal.Value
public import proofs.«01_k».proof.Proof.Gen.ProjBBwdReferenceIdeal
public import proofs.«01_k».proof.Proof.Gen.ProjBBwdReferenceIdeal.Run
public import proofs.«01_k».proof.Proof.Gen.ProjBBwdReferenceIdeal.Read
public import proofs.«01_k».proof.Proof.ProjBGrad

@[expose] public section

set_option maxRecDepth 16384

noncomputable section

namespace Cert.ProjBBwdClaim

open Idealize.ShloMosaic Idealize.ShloMosaic.TcCoe Idealize.SL.Sem
open Cert.ProjBBwdIdeal.Body

/-! # The projection of mixer B: what is claimed -/

/-- The call at floating point runs, leaves its arguments and ends with every semaphore at zero. -/
theorem frame_kernel : Cert.quiescent_ProjBBwd := fun m ρ _ => Cert.ProjBBwd.Gen.frame m ρ

/-- The call over the extended reals runs, leaves its arguments and ends with every semaphore at zero. -/
theorem frame_ideal : Cert.quiescent_ProjBBwdIdeal := fun m ρ _ => Cert.ProjBBwdIdeal.Gen.frame m ρ

/-- The reference over the extended reals runs and leaves its arguments; it has no semaphore. -/
theorem frame_reference : Cert.quiescent_ProjBBwdReferenceIdeal := fun m ρ _ =>
  (θ_run Cert.ProjBBwdReferenceIdeal.defs _ _).mono (fun r h => ⟨fun c => (h c).2.2, sem_eq_zero_of_no_sems (by decide) r.2⟩)
    (Cert.ProjBBwdReferenceIdeal.Value.run (F := Ideal) m ρ)

/-- The call and the reference leave the same results. -/
theorem equal : Cert.algebraic_ProjBBwdIdeal_ProjBBwdReferenceIdeal := by
  intro m ρ m' ρ' hpre hargs
  refine ⟨fun c => Cert.Proj.gradY (dps m c) (ws m c),
    fun c => Cert.Proj.gradW (ys m c) (dps m c), ?_, ?_⟩
  · refine (θ_run Cert.ProjBBwdIdeal.defs _ _).mono (fun r h c => ?_) (Cert.ProjBBwdIdeal.Value.run_blocks (F := Ideal) m ρ)
    obtain ⟨h0, h1, hr⟩ := h c
    exact ⟨h0.trans (arrY m c), h1.trans (arrW m c), hr⟩
  · refine (θ_run Cert.ProjBBwdReferenceIdeal.defs _ _).mono (fun r h c => ?_) (Cert.ProjBBwdReferenceIdeal.Value.run (F := Ideal) m' ρ')
    obtain ⟨a0, a1, a2⟩ := hargs c
    obtain ⟨h0, h1, hr⟩ := h c
    replace h0 := h0.trans (Cert.ProjBBwdReferenceIdeal.Read.val_main_v6_eq (F := Ideal) ..)
    rw [a1, a2] at h0
    replace h1 := h1.trans (Cert.ProjBBwdReferenceIdeal.Read.val_main_v7_eq (F := Ideal) ..)
    rw [a0, a1] at h1
    exact ⟨h0.trans (Cert.ProjBBwdReferenceIdeal.Body.refY _ _), h1.trans (Cert.ProjBBwdReferenceIdeal.Body.refW _ _), hr⟩

end Cert.ProjBBwdClaim

end
-- ==== Proof.Reals.lean ====
module

public import Idealize.ShloMosaic.Lib.WordCmp
public import Idealize.ShloMosaic.Lib.Pointwise
public import Idealize.ShloMosaic.Lib.ValueIdx
public import Idealize.ShloMosaic.PureOps.Ideal.Laws
public import Idealize.ShloMosaic.Lib.Pipeline.ValueKit
public import Idealize.ShloMosaic.Lib.Claim
public import Idealize.ShloMosaic.Lib.ReduceAll
public import Idealize.ShloMosaic.Lib.Affine

@[expose] public section

set_option maxRecDepth 16384

noncomputable section

namespace Cert.Reals

open Idealize.ShloMosaic Idealize.ShloMosaic.TcCoe Idealize.ShloMosaic.Tactic

/-! # Extended reals that are real numbers, and the sigmoid of an extended real -/

/-- The extended real is a real number. -/
def Real (x : EReal) : Prop := ∃ r : ℝ, x = (r : EReal)

theorem Real.mul {x y : EReal} : Real x → Real y → Real (x * y) := by
  rintro ⟨a, rfl⟩ ⟨b, rfl⟩
  exact ⟨a * b, (EReal.coe_mul a b).symm⟩

theorem Real.add {x y : EReal} : Real x → Real y → Real (x + y) := by
  rintro ⟨a, rfl⟩ ⟨b, rfl⟩
  exact ⟨a + b, (EReal.coe_add a b).symm⟩

/-- A sum of real numbers is one. -/
theorem Real.sum {ι : Type} (s : Finset ι) (f : ι → EReal) (h : ∀ i ∈ s, Real (f i)) : Real (∑ i ∈ s, f i) :=
  Finset.sum_induction f Real (fun _ _ => Real.add) ⟨0, EReal.coe_zero.symm⟩ h

/-- An extended real whose absolute value is below plus infinity is a real number. -/
theorem real_of_lt {s s0 : Shape} {d : Fin s0.rank → Fin s.rank} (x : FVec Ideal s .f32) (hb : s0.BroadcastsInDim s d) (i : s.Idx)
    (e : cmpf .olt (Host.absf x) (broadcastInDim s d hb (constant (F := Ideal) s0 .f32 0x7F800000#32)) i = 1#1) : Real (x i) := by
  have e' : FloatOps.cmpf (F := Ideal) .olt (FloatOps.hostAbsf (x i)) (FloatOps.ofBits .f32 0x7F800000#32) = 1#1 := e
  have ht : (FloatOps.ofBits .f32 0x7F800000#32 : Ideal .f32) = (⊤ : EReal) := by
    simp [Ideal.ofBits_def, Ideal.ofBits, Ideal.ieee]
  rw [ht] at e'
  generalize (x i : EReal) = y at e' ⊢
  have h : max y (-y) < ⊤ := by
    by_contra hn
    simp [Ideal.cmpf_def, Ideal.cmp, Ideal.hostAbsf_def, Ideal.absf_def, hn] at e'
  refine ⟨y.toReal, (EReal.coe_toReal (ne_of_lt ((le_max_left _ _).trans_lt h)) fun hb => ?_).symm⟩
  rw [hb] at h
  simp at h

/-- A conjunction of three bits is one where each of them is. -/
theorem and_parts {s : Shape} {a b c : IVec s 1} {j : s.Idx} (h : andi (andi a b) c j = 1#1) :
    (a j = 1#1 ∧ b j = 1#1) ∧ c j = 1#1 := by
  have h' : IntOp.andi (IntOp.andi (a j) (b j)) (c j) = 1#1 := h
  simpa only [IntOp.andi_eq_one] using h'

/-- The sigmoid. -/
def sg (z : EReal) : EReal := Ideal.div 1 (1 + Ideal.exp (-z))

theorem sg_bot : sg ⊥ = 0 := by
  have h : (1 : EReal) + ⊤ = ⊤ := EReal.add_top_of_ne_bot (by decide)
  simp [sg, Ideal.div, h]

theorem sg_top : sg ⊤ = 1 := by
  simp [sg, Ideal.div]

theorem sg_coe (r : ℝ) : sg (r : EReal) = ((1 / (1 + Real.exp (-r)) : ℝ) : EReal) := by
  have h : (1 + Real.exp (-r)) ≠ 0 := by positivity
  rw [sg, ← EReal.coe_neg, Ideal.exp_coe, ← EReal.coe_one, ← EReal.coe_add, Ideal.div_coe h, ← EReal.coe_mul, one_mul]

/-- The derivative of `z · sigmoid z`, times a real number: collected, and as the two terms of the product rule. -/
theorem silu_grad {x : EReal} (hx : Real x) (z : EReal) :
    x * (sg z * (1 + z * (1 - sg z))) = x * sg z + z * x * (sg z * (1 - sg z)) := by
  have h1 : (1 : EReal) - 1 = 0 := by rw [← EReal.coe_one, ← EReal.coe_sub, sub_self, EReal.coe_zero]
  obtain ⟨r, rfl⟩ := hx
  induction z using EReal.rec with
  | bot => rw [sg_bot]; simp only [zero_mul, mul_zero, add_zero]
  | top => rw [sg_top, h1]; simp only [mul_zero, add_zero, mul_one]
  | coe z =>
    rw [sg_coe, ← EReal.coe_one]
    simp only [← EReal.coe_sub, ← EReal.coe_mul, ← EReal.coe_add]
    congr 1
    ring

end Cert.Reals

end
-- ==== Proof.ProjCGrad.lean ====
module

public import Idealize.ShloMosaic.Lib.WordCmp
public import Idealize.ShloMosaic.Lib.Pointwise
public import Idealize.ShloMosaic.Lib.ValueIdx
public import Idealize.ShloMosaic.PureOps.Ideal.Laws
public import Idealize.ShloMosaic.Lib.Pipeline.ValueKit
public import Idealize.ShloMosaic.Lib.Claim
public import proofs.«01_k».proof.Proof.ProjSpec
public import proofs.«01_k».proof.Proof.Reals
public import proofs.«01_k».proof.Proof.Gen.Pre_finite_gate
public import proofs.«01_k».proof.Defs
public import proofs.«01_k».proof.Proof.Gen.ProjCBwdIdeal.Value
public import proofs.«01_k».proof.Proof.Gen.ProjCBwdReferenceIdeal.Read

@[expose] public section

set_option maxRecDepth 16384

noncomputable section

namespace Cert.ProjCBwdIdeal.Body

open Idealize.ShloMosaic Idealize.ShloMosaic.Tactic
open Cert.ProjCBwdIdeal Cert.ProjCBwdIdeal.Gen Cert.Proj Cert.Reals
open Idealize.ShloMosaic.TcCoe Idealize.ShloMosaic.Pipeline Idealize.SL Idealize.SL.RA

/-! # The backward pass of mixer C's projection: what the results hold -/

variable (m : (ℓ : Loc nD τ sig) → Buf (Elt Ideal) ℓ) (c : Dev nD)

/-- The mixer's output. -/
def ys : S2048x1280.Idx → EReal := m ((c : Thread nD τ).loc main_arg0)
/-- The incoming gradient. -/
def dps : S2048x1024.Idx → EReal := m ((c : Thread nD τ).loc main_arg1)
/-- The weights. -/
def ws : S1x1280x1024.Idx → EReal := m ((c : Thread nD τ).loc main_arg2)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![0, 0, 0] := by decide +kernel
theorem idxY : ∀ t : Fin cfg0.N, win0_5.index t = ![t.val, 0] := by decide +kernel
theorem idxW : ∀ t : Fin cfg0.N, win0_6.index t = ![0, 0, 0] := by decide +kernel

/-- A point's number is below 4. -/
theorem lt4 (t : Fin cfg0.N) : t.val < 4 := t.isLt

/-- The block of the mixer's output at a point: 512 of its rows. -/
theorem iblk0 (t : Fin cfg0.N) (i : Fin 512) (j : Fin 1280) (h : 512 * t.val + i.val < 2048) :
    (iblk (F := Ideal) m c 0 t : S512x1280.Idx → EReal) (ix2 i j) = ys m c (ix2 ⟨512 * t.val + i.val, h⟩ j) := by
  rw [ys]
  blk_ext [iblk, V_main_arg0, idx0]
  all_goals omega

/-- The block of the incoming gradient at a point: 512 of its rows. -/
theorem iblk1 (t : Fin cfg0.N) (i : Fin 512) (j : Fin 1024) (h : 512 * t.val + i.val < 2048) :
    (iblk (F := Ideal) m c 1 t : S512x1024.Idx → EReal) (ix2 i j) = dps m c (ix2 ⟨512 * t.val + i.val, h⟩ j) := by
  rw [dps]
  blk_ext [iblk, V_main_arg1, idx1]
  all_goals omega

/-- The block of the weights at a point: all of them. -/
theorem iblk2 (t : Fin cfg0.N) (i : Fin 1) (j : Fin 1280) (k : Fin 1024) :
    (iblk (F := Ideal) m c 2 t : S1x1280x1024.Idx → EReal) (ix3 i j k) = ws m c (ix3 0 j k) := by
  rw [ws]
  blk_ext [iblk, V_main_arg2, idx2]
  all_goals omega

/-- What a point leaves of the gradient of the mixer's output. -/
theorem leftY (t : Fin cfg0.N) : (outsAt0 (F := Ideal) m c t.val t.isLt).1 = k0_pay2 (iblk m c 1 t) (iblk m c 2 t) := by
  have ht := lt4 t
  by_cases h : t.val % 4 = 0
  · rw [outsAt0_A m c t h (by omega)]
    dsimp only
    frame_out
  · rw [outsAt0_B m c t h (by omega)]
    dsimp only
    frame_out

/-- What the first point leaves of the gradient of the weights. -/
theorem leftW_A (t : Fin cfg0.N) (h : t.val = 0) : (outsAt0 (F := Ideal) m c t.val t.isLt).2.1 = k0_pay4 (iblk m c 1 t) (iblk m c 0 t) := by
  rw [outsAt0_A m c t (by omega) (by omega)]
  dsimp only
  frame_out

/-- What a further point leaves of the gradient of the weights. -/
theorem leftW_B (t : Fin cfg0.N) (h : t.val ≠ 0) : (outsAt0 (F := Ideal) m c t.val t.isLt).2.1
    = k0_pay5 (iblk m c 1 t) (iblk m c 0 t) (outsAt0 m c (t.val - 1) (Nat.lt_of_le_of_lt (Nat.sub_le _ _) t.isLt)).2.1 := by
  have ht := lt4 t
  rw [outsAt0_B m c t (by omega) (by omega)]
  dsimp only
  frame_out

/-- A point's block of the gradient of the mixer's output. -/
theorem payY_eq (t : Fin cfg0.N) (i : Fin 512) (j : Fin 1280) (h : 512 * t.val + i.val < 2048) :
    k0_pay2 (F := Ideal) (iblk m c 1 t) (iblk m c 2 t) (ix2 i j) = gradY (dps m c) (ws m c) (ix2 ⟨512 * t.val + i.val, h⟩ j) := by
  pointwise [k0_pay2, zero_add]
  unfold gradY
  refine Finset.sum_congr rfl fun k _ => ?_
  refine congr (congrArg _ ?_) ?_
  · exact iblk1 m c t i k h
  · exact iblk2 m c t 0 j k

/-- A point's share of the gradient of the weights. -/
theorem payW_eq (t : Fin cfg0.N) (i : Fin 1280) (j : Fin 1024) :
    k0_pay3 (F := Ideal) (iblk m c 1 t) (iblk m c 0 t) (ix2 i j) = ∑ r : Fin 512, term (ys m c) (dps m c) (ix3 0 i j) (512 * t.val + r.val) := by
  have ht := lt4 t
  pointwise [k0_pay3, zero_add]
  refine Finset.sum_congr rfl fun r _ => ?_
  have hr : 512 * t.val + r.val < 2048 := by omega
  unfold term
  rw [dif_pos hr]
  refine congr (congrArg _ ?_) ?_
  · exact iblk0 m c t r i hr
  · exact iblk1 m c t r j hr

/-- After a point the buffer of the weights' gradient holds the sum over the tokens so far. -/
theorem accW : ∀ (n : ℕ) (h : n < cfg0.N), (outsAt0 (F := Ideal) m c n h).2.1 = part (ys m c) (dps m c) (512 * n + 512)
  | 0, h => by
    refine (leftW_A m c ⟨0, h⟩ rfl).trans ?_
    funext i
    idx_vars i
    obtain rfl : i0 = 0 := Subsingleton.elim _ _
    rw [part_add, Nat.mul_zero, part_zero, zero_add]
    refine Eq.trans ?_ (payW_eq m c ⟨0, h⟩ i1 i2)
    pointwise [k0_pay4]
  | n + 1, h => by
    refine (leftW_B m c ⟨n + 1, h⟩ (Nat.succ_ne_zero n)).trans ?_
    simp only [Nat.add_sub_cancel]
    rw [accW n (Nat.lt_of_succ_lt h)]
    funext i
    idx_vars i
    obtain rfl : i0 = 0 := Subsingleton.elim _ _
    rw [part_add, show 512 * (n + 1) = 512 * n + 512 by omega]
    pointwise [k0_pay5]
    refine congrArg₂ (· + ·) rfl ?_
    exact payW_eq m c ⟨n + 1, h⟩ i1 i2

/-- The gradient of the mixer's output at the end. -/
theorem arrY : (dats (F := Ideal) m 0 c).arrAt 5 cfg0.N = gradY (dps m c) (ws m c) := by
  refine (dats m 0 c).arrAt_eq_of_covers 5 _ (by decide +kernel) fun t hf y => ?_
  have ht := lt4 t
  blk_simp
  rw [after0_5, leftY]
  idx_vars y
  refine (payY_eq m c t y0 y1 (by omega)).trans ?_
  blk_ext [idxY]
  all_goals omega

/-- The gradient of the weights at the end. -/
theorem arrW : (dats (F := Ideal) m 0 c).arrAt 6 cfg0.N = gradW (ys m c) (dps m c) := by
  refine (dats m 0 c).arrAt_eq_of_covers 6 _ (by decide +kernel) fun t hf y => ?_
  blk_simp
  have ht := lt4 t
  have h3 : t.val = 3 := by have := (flush0_6 t).1 hf; omega
  rw [after0_6, accW, show 512 * t.val + 512 = 2048 by omega, part_all]
  blk_ext [idxW]
  all_goals omega

/-- The hidden sequence that the gate multiplies. -/
def hseqs : S2048x1280.Idx → EReal := m ((c : Thread nD τ).loc main_arg4)
/-- The projections, the gate among them. -/
def pjs : S2048x10752.Idx → EReal := m ((c : Thread nD τ).loc main_arg5)
/-- The matrix of gradients that is passed through. -/
def dpj : S2048x10752.Idx → EReal := m ((c : Thread nD τ).loc main_arg3)

theorem idx3 : ∀ t : Fin cfg0.N, win0_3.index t = ![t.val, 0] := by decide +kernel
theorem idx4 : ∀ t : Fin cfg0.N, win0_4.index t = ![t.val, 5] := by decide +kernel
theorem idxZ : ∀ t : Fin cfg0.N, win0_7.index t = ![t.val, 5] := by decide +kernel

/-- The block of the hidden sequence at a point: 512 of its rows. -/
theorem iblk3 (t : Fin cfg0.N) (i : Fin 512) (j : Fin 1280) (h : 512 * t.val + i.val < 2048) :
    (iblk (F := Ideal) m c 3 t : S512x1280.Idx → EReal) (ix2 i j) = hseqs m c (ix2 ⟨512 * t.val + i.val, h⟩ j) := by
  rw [hseqs]
  blk_ext [iblk, V_main_arg4, idx3]
  all_goals omega

/-- The block of the gate at a point: 512 rows of its 1280 columns. -/
theorem blk4 (t : Fin cfg0.N) (i : Fin 512) (j : Fin 1280) (h : 512 * t.val + i.val < 2048) (h' : 6400 + j.val < 10752) :
    (X0_4 (F := Ideal) m c t : S512x1280.Idx → EReal) (ix2 i j) = pjs m c (ix2 ⟨512 * t.val + i.val, h⟩ ⟨6400 + j.val, h'⟩) := by
  rw [pjs]
  unfold X0_4 Pipeline.Window.fill
  rw [dif_pos (moved0_4 t _)]
  blk_ext [iblk, V_main_arg5, idx4]
  all_goals omega

/-- What a point leaves of the gradient of the gate. -/
theorem leftZ (t : Fin cfg0.N) : (outsAt0 (F := Ideal) m c t.val t.isLt).2.2
    = k0_pay1 (k0_pay6 (iblk m c 1 t) (iblk m c 2 t) (iblk m c 3 t)) (k0_pay7 (F := Ideal) (X0_4 m c t)) := by
  have ht := lt4 t
  by_cases h : t.val % 4 = 0
  · rw [outsAt0_A m c t h (by omega)]
    dsimp only
    frame_out
  · rw [outsAt0_B m c t h (by omega)]
    dsimp only
    frame_out

/-- The gradient of the gate. -/
def gradZ (dp : S2048x1024.Idx → EReal) (w : S1x1280x1024.Idx → EReal) (hs : S2048x1280.Idx → EReal) (p : S2048x10752.Idx → EReal)
    (r : Fin 2048) (j : Fin 10752) (l : Fin 1280) : EReal :=
  gradY dp w (ix2 r l) * hs (ix2 r l) * (sg (p (ix2 r j)) * (1 + p (ix2 r j) * (1 - sg (p (ix2 r j)))))

theorem payZ_eq (t : Fin cfg0.N) (i : Fin 512) (j : Fin 1280) (h : 512 * t.val + i.val < 2048) (h' : 6400 + j.val < 10752) :
    k0_pay1 (k0_pay6 (iblk m c 1 t) (iblk m c 2 t) (iblk m c 3 t)) (k0_pay7 (F := Ideal) (X0_4 m c t)) (ix2 i j)
      = gradZ (dps m c) (ws m c) (hseqs m c) (pjs m c) ⟨512 * t.val + i.val, h⟩ ⟨6400 + j.val, h'⟩ j := by
  have e := blk4 m c t i j h h'
  have e3 := iblk3 m c t i j h
  have ey := payY_eq m c t i j h
  pointwise [k0_pay1, k0_pay6, k0_pay7, zero_sub]
  rw [ey, e, e3]
  rfl

/-- An entry of the matrix of gradients: the gate's columns are written, the others kept. -/
def cellZ (dp : S2048x1024.Idx → EReal) (w : S1x1280x1024.Idx → EReal) (hs : S2048x1280.Idx → EReal) (p : S2048x10752.Idx → EReal)
    (x : S2048x10752.Idx → EReal) (r : Fin 2048) (j : Fin 10752) : EReal :=
  if h : 6400 ≤ j.val ∧ j.val < 7680 then gradZ dp w hs p r j ⟨j.val - 6400, by omega⟩ else x (ix2 r j)

/-- The matrix of gradients. -/
def matZ (dp : S2048x1024.Idx → EReal) (w : S1x1280x1024.Idx → EReal) (hs : S2048x1280.Idx → EReal) (p : S2048x10752.Idx → EReal)
    (x : S2048x10752.Idx → EReal) : S2048x10752.Idx → EReal := fun i => cellZ dp w hs p x (i 0) (i 1)

theorem matZ_in (dp : S2048x1024.Idx → EReal) (w : S1x1280x1024.Idx → EReal) (hs : S2048x1280.Idx → EReal) (p : S2048x10752.Idx → EReal)
    (x : S2048x10752.Idx → EReal) (r : Fin 2048) (l : Fin 1280) (h : 6400 + l.val < 10752) :
    matZ dp w hs p x (ix2 r ⟨6400 + l.val, h⟩) = gradZ dp w hs p r ⟨6400 + l.val, h⟩ l := by
  have hl := l.isLt
  refine (dif_pos (show 6400 ≤ 6400 + l.val ∧ 6400 + l.val < 7680 by omega)).trans ?_
  refine congrArg _ (Fin.ext ?_)
  show 6400 + l.val - 6400 = l.val
  omega

theorem matZ_out (dp : S2048x1024.Idx → EReal) (w : S1x1280x1024.Idx → EReal) (hs : S2048x1280.Idx → EReal) (p : S2048x10752.Idx → EReal)
    (x : S2048x10752.Idx → EReal) (i : S2048x10752.Idx) (h : ¬(6400 ≤ (i 1).val ∧ (i 1).val < 7680)) : matZ dp w hs p x i = x i := by
  idx_vars i
  exact dif_neg h

/-- The matrix of gradients the call leaves. -/
theorem arrZ : (dats (F := Ideal) m 0 c).arrAt 7 cfg0.N = matZ (dps m c) (ws m c) (hseqs m c) (pjs m c) (dpj m c) := by
  have hA : (dats (F := Ideal) m 0 c).A 7 = dpj m c := by
    rw [A_eq]
    entry_read
    rfl
  refine (dats m 0 c).arrAt_eq_of_coversWhere_of_agree 7 _
    (fun β => β (1 : Fin 2) = 5) (by decide +kernel) (fun t hf y => ?_) (fun j hj => ?_)
  · have ht := lt4 t
    have key : ∀ x : S512x1280.Idx, (k0_pay1 (k0_pay6 (iblk m c 1 t) (iblk m c 2 t) (iblk m c 3 t)) (k0_pay7 (F := Ideal) (X0_4 m c t)) : S512x1280.Idx → EReal) x
        = matZ (dps m c) (ws m c) (hseqs m c) (pjs m c) (dpj m c)
            (ix2 ⟨512 * t.val + (x 0).val, by have := (x 0).isLt; change (x 0).val < 512 at this; omega⟩
              ⟨6400 + (x 1).val, by have := (x 1).isLt; change (x 1).val < 1280 at this; omega⟩) := fun x => by
      idx_vars x
      exact (payZ_eq m c t _ _ (by omega) (by omega)).trans (matZ_in _ _ _ _ (dpj m c) _ _ (by omega)).symm
    blk_simp
    rw [after0_7, leftZ]
    refine (key _).trans ?_
    blk_ext [idxZ]
    all_goals omega
  · rw [hA]
    refine (matZ_out _ _ _ _ _ _ fun h => hj ?_).symm
    revert h
    blk_simp [Pipeline.Window.cell_apply]
    omega

/-- The precondition makes the gradient of the product, the weights and the hidden sequence real numbers. -/
theorem finite_of_pre (h : Cert.Pre_ProjCBwdIdeal_finite_gate m) :
    (∀ i, Real (dps m c i)) ∧ (∀ i, Real (ws m c i)) ∧ ∀ i, Real (hseqs m c i) := by
  have e := congrFun (h c) (Shape.Idx.first Cert.Pre_finite_gate.Facts.h_S_)
  dsimp only [Cert.Pre_finite_gate.fn] at e
  obtain ⟨⟨e1, e2⟩, e4⟩ := and_parts e
  haveI : Subsingleton Cert.Pre_finite_gate.S_.Idx := ⟨fun a b => funext fun k => k.elim0⟩
  exact ⟨fun i => real_of_lt _ _ i (Host.reduce_andi_all _ _ _ _ _ e1 i),
    fun i => real_of_lt _ _ i (Host.reduce_andi_all _ _ _ _ _ e2 i),
    fun i => real_of_lt _ _ i (Host.reduce_andi_all _ _ _ _ _ e4 i)⟩

end Cert.ProjCBwdIdeal.Body

namespace Cert.ProjCBwdReferenceIdeal.Body

open Idealize.ShloMosaic Idealize.ShloMosaic.Tactic
open Cert.ProjCBwdReferenceIdeal Cert.ProjCBwdReferenceIdeal.Gen Cert.ProjCBwdReferenceIdeal.Read Cert.Proj Cert.Reals

/-- The reference's gradient of the mixer's output. -/
theorem refY (x1 : S2048x1024.Idx → EReal) (x2 : S1x1280x1024.Idx → EReal) :
    val_main_v7 (F := Ideal) x1 x2 = gradY x1 x2 := by
  funext i
  idx_vars i
  pointwise [val_main_v7, val_main_v4, val_main_v2, val_main_v1]
  unfold gradY
  exact Finset.sum_congr rfl fun k _ => rfl

/-- The reference's gradient of the weights. -/
theorem refW (x0 : S2048x1280.Idx → EReal) (x1 : S2048x1024.Idx → EReal) :
    val_main_v12 (F := Ideal) x0 x1 = gradW x0 x1 := by
  funext i
  idx_vars i
  pointwise [val_main_v12, val_main_v6, val_main_v5, val_main_v4]
  unfold gradW
  exact Finset.sum_congr rfl fun r _ => mul_comm _ _

/-- The reference's matrix of gradients, where the gate's factor is a real number. -/
theorem refZ (x1 : S2048x1024.Idx → EReal) (x2 : S1x1280x1024.Idx → EReal) (x3 : S2048x10752.Idx → EReal) (x4 : S2048x1280.Idx → EReal) (x5 : S2048x10752.Idx → EReal)
    (h1 : ∀ i, Real (x1 i)) (h2 : ∀ i, Real (x2 i)) (h4 : ∀ i, Real (x4 i)) :
    val_main_v14 (F := Ideal) x1 x2 x3 x4 x5 = Cert.ProjCBwdIdeal.Body.matZ x1 x2 x4 x5 x3 := by
  have e : val_main_v14 (F := Ideal) x1 x2 x3 x4 x5
      = updateSlice x3 (val_main_v13 (F := Ideal) x1 x2 x4 x5) ![0, 6400] (by decide) :=
    WordCmp.dynamicUpdateSlice_eq_update _ _ _ _ _ _ fun a => by fin_cases a <;> rfl
  rw [e]
  funext i
  idx_vars i
  pointwise [val_main_v13, val_main_v11, val_main_call1_v2, val_main_call1_v1, val_main_call1_v0, refY, val_main_v10, val_main_v8_0, val_main_v8_1, val_main_v8_2, val_main_call0_v7, val_main_call0_v6,  val_main_call0_cst_1, val_main_call0_v4, val_main_call0_v3, val_main_v0,val_main_call0_cst, val_main_call0_cst_0, val_main_call0_v2,val_main_call0_v1,val_main_call0_v0]
  show _ = Cert.ProjCBwdIdeal.Body.cellZ x1 x2 x4 x5 x3 i0 i1
  unfold Cert.ProjCBwdIdeal.Body.cellZ
  refine dite_congr rfl (fun h => ?_) fun _ => rfl
  have hj : (⟨6400 + (i1.val - 6400), by omega⟩ : Fin 10752) = i1 := Fin.ext (by show 6400 + (i1.val - 6400) = i1.val; omega)
  rw [hj]
  have hx : Real (gradY x1 x2 (ix2 i0 ⟨i1.val - 6400, by omega⟩) * x4 (ix2 i0 ⟨i1.val - 6400, by omega⟩)) :=
    Real.mul (Real.sum _ _ fun k _ => Real.mul (h1 _) (h2 _)) (h4 _)
  rw [mul_comm (x4 _)]
  exact (silu_grad hx (x5 (ix2 i0 i1))).symm

end Cert.ProjCBwdReferenceIdeal.Body

end
-- ==== Proof.ClaimProjCBwd.lean ====
module

public import Idealize.ShloMosaic.Lib.WordCmp
public import Idealize.ShloMosaic.Lib.Pointwise
public import Idealize.ShloMosaic.Lib.ValueIdx
public import Idealize.ShloMosaic.PureOps.Ideal.Laws
public import Idealize.ShloMosaic.Lib.Pipeline.ValueKit
public import Idealize.ShloMosaic.Lib.Claim
public import Idealize.ShloMosaic.Adequacy
public import Idealize.ShloMosaic.Init
public import proofs.«01_k».proof.Defs
public import proofs.«01_k».proof.Proof.Gen.ProjCBwd
public import proofs.«01_k».proof.Proof.Gen.ProjCBwd.Frame
public import proofs.«01_k».proof.Proof.Gen.ProjCBwdIdeal
public import proofs.«01_k».proof.Proof.Gen.ProjCBwdIdeal.Value
public import proofs.«01_k».proof.Proof.Gen.ProjCBwdReferenceIdeal
public import proofs.«01_k».proof.Proof.Gen.ProjCBwdReferenceIdeal.Run
public import proofs.«01_k».proof.Proof.Gen.ProjCBwdReferenceIdeal.Read
public import proofs.«01_k».proof.Proof.Gen.Pre_finite_gate
public import proofs.«01_k».proof.Proof.ProjCGrad

@[expose] public section

set_option maxRecDepth 16384

noncomputable section

namespace Cert.ProjCBwdClaim

open Idealize.ShloMosaic Idealize.ShloMosaic.TcCoe Idealize.SL.Sem
open Cert.ProjCBwdIdeal.Body

/-! # The projection of mixer C: what is claimed -/

/-- The call at floating point runs, leaves its arguments and ends with every semaphore at zero. -/
theorem frame_kernel : Cert.quiescent_ProjCBwd := fun m ρ _ => Cert.ProjCBwd.Gen.frame m ρ

/-- The call over the extended reals runs, leaves its arguments and ends with every semaphore at zero. -/
theorem frame_ideal : Cert.quiescent_ProjCBwdIdeal := fun m ρ _ => Cert.ProjCBwdIdeal.Gen.frame m ρ

/-- The reference over the extended reals runs and leaves its arguments; it has no semaphore. -/
theorem frame_reference : Cert.quiescent_ProjCBwdReferenceIdeal := fun m ρ _ =>
  (θ_run Cert.ProjCBwdReferenceIdeal.defs _ _).mono (fun r h => ⟨fun c => (h c).2.2.2, sem_eq_zero_of_no_sems (by decide) r.2⟩)
    (Cert.ProjCBwdReferenceIdeal.Value.run (F := Ideal) m ρ)

/-- The call and the reference leave the same results of finite arguments. -/
theorem equal : Cert.algebraic_ProjCBwdIdeal_ProjCBwdReferenceIdeal_pre_finite_gate := by
  intro m ρ m' ρ' hpre hargs
  refine ⟨fun c => Cert.Proj.gradY (dps m c) (ws m c),
    fun c => Cert.Proj.gradW (ys m c) (dps m c),
    fun c => matZ (dps m c) (ws m c) (hseqs m c) (pjs m c) (dpj m c), ?_, ?_⟩
  · refine (θ_run Cert.ProjCBwdIdeal.defs _ _).mono (fun r h c => ?_) (Cert.ProjCBwdIdeal.Value.run_blocks (F := Ideal) m ρ)
    have H := finite_of_pre m c hpre
    obtain ⟨h0, h1, h2, hr⟩ := h c
    exact ⟨h0.trans (arrY m c), h1.trans (arrW m c), h2.trans (arrZ m c), hr⟩
  · refine (θ_run Cert.ProjCBwdReferenceIdeal.defs _ _).mono (fun r h c => ?_) (Cert.ProjCBwdReferenceIdeal.Value.run (F := Ideal) m' ρ')
    have H := finite_of_pre m c hpre
    obtain ⟨a0, a1, a2, a3, a4, a5⟩ := hargs c
    obtain ⟨h0, h1, h2, hr⟩ := h c
    replace h0 := h0.trans (Cert.ProjCBwdReferenceIdeal.Read.val_main_v7_eq (F := Ideal) ..)
    rw [a1, a2] at h0
    replace h1 := h1.trans (Cert.ProjCBwdReferenceIdeal.Read.val_main_v12_eq (F := Ideal) ..)
    rw [a0, a1] at h1
    replace h2 := h2.trans (Cert.ProjCBwdReferenceIdeal.Read.val_main_v14_eq (F := Ideal) ..)
    rw [a1, a2, a3, a4, a5] at h2
    exact ⟨h0.trans (Cert.ProjCBwdReferenceIdeal.Body.refY _ _), h1.trans (Cert.ProjCBwdReferenceIdeal.Body.refW _ _), h2.trans (Cert.ProjCBwdReferenceIdeal.Body.refZ _ _ _ _ _ H.1 H.2.1 H.2.2), hr⟩

end Cert.ProjCBwdClaim

end
-- ==== Proof.InprojFwdRun.lean ====
module

public import Idealize.ShloMosaic.Lib.Pipeline.Value
public import Idealize.ShloMosaic.Lib.Claim
public import proofs.«01_k».proof.Proof.Overlay
public import proofs.«01_k».proof.Proof.Gen.InprojFwdIdeal
public import proofs.«01_k».proof.Proof.Gen.InprojFwdIdeal.Skeleton
public import proofs.«01_k».proof.Proof.Gen.InprojFwdIdeal.Frame

@[expose] public section

set_option maxRecDepth 16384

noncomputable section

/-! # The input projection going forward: its run

At the first column tile the body normalises the block of tokens into the second result's buffer; at every tile it multiplies what that
buffer holds by the tile's weights. The buffer is written back once, at the last tile. -/

namespace Cert.InprojFwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InprojFwdIdeal Cert.InprojFwdIdeal.Gen
open Cert.KernelIdeal.Body (read_writes_cons_overlay read_writes_nil overlay_whole zero2 zero3)

variable {F : FTy → Type} [FloatOps F]

local notation "𝕄" => MT nD τ sig Unit (Elt F) ℕ (UR sig nD τ) ℕ

/-! ## Loads and stores of whole buffers -/

/-- A load of the whole buffer of the tokens reads it. -/
theorem ld_x (X : Vec F S2048x1024 .f32) :
    View.ld (Val := Elt F) (e' := .f32) X (Rect.unit ![0, 0] ![2048, 1024] inb_S2048x1024_S2048x1024_0_0) = X :=
  View.ld_unit_zero (S := S2048x1024) zero2 _ X
/-- A load of the whole buffer of the gain reads it. -/
theorem ld_g (X : Vec F S1x1024 .f32) :
    View.ld (Val := Elt F) (e' := .f32) X (Rect.unit ![0, 0] ![1, 1024] inb_S1x1024_S1x1024_0_0) = X :=
  View.ld_unit_zero (S := S1x1024) zero2 _ X
/-- A load of the whole buffer of a tile's weights reads it. -/
theorem ld_w (X : Vec F S1x768x1024 .bf16) :
    View.ld (Val := Elt F) (e' := .bf16) X (Rect.unit ![0, 0, 0] ![1, 768, 1024] inb_S1x768x1024_S1x768x1024_0_0_0) = X :=
  View.ld_unit_zero (S := S1x768x1024) zero3 _ X
/-- A load of the whole buffer of the normalised tokens reads it. -/
theorem ld_h (X : Vec F S2048x1024 .bf16) :
    View.ld (Val := Elt F) (e' := .bf16) X (Rect.unit ![0, 0] ![2048, 1024] inb_S2048x1024_S2048x1024_0_0) = X :=
  View.ld_unit_zero (S := S2048x1024) zero2 _ X
/-- A store over the whole buffer of the normalised tokens leaves what is stored. -/
theorem overlay_h (X w : Vec F S2048x1024 .bf16) :
    (Rect.unit (s := S2048x1024) ![0, 0] ![2048, 1024] inb_S2048x1024_S2048x1024_0_0).overlay X w = w :=
  overlay_whole (s := S2048x1024) zero2 _ X w
/-- A store over the whole buffer of a tile of the projection leaves what is stored. -/
theorem overlay_p (X w : Vec F S2048x768 .f32) :
    (Rect.unit (s := S2048x768) ![0, 0] ![2048, 768] inb_S2048x768_S2048x768_0_0).overlay X w = w :=
  overlay_whole (s := S2048x768) zero2 _ X w

/-! ## The body's two cases -/

/-- The body is at the first column tile. -/
abbrev first (i : grid0.Coords) : Prop := k0_cond1 i = 1#1

set_option maxRecDepth 65536 in
/-- It is so at the first grid point and at no other. -/
theorem first_iff : ∀ t : Fin cfg0.N, first (grid0.coords t) ↔ t.val = 0 := by decide +kernel

set_option maxHeartbeats 1000000 in
/-- At the first tile: both results' buffers are left at what the tokens, the gain and the weights give. -/
theorem run_first (c : Dev nD) (i : grid0.Coords) (arg1 : Memref sig .tc .vmem S2048x1024 .f32) (harg1 : arg1.IsWhole) (arg2 : Memref sig .tc .vmem S1x1024 .f32) (harg2 : arg2.IsWhole)
    (arg3 : Memref sig .tc .vmem S1x768x1024 .bf16) (harg3 : arg3.IsWhole) (arg4 : Memref sig .tc .vmem S2048x768 .f32) (harg4 : arg4.IsWhole)
    (arg5 : Memref sig .tc .vmem S2048x1024 .bf16) (harg5 : arg5.IsWhole)
    (hc : first i) (x0 : Vec F S2048x1024 .f32) (x1 : Vec F S1x1024 .f32) (x2 : Vec F S1x768x1024 .bf16) :
    ∀ (E : Set ℕ) (K : PUnit → sProp 𝕄),
      iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
          ∗ (iprop(owns (c : Thread nD τ) arg1 fullShare x0 ∗ owns (c : Thread nD τ) arg2 fullShare x1 ∗ owns (c : Thread nD τ) arg3 fullShare x2 ∗ owns (c : Thread nD τ) arg4 fullShare (k0_pay2 (k0_pay1 x0 x1) x2) ∗ owns (c : Thread nD τ) arg5 fullShare (k0_pay1 x0 x1)) -∗ K ⟨⟩))
        ⊢ wp frame (wpE (defs₀ (F := F)) Variants.none c none) E (cc0_inproj_fwd_l0 i arg1 harg1 arg2 harg2 arg3 harg3 arg4 harg4 arg5 harg5) K := by
  intro E K
  simp only [cc0_inproj_fwd_l0_eq_skeleton]; unfold cc0_inproj_fwd_l0_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg1.eq_unread hf0; obtain rfl := harg2.eq_unread hf1; obtain rfl := harg3.eq_unread hf2
  sl_exec (disch := sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    · ipureintro
      sl_unfold_run_names
      simp only [View.readCov, read_writes_cons_overlay, read_writes_nil, View.readAt_eq_ld, harg1.read_unread, harg2.read_unread, harg3.read_unread, harg5.read_unread, ld_x, ld_g, ld_w, ld_h, overlay_h]
      exact (overlay_p _ _).trans (congrArg (fun z => k0_pay2 z x2) (overlay_h _ _))
  iexists _; isplitr; swap; · iexact H4
  · ipureintro
    sl_unfold_run_names
    simp only [read_writes_cons_overlay, View.readAt_eq_ld, harg1.read_unread, harg2.read_unread, ld_x, ld_g]
    exact (overlay_h _ _).trans rfl

set_option maxHeartbeats 1000000 in
/-- At a later tile: the normalised tokens stay as they are and are multiplied by the tile's weights. -/
theorem run_rest (c : Dev nD) (i : grid0.Coords) (arg1 : Memref sig .tc .vmem S2048x1024 .f32) (harg1 : arg1.IsWhole) (arg2 : Memref sig .tc .vmem S1x1024 .f32) (harg2 : arg2.IsWhole)
    (arg3 : Memref sig .tc .vmem S1x768x1024 .bf16) (harg3 : arg3.IsWhole) (arg4 : Memref sig .tc .vmem S2048x768 .f32) (harg4 : arg4.IsWhole)
    (arg5 : Memref sig .tc .vmem S2048x1024 .bf16) (harg5 : arg5.IsWhole)
    (hc : ¬first i) (x0 : Vec F S2048x1024 .f32) (x1 : Vec F S1x1024 .f32) (x2 : Vec F S1x768x1024 .bf16) (h : Vec F S2048x1024 .bf16) :
    ∀ (E : Set ℕ) (K : PUnit → sProp 𝕄),
      iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare h
          ∗ (iprop(owns (c : Thread nD τ) arg1 fullShare x0 ∗ owns (c : Thread nD τ) arg2 fullShare x1 ∗ owns (c : Thread nD τ) arg3 fullShare x2 ∗ owns (c : Thread nD τ) arg4 fullShare (k0_pay2 h x2) ∗ owns (c : Thread nD τ) arg5 fullShare (h)) -∗ K ⟨⟩))
        ⊢ wp frame (wpE (defs₀ (F := F)) Variants.none c none) E (cc0_inproj_fwd_l0 i arg1 harg1 arg2 harg2 arg3 harg3 arg4 harg4 arg5 harg5) K := by
  intro E K
  simp only [cc0_inproj_fwd_l0_eq_skeleton]; unfold cc0_inproj_fwd_l0_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg1.eq_unread hf0; obtain rfl := harg2.eq_unread hf1; obtain rfl := harg3.eq_unread hf2; obtain rfl := harg5.eq_unread hf4
  sl_exec (disch := sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    · ipureintro
      sl_unfold_run_names
      simp only [View.readCov, read_writes_cons_overlay, read_writes_nil, View.readAt_eq_ld, harg1.read_unread, harg2.read_unread, harg3.read_unread, harg5.read_unread, ld_x, ld_g, ld_w, ld_h, overlay_h]
      exact (overlay_p _ _).trans rfl
  iexists _; isplitr; · ipureintro; exact harg5.read_unread _
  iexact H4

variable (m : (ℓ : Loc nD τ sig) → Buf (Elt F) ℓ) (ρ : Dev nD → PrngReg)

/-! ## The pipeline's data -/

/-- The first grid point. -/
def p0 : Fin cfg0.N := ⟨0, by decide +kernel⟩

/-- The normalised tokens, as the first point computes them. -/
def hid (c : Dev nD) : Vec F S2048x1024 .bf16 := k0_pay1 (iblk m c 0 p0) (iblk m c 1 p0)

/-- The arrays as the launch finds them; after the body each input's buffer at its block, the projection's at the tile's product and
    the second result's at the normalised tokens. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (hid m c) (iblk m c 2 t)
    | ⟨4, _⟩ => hid m c
  Φ _ := Pipeline.ΦA spec0 c
  q _ := fullShare
  owed _ := 0

/-- The data's arrays are those the launch finds. -/
theorem A_eq (c : Dev nD) (w : Fin cfg0.W) : (dats m 0 c).A w = V m c (Pipeline.arrRef spec0 w) := by dsimp only [dats]
/-- The tokens' buffer stays at its block. -/
theorem after0 (c : Dev nD) (t : Fin cfg0.N) : (dats m 0 c).after 0 t = iblk m c 0 t := by dsimp only [dats]
/-- The gain's buffer stays at its block. -/
theorem after1 (c : Dev nD) (t : Fin cfg0.N) : (dats m 0 c).after 1 t = iblk m c 1 t := by dsimp only [dats]
/-- The weights' buffer stays at its block. -/
theorem after2 (c : Dev nD) (t : Fin cfg0.N) : (dats m 0 c).after 2 t = iblk m c 2 t := by dsimp only [dats]
/-- The projection's buffer is left at the tile's product. -/
theorem after3 (c : Dev nD) (t : Fin cfg0.N) : (dats m 0 c).after 3 t = k0_pay2 (hid m c) (iblk m c 2 t) := by dsimp only [dats]
/-- The second result's buffer is left at the normalised tokens. -/
theorem after4 (c : Dev nD) (t : Fin cfg0.N) : (dats m 0 c).after 4 t = hid m c := by dsimp only [dats]
/-- The tokens' buffer holds its block when the body runs. -/
theorem before0 (c : Dev nD) (t : Fin cfg0.N) (d) : (dats m 0 c).before 0 t d = iblk m c 0 t :=
  before0_0_of m (dats m 0 c) (A_eq m c 0) (after0 m c) t d
/-- The gain's buffer holds its block when the body runs. -/
theorem before1 (c : Dev nD) (t : Fin cfg0.N) (d) : (dats m 0 c).before 1 t d = iblk m c 1 t :=
  before0_1_of m (dats m 0 c) (A_eq m c 1) (after1 m c) t d
/-- The weights' buffer holds its block when the body runs. -/
theorem before2 (c : Dev nD) (t : Fin cfg0.N) (d) : (dats m 0 c).before 2 t d = iblk m c 2 t :=
  before0_2_of m (dats m 0 c) (A_eq m c 2) (after2 m c) t d

/-- The second result's buffer takes part at the first point. -/
theorem busy (t : Fin cfg0.N) (h : t.val = 0) : cfg0.idle 4 (cfg0.grid.coords t) = false := by
  show (!(k0_cond1 (grid0.coords t) == 1#1)) = false
  rw [(first_iff t).mpr h]; rfl
/-- It takes part at no other point. -/
theorem rests (t : Fin cfg0.N) (h : t.val ≠ 0) : cfg0.idle 4 (cfg0.grid.coords t) = true := by
  have h' : ¬k0_cond1 (grid0.coords t) = 1#1 := fun e => h ((first_iff t).mp e)
  show (!(k0_cond1 (grid0.coords t) == 1#1)) = true
  rw [beq_false_of_ne h']; rfl
/-- It is not written back before the last point. -/
theorem stays (t : Fin cfg0.N) (h : t.val < 13) : (cfg0.win 4).flush t = false := by
  rw [Bool.eq_false_iff]; intro hf
  have := (flush0_4 t).mp hf
  omega

/-- Past the first point the second result's buffer holds the normalised tokens. -/
theorem before4 (c : Dev nD) (d) : ∀ (n : ℕ) (t : Fin cfg0.N), t.val = n + 1 → (dats m 0 c).before 4 t d = hid m c := by
  intro n
  induction n with
  | zero =>
    intro t ht
    have hN : t.val < 14 := Nat.lt_of_lt_of_eq t.isLt N_0
    rw [(dats m 0 c).before_of_pos 4 t (by omega) ((cfg0.win 4).fetch_out rfl t), stays ⟨t.val - 1, by omega⟩ (show t.val - 1 < 13 by omega),
      if_neg Bool.false_ne_true]
    unfold Dat.left; rw [busy ⟨t.val - 1, by omega⟩ (show t.val - 1 = 0 by omega)]
    unfold Dat.kept
    rw [Pipeline.fill_of_clip_none 4 _ (fun _ => rfl) d ((dats m 0 c).after 4 _), Window.fill_cut, after4]
  | succ n ih =>
    intro t ht
    have hN : t.val < 14 := Nat.lt_of_lt_of_eq t.isLt N_0
    rw [(dats m 0 c).before_of_pos 4 t (by omega) ((cfg0.win 4).fetch_out rfl t), stays ⟨t.val - 1, by omega⟩ (show t.val - 1 < 13 by omega),
      if_neg Bool.false_ne_true]
    unfold Dat.left; rw [rests ⟨t.val - 1, by omega⟩ (show t.val - 1 ≠ 0 by omega)]
    exact (ih ⟨t.val - 1, by omega⟩ (show t.val - 1 = n + 1 by omega))

/-! ## The body obligation -/

/-- Window 0's buffer at point `t`. -/
abbrev ms0 (t : Fin cfg0.N) : Memref sig .tc .vmem S2048x1024 .f32 := win0_0.stage (cfg0.slots t 0)
/-- Window 1's buffer at point `t`. -/
abbrev ms1 (t : Fin cfg0.N) : Memref sig .tc .vmem S1x1024 .f32 := win0_1.stage (cfg0.slots t 1)
/-- Window 2's buffer at point `t`. -/
abbrev ms2 (t : Fin cfg0.N) : Memref sig .tc .vmem S1x768x1024 .bf16 := win0_2.stage (cfg0.slots t 2)
/-- Window 3's buffer at point `t`. -/
abbrev ms3 (t : Fin cfg0.N) : Memref sig .tc .vmem S2048x768 .f32 := win0_3.stage (cfg0.slots t 3)
/-- Window 4's buffer at point `t`. -/
abbrev ms4 (t : Fin cfg0.N) : Memref sig .tc .vmem S2048x1024 .bf16 := win0_4.stage (cfg0.slots t 4)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

/-- Window 0 is left at what the data say. -/
theorem leaves0 (c : Dev nD) (t : Fin cfg0.N) :
    (dats m 0 c).leavesExact 0 t = owns (c : Thread nD τ) (ms0 t) fullShare (iblk m c 0 t) := by
  unfold Dat.leavesExact; rw [show cfg0.idle 0 (cfg0.grid.coords t) = false from rfl, after0]
/-- Window 1 is left at what the data say. -/
theorem leaves1 (c : Dev nD) (t : Fin cfg0.N) :
    (dats m 0 c).leavesExact 1 t = owns (c : Thread nD τ) (ms1 t) fullShare (iblk m c 1 t) := by
  unfold Dat.leavesExact; rw [show cfg0.idle 1 (cfg0.grid.coords t) = false from rfl, after1]
/-- Window 2 is left at what the data say. -/
theorem leaves2 (c : Dev nD) (t : Fin cfg0.N) :
    (dats m 0 c).leavesExact 2 t = owns (c : Thread nD τ) (ms2 t) fullShare (iblk m c 2 t) := by
  unfold Dat.leavesExact; rw [show cfg0.idle 2 (cfg0.grid.coords t) = false from rfl, after2]
/-- Window 3 is left at what the data say. -/
theorem leaves3 (c : Dev nD) (t : Fin cfg0.N) :
    (dats m 0 c).leavesExact 3 t = owns (c : Thread nD τ) (ms3 t) fullShare (k0_pay2 (hid m c) (iblk m c 2 t)) := by
  unfold Dat.leavesExact; rw [show cfg0.idle 3 (cfg0.grid.coords t) = false from rfl, after3]
/-- The second result's buffer at the normalised tokens is what the data say, at every point. -/
theorem leaves4 (c : Dev nD) (t : Fin cfg0.N) :
    owns (c : Thread nD τ) (ms4 t) fullShare (hid m c) ⊢ ((dats m 0 c).leavesExact 4 t : sProp 𝕄) := by
  have hN : t.val < 14 := Nat.lt_of_lt_of_eq t.isLt N_0
  by_cases h : t.val = 0
  · unfold Dat.leavesExact; rw [busy t h, after4]
  · by_cases h' : t.val < 13
    · rw [(dats m 0 c).leavesExact_idle 4 t (rests t h) (stays t h')]
      iintro H; iexists (hid m c)
      rw [before4 m c _ (t.val - 1) t (by omega)]; iexact H
    · unfold Dat.leavesExact
      rw [rests t h, show (cfg0.win 4).flush t = true from (flush0_4 t).mpr (by omega), after4]

set_option maxHeartbeats 1000000 in
/-- The body at the first point. -/
theorem sound_first (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl]
  rw [leaves0, leaves1, leaves2, leaves3]
  obtain rfl : t = p0 := Fin.ext h
  iintro ⟨HΦ, Ho, ⟨%d0, H0⟩, ⟨%d1, H1⟩, ⟨%d2, H2⟩, ⟨%d3, H3⟩, ⟨%d4, H4⟩⟩
  iapply ((run_first c (grid0.coords p0) _ _ _ _ _ _ _ _ _ _ ((first_iff p0).mpr h) (iblk m c 0 p0) (iblk m c 1 p0) (iblk m c 2 p0)) Set.univ _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  have h4 : owns (c : Thread nD τ) (ms4 p0) fullShare (k0_pay1 (iblk m c 0 p0) (iblk m c 1 p0)) ⊢ ((dats m 0 c).leavesExact 4 p0 : sProp 𝕄) :=
    leaves4 m c p0
  iapply h4 $$ H4

set_option maxHeartbeats 1000000 in
/-- The body at a later point. -/
theorem sound_rest (c : Dev nD) (t : Fin cfg0.N) (h : t.val ≠ 0) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl]
  rw [leaves0, leaves1, leaves2, leaves3]
  iintro ⟨HΦ, Ho, ⟨%d0, H0⟩, ⟨%d1, H1⟩, ⟨%d2, H2⟩, ⟨%d3, H3⟩, ⟨%d4, H4⟩⟩
  rw [before4 m c _ (t.val - 1) t (by omega)]
  iapply ((run_rest c (grid0.coords t) _ _ _ _ _ _ _ _ _ _ (fun e => h ((first_iff t).mp e)) (iblk m c 0 t) (iblk m c 1 t) (iblk m c 2 t) (hid m c)) Set.univ _)
  isplitl [H0]; · iexact H0
  isplitl [H1]; · iexact H1
  isplitl [H2]; · iexact H2
  isplitl [H3]; · iexists _; iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iapply (leaves4 m c t) $$ H4

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val = 0
  · exact sound_first m c t h
  · exact sound_rest m c t h

/-- The body table's entry at point `t` is the body on the point's buffers. -/
theorem defs₀_row (t : Fin cfg0.N) :
    defs₀ (F := F) .tc cfg0.body (cfg0.bodyArgs t (cfg0.slots t)) = bodyAt0 t := by
  unfold defs₀; rw [Defs.onTc_tc]

/-- The body obligation of the pipeline, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- From any memory with zero counters every weakly fair execution terminates, with every array of the pipeline at what the data
    say and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.InprojFwdIdeal.Body

end
-- ==== Proof.InprojFwdValue.lean ====
module

public import Idealize.ShloMosaic.Lib.WordCmp
public import Idealize.ShloMosaic.Lib.Pointwise
public import Idealize.ShloMosaic.Lib.ValueIdx
public import Idealize.ShloMosaic.PureOps.Ideal.Laws
public import Idealize.ShloMosaic.Lib.Pipeline.ValueKit
public import Idealize.ShloMosaic.Lib.Claim
public import proofs.«01_k».proof.Proof.InprojFwdRun
public import proofs.«01_k».proof.Proof.Gen.InprojFwdReferenceIdeal.Read

@[expose] public section

set_option maxRecDepth 16384

noncomputable section

namespace Cert.InprojFwdIdeal.Body

open Idealize.ShloMosaic Idealize.ShloMosaic.Tactic
open Cert.InprojFwdIdeal Cert.InprojFwdIdeal.Gen
open Idealize.ShloMosaic.TcCoe Idealize.ShloMosaic.Pipeline Idealize.SL Idealize.SL.RA Idealize.SL.Sem

/-! # The input projection going forward: what the two results hold -/

/-- The tokens normalised: each over the root of the mean of its squares (and a small constant), times the gain. -/
def normed (x : S2048x1024.Idx → EReal) (g : S1x1024.Idx → EReal) : S2048x1024.Idx → EReal :=
  fun i => x i * Ideal.rsqrt (Ideal.div (∑ k : Fin 1024, x (ix2 (i 0) k) * x (ix2 (i 0) k)) (Ideal.ofBits .f32 0x44800000#32)
    + Ideal.ofBits .f32 0x358637BD#32) * g (ix2 0 (i 1))

/-- The projection: the tokens' rows against the weights' rows. -/
def project (h : S2048x1024.Idx → EReal) (w : S1x10752x1024.Idx → EReal) : S2048x10752.Idx → EReal :=
  fun i => ∑ k : Fin 1024, h (ix2 (i 0) k) * w (ix3 0 (i 1) k)

section
variable (m : (ℓ : Loc nD τ sig) → Buf (Elt Ideal) ℓ) (ρ : Dev nD → PrngReg) (c : Dev nD)

/-- The tokens. -/
def xs : S2048x1024.Idx → EReal := m ((c : Thread nD τ).loc main_arg0)
/-- The gain. -/
def gs : S1x1024.Idx → EReal := m ((c : Thread nD τ).loc main_arg1)
/-- The weights. -/
def ws : S1x10752x1024.Idx → EReal := m ((c : Thread nD τ).loc main_arg2)

theorem idx0 : ∀ t : Fin cfg0.N, win0_0.index t = ![0, 0] := by decide +kernel
theorem idx1 : ∀ t : Fin cfg0.N, win0_1.index t = ![0, 0] := by decide +kernel
theorem idx2 : ∀ t : Fin cfg0.N, win0_2.index t = ![0, t.val, 0] := by decide +kernel
theorem idx3 : ∀ t : Fin cfg0.N, win0_3.index t = ![0, t.val] := by decide +kernel
theorem idx4 : ∀ t : Fin cfg0.N, win0_4.index t = ![0, 0] := by decide +kernel

/-- A point's number is below 14. -/
theorem lt14 (t : Fin cfg0.N) : t.val < 14 := t.isLt

/-- The block of the tokens at a point: all of them. -/
theorem iblk0 (t : Fin cfg0.N) (i : Fin 2048) (j : Fin 1024) :
    (iblk (F := Ideal) m c 0 t : S2048x1024.Idx → EReal) (ix2 i j) = xs m c (ix2 i j) := by
  rw [xs]
  blk_ext [iblk, V_main_arg0, idx0]
  all_goals omega

/-- The block of the gain at a point: all of it. -/
theorem iblk1 (t : Fin cfg0.N) (j : Fin 1024) :
    (iblk (F := Ideal) m c 1 t : S1x1024.Idx → EReal) (ix2 0 j) = gs m c (ix2 0 j) := by
  rw [gs]
  blk_ext [iblk, V_main_arg1, idx1]
  all_goals omega

/-- The block of the weights at a point: 768 of their rows. -/
theorem iblk2 (t : Fin cfg0.N) (i : Fin 1) (j : Fin 768) (k : Fin 1024) (h : 768 * t.val + j.val < 10752) :
    (iblk (F := Ideal) m c 2 t : S1x768x1024.Idx → EReal) (ix3 i j k) = ws m c (ix3 0 ⟨768 * t.val + j.val, h⟩ k) := by
  rw [ws]
  blk_ext [iblk, V_main_arg2, idx2]
  all_goals omega

/-- What the first point leaves of the normalised tokens. -/
theorem hid_eq : (hid (F := Ideal) m c : S2048x1024.Idx → EReal) = normed (xs m c) (gs m c) := by
  funext i
  idx_vars i
  unfold hid
  pointwise [k0_pay1, zero_add]
  unfold normed
  refine congrArg₂ (· * ·) (congrArg₂ (· * ·) (iblk0 m c p0 i0 i1) (congrArg (fun z => Ideal.rsqrt (Ideal.div z _ + _)) ?_)) (iblk1 m c p0 i1)
  exact Finset.sum_congr rfl fun k _ => congrArg₂ (· * ·) (iblk0 m c p0 i0 k) (iblk0 m c p0 i0 k)

/-- A point's block of the projection. -/
theorem pay2_eq (t : Fin cfg0.N) (i : Fin 2048) (j : Fin 768) (h : 768 * t.val + j.val < 10752) :
    k0_pay2 (F := Ideal) (hid m c) (iblk m c 2 t) (ix2 i j)
      = project (normed (xs m c) (gs m c)) (ws m c) (ix2 i ⟨768 * t.val + j.val, h⟩) := by
  rw [← hid_eq]
  pointwise [k0_pay2, zero_add]
  unfold project
  refine Finset.sum_congr rfl fun k _ => ?_
  refine congr (congrArg _ ?_) ?_
  · rfl
  · exact iblk2 m c t 0 j k h

/-- The projection at the end. -/
theorem arr3 : (dats (F := Ideal) m 0 c).arrAt 3 cfg0.N = project (normed (xs m c) (gs m c)) (ws m c) := by
  refine (dats m 0 c).arrAt_eq_of_covers 3 _ (by decide +kernel) fun t hf y => ?_
  have ht := lt14 t
  blk_simp
  rw [after3]
  idx_vars y
  refine (pay2_eq m c t y0 y1 (by omega)).trans ?_
  blk_ext [idx3]
  all_goals omega

/-- The normalised tokens at the end. -/
theorem arr4 : (dats (F := Ideal) m 0 c).arrAt 4 cfg0.N = normed (xs m c) (gs m c) := by
  refine (dats m 0 c).arrAt_eq_of_covers 4 _ (by decide +kernel) fun t hf y => ?_
  blk_simp
  rw [after4, hid_eq]
  blk_ext [idx4]
  all_goals omega

/-- The run ends with both results at these values and the arguments unchanged. -/
theorem run_values : θ_run defs (onTc (τ := τ) (main (F := Ideal))) ⟨m, fun _ => 0, ρ⟩ fun r => ∀ c : Dev nD,
      r.2.mem ((c : Thread nD τ).loc main_v0_0) = project (normed (xs m c) (gs m c)) (ws m c)
      ∧ r.2.mem ((c : Thread nD τ).loc main_v0_1) = normed (xs m c) (gs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1.1 c).1 3).trans (arr3 m c), ((h.1.1 c).1 4).trans (arr4 m c), h.2.1 c⟩)
    (θ_run_and (run_main m ρ) (frame m ρ))

end

end Cert.InprojFwdIdeal.Body

namespace Cert.InprojFwdReferenceIdeal.Body

open Idealize.ShloMosaic Idealize.ShloMosaic.Tactic
open Cert.InprojFwdReferenceIdeal Cert.InprojFwdReferenceIdeal.Read

/-- The reference's normalised tokens. -/
theorem refH (x0 : S2048x1024.Idx → EReal) (x1 : S1x1024.Idx → EReal) :
    val_main_v13 (F := Ideal) x0 x1 = Cert.InprojFwdIdeal.Body.normed x0 x1 := by
  funext i
  idx_vars i
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The reference's normalised tokens as it returns them. -/
theorem refR (x0 : S2048x1024.Idx → EReal) (x1 : S1x1024.Idx → EReal) :
    val_main_v18 (F := Ideal) x0 x1 = Cert.InprojFwdIdeal.Body.normed x0 x1 := by
  rw [← refH]
  rfl

/-- The reference's projection. -/
theorem refP (x0 : S2048x1024.Idx → EReal) (x1 : S1x1024.Idx → EReal) (x2 : S1x10752x1024.Idx → EReal) :
    val_main_v17 (F := Ideal) x0 x1 x2 = Cert.InprojFwdIdeal.Body.project (Cert.InprojFwdIdeal.Body.normed x0 x1) x2 := by
  funext i
  idx_vars i
  rw [← refH]
  pointwise [val_main_v17, val_main_v16, val_main_v15, val_main_v14]
  unfold Cert.InprojFwdIdeal.Body.project
  exact Finset.sum_congr rfl fun k _ => rfl

end Cert.InprojFwdReferenceIdeal.Body

end
-- ==== Proof.ClaimInprojFwd.lean ====
module

public import Idealize.ShloMosaic.Lib.WordCmp
public import Idealize.ShloMosaic.Lib.Pointwise
public import Idealize.ShloMosaic.Lib.ValueIdx
public import Idealize.ShloMosaic.PureOps.Ideal.Laws
public import Idealize.ShloMosaic.Lib.Pipeline.ValueKit
public import Idealize.ShloMosaic.Lib.Claim
public import Idealize.ShloMosaic.Adequacy
public import Idealize.ShloMosaic.Init
public import proofs.«01_k».proof.Defs
public import proofs.«01_k».proof.Proof.Gen.InprojFwd
public import proofs.«01_k».proof.Proof.Gen.InprojFwdIdeal
public import proofs.«01_k».proof.Proof.Gen.InprojFwdReferenceIdeal
public import proofs.«01_k».proof.Proof.Gen.InprojFwdReferenceIdeal.Run
public import proofs.«01_k».proof.Proof.Gen.InprojFwdReferenceIdeal.Read
public import proofs.«01_k».proof.Proof.InprojFwdValue

@[expose] public section

set_option maxRecDepth 16384

noncomputable section

namespace Cert.InprojFwdClaim

open Idealize.ShloMosaic Idealize.ShloMosaic.TcCoe Idealize.SL.Sem
open Cert.InprojFwdIdeal.Body

/-! # The input projection going forward: what is claimed -/

section
variable {F : FTy → Type} [FloatOps F]
/-- The body table of the call and that of its reading over any float values are one. -/
theorem defs₀_eq : Cert.InprojFwd.defs₀ (F := F) = Cert.InprojFwdIdeal.defs₀ (F := F) := by
  unfold Cert.InprojFwd.defs₀ Cert.InprojFwdIdeal.defs₀
  refine congrArg Defs.onTc (funext fun l => funext fun a => ?_)
  match l, a with
  | 0, (t, s) => rfl
  | ⟨_ + 1, h⟩, _ => exact absurd h (Nat.not_lt.2 (Nat.le_add_left _ _))
/-- So are the tables with the pipeline's entries. -/
theorem defs_eq : Cert.InprojFwd.defs (F := F) = Cert.InprojFwdIdeal.defs (F := F) := by
  unfold Cert.InprojFwd.defs Cert.InprojFwdIdeal.defs
  exact congrArg (Pipeline.defs (Cert.InprojFwdIdeal.pcfgs (F := F))) defs₀_eq
end

/-- The call at floating point runs, leaves its arguments and ends with every semaphore at zero: the run is the one over any float
    values, the two programs having one text. -/
theorem frame_kernel : Cert.quiescent_InprojFwd := fun m ρ _ => by
  rw [defs_eq]
  exact Cert.InprojFwdIdeal.Body.frame (F := Bits) m ρ

/-- The call over the extended reals runs, leaves its arguments and ends with every semaphore at zero. -/
theorem frame_ideal : Cert.quiescent_InprojFwdIdeal := fun m ρ _ => Cert.InprojFwdIdeal.Body.frame (F := Ideal) m ρ

/-- The reference over the extended reals runs and leaves its arguments; it has no semaphore. -/
theorem frame_reference : Cert.quiescent_InprojFwdReferenceIdeal := fun m ρ _ =>
  (θ_run Cert.InprojFwdReferenceIdeal.defs _ _).mono (fun r h => ⟨fun c => (h c).2.2, sem_eq_zero_of_no_sems (by decide) r.2⟩)
    (Cert.InprojFwdReferenceIdeal.Value.run (F := Ideal) m ρ)

/-- The call and the reference leave the same results. -/
theorem equal : Cert.algebraic_InprojFwdIdeal_InprojFwdReferenceIdeal := by
  intro m ρ m' ρ' hpre hargs
  refine ⟨fun c => project (normed (xs m c) (gs m c)) (ws m c), fun c => normed (xs m c) (gs m c), run_values m ρ, ?_⟩
  refine (θ_run Cert.InprojFwdReferenceIdeal.defs _ _).mono (fun r h c => ?_) (Cert.InprojFwdReferenceIdeal.Value.run (F := Ideal) m' ρ')
  obtain ⟨a0, a1, a2⟩ := hargs c
  obtain ⟨h0, h1, hr⟩ := h c
  replace h0 := h0.trans (Cert.InprojFwdReferenceIdeal.Read.val_main_v17_eq (F := Ideal) ..)
  rw [a0, a1, a2] at h0
  replace h1 := h1.trans (Cert.InprojFwdReferenceIdeal.Read.val_main_v18_eq (F := Ideal) ..)
  rw [a0, a1] at h1
  exact ⟨h0.trans (Cert.InprojFwdReferenceIdeal.Body.refP _ _ _), h1.trans (Cert.InprojFwdReferenceIdeal.Body.refR _ _), hr⟩

end Cert.InprojFwdClaim

end
-- ==== Proof.OutFwdValue.lean ====
module

public import Idealize.ShloMosaic.Lib.WordCmp
public import Idealize.ShloMosaic.Lib.Pointwise
public import Idealize.ShloMosaic.Lib.ValueIdx
public import Idealize.ShloMosaic.PureOps.Ideal.Laws
public import Idealize.ShloMosaic.Lib.Pipeline.ValueKit
public import Idealize.ShloMosaic.Lib.Pipeline.ReadBack
public import proofs.«01_k».proof.Proof.Gen.OutFwdIdeal.Value
public import proofs.«01_k».proof.Proof.Gen.OutFwdReferenceIdeal.Read

@[expose] public section

set_option maxRecDepth 16384

noncomputable section

namespace Cert.Merge

open Idealize.ShloMosaic Idealize.ShloMosaic.Tactic

/-! # The output projection going forward: its mathematics -/

/-- A mixer's output projected: its rows against the columns of the weights. -/
def lin {K : ℕ} (y : (⟨2, ![2048, K]⟩ : Shape).Idx → EReal) (w : (⟨3, ![1, K, 1024]⟩ : Shape).Idx → EReal) : (⟨2, ![2048, 1024]⟩ : Shape).Idx → EReal :=
  fun i => ∑ k : Fin K, y (ix2 (i 0) k) * w (ix3 0 k (i 1))

/-- The sigmoid. -/
def sgm (z : EReal) : EReal :=
  Ideal.div 1 (1 + Ideal.exp (-z))

/-- The gate of a mixer: the sigmoid of the columns of the input projection from `off` on. -/
def gate (off : ℕ) (h : off + 1024 ≤ 10752) (p : (⟨2, ![2048, 10752]⟩ : Shape).Idx → EReal) : (⟨2, ![2048, 1024]⟩ : Shape).Idx → EReal :=
  fun i => sgm (p (ix2 (i 0) ⟨off + (i 1).val, Nat.lt_of_lt_of_le (Nat.add_lt_add_left (i 1).isLt off) h⟩))

/-- The three projected mixers, gated and added. -/
def merged (p : (⟨2, ![2048, 10752]⟩ : Shape).Idx → EReal) (a b d : (⟨2, ![2048, 1024]⟩ : Shape).Idx → EReal) : (⟨2, ![2048, 1024]⟩ : Shape).Idx → EReal :=
  fun i => gate 7680 (by decide) p i * a i + gate 8704 (by decide) p i * b i + gate 9728 (by decide) p i * d i

/-- Rows normalised to a mean square of one, times the gain. -/
def rms (x : (⟨2, ![2048, 1024]⟩ : Shape).Idx → EReal) (g : (⟨2, ![1, 1024]⟩ : Shape).Idx → EReal) : (⟨2, ![2048, 1024]⟩ : Shape).Idx → EReal :=
  fun i => x i * Ideal.rsqrt (Ideal.div (∑ k : Fin 1024, x (ix2 (i 0) k) * x (ix2 (i 0) k)) (Ideal.ofBits .f32 0x44800000#32)
    + Ideal.ofBits .f32 0x358637BD#32) * g (ix2 0 (i 1))

/-- The tokens the block returns: those it took plus the normalised projection of the merged mixers. -/
def block (x : (⟨2, ![2048, 1024]⟩ : Shape).Idx → EReal) (p : (⟨2, ![2048, 10752]⟩ : Shape).Idx → EReal) (a b d : (⟨2, ![2048, 1024]⟩ : Shape).Idx → EReal)
    (w : (⟨3, ![1, 1024, 1024]⟩ : Shape).Idx → EReal) (g : (⟨2, ![1, 1024]⟩ : Shape).Idx → EReal) : (⟨2, ![2048, 1024]⟩ : Shape).Idx → EReal :=
  fun i => x i + rms (lin (merged p a b d) w) g i

end Cert.Merge

namespace Cert.OutFwdIdeal.Body

open Idealize.ShloMosaic Idealize.ShloMosaic.Tactic
open Cert.OutFwdIdeal Cert.OutFwdIdeal.Gen Cert.Merge
open Idealize.ShloMosaic.TcCoe Idealize.ShloMosaic.Pipeline Idealize.SL Idealize.SL.RA Idealize.SL.Sem

/-! # The output projection going forward: what the four results hold -/

variable (m : (ℓ : Loc nD τ sig) → Buf (Elt Ideal) ℓ) (c : Dev nD)

/-- The tokens the block took. -/
def xs : S2048x1024.Idx → EReal := m ((c : Thread nD τ).loc main_arg0)
/-- Mixer A's output. -/
def ya : S2048x1024.Idx → EReal := m ((c : Thread nD τ).loc main_arg1)
/-- Mixer B's output. -/
def yb : S2048x1024.Idx → EReal := m ((c : Thread nD τ).loc main_arg2)
/-- Mixer C's output. -/
def yc : S2048x1280.Idx → EReal := m ((c : Thread nD τ).loc main_arg3)
/-- The input projection. -/
def pj : S2048x10752.Idx → EReal := m ((c : Thread nD τ).loc main_arg4)
/-- The weights of mixer A's projection. -/
def wa : S1x1024x1024.Idx → EReal := m ((c : Thread nD τ).loc main_arg5)
/-- The weights of mixer B's projection. -/
def wb : S1x1024x1024.Idx → EReal := m ((c : Thread nD τ).loc main_arg6)
/-- The weights of mixer C's projection. -/
def wc : S1x1280x1024.Idx → EReal := m ((c : Thread nD τ).loc main_arg7)
/-- The weights of the output projection. -/
def wo : S1x1024x1024.Idx → EReal := m ((c : Thread nD τ).loc main_arg8)
/-- The gain. -/
def gs : S1x1024.Idx → EReal := m ((c : Thread nD τ).loc main_arg9)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx11 : ∀ t : Fin cfg0.N, win0_11.index t = ![t.val, 0] := by decide +kernel
theorem idx3 : ∀ t : Fin cfg0.N, win0_3.index t = ![t.val, 15] := by decide +kernel
theorem idx4 : ∀ t : Fin cfg0.N, win0_4.index t = ![t.val, 16] := by decide +kernel
theorem idx5 : ∀ t : Fin cfg0.N, win0_5.index t = ![t.val, 17] := by decide +kernel
theorem idx6 : ∀ t : Fin cfg0.N, win0_6.index t = ![t.val, 18] := by decide +kernel
theorem idx7 : ∀ t : Fin cfg0.N, win0_7.index t = ![t.val, 19] := by decide +kernel
theorem idx8 : ∀ t : Fin cfg0.N, win0_8.index t = ![t.val, 20] := by decide +kernel
theorem idx9 : ∀ t : Fin cfg0.N, win0_9.index t = ![0, 0, 0] := by decide +kernel
theorem idx12 : ∀ t : Fin cfg0.N, win0_12.index t = ![0, 0, 0] := by decide +kernel
theorem idx13 : ∀ t : Fin cfg0.N, win0_13.index t = ![0, 0, 0] := by decide +kernel
theorem idx14 : ∀ t : Fin cfg0.N, win0_14.index t = ![0, 0, 0] := by decide +kernel
theorem idx10 : ∀ t : Fin cfg0.N, win0_10.index t = ![0, 0] := by decide +kernel
theorem idx15 : ∀ t : Fin cfg0.N, win0_15.index t = ![t.val, 0] := by decide +kernel
theorem idx16 : ∀ t : Fin cfg0.N, win0_16.index t = ![t.val, 0] := by decide +kernel
theorem idx17 : ∀ t : Fin cfg0.N, win0_17.index t = ![t.val, 0] := by decide +kernel
theorem idx18 : ∀ t : Fin cfg0.N, win0_18.index t = ![t.val, 0] := by decide +kernel

/-- A point's number is below 4. -/
theorem lt4 (t : Fin cfg0.N) : t.val < 4 := t.isLt

/-- A point's block of 512 rows. -/
theorem iblk0 (t : Fin cfg0.N) (i : Fin 512) (j : Fin 1024) (h : 512 * t.val + i.val < 2048) :
    (iblk (F := Ideal) m c 0 t : S512x1024.Idx → EReal) (ix2 i j) = ya m c (ix2 ⟨512 * t.val + i.val, h⟩ j) := by
  rw [ya]
  blk_ext [iblk, V_main_arg1, idx0]
  all_goals omega

/-- A point's block of 512 rows. -/
theorem iblk1 (t : Fin cfg0.N) (i : Fin 512) (j : Fin 1024) (h : 512 * t.val + i.val < 2048) :
    (iblk (F := Ideal) m c 1 t : S512x1024.Idx → EReal) (ix2 i j) = yb m c (ix2 ⟨512 * t.val + i.val, h⟩ j) := by
  rw [yb]
  blk_ext [iblk, V_main_arg2, idx1]
  all_goals omega

/-- A point's block of 512 rows. -/
theorem iblk2 (t : Fin cfg0.N) (i : Fin 512) (j : Fin 1280) (h : 512 * t.val + i.val < 2048) :
    (iblk (F := Ideal) m c 2 t : S512x1280.Idx → EReal) (ix2 i j) = yc m c (ix2 ⟨512 * t.val + i.val, h⟩ j) := by
  rw [yc]
  blk_ext [iblk, V_main_arg3, idx2]
  all_goals omega

/-- A point's block of 512 rows. -/
theorem iblk11 (t : Fin cfg0.N) (i : Fin 512) (j : Fin 1024) (h : 512 * t.val + i.val < 2048) :
    (iblk (F := Ideal) m c 11 t : S512x1024.Idx → EReal) (ix2 i j) = xs m c (ix2 ⟨512 * t.val + i.val, h⟩ j) := by
  rw [xs]
  blk_ext [iblk, V_main_arg0, idx11]
  all_goals omega

/-- A point's block of the gates: 512 rows of 512 columns. -/
theorem iblk3 (t : Fin cfg0.N) (i : Fin 512) (j : Fin 512) (h : 512 * t.val + i.val < 2048) (g : 7680 + j.val < 10752) :
    (iblk (F := Ideal) m c 3 t : S512x512.Idx → EReal) (ix2 i j) = pj m c (ix2 ⟨512 * t.val + i.val, h⟩ ⟨7680 + j.val, g⟩) := by
  rw [pj]
  blk_ext [iblk, V_main_arg4, idx3]
  all_goals omega

/-- A point's block of the gates: 512 rows of 512 columns. -/
theorem iblk4 (t : Fin cfg0.N) (i : Fin 512) (j : Fin 512) (h : 512 * t.val + i.val < 2048) (g : 8192 + j.val < 10752) :
    (iblk (F := Ideal) m c 4 t : S512x512.Idx → EReal) (ix2 i j) = pj m c (ix2 ⟨512 * t.val + i.val, h⟩ ⟨8192 + j.val, g⟩) := by
  rw [pj]
  blk_ext [iblk, V_main_arg4, idx4]
  all_goals omega

/-- A point's block of the gates: 512 rows of 512 columns. -/
theorem iblk5 (t : Fin cfg0.N) (i : Fin 512) (j : Fin 512) (h : 512 * t.val + i.val < 2048) (g : 8704 + j.val < 10752) :
    (iblk (F := Ideal) m c 5 t : S512x512.Idx → EReal) (ix2 i j) = pj m c (ix2 ⟨512 * t.val + i.val, h⟩ ⟨8704 + j.val, g⟩) := by
  rw [pj]
  blk_ext [iblk, V_main_arg4, idx5]
  all_goals omega

/-- A point's block of the gates: 512 rows of 512 columns. -/
theorem iblk6 (t : Fin cfg0.N) (i : Fin 512) (j : Fin 512) (h : 512 * t.val + i.val < 2048) (g : 9216 + j.val < 10752) :
    (iblk (F := Ideal) m c 6 t : S512x512.Idx → EReal) (ix2 i j) = pj m c (ix2 ⟨512 * t.val + i.val, h⟩ ⟨9216 + j.val, g⟩) := by
  rw [pj]
  blk_ext [iblk, V_main_arg4, idx6]
  all_goals omega

/-- A point's block of the gates: 512 rows of 512 columns. -/
theorem iblk7 (t : Fin cfg0.N) (i : Fin 512) (j : Fin 512) (h : 512 * t.val + i.val < 2048) (g : 9728 + j.val < 10752) :
    (iblk (F := Ideal) m c 7 t : S512x512.Idx → EReal) (ix2 i j) = pj m c (ix2 ⟨512 * t.val + i.val, h⟩ ⟨9728 + j.val, g⟩) := by
  rw [pj]
  blk_ext [iblk, V_main_arg4, idx7]
  all_goals omega

/-- A point's block of the gates: 512 rows of 512 columns. -/
theorem iblk8 (t : Fin cfg0.N) (i : Fin 512) (j : Fin 512) (h : 512 * t.val + i.val < 2048) (g : 10240 + j.val < 10752) :
    (iblk (F := Ideal) m c 8 t : S512x512.Idx → EReal) (ix2 i j) = pj m c (ix2 ⟨512 * t.val + i.val, h⟩ ⟨10240 + j.val, g⟩) := by
  rw [pj]
  blk_ext [iblk, V_main_arg4, idx8]
  all_goals omega

/-- The block of the weights at a point: all of them. -/
theorem iblk9 (t : Fin cfg0.N) (i : Fin 1) (j : Fin 1024) (k : Fin 1024) :
    (iblk (F := Ideal) m c 9 t : S1x1024x1024.Idx → EReal) (ix3 i j k) = wo m c (ix3 0 j k) := by
  rw [wo]
  blk_ext [iblk, V_main_arg8, idx9]
  all_goals omega

/-- The block of the weights at a point: all of them. -/
theorem iblk12 (t : Fin cfg0.N) (i : Fin 1) (j : Fin 1024) (k : Fin 1024) :
    (iblk (F := Ideal) m c 12 t : S1x1024x1024.Idx → EReal) (ix3 i j k) = wa m c (ix3 0 j k) := by
  rw [wa]
  blk_ext [iblk, V_main_arg5, idx12]
  all_goals omega

/-- The block of the weights at a point: all of them. -/
theorem iblk13 (t : Fin cfg0.N) (i : Fin 1) (j : Fin 1024) (k : Fin 1024) :
    (iblk (F := Ideal) m c 13 t : S1x1024x1024.Idx → EReal) (ix3 i j k) = wb m c (ix3 0 j k) := by
  rw [wb]
  blk_ext [iblk, V_main_arg6, idx13]
  all_goals omega

/-- The block of the weights at a point: all of them. -/
theorem iblk14 (t : Fin cfg0.N) (i : Fin 1) (j : Fin 1280) (k : Fin 1024) :
    (iblk (F := Ideal) m c 14 t : S1x1280x1024.Idx → EReal) (ix3 i j k) = wc m c (ix3 0 j k) := by
  rw [wc]
  blk_ext [iblk, V_main_arg7, idx14]
  all_goals omega

/-- The block of the gain at a point: all of it. -/
theorem iblk10 (t : Fin cfg0.N) (j : Fin 1024) :
    (iblk (F := Ideal) m c 10 t : S1x1024.Idx → EReal) (ix2 0 j) = gs m c (ix2 0 j) := by
  rw [gs]
  blk_ext [iblk, V_main_arg9, idx10]
  all_goals omega

/-- Weights without their leading axis of one. -/
def flat {K : ℕ} (w : (⟨3, ![1, K, 1024]⟩ : Shape).Idx → EReal) : (⟨2, ![K, 1024]⟩ : Shape).Idx → EReal := fun i => w (ix3 0 (i 0) (i 1))

/-- What the first point stores of these weights. -/
theorem pay4_eq (t : Fin cfg0.N) : k0_pay4 (F := Ideal) (iblk m c 12 t) = flat (wa m c) := by
  funext i
  idx_vars i
  pointwise [k0_pay4]
  exact iblk12 m c t 0 i0 i1

/-- What the first point stores of these weights. -/
theorem pay5_eq (t : Fin cfg0.N) : k0_pay5 (F := Ideal) (iblk m c 13 t) = flat (wb m c) := by
  funext i
  idx_vars i
  pointwise [k0_pay5]
  exact iblk13 m c t 0 i0 i1

/-- What the first point stores of these weights. -/
theorem pay6_eq (t : Fin cfg0.N) : k0_pay6 (F := Ideal) (iblk m c 14 t) = flat (wc m c) := by
  funext i
  idx_vars i
  pointwise [k0_pay6]
  exact iblk14 m c t 0 i0 i1

/-- What the first point stores of these weights. -/
theorem pay7_eq (t : Fin cfg0.N) : k0_pay7 (F := Ideal) (iblk m c 9 t) = flat (wo m c) := by
  funext i
  idx_vars i
  pointwise [k0_pay7]
  exact iblk9 m c t 0 i0 i1

/-- What the first point leaves of the stored weights. -/
theorem storedA (t : Fin cfg0.N) (h : t.val % 4 = 0) :
    (outsAt0 (F := Ideal) m c t.val t.isLt).2.2.2.2.1 = flat (wa m c)
    ∧ (outsAt0 (F := Ideal) m c t.val t.isLt).2.2.2.2.2.1 = flat (wb m c)
    ∧ (outsAt0 (F := Ideal) m c t.val t.isLt).2.2.2.2.2.2.1 = flat (wc m c)
    ∧ (outsAt0 (F := Ideal) m c t.val t.isLt).2.2.2.2.2.2.2 = flat (wo m c) := by
  rw [← pay4_eq m c t, ← pay5_eq m c t, ← pay6_eq m c t, ← pay7_eq m c t, outsAt0_A m c t h]
  dsimp only
  refine ⟨?_, ?_, ?_, ?_⟩
  all_goals frame_out

/-- What a further point leaves of the stored weights: what it found. -/
theorem storedB (t : Fin cfg0.N) (h : ¬t.val % 4 = 0) :
    (outsAt0 (F := Ideal) m c t.val t.isLt).2.2.2.2.1 = (outsAt0 (F := Ideal) m c (t.val - 1) (Nat.lt_of_le_of_lt (Nat.sub_le _ _) t.isLt)).2.2.2.2.1
    ∧ (outsAt0 (F := Ideal) m c t.val t.isLt).2.2.2.2.2.1 = (outsAt0 (F := Ideal) m c (t.val - 1) (Nat.lt_of_le_of_lt (Nat.sub_le _ _) t.isLt)).2.2.2.2.2.1
    ∧ (outsAt0 (F := Ideal) m c t.val t.isLt).2.2.2.2.2.2.1 = (outsAt0 (F := Ideal) m c (t.val - 1) (Nat.lt_of_le_of_lt (Nat.sub_le _ _) t.isLt)).2.2.2.2.2.2.1
    ∧ (outsAt0 (F := Ideal) m c t.val t.isLt).2.2.2.2.2.2.2 = (outsAt0 (F := Ideal) m c (t.val - 1) (Nat.lt_of_le_of_lt (Nat.sub_le _ _) t.isLt)).2.2.2.2.2.2.2 := by
  rw [outsAt0_B m c t h]
  dsimp only
  refine ⟨?_, ?_, ?_, ?_⟩
  all_goals first | frame_out | rfl

/-- After every point the stored weights are the weights. -/
theorem stored : ∀ (n : ℕ) (h : n < cfg0.N),
    (outsAt0 (F := Ideal) m c n h).2.2.2.2.1 = flat (wa m c)
    ∧ (outsAt0 (F := Ideal) m c n h).2.2.2.2.2.1 = flat (wb m c)
    ∧ (outsAt0 (F := Ideal) m c n h).2.2.2.2.2.2.1 = flat (wc m c)
    ∧ (outsAt0 (F := Ideal) m c n h).2.2.2.2.2.2.2 = flat (wo m c)
  | 0, h => storedA m c ⟨0, h⟩ rfl
  | n + 1, h => by
    have ht := lt4 ⟨n + 1, h⟩
    have e := storedB m c ⟨n + 1, h⟩ (by dsimp only at ht ⊢; omega)
    simp only [Nat.add_sub_cancel] at e
    have s := stored n (Nat.lt_of_succ_lt h)
    exact ⟨e.1.trans s.1, e.2.1.trans s.2.1, e.2.2.1.trans s.2.2.1, e.2.2.2.trans s.2.2.2⟩

/-- What a point leaves of the four results. -/
theorem left (t : Fin cfg0.N) :
    (outsAt0 (F := Ideal) m c t.val t.isLt).1 = k0_pay14 (k0_pay8 (iblk m c 0 t) (flat (wa m c))) (k0_pay9 (iblk m c 1 t) (flat (wb m c))) (k0_pay10 (iblk m c 2 t) (flat (wc m c))) (k0_pay11 (iblk m c 3 t) (iblk m c 4 t)) (k0_pay12 (iblk m c 5 t) (iblk m c 6 t)) (k0_pay13 (iblk m c 7 t) (iblk m c 8 t)) (iblk m c 11 t) (flat (wo m c)) (iblk m c 10 t)
    ∧ (outsAt0 (F := Ideal) m c t.val t.isLt).2.1 = k0_pay1 (k0_pay8 (iblk m c 0 t) (flat (wa m c)))
    ∧ (outsAt0 (F := Ideal) m c t.val t.isLt).2.2.1 = k0_pay2 (k0_pay9 (iblk m c 1 t) (flat (wb m c)))
    ∧ (outsAt0 (F := Ideal) m c t.val t.isLt).2.2.2.1 = k0_pay3 (k0_pay10 (iblk m c 2 t) (flat (wc m c))) := by
  have ht := lt4 t
  by_cases h : t.val % 4 = 0
  · rw [← pay4_eq m c t, ← pay5_eq m c t, ← pay6_eq m c t, ← pay7_eq m c t, outsAt0_A m c t h]
    dsimp only
    refine ⟨?_, ?_, ?_, ?_⟩
    all_goals frame_out
  · have s := stored m c (t.val - 1) (Nat.lt_of_le_of_lt (Nat.sub_le _ _) t.isLt)
    rw [← s.1, ← s.2.1, ← s.2.2.1, ← s.2.2.2, outsAt0_B m c t h]
    dsimp only
    refine ⟨?_, ?_, ?_, ?_⟩
    all_goals
      frame_out
      try simp only [read_unread_whole]

/-- A point's block of mixer A projected. -/
theorem pay8_eq (t : Fin cfg0.N) (i : Fin 512) (j : Fin 1024) (h : 512 * t.val + i.val < 2048) :
    k0_pay8 (F := Ideal) (iblk m c 0 t) (flat (wa m c)) (ix2 i j) = lin (ya m c) (wa m c) (ix2 ⟨512 * t.val + i.val, h⟩ j) := by
  pointwise [k0_pay8, zero_add]
  unfold lin
  exact Finset.sum_congr rfl fun k _ => congrArg₂ (· * ·) (iblk0 m c t i k h) rfl

/-- A point's block of mixer B projected. -/
theorem pay9_eq (t : Fin cfg0.N) (i : Fin 512) (j : Fin 1024) (h : 512 * t.val + i.val < 2048) :
    k0_pay9 (F := Ideal) (iblk m c 1 t) (flat (wb m c)) (ix2 i j) = lin (yb m c) (wb m c) (ix2 ⟨512 * t.val + i.val, h⟩ j) := by
  pointwise [k0_pay9, zero_add]
  unfold lin
  exact Finset.sum_congr rfl fun k _ => congrArg₂ (· * ·) (iblk1 m c t i k h) rfl

/-- A point's block of mixer C projected. -/
theorem pay10_eq (t : Fin cfg0.N) (i : Fin 512) (j : Fin 1024) (h : 512 * t.val + i.val < 2048) :
    k0_pay10 (F := Ideal) (iblk m c 2 t) (flat (wc m c)) (ix2 i j) = lin (yc m c) (wc m c) (ix2 ⟨512 * t.val + i.val, h⟩ j) := by
  pointwise [k0_pay10, zero_add]
  unfold lin
  exact Finset.sum_congr rfl fun k _ => congrArg₂ (· * ·) (iblk2 m c t i k h) rfl

/-- A point's block of mixer A's gate before the sigmoid. -/
theorem pay11_eq (t : Fin cfg0.N) (i : Fin 512) (j : Fin 1024) (h : 512 * t.val + i.val < 2048) (g : 7680 + j.val < 10752) :
    k0_pay11 (F := Ideal) (iblk m c 3 t) (iblk m c 4 t) (ix2 i j) = pj m c (ix2 ⟨512 * t.val + i.val, h⟩ ⟨7680 + j.val, g⟩) := by
  pointwise [k0_pay11]
  split_ifs with hj
  · exact iblk3 m c t i ⟨j.val, hj⟩ h g
  · refine (iblk4 m c t i ⟨j.val - 512, by omega⟩ h (by dsimp only; omega)).trans (congrArg (pj m c) (congrArg (ix2 _) (Fin.ext ?_)))
    dsimp only
    omega
  · exact absurd rfl ‹_›

/-- A point's block of mixer B's gate before the sigmoid. -/
theorem pay12_eq (t : Fin cfg0.N) (i : Fin 512) (j : Fin 1024) (h : 512 * t.val + i.val < 2048) (g : 8704 + j.val < 10752) :
    k0_pay12 (F := Ideal) (iblk m c 5 t) (iblk m c 6 t) (ix2 i j) = pj m c (ix2 ⟨512 * t.val + i.val, h⟩ ⟨8704 + j.val, g⟩) := by
  pointwise [k0_pay12]
  split_ifs with hj
  · exact iblk5 m c t i ⟨j.val, hj⟩ h g
  · refine (iblk6 m c t i ⟨j.val - 512, by omega⟩ h (by dsimp only; omega)).trans (congrArg (pj m c) (congrArg (ix2 _) (Fin.ext ?_)))
    dsimp only
    omega
  · exact absurd rfl ‹_›

/-- A point's block of mixer C's gate before the sigmoid. -/
theorem pay13_eq (t : Fin cfg0.N) (i : Fin 512) (j : Fin 1024) (h : 512 * t.val + i.val < 2048) (g : 9728 + j.val < 10752) :
    k0_pay13 (F := Ideal) (iblk m c 7 t) (iblk m c 8 t) (ix2 i j) = pj m c (ix2 ⟨512 * t.val + i.val, h⟩ ⟨9728 + j.val, g⟩) := by
  pointwise [k0_pay13]
  split_ifs with hj
  · exact iblk7 m c t i ⟨j.val, hj⟩ h g
  · refine (iblk8 m c t i ⟨j.val - 512, by omega⟩ h (by dsimp only; omega)).trans (congrArg (pj m c) (congrArg (ix2 _) (Fin.ext ?_)))
    dsimp only
    omega
  · exact absurd rfl ‹_›

/-- A point's block of the mixers merged. -/
theorem merged_eq (t : Fin cfg0.N) (i : Fin 512) (j : Fin 1024) (h : 512 * t.val + i.val < 2048) :
    sgm (k0_pay11 (F := Ideal) (iblk m c 3 t) (iblk m c 4 t) (ix2 i j)) * k0_pay8 (F := Ideal) (iblk m c 0 t) (flat (wa m c)) (ix2 i j)
      + sgm (k0_pay12 (F := Ideal) (iblk m c 5 t) (iblk m c 6 t) (ix2 i j)) * k0_pay9 (F := Ideal) (iblk m c 1 t) (flat (wb m c)) (ix2 i j)
      + sgm (k0_pay13 (F := Ideal) (iblk m c 7 t) (iblk m c 8 t) (ix2 i j)) * k0_pay10 (F := Ideal) (iblk m c 2 t) (flat (wc m c)) (ix2 i j)
      = merged (pj m c) (lin (ya m c) (wa m c)) (lin (yb m c) (wb m c)) (lin (yc m c) (wc m c)) (ix2 ⟨512 * t.val + i.val, h⟩ j) := by
  rw [pay8_eq m c t i j h, pay9_eq m c t i j h, pay10_eq m c t i j h, pay11_eq m c t i j h (by omega), pay12_eq m c t i j h (by omega), pay13_eq m c t i j h (by omega)]
  rfl

/-- A row of a block of the tokens returned, over the merged mixers of the block. -/
theorem pay14_row (a b d p q r x : S512x1024.Idx → EReal) (w : S1024x1024.Idx → EReal) (g : S1x1024.Idx → EReal) (M : Fin 512 → Fin 1024 → EReal)
    (hM : ∀ i j, sgm (p (ix2 i j)) * a (ix2 i j) + sgm (q (ix2 i j)) * b (ix2 i j) + sgm (r (ix2 i j)) * d (ix2 i j) = M i j) (i : Fin 512) (j : Fin 1024) :
    k0_pay14 (F := Ideal) a b d p q r x w g (ix2 i j)
      = x (ix2 i j) + (∑ k : Fin 1024, M i k * w (ix2 k j)) * Ideal.rsqrt (Ideal.div (∑ l : Fin 1024, (∑ k : Fin 1024, M i k * w (ix2 k l)) * (∑ k : Fin 1024, M i k * w (ix2 k l))) (Ideal.ofBits .f32 0x44800000#32)
    + Ideal.ofBits .f32 0x358637BD#32) * g (ix2 0 j) := by
  simp only [← hM]
  pointwise [k0_pay14, zero_add, zero_sub]
  unfold sgm
  rfl

/-- A point's block of the tokens returned. -/
theorem pay14_eq (t : Fin cfg0.N) (i : Fin 512) (j : Fin 1024) (h : 512 * t.val + i.val < 2048) :
    k0_pay14 (F := Ideal) (k0_pay8 (iblk m c 0 t) (flat (wa m c))) (k0_pay9 (iblk m c 1 t) (flat (wb m c))) (k0_pay10 (iblk m c 2 t) (flat (wc m c))) (k0_pay11 (iblk m c 3 t) (iblk m c 4 t)) (k0_pay12 (iblk m c 5 t) (iblk m c 6 t)) (k0_pay13 (iblk m c 7 t) (iblk m c 8 t)) (iblk m c 11 t) (flat (wo m c)) (iblk m c 10 t) (ix2 i j)
      = block (xs m c) (pj m c) (lin (ya m c) (wa m c)) (lin (yb m c) (wb m c)) (lin (yc m c) (wc m c)) (wo m c) (gs m c) (ix2 ⟨512 * t.val + i.val, h⟩ j) := by
  have ht := lt4 t
  refine (pay14_row _ _ _ _ _ _ _ _ _ (fun i j => merged (pj m c) (lin (ya m c) (wa m c)) (lin (yb m c) (wb m c)) (lin (yc m c) (wc m c)) (ix2 ⟨512 * t.val + i.val, by omega⟩ j)) (fun i j => merged_eq m c t i j (by omega)) i j).trans ?_
  rw [iblk11 m c t i j h, iblk10 m c t j]
  rfl

/-- The tokens returned, at the end. -/
theorem arr15 : (dats (F := Ideal) m 0 c).arrAt 15 cfg0.N = block (xs m c) (pj m c) (lin (ya m c) (wa m c)) (lin (yb m c) (wb m c)) (lin (yc m c) (wc m c)) (wo m c) (gs m c) := by
  refine (dats m 0 c).arrAt_eq_of_covers 15 _ (by decide +kernel) fun t hf y => ?_
  have ht := lt4 t
  blk_simp
  rw [after0_15, (left m c t).1]
  idx_vars y
  refine (pay14_eq m c t y0 y1 (by omega)).trans ?_
  blk_ext [idx15]
  all_goals omega

/-- Mixer A projected, at the end. -/
theorem arr16 : (dats (F := Ideal) m 0 c).arrAt 16 cfg0.N = lin (ya m c) (wa m c) := by
  refine (dats m 0 c).arrAt_eq_of_covers 16 _ (by decide +kernel) fun t hf y => ?_
  have ht := lt4 t
  blk_simp
  rw [after0_16, (left m c t).2.1]
  idx_vars y
  refine (pay8_eq m c t y0 y1 (by omega)).trans ?_
  blk_ext [idx16]
  all_goals omega

/-- Mixer B projected, at the end. -/
theorem arr17 : (dats (F := Ideal) m 0 c).arrAt 17 cfg0.N = lin (yb m c) (wb m c) := by
  refine (dats m 0 c).arrAt_eq_of_covers 17 _ (by decide +kernel) fun t hf y => ?_
  have ht := lt4 t
  blk_simp
  rw [after0_17, (left m c t).2.2.1]
  idx_vars y
  refine (pay9_eq m c t y0 y1 (by omega)).trans ?_
  blk_ext [idx17]
  all_goals omega

/-- Mixer C projected, at the end. -/
theorem arr18 : (dats (F := Ideal) m 0 c).arrAt 18 cfg0.N = lin (yc m c) (wc m c) := by
  refine (dats m 0 c).arrAt_eq_of_covers 18 _ (by decide +kernel) fun t hf y => ?_
  have ht := lt4 t
  blk_simp
  rw [after0_18, (left m c t).2.2.2]
  idx_vars y
  refine (pay10_eq m c t y0 y1 (by omega)).trans ?_
  blk_ext [idx18]
  all_goals omega

end Cert.OutFwdIdeal.Body

namespace Cert.OutFwdReferenceIdeal.Body

open Idealize.ShloMosaic Idealize.ShloMosaic.Tactic
open Cert.OutFwdReferenceIdeal Cert.OutFwdReferenceIdeal.Read Cert.Merge

/-- The reference's projection of mixer A. -/
theorem refA (x1 : S2048x1024.Idx → EReal) (x5 : S1x1024x1024.Idx → EReal) : val_main_v5 (F := Ideal) x1 x5 = lin x1 x5 := by
  funext i
  idx_vars i
  pointwise [val_main_v5, val_main_v4, val_main_v3]
  unfold lin
  exact Finset.sum_congr rfl fun k _ => rfl

/-- The reference's projection of mixer B. -/
theorem refB (x2 : S2048x1024.Idx → EReal) (x6 : S1x1024x1024.Idx → EReal) : val_main_v8 (F := Ideal) x2 x6 = lin x2 x6 := by
  funext i
  idx_vars i
  pointwise [val_main_v8, val_main_v7, val_main_v6]
  unfold lin
  exact Finset.sum_congr rfl fun k _ => rfl

/-- The reference's projection of mixer C. -/
theorem refC (x3 : S2048x1280.Idx → EReal) (x7 : S1x1280x1024.Idx → EReal) : val_main_v11 (F := Ideal) x3 x7 = lin x3 x7 := by
  funext i
  idx_vars i
  pointwise [val_main_v11, val_main_v10, val_main_v9]
  unfold lin
  exact Finset.sum_congr rfl fun k _ => rfl

/-- The reference's projection of mixer A as it returns it. -/
theorem outA (x : S2048x1024.Idx → EReal) (w : S1x1024x1024.Idx → EReal) : val_main_v53 (F := Ideal) x w = lin x w := by
  rw [← refA]
  rfl

/-- The reference's projection of mixer B as it returns it. -/
theorem outB (x : S2048x1024.Idx → EReal) (w : S1x1024x1024.Idx → EReal) : val_main_v54 (F := Ideal) x w = lin x w := by
  rw [← refB]
  rfl

/-- The reference's projection of mixer C as it returns it. -/
theorem outC (x : S2048x1280.Idx → EReal) (w : S1x1280x1024.Idx → EReal) : val_main_v55 (F := Ideal) x w = lin x w := by
  rw [← refC]
  rfl

/-- The reference's merged mixers. -/
theorem refM (x1 : S2048x1024.Idx → EReal) (x2 : S2048x1024.Idx → EReal) (x3 : S2048x1280.Idx → EReal) (x4 : S2048x10752.Idx → EReal) (x5 : S1x1024x1024.Idx → EReal) (x6 : S1x1024x1024.Idx → EReal) (x7 : S1x1280x1024.Idx → EReal) :
    val_main_v34 (F := Ideal) x1 x2 x3 x4 x5 x6 x7 = merged x4 (lin x1 x5) (lin x2 x6) (lin x3 x7) := by
  rw [← refA, ← refB, ← refC]
  funext i
  idx_vars i
  pointwise [val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v2, val_main_v1, val_main_v0, val_main_cst, val_main_cst_0, val_main_cst_1, val_main_cst_2, val_main_cst_3, val_main_cst_4]
  rfl

/-- The reference's projection of the merged mixers. -/
theorem refL (x1 : S2048x1024.Idx → EReal) (x2 : S2048x1024.Idx → EReal) (x3 : S2048x1280.Idx → EReal) (x4 : S2048x10752.Idx → EReal) (x5 : S1x1024x1024.Idx → EReal) (x6 : S1x1024x1024.Idx → EReal) (x7 : S1x1280x1024.Idx → EReal) (x8 : S1x1024x1024.Idx → EReal) :
    val_main_v37 (F := Ideal) x1 x2 x3 x4 x5 x6 x7 x8 = lin (merged x4 (lin x1 x5) (lin x2 x6) (lin x3 x7)) x8 := by
  rw [← refM]
  funext i
  idx_vars i
  pointwise [val_main_v37, val_main_v36, val_main_v35]
  unfold lin
  exact Finset.sum_congr rfl fun k _ => rfl

/-- The reference's tokens returned. -/
theorem refX (x0 : S2048x1024.Idx → EReal) (x1 : S2048x1024.Idx → EReal) (x2 : S2048x1024.Idx → EReal) (x3 : S2048x1280.Idx → EReal) (x4 : S2048x10752.Idx → EReal) (x5 : S1x1024x1024.Idx → EReal) (x6 : S1x1024x1024.Idx → EReal) (x7 : S1x1280x1024.Idx → EReal) (x8 : S1x1024x1024.Idx → EReal) (x9 : S1x1024.Idx → EReal) :
    val_main_v52 (F := Ideal) x0 x1 x2 x3 x4 x5 x6 x7 x8 x9 = block x0 x4 (lin x1 x5) (lin x2 x6) (lin x3 x7) x8 x9 := by
  unfold block
  rw [← refL]
  funext i
  idx_vars i
  pointwise [val_main_v52, val_main_v51, val_main_v50, val_main_v49, val_main_v48, val_main_v47, val_main_v46, val_main_v45, val_main_v44, val_main_v43, val_main_v42, val_main_v41, val_main_v40, val_main_v39, val_main_v38, val_main_cst_5, val_main_cst_6, val_main_cst_7]
  rfl

end Cert.OutFwdReferenceIdeal.Body

end
-- ==== Proof.ClaimOutFwd.lean ====
module

public import Idealize.ShloMosaic.Lib.WordCmp
public import Idealize.ShloMosaic.Lib.Pointwise
public import Idealize.ShloMosaic.Lib.ValueIdx
public import Idealize.ShloMosaic.PureOps.Ideal.Laws
public import Idealize.ShloMosaic.Lib.Pipeline.ValueKit
public import Idealize.ShloMosaic.Lib.Claim
public import Idealize.ShloMosaic.Adequacy
public import Idealize.ShloMosaic.Init
public import proofs.«01_k».proof.Defs
public import proofs.«01_k».proof.Proof.Gen.OutFwd
public import proofs.«01_k».proof.Proof.Gen.OutFwd.Frame
public import proofs.«01_k».proof.Proof.Gen.OutFwdIdeal
public import proofs.«01_k».proof.Proof.Gen.OutFwdIdeal.Value
public import proofs.«01_k».proof.Proof.Gen.OutFwdReferenceIdeal
public import proofs.«01_k».proof.Proof.Gen.OutFwdReferenceIdeal.Run
public import proofs.«01_k».proof.Proof.Gen.OutFwdReferenceIdeal.Read
public import proofs.«01_k».proof.Proof.OutFwdValue

@[expose] public section

set_option maxRecDepth 16384

noncomputable section

namespace Cert.OutFwdClaim

open Idealize.ShloMosaic Idealize.ShloMosaic.TcCoe Idealize.SL.Sem
open Cert.OutFwdIdeal.Body

/-! # The output projection: what is claimed -/

/-- The call at floating point runs, leaves its arguments and ends with every semaphore at zero. -/
theorem frame_kernel : Cert.quiescent_OutFwd := fun m ρ _ => Cert.OutFwd.Gen.frame m ρ

/-- The call over the extended reals runs, leaves its arguments and ends with every semaphore at zero. -/
theorem frame_ideal : Cert.quiescent_OutFwdIdeal := fun m ρ _ => Cert.OutFwdIdeal.Gen.frame m ρ

/-- The reference over the extended reals runs and leaves its arguments; it has no semaphore. -/
theorem frame_reference : Cert.quiescent_OutFwdReferenceIdeal := fun m ρ _ =>
  (θ_run Cert.OutFwdReferenceIdeal.defs _ _).mono (fun r h => ⟨fun c => (h c).2.2.2.2, sem_eq_zero_of_no_sems (by decide) r.2⟩)
    (Cert.OutFwdReferenceIdeal.Value.run (F := Ideal) m ρ)

/-- The call and the reference leave the same results. -/
theorem equal : Cert.algebraic_OutFwdIdeal_OutFwdReferenceIdeal := by
  intro m ρ m' ρ' hpre hargs
  refine ⟨fun c => Cert.Merge.block (xs m c) (pj m c) (Cert.Merge.lin (ya m c) (wa m c)) (Cert.Merge.lin (yb m c) (wb m c)) (Cert.Merge.lin (yc m c) (wc m c)) (wo m c) (gs m c),
    fun c => Cert.Merge.lin (ya m c) (wa m c),
    fun c => Cert.Merge.lin (yb m c) (wb m c),
    fun c => Cert.Merge.lin (yc m c) (wc m c), ?_, ?_⟩
  · refine (θ_run Cert.OutFwdIdeal.defs _ _).mono (fun r h c => ?_) (Cert.OutFwdIdeal.Value.run_blocks (F := Ideal) m ρ)
    obtain ⟨h0, h1, h2, h3, hr⟩ := h c
    exact ⟨h0.trans (arr15 m c), h1.trans (arr16 m c), h2.trans (arr17 m c), h3.trans (arr18 m c), hr⟩
  · refine (θ_run Cert.OutFwdReferenceIdeal.defs _ _).mono (fun r h c => ?_) (Cert.OutFwdReferenceIdeal.Value.run (F := Ideal) m' ρ')
    obtain ⟨a0, a1, a2, a3, a4, a5, a6, a7, a8, a9⟩ := hargs c
    obtain ⟨h0, h1, h2, h3, hr⟩ := h c
    replace h0 := h0.trans (Cert.OutFwdReferenceIdeal.Read.val_main_v52_eq (F := Ideal) ..)
    rw [a0, a1, a2, a3, a4, a5, a6, a7, a8, a9] at h0
    replace h1 := h1.trans (Cert.OutFwdReferenceIdeal.Read.val_main_v53_eq (F := Ideal) ..)
    rw [a1, a5] at h1
    replace h2 := h2.trans (Cert.OutFwdReferenceIdeal.Read.val_main_v54_eq (F := Ideal) ..)
    rw [a2, a6] at h2
    replace h3 := h3.trans (Cert.OutFwdReferenceIdeal.Read.val_main_v55_eq (F := Ideal) ..)
    rw [a3, a7] at h3
    exact ⟨h0.trans (Cert.OutFwdReferenceIdeal.Body.refX _ _ _ _ _ _ _ _ _ _), h1.trans (Cert.OutFwdReferenceIdeal.Body.outA _ _), h2.trans (Cert.OutFwdReferenceIdeal.Body.outB _ _), h3.trans (Cert.OutFwdReferenceIdeal.Body.outC _ _), hr⟩

end Cert.OutFwdClaim

end
-- ==== Proof.AttnFwdSpec.lean ====
module

public import Idealize.ShloMosaic.Lib.WordCmp
public import Idealize.ShloMosaic.Lib.Pointwise
public import Idealize.ShloMosaic.Lib.ValueIdx
public import Idealize.ShloMosaic.PureOps.Ideal.Laws
public import Idealize.ShloMosaic.Lib.Pipeline.ValueKit
public import Idealize.ShloMosaic.Lib.Claim
public import proofs.«01_k».proof.Proof.Gen.AttnFwdIdeal.Skeleton
public import proofs.«01_k».proof.Proof.TileRect
public import proofs.«01_k».proof.Proof.Blocks

@[expose] public section

set_option maxRecDepth 16384

noncomputable section

namespace Cert.AttnFwdIdeal.Body

open Idealize.ShloMosaic Idealize.ShloMosaic.Tactic
open Cert.AttnFwdIdeal Cert.AttnFwdIdeal.Gen
open Cert.KernelIdeal.Body (T2 T3 TE T2_apply T3_apply TE_apply score masked rowMax ex den wsum scale live live_self live_of_le live_add coe_rowMax den_pos coe_sum coe_div' one_div' ofBits_scale ofBits_bot fold_max exp_masked masked_live ld_T3 M3 M3_coe)

/-! # One head of the gated attention going forward, in blocks of 256 queries -/

section
variable (q k : ℕ → ℕ → ℝ) (v : ℕ → ℕ → EReal)

/-- The values of a column, weighted with the exponentials of a row. -/
def wide (r d : ℕ) : EReal := ∑ c ∈ Finset.range 2048, ((ex q k r c : ℝ) : EReal) * v c d

/-- The gated attention: the weighted values over the row's sum, times the gate's value times its sigmoid. -/
def gated (z : ℕ → ℕ → EReal) (r d : ℕ) : EReal :=
  wide q k v r d * ((1 / den q k r : ℝ) : EReal) * (z r d * Ideal.div 1 (1 + Ideal.exp (-z r d)))

/-- A query of a block sees no key after the block. -/
theorem dead {n r c : ℕ} (hn : n % 256 = 0) (hr : r < n + 256) (hc : n + 256 ≤ c) : ¬ live r c := by
  unfold live; omega

/-- The exponentials vanish after the diagonal block. -/
theorem ex_after {n r c : ℕ} (hn : n % 256 = 0) (hr : r < n + 256) (hc : n + 256 ≤ c) : ex q k r c = 0 :=
  if_neg (dead hn hr hc)

/-- The largest score of a row is that of the diagonal block and of the earlier keys. -/
theorem max_parts {n r : ℕ} (hn : n % 256 = 0) (hn' : n + 256 ≤ 2048) (hr : r < n + 256) :
    ((rowMax q k r : ℝ) : EReal)
      = max ((Finset.range 256).sup fun c => masked q k r (n + c)) ((Finset.range n).sup (masked q k r)) := by
  have hle : ∀ c < n + 256, masked q k r c ≤ (Finset.range 2048).sup (masked q k r) :=
    fun c hc => Finset.le_sup (Finset.mem_range.2 (by omega))
  rw [coe_rowMax q k (by omega)]
  refine le_antisymm (Finset.sup_le fun c _ => ?_) (max_le (Finset.sup_le fun c hc => hle _ ?_) (Finset.sup_le fun c hc => hle _ ?_))
  · by_cases h : c < n
    · exact le_max_of_le_right (Finset.le_sup (f := masked q k r) (Finset.mem_range.2 h))
    by_cases h' : c < n + 256
    · obtain ⟨a, rfl⟩ := Nat.exists_eq_add_of_le (Nat.le_of_not_lt h)
      exact le_max_of_le_left (Finset.le_sup (f := fun c => masked q k r (n + c)) (Finset.mem_range.2 (by omega)))
    · rw [masked, if_neg (dead hn hr (by omega))]
      exact bot_le
  all_goals have := Finset.mem_range.1 hc; omega

/-- A sum over the keys whose terms vanish after the diagonal block: the diagonal block's and the earlier keys'. -/
theorem sum_parts {α : Type} [AddCommMonoid α] {n : ℕ} (hn : n + 256 ≤ 2048) (f : ℕ → α) (hf : ∀ c, n + 256 ≤ c → f c = 0) :
    ∑ c ∈ Finset.range 2048, f c = (∑ c : Fin 256, f (n + c.val)) + ∑ c : Fin n, f c.val := by
  rw [← Finset.sum_range_add_sum_Ico f hn, Finset.sum_eq_zero (s := Finset.Ico (n + 256) 2048) fun c hc => hf c (Finset.mem_Ico.1 hc).1,
    Finset.sum_range_add, Finset.sum_range, Finset.sum_range, add_zero, add_comm]

end

/-- A sum of extended reals times a real that is not negative. -/
theorem sum_times {ι : Type} (s : Finset ι) (f : ι → EReal) {r : ℝ} (hr : 0 ≤ r) : (∑ x ∈ s, f x) * (r : EReal) = ∑ x ∈ s, f x * (r : EReal) := by
  classical
  induction s using Finset.induction_on with
  | empty => simp
  | insert a s ha ih =>
    rw [Finset.sum_insert ha, Finset.sum_insert ha, EReal.right_distrib_of_nonneg_of_ne_top (EReal.coe_nonneg.2 hr) (EReal.coe_ne_top r), ih]

/-- The tile of extended reals of rank three: rows from `a`, columns from `b`. -/
def X3 {n m : ℕ} (a b : ℕ) (f : ℕ → ℕ → EReal) : (⟨3, ![1, n, m]⟩ : Shape).Idx → EReal :=
  fun i => f (a + (i 1).val) (b + (i 2).val)

theorem X3_apply {n m : ℕ} (a b : ℕ) (f : ℕ → ℕ → EReal) (i0 : Fin 1) (i : Fin n) (j : Fin m) :
    (X3 a b f : (⟨3, ![1, n, m]⟩ : Shape).Idx → EReal) (ix3 i0 i j) = f (a + i.val) (b + j.val) := rfl

/-- Rows loaded from an array that holds the whole matrix of extended reals. -/
theorem ld_X3 {N W n : ℕ} (o : ℕ) (inb : ∀ a, (![0, o, 0] : Fin 3 → ℕ) a + (![1, n, W] : Fin 3 → ℕ) a ≤ (⟨3, ![1, N, W]⟩ : Shape).size a)
    (f : ℕ → ℕ → EReal) :
    View.ld (Val := Elt Ideal) (e' := .f32) (X3 0 0 f : (⟨3, ![1, N, W]⟩ : Shape).Idx → EReal) (Rect.unit (s := ⟨3, ![1, N, W]⟩) ![0, o, 0] ![1, n, W] inb)
      = (X3 o 0 f : (⟨3, ![1, n, W]⟩ : Shape).Idx → EReal) := by
  funext x
  have h1 := Rect.idx_unit_val (s := ⟨3, ![1, N, W]⟩) ![0, o, 0] ![1, n, W] inb x 1
  have h2 := Rect.idx_unit_val (s := ⟨3, ![1, N, W]⟩) ![0, o, 0] ![1, n, W] inb x 2
  change f (0 + ((Rect.unit (s := ⟨3, ![1, N, W]⟩) ![0, o, 0] ![1, n, W] inb).idx x 1).val)
    (0 + ((Rect.unit (s := ⟨3, ![1, N, W]⟩) ![0, o, 0] ![1, n, W] inb).idx x 2).val) = f (o + (x 1).val) (0 + (x 2).val)
  rw [h1, h2]
  simp

/-- Matrix `h` of a stack of eight. -/
def vf (X : (⟨3, ![8, 2048, 128]⟩ : Shape).Idx → EReal) (h r d : ℕ) : EReal :=
  X (ix3 (Fin.ofNat 8 h) (Fin.ofNat 2048 r) (Fin.ofNat 128 d))

theorem vf_eq (X : (⟨3, ![8, 2048, 128]⟩ : Shape).Idx → EReal) {h r d : ℕ} (hh : h < 8) (hr : r < 2048) (hd : d < 128) :
    vf X h r d = X (ix3 ⟨h, hh⟩ ⟨r, hr⟩ ⟨d, hd⟩) := by
  unfold vf
  congr 2 <;> exact Fin.ext (Nat.mod_eq_of_lt ‹_›)

/-- The mask's comparison of two positions of a block. -/
theorem chunk_select {α : Type} (r c : Fin 256) (x y : α) :
    Scalar.select (IntOp.cmpi .sle (IntOp.shrsi .vector (BitVec.ofNat 32 c.val) 6#32)
      (IntOp.shrsi .vector (BitVec.ofNat 32 r.val) 6#32)) x y = if c.val / 64 ≤ r.val / 64 then x else y :=
  Cert.KernelIdeal.Body.select_chunk ⟨r.val, by omega⟩ ⟨c.val, by omega⟩ x y

/-- The mask's constant is minus infinity. -/
theorem mask_const : (Named.named (F := Ideal) κ "mask" 0xF149F2CA#32 : Ideal .f32) = (⊥ : EReal) :=
  IdealRules.named_const.ideal_named_scalar _ _ _ _ rfl

/-- The gate's columns of a head, in the matrix that holds every input projection. -/
def zf (p : (⟨2, ![2048, 10752]⟩ : Shape).Idx → EReal) (h r d : ℕ) : EReal :=
  p (ix2 (Fin.ofNat 2048 r) (Fin.ofNat 10752 (3840 + 128 * h + d)))

/-- The gated attention of eight heads side by side, each 128 columns wide. -/
def attn (q k : (⟨3, ![8, 2048, 192]⟩ : Shape).Idx → EReal) (v : (⟨3, ![8, 2048, 128]⟩ : Shape).Idx → EReal) (p : (⟨2, ![2048, 10752]⟩ : Shape).Idx → EReal) :
    (⟨2, ![2048, 1024]⟩ : Shape).Idx → EReal := fun i =>
  gated (M3 q ((i 1).val / 128)) (M3 k ((i 1).val / 128)) (vf v ((i 1).val / 128)) (zf p ((i 1).val / 128)) (i 0).val ((i 1).val % 128)

end Cert.AttnFwdIdeal.Body

end
-- ==== Proof.AttnFwdTilesA.lean ====
module

public import Idealize.ShloMosaic.Lib.WordCmp
public import Idealize.ShloMosaic.Lib.Pointwise
public import Idealize.ShloMosaic.Lib.ValueIdx
public import Idealize.ShloMosaic.PureOps.Ideal.Laws
public import Idealize.ShloMosaic.Lib.Pipeline.ValueKit
public import Idealize.ShloMosaic.Lib.Claim
public import proofs.«01_k».proof.Proof.AttnFwdSpec

@[expose] public section

set_option maxRecDepth 16384

noncomputable section

namespace Cert.AttnFwdIdeal.Body

open Idealize.ShloMosaic Idealize.ShloMosaic.Tactic
open Cert.AttnFwdIdeal Cert.AttnFwdIdeal.Gen
open Cert.KernelIdeal.Body (T2 T3 TE T2_apply T3_apply TE_apply score masked rowMax ex den wsum scale live live_self live_of_le live_add coe_rowMax den_pos coe_sum coe_div' one_div' ofBits_scale ofBits_bot fold_max exp_masked masked_live ld_T3 M3 M3_coe)

/-! # What the points write, by the number of earlier keys -/

namespace P0

/-! ## A point with no earlier keys -/

variable (q k : ℕ → ℕ → ℝ) (v z : ℕ → ℕ → EReal)

/-- The masked score of the diagonal block. -/
theorem masked_sum (r c : Fin 256) : (if c.val / 64 ≤ r.val / 64 then ((∑ d : Fin 192, q r.val d.val * scale * k c.val d.val : ℝ) : EReal) else ⊥) = masked q k r.val c.val := by
  simp only [masked, live, score, Finset.sum_range]

/-- The weighted values over the rows' sums. -/
theorem mean_eq : k0_pay9 (F := Ideal) (T3 0 0 k) (X3 0 0 v) (T3 0 0 q) = TE 0 0 fun r d => wide q k v r d * ((1 / den q k r : ℝ) : EReal) := by
  funext j
  idx_vars j
  pointwise [k0_pay9, mask_const, ofBits_scale, ofBits_bot, TE_apply, T3_apply, X3_apply, zero_add]
  simp only [← EReal.coe_mul, coe_sum, chunk_select, masked_sum]
  have hm := max_parts q k (n := 0) (r := j0.val) rfl (by decide) (by omega)
  simp only [zero_add, Finset.range_zero, Finset.sup_empty, bot_le, max_eq_left] at hm
  rw [fold_max _ (masked q k j0.val) (fun _ => rfl), ← hm]
  have hd : den q k j0.val = _ := sum_parts (n := 0) (by decide) (ex q k j0.val) (fun c hc => ex_after q k (n := 0) rfl (by omega) hc)
  have hw : wide q k v j0.val j1.val = _ := sum_parts (n := 0) (by decide) (fun c => ((ex q k j0.val c : ℝ) : EReal) * v c j1.val) (fun c hc => by rw [ex_after q k (n := 0) rfl (by omega) hc, EReal.coe_zero, zero_mul])
  simp only [zero_add, Finset.univ_eq_empty, Finset.sum_empty, add_zero] at hd hw
  simp only [exp_masked, coe_sum]
  rw [← hd, ← hw, one_div' (den_pos q k (by omega) : (0 : ℝ) < den q k j0.val).ne']

/-- What the point writes. -/
theorem out_eq : k0_pay1 (F := Ideal) (TE 0 0 z) (k0_pay9 (T3 0 0 k) (X3 0 0 v) (T3 0 0 q)) (k0_pay10 (TE 0 0 z)) (Scalar.ofBits .f32 0x3F800000#32)
    = TE 0 0 (gated q k v z) := by
  rw [mean_eq]
  funext j
  idx_vars j
  pointwise [k0_pay1, k0_pay10, T2_apply, TE_apply, zero_add, zero_sub, gated]

end P0

namespace P1

/-! ## A point with 256 earlier keys -/

variable (q k : ℕ → ℕ → ℝ) (v z : ℕ → ℕ → EReal)

/-- The earlier keys' values without the leading axis. -/
theorem past_v (a : ℕ) : k0_pay11 (F := Ideal) (X3 a 0 v) = TE a 0 v := by
  funext j
  idx_vars j
  pointwise [k0_pay11, TE_apply, X3_apply]

/-- The diagonal block's values without the leading axis. -/
theorem diag_v (a : ℕ) : k0_pay12 (F := Ideal) (X3 a 0 v) = TE a 0 v := by
  funext j
  idx_vars j
  pointwise [k0_pay12, TE_apply, X3_apply]

/-- The scaled queries. -/
theorem scaled : k0_pay13 (F := Ideal) (T3 256 0 q) = T2 256 0 fun r d => q r d * scale := by
  funext j
  idx_vars j
  pointwise [k0_pay13, ofBits_scale, T2_apply, T3_apply]
  rw [← EReal.coe_mul]

/-- The masked scores of the diagonal block. -/
theorem diag_score : k0_pay14 (F := Ideal) (T3 256 0 k) (T3 256 0 q) = TE 256 256 (masked q k) := by
  funext j
  idx_vars j
  pointwise [k0_pay14, scaled, mask_const, T2_apply, T3_apply, TE_apply, zero_add]
  simp only [← EReal.coe_mul, coe_sum]
  rw [chunk_select, masked]
  simp only [live_add 256 _ _ rfl, score, Finset.sum_range]

/-- The scores against the earlier keys. -/
theorem past_score : k0_pay15 (F := Ideal) (T3 0 0 k) (T3 256 0 q) = T2 256 0 (score q k) := by
  funext j
  idx_vars j
  pointwise [k0_pay15, scaled, T2_apply, T3_apply, zero_add]
  simp only [← EReal.coe_mul, coe_sum, score, Finset.sum_range]

/-- The row maxima. -/
theorem row_max : k0_pay16 (F := Ideal) (T3 0 0 k) (T3 256 0 k) (T3 256 0 q) = T2 256 0 fun r _ => rowMax q k r := by
  funext j
  idx_vars j
  pointwise [k0_pay16, diag_score, past_score, ofBits_bot, T2_apply, TE_apply, zero_add]
  rw [max_parts q k (n := 256) rfl (by decide) (by omega), fold_max _ (fun c => masked q k (256 + j0.val) (256 + c)) (fun _ => rfl), fold_max _ (masked q k (256 + j0.val)) (fun x => (masked_live (live_of_le (by omega))).symm)]

/-- The masked scores less the row maxima. -/
theorem shifted : k0_pay17 (F := Ideal) (T3 0 0 k) (T3 256 0 k) (T3 256 0 q) = TE 256 256 fun r c => masked q k r c - ((rowMax q k r : ℝ) : EReal) := by
  funext j
  idx_vars j
  pointwise [k0_pay17, diag_score, row_max, T2_apply, TE_apply]

/-- What the point writes. -/
theorem out_eq : k0_pay2 (F := Ideal) (k0_pay11 (X3 0 0 v)) (k0_pay12 (X3 256 0 v)) (TE 256 0 z) (k0_pay15 (T3 0 0 k) (T3 256 0 q))
      (k0_pay16 (T3 0 0 k) (T3 256 0 k) (T3 256 0 q)) (k0_pay17 (T3 0 0 k) (T3 256 0 k) (T3 256 0 q))
    = TE 256 0 (gated q k v z) := by
  rw [past_v, diag_v, past_score, row_max, shifted]
  funext j
  idx_vars j
  have hp : ∀ x : Fin 256, Real.exp (score q k (256 + j0.val) x.val - rowMax q k (256 + j0.val)) = ex q k (256 + j0.val) x.val := fun x => by
    rw [ex, if_pos (live_of_le (by omega))]
  have hd : den q k (256 + j0.val) = _ := sum_parts (n := 256) (by decide) (ex q k (256 + j0.val)) (fun c hc => ex_after q k (n := 256) rfl (by omega) hc)
  have hw : wide q k v (256 + j0.val) j1.val = _ := sum_parts (n := 256) (by decide) (fun c => ((ex q k (256 + j0.val) c : ℝ) : EReal) * v c j1.val) (fun c hc => by rw [ex_after q k (n := 256) rfl (by omega) hc, EReal.coe_zero, zero_mul])
  pointwise [k0_pay2, T2_apply, TE_apply, zero_add, zero_sub, gated]
  simp only [exp_masked, ← EReal.coe_sub, Ideal.exp_coe, hp, coe_sum, ← EReal.coe_add]
  rw [← hd, ← hw, one_div' (den_pos q k (by omega) : (0 : ℝ) < den q k (256 + j0.val)).ne']

end P1

namespace P2

/-! ## A point with 512 earlier keys -/

variable (q k : ℕ → ℕ → ℝ) (v z : ℕ → ℕ → EReal)

/-- The earlier keys' values without the leading axis. -/
theorem past_v (a : ℕ) : k0_pay18 (F := Ideal) (X3 a 0 v) = TE a 0 v := by
  funext j
  idx_vars j
  pointwise [k0_pay18, TE_apply, X3_apply]

/-- The diagonal block's values without the leading axis. -/
theorem diag_v (a : ℕ) : k0_pay19 (F := Ideal) (X3 a 0 v) = TE a 0 v := by
  funext j
  idx_vars j
  pointwise [k0_pay19, TE_apply, X3_apply]

/-- The scaled queries. -/
theorem scaled : k0_pay20 (F := Ideal) (T3 512 0 q) = T2 512 0 fun r d => q r d * scale := by
  funext j
  idx_vars j
  pointwise [k0_pay20, ofBits_scale, T2_apply, T3_apply]
  rw [← EReal.coe_mul]

/-- The masked scores of the diagonal block. -/
theorem diag_score : k0_pay21 (F := Ideal) (T3 512 0 k) (T3 512 0 q) = TE 512 512 (masked q k) := by
  funext j
  idx_vars j
  pointwise [k0_pay21, scaled, mask_const, T2_apply, T3_apply, TE_apply, zero_add]
  simp only [← EReal.coe_mul, coe_sum]
  rw [chunk_select, masked]
  simp only [live_add 512 _ _ rfl, score, Finset.sum_range]

/-- The scores against the earlier keys. -/
theorem past_score : k0_pay22 (F := Ideal) (T3 0 0 k) (T3 512 0 q) = T2 512 0 (score q k) := by
  funext j
  idx_vars j
  pointwise [k0_pay22, scaled, T2_apply, T3_apply, zero_add]
  simp only [← EReal.coe_mul, coe_sum, score, Finset.sum_range]

/-- The row maxima. -/
theorem row_max : k0_pay23 (F := Ideal) (T3 0 0 k) (T3 512 0 k) (T3 512 0 q) = T2 512 0 fun r _ => rowMax q k r := by
  funext j
  idx_vars j
  pointwise [k0_pay23, diag_score, past_score, ofBits_bot, T2_apply, TE_apply, zero_add]
  rw [max_parts q k (n := 512) rfl (by decide) (by omega), fold_max _ (fun c => masked q k (512 + j0.val) (512 + c)) (fun _ => rfl), fold_max _ (masked q k (512 + j0.val)) (fun x => (masked_live (live_of_le (by omega))).symm)]

/-- The masked scores less the row maxima. -/
theorem shifted : k0_pay24 (F := Ideal) (T3 0 0 k) (T3 512 0 k) (T3 512 0 q) = TE 512 512 fun r c => masked q k r c - ((rowMax q k r : ℝ) : EReal) := by
  funext j
  idx_vars j
  pointwise [k0_pay24, diag_score, row_max, T2_apply, TE_apply]

/-- What the point writes. -/
theorem out_eq : k0_pay3 (F := Ideal) (k0_pay18 (X3 0 0 v)) (k0_pay19 (X3 512 0 v)) (TE 512 0 z) (k0_pay22 (T3 0 0 k) (T3 512 0 q))
      (k0_pay23 (T3 0 0 k) (T3 512 0 k) (T3 512 0 q)) (k0_pay24 (T3 0 0 k) (T3 512 0 k) (T3 512 0 q))
    = TE 512 0 (gated q k v z) := by
  rw [past_v, diag_v, past_score, row_max, shifted]
  funext j
  idx_vars j
  have hp : ∀ x : Fin 512, Real.exp (score q k (512 + j0.val) x.val - rowMax q k (512 + j0.val)) = ex q k (512 + j0.val) x.val := fun x => by
    rw [ex, if_pos (live_of_le (by omega))]
  have hd : den q k (512 + j0.val) = _ := sum_parts (n := 512) (by decide) (ex q k (512 + j0.val)) (fun c hc => ex_after q k (n := 512) rfl (by omega) hc)
  have hw : wide q k v (512 + j0.val) j1.val = _ := sum_parts (n := 512) (by decide) (fun c => ((ex q k (512 + j0.val) c : ℝ) : EReal) * v c j1.val) (fun c hc => by rw [ex_after q k (n := 512) rfl (by omega) hc, EReal.coe_zero, zero_mul])
  pointwise [k0_pay3, T2_apply, TE_apply, zero_add, zero_sub, gated]
  simp only [exp_masked, ← EReal.coe_sub, Ideal.exp_coe, hp, coe_sum, ← EReal.coe_add]
  rw [← hd, ← hw, one_div' (den_pos q k (by omega) : (0 : ℝ) < den q k (512 + j0.val)).ne']

end P2

namespace P3

/-! ## A point with 768 earlier keys -/

variable (q k : ℕ → ℕ → ℝ) (v z : ℕ → ℕ → EReal)

/-- The earlier keys' values without the leading axis. -/
theorem past_v (a : ℕ) : k0_pay25 (F := Ideal) (X3 a 0 v) = TE a 0 v := by
  funext j
  idx_vars j
  pointwise [k0_pay25, TE_apply, X3_apply]

/-- The diagonal block's values without the leading axis. -/
theorem diag_v (a : ℕ) : k0_pay26 (F := Ideal) (X3 a 0 v) = TE a 0 v := by
  funext j
  idx_vars j
  pointwise [k0_pay26, TE_apply, X3_apply]

/-- The scaled queries. -/
theorem scaled : k0_pay27 (F := Ideal) (T3 768 0 q) = T2 768 0 fun r d => q r d * scale := by
  funext j
  idx_vars j
  pointwise [k0_pay27, ofBits_scale, T2_apply, T3_apply]
  rw [← EReal.coe_mul]

/-- The masked scores of the diagonal block. -/
theorem diag_score : k0_pay28 (F := Ideal) (T3 768 0 k) (T3 768 0 q) = TE 768 768 (masked q k) := by
  funext j
  idx_vars j
  pointwise [k0_pay28, scaled, mask_const, T2_apply, T3_apply, TE_apply, zero_add]
  simp only [← EReal.coe_mul, coe_sum]
  rw [chunk_select, masked]
  simp only [live_add 768 _ _ rfl, score, Finset.sum_range]

/-- The scores against the earlier keys. -/
theorem past_score : k0_pay29 (F := Ideal) (T3 0 0 k) (T3 768 0 q) = T2 768 0 (score q k) := by
  funext j
  idx_vars j
  pointwise [k0_pay29, scaled, T2_apply, T3_apply, zero_add]
  simp only [← EReal.coe_mul, coe_sum, score, Finset.sum_range]

/-- The row maxima. -/
theorem row_max : k0_pay30 (F := Ideal) (T3 0 0 k) (T3 768 0 k) (T3 768 0 q) = T2 768 0 fun r _ => rowMax q k r := by
  funext j
  idx_vars j
  pointwise [k0_pay30, diag_score, past_score, ofBits_bot, T2_apply, TE_apply, zero_add]
  rw [max_parts q k (n := 768) rfl (by decide) (by omega), fold_max _ (fun c => masked q k (768 + j0.val) (768 + c)) (fun _ => rfl), fold_max _ (masked q k (768 + j0.val)) (fun x => (masked_live (live_of_le (by omega))).symm)]

/-- The masked scores less the row maxima. -/
theorem shifted : k0_pay31 (F := Ideal) (T3 0 0 k) (T3 768 0 k) (T3 768 0 q) = TE 768 768 fun r c => masked q k r c - ((rowMax q k r : ℝ) : EReal) := by
  funext j
  idx_vars j
  pointwise [k0_pay31, diag_score, row_max, T2_apply, TE_apply]

/-- What the point writes. -/
theorem out_eq : k0_pay4 (F := Ideal) (k0_pay25 (X3 0 0 v)) (k0_pay26 (X3 768 0 v)) (TE 768 0 z) (k0_pay29 (T3 0 0 k) (T3 768 0 q))
      (k0_pay30 (T3 0 0 k) (T3 768 0 k) (T3 768 0 q)) (k0_pay31 (T3 0 0 k) (T3 768 0 k) (T3 768 0 q))
    = TE 768 0 (gated q k v z) := by
  rw [past_v, diag_v, past_score, row_max, shifted]
  funext j
  idx_vars j
  have hp : ∀ x : Fin 768, Real.exp (score q k (768 + j0.val) x.val - rowMax q k (768 + j0.val)) = ex q k (768 + j0.val) x.val := fun x => by
    rw [ex, if_pos (live_of_le (by omega))]
  have hd : den q k (768 + j0.val) = _ := sum_parts (n := 768) (by decide) (ex q k (768 + j0.val)) (fun c hc => ex_after q k (n := 768) rfl (by omega) hc)
  have hw : wide q k v (768 + j0.val) j1.val = _ := sum_parts (n := 768) (by decide) (fun c => ((ex q k (768 + j0.val) c : ℝ) : EReal) * v c j1.val) (fun c hc => by rw [ex_after q k (n := 768) rfl (by omega) hc, EReal.coe_zero, zero_mul])
  pointwise [k0_pay4, T2_apply, TE_apply, zero_add, zero_sub, gated]
  simp only [exp_masked, ← EReal.coe_sub, Ideal.exp_coe, hp, coe_sum, ← EReal.coe_add]
  rw [← hd, ← hw, one_div' (den_pos q k (by omega) : (0 : ℝ) < den q k (768 + j0.val)).ne']

end P3

end Cert.AttnFwdIdeal.Body

end
-- ==== Proof.AttnFwdTilesB.lean ====
module

public import Idealize.ShloMosaic.Lib.WordCmp
public import Idealize.ShloMosaic.Lib.Pointwise
public import Idealize.ShloMosaic.Lib.ValueIdx
public import Idealize.ShloMosaic.PureOps.Ideal.Laws
public import Idealize.ShloMosaic.Lib.Pipeline.ValueKit
public import Idealize.ShloMosaic.Lib.Claim
public import proofs.«01_k».proof.Proof.AttnFwdSpec

@[expose] public section

set_option maxRecDepth 16384

noncomputable section

namespace Cert.AttnFwdIdeal.Body

open Idealize.ShloMosaic Idealize.ShloMosaic.Tactic
open Cert.AttnFwdIdeal Cert.AttnFwdIdeal.Gen
open Cert.KernelIdeal.Body (T2 T3 TE T2_apply T3_apply TE_apply score masked rowMax ex den wsum scale live live_self live_of_le live_add coe_rowMax den_pos coe_sum coe_div' one_div' ofBits_scale ofBits_bot fold_max exp_masked masked_live ld_T3 M3 M3_coe)

/-! # What the points write, by the number of earlier keys -/

namespace P4

/-! ## A point with 1024 earlier keys -/

variable (q k : ℕ → ℕ → ℝ) (v z : ℕ → ℕ → EReal)

/-- The earlier keys' values without the leading axis. -/
theorem past_v (a : ℕ) : k0_pay32 (F := Ideal) (X3 a 0 v) = TE a 0 v := by
  funext j
  idx_vars j
  pointwise [k0_pay32, TE_apply, X3_apply]

/-- The diagonal block's values without the leading axis. -/
theorem diag_v (a : ℕ) : k0_pay33 (F := Ideal) (X3 a 0 v) = TE a 0 v := by
  funext j
  idx_vars j
  pointwise [k0_pay33, TE_apply, X3_apply]

/-- The scaled queries. -/
theorem scaled : k0_pay34 (F := Ideal) (T3 1024 0 q) = T2 1024 0 fun r d => q r d * scale := by
  funext j
  idx_vars j
  pointwise [k0_pay34, ofBits_scale, T2_apply, T3_apply]
  rw [← EReal.coe_mul]

/-- The masked scores of the diagonal block. -/
theorem diag_score : k0_pay35 (F := Ideal) (T3 1024 0 k) (T3 1024 0 q) = TE 1024 1024 (masked q k) := by
  funext j
  idx_vars j
  pointwise [k0_pay35, scaled, mask_const, T2_apply, T3_apply, TE_apply, zero_add]
  simp only [← EReal.coe_mul, coe_sum]
  rw [chunk_select, masked]
  simp only [live_add 1024 _ _ rfl, score, Finset.sum_range]

/-- The scores against the earlier keys. -/
theorem past_score : k0_pay36 (F := Ideal) (T3 0 0 k) (T3 1024 0 q) = T2 1024 0 (score q k) := by
  funext j
  idx_vars j
  pointwise [k0_pay36, scaled, T2_apply, T3_apply, zero_add]
  simp only [← EReal.coe_mul, coe_sum, score, Finset.sum_range]

/-- The row maxima. -/
theorem row_max : k0_pay37 (F := Ideal) (T3 0 0 k) (T3 1024 0 k) (T3 1024 0 q) = T2 1024 0 fun r _ => rowMax q k r := by
  funext j
  idx_vars j
  pointwise [k0_pay37, diag_score, past_score, ofBits_bot, T2_apply, TE_apply, zero_add]
  rw [max_parts q k (n := 1024) rfl (by decide) (by omega), fold_max _ (fun c => masked q k (1024 + j0.val) (1024 + c)) (fun _ => rfl), fold_max _ (masked q k (1024 + j0.val)) (fun x => (masked_live (live_of_le (by omega))).symm)]

/-- The masked scores less the row maxima. -/
theorem shifted : k0_pay38 (F := Ideal) (T3 0 0 k) (T3 1024 0 k) (T3 1024 0 q) = TE 1024 1024 fun r c => masked q k r c - ((rowMax q k r : ℝ) : EReal) := by
  funext j
  idx_vars j
  pointwise [k0_pay38, diag_score, row_max, T2_apply, TE_apply]

/-- What the point writes. -/
theorem out_eq : k0_pay5 (F := Ideal) (k0_pay32 (X3 0 0 v)) (k0_pay33 (X3 1024 0 v)) (TE 1024 0 z) (k0_pay36 (T3 0 0 k) (T3 1024 0 q))
      (k0_pay37 (T3 0 0 k) (T3 1024 0 k) (T3 1024 0 q)) (k0_pay38 (T3 0 0 k) (T3 1024 0 k) (T3 1024 0 q))
    = TE 1024 0 (gated q k v z) := by
  rw [past_v, diag_v, past_score, row_max, shifted]
  funext j
  idx_vars j
  have hp : ∀ x : Fin 1024, Real.exp (score q k (1024 + j0.val) x.val - rowMax q k (1024 + j0.val)) = ex q k (1024 + j0.val) x.val := fun x => by
    rw [ex, if_pos (live_of_le (by omega))]
  have hd : den q k (1024 + j0.val) = _ := sum_parts (n := 1024) (by decide) (ex q k (1024 + j0.val)) (fun c hc => ex_after q k (n := 1024) rfl (by omega) hc)
  have hw : wide q k v (1024 + j0.val) j1.val = _ := sum_parts (n := 1024) (by decide) (fun c => ((ex q k (1024 + j0.val) c : ℝ) : EReal) * v c j1.val) (fun c hc => by rw [ex_after q k (n := 1024) rfl (by omega) hc, EReal.coe_zero, zero_mul])
  pointwise [k0_pay5, T2_apply, TE_apply, zero_add, zero_sub, gated]
  simp only [exp_masked, ← EReal.coe_sub, Ideal.exp_coe, hp, coe_sum, ← EReal.coe_add]
  rw [← hd, ← hw, one_div' (den_pos q k (by omega) : (0 : ℝ) < den q k (1024 + j0.val)).ne']

end P4

namespace P5

/-! ## A point with 1280 earlier keys -/

variable (q k : ℕ → ℕ → ℝ) (v z : ℕ → ℕ → EReal)

/-- The earlier keys' values without the leading axis. -/
theorem past_v (a : ℕ) : k0_pay39 (F := Ideal) (X3 a 0 v) = TE a 0 v := by
  funext j
  idx_vars j
  pointwise [k0_pay39, TE_apply, X3_apply]

/-- The diagonal block's values without the leading axis. -/
theorem diag_v (a : ℕ) : k0_pay40 (F := Ideal) (X3 a 0 v) = TE a 0 v := by
  funext j
  idx_vars j
  pointwise [k0_pay40, TE_apply, X3_apply]

/-- The scaled queries. -/
theorem scaled : k0_pay41 (F := Ideal) (T3 1280 0 q) = T2 1280 0 fun r d => q r d * scale := by
  funext j
  idx_vars j
  pointwise [k0_pay41, ofBits_scale, T2_apply, T3_apply]
  rw [← EReal.coe_mul]

/-- The masked scores of the diagonal block. -/
theorem diag_score : k0_pay42 (F := Ideal) (T3 1280 0 k) (T3 1280 0 q) = TE 1280 1280 (masked q k) := by
  funext j
  idx_vars j
  pointwise [k0_pay42, scaled, mask_const, T2_apply, T3_apply, TE_apply, zero_add]
  simp only [← EReal.coe_mul, coe_sum]
  rw [chunk_select, masked]
  simp only [live_add 1280 _ _ rfl, score, Finset.sum_range]

/-- The scores against the earlier keys. -/
theorem past_score : k0_pay43 (F := Ideal) (T3 0 0 k) (T3 1280 0 q) = T2 1280 0 (score q k) := by
  funext j
  idx_vars j
  pointwise [k0_pay43, scaled, T2_apply, T3_apply, zero_add]
  simp only [← EReal.coe_mul, coe_sum, score, Finset.sum_range]

/-- The row maxima. -/
theorem row_max : k0_pay44 (F := Ideal) (T3 0 0 k) (T3 1280 0 k) (T3 1280 0 q) = T2 1280 0 fun r _ => rowMax q k r := by
  funext j
  idx_vars j
  pointwise [k0_pay44, diag_score, past_score, ofBits_bot, T2_apply, TE_apply, zero_add]
  rw [max_parts q k (n := 1280) rfl (by decide) (by omega), fold_max _ (fun c => masked q k (1280 + j0.val) (1280 + c)) (fun _ => rfl), fold_max _ (masked q k (1280 + j0.val)) (fun x => (masked_live (live_of_le (by omega))).symm)]

/-- The masked scores less the row maxima. -/
theorem shifted : k0_pay45 (F := Ideal) (T3 0 0 k) (T3 1280 0 k) (T3 1280 0 q) = TE 1280 1280 fun r c => masked q k r c - ((rowMax q k r : ℝ) : EReal) := by
  funext j
  idx_vars j
  pointwise [k0_pay45, diag_score, row_max, T2_apply, TE_apply]

/-- What the point writes. -/
theorem out_eq : k0_pay6 (F := Ideal) (k0_pay39 (X3 0 0 v)) (k0_pay40 (X3 1280 0 v)) (TE 1280 0 z) (k0_pay43 (T3 0 0 k) (T3 1280 0 q))
      (k0_pay44 (T3 0 0 k) (T3 1280 0 k) (T3 1280 0 q)) (k0_pay45 (T3 0 0 k) (T3 1280 0 k) (T3 1280 0 q))
    = TE 1280 0 (gated q k v z) := by
  rw [past_v, diag_v, past_score, row_max, shifted]
  funext j
  idx_vars j
  have hp : ∀ x : Fin 1280, Real.exp (score q k (1280 + j0.val) x.val - rowMax q k (1280 + j0.val)) = ex q k (1280 + j0.val) x.val := fun x => by
    rw [ex, if_pos (live_of_le (by omega))]
  have hd : den q k (1280 + j0.val) = _ := sum_parts (n := 1280) (by decide) (ex q k (1280 + j0.val)) (fun c hc => ex_after q k (n := 1280) rfl (by omega) hc)
  have hw : wide q k v (1280 + j0.val) j1.val = _ := sum_parts (n := 1280) (by decide) (fun c => ((ex q k (1280 + j0.val) c : ℝ) : EReal) * v c j1.val) (fun c hc => by rw [ex_after q k (n := 1280) rfl (by omega) hc, EReal.coe_zero, zero_mul])
  pointwise [k0_pay6, T2_apply, TE_apply, zero_add, zero_sub, gated]
  simp only [exp_masked, ← EReal.coe_sub, Ideal.exp_coe, hp, coe_sum, ← EReal.coe_add]
  rw [← hd, ← hw, one_div' (den_pos q k (by omega) : (0 : ℝ) < den q k (1280 + j0.val)).ne']

end P5

namespace P6

/-! ## A point with 1536 earlier keys -/

variable (q k : ℕ → ℕ → ℝ) (v z : ℕ → ℕ → EReal)

/-- The earlier keys' values without the leading axis. -/
theorem past_v (a : ℕ) : k0_pay46 (F := Ideal) (X3 a 0 v) = TE a 0 v := by
  funext j
  idx_vars j
  pointwise [k0_pay46, TE_apply, X3_apply]

/-- The diagonal block's values without the leading axis. -/
theorem diag_v (a : ℕ) : k0_pay47 (F := Ideal) (X3 a 0 v) = TE a 0 v := by
  funext j
  idx_vars j
  pointwise [k0_pay47, TE_apply, X3_apply]

/-- The scaled queries. -/
theorem scaled : k0_pay48 (F := Ideal) (T3 1536 0 q) = T2 1536 0 fun r d => q r d * scale := by
  funext j
  idx_vars j
  pointwise [k0_pay48, ofBits_scale, T2_apply, T3_apply]
  rw [← EReal.coe_mul]

/-- The masked scores of the diagonal block. -/
theorem diag_score : k0_pay49 (F := Ideal) (T3 1536 0 k) (T3 1536 0 q) = TE 1536 1536 (masked q k) := by
  funext j
  idx_vars j
  pointwise [k0_pay49, scaled, mask_const, T2_apply, T3_apply, TE_apply, zero_add]
  simp only [← EReal.coe_mul, coe_sum]
  rw [chunk_select, masked]
  simp only [live_add 1536 _ _ rfl, score, Finset.sum_range]

/-- The scores against the earlier keys. -/
theorem past_score : k0_pay50 (F := Ideal) (T3 0 0 k) (T3 1536 0 q) = T2 1536 0 (score q k) := by
  funext j
  idx_vars j
  pointwise [k0_pay50, scaled, T2_apply, T3_apply, zero_add]
  simp only [← EReal.coe_mul, coe_sum, score, Finset.sum_range]

/-- The row maxima. -/
theorem row_max : k0_pay51 (F := Ideal) (T3 0 0 k) (T3 1536 0 k) (T3 1536 0 q) = T2 1536 0 fun r _ => rowMax q k r := by
  funext j
  idx_vars j
  pointwise [k0_pay51, diag_score, past_score, ofBits_bot, T2_apply, TE_apply, zero_add]
  rw [max_parts q k (n := 1536) rfl (by decide) (by omega), fold_max _ (fun c => masked q k (1536 + j0.val) (1536 + c)) (fun _ => rfl), fold_max _ (masked q k (1536 + j0.val)) (fun x => (masked_live (live_of_le (by omega))).symm)]

/-- The masked scores less the row maxima. -/
theorem shifted : k0_pay52 (F := Ideal) (T3 0 0 k) (T3 1536 0 k) (T3 1536 0 q) = TE 1536 1536 fun r c => masked q k r c - ((rowMax q k r : ℝ) : EReal) := by
  funext j
  idx_vars j
  pointwise [k0_pay52, diag_score, row_max, T2_apply, TE_apply]

/-- What the point writes. -/
theorem out_eq : k0_pay7 (F := Ideal) (k0_pay46 (X3 0 0 v)) (k0_pay47 (X3 1536 0 v)) (TE 1536 0 z) (k0_pay50 (T3 0 0 k) (T3 1536 0 q))
      (k0_pay51 (T3 0 0 k) (T3 1536 0 k) (T3 1536 0 q)) (k0_pay52 (T3 0 0 k) (T3 1536 0 k) (T3 1536 0 q))
    = TE 1536 0 (gated q k v z) := by
  rw [past_v, diag_v, past_score, row_max, shifted]
  funext j
  idx_vars j
  have hp : ∀ x : Fin 1536, Real.exp (score q k (1536 + j0.val) x.val - rowMax q k (1536 + j0.val)) = ex q k (1536 + j0.val) x.val := fun x => by
    rw [ex, if_pos (live_of_le (by omega))]
  have hd : den q k (1536 + j0.val) = _ := sum_parts (n := 1536) (by decide) (ex q k (1536 + j0.val)) (fun c hc => ex_after q k (n := 1536) rfl (by omega) hc)
  have hw : wide q k v (1536 + j0.val) j1.val = _ := sum_parts (n := 1536) (by decide) (fun c => ((ex q k (1536 + j0.val) c : ℝ) : EReal) * v c j1.val) (fun c hc => by rw [ex_after q k (n := 1536) rfl (by omega) hc, EReal.coe_zero, zero_mul])
  pointwise [k0_pay7, T2_apply, TE_apply, zero_add, zero_sub, gated]
  simp only [exp_masked, ← EReal.coe_sub, Ideal.exp_coe, hp, coe_sum, ← EReal.coe_add]
  rw [← hd, ← hw, one_div' (den_pos q k (by omega) : (0 : ℝ) < den q k (1536 + j0.val)).ne']

end P6

namespace P7

/-! ## A point with 1792 earlier keys -/

variable (q k : ℕ → ℕ → ℝ) (v z : ℕ → ℕ → EReal)

/-- The earlier keys' values without the leading axis. -/
theorem past_v (a : ℕ) : k0_pay53 (F := Ideal) (X3 a 0 v) = TE a 0 v := by
  funext j
  idx_vars j
  pointwise [k0_pay53, TE_apply, X3_apply]

/-- The diagonal block's values without the leading axis. -/
theorem diag_v (a : ℕ) : k0_pay54 (F := Ideal) (X3 a 0 v) = TE a 0 v := by
  funext j
  idx_vars j
  pointwise [k0_pay54, TE_apply, X3_apply]

/-- The scaled queries. -/
theorem scaled : k0_pay55 (F := Ideal) (T3 1792 0 q) = T2 1792 0 fun r d => q r d * scale := by
  funext j
  idx_vars j
  pointwise [k0_pay55, ofBits_scale, T2_apply, T3_apply]
  rw [← EReal.coe_mul]

/-- The masked scores of the diagonal block. -/
theorem diag_score : k0_pay56 (F := Ideal) (T3 1792 0 k) (T3 1792 0 q) = TE 1792 1792 (masked q k) := by
  funext j
  idx_vars j
  pointwise [k0_pay56, scaled, mask_const, T2_apply, T3_apply, TE_apply, zero_add]
  simp only [← EReal.coe_mul, coe_sum]
  rw [chunk_select, masked]
  simp only [live_add 1792 _ _ rfl, score, Finset.sum_range]

/-- The scores against the earlier keys. -/
theorem past_score : k0_pay57 (F := Ideal) (T3 0 0 k) (T3 1792 0 q) = T2 1792 0 (score q k) := by
  funext j
  idx_vars j
  pointwise [k0_pay57, scaled, T2_apply, T3_apply, zero_add]
  simp only [← EReal.coe_mul, coe_sum, score, Finset.sum_range]

/-- The row maxima. -/
theorem row_max : k0_pay58 (F := Ideal) (T3 0 0 k) (T3 1792 0 k) (T3 1792 0 q) = T2 1792 0 fun r _ => rowMax q k r := by
  funext j
  idx_vars j
  pointwise [k0_pay58, diag_score, past_score, ofBits_bot, T2_apply, TE_apply, zero_add]
  rw [max_parts q k (n := 1792) rfl (by decide) (by omega), fold_max _ (fun c => masked q k (1792 + j0.val) (1792 + c)) (fun _ => rfl), fold_max _ (masked q k (1792 + j0.val)) (fun x => (masked_live (live_of_le (by omega))).symm)]

/-- The masked scores less the row maxima. -/
theorem shifted : k0_pay59 (F := Ideal) (T3 0 0 k) (T3 1792 0 k) (T3 1792 0 q) = TE 1792 1792 fun r c => masked q k r c - ((rowMax q k r : ℝ) : EReal) := by
  funext j
  idx_vars j
  pointwise [k0_pay59, diag_score, row_max, T2_apply, TE_apply]

/-- What the point writes. -/
theorem out_eq : k0_pay8 (F := Ideal) (k0_pay53 (X3 0 0 v)) (k0_pay54 (X3 1792 0 v)) (TE 1792 0 z) (k0_pay57 (T3 0 0 k) (T3 1792 0 q))
      (k0_pay58 (T3 0 0 k) (T3 1792 0 k) (T3 1792 0 q)) (k0_pay59 (T3 0 0 k) (T3 1792 0 k) (T3 1792 0 q))
    = TE 1792 0 (gated q k v z) := by
  rw [past_v, diag_v, past_score, row_max, shifted]
  funext j
  idx_vars j
  have hp : ∀ x : Fin 1792, Real.exp (score q k (1792 + j0.val) x.val - rowMax q k (1792 + j0.val)) = ex q k (1792 + j0.val) x.val := fun x => by
    rw [ex, if_pos (live_of_le (by omega))]
  have hd : den q k (1792 + j0.val) = _ := sum_parts (n := 1792) (by decide) (ex q k (1792 + j0.val)) (fun c hc => ex_after q k (n := 1792) rfl (by omega) hc)
  have hw : wide q k v (1792 + j0.val) j1.val = _ := sum_parts (n := 1792) (by decide) (fun c => ((ex q k (1792 + j0.val) c : ℝ) : EReal) * v c j1.val) (fun c hc => by rw [ex_after q k (n := 1792) rfl (by omega) hc, EReal.coe_zero, zero_mul])
  pointwise [k0_pay8, T2_apply, TE_apply, zero_add, zero_sub, gated]
  simp only [exp_masked, ← EReal.coe_sub, Ideal.exp_coe, hp, coe_sum, ← EReal.coe_add]
  rw [← hd, ← hw, one_div' (den_pos q k (by omega) : (0 : ℝ) < den q k (1792 + j0.val)).ne']

end P7

end Cert.AttnFwdIdeal.Body

end
-- ==== Proof.AttnFwdValue.lean ====
module

public import Idealize.ShloMosaic.Lib.WordCmp
public import Idealize.ShloMosaic.Lib.Pointwise
public import Idealize.ShloMosaic.Lib.ValueIdx
public import Idealize.ShloMosaic.PureOps.Ideal.Laws
public import Idealize.ShloMosaic.Lib.Pipeline.ValueKit
public import Idealize.ShloMosaic.Lib.Claim
public import proofs.«01_k».proof.Defs
public import Idealize.ShloMosaic.Lib.ReduceAll
public import Idealize.ShloMosaic.Lib.Pipeline.ValueKit.Tiles
public import proofs.«01_k».proof.Proof.Gen.AttnFwdIdeal.Value
public import proofs.«01_k».proof.Proof.Gen.Pre_finite_forward
public import proofs.«01_k».proof.Proof.AttnFwdTilesA
public import proofs.«01_k».proof.Proof.AttnFwdTilesB
public import proofs.«01_k».proof.Proof.Reals

@[expose] public section

set_option maxRecDepth 16384

noncomputable section

namespace Cert.AttnFwdIdeal.Body

open Idealize.ShloMosaic Idealize.ShloMosaic.Tactic
open Cert.AttnFwdIdeal Cert.AttnFwdIdeal.Gen
open Cert.KernelIdeal.Body (T2 T3 TE T2_apply T3_apply TE_apply score masked rowMax ex den wsum scale live live_self live_of_le live_add coe_rowMax den_pos coe_sum coe_div' one_div' ofBits_scale ofBits_bot fold_max exp_masked masked_live ld_T3 M3 M3_coe)
open Idealize.ShloMosaic.TcCoe Idealize.ShloMosaic.Pipeline Idealize.SL Idealize.SL.RA Idealize.SL.Sem

/-! # The attention going forward: what its result holds -/

variable (m : (ℓ : Loc nD τ sig) → Buf (Elt Ideal) ℓ) (c : Dev nD)

/-- The queries. -/
def qs : S8x2048x192.Idx → EReal := m ((c : Thread nD τ).loc main_arg0)
/-- The keys. -/
def ks : S8x2048x192.Idx → EReal := m ((c : Thread nD τ).loc main_arg1)
/-- The values. -/
def vs : S8x2048x128.Idx → EReal := m ((c : Thread nD τ).loc main_arg2)
/-- The input projections, the gate among them. -/
def ps : S2048x10752.Idx → EReal := m ((c : Thread nD τ).loc main_arg3)

/-- The queries and keys are real numbers. -/
structure Finite : Prop where
  q : ∀ i, ((qs m c i).toReal : EReal) = qs m c i
  k : ∀ i, ((ks m c i).toReal : EReal) = ks m c i

/-- The precondition says so. -/
theorem finite_of_pre (h : Cert.Pre_AttnFwdIdeal_finite_forward m) : Finite m c := by
  have e := congrFun (h c) (Shape.Idx.first Cert.Pre_finite_forward.Facts.h_S_)
  dsimp only [Cert.Pre_finite_forward.fn] at e
  obtain ⟨e0, e1⟩ := IntOp.andi_eq_one.1 e
  haveI : Subsingleton Cert.Pre_finite_forward.S_.Idx := ⟨fun a b => funext fun k => k.elim0⟩
  have real : ∀ x : EReal, Cert.Reals.Real x → (x.toReal : EReal) = x := by
    rintro _ ⟨r, rfl⟩
    rw [EReal.toReal_coe]
  exact ⟨fun i => real _ (Cert.Reals.real_of_lt _ _ i (Host.reduce_andi_all _ _ _ _ _ e0 i)),
    fun i => real _ (Cert.Reals.real_of_lt _ _ i (Host.reduce_andi_all _ _ _ _ _ e1 i))⟩

/-! The block indices at each point: head and block of queries. -/

theorem idx0 : ∀ t : Fin cfg0.N, win0_0.index t = ![t.val / 8, t.val % 8, 0] := by decide +kernel
theorem idx1 : ∀ t : Fin cfg0.N, win0_1.index t = ![t.val / 8, 0, 0] := by decide +kernel
theorem idx2 : ∀ t : Fin cfg0.N, win0_2.index t = ![t.val / 8, 0, 0] := by decide +kernel
theorem idx3 : ∀ t : Fin cfg0.N, win0_3.index t = ![t.val % 8, 30 + t.val / 8] := by decide +kernel
theorem idx4 : ∀ t : Fin cfg0.N, win0_4.index t = ![t.val % 8, t.val / 8] := by decide +kernel

/-- A point's number is below 64. -/
theorem lt64 (t : Fin cfg0.N) : t.val < 64 := t.isLt

variable {m c} in
/-- A point's block of queries. -/
theorem iblk0 (H : Finite m c) (t : Fin cfg0.N) : iblk (F := Ideal) m c 0 t = T3 (256 * (t.val % 8)) 0 (M3 (qs m c) (t.val / 8)) := by
  funext y
  idx_vars y
  have ht := lt64 t
  rw [T3_apply, M3_coe H.q (by omega) (by omega) (by omega), qs]
  blk_ext [iblk, V_main_arg0, idx0]
  all_goals omega

variable {m c} in
/-- A point's keys: all of its head's. -/
theorem iblk1 (H : Finite m c) (t : Fin cfg0.N) : iblk (F := Ideal) m c 1 t = T3 0 0 (M3 (ks m c) (t.val / 8)) := by
  funext y
  idx_vars y
  have ht := lt64 t
  rw [T3_apply, M3_coe H.k (by omega) (by omega) (by omega), ks]
  blk_ext [iblk, V_main_arg1, idx1]
  all_goals omega

/-- A point's values: all of its head's. -/
theorem iblk2 (t : Fin cfg0.N) : iblk (F := Ideal) m c 2 t = X3 0 0 (vf (vs m c) (t.val / 8)) := by
  funext y
  idx_vars y
  have ht := lt64 t
  rw [X3_apply, vf_eq _ (by omega) (by omega) (by omega), vs]
  blk_ext [iblk, V_main_arg2, idx2]
  all_goals omega

/-- A point's block of the gate. -/
theorem iblk3 (t : Fin cfg0.N) : iblk (F := Ideal) m c 3 t = TE (256 * (t.val % 8)) 0 (zf (ps m c) (t.val / 8)) := by
  funext y
  idx_vars y
  have ht := lt64 t
  have e : (ix2 (Fin.ofNat 2048 (256 * (t.val % 8) + y0.val)) (Fin.ofNat 10752 (3840 + 128 * (t.val / 8) + (0 + y1.val))) : S2048x10752.Idx)
      = ix2 ⟨256 * (t.val % 8) + y0.val, by omega⟩ ⟨3840 + 128 * (t.val / 8) + y1.val, by omega⟩ := by
    congr 1 <;> exact Fin.ext ((Nat.mod_eq_of_lt (by omega)).trans (by simp only [zero_add]))
  rw [TE_apply, zf, e, ps]
  blk_ext [iblk, V_main_arg3, idx3]
  all_goals omega

/-- What a point with no earlier keys leaves, of the blocks it reads. -/
theorem left0 (t : Fin cfg0.N) (h : t.val % 8 = 0) :
    outsAt0 (F := Ideal) m c t.val t.isLt = k0_pay1 (iblk m c 3 t) (k0_pay9 (View.ld (Val := Elt Ideal) (e' := .f32) (iblk m c 1 t) (Rect.unit (s := S1x2048x192) ![0, 0, 0] ![1, 256, 192] (by decide))) (View.ld (Val := Elt Ideal) (e' := .f32) (iblk m c 2 t) (Rect.unit (s := S1x2048x128) ![0, 0, 0] ![1, 256, 128] (by decide))) (iblk m c 0 t)) (k0_pay10 (iblk m c 3 t)) (Scalar.ofBits .f32 0x3F800000#32) := by
  rw [outsAt0_A m c t h (by omega) (by omega) (by omega) (by omega) (by omega) (by omega) (by omega)]
  frame_out
  rfl

/-- What a point with 256 earlier keys leaves, of the blocks it reads. -/
theorem left1 (t : Fin cfg0.N) (h : t.val % 8 = 1) :
    outsAt0 (F := Ideal) m c t.val t.isLt = k0_pay2 (k0_pay11 (View.ld (Val := Elt Ideal) (e' := .f32) (iblk m c 2 t) (Rect.unit (s := S1x2048x128) ![0, 0, 0] ![1, 256, 128] (by decide)))) (k0_pay12 (View.ld (Val := Elt Ideal) (e' := .f32) (iblk m c 2 t) (Rect.unit (s := S1x2048x128) ![0, 256, 0] ![1, 256, 128] (by decide)))) (iblk m c 3 t)
      (k0_pay15 (View.ld (Val := Elt Ideal) (e' := .f32) (iblk m c 1 t) (Rect.unit (s := S1x2048x192) ![0, 0, 0] ![1, 256, 192] (by decide))) (iblk m c 0 t))
      (k0_pay16 (View.ld (Val := Elt Ideal) (e' := .f32) (iblk m c 1 t) (Rect.unit (s := S1x2048x192) ![0, 0, 0] ![1, 256, 192] (by decide))) (View.ld (Val := Elt Ideal) (e' := .f32) (iblk m c 1 t) (Rect.unit (s := S1x2048x192) ![0, 256, 0] ![1, 256, 192] (by decide))) (iblk m c 0 t))
      (k0_pay17 (View.ld (Val := Elt Ideal) (e' := .f32) (iblk m c 1 t) (Rect.unit (s := S1x2048x192) ![0, 0, 0] ![1, 256, 192] (by decide))) (View.ld (Val := Elt Ideal) (e' := .f32) (iblk m c 1 t) (Rect.unit (s := S1x2048x192) ![0, 256, 0] ![1, 256, 192] (by decide))) (iblk m c 0 t)) := by
  rw [outsAt0_B m c t (by omega) h (by omega) (by omega) (by omega) (by omega) (by omega) (by omega)]
  frame_out
  rfl

/-- What a point with 512 earlier keys leaves, of the blocks it reads. -/
theorem left2 (t : Fin cfg0.N) (h : t.val % 8 = 2) :
    outsAt0 (F := Ideal) m c t.val t.isLt = k0_pay3 (k0_pay18 (View.ld (Val := Elt Ideal) (e' := .f32) (iblk m c 2 t) (Rect.unit (s := S1x2048x128) ![0, 0, 0] ![1, 512, 128] (by decide)))) (k0_pay19 (View.ld (Val := Elt Ideal) (e' := .f32) (iblk m c 2 t) (Rect.unit (s := S1x2048x128) ![0, 512, 0] ![1, 256, 128] (by decide)))) (iblk m c 3 t)
      (k0_pay22 (View.ld (Val := Elt Ideal) (e' := .f32) (iblk m c 1 t) (Rect.unit (s := S1x2048x192) ![0, 0, 0] ![1, 512, 192] (by decide))) (iblk m c 0 t))
      (k0_pay23 (View.ld (Val := Elt Ideal) (e' := .f32) (iblk m c 1 t) (Rect.unit (s := S1x2048x192) ![0, 0, 0] ![1, 512, 192] (by decide))) (View.ld (Val := Elt Ideal) (e' := .f32) (iblk m c 1 t) (Rect.unit (s := S1x2048x192) ![0, 512, 0] ![1, 256, 192] (by decide))) (iblk m c 0 t))
      (k0_pay24 (View.ld (Val := Elt Ideal) (e' := .f32) (iblk m c 1 t) (Rect.unit (s := S1x2048x192) ![0, 0, 0] ![1, 512, 192] (by decide))) (View.ld (Val := Elt Ideal) (e' := .f32) (iblk m c 1 t) (Rect.unit (s := S1x2048x192) ![0, 512, 0] ![1, 256, 192] (by decide))) (iblk m c 0 t)) := by
  rw [outsAt0_C m c t (by omega) (by omega) h (by omega) (by omega) (by omega) (by omega) (by omega)]
  frame_out
  rfl

/-- What a point with 768 earlier keys leaves, of the blocks it reads. -/
theorem left3 (t : Fin cfg0.N) (h : t.val % 8 = 3) :
    outsAt0 (F := Ideal) m c t.val t.isLt = k0_pay4 (k0_pay25 (View.ld (Val := Elt Ideal) (e' := .f32) (iblk m c 2 t) (Rect.unit (s := S1x2048x128) ![0, 0, 0] ![1, 768, 128] (by decide)))) (k0_pay26 (View.ld (Val := Elt Ideal) (e' := .f32) (iblk m c 2 t) (Rect.unit (s := S1x2048x128) ![0, 768, 0] ![1, 256, 128] (by decide)))) (iblk m c 3 t)
      (k0_pay29 (View.ld (Val := Elt Ideal) (e' := .f32) (iblk m c 1 t) (Rect.unit (s := S1x2048x192) ![0, 0, 0] ![1, 768, 192] (by decide))) (iblk m c 0 t))
      (k0_pay30 (View.ld (Val := Elt Ideal) (e' := .f32) (iblk m c 1 t) (Rect.unit (s := S1x2048x192) ![0, 0, 0] ![1, 768, 192] (by decide))) (View.ld (Val := Elt Ideal) (e' := .f32) (iblk m c 1 t) (Rect.unit (s := S1x2048x192) ![0, 768, 0] ![1, 256, 192] (by decide))) (iblk m c 0 t))
      (k0_pay31 (View.ld (Val := Elt Ideal) (e' := .f32) (iblk m c 1 t) (Rect.unit (s := S1x2048x192) ![0, 0, 0] ![1, 768, 192] (by decide))) (View.ld (Val := Elt Ideal) (e' := .f32) (iblk m c 1 t) (Rect.unit (s := S1x2048x192) ![0, 768, 0] ![1, 256, 192] (by decide))) (iblk m c 0 t)) := by
  rw [outsAt0_D m c t (by omega) (by omega) (by omega) h (by omega) (by omega) (by omega) (by omega)]
  frame_out
  rfl

/-- What a point with 1024 earlier keys leaves, of the blocks it reads. -/
theorem left4 (t : Fin cfg0.N) (h : t.val % 8 = 4) :
    outsAt0 (F := Ideal) m c t.val t.isLt = k0_pay5 (k0_pay32 (View.ld (Val := Elt Ideal) (e' := .f32) (iblk m c 2 t) (Rect.unit (s := S1x2048x128) ![0, 0, 0] ![1, 1024, 128] (by decide)))) (k0_pay33 (View.ld (Val := Elt Ideal) (e' := .f32) (iblk m c 2 t) (Rect.unit (s := S1x2048x128) ![0, 1024, 0] ![1, 256, 128] (by decide)))) (iblk m c 3 t)
      (k0_pay36 (View.ld (Val := Elt Ideal) (e' := .f32) (iblk m c 1 t) (Rect.unit (s := S1x2048x192) ![0, 0, 0] ![1, 1024, 192] (by decide))) (iblk m c 0 t))
      (k0_pay37 (View.ld (Val := Elt Ideal) (e' := .f32) (iblk m c 1 t) (Rect.unit (s := S1x2048x192) ![0, 0, 0] ![1, 1024, 192] (by decide))) (View.ld (Val := Elt Ideal) (e' := .f32) (iblk m c 1 t) (Rect.unit (s := S1x2048x192) ![0, 1024, 0] ![1, 256, 192] (by decide))) (iblk m c 0 t))
      (k0_pay38 (View.ld (Val := Elt Ideal) (e' := .f32) (iblk m c 1 t) (Rect.unit (s := S1x2048x192) ![0, 0, 0] ![1, 1024, 192] (by decide))) (View.ld (Val := Elt Ideal) (e' := .f32) (iblk m c 1 t) (Rect.unit (s := S1x2048x192) ![0, 1024, 0] ![1, 256, 192] (by decide))) (iblk m c 0 t)) := by
  rw [outsAt0_E m c t (by omega) (by omega) (by omega) (by omega) h (by omega) (by omega) (by omega)]
  frame_out
  rfl

/-- What a point with 1280 earlier keys leaves, of the blocks it reads. -/
theorem left5 (t : Fin cfg0.N) (h : t.val % 8 = 5) :
    outsAt0 (F := Ideal) m c t.val t.isLt = k0_pay6 (k0_pay39 (View.ld (Val := Elt Ideal) (e' := .f32) (iblk m c 2 t) (Rect.unit (s := S1x2048x128) ![0, 0, 0] ![1, 1280, 128] (by decide)))) (k0_pay40 (View.ld (Val := Elt Ideal) (e' := .f32) (iblk m c 2 t) (Rect.unit (s := S1x2048x128) ![0, 1280, 0] ![1, 256, 128] (by decide)))) (iblk m c 3 t)
      (k0_pay43 (View.ld (Val := Elt Ideal) (e' := .f32) (iblk m c 1 t) (Rect.unit (s := S1x2048x192) ![0, 0, 0] ![1, 1280, 192] (by decide))) (iblk m c 0 t))
      (k0_pay44 (View.ld (Val := Elt Ideal) (e' := .f32) (iblk m c 1 t) (Rect.unit (s := S1x2048x192) ![0, 0, 0] ![1, 1280, 192] (by decide))) (View.ld (Val := Elt Ideal) (e' := .f32) (iblk m c 1 t) (Rect.unit (s := S1x2048x192) ![0, 1280, 0] ![1, 256, 192] (by decide))) (iblk m c 0 t))
      (k0_pay45 (View.ld (Val := Elt Ideal) (e' := .f32) (iblk m c 1 t) (Rect.unit (s := S1x2048x192) ![0, 0, 0] ![1, 1280, 192] (by decide))) (View.ld (Val := Elt Ideal) (e' := .f32) (iblk m c 1 t) (Rect.unit (s := S1x2048x192) ![0, 1280, 0] ![1, 256, 192] (by decide))) (iblk m c 0 t)) := by
  rw [outsAt0_F m c t (by omega) (by omega) (by omega) (by omega) (by omega) h (by omega) (by omega)]
  frame_out
  rfl

/-- What a point with 1536 earlier keys leaves, of the blocks it reads. -/
theorem left6 (t : Fin cfg0.N) (h : t.val % 8 = 6) :
    outsAt0 (F := Ideal) m c t.val t.isLt = k0_pay7 (k0_pay46 (View.ld (Val := Elt Ideal) (e' := .f32) (iblk m c 2 t) (Rect.unit (s := S1x2048x128) ![0, 0, 0] ![1, 1536, 128] (by decide)))) (k0_pay47 (View.ld (Val := Elt Ideal) (e' := .f32) (iblk m c 2 t) (Rect.unit (s := S1x2048x128) ![0, 1536, 0] ![1, 256, 128] (by decide)))) (iblk m c 3 t)
      (k0_pay50 (View.ld (Val := Elt Ideal) (e' := .f32) (iblk m c 1 t) (Rect.unit (s := S1x2048x192) ![0, 0, 0] ![1, 1536, 192] (by decide))) (iblk m c 0 t))
      (k0_pay51 (View.ld (Val := Elt Ideal) (e' := .f32) (iblk m c 1 t) (Rect.unit (s := S1x2048x192) ![0, 0, 0] ![1, 1536, 192] (by decide))) (View.ld (Val := Elt Ideal) (e' := .f32) (iblk m c 1 t) (Rect.unit (s := S1x2048x192) ![0, 1536, 0] ![1, 256, 192] (by decide))) (iblk m c 0 t))
      (k0_pay52 (View.ld (Val := Elt Ideal) (e' := .f32) (iblk m c 1 t) (Rect.unit (s := S1x2048x192) ![0, 0, 0] ![1, 1536, 192] (by decide))) (View.ld (Val := Elt Ideal) (e' := .f32) (iblk m c 1 t) (Rect.unit (s := S1x2048x192) ![0, 1536, 0] ![1, 256, 192] (by decide))) (iblk m c 0 t)) := by
  rw [outsAt0_G m c t (by omega) (by omega) (by omega) (by omega) (by omega) (by omega) h (by omega)]
  frame_out
  rfl

/-- What a point with 1792 earlier keys leaves, of the blocks it reads. -/
theorem left7 (t : Fin cfg0.N) (h : t.val % 8 = 7) :
    outsAt0 (F := Ideal) m c t.val t.isLt = k0_pay8 (k0_pay53 (View.ld (Val := Elt Ideal) (e' := .f32) (iblk m c 2 t) (Rect.unit (s := S1x2048x128) ![0, 0, 0] ![1, 1792, 128] (by decide)))) (k0_pay54 (View.ld (Val := Elt Ideal) (e' := .f32) (iblk m c 2 t) (Rect.unit (s := S1x2048x128) ![0, 1792, 0] ![1, 256, 128] (by decide)))) (iblk m c 3 t)
      (k0_pay57 (View.ld (Val := Elt Ideal) (e' := .f32) (iblk m c 1 t) (Rect.unit (s := S1x2048x192) ![0, 0, 0] ![1, 1792, 192] (by decide))) (iblk m c 0 t))
      (k0_pay58 (View.ld (Val := Elt Ideal) (e' := .f32) (iblk m c 1 t) (Rect.unit (s := S1x2048x192) ![0, 0, 0] ![1, 1792, 192] (by decide))) (View.ld (Val := Elt Ideal) (e' := .f32) (iblk m c 1 t) (Rect.unit (s := S1x2048x192) ![0, 1792, 0] ![1, 256, 192] (by decide))) (iblk m c 0 t))
      (k0_pay59 (View.ld (Val := Elt Ideal) (e' := .f32) (iblk m c 1 t) (Rect.unit (s := S1x2048x192) ![0, 0, 0] ![1, 1792, 192] (by decide))) (View.ld (Val := Elt Ideal) (e' := .f32) (iblk m c 1 t) (Rect.unit (s := S1x2048x192) ![0, 1792, 0] ![1, 256, 192] (by decide))) (iblk m c 0 t)) := by
  rw [outsAt0_H m c t (by omega) (by omega) (by omega) (by omega) (by omega) (by omega) (by omega) h]
  frame_out
  rfl

variable {m c} in
/-- What a point leaves: its block of the gated attention. -/
theorem left (H : Finite m c) (t : Fin cfg0.N) : outsAt0 (F := Ideal) m c t.val t.isLt
    = TE (256 * (t.val % 8)) 0 (gated (M3 (qs m c) (t.val / 8)) (M3 (ks m c) (t.val / 8)) (vf (vs m c) (t.val / 8)) (zf (ps m c) (t.val / 8))) := by
  have h8 : t.val % 8 = 0 ∨ t.val % 8 = 1 ∨ t.val % 8 = 2 ∨ t.val % 8 = 3 ∨ t.val % 8 = 4 ∨ t.val % 8 = 5 ∨ t.val % 8 = 6 ∨ t.val % 8 = 7 := by omega
  rcases h8 with h | h | h | h | h | h | h | h
  · rw [left0 m c t h, iblk0 H, iblk1 H, iblk2, iblk3, h]
    erw [ld_T3, ld_X3]
    exact P0.out_eq _ _ _ _
  · rw [left1 m c t h, iblk0 H, iblk1 H, iblk2, iblk3, h]
    erw [ld_X3, ld_X3, ld_T3, ld_T3]
    exact P1.out_eq _ _ _ _
  · rw [left2 m c t h, iblk0 H, iblk1 H, iblk2, iblk3, h]
    erw [ld_X3, ld_X3, ld_T3, ld_T3]
    exact P2.out_eq _ _ _ _
  · rw [left3 m c t h, iblk0 H, iblk1 H, iblk2, iblk3, h]
    erw [ld_X3, ld_X3, ld_T3, ld_T3]
    exact P3.out_eq _ _ _ _
  · rw [left4 m c t h, iblk0 H, iblk1 H, iblk2, iblk3, h]
    erw [ld_X3, ld_X3, ld_T3, ld_T3]
    exact P4.out_eq _ _ _ _
  · rw [left5 m c t h, iblk0 H, iblk1 H, iblk2, iblk3, h]
    erw [ld_X3, ld_X3, ld_T3, ld_T3]
    exact P5.out_eq _ _ _ _
  · rw [left6 m c t h, iblk0 H, iblk1 H, iblk2, iblk3, h]
    erw [ld_X3, ld_X3, ld_T3, ld_T3]
    exact P6.out_eq _ _ _ _
  · rw [left7 m c t h, iblk0 H, iblk1 H, iblk2, iblk3, h]
    erw [ld_X3, ld_X3, ld_T3, ld_T3]
    exact P7.out_eq _ _ _ _

variable {m c} in
/-- The result after the run. -/
theorem arr (H : Finite m c) : (dats (F := Ideal) m 0 c).arrAt 4 cfg0.N = attn (qs m c) (ks m c) (vs m c) (ps m c) := by
  refine (dats m 0 c).arrAt_eq_of_covers 4 _ (by decide +kernel) fun t hf y => ?_
  have ht := lt64 t
  blk_simp
  rw [after0_4, left H]
  idx_vars y
  have e : (TE (256 * (t.val % 8)) 0 (gated (M3 (qs m c) (t.val / 8)) (M3 (ks m c) (t.val / 8)) (vf (vs m c) (t.val / 8)) (zf (ps m c) (t.val / 8))) : S256x128.Idx → EReal) (ix2 y0 y1)
      = attn (qs m c) (ks m c) (vs m c) (ps m c) (ix2 ⟨256 * (t.val % 8) + y0.val, by omega⟩ ⟨128 * (t.val / 8) + y1.val, by omega⟩) := by
    have e1 : (128 * (t.val / 8) + y1.val) / 128 = t.val / 8 := by omega
    have e2 : (128 * (t.val / 8) + y1.val) % 128 = 0 + y1.val := by omega
    rw [TE_apply]
    unfold attn
    show _ = gated (M3 (qs m c) ((128 * (t.val / 8) + y1.val) / 128)) _ _ _ (256 * (t.val % 8) + y0.val) ((128 * (t.val / 8) + y1.val) % 128)
    rw [e2]
    show _ = gated (M3 (qs m c) ((128 * (t.val / 8) + y1.val) / 128)) (M3 (ks m c) ((128 * (t.val / 8) + y1.val) / 128)) (vf (vs m c) ((128 * (t.val / 8) + y1.val) / 128)) (zf (ps m c) ((128 * (t.val / 8) + y1.val) / 128)) _ _
    rw [e1]
  refine e.trans ?_
  blk_ext [idx4]
  all_goals omega

end Cert.AttnFwdIdeal.Body

end
-- ==== Proof.AttnFwdRef.lean ====
module

public import Idealize.ShloMosaic.Lib.WordCmp
public import Idealize.ShloMosaic.Lib.Pointwise
public import Idealize.ShloMosaic.Lib.ValueIdx
public import Idealize.ShloMosaic.PureOps.Ideal.Laws
public import Idealize.ShloMosaic.Lib.Pipeline.ValueKit
public import Idealize.ShloMosaic.Lib.Claim
public import proofs.«01_k».proof.Proof.Gen.AttnFwdReferenceIdeal.Read
public import proofs.«01_k».proof.Proof.AttnFwdSpec
public import proofs.«01_k».proof.Proof.RefScore

@[expose] public section

set_option maxRecDepth 16384

noncomputable section

namespace Cert.AttnFwdReferenceIdeal.Body

open Idealize.ShloMosaic Idealize.ShloMosaic.Tactic
open Cert.AttnFwdReferenceIdeal Cert.AttnFwdReferenceIdeal.Gen Cert.AttnFwdReferenceIdeal.Read
open Cert.KernelIdeal.Body (score masked rowMax ex den wsum scale coe_rowMax den_pos coe_sum coe_div' ofBits_bot fold_max exp_masked M3 M3_coe)
open Cert.ReferenceIdeal.Value (A3 A3_apply A2 A2_apply AZ AZ_apply)
open Cert.AttnFwdIdeal.Body (attn gated zf vf vf_eq wide sum_times)

/-! # The attention going forward: what the reference computes -/

section
variable (Q K : ℕ → ℕ → ℕ → ℝ)

/-- The scores with the hidden columns at minus infinity. -/
theorem v12_eq (h : Fin 8) (r c : Fin 2048) : val_main_v12 (F := Ideal) (A3 Q) (A3 K) (ix3 h r c) = masked (Q h) (K h) r c :=
  Cert.ReferenceIdeal.Value.v12_eq Q K h r c

/-- The largest score of each row. -/
theorem v13_eq : val_main_v13 (F := Ideal) (A3 Q) (A3 K) = A2 fun h => rowMax (Q h) (K h) :=
  Cert.ReferenceIdeal.Value.v13_eq Q K

/-- The exponentials. -/
theorem v19_eq : val_main_v19 (F := Ideal) (A3 Q) (A3 K) = A3 fun h => ex (Q h) (K h) := by
  funext i
  idx_vars i
  pointwise [val_main_v19, val_main_v18, val_main_v17, val_main_v16, val_main_v15, val_main_v14, val_main_cst_2, v12_eq, v13_eq, A2_apply, A3_apply]
  simp only [Ideal.ofBits_def, ofBits_bot, bot_le, max_eq_right]
  exact exp_masked _ _ _ _

/-- Each row's sum of exponentials. -/
theorem v20_eq : val_main_v20 (F := Ideal) (A3 Q) (A3 K) = A2 fun h => den (Q h) (K h) := by
  funext i
  idx_vars i
  pointwise [val_main_v20, val_main_cst_3, v19_eq, A2_apply, A3_apply, zero_add]
  simp only [coe_sum, den, Finset.sum_range]

/-- The weighted values. -/
theorem v24_eq (x2 : (⟨3, ![8, 2048, 128]⟩ : Shape).Idx → EReal) (h : Fin 8) (d : Fin 128) (r : Fin 2048) : val_main_v24 (F := Ideal) (A3 Q) (A3 K) x2 (ix3 h d r)
    = wide (Q h) (K h) (vf x2 h) r d * ((1 / den (Q h) (K h) r : ℝ) : EReal) := by
  pointwise [val_main_v24, val_main_v23, val_main_v22, val_main_v21, v19_eq, v20_eq, A2_apply, A3_apply]
  have hd : 0 < den (Q h.val) (K h.val) r.val := den_pos _ _ (Fin.isLt _)
  rw [wide, sum_times _ _ (one_div_nonneg.2 hd.le), Finset.sum_range]
  refine Finset.sum_congr rfl fun c _ => ?_
  rw [vf_eq x2 h.isLt c.isLt d.isLt, coe_div' _ hd.ne', mul_comm (((ex _ _ _ _ : ℝ) : EReal)), mul_assoc, ← EReal.coe_mul, mul_one_div]

/-- The heads side by side. -/
theorem v26_eq (x2 : (⟨3, ![8, 2048, 128]⟩ : Shape).Idx → EReal) (r : Fin 2048) (d : Fin 1024) : val_main_v26 (F := Ideal) (A3 Q) (A3 K) x2 (ix2 r d)
    = wide (Q (d.val / 128)) (K (d.val / 128)) (vf x2 (d.val / 128)) r (d.val % 128) * ((1 / den (Q (d.val / 128)) (K (d.val / 128)) r : ℝ) : EReal) := by
  pointwise [val_main_v26, val_main_v25, v24_eq]

end

/-- An array of real entries is the array of its real parts. -/
theorem A3_self {H N W : ℕ} [NeZero H] [NeZero N] [NeZero W] (X : (⟨3, ![H, N, W]⟩ : Shape).Idx → EReal) (hX : ∀ i, ((X i).toReal : EReal) = X i) :
    A3 (fun h => M3 X h) = X := by
  funext i
  refine (M3_coe hX (i 0).isLt (i 1).isLt (i 2).isLt).trans (congrArg X (funext fun a => ?_))
  fin_cases a <;> rfl

/-- The gate's columns of a head. -/
theorem zf_col (p : (⟨2, ![2048, 10752]⟩ : Shape).Idx → EReal) (r : Fin 2048) (d : Fin 1024) (h : 3840 + d.val < 10752) :
    zf p (d.val / 128) r.val (d.val % 128) = p (ix2 r ⟨3840 + d.val, h⟩) := by
  have e : (ix2 (Fin.ofNat 2048 r.val) (Fin.ofNat 10752 (3840 + 128 * (d.val / 128) + d.val % 128)) : (⟨2, ![2048, 10752]⟩ : Shape).Idx) = ix2 r ⟨3840 + d.val, h⟩ := by
    congr 1 <;> exact Fin.ext ((Nat.mod_eq_of_lt (by omega)).trans (by first | rfl | (dsimp only; omega)))
  rw [zf, e]

/-- The reference's result, where queries and keys are real numbers. -/
theorem ref (x0 x1 : (⟨3, ![8, 2048, 192]⟩ : Shape).Idx → EReal) (x2 : (⟨3, ![8, 2048, 128]⟩ : Shape).Idx → EReal) (x3 : (⟨2, ![2048, 10752]⟩ : Shape).Idx → EReal)
    (h0 : ∀ i, ((x0 i).toReal : EReal) = x0 i) (h1 : ∀ i, ((x1 i).toReal : EReal) = x1 i) :
    val_main_v28 (F := Ideal) x0 x1 x2 x3 = attn x0 x1 x2 x3 := by
  have e := v26_eq (fun h => M3 x0 h) (fun h => M3 x1 h) x2
  rw [A3_self x0 h0, A3_self x1 h1] at e
  funext i
  idx_vars i
  pointwise [val_main_v28, e, val_main_v27, val_main_call2_v5, val_main_call2_v4, val_main_call2_v3, val_main_call2_v2, val_main_call2_v1, val_main_call2_v0, val_main_call2_cst, val_main_call2_cst_0, val_main_v0]
  unfold attn gated
  show _ = _ * (zf x3 (i1.val / 128) i0.val (i1.val % 128) * Ideal.div 1 (1 + Ideal.exp (-zf x3 (i1.val / 128) i0.val (i1.val % 128))))
  rw [zf_col x3 i0 i1 (by omega)]
  rfl

end Cert.AttnFwdReferenceIdeal.Body

end
-- ==== Proof.ClaimAttnFwd.lean ====
module

public import Idealize.ShloMosaic.Lib.WordCmp
public import Idealize.ShloMosaic.Lib.Pointwise
public import Idealize.ShloMosaic.Lib.ValueIdx
public import Idealize.ShloMosaic.PureOps.Ideal.Laws
public import Idealize.ShloMosaic.Lib.Pipeline.ValueKit
public import Idealize.ShloMosaic.Lib.Claim
public import Idealize.ShloMosaic.Adequacy
public import Idealize.ShloMosaic.Init
public import proofs.«01_k».proof.Defs
public import proofs.«01_k».proof.Proof.Gen.AttnFwd
public import proofs.«01_k».proof.Proof.Gen.AttnFwd.Frame
public import proofs.«01_k».proof.Proof.Gen.AttnFwdIdeal
public import proofs.«01_k».proof.Proof.Gen.AttnFwdIdeal.Value
public import proofs.«01_k».proof.Proof.Gen.AttnFwdReferenceIdeal
public import proofs.«01_k».proof.Proof.Gen.AttnFwdReferenceIdeal.Run
public import proofs.«01_k».proof.Proof.Gen.AttnFwdReferenceIdeal.Read
public import proofs.«01_k».proof.Proof.Gen.Pre_finite_forward
public import proofs.«01_k».proof.Proof.AttnFwdValue
public import proofs.«01_k».proof.Proof.AttnFwdRef

@[expose] public section

set_option maxRecDepth 16384

noncomputable section

namespace Cert.AttnFwdClaim

open Idealize.ShloMosaic Idealize.ShloMosaic.TcCoe Idealize.SL.Sem
open Cert.AttnFwdIdeal.Body

/-! # The attention going forward: what is claimed -/

/-- The call at floating point runs, leaves its arguments and ends with every semaphore at zero. -/
theorem frame_kernel : Cert.quiescent_AttnFwd := fun m ρ _ => Cert.AttnFwd.Gen.frame m ρ

/-- The call over the extended reals runs, leaves its arguments and ends with every semaphore at zero. -/
theorem frame_ideal : Cert.quiescent_AttnFwdIdeal := fun m ρ _ => Cert.AttnFwdIdeal.Gen.frame m ρ

/-- The reference over the extended reals runs and leaves its arguments; it has no semaphore. -/
theorem frame_reference : Cert.quiescent_AttnFwdReferenceIdeal := fun m ρ _ =>
  (θ_run Cert.AttnFwdReferenceIdeal.defs _ _).mono (fun r h => ⟨fun c => (h c).2, sem_eq_zero_of_no_sems (by decide) r.2⟩)
    (Cert.AttnFwdReferenceIdeal.Value.run (F := Ideal) m ρ)

/-- The call and the reference leave the same result of finite arguments. -/
theorem equal : Cert.algebraic_AttnFwdIdeal_AttnFwdReferenceIdeal_pre_finite_forward := by
  intro m ρ m' ρ' hpre hargs
  refine ⟨fun c => attn (qs m c) (ks m c) (vs m c) (ps m c), ?_, ?_⟩
  · refine (θ_run Cert.AttnFwdIdeal.defs _ _).mono (fun r h c => ?_) (Cert.AttnFwdIdeal.Value.run_blocks (F := Ideal) m ρ)
    have H := finite_of_pre m c hpre
    obtain ⟨h0, hr⟩ := h c
    exact ⟨h0.trans (arr H), hr⟩
  · refine (θ_run Cert.AttnFwdReferenceIdeal.defs _ _).mono (fun r h c => ?_) (Cert.AttnFwdReferenceIdeal.Value.run (F := Ideal) m' ρ')
    have H := finite_of_pre m c hpre
    obtain ⟨a0, a1, a2, a3⟩ := hargs c
    obtain ⟨h0, hr⟩ := h c
    replace h0 := h0.trans (Cert.AttnFwdReferenceIdeal.Read.val_main_v28_eq (F := Ideal) ..)
    rw [a0, a1, a2, a3] at h0
    exact ⟨h0.trans (Cert.AttnFwdReferenceIdeal.Body.ref _ _ _ _ H.q H.k), hr⟩

end Cert.AttnFwdClaim

end
-- ==== Proof.QkvFwdTiles.lean ====
module

public import Idealize.ShloMosaic.Lib.WordCmp
public import Idealize.ShloMosaic.Lib.Pointwise
public import Idealize.ShloMosaic.Lib.ValueIdx
public import Idealize.ShloMosaic.PureOps.Ideal.Laws
public import Idealize.ShloMosaic.Lib.Pipeline.ValueKit
public import Idealize.ShloMosaic.Lib.Claim
public import proofs.«01_k».proof.Proof.Gen.QkvFwdIdeal.Value

@[expose] public section

set_option maxRecDepth 16384

noncomputable section

namespace Cert.QkvFwdIdeal.Body

open Idealize.ShloMosaic Idealize.ShloMosaic.Tactic
open Cert.QkvFwdIdeal Cert.QkvFwdIdeal.Gen

/-! # Queries, keys and values from the low-rank projections: the mathematics, and the kernel's products of a head -/

/-- The 384 columns of the query's projection, normalised row by row, times the gain. -/
def normQ (p : S2048x10752.Idx → EReal) (g : S1x384.Idx → EReal) (r : Fin 2048) (e : Fin 384) : EReal :=
  p (ix2 r ⟨3072 + e.val, by omega⟩) * Ideal.rsqrt (Ideal.div (∑ k : Fin 384, p (ix2 r ⟨3072 + k.val, by omega⟩) * p (ix2 r ⟨3072 + k.val, by omega⟩)) (Ideal.ofBits .f32 0x43C00000#32)
    + Ideal.ofBits .f32 0x358637BD#32) * g (ix2 0 e)

/-- The 256 columns of the key's and value's projection, normalised row by row, times the gain. -/
def normKV (p : S2048x10752.Idx → EReal) (g : S1x256.Idx → EReal) (r : Fin 2048) (e : Fin 256) : EReal :=
  p (ix2 r ⟨3456 + e.val, by omega⟩) * Ideal.rsqrt (Ideal.div (∑ k : Fin 256, p (ix2 r ⟨3456 + k.val, by omega⟩) * p (ix2 r ⟨3456 + k.val, by omega⟩)) (Ideal.ofBits .f32 0x43800000#32)
    + Ideal.ofBits .f32 0x358637BD#32) * g (ix2 0 e)

/-- A head's query before its rotation. -/
def rawQ (p : S2048x10752.Idx → EReal) (g : S1x384.Idx → EReal) (w : S8x192x384.Idx → EReal) (h : Fin 8) (r : Fin 2048) (n : Fin 192) : EReal :=
  ∑ e : Fin 384, normQ p g r e * w (ix3 h n e)

/-- A head's key (first 128 columns) and value (last 128). -/
def rawKV (p : S2048x10752.Idx → EReal) (g : S1x256.Idx → EReal) (w : S8x256x256.Idx → EReal) (h : Fin 8) (r : Fin 2048) (n : Fin 256) : EReal :=
  ∑ e : Fin 256, normKV p g r e * w (ix3 h n e)

/-- Columns 128 to 191 of a row turned by the row's angles: `a` and `b` are its two halves, `c` and `s` the cosines and sines; columns below 128
    stay as they are. -/
def turned (x : Fin 128 → EReal) (a b c s : Fin 32 → EReal) (n : Fin 192) : EReal :=
  if h : n.val < 128 then x ⟨n.val, h⟩
  else if h' : n.val < 160 then a ⟨n.val - 128, by omega⟩ * c ⟨n.val - 128, by omega⟩ - b ⟨n.val - 128, by omega⟩ * s ⟨n.val - 128, by omega⟩
  else b ⟨n.val - 160, by omega⟩ * c ⟨n.val - 160, by omega⟩ + a ⟨n.val - 160, by omega⟩ * s ⟨n.val - 160, by omega⟩

/-- The queries. -/
def queries (p : S2048x10752.Idx → EReal) (g : S1x384.Idx → EReal) (w : S8x192x384.Idx → EReal) (c s : S2048x32.Idx → EReal) : S8x2048x192.Idx → EReal :=
  fun i => turned (fun n => rawQ p g w (i 0) (i 1) ⟨n.val, by omega⟩) (fun n => rawQ p g w (i 0) (i 1) ⟨128 + n.val, by omega⟩)
    (fun n => rawQ p g w (i 0) (i 1) ⟨160 + n.val, by omega⟩) (fun n => c (ix2 (i 1) n)) (fun n => s (ix2 (i 1) n)) (i 2)

/-- The keys: the 64 turned columns are the same for every head. -/
def keys (p : S2048x10752.Idx → EReal) (g : S1x256.Idx → EReal) (w : S8x256x256.Idx → EReal) (c s : S2048x32.Idx → EReal) : S8x2048x192.Idx → EReal :=
  fun i => turned (fun n => rawKV p g w (i 0) (i 1) ⟨n.val, by omega⟩) (fun n => p (ix2 (i 1) ⟨3712 + n.val, by omega⟩))
    (fun n => p (ix2 (i 1) ⟨3744 + n.val, by omega⟩)) (fun n => c (ix2 (i 1) n)) (fun n => s (ix2 (i 1) n)) (i 2)

/-- The values. -/
def values (p : S2048x10752.Idx → EReal) (g : S1x256.Idx → EReal) (w : S8x256x256.Idx → EReal) : S8x2048x128.Idx → EReal :=
  fun i => rawKV p g w (i 0) (i 1) ⟨128 + (i 2).val, by have : (i 2).val < 128 := (i 2).isLt; omega⟩

/-- What holds in columns 0 to 127, 128 to 159 and 160 to 191 holds in all 192. -/
theorem lanes {Q : Fin 192 → Prop} (h0 : ∀ n : Fin 128, Q ⟨n.val, by omega⟩) (h1 : ∀ n : Fin 32, Q ⟨128 + n.val, by omega⟩)
    (h2 : ∀ n : Fin 32, Q ⟨160 + n.val, by omega⟩) (n : Fin 192) : Q n := by
  by_cases a : n.val < 128
  · exact h0 ⟨n.val, a⟩
  by_cases b : n.val < 160
  · have e := h1 ⟨n.val - 128, by omega⟩
    rwa [show (⟨128 + (n.val - 128), by omega⟩ : Fin 192) = n from Fin.ext (by dsimp only; omega)] at e
  · have e := h2 ⟨n.val - 160, by omega⟩
    rwa [show (⟨160 + (n.val - 160), by omega⟩ : Fin 192) = n from Fin.ext (by dsimp only; omega)] at e

section
variable (x : Fin 128 → EReal) (a b c s : Fin 32 → EReal)

/-- The turned row in its first 128 columns. -/
theorem turned0 (n : Fin 128) : turned x a b c s ⟨n.val, by omega⟩ = x n := dif_pos n.isLt

/-- The turned row in the first half of the turned columns. -/
theorem turned1 (n : Fin 32) : turned x a b c s ⟨128 + n.val, by omega⟩ = a n * c n - b n * s n := by
  have e : (⟨128 + n.val - 128, by omega⟩ : Fin 32) = n := Fin.ext (by dsimp only; omega)
  rw [turned, dif_neg (by dsimp only; omega), dif_pos (by dsimp only; omega)]
  dsimp only
  rw [e]

/-- The turned row in the second half of the turned columns. -/
theorem turned2 (n : Fin 32) : turned x a b c s ⟨160 + n.val, by omega⟩ = b n * c n + a n * s n := by
  have e : (⟨160 + n.val - 160, by omega⟩ : Fin 32) = n := Fin.ext (by dsimp only; omega)
  rw [turned, dif_neg (by dsimp only; omega), dif_neg (by dsimp only; omega)]
  dsimp only
  rw [e]

end

/-- The queries, read in their three groups of columns. -/
theorem queries0 (p : S2048x10752.Idx → EReal) (g : S1x384.Idx → EReal) (w : S8x192x384.Idx → EReal) (c s : S2048x32.Idx → EReal) (h : Fin 8) (r : Fin 2048) (n : Fin 128) :
    queries p g w c s (ix3 h r ⟨n.val, by omega⟩) = rawQ p g w h r ⟨n.val, by omega⟩ :=
  turned0 (fun n => rawQ p g w h r ⟨n.val, by omega⟩) (fun n => rawQ p g w h r ⟨128 + n.val, by omega⟩) (fun n => rawQ p g w h r ⟨160 + n.val, by omega⟩)
    (fun n => c (ix2 r n)) (fun n => s (ix2 r n)) n
theorem queries1 (p : S2048x10752.Idx → EReal) (g : S1x384.Idx → EReal) (w : S8x192x384.Idx → EReal) (c s : S2048x32.Idx → EReal) (h : Fin 8) (r : Fin 2048) (n : Fin 32) :
    queries p g w c s (ix3 h r ⟨128 + n.val, by omega⟩) = rawQ p g w h r ⟨128 + n.val, by omega⟩ * c (ix2 r n) - rawQ p g w h r ⟨160 + n.val, by omega⟩ * s (ix2 r n) :=
  turned1 (fun n => rawQ p g w h r ⟨n.val, by omega⟩) (fun n => rawQ p g w h r ⟨128 + n.val, by omega⟩) (fun n => rawQ p g w h r ⟨160 + n.val, by omega⟩)
    (fun n => c (ix2 r n)) (fun n => s (ix2 r n)) n
theorem queries2 (p : S2048x10752.Idx → EReal) (g : S1x384.Idx → EReal) (w : S8x192x384.Idx → EReal) (c s : S2048x32.Idx → EReal) (h : Fin 8) (r : Fin 2048) (n : Fin 32) :
    queries p g w c s (ix3 h r ⟨160 + n.val, by omega⟩) = rawQ p g w h r ⟨160 + n.val, by omega⟩ * c (ix2 r n) + rawQ p g w h r ⟨128 + n.val, by omega⟩ * s (ix2 r n) :=
  turned2 (fun n => rawQ p g w h r ⟨n.val, by omega⟩) (fun n => rawQ p g w h r ⟨128 + n.val, by omega⟩) (fun n => rawQ p g w h r ⟨160 + n.val, by omega⟩)
    (fun n => c (ix2 r n)) (fun n => s (ix2 r n)) n

/-- The keys, read in their three groups of columns. -/
theorem keys0 (p : S2048x10752.Idx → EReal) (g : S1x256.Idx → EReal) (w : S8x256x256.Idx → EReal) (c s : S2048x32.Idx → EReal) (h : Fin 8) (r : Fin 2048) (n : Fin 128) :
    keys p g w c s (ix3 h r ⟨n.val, by omega⟩) = rawKV p g w h r ⟨n.val, by omega⟩ :=
  turned0 (fun n => rawKV p g w h r ⟨n.val, by omega⟩) (fun n => p (ix2 r ⟨3712 + n.val, by omega⟩)) (fun n => p (ix2 r ⟨3744 + n.val, by omega⟩))
    (fun n => c (ix2 r n)) (fun n => s (ix2 r n)) n
theorem keys1 (p : S2048x10752.Idx → EReal) (g : S1x256.Idx → EReal) (w : S8x256x256.Idx → EReal) (c s : S2048x32.Idx → EReal) (h : Fin 8) (r : Fin 2048) (n : Fin 32) :
    keys p g w c s (ix3 h r ⟨128 + n.val, by omega⟩) = p (ix2 r ⟨3712 + n.val, by omega⟩) * c (ix2 r n) - p (ix2 r ⟨3744 + n.val, by omega⟩) * s (ix2 r n) :=
  turned1 (fun n => rawKV p g w h r ⟨n.val, by omega⟩) (fun n => p (ix2 r ⟨3712 + n.val, by omega⟩)) (fun n => p (ix2 r ⟨3744 + n.val, by omega⟩))
    (fun n => c (ix2 r n)) (fun n => s (ix2 r n)) n
theorem keys2 (p : S2048x10752.Idx → EReal) (g : S1x256.Idx → EReal) (w : S8x256x256.Idx → EReal) (c s : S2048x32.Idx → EReal) (h : Fin 8) (r : Fin 2048) (n : Fin 32) :
    keys p g w c s (ix3 h r ⟨160 + n.val, by omega⟩) = p (ix2 r ⟨3744 + n.val, by omega⟩) * c (ix2 r n) + p (ix2 r ⟨3712 + n.val, by omega⟩) * s (ix2 r n) :=
  turned2 (fun n => rawKV p g w h r ⟨n.val, by omega⟩) (fun n => p (ix2 r ⟨3712 + n.val, by omega⟩)) (fun n => p (ix2 r ⟨3744 + n.val, by omega⟩))
    (fun n => c (ix2 r n)) (fun n => s (ix2 r n)) n

/-! ## Selections by a column's number -/

/-- A selection by a column below 256. -/
theorem sel_lt {a b : EReal} {e : ℕ} (h : e < 256) : Scalar.select (IntOp.cmpi .slt (BitVec.ofNat 32 e) 256#32) a b = a := by
  rw [WordCmp.cmpi_slt_ofNat (by omega) (by omega), decide_eq_true h]
  rfl

/-- A selection by a column from 256 on. -/
theorem sel_ge {a b : EReal} {e : ℕ} (h : 256 ≤ e) (h' : e < 384) : Scalar.select (IntOp.cmpi .slt (BitVec.ofNat 32 e) 256#32) a b = b := by
  rw [WordCmp.cmpi_slt_ofNat (by omega) (by omega), decide_eq_false (by omega)]
  rfl

/-- A sum over the selected columns below 256 is a sum over 256 columns. -/
theorem sum_lt (f : Fin 384 → EReal) : ∑ x : Fin 384, Scalar.select (IntOp.cmpi .slt (BitVec.ofNat 32 x.val) 256#32) (f x) 0
    = ∑ k : Fin 256, f ⟨k.val, by omega⟩ := by
  rw [show (∑ x : Fin 384, Scalar.select (IntOp.cmpi .slt (BitVec.ofNat 32 x.val) 256#32) (f x) 0)
    = ∑ x : Fin (256 + 128), Scalar.select (IntOp.cmpi .slt (BitVec.ofNat 32 x.val) 256#32) (f x) 0 from rfl, Fin.sum_univ_add]
  refine (congrArg₂ (· + ·) (Finset.sum_congr rfl fun k _ => sel_lt k.isLt) (Finset.sum_eq_zero fun k _ => sel_ge ?_ ?_)).trans (add_zero _)
  · show 256 ≤ 256 + k.val; omega
  · show 256 + k.val < 384; omega

/-- A sum that selects one column of 128 is that column. -/
theorem sum_pick (f : Fin 128 → EReal) {n : ℕ} (h : n < 128) :
    ∑ x : Fin 128, Scalar.select (IntOp.cmpi .eq (BitVec.ofNat 32 x.val) (BitVec.ofNat 32 n)) (f x) 0 = f ⟨n, h⟩ := by
  refine (Finset.sum_eq_single ⟨n, h⟩ (fun x _ hx => ?_) (fun hx => absurd (Finset.mem_univ _) hx)).trans ?_
  · rw [WordCmp.cmpi_eq_ofNat (by omega) (by omega), decide_eq_false (fun e => hx (Fin.ext e))]
    rfl
  · rw [WordCmp.cmpi_eq_ofNat (by omega) (by omega), decide_eq_true rfl]
    rfl

/-- The column 32 further on, the 64 columns closed to a ring. -/
theorem ring : ∀ n : Fin 64, IntOp.andi (IntOp.addi (BitVec.ofNat 32 n.val) 32#32) 63#32 = BitVec.ofNat 32 ((n.val + 32) % 64) := by decide

/-- A factor 1/256 is a division by 256. -/
theorem mul_inv_256 (x : EReal) : x * Ideal.ofBits .f32 0x3B800000#32 = Ideal.div x (Ideal.ofBits .f32 0x43800000#32) := by
  have h : Ideal.ofBits .f32 0x43800000#32 = ((256 : ℝ) : EReal) := by
    rw [show (256 : ℝ) = 8388608 * ((2 : ℝ) ^ 15)⁻¹ by norm_num, EReal.coe_mul]; simp [Ideal.ofBits, Ideal.ieee]
  have h' : Ideal.ofBits .f32 0x3B800000#32 = ((1 / 256 : ℝ) : EReal) := by
    rw [show (1 / 256 : ℝ) = 8388608 * ((2 : ℝ) ^ 31)⁻¹ by norm_num, EReal.coe_mul]; simp [Ideal.ofBits, Ideal.ieee]
  rw [h, h', Ideal.div_coe (by norm_num)]

/-! ## The kernel's products of one head, of any blocks -/

section
variable (v1 : FVec Ideal S128x384 .f32) (v3 v5 : FVec Ideal S32x384 .f32) (ct st : FVec Ideal S512x192 .f32) (cq : FVec Ideal S512x384 .f32) (r : Fin 512)

/-- A head's query, first 128 columns. -/
theorem q0 (n : Fin 128) : k0_pay60 (F := Ideal) v1 v3 v5 ct st cq (ix2 r ⟨n.val, by omega⟩)
    = (∑ k : Fin 384, cq (ix2 r k) * v1 (ix2 n k)) * ct (ix2 r ⟨n.val, by omega⟩) := by
  have h := n.isLt
  pointwise [k0_pay60, zero_add]
  try simp only [h, ↓reduceDIte]
  try simp only [mul_zero, Finset.sum_const_zero, zero_mul, add_zero]

/-- A head's query, the first turned half. -/
theorem q1 (n : Fin 32) : k0_pay60 (F := Ideal) v1 v3 v5 ct st cq (ix2 r ⟨128 + n.val, by omega⟩)
    = (∑ k : Fin 384, cq (ix2 r k) * v3 (ix2 n k)) * ct (ix2 r ⟨128 + n.val, by omega⟩) + (∑ k : Fin 384, cq (ix2 r k) * v5 (ix2 n k)) * st (ix2 r ⟨128 + n.val, by omega⟩) := by
  pointwise [k0_pay60, zero_add]

/-- A head's query, the second turned half. -/
theorem q2 (n : Fin 32) : k0_pay60 (F := Ideal) v1 v3 v5 ct st cq (ix2 r ⟨160 + n.val, by omega⟩)
    = (∑ k : Fin 384, cq (ix2 r k) * v5 (ix2 n k)) * ct (ix2 r ⟨160 + n.val, by omega⟩) + (∑ k : Fin 384, cq (ix2 r k) * v3 (ix2 n k)) * st (ix2 r ⟨160 + n.val, by omega⟩) := by
  have h : ¬ 160 + n.val < 128 := by omega
  have h' : ¬ 160 + n.val - 128 < 32 := by omega
  have e : 160 + n.val - 128 - 32 = n.val := by omega
  pointwise [k0_pay60, zero_add]
  simp only [h, h', e, ↓reduceDIte]

end

section
variable (lm : FVec Ideal S512x384 .f32) (wk : FVec Ideal S128x256 .f32) (ct st : FVec Ideal S512x192 .f32) (sw : FVec Ideal S512x192 .f32) (r : Fin 512)

/-- A head's value. -/
theorem v0 (n : Fin 128) : k0_pay62 (F := Ideal) wk lm (k0_pay57 (F := Ideal)) (ix2 r n) = ∑ k : Fin 256, lm (ix2 r ⟨k.val, by omega⟩) * wk (ix2 n k) := by
  pointwise [k0_pay62, k0_pay57, zero_add]
  simp only [mul_zero, Finset.sum_const_zero, add_zero]

/-- A head's key, first 128 columns. -/
theorem k0 (n : Fin 128) : k0_pay68 (F := Ideal) wk ct lm (k0_pay57 (F := Ideal)) (k0_pay58 (F := Ideal) (k0_pay54 (F := Ideal)) (k0_pay56 (F := Ideal))) sw (ix2 r ⟨n.val, by omega⟩)
    = (∑ k : Fin 256, lm (ix2 r ⟨k.val, by omega⟩) * wk (ix2 n k)) * ct (ix2 r ⟨n.val, by omega⟩) + sw (ix2 r ⟨n.val, by omega⟩) := by
  have h := n.isLt
  pointwise [k0_pay68, k0_pay57, k0_pay58, k0_pay54, k0_pay56, zero_add]
  try simp only [h, ↓reduceDIte]
  simp only [mul_zero, Finset.sum_const_zero, add_zero]

/-- A head's key, the turned columns. -/
theorem k1 (n : Fin 64) : k0_pay68 (F := Ideal) wk ct lm (k0_pay57 (F := Ideal)) (k0_pay58 (F := Ideal) (k0_pay54 (F := Ideal)) (k0_pay56 (F := Ideal))) sw (ix2 r ⟨128 + n.val, by omega⟩)
    = lm (ix2 r ⟨256 + n.val, by omega⟩) * ct (ix2 r ⟨128 + n.val, by omega⟩) + sw (ix2 r ⟨128 + n.val, by omega⟩) := by
  pointwise [k0_pay68, k0_pay57, k0_pay58, k0_pay54, k0_pay56, zero_add]
  simp only [mul_zero, Finset.sum_const_zero, zero_add]
  rw [sum_pick (fun x => lm (ix2 r ⟨256 + x.val, by omega⟩)) (n := n.val) (by omega)]

/-- The part of a key with the sines, first 128 columns: none. -/
theorem s0 (n : Fin 128) : k0_pay59 (F := Ideal) st lm (k0_pay55 (F := Ideal)) (k0_pay56 (F := Ideal)) (ix2 r ⟨n.val, by omega⟩) = 0 := by
  pointwise [k0_pay59, k0_pay55, k0_pay56, zero_add]
  simp only [mul_zero, Finset.sum_const_zero, zero_mul]

/-- The part of a key with the sines, the first turned half: the columns of the second. -/
theorem s1 (n : Fin 32) : k0_pay59 (F := Ideal) st lm (k0_pay55 (F := Ideal)) (k0_pay56 (F := Ideal)) (ix2 r ⟨128 + n.val, by omega⟩)
    = lm (ix2 r ⟨288 + n.val, by omega⟩) * st (ix2 r ⟨128 + n.val, by omega⟩) := by
  have e : (n.val + 32) % 64 = 32 + n.val := by omega
  pointwise [k0_pay59, k0_pay55, k0_pay56, zero_add]
  have w := ring ⟨n.val, by omega⟩
  dsimp only at w
  simp only [w, e, mul_zero, Finset.sum_const_zero, zero_add]
  rw [sum_pick (fun x => lm (ix2 r ⟨256 + x.val, by omega⟩)) (n := 32 + n.val) (by omega)]
  refine congrArg (fun z => lm (ix2 r z) * _) (Fin.ext ?_)
  show 256 + (32 + n.val) = 288 + n.val
  omega

/-- The part of a key with the sines, the second turned half: the columns of the first. -/
theorem s2 (n : Fin 32) : k0_pay59 (F := Ideal) st lm (k0_pay55 (F := Ideal)) (k0_pay56 (F := Ideal)) (ix2 r ⟨160 + n.val, by omega⟩)
    = lm (ix2 r ⟨256 + n.val, by omega⟩) * st (ix2 r ⟨160 + n.val, by omega⟩) := by
  have h : ¬ 160 + n.val < 128 := by omega
  have d : 160 + n.val - 128 = 32 + n.val := by omega
  have e : (32 + n.val + 32) % 64 = n.val := by omega
  pointwise [k0_pay59, k0_pay55, k0_pay56, zero_add]
  have w := ring ⟨32 + n.val, by omega⟩
  dsimp only at w
  simp only [h, ↓reduceDIte, d, w, e, mul_zero, Finset.sum_const_zero, zero_add]
  refine congrArg (· * _) ((Finset.sum_congr rfl fun x _ => ?_).trans (sum_pick (fun x => lm (ix2 r ⟨256 + x.val, by omega⟩)) (n := n.val) (by omega)))
  unfold Scalar.select
  split <;> simp

end

section
variable (x0 : Vec Ideal S512x384 .f32) (g : FVec Ideal S1x384 .f32) (r : Fin 512)

/-- The block of normalised query columns. -/
theorem n0 (e : Fin 384) : k0_pay52 (F := Ideal) x0 g (k0_pay51 (F := Ideal) x0) (ix2 r e)
    = x0 (ix2 r e) * Ideal.rsqrt (Ideal.div (∑ k : Fin 384, x0 (ix2 r k) * x0 (ix2 r k)) (Ideal.ofBits .f32 0x43C00000#32) + Ideal.ofBits .f32 0x358637BD#32) * g (ix2 0 e) := by
  pointwise [k0_pay52, k0_pay51, zero_add]

/-- The block of normalised key and value columns. -/
theorem n1 (e : Fin 256) : k0_pay53 (F := Ideal) x0 g (ix2 r ⟨e.val, by omega⟩)
    = x0 (ix2 r ⟨e.val, by omega⟩) * Ideal.rsqrt (Ideal.div (∑ k : Fin 256, x0 (ix2 r ⟨k.val, by omega⟩) * x0 (ix2 r ⟨k.val, by omega⟩)) (Ideal.ofBits .f32 0x43800000#32)
      + Ideal.ofBits .f32 0x358637BD#32) * g (ix2 0 ⟨e.val, by omega⟩) := by
  pointwise [k0_pay53, zero_add]
  rw [sel_lt e.isLt, sum_lt (fun x => x0 (ix2 r x) * x0 (ix2 r x)), mul_inv_256]

/-- The columns after them stay. -/
theorem n2 (e : Fin 128) : k0_pay53 (F := Ideal) x0 g (ix2 r ⟨256 + e.val, by omega⟩) = x0 (ix2 r ⟨256 + e.val, by omega⟩) := by
  pointwise [k0_pay53, zero_add]
  rw [sel_ge (by omega) (by omega)]

end

end Cert.QkvFwdIdeal.Body

end
-- ==== Proof.QkvFwdBlocks.lean ====
module

public import Idealize.ShloMosaic.Lib.WordCmp
public import Idealize.ShloMosaic.Lib.Pointwise
public import Idealize.ShloMosaic.Lib.ValueIdx
public import Idealize.ShloMosaic.PureOps.Ideal.Laws
public import Idealize.ShloMosaic.Lib.Pipeline.ValueKit
public import Idealize.ShloMosaic.Lib.Claim
public import Idealize.ShloMosaic.Lib.StableHlo.RunRead
public import proofs.«01_k».proof.Proof.QkvFwdTiles

@[expose] public section

set_option maxRecDepth 16384

noncomputable section

namespace Cert.QkvFwdIdeal.Body

open Idealize.ShloMosaic Idealize.ShloMosaic.Tactic
open Cert.QkvFwdIdeal Cert.QkvFwdIdeal.Gen
open Idealize.ShloMosaic.TcCoe Idealize.ShloMosaic.Pipeline Idealize.SL Idealize.SL.RA Idealize.SL.Sem

/-! # The attention's projections: the blocks of a point and what a head computes of them -/

section
variable (m : (ℓ : Loc nD τ sig) → Buf (Elt Ideal) ℓ) (c : Dev nD)

/-- The input projection's result. -/
def ps : S2048x10752.Idx → EReal := m ((c : Thread nD τ).loc main_arg0)
/-- The gain of the query's norm. -/
def gq : S1x384.Idx → EReal := m ((c : Thread nD τ).loc main_arg1)
/-- The gain of the key's and value's norm. -/
def gk : S1x256.Idx → EReal := m ((c : Thread nD τ).loc main_arg2)
/-- The query's weights. -/
def wqs : S8x192x384.Idx → EReal := m ((c : Thread nD τ).loc main_arg3)
/-- The key's and value's weights. -/
def wks : S8x256x256.Idx → EReal := m ((c : Thread nD τ).loc main_arg4)
/-- The cosines. -/
def cs : S2048x32.Idx → EReal := m ((c : Thread nD τ).loc main_arg5)
/-- The sines. -/
def sn : S2048x32.Idx → EReal := m ((c : Thread nD τ).loc main_arg6)

/-- The host's table of cosines. -/
def tabC : S2048x192.Idx → EReal := V (F := Ideal) m c main_v2
/-- The host's table of sines. -/
def tabS : S2048x192.Idx → EReal := V (F := Ideal) m c main_v4
/-- The gain that the host lengthens. -/
def tabG : S1x384.Idx → EReal := V (F := Ideal) m c main_v6

theorem idx0 : ∀ t : Fin cfg0.N, win0_0.index t = ![t.val, 8] := by decide +kernel
theorem idx1 : ∀ t : Fin cfg0.N, win0_1.index t = ![t.val, 9] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0, 0] := by decide +kernel
theorem idx5 : ∀ t : Fin cfg0.N, win0_5.index t = ![0, 0, 0] := by decide +kernel
theorem idx6 : ∀ t : Fin cfg0.N, win0_6.index t = ![t.val, 0] := by decide +kernel
theorem idx7 : ∀ t : Fin cfg0.N, win0_7.index t = ![t.val, 0] := by decide +kernel
theorem idx8 : ∀ t : Fin cfg0.N, win0_8.index t = ![0, t.val, 0] := by decide +kernel
theorem idx9 : ∀ t : Fin cfg0.N, win0_9.index t = ![0, t.val, 0] := by decide +kernel
theorem idx10 : ∀ t : Fin cfg0.N, win0_10.index t = ![0, t.val, 0] := by decide +kernel

/-- A point's number is below 4. -/
theorem lt4 (t : Fin cfg0.N) : t.val < 4 := t.isLt

/-- Row `r` of a point's block, in the whole. -/
def row (t : Fin cfg0.N) (r : Fin 512) : Fin 2048 := ⟨512 * t.val + r.val, by have := lt4 t; omega⟩

variable (t : Fin cfg0.N)

/-- The block of the query's columns. -/
theorem iblk0 (r : Fin 512) (e : Fin 384) : (iblk (F := Ideal) m c 0 t : S512x384.Idx → EReal) (ix2 r e) = ps m c (ix2 (row t r) ⟨3072 + e.val, by omega⟩) := by
  unfold ps row
  blk_ext [iblk, V_main_arg0, idx0]
  all_goals omega

/-- The block of the key's and value's columns. -/
theorem iblk1 (r : Fin 512) (e : Fin 384) : (iblk (F := Ideal) m c 1 t : S512x384.Idx → EReal) (ix2 r e) = ps m c (ix2 (row t r) ⟨3456 + e.val, by omega⟩) := by
  unfold ps row
  blk_ext [iblk, V_main_arg0, idx1]
  all_goals omega

/-- The query's gain. -/
theorem iblk2 (e : Fin 384) : (iblk (F := Ideal) m c 2 t : S1x384.Idx → EReal) (ix2 0 e) = gq m c (ix2 0 e) := by
  unfold gq
  blk_ext [iblk, V_main_arg1, idx2]
  all_goals omega

/-- The key's and value's gain, lengthened by the host. -/
theorem iblk3 (e : Fin 384) : (iblk (F := Ideal) m c 3 t : S1x384.Idx → EReal) (ix2 0 e) = tabG m c (ix2 0 e) := by
  unfold tabG
  blk_ext [iblk, idx3]
  all_goals omega

/-- The query's weights. -/
theorem iblk4 : (iblk (F := Ideal) m c 4 t : S8x192x384.Idx → EReal) = wqs m c := by
  unfold wqs
  funext i
  blk_ext [iblk, V_main_arg3, idx4]
  all_goals omega

/-- The key's and value's weights. -/
theorem iblk5 : (iblk (F := Ideal) m c 5 t : S8x256x256.Idx → EReal) = wks m c := by
  unfold wks
  funext i
  blk_ext [iblk, V_main_arg4, idx5]
  all_goals omega

/-- The block of the cosines' table. -/
theorem iblk6 (r : Fin 512) (n : Fin 192) : (iblk (F := Ideal) m c 6 t : S512x192.Idx → EReal) (ix2 r n) = tabC m c (ix2 (row t r) n) := by
  unfold row tabC
  blk_ext [iblk, idx6]
  all_goals omega

/-- The block of the sines' table. -/
theorem iblk7 (r : Fin 512) (n : Fin 192) : (iblk (F := Ideal) m c 7 t : S512x192.Idx → EReal) (ix2 r n) = tabS m c (ix2 (row t r) n) := by
  unfold row tabS
  blk_ext [iblk, idx7]
  all_goals omega

/-! ## The host's tables -/

/-- The lengthened gain in its first 256 columns. -/
theorem tab_g (e : Fin 256) : tabG m c (ix2 0 ⟨e.val, by omega⟩) = gk m c (ix2 0 e) := by
  unfold gk tabG
  entry_read
  pointwise []

/-- The cosines' table: ones, then the cosines twice. -/
theorem tabC_eq : tabC m c = concatenate S2048x192 1 [⟨S2048x128, broadcastInDim S2048x128 ![] bcast_S_S2048x128 (constant (F := Ideal) S_ .f32 0x3F800000#32)⟩,
    ⟨S2048x32, cs m c⟩, ⟨S2048x32, cs m c⟩] concatenates_S2048x128_S2048x32_S2048x32_S2048x192_d1 := by
  unfold tabC V cs
  after_reads_simp
  rfl

/-- The sines' table: zeros, then the sines with their sign turned, then the sines. -/
theorem tabS_eq : tabS m c = concatenate S2048x192 1 [⟨S2048x128, broadcastInDim S2048x128 ![] bcast_S_S2048x128 (constant (F := Ideal) S_ .f32 0x00000000#32)⟩,
    ⟨S2048x32, Host.negf (F := Ideal) (s := S2048x32) (φ := .f32) (sn m c)⟩, ⟨S2048x32, sn m c⟩] concatenates_S2048x128_S2048x32_S2048x32_S2048x192_d1 := by
  unfold tabS V sn
  after_reads_simp
  rfl

theorem tab_c0 (r : Fin 2048) (n : Fin 128) : tabC m c (ix2 r ⟨n.val, by omega⟩) = 1 := by
  rw [tabC_eq]
  pointwise []

theorem tab_c1 (r : Fin 2048) (n : Fin 32) : tabC m c (ix2 r ⟨128 + n.val, by omega⟩) = cs m c (ix2 r n) := by
  rw [tabC_eq]
  pointwise []

theorem tab_c2 (r : Fin 2048) (n : Fin 32) : tabC m c (ix2 r ⟨160 + n.val, by omega⟩) = cs m c (ix2 r n) := by
  rw [tabC_eq]
  have h : ¬ 160 + n.val < 128 := by omega
  have h' : ¬ 160 + n.val - 128 < 32 := by omega
  have e : 160 + n.val - 128 - 32 = n.val := by omega
  pointwise []
  try simp only [h, h', e, ↓reduceDIte]

theorem tab_s1 (r : Fin 2048) (n : Fin 32) : tabS m c (ix2 r ⟨128 + n.val, by omega⟩) = -sn m c (ix2 r n) := by
  rw [tabS_eq]
  pointwise []

theorem tab_s2 (r : Fin 2048) (n : Fin 32) : tabS m c (ix2 r ⟨160 + n.val, by omega⟩) = sn m c (ix2 r n) := by
  rw [tabS_eq]
  have h : ¬ 160 + n.val < 128 := by omega
  have h' : ¬ 160 + n.val - 128 < 32 := by omega
  have e : 160 + n.val - 128 - 32 = n.val := by omega
  pointwise []
  try simp only [h, h', e, ↓reduceDIte]

/-! ## What a point makes of its blocks before the heads -/

/-- The cosines' block. -/
def ctB : FVec Ideal S512x192 .f32 := k0_pay108 (F := Ideal) (iblk m c 0 t) (iblk m c 1 t) (iblk m c 2 t) (iblk m c 3 t) (iblk m c 4 t) (iblk m c 5 t) (iblk m c 6 t) (iblk m c 7 t)
/-- The sines' block. -/
def stB : FVec Ideal S512x192 .f32 := k0_pay109 (F := Ideal) (iblk m c 0 t) (iblk m c 1 t) (iblk m c 2 t) (iblk m c 3 t) (iblk m c 4 t) (iblk m c 5 t) (iblk m c 6 t) (iblk m c 7 t)
/-- The normalised query columns. -/
def cqB : FVec Ideal S512x384 .f32 := k0_pay110 (F := Ideal) (iblk m c 0 t) (iblk m c 1 t) (iblk m c 2 t) (iblk m c 3 t) (iblk m c 4 t) (iblk m c 5 t) (iblk m c 6 t) (iblk m c 7 t)
/-- The normalised key and value columns, and the turned key columns after them. -/
def lmB : FVec Ideal S512x384 .f32 := k0_pay111 (F := Ideal) (iblk m c 0 t) (iblk m c 1 t) (iblk m c 2 t) (iblk m c 3 t) (iblk m c 4 t) (iblk m c 5 t) (iblk m c 6 t) (iblk m c 7 t)

theorem zero2 : (![0, 0] : Fin 2 → ℕ) = fun _ => 0 := by funext a; fin_cases a <;> rfl

theorem ctB_eq (r : Fin 512) (n : Fin 192) : ctB m c t (ix2 r n) = tabC m c (ix2 (row t r) n) := by
  rw [← iblk6, ctB, k0_pay108, View.ld_unit_zero (S := S512x192) zero2]
  pointwise [k0_pay49]

theorem stB_eq (r : Fin 512) (n : Fin 192) : stB m c t (ix2 r n) = tabS m c (ix2 (row t r) n) := by
  rw [← iblk7, stB, k0_pay109, View.ld_unit_zero (S := S512x192) zero2]
  pointwise [k0_pay50]

theorem cqB_eq (r : Fin 512) (e : Fin 384) : cqB m c t (ix2 r e) = normQ (ps m c) (gq m c) (row t r) e := by
  rw [cqB, k0_pay110, View.ld_unit_zero (S := S512x384) zero2, View.ld_unit_zero (S := S1x384) zero2, n0, normQ]
  refine congrArg₂ (· * ·) (congrArg₂ (· * ·) (iblk0 m c t r e) (congrArg (fun z => Ideal.rsqrt (Ideal.div z _ + _)) ?_)) (iblk2 m c t e)
  exact Finset.sum_congr rfl fun k _ => congrArg₂ (· * ·) (iblk0 m c t r k) (iblk0 m c t r k)

theorem lmB_lt (r : Fin 512) (e : Fin 256) : lmB m c t (ix2 r ⟨e.val, by omega⟩) = normKV (ps m c) (gk m c) (row t r) e := by
  rw [lmB, k0_pay111, View.ld_unit_zero (S := S512x384) zero2, View.ld_unit_zero (S := S1x384) zero2, n1, normKV, ← tab_g]
  refine congrArg₂ (· * ·) (congrArg₂ (· * ·) (iblk1 m c t r _) (congrArg (fun z => Ideal.rsqrt (Ideal.div z _ + _)) ?_)) ?_
  · exact Finset.sum_congr rfl fun k _ => congrArg₂ (· * ·) (iblk1 m c t r _) (iblk1 m c t r _)
  · pointwise [k0_pay48]
    exact iblk3 m c t _

theorem lmB_ge (r : Fin 512) (e : Fin 128) : lmB m c t (ix2 r ⟨256 + e.val, by omega⟩) = ps m c (ix2 (row t r) ⟨3712 + e.val, by omega⟩) := by
  rw [lmB, k0_pay111, View.ld_unit_zero (S := S512x384) zero2, View.ld_unit_zero (S := S1x384) zero2, n2]
  refine (iblk1 m c t r _).trans (congrArg (fun z => ps m c (ix2 _ z)) (Fin.ext ?_))
  show 3456 + (256 + e.val) = 3712 + e.val
  omega

end

end Cert.QkvFwdIdeal.Body

end
-- ==== Proof.QkvFwdHeads.lean ====
module

public import Idealize.ShloMosaic.Lib.WordCmp
public import Idealize.ShloMosaic.Lib.Pointwise
public import Idealize.ShloMosaic.Lib.ValueIdx
public import Idealize.ShloMosaic.PureOps.Ideal.Laws
public import Idealize.ShloMosaic.Lib.Pipeline.ValueKit
public import Idealize.ShloMosaic.Lib.Claim
public import Idealize.ShloMosaic.Lib.StableHlo.RunRead
public import proofs.«01_k».proof.Proof.QkvFwdBlocks

@[expose] public section

set_option maxRecDepth 16384

noncomputable section

namespace Cert.QkvFwdIdeal.Body

open Idealize.ShloMosaic Idealize.ShloMosaic.Tactic
open Cert.QkvFwdIdeal Cert.QkvFwdIdeal.Gen
open Idealize.ShloMosaic.TcCoe Idealize.ShloMosaic.Pipeline Idealize.SL Idealize.SL.RA Idealize.SL.Sem

/-! # The attention's projections: what a head computes at a point -/

section
variable (m : (ℓ : Loc nD τ sig) → Buf (Elt Ideal) ℓ) (c : Dev nD) (t : Fin cfg0.N)

/-- A head's query, of blocks that hold the head's weights. -/
theorem head_q (h : Fin 8) (v1 : FVec Ideal S128x384 .f32) (v3 v5 : FVec Ideal S32x384 .f32)
    (h1 : ∀ (n : Fin 128) (k : Fin 384), v1 (ix2 n k) = wqs m c (ix3 h ⟨n.val, by omega⟩ k))
    (h3 : ∀ (n : Fin 32) (k : Fin 384), v3 (ix2 n k) = wqs m c (ix3 h ⟨128 + n.val, by omega⟩ k))
    (h5 : ∀ (n : Fin 32) (k : Fin 384), v5 (ix2 n k) = wqs m c (ix3 h ⟨160 + n.val, by omega⟩ k)) (r : Fin 512) (n : Fin 192) :
    k0_pay60 (F := Ideal) v1 v3 v5 (ctB m c t) (stB m c t) (cqB m c t) (ix2 r n)
      = queries (ps m c) (gq m c) (wqs m c) (cs m c) (sn m c) (ix3 h (row t r) n) := by
  have a1 (n : Fin 128) : ∑ k : Fin 384, cqB m c t (ix2 r k) * v1 (ix2 n k) = rawQ (ps m c) (gq m c) (wqs m c) h (row t r) ⟨n.val, by omega⟩ :=
    Finset.sum_congr rfl fun k _ => by rw [h1, cqB_eq]
  have a3 (n : Fin 32) : ∑ k : Fin 384, cqB m c t (ix2 r k) * v3 (ix2 n k) = rawQ (ps m c) (gq m c) (wqs m c) h (row t r) ⟨128 + n.val, by omega⟩ :=
    Finset.sum_congr rfl fun k _ => by rw [h3, cqB_eq]
  have a5 (n : Fin 32) : ∑ k : Fin 384, cqB m c t (ix2 r k) * v5 (ix2 n k) = rawQ (ps m c) (gq m c) (wqs m c) h (row t r) ⟨160 + n.val, by omega⟩ :=
    Finset.sum_congr rfl fun k _ => by rw [h5, cqB_eq]
  refine lanes (Q := fun n => k0_pay60 (F := Ideal) v1 v3 v5 (ctB m c t) (stB m c t) (cqB m c t) (ix2 r n)
      = queries (ps m c) (gq m c) (wqs m c) (cs m c) (sn m c) (ix3 h (row t r) n)) (fun n => ?_) (fun n => ?_) (fun n => ?_) n
  · rw [q0, a1, ctB_eq, tab_c0, mul_one]
    exact (queries0 _ _ _ _ _ h (row t r) n).symm
  · rw [q1, a3, a5, ctB_eq, tab_c1, stB_eq, tab_s1, mul_neg, ← sub_eq_add_neg]
    exact (queries1 _ _ _ _ _ h (row t r) n).symm
  · rw [q2, a3, a5, ctB_eq, tab_c2, stB_eq, tab_s2]
    exact (queries2 _ _ _ _ _ h (row t r) n).symm

/-- The part of the keys with the sines. -/
def swB : FVec Ideal S512x192 .f32 := k0_pay59 (F := Ideal) (stB m c t) (lmB m c t) (k0_pay55 (F := Ideal)) (k0_pay56 (F := Ideal))

/-- A head's key, of a block that holds the head's weights. -/
theorem head_k (h : Fin 8) (w : FVec Ideal S128x256 .f32) (hw : ∀ (n : Fin 128) (k : Fin 256), w (ix2 n k) = wks m c (ix3 h ⟨n.val, by omega⟩ k)) (r : Fin 512) (n : Fin 192) :
    k0_pay68 (F := Ideal) w (ctB m c t) (lmB m c t) (k0_pay57 (F := Ideal)) (k0_pay58 (F := Ideal) (k0_pay54 (F := Ideal)) (k0_pay56 (F := Ideal))) (swB m c t) (ix2 r n)
      = keys (ps m c) (gk m c) (wks m c) (cs m c) (sn m c) (ix3 h (row t r) n) := by
  have a1 (n : Fin 128) : ∑ k : Fin 256, lmB m c t (ix2 r ⟨k.val, by omega⟩) * w (ix2 n k) = rawKV (ps m c) (gk m c) (wks m c) h (row t r) ⟨n.val, by omega⟩ :=
    Finset.sum_congr rfl fun k _ => by rw [hw, lmB_lt]
  refine lanes (Q := fun n => k0_pay68 (F := Ideal) w (ctB m c t) (lmB m c t) (k0_pay57 (F := Ideal)) (k0_pay58 (F := Ideal) (k0_pay54 (F := Ideal)) (k0_pay56 (F := Ideal))) (swB m c t) (ix2 r n)
      = keys (ps m c) (gk m c) (wks m c) (cs m c) (sn m c) (ix3 h (row t r) n)) (fun n => ?_) (fun n => ?_) (fun n => ?_) n
  · rw [k0, a1, ctB_eq, tab_c0, mul_one, swB, s0, add_zero]
    exact (keys0 _ _ _ _ _ h (row t r) n).symm
  · refine (k1 (lmB m c t) w (ctB m c t) (swB m c t) r ⟨n.val, by omega⟩).trans ?_
    dsimp only
    rw [ctB_eq, tab_c1, swB, s1, stB_eq, tab_s1, mul_neg, ← sub_eq_add_neg]
    rw [lmB_ge m c t r ⟨n.val, by omega⟩]
    have e : (⟨288 + n.val, by omega⟩ : Fin 384) = ⟨256 + (32 + n.val), by omega⟩ := Fin.ext (by dsimp only; omega)
    rw [e, lmB_ge m c t r ⟨32 + n.val, by omega⟩]
    have e' : (⟨3712 + (32 + n.val), by omega⟩ : Fin 10752) = ⟨3744 + n.val, by omega⟩ := Fin.ext (by dsimp only; omega)
    dsimp only
    rw [e']
    exact (keys1 _ _ _ _ _ h (row t r) n).symm
  · have e : (⟨160 + n.val, by omega⟩ : Fin 192) = ⟨128 + (32 + n.val), by omega⟩ := Fin.ext (by dsimp only; omega)
    have k := k1 (lmB m c t) w (ctB m c t) (swB m c t) r ⟨32 + n.val, by omega⟩
    dsimp only at k
    rw [← e] at k
    refine k.trans ?_
    rw [ctB_eq, tab_c2, swB, s2, stB_eq, tab_s2, lmB_ge m c t r ⟨32 + n.val, by omega⟩, lmB_ge m c t r ⟨n.val, by omega⟩]
    have e' : (⟨3712 + (32 + n.val), by omega⟩ : Fin 10752) = ⟨3744 + n.val, by omega⟩ := Fin.ext (by dsimp only; omega)
    dsimp only
    rw [e']
    exact (keys2 _ _ _ _ _ h (row t r) n).symm

/-- A head's value, of a block that holds the head's weights. -/
theorem head_v (h : Fin 8) (w : FVec Ideal S128x256 .f32) (hw : ∀ (n : Fin 128) (k : Fin 256), w (ix2 n k) = wks m c (ix3 h ⟨128 + n.val, by omega⟩ k)) (r : Fin 512) (n : Fin 128) :
    k0_pay62 (F := Ideal) w (lmB m c t) (k0_pay57 (F := Ideal)) (ix2 r n) = values (ps m c) (gk m c) (wks m c) (ix3 h (row t r) n) := by
  rw [v0]
  unfold values rawKV
  exact Finset.sum_congr rfl fun k _ => by rw [hw, lmB_lt]; rfl

end

/-! ## Reading a head's weights, and writing a head's block -/

section
variable (X : Vec Ideal S8x192x384 .f32) (Y : Vec Ideal S8x256x256 .bf16) (a o : ℕ) (ha : a < 8)

/-- A head's 128 rows of the query's weights. -/
theorem ld_q128 (inb : ∀ d, (![a, o, 0] : Fin 3 → ℕ) d + S1x128x384.size d ≤ S8x192x384.size d) (n : Fin 128) (k : Fin 384) (ho : o + n.val < 192) :
    k0_pay7 (F := Ideal) (View.ld (Val := Elt Ideal) (e' := .f32) X (Rect.unit (s := S8x192x384) ![a, o, 0] S1x128x384.size inb)) (ix2 n k) = X (ix3 ⟨a, ha⟩ ⟨o + n.val, ho⟩ k) := by
  pointwise [k0_pay7]
  blk_ext []
  all_goals omega

/-- A head's 32 rows of the query's weights. -/
theorem ld_q32 (inb : ∀ d, (![a, o, 0] : Fin 3 → ℕ) d + S1x32x384.size d ≤ S8x192x384.size d) (n : Fin 32) (k : Fin 384) (ho : o + n.val < 192) :
    k0_pay8 (F := Ideal) (View.ld (Val := Elt Ideal) (e' := .f32) X (Rect.unit (s := S8x192x384) ![a, o, 0] S1x32x384.size inb)) (ix2 n k) = X (ix3 ⟨a, ha⟩ ⟨o + n.val, ho⟩ k) := by
  pointwise [k0_pay8]
  blk_ext []
  all_goals omega

/-- A head's 128 rows of the key's and value's weights. -/
theorem ld_k128 (inb : ∀ d, (![a, o, 0] : Fin 3 → ℕ) d + S1x128x256.size d ≤ S8x256x256.size d) (n : Fin 128) (k : Fin 256) (ho : o + n.val < 256) :
    k0_pay31 (F := Ideal) (View.ld (Val := Elt Ideal) (e' := .bf16) Y (Rect.unit (s := S8x256x256) ![a, o, 0] S1x128x256.size inb)) (ix2 n k) = Y (ix3 ⟨a, ha⟩ ⟨o + n.val, ho⟩ k) := by
  pointwise [k0_pay31]
  blk_ext []
  all_goals omega

/-- A head's block of queries or keys at its place. -/
theorem put_192 (t : Fin cfg0.N) (G : S8x2048x192.Idx → EReal) (u : FVec Ideal S512x192 .f32) (hu : ∀ (r : Fin 512) (n : Fin 192), u (ix2 r n) = G (ix3 ⟨a, ha⟩ (row t r) n))
    (inb : ∀ d, (![a, 0, 0] : Fin 3 → ℕ) d + S1x512x192.size d ≤ S8x512x192.size d) (x : S1x512x192.Idx) :
    k0_pay88 (F := Ideal) u x = (fun i : S8x512x192.Idx => G (ix3 (i 0) (row t (i 1)) (i 2))) ((Rect.unit (s := S8x512x192) ![a, 0, 0] S1x512x192.size inb).emb x) := by
  idx_vars x
  pointwise [k0_pay88]
  rw [hu]
  unfold row
  blk_ext []
  all_goals omega

/-- A head's block of values at its place. -/
theorem put_128 (t : Fin cfg0.N) (G : S8x2048x128.Idx → EReal) (u : FVec Ideal S512x128 .f32) (hu : ∀ (r : Fin 512) (n : Fin 128), u (ix2 r n) = G (ix3 ⟨a, ha⟩ (row t r) n))
    (inb : ∀ d, (![a, 0, 0] : Fin 3 → ℕ) d + S1x512x128.size d ≤ S8x512x128.size d) (x : S1x512x128.Idx) :
    k0_pay90 (F := Ideal) u x = (fun i : S8x512x128.Idx => G (ix3 (i 0) (row t (i 1)) (i 2))) ((Rect.unit (s := S8x512x128) ![a, 0, 0] S1x512x128.size inb).emb x) := by
  idx_vars x
  pointwise [k0_pay90]
  rw [hu]
  unfold row
  blk_ext []
  all_goals omega

end

end Cert.QkvFwdIdeal.Body

end
-- ==== Proof.QkvFwdValue.lean ====
module

public import Idealize.ShloMosaic.Lib.WordCmp
public import Idealize.ShloMosaic.Lib.Pointwise
public import Idealize.ShloMosaic.Lib.ValueIdx
public import Idealize.ShloMosaic.PureOps.Ideal.Laws
public import Idealize.ShloMosaic.Lib.Pipeline.ValueKit
public import Idealize.ShloMosaic.Lib.Claim
public import Idealize.ShloMosaic.Lib.StableHlo.RunRead
public import proofs.«01_k».proof.Proof.QkvFwdHeads

@[expose] public section

set_option maxRecDepth 16384

noncomputable section

namespace Cert.QkvFwdIdeal.Body

open Idealize.ShloMosaic Idealize.ShloMosaic.Tactic
open Cert.QkvFwdIdeal Cert.QkvFwdIdeal.Gen
open Idealize.ShloMosaic.TcCoe Idealize.ShloMosaic.Pipeline Idealize.SL Idealize.SL.RA Idealize.SL.Sem

/-! # The attention's projections: what the three results hold -/

section
variable (m : (ℓ : Loc nD τ sig) → Buf (Elt Ideal) ℓ) (c : Dev nD) (t : Fin cfg0.N)

section
variable (a : ℕ)

/-- A head's stored block of queries. -/
theorem piece_q (ha : a < 8) (i0 : ∀ d, (![a, 0, 0] : Fin 3 → ℕ) d + S1x128x384.size d ≤ S8x192x384.size d) (i128 : ∀ d, (![a, 128, 0] : Fin 3 → ℕ) d + S1x32x384.size d ≤ S8x192x384.size d) (i160 : ∀ d, (![a, 160, 0] : Fin 3 → ℕ) d + S1x32x384.size d ≤ S8x192x384.size d)
    (io : ∀ d, (![a, 0, 0] : Fin 3 → ℕ) d + S1x512x192.size d ≤ S8x512x192.size d) (x : S1x512x192.Idx) :
    k0_pay88 (F := Ideal) (k0_pay60 (F := Ideal) (k0_pay7 (F := Ideal) (View.ld (Val := Elt Ideal) (e' := .f32) (iblk (F := Ideal) m c 4 t : Vec Ideal S8x192x384 .f32) (Rect.unit (s := S8x192x384) ![a, 0, 0] S1x128x384.size i0))) (k0_pay8 (F := Ideal) (View.ld (Val := Elt Ideal) (e' := .f32) (iblk (F := Ideal) m c 4 t : Vec Ideal S8x192x384 .f32) (Rect.unit (s := S8x192x384) ![a, 128, 0] S1x32x384.size i128))) (k0_pay8 (F := Ideal) (View.ld (Val := Elt Ideal) (e' := .f32) (iblk (F := Ideal) m c 4 t : Vec Ideal S8x192x384 .f32) (Rect.unit (s := S8x192x384) ![a, 160, 0] S1x32x384.size i160))) (ctB m c t) (stB m c t) (cqB m c t)) x
      = (fun i : S8x512x192.Idx => queries (ps m c) (gq m c) (wqs m c) (cs m c) (sn m c) (ix3 (i 0) (row t (i 1)) (i 2))) ((Rect.unit (s := S8x512x192) ![a, 0, 0] S1x512x192.size io).emb x) :=
  put_192 a ha t (queries (ps m c) (gq m c) (wqs m c) (cs m c) (sn m c)) _ (head_q m c t ⟨a, ha⟩ _ _ _
    (fun n k => (ld_q128 _ a 0 ha i0 n k (by omega)).trans (by rw [iblk4]; simp only [Nat.zero_add]))
    (fun n k => (ld_q32 _ a 128 ha i128 n k (by omega)).trans (by rw [iblk4]))
    (fun n k => (ld_q32 _ a 160 ha i160 n k (by omega)).trans (by rw [iblk4]))) io x

/-- A head's stored block of keys. -/
theorem piece_k (ha : a < 8) (i0 : ∀ d, (![a, 0, 0] : Fin 3 → ℕ) d + S1x128x256.size d ≤ S8x256x256.size d) (io : ∀ d, (![a, 0, 0] : Fin 3 → ℕ) d + S1x512x192.size d ≤ S8x512x192.size d) (x : S1x512x192.Idx) :
    k0_pay88 (F := Ideal) (k0_pay68 (F := Ideal) (k0_pay31 (F := Ideal) (View.ld (Val := Elt Ideal) (e' := .bf16) (iblk (F := Ideal) m c 5 t : Vec Ideal S8x256x256 .bf16) (Rect.unit (s := S8x256x256) ![a, 0, 0] S1x128x256.size i0))) (ctB m c t) (lmB m c t) (k0_pay57 (F := Ideal)) (k0_pay58 (F := Ideal) (k0_pay54 (F := Ideal)) (k0_pay56 (F := Ideal))) (swB m c t)) x
      = (fun i : S8x512x192.Idx => keys (ps m c) (gk m c) (wks m c) (cs m c) (sn m c) (ix3 (i 0) (row t (i 1)) (i 2))) ((Rect.unit (s := S8x512x192) ![a, 0, 0] S1x512x192.size io).emb x) :=
  put_192 a ha t (keys (ps m c) (gk m c) (wks m c) (cs m c) (sn m c)) _ (head_k m c t ⟨a, ha⟩ _
    (fun n k => (ld_k128 _ a 0 ha i0 n k (by omega)).trans (by rw [iblk5]; simp only [Nat.zero_add]))) io x

/-- A head's stored block of values. -/
theorem piece_v (ha : a < 8) (i128 : ∀ d, (![a, 128, 0] : Fin 3 → ℕ) d + S1x128x256.size d ≤ S8x256x256.size d) (io : ∀ d, (![a, 0, 0] : Fin 3 → ℕ) d + S1x512x128.size d ≤ S8x512x128.size d) (x : S1x512x128.Idx) :
    k0_pay90 (F := Ideal) (k0_pay62 (F := Ideal) (k0_pay31 (F := Ideal) (View.ld (Val := Elt Ideal) (e' := .bf16) (iblk (F := Ideal) m c 5 t : Vec Ideal S8x256x256 .bf16) (Rect.unit (s := S8x256x256) ![a, 128, 0] S1x128x256.size i128))) (lmB m c t) (k0_pay57 (F := Ideal))) x
      = (fun i : S8x512x128.Idx => values (ps m c) (gk m c) (wks m c) (ix3 (i 0) (row t (i 1)) (i 2))) ((Rect.unit (s := S8x512x128) ![a, 0, 0] S1x512x128.size io).emb x) :=
  put_128 a ha t (values (ps m c) (gk m c) (wks m c)) _ (head_v m c t ⟨a, ha⟩ _
    (fun n k => (ld_k128 _ a 128 ha i128 n k (by omega)).trans (by rw [iblk5]))) io x

end

/-- A point's block of queries. -/
theorem out8 (y : S8x512x192.Idx) : out0_8 (F := Ideal) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) y = queries (ps m c) (gq m c) (wqs m c) (cs m c) (sn m c) (ix3 (y 0) (row t (y 1)) (y 2)) := by
  unfold out0_8
  refine View.canon_apply_of_pieces (Val := Elt Ideal) (e := .f32) (fun i : S8x512x192.Idx => queries (ps m c) (gq m c) (wqs m c) (cs m c) (sn m c) (ix3 (i 0) (row t (i 1)) (i 2))) _ ?_ y (cover0_8 _ _ _ _ _ _ _ _ y)
  exact List.forall_mem_cons.2 ⟨fun x => piece_q m c t 7 (by decide) (by decide) (by decide) (by decide) (by decide) x, List.forall_mem_cons.2 ⟨fun x => piece_q m c t 6 (by decide) (by decide) (by decide) (by decide) (by decide) x, List.forall_mem_cons.2 ⟨fun x => piece_q m c t 5 (by decide) (by decide) (by decide) (by decide) (by decide) x, List.forall_mem_cons.2 ⟨fun x => piece_q m c t 4 (by decide) (by decide) (by decide) (by decide) (by decide) x, List.forall_mem_cons.2 ⟨fun x => piece_q m c t 3 (by decide) (by decide) (by decide) (by decide) (by decide) x, List.forall_mem_cons.2 ⟨fun x => piece_q m c t 2 (by decide) (by decide) (by decide) (by decide) (by decide) x, List.forall_mem_cons.2 ⟨fun x => piece_q m c t 1 (by decide) (by decide) (by decide) (by decide) (by decide) x, List.forall_mem_cons.2 ⟨fun x => piece_q m c t 0 (by decide) (by decide) (by decide) (by decide) (by decide) x, fun _ h => absurd h List.not_mem_nil⟩⟩⟩⟩⟩⟩⟩⟩

/-- A point's block of keys. -/
theorem out9 (y : S8x512x192.Idx) : out0_9 (F := Ideal) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) y = keys (ps m c) (gk m c) (wks m c) (cs m c) (sn m c) (ix3 (y 0) (row t (y 1)) (y 2)) := by
  unfold out0_9
  refine View.canon_apply_of_pieces (Val := Elt Ideal) (e := .f32) (fun i : S8x512x192.Idx => keys (ps m c) (gk m c) (wks m c) (cs m c) (sn m c) (ix3 (i 0) (row t (i 1)) (i 2))) _ ?_ y (cover0_9 _ _ _ _ _ _ _ _ y)
  exact List.forall_mem_cons.2 ⟨fun x => piece_k m c t 7 (by decide) (by decide) (by decide) x, List.forall_mem_cons.2 ⟨fun x => piece_k m c t 6 (by decide) (by decide) (by decide) x, List.forall_mem_cons.2 ⟨fun x => piece_k m c t 5 (by decide) (by decide) (by decide) x, List.forall_mem_cons.2 ⟨fun x => piece_k m c t 4 (by decide) (by decide) (by decide) x, List.forall_mem_cons.2 ⟨fun x => piece_k m c t 3 (by decide) (by decide) (by decide) x, List.forall_mem_cons.2 ⟨fun x => piece_k m c t 2 (by decide) (by decide) (by decide) x, List.forall_mem_cons.2 ⟨fun x => piece_k m c t 1 (by decide) (by decide) (by decide) x, List.forall_mem_cons.2 ⟨fun x => piece_k m c t 0 (by decide) (by decide) (by decide) x, fun _ h => absurd h List.not_mem_nil⟩⟩⟩⟩⟩⟩⟩⟩

/-- A point's block of values. -/
theorem out10 (y : S8x512x128.Idx) : out0_10 (F := Ideal) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) y = values (ps m c) (gk m c) (wks m c) (ix3 (y 0) (row t (y 1)) (y 2)) := by
  unfold out0_10
  refine View.canon_apply_of_pieces (Val := Elt Ideal) (e := .f32) (fun i : S8x512x128.Idx => values (ps m c) (gk m c) (wks m c) (ix3 (i 0) (row t (i 1)) (i 2))) _ ?_ y (cover0_10 _ _ _ _ _ _ _ _ y)
  exact List.forall_mem_cons.2 ⟨fun x => piece_v m c t 7 (by decide) (by decide) (by decide) x, List.forall_mem_cons.2 ⟨fun x => piece_v m c t 6 (by decide) (by decide) (by decide) x, List.forall_mem_cons.2 ⟨fun x => piece_v m c t 5 (by decide) (by decide) (by decide) x, List.forall_mem_cons.2 ⟨fun x => piece_v m c t 4 (by decide) (by decide) (by decide) x, List.forall_mem_cons.2 ⟨fun x => piece_v m c t 3 (by decide) (by decide) (by decide) x, List.forall_mem_cons.2 ⟨fun x => piece_v m c t 2 (by decide) (by decide) (by decide) x, List.forall_mem_cons.2 ⟨fun x => piece_v m c t 1 (by decide) (by decide) (by decide) x, List.forall_mem_cons.2 ⟨fun x => piece_v m c t 0 (by decide) (by decide) (by decide) x, fun _ h => absurd h List.not_mem_nil⟩⟩⟩⟩⟩⟩⟩⟩

end

section
variable (m : (ℓ : Loc nD τ sig) → Buf (Elt Ideal) ℓ) (c : Dev nD)

/-- The queries at the end. -/
theorem arrQ : (dats (F := Ideal) m 0 c).arrAt 8 cfg0.N = queries (ps m c) (gq m c) (wqs m c) (cs m c) (sn m c) := by
  refine (dats m 0 c).arrAt_eq_of_covers 8 _ (by decide +kernel) fun t hf y => ?_
  have ht := lt4 t
  blk_simp
  rw [after0_8]
  idx_vars y
  refine (out8 m c t (ix3 y0 y1 y2)).trans ?_
  unfold row
  blk_ext [idx8]
  all_goals omega

/-- The keys at the end. -/
theorem arrK : (dats (F := Ideal) m 0 c).arrAt 9 cfg0.N = keys (ps m c) (gk m c) (wks m c) (cs m c) (sn m c) := by
  refine (dats m 0 c).arrAt_eq_of_covers 9 _ (by decide +kernel) fun t hf y => ?_
  have ht := lt4 t
  blk_simp
  rw [after0_9]
  idx_vars y
  refine (out9 m c t (ix3 y0 y1 y2)).trans ?_
  unfold row
  blk_ext [idx9]
  all_goals omega

/-- The values at the end. -/
theorem arrV : (dats (F := Ideal) m 0 c).arrAt 10 cfg0.N = values (ps m c) (gk m c) (wks m c) := by
  refine (dats m 0 c).arrAt_eq_of_covers 10 _ (by decide +kernel) fun t hf y => ?_
  have ht := lt4 t
  blk_simp
  rw [after0_10]
  idx_vars y
  refine (out10 m c t (ix3 y0 y1 y2)).trans ?_
  unfold row
  blk_ext [idx10]
  all_goals omega

end

end Cert.QkvFwdIdeal.Body

end
-- ==== Proof.QkvFwdRef.lean ====
module

public import Idealize.ShloMosaic.Lib.WordCmp
public import Idealize.ShloMosaic.Lib.Pointwise
public import Idealize.ShloMosaic.Lib.ValueIdx
public import Idealize.ShloMosaic.PureOps.Ideal.Laws
public import Idealize.ShloMosaic.Lib.Pipeline.ValueKit
public import Idealize.ShloMosaic.Lib.Claim
public import Idealize.ShloMosaic.Lib.StableHlo.RunRead
public import proofs.«01_k».proof.Proof.QkvFwdTiles
public import proofs.«01_k».proof.Proof.Gen.QkvFwdReferenceIdeal.Read

@[expose] public section

set_option maxRecDepth 16384

noncomputable section

namespace Cert.QkvFwdReferenceIdeal.Body

open Idealize.ShloMosaic Idealize.ShloMosaic.Tactic
open Cert.QkvFwdReferenceIdeal Cert.QkvFwdReferenceIdeal.Gen Cert.QkvFwdReferenceIdeal.Read
open Cert.QkvFwdIdeal.Body (normQ normKV rawQ rawKV queries keys values lanes queries0 queries1 queries2 keys0 keys1 keys2)
open Idealize.ShloMosaic.TcCoe Idealize.ShloMosaic.Pipeline Idealize.SL Idealize.SL.RA Idealize.SL.Sem

/-! # The attention's projections: what the reference computes -/

section
variable (x0 : (⟨2, ![2048, 10752]⟩ : Shape).Idx → EReal) (x1 : (⟨2, ![1, 384]⟩ : Shape).Idx → EReal) (x2 : (⟨2, ![1, 256]⟩ : Shape).Idx → EReal)
  (x3 : (⟨3, ![8, 192, 384]⟩ : Shape).Idx → EReal) (x4 : (⟨3, ![8, 256, 256]⟩ : Shape).Idx → EReal) (x5 x6 : (⟨2, ![2048, 32]⟩ : Shape).Idx → EReal)

/-- The normalised query columns. -/
theorem v20_at (r : Fin 2048) (e : Fin 384) : val_main_v20 (F := Ideal) x0 x1 (ix2 r e) = normQ x0 x1 r e := by
  pointwise [val_main_v20, val_main_v19, val_main_v18, val_main_v17, val_main_v16, val_main_v15, val_main_v14, val_main_v13, val_main_v12, val_main_v11, val_main_v10, val_main_v9, val_main_v8, val_main_v7, val_main_v4, val_main_cst, val_main_cst_0, val_main_cst_1, zero_add]
  rfl

/-- The queries before their rotation. -/
theorem v22_at (r : Fin 2048) (h : Fin 8) (n : Fin 192) : val_main_v22 (F := Ideal) x0 x1 x3 (ix3 r h n) = rawQ x0 x1 x3 h r n := by
  pointwise [val_main_v22, val_main_v21, v20_at, val_main_v1, val_main_v0]
  unfold rawQ
  refine Finset.sum_congr rfl fun k _ => congrArg (normQ x0 x1 r k * ·) (congrArg x3 ?_)
  congr 1 <;> first | rfl | (refine Fin.ext ?_; dsimp only; omega)

/-- The normalised key and value columns. -/
theorem v36_at (r : Fin 2048) (e : Fin 256) : val_main_v36 (F := Ideal) x0 x2 (ix2 r e) = normKV x0 x2 r e := by
  pointwise [val_main_v36, val_main_v35, val_main_v34, val_main_v33, val_main_v32, val_main_v31, val_main_v30, val_main_v29, val_main_v28, val_main_v27, val_main_v26, val_main_v25, val_main_v24, val_main_v23, val_main_v5, val_main_cst_2, val_main_cst_3, val_main_cst_4, zero_add]
  rfl

/-- The keys before their rotation, and the values. -/
theorem v39_at (r : Fin 2048) (h : Fin 8) (n : Fin 256) : val_main_v39 (F := Ideal) x0 x2 x4 (ix3 r h n) = rawKV x0 x2 x4 h r n := by
  pointwise [val_main_v39, val_main_v38, v36_at, val_main_v37, val_main_v3, val_main_v2]
  unfold rawKV
  refine Finset.sum_congr rfl fun k _ => congrArg (normKV x0 x2 r k * ·) (congrArg x4 ?_)
  congr 1 <;> first | rfl | (refine Fin.ext ?_; dsimp only; omega)

/-- The reference's queries at an index. -/
theorem refQ_at (h : Fin 8) (r : Fin 2048) (n : Fin 192) : val_main_v71 (F := Ideal) x0 x1 x3 x5 x6 (ix3 h r n) = queries x0 x1 x3 x5 x6 (ix3 h r n) := by
  refine lanes (Q := fun n => val_main_v71 (F := Ideal) x0 x1 x3 x5 x6 (ix3 h r n) = queries x0 x1 x3 x5 x6 (ix3 h r n)) (fun n => ?_) (fun n => ?_) (fun n => ?_) n
  · rw [queries0]
    pointwise [val_main_v71, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, v22_at]
  · rw [queries1]
    pointwise [val_main_v71, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, v22_at]
    have e2 : 128 + (32 + n.val) = 160 + n.val := by omega
    have e3 : 3712 + (32 + n.val) = 3744 + n.val := by omega
    simp only [e2, e3]
  · rw [queries2]
    pointwise [val_main_v71, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, v22_at]
    have h1 : ¬ 160 + n.val < 128 := by omega
    have h2 : ¬ 160 + n.val - 128 < 32 := by omega
    have e1 : 160 + n.val - 128 - 32 = n.val := by omega
    have e2 : 128 + (32 + n.val) = 160 + n.val := by omega
    have e3 : 3712 + (32 + n.val) = 3744 + n.val := by omega
    simp only [h1, h2, e1, e2, e3, ↓reduceDIte]

/-- The reference's queries. -/
theorem refQ : val_main_v71 (F := Ideal) x0 x1 x3 x5 x6 = queries x0 x1 x3 x5 x6 := by
  funext i
  idx_vars i
  exact refQ_at x0 x1 x3 x5 x6 i0 i1 i2

/-- The reference's keys at an index. -/
theorem refK_at (h : Fin 8) (r : Fin 2048) (n : Fin 192) : val_main_v72 (F := Ideal) x0 x2 x4 x5 x6 (ix3 h r n) = keys x0 x2 x4 x5 x6 (ix3 h r n) := by
  refine lanes (Q := fun n => val_main_v72 (F := Ideal) x0 x2 x4 x5 x6 (ix3 h r n) = keys x0 x2 x4 x5 x6 (ix3 h r n)) (fun n => ?_) (fun n => ?_) (fun n => ?_) n
  · rw [keys0]
    pointwise [val_main_v72, val_main_v70, val_main_v69, val_main_v68, val_main_v67, val_main_v66, val_main_v65, val_main_v64, val_main_v63, val_main_v62, val_main_v61, val_main_v60, val_main_v59, val_main_v58, v39_at, val_main_v6, val_main_v41, val_main_v42]
  · rw [keys1]
    pointwise [val_main_v72, val_main_v70, val_main_v69, val_main_v68, val_main_v67, val_main_v66, val_main_v65, val_main_v64, val_main_v63, val_main_v62, val_main_v61, val_main_v60, val_main_v59, val_main_v58, v39_at, val_main_v6, val_main_v41, val_main_v42]
    have e2 : 128 + (32 + n.val) = 160 + n.val := by omega
    have e3 : 3712 + (32 + n.val) = 3744 + n.val := by omega
    simp only [e2, e3]
  · rw [keys2]
    pointwise [val_main_v72, val_main_v70, val_main_v69, val_main_v68, val_main_v67, val_main_v66, val_main_v65, val_main_v64, val_main_v63, val_main_v62, val_main_v61, val_main_v60, val_main_v59, val_main_v58, v39_at, val_main_v6, val_main_v41, val_main_v42]
    have h1 : ¬ 160 + n.val < 128 := by omega
    have h2 : ¬ 160 + n.val - 128 < 32 := by omega
    have e1 : 160 + n.val - 128 - 32 = n.val := by omega
    have e2 : 128 + (32 + n.val) = 160 + n.val := by omega
    have e3 : 3712 + (32 + n.val) = 3744 + n.val := by omega
    simp only [h1, h2, e1, e2, e3, ↓reduceDIte]

/-- The reference's keys. -/
theorem refK : val_main_v72 (F := Ideal) x0 x2 x4 x5 x6 = keys x0 x2 x4 x5 x6 := by
  funext i
  idx_vars i
  exact refK_at x0 x2 x4 x5 x6 i0 i1 i2

/-- The reference's values. -/
theorem refV : val_main_v74 (F := Ideal) x0 x2 x4 = values x0 x2 x4 := by
  funext i
  idx_vars i
  pointwise [val_main_v74, val_main_v73, v39_at]
  rfl

end

end Cert.QkvFwdReferenceIdeal.Body

end
-- ==== Proof.ClaimQkvFwd.lean ====
module

public import Idealize.ShloMosaic.Lib.WordCmp
public import Idealize.ShloMosaic.Lib.Pointwise
public import Idealize.ShloMosaic.Lib.ValueIdx
public import Idealize.ShloMosaic.PureOps.Ideal.Laws
public import Idealize.ShloMosaic.Lib.Pipeline.ValueKit
public import Idealize.ShloMosaic.Lib.Claim
public import Idealize.ShloMosaic.Adequacy
public import Idealize.ShloMosaic.Init
public import proofs.«01_k».proof.Defs
public import proofs.«01_k».proof.Proof.Gen.QkvFwd
public import proofs.«01_k».proof.Proof.Gen.QkvFwd.Frame
public import proofs.«01_k».proof.Proof.Gen.QkvFwdIdeal
public import proofs.«01_k».proof.Proof.Gen.QkvFwdIdeal.Value
public import proofs.«01_k».proof.Proof.Gen.QkvFwdReferenceIdeal
public import proofs.«01_k».proof.Proof.Gen.QkvFwdReferenceIdeal.Run
public import proofs.«01_k».proof.Proof.Gen.QkvFwdReferenceIdeal.Read
public import proofs.«01_k».proof.Proof.QkvFwdValue
public import proofs.«01_k».proof.Proof.QkvFwdRef

@[expose] public section

set_option maxRecDepth 16384

noncomputable section

namespace Cert.QkvFwdClaim

open Idealize.ShloMosaic Idealize.ShloMosaic.TcCoe Idealize.SL.Sem
open Cert.QkvFwdIdeal.Body

/-! # The attention's low-rank projections and rotary embedding: what is claimed -/

/-- The call at floating point runs, leaves its arguments and ends with every semaphore at zero. -/
theorem frame_kernel : Cert.quiescent_QkvFwd := fun m ρ _ => Cert.QkvFwd.Gen.frame m ρ

/-- The call over the extended reals runs, leaves its arguments and ends with every semaphore at zero. -/
theorem frame_ideal : Cert.quiescent_QkvFwdIdeal := fun m ρ _ => Cert.QkvFwdIdeal.Gen.frame m ρ

/-- The reference over the extended reals runs and leaves its arguments; it has no semaphore. -/
theorem frame_reference : Cert.quiescent_QkvFwdReferenceIdeal := fun m ρ _ =>
  (θ_run Cert.QkvFwdReferenceIdeal.defs _ _).mono (fun r h => ⟨fun c => (h c).2.2.2, sem_eq_zero_of_no_sems (by decide) r.2⟩)
    (Cert.QkvFwdReferenceIdeal.Value.run (F := Ideal) m ρ)

/-- The call and the reference leave the same results. -/
theorem equal : Cert.algebraic_QkvFwdIdeal_QkvFwdReferenceIdeal := by
  intro m ρ m' ρ' hpre hargs
  refine ⟨fun c => queries (ps m c) (gq m c) (wqs m c) (cs m c) (sn m c),
    fun c => keys (ps m c) (gk m c) (wks m c) (cs m c) (sn m c),
    fun c => values (ps m c) (gk m c) (wks m c), ?_, ?_⟩
  · refine (θ_run Cert.QkvFwdIdeal.defs _ _).mono (fun r h c => ?_) (Cert.QkvFwdIdeal.Value.run_blocks (F := Ideal) m ρ)
    obtain ⟨h0, h1, h2, hr⟩ := h c
    exact ⟨h0.trans (arrQ m c), h1.trans (arrK m c), h2.trans (arrV m c), hr⟩
  · refine (θ_run Cert.QkvFwdReferenceIdeal.defs _ _).mono (fun r h c => ?_) (Cert.QkvFwdReferenceIdeal.Value.run (F := Ideal) m' ρ')
    obtain ⟨a0, a1, a2, a3, a4, a5, a6⟩ := hargs c
    obtain ⟨h0, h1, h2, hr⟩ := h c
    replace h0 := h0.trans (Cert.QkvFwdReferenceIdeal.Read.val_main_v71_eq (F := Ideal) ..)
    rw [a0, a1, a3, a5, a6] at h0
    replace h1 := h1.trans (Cert.QkvFwdReferenceIdeal.Read.val_main_v72_eq (F := Ideal) ..)
    rw [a0, a2, a4, a5, a6] at h1
    replace h2 := h2.trans (Cert.QkvFwdReferenceIdeal.Read.val_main_v74_eq (F := Ideal) ..)
    rw [a0, a2, a4] at h2
    exact ⟨h0.trans (Cert.QkvFwdReferenceIdeal.Body.refQ _ _ _ _ _), h1.trans (Cert.QkvFwdReferenceIdeal.Body.refK _ _ _ _ _), h2.trans (Cert.QkvFwdReferenceIdeal.Body.refV _ _ _), hr⟩

end Cert.QkvFwdClaim

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_inputs
public import proofs.«01_k».proof.Proof.Rounded.Body
public import proofs.«01_k».proof.Proof.PreFinite
public import proofs.«01_k».proof.Proof.Equal
public import proofs.«01_k».proof.Proof.ClaimInprojBwd
public import proofs.«01_k».proof.Proof.ClaimProjABwd
public import proofs.«01_k».proof.Proof.ClaimProjBBwd
public import proofs.«01_k».proof.Proof.ClaimProjCBwd
public import proofs.«01_k».proof.Proof.ClaimInprojFwd
public import proofs.«01_k».proof.Proof.ClaimOutFwd
public import proofs.«01_k».proof.Proof.ClaimAttnFwd
public import proofs.«01_k».proof.Proof.ClaimQkvFwd
public import Idealize.ShloMosaic.Adequacy
public import Idealize.ShloMosaic.Init

@[expose] public section

noncomputable section

namespace Cert.Proof

open Idealize.ShloMosaic Idealize.ShloMosaic.TcCoe Idealize.SL.Sem

/-- The kernel at floating point runs, leaves its arguments and ends with every semaphore at zero. -/
theorem frame_kernel : Cert.quiescent_Kernel := fun m ρ _ => Cert.Kernel.Body.frame m ρ

/-- The kernel over the extended reals runs, leaves its arguments and ends with every semaphore at zero. -/
theorem frame_ideal : Cert.quiescent_KernelIdeal := fun m ρ _ => Cert.KernelIdeal.Body.frame m ρ

/-- The reference over the extended reals runs and leaves its arguments; it has no semaphore. -/
theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- Of finite arguments the kernel and the reference leave the same gradients of the queries, the keys, the values and the gate. -/
theorem equal : Cert.algebraic_KernelIdeal_ReferenceIdeal_pre_finite_inputs := by
  intro m ρ m' ρ' hpre hargs
  refine ⟨fun c => (Cert.KernelIdeal.Body.dats (F := Ideal) m 0 c).arrAt 5 Cert.KernelIdeal.cfg0.N,
    fun c => (Cert.KernelIdeal.Body.dats (F := Ideal) m 0 c).arrAt 6 Cert.KernelIdeal.cfg0.N,
    fun c => (Cert.KernelIdeal.Body.dats (F := Ideal) m 0 c).arrAt 7 Cert.KernelIdeal.cfg0.N,
    fun c => (Cert.KernelIdeal.Body.dats (F := Ideal) m 0 c).arrAt 8 Cert.KernelIdeal.cfg0.N, ?_, ?_⟩
  · exact (θ_run Cert.KernelIdeal.defs _ _).mono
      (fun r h c => ⟨(h.1 c).1 5, (h.1 c).1 6, (h.1 c).1 7, (h.1 c).1 8, h.2.1 c⟩)
      (θ_run_and (Cert.KernelIdeal.Body.run_main m ρ) (Cert.KernelIdeal.Body.frame m ρ))
  · refine (θ_run Cert.ReferenceIdeal.defs _ _).mono (fun r h c => ?_) (Cert.ReferenceIdeal.Value.run (F := Ideal) m' ρ')
    have H := Cert.KernelIdeal.Body.finite_of_pre m hpre c
    obtain ⟨a0, a1, a2, a3, a4, a5⟩ := hargs c
    obtain ⟨h0, h1, h2, h3, hr⟩ := h c
    rw [Cert.ReferenceIdeal.Read.val_main_v70_eq, a0, a1, a2, a3, a4] at h0
    rw [Cert.ReferenceIdeal.Read.val_main_v69_eq, a0, a1, a2, a3, a4] at h1
    rw [Cert.ReferenceIdeal.Read.val_main_v53_eq, a0, a1, a3, a4] at h2
    rw [Cert.ReferenceIdeal.Read.val_main_v72_eq, a0, a1, a2, a3, a4, a5] at h3
    refine ⟨h0.trans ((Cert.Equal.refQ H).trans (Cert.KernelIdeal.Body.arr5 H).symm),
      h1.trans ((Cert.Equal.refK H).trans (Cert.KernelIdeal.Body.arr6 H).symm),
      h2.trans ((Cert.Equal.refV H).trans (Cert.KernelIdeal.Body.arr7 H).symm),
      h3.trans ((Cert.Equal.refZ H _).trans (Cert.KernelIdeal.Body.arr8 H).symm), hr⟩

/-- Everything that is claimed. -/
theorem claim : Cert.Claim :=
  ⟨Cert.Kernel.Gen.facts,
    Cert.KernelIdeal.Gen.facts,
    Cert.ReferenceIdeal.Gen.facts,
    Cert.InprojBwd.Gen.facts,
    Cert.InprojBwdIdeal.Gen.facts,
    Cert.InprojBwdReferenceIdeal.Gen.facts,
    Cert.ProjABwd.Gen.facts,
    Cert.ProjABwdIdeal.Gen.facts,
    Cert.ProjABwdReferenceIdeal.Gen.facts,
    Cert.ProjBBwd.Gen.facts,
    Cert.ProjBBwdIdeal.Gen.facts,
    Cert.ProjBBwdReferenceIdeal.Gen.facts,
    Cert.ProjCBwd.Gen.facts,
    Cert.ProjCBwdIdeal.Gen.facts,
    Cert.ProjCBwdReferenceIdeal.Gen.facts,
    Cert.InprojFwd.Gen.facts,
    Cert.InprojFwdIdeal.Gen.facts,
    Cert.InprojFwdReferenceIdeal.Gen.facts,
    Cert.AttnFwd.Gen.facts,
    Cert.AttnFwdIdeal.Gen.facts,
    Cert.AttnFwdReferenceIdeal.Gen.facts,
    Cert.OutFwd.Gen.facts,
    Cert.OutFwdIdeal.Gen.facts,
    Cert.OutFwdReferenceIdeal.Gen.facts,
    Cert.QkvFwd.Gen.facts,
    Cert.QkvFwdIdeal.Gen.facts,
    Cert.QkvFwdReferenceIdeal.Gen.facts,
    Cert.Pre_finite_inputs.Gen.facts,
    Cert.Pre_finite_gate.Gen.facts,
    Cert.Pre_finite_forward.Gen.facts,
    frame_kernel,
    frame_ideal,
    fun m ρ _ => frame_ideal m ρ trivial,
    frame_reference,
    fun m ρ _ => frame_reference m ρ trivial,
    Cert.InprojBwdClaim.frame_kernel,
    Cert.InprojBwdClaim.frame_ideal,
    Cert.InprojBwdClaim.frame_reference,
    Cert.ProjABwdClaim.frame_kernel,
    Cert.ProjABwdClaim.frame_ideal,
    Cert.ProjABwdClaim.frame_reference,
    Cert.ProjBBwdClaim.frame_kernel,
    Cert.ProjBBwdClaim.frame_ideal,
    Cert.ProjBBwdClaim.frame_reference,
    Cert.ProjCBwdClaim.frame_kernel,
    Cert.ProjCBwdClaim.frame_ideal,
    fun m ρ _ => Cert.ProjCBwdClaim.frame_ideal m ρ trivial,
    Cert.ProjCBwdClaim.frame_reference,
    fun m ρ _ => Cert.ProjCBwdClaim.frame_reference m ρ trivial,
    Cert.InprojFwdClaim.frame_kernel,
    Cert.InprojFwdClaim.frame_ideal,
    Cert.InprojFwdClaim.frame_reference,
    Cert.AttnFwdClaim.frame_kernel,
    Cert.AttnFwdClaim.frame_ideal,
    fun m ρ _ => Cert.AttnFwdClaim.frame_ideal m ρ trivial,
    Cert.AttnFwdClaim.frame_reference,
    fun m ρ _ => Cert.AttnFwdClaim.frame_reference m ρ trivial,
    Cert.OutFwdClaim.frame_kernel,
    Cert.OutFwdClaim.frame_ideal,
    Cert.OutFwdClaim.frame_reference,
    Cert.QkvFwdClaim.frame_kernel,
    Cert.QkvFwdClaim.frame_ideal,
    Cert.QkvFwdClaim.frame_reference,
    IdealRules.named_const.statement Cert.KernelIdeal.κ "mask" .f32 0xF149F2CA#32 ⊥ rfl,
    equal,
    trivial,
    Cert.InprojBwdClaim.equal,
    trivial,
    Cert.ProjABwdClaim.equal,
    trivial,
    Cert.ProjBBwdClaim.equal,
    trivial,
    Cert.ProjCBwdClaim.equal,
    trivial,
    Cert.InprojFwdClaim.equal,
    IdealRules.named_const.statement Cert.AttnFwdIdeal.κ "mask" .f32 0xF149F2CA#32 ⊥ rfl,
    Cert.AttnFwdClaim.equal,
    trivial,
    Cert.OutFwdClaim.equal,
    trivial,
    Cert.QkvFwdClaim.equal⟩

end Cert.Proof

end
